-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_FfnWgrad (m : (ℓ : Loc Cert.FfnWgrad.nD Cert.FfnWgrad.τ Cert.FfnWgrad.sig) → Buf (Elt Bits) ℓ) : Prop :=
  True

def Pre_FfnWgradIdeal (m : (ℓ : Loc Cert.FfnWgradIdeal.nD Cert.FfnWgradIdeal.τ Cert.FfnWgradIdeal.sig) → Buf (Elt Ideal) ℓ) : Prop :=
  True

def Pre_FfnWgradRefIdeal (m : (ℓ : Loc Cert.FfnWgradRefIdeal.nD Cert.FfnWgradRefIdeal.τ Cert.FfnWgradRefIdeal.sig) → Buf (Elt Ideal) ℓ) : Prop :=
  True

def Pre_FfnDgrad (m : (ℓ : Loc Cert.FfnDgrad.nD Cert.FfnDgrad.τ Cert.FfnDgrad.sig) → Buf (Elt Bits) ℓ) : Prop :=
  True

def Pre_FfnDgradIdeal (m : (ℓ : Loc Cert.FfnDgradIdeal.nD Cert.FfnDgradIdeal.τ Cert.FfnDgradIdeal.sig) → Buf (Elt Ideal) ℓ) : Prop :=
  True

def Pre_FfnDgradIdeal_finite_ffn [hPre_finite_ffn : Cert.Pre_finite_ffn.Facts] (m : (ℓ : Loc Cert.FfnDgradIdeal.nD Cert.FfnDgradIdeal.τ Cert.FfnDgradIdeal.sig) → Buf (Elt Ideal) ℓ) : Prop :=
  ∀ c : Dev Cert.FfnDgradIdeal.nD,
    (Cert.Pre_finite_ffn.fn (F := Ideal) (m ((c.tc : Thread Cert.FfnDgradIdeal.nD Cert.FfnDgradIdeal.τ).loc Cert.FfnDgradIdeal.main_arg0)) (m ((c.tc : Thread Cert.FfnDgradIdeal.nD Cert.FfnDgradIdeal.τ).loc Cert.FfnDgradIdeal.main_arg1)) (m ((c.tc : Thread Cert.FfnDgradIdeal.nD Cert.FfnDgradIdeal.τ).loc Cert.FfnDgradIdeal.main_arg2)) (m ((c.tc : Thread Cert.FfnDgradIdeal.nD Cert.FfnDgradIdeal.τ).loc Cert.FfnDgradIdeal.main_arg3)) (m ((c.tc : Thread Cert.FfnDgradIdeal.nD Cert.FfnDgradIdeal.τ).loc Cert.FfnDgradIdeal.main_arg4))).1 = (fun _ => 1#1)
    ∧ (Cert.Pre_finite_ffn.fn (F := Ideal) (m ((c.tc : Thread Cert.FfnDgradIdeal.nD Cert.FfnDgradIdeal.τ).loc Cert.FfnDgradIdeal.main_arg0)) (m ((c.tc : Thread Cert.FfnDgradIdeal.nD Cert.FfnDgradIdeal.τ).loc Cert.FfnDgradIdeal.main_arg1)) (m ((c.tc : Thread Cert.FfnDgradIdeal.nD Cert.FfnDgradIdeal.τ).loc Cert.FfnDgradIdeal.main_arg2)) (m ((c.tc : Thread Cert.FfnDgradIdeal.nD Cert.FfnDgradIdeal.τ).loc Cert.FfnDgradIdeal.main_arg3)) (m ((c.tc : Thread Cert.FfnDgradIdeal.nD Cert.FfnDgradIdeal.τ).loc Cert.FfnDgradIdeal.main_arg4))).2.1 = (fun _ => 1#1)
    ∧ (Cert.Pre_finite_ffn.fn (F := Ideal) (m ((c.tc : Thread Cert.FfnDgradIdeal.nD Cert.FfnDgradIdeal.τ).loc Cert.FfnDgradIdeal.main_arg0)) (m ((c.tc : Thread Cert.FfnDgradIdeal.nD Cert.FfnDgradIdeal.τ).loc Cert.FfnDgradIdeal.main_arg1)) (m ((c.tc : Thread Cert.FfnDgradIdeal.nD Cert.FfnDgradIdeal.τ).loc Cert.FfnDgradIdeal.main_arg2)) (m ((c.tc : Thread Cert.FfnDgradIdeal.nD Cert.FfnDgradIdeal.τ).loc Cert.FfnDgradIdeal.main_arg3)) (m ((c.tc : Thread Cert.FfnDgradIdeal.nD Cert.FfnDgradIdeal.τ).loc Cert.FfnDgradIdeal.main_arg4))).2.2.1 = (fun _ => 1#1)
    ∧ (Cert.Pre_finite_ffn.fn (F := Ideal) (m ((c.tc : Thread Cert.FfnDgradIdeal.nD Cert.FfnDgradIdeal.τ).loc Cert.FfnDgradIdeal.main_arg0)) (m ((c.tc : Thread Cert.FfnDgradIdeal.nD Cert.FfnDgradIdeal.τ).loc Cert.FfnDgradIdeal.main_arg1)) (m ((c.tc : Thread Cert.FfnDgradIdeal.nD Cert.FfnDgradIdeal.τ).loc Cert.FfnDgradIdeal.main_arg2)) (m ((c.tc : Thread Cert.FfnDgradIdeal.nD Cert.FfnDgradIdeal.τ).loc Cert.FfnDgradIdeal.main_arg3)) (m ((c.tc : Thread Cert.FfnDgradIdeal.nD Cert.FfnDgradIdeal.τ).loc Cert.FfnDgradIdeal.main_arg4))).2.2.2.1 = (fun _ => 1#1)
    ∧ (Cert.Pre_finite_ffn.fn (F := Ideal) (m ((c.tc : Thread Cert.FfnDgradIdeal.nD Cert.FfnDgradIdeal.τ).loc Cert.FfnDgradIdeal.main_arg0)) (m ((c.tc : Thread Cert.FfnDgradIdeal.nD Cert.FfnDgradIdeal.τ).loc Cert.FfnDgradIdeal.main_arg1)) (m ((c.tc : Thread Cert.FfnDgradIdeal.nD Cert.FfnDgradIdeal.τ).loc Cert.FfnDgradIdeal.main_arg2)) (m ((c.tc : Thread Cert.FfnDgradIdeal.nD Cert.FfnDgradIdeal.τ).loc Cert.FfnDgradIdeal.main_arg3)) (m ((c.tc : Thread Cert.FfnDgradIdeal.nD Cert.FfnDgradIdeal.τ).loc Cert.FfnDgradIdeal.main_arg4))).2.2.2.2 = (fun _ => 1#1)

def Pre_FfnDgradRefIdeal (m : (ℓ : Loc Cert.FfnDgradRefIdeal.nD Cert.FfnDgradRefIdeal.τ Cert.FfnDgradRefIdeal.sig) → Buf (Elt Ideal) ℓ) : Prop :=
  True

def Pre_FfnDgradRefIdeal_finite_ffn [hPre_finite_ffn : Cert.Pre_finite_ffn.Facts] (m : (ℓ : Loc Cert.FfnDgradRefIdeal.nD Cert.FfnDgradRefIdeal.τ Cert.FfnDgradRefIdeal.sig) → Buf (Elt Ideal) ℓ) : Prop :=
  ∀ c : Dev Cert.FfnDgradRefIdeal.nD,
    (Cert.Pre_finite_ffn.fn (F := Ideal) (m ((c.tc : Thread Cert.FfnDgradRefIdeal.nD Cert.FfnDgradRefIdeal.τ).loc Cert.FfnDgradRefIdeal.main_arg0)) (m ((c.tc : Thread Cert.FfnDgradRefIdeal.nD Cert.FfnDgradRefIdeal.τ).loc Cert.FfnDgradRefIdeal.main_arg1)) (m ((c.tc : Thread Cert.FfnDgradRefIdeal.nD Cert.FfnDgradRefIdeal.τ).loc Cert.FfnDgradRefIdeal.main_arg2)) (m ((c.tc : Thread Cert.FfnDgradRefIdeal.nD Cert.FfnDgradRefIdeal.τ).loc Cert.FfnDgradRefIdeal.main_arg3)) (m ((c.tc : Thread Cert.FfnDgradRefIdeal.nD Cert.FfnDgradRefIdeal.τ).loc Cert.FfnDgradRefIdeal.main_arg4))).1 = (fun _ => 1#1)
    ∧ (Cert.Pre_finite_ffn.fn (F := Ideal) (m ((c.tc : Thread Cert.FfnDgradRefIdeal.nD Cert.FfnDgradRefIdeal.τ).loc Cert.FfnDgradRefIdeal.main_arg0)) (m ((c.tc : Thread Cert.FfnDgradRefIdeal.nD Cert.FfnDgradRefIdeal.τ).loc Cert.FfnDgradRefIdeal.main_arg1)) (m ((c.tc : Thread Cert.FfnDgradRefIdeal.nD Cert.FfnDgradRefIdeal.τ).loc Cert.FfnDgradRefIdeal.main_arg2)) (m ((c.tc : Thread Cert.FfnDgradRefIdeal.nD Cert.FfnDgradRefIdeal.τ).loc Cert.FfnDgradRefIdeal.main_arg3)) (m ((c.tc : Thread Cert.FfnDgradRefIdeal.nD Cert.FfnDgradRefIdeal.τ).loc Cert.FfnDgradRefIdeal.main_arg4))).2.1 = (fun _ => 1#1)
    ∧ (Cert.Pre_finite_ffn.fn (F := Ideal) (m ((c.tc : Thread Cert.FfnDgradRefIdeal.nD Cert.FfnDgradRefIdeal.τ).loc Cert.FfnDgradRefIdeal.main_arg0)) (m ((c.tc : Thread Cert.FfnDgradRefIdeal.nD Cert.FfnDgradRefIdeal.τ).loc Cert.FfnDgradRefIdeal.main_arg1)) (m ((c.tc : Thread Cert.FfnDgradRefIdeal.nD Cert.FfnDgradRefIdeal.τ).loc Cert.FfnDgradRefIdeal.main_arg2)) (m ((c.tc : Thread Cert.FfnDgradRefIdeal.nD Cert.FfnDgradRefIdeal.τ).loc Cert.FfnDgradRefIdeal.main_arg3)) (m ((c.tc : Thread Cert.FfnDgradRefIdeal.nD Cert.FfnDgradRefIdeal.τ).loc Cert.FfnDgradRefIdeal.main_arg4))).2.2.1 = (fun _ => 1#1)
    ∧ (Cert.Pre_finite_ffn.fn (F := Ideal) (m ((c.tc : Thread Cert.FfnDgradRefIdeal.nD Cert.FfnDgradRefIdeal.τ).loc Cert.FfnDgradRefIdeal.main_arg0)) (m ((c.tc : Thread Cert.FfnDgradRefIdeal.nD Cert.FfnDgradRefIdeal.τ).loc Cert.FfnDgradRefIdeal.main_arg1)) (m ((c.tc : Thread Cert.FfnDgradRefIdeal.nD Cert.FfnDgradRefIdeal.τ).loc Cert.FfnDgradRefIdeal.main_arg2)) (m ((c.tc : Thread Cert.FfnDgradRefIdeal.nD Cert.FfnDgradRefIdeal.τ).loc Cert.FfnDgradRefIdeal.main_arg3)) (m ((c.tc : Thread Cert.FfnDgradRefIdeal.nD Cert.FfnDgradRefIdeal.τ).loc Cert.FfnDgradRefIdeal.main_arg4))).2.2.2.1 = (fun _ => 1#1)
    ∧ (Cert.Pre_finite_ffn.fn (F := Ideal) (m ((c.tc : Thread Cert.FfnDgradRefIdeal.nD Cert.FfnDgradRefIdeal.τ).loc Cert.FfnDgradRefIdeal.main_arg0)) (m ((c.tc : Thread Cert.FfnDgradRefIdeal.nD Cert.FfnDgradRefIdeal.τ).loc Cert.FfnDgradRefIdeal.main_arg1)) (m ((c.tc : Thread Cert.FfnDgradRefIdeal.nD Cert.FfnDgradRefIdeal.τ).loc Cert.FfnDgradRefIdeal.main_arg2)) (m ((c.tc : Thread Cert.FfnDgradRefIdeal.nD Cert.FfnDgradRefIdeal.τ).loc Cert.FfnDgradRefIdeal.main_arg3)) (m ((c.tc : Thread Cert.FfnDgradRefIdeal.nD Cert.FfnDgradRefIdeal.τ).loc Cert.FfnDgradRefIdeal.main_arg4))).2.2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_qk [hPre_finite_qk : Cert.Pre_finite_qk.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_qk.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_finite_qk.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_qk [hPre_finite_qk : Cert.Pre_finite_qk.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_qk.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_finite_qk.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2 = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_FfnWgrad [hFfnWgrad : Cert.FfnWgrad.Facts] : Prop :=
  ∀ (m : (ℓ : Loc Cert.FfnWgrad.nD Cert.FfnWgrad.τ Cert.FfnWgrad.sig) → Buf (Elt Bits) ℓ) (g : Dev Cert.FfnWgrad.nD → PrngReg), Pre_FfnWgrad m →
    θ_run (Cert.FfnWgrad.defs (F := Bits)) (onTc (τ := Cert.FfnWgrad.τ) (Cert.FfnWgrad.main (F := Bits))) ⟨m, fun _ => 0, g⟩ (fun r => (∀ c : Dev Cert.FfnWgrad.nD,
      r.2.mem ((c.tc : Thread Cert.FfnWgrad.nD Cert.FfnWgrad.τ).loc Cert.FfnWgrad.main_arg0) = m ((c.tc : Thread Cert.FfnWgrad.nD Cert.FfnWgrad.τ).loc Cert.FfnWgrad.main_arg0)
      ∧ r.2.mem ((c.tc : Thread Cert.FfnWgrad.nD Cert.FfnWgrad.τ).loc Cert.FfnWgrad.main_arg1) = m ((c.tc : Thread Cert.FfnWgrad.nD Cert.FfnWgrad.τ).loc Cert.FfnWgrad.main_arg1)
      ∧ r.2.mem ((c.tc : Thread Cert.FfnWgrad.nD Cert.FfnWgrad.τ).loc Cert.FfnWgrad.main_arg2) = m ((c.tc : Thread Cert.FfnWgrad.nD Cert.FfnWgrad.τ).loc Cert.FfnWgrad.main_arg2)
      ∧ r.2.mem ((c.tc : Thread Cert.FfnWgrad.nD Cert.FfnWgrad.τ).loc Cert.FfnWgrad.main_arg3) = m ((c.tc : Thread Cert.FfnWgrad.nD Cert.FfnWgrad.τ).loc Cert.FfnWgrad.main_arg3)
      ∧ r.2.mem ((c.tc : Thread Cert.FfnWgrad.nD Cert.FfnWgrad.τ).loc Cert.FfnWgrad.main_arg4) = m ((c.tc : Thread Cert.FfnWgrad.nD Cert.FfnWgrad.τ).loc Cert.FfnWgrad.main_arg4))
      ∧ r.2.sem = fun _ => 0)

def quiescent_FfnWgradIdeal [hFfnWgradIdeal : Cert.FfnWgradIdeal.Facts] : Prop :=
  ∀ (m : (ℓ : Loc Cert.FfnWgradIdeal.nD Cert.FfnWgradIdeal.τ Cert.FfnWgradIdeal.sig) → Buf (Elt Ideal) ℓ) (g : Dev Cert.FfnWgradIdeal.nD → PrngReg), Pre_FfnWgradIdeal m →
    θ_run (Cert.FfnWgradIdeal.defs (F := Ideal)) (onTc (τ := Cert.FfnWgradIdeal.τ) (Cert.FfnWgradIdeal.main (F := Ideal))) ⟨m, fun _ => 0, g⟩ (fun r => (∀ c : Dev Cert.FfnWgradIdeal.nD,
      r.2.mem ((c.tc : Thread Cert.FfnWgradIdeal.nD Cert.FfnWgradIdeal.τ).loc Cert.FfnWgradIdeal.main_arg0) = m ((c.tc : Thread Cert.FfnWgradIdeal.nD Cert.FfnWgradIdeal.τ).loc Cert.FfnWgradIdeal.main_arg0)
      ∧ r.2.mem ((c.tc : Thread Cert.FfnWgradIdeal.nD Cert.FfnWgradIdeal.τ).loc Cert.FfnWgradIdeal.main_arg1) = m ((c.tc : Thread Cert.FfnWgradIdeal.nD Cert.FfnWgradIdeal.τ).loc Cert.FfnWgradIdeal.main_arg1)
      ∧ r.2.mem ((c.tc : Thread Cert.FfnWgradIdeal.nD Cert.FfnWgradIdeal.τ).loc Cert.FfnWgradIdeal.main_arg2) = m ((c.tc : Thread Cert.FfnWgradIdeal.nD Cert.FfnWgradIdeal.τ).loc Cert.FfnWgradIdeal.main_arg2)
      ∧ r.2.mem ((c.tc : Thread Cert.FfnWgradIdeal.nD Cert.FfnWgradIdeal.τ).loc Cert.FfnWgradIdeal.main_arg3) = m ((c.tc : Thread Cert.FfnWgradIdeal.nD Cert.FfnWgradIdeal.τ).loc Cert.FfnWgradIdeal.main_arg3)
      ∧ r.2.mem ((c.tc : Thread Cert.FfnWgradIdeal.nD Cert.FfnWgradIdeal.τ).loc Cert.FfnWgradIdeal.main_arg4) = m ((c.tc : Thread Cert.FfnWgradIdeal.nD Cert.FfnWgradIdeal.τ).loc Cert.FfnWgradIdeal.main_arg4))
      ∧ r.2.sem = fun _ => 0)

def quiescent_FfnWgradRefIdeal [hFfnWgradRefIdeal : Cert.FfnWgradRefIdeal.Facts] : Prop :=
  ∀ (m : (ℓ : Loc Cert.FfnWgradRefIdeal.nD Cert.FfnWgradRefIdeal.τ Cert.FfnWgradRefIdeal.sig) → Buf (Elt Ideal) ℓ) (g : Dev Cert.FfnWgradRefIdeal.nD → PrngReg), Pre_FfnWgradRefIdeal m →
    θ_run (Cert.FfnWgradRefIdeal.defs (F := Ideal)) (onTc (τ := Cert.FfnWgradRefIdeal.τ) (Cert.FfnWgradRefIdeal.main (F := Ideal))) ⟨m, fun _ => 0, g⟩ (fun r => (∀ c : Dev Cert.FfnWgradRefIdeal.nD,
      r.2.mem ((c.tc : Thread Cert.FfnWgradRefIdeal.nD Cert.FfnWgradRefIdeal.τ).loc Cert.FfnWgradRefIdeal.main_arg0) = m ((c.tc : Thread Cert.FfnWgradRefIdeal.nD Cert.FfnWgradRefIdeal.τ).loc Cert.FfnWgradRefIdeal.main_arg0)
      ∧ r.2.mem ((c.tc : Thread Cert.FfnWgradRefIdeal.nD Cert.FfnWgradRefIdeal.τ).loc Cert.FfnWgradRefIdeal.main_arg1) = m ((c.tc : Thread Cert.FfnWgradRefIdeal.nD Cert.FfnWgradRefIdeal.τ).loc Cert.FfnWgradRefIdeal.main_arg1)
      ∧ r.2.mem ((c.tc : Thread Cert.FfnWgradRefIdeal.nD Cert.FfnWgradRefIdeal.τ).loc Cert.FfnWgradRefIdeal.main_arg2) = m ((c.tc : Thread Cert.FfnWgradRefIdeal.nD Cert.FfnWgradRefIdeal.τ).loc Cert.FfnWgradRefIdeal.main_arg2)
      ∧ r.2.mem ((c.tc : Thread Cert.FfnWgradRefIdeal.nD Cert.FfnWgradRefIdeal.τ).loc Cert.FfnWgradRefIdeal.main_arg3) = m ((c.tc : Thread Cert.FfnWgradRefIdeal.nD Cert.FfnWgradRefIdeal.τ).loc Cert.FfnWgradRefIdeal.main_arg3)
      ∧ r.2.mem ((c.tc : Thread Cert.FfnWgradRefIdeal.nD Cert.FfnWgradRefIdeal.τ).loc Cert.FfnWgradRefIdeal.main_arg4) = m ((c.tc : Thread Cert.FfnWgradRefIdeal.nD Cert.FfnWgradRefIdeal.τ).loc Cert.FfnWgradRefIdeal.main_arg4))
      ∧ r.2.sem = fun _ => 0)

def quiescent_FfnDgrad [hFfnDgrad : Cert.FfnDgrad.Facts] : Prop :=
  ∀ (m : (ℓ : Loc Cert.FfnDgrad.nD Cert.FfnDgrad.τ Cert.FfnDgrad.sig) → Buf (Elt Bits) ℓ) (g : Dev Cert.FfnDgrad.nD → PrngReg), Pre_FfnDgrad m →
    θ_run (Cert.FfnDgrad.defs (F := Bits)) (onTc (τ := Cert.FfnDgrad.τ) (Cert.FfnDgrad.main (F := Bits))) ⟨m, fun _ => 0, g⟩ (fun r => (∀ c : Dev Cert.FfnDgrad.nD,
      r.2.mem ((c.tc : Thread Cert.FfnDgrad.nD Cert.FfnDgrad.τ).loc Cert.FfnDgrad.main_arg0) = m ((c.tc : Thread Cert.FfnDgrad.nD Cert.FfnDgrad.τ).loc Cert.FfnDgrad.main_arg0)
      ∧ r.2.mem ((c.tc : Thread Cert.FfnDgrad.nD Cert.FfnDgrad.τ).loc Cert.FfnDgrad.main_arg1) = m ((c.tc : Thread Cert.FfnDgrad.nD Cert.FfnDgrad.τ).loc Cert.FfnDgrad.main_arg1)
      ∧ r.2.mem ((c.tc : Thread Cert.FfnDgrad.nD Cert.FfnDgrad.τ).loc Cert.FfnDgrad.main_arg2) = m ((c.tc : Thread Cert.FfnDgrad.nD Cert.FfnDgrad.τ).loc Cert.FfnDgrad.main_arg2)
      ∧ r.2.mem ((c.tc : Thread Cert.FfnDgrad.nD Cert.FfnDgrad.τ).loc Cert.FfnDgrad.main_arg3) = m ((c.tc : Thread Cert.FfnDgrad.nD Cert.FfnDgrad.τ).loc Cert.FfnDgrad.main_arg3)
      ∧ r.2.mem ((c.tc : Thread Cert.FfnDgrad.nD Cert.FfnDgrad.τ).loc Cert.FfnDgrad.main_arg4) = m ((c.tc : Thread Cert.FfnDgrad.nD Cert.FfnDgrad.τ).loc Cert.FfnDgrad.main_arg4))
      ∧ r.2.sem = fun _ => 0)

def quiescent_FfnDgradIdeal [hFfnDgradIdeal : Cert.FfnDgradIdeal.Facts] : Prop :=
  ∀ (m : (ℓ : Loc Cert.FfnDgradIdeal.nD Cert.FfnDgradIdeal.τ Cert.FfnDgradIdeal.sig) → Buf (Elt Ideal) ℓ) (g : Dev Cert.FfnDgradIdeal.nD → PrngReg), Pre_FfnDgradIdeal m →
    θ_run (Cert.FfnDgradIdeal.defs (F := Ideal)) (onTc (τ := Cert.FfnDgradIdeal.τ) (Cert.FfnDgradIdeal.main (F := Ideal))) ⟨m, fun _ => 0, g⟩ (fun r => (∀ c : Dev Cert.FfnDgradIdeal.nD,
      r.2.mem ((c.tc : Thread Cert.FfnDgradIdeal.nD Cert.FfnDgradIdeal.τ).loc Cert.FfnDgradIdeal.main_arg0) = m ((c.tc : Thread Cert.FfnDgradIdeal.nD Cert.FfnDgradIdeal.τ).loc Cert.FfnDgradIdeal.main_arg0)
      ∧ r.2.mem ((c.tc : Thread Cert.FfnDgradIdeal.nD Cert.FfnDgradIdeal.τ).loc Cert.FfnDgradIdeal.main_arg1) = m ((c.tc : Thread Cert.FfnDgradIdeal.nD Cert.FfnDgradIdeal.τ).loc Cert.FfnDgradIdeal.main_arg1)
      ∧ r.2.mem ((c.tc : Thread Cert.FfnDgradIdeal.nD Cert.FfnDgradIdeal.τ).loc Cert.FfnDgradIdeal.main_arg2) = m ((c.tc : Thread Cert.FfnDgradIdeal.nD Cert.FfnDgradIdeal.τ).loc Cert.FfnDgradIdeal.main_arg2)
      ∧ r.2.mem ((c.tc : Thread Cert.FfnDgradIdeal.nD Cert.FfnDgradIdeal.τ).loc Cert.FfnDgradIdeal.main_arg3) = m ((c.tc : Thread Cert.FfnDgradIdeal.nD Cert.FfnDgradIdeal.τ).loc Cert.FfnDgradIdeal.main_arg3)
      ∧ r.2.mem ((c.tc : Thread Cert.FfnDgradIdeal.nD Cert.FfnDgradIdeal.τ).loc Cert.FfnDgradIdeal.main_arg4) = m ((c.tc : Thread Cert.FfnDgradIdeal.nD Cert.FfnDgradIdeal.τ).loc Cert.FfnDgradIdeal.main_arg4))
      ∧ r.2.sem = fun _ => 0)

def quiescent_FfnDgradIdeal_pre_finite_ffn [hFfnDgradIdeal : Cert.FfnDgradIdeal.Facts] [hPre_finite_ffn : Cert.Pre_finite_ffn.Facts] : Prop :=
  ∀ (m : (ℓ : Loc Cert.FfnDgradIdeal.nD Cert.FfnDgradIdeal.τ Cert.FfnDgradIdeal.sig) → Buf (Elt Ideal) ℓ) (g : Dev Cert.FfnDgradIdeal.nD → PrngReg), Pre_FfnDgradIdeal_finite_ffn m →
    θ_run (Cert.FfnDgradIdeal.defs (F := Ideal)) (onTc (τ := Cert.FfnDgradIdeal.τ) (Cert.FfnDgradIdeal.main (F := Ideal))) ⟨m, fun _ => 0, g⟩ (fun r => (∀ c : Dev Cert.FfnDgradIdeal.nD,
      r.2.mem ((c.tc : Thread Cert.FfnDgradIdeal.nD Cert.FfnDgradIdeal.τ).loc Cert.FfnDgradIdeal.main_arg0) = m ((c.tc : Thread Cert.FfnDgradIdeal.nD Cert.FfnDgradIdeal.τ).loc Cert.FfnDgradIdeal.main_arg0)
      ∧ r.2.mem ((c.tc : Thread Cert.FfnDgradIdeal.nD Cert.FfnDgradIdeal.τ).loc Cert.FfnDgradIdeal.main_arg1) = m ((c.tc : Thread Cert.FfnDgradIdeal.nD Cert.FfnDgradIdeal.τ).loc Cert.FfnDgradIdeal.main_arg1)
      ∧ r.2.mem ((c.tc : Thread Cert.FfnDgradIdeal.nD Cert.FfnDgradIdeal.τ).loc Cert.FfnDgradIdeal.main_arg2) = m ((c.tc : Thread Cert.FfnDgradIdeal.nD Cert.FfnDgradIdeal.τ).loc Cert.FfnDgradIdeal.main_arg2)
      ∧ r.2.mem ((c.tc : Thread Cert.FfnDgradIdeal.nD Cert.FfnDgradIdeal.τ).loc Cert.FfnDgradIdeal.main_arg3) = m ((c.tc : Thread Cert.FfnDgradIdeal.nD Cert.FfnDgradIdeal.τ).loc Cert.FfnDgradIdeal.main_arg3)
      ∧ r.2.mem ((c.tc : Thread Cert.FfnDgradIdeal.nD Cert.FfnDgradIdeal.τ).loc Cert.FfnDgradIdeal.main_arg4) = m ((c.tc : Thread Cert.FfnDgradIdeal.nD Cert.FfnDgradIdeal.τ).loc Cert.FfnDgradIdeal.main_arg4))
      ∧ r.2.sem = fun _ => 0)

def quiescent_FfnDgradRefIdeal [hFfnDgradRefIdeal : Cert.FfnDgradRefIdeal.Facts] : Prop :=
  ∀ (m : (ℓ : Loc Cert.FfnDgradRefIdeal.nD Cert.FfnDgradRefIdeal.τ Cert.FfnDgradRefIdeal.sig) → Buf (Elt Ideal) ℓ) (g : Dev Cert.FfnDgradRefIdeal.nD → PrngReg), Pre_FfnDgradRefIdeal m →
    θ_run (Cert.FfnDgradRefIdeal.defs (F := Ideal)) (onTc (τ := Cert.FfnDgradRefIdeal.τ) (Cert.FfnDgradRefIdeal.main (F := Ideal))) ⟨m, fun _ => 0, g⟩ (fun r => (∀ c : Dev Cert.FfnDgradRefIdeal.nD,
      r.2.mem ((c.tc : Thread Cert.FfnDgradRefIdeal.nD Cert.FfnDgradRefIdeal.τ).loc Cert.FfnDgradRefIdeal.main_arg0) = m ((c.tc : Thread Cert.FfnDgradRefIdeal.nD Cert.FfnDgradRefIdeal.τ).loc Cert.FfnDgradRefIdeal.main_arg0)
      ∧ r.2.mem ((c.tc : Thread Cert.FfnDgradRefIdeal.nD Cert.FfnDgradRefIdeal.τ).loc Cert.FfnDgradRefIdeal.main_arg1) = m ((c.tc : Thread Cert.FfnDgradRefIdeal.nD Cert.FfnDgradRefIdeal.τ).loc Cert.FfnDgradRefIdeal.main_arg1)
      ∧ r.2.mem ((c.tc : Thread Cert.FfnDgradRefIdeal.nD Cert.FfnDgradRefIdeal.τ).loc Cert.FfnDgradRefIdeal.main_arg2) = m ((c.tc : Thread Cert.FfnDgradRefIdeal.nD Cert.FfnDgradRefIdeal.τ).loc Cert.FfnDgradRefIdeal.main_arg2)
      ∧ r.2.mem ((c.tc : Thread Cert.FfnDgradRefIdeal.nD Cert.FfnDgradRefIdeal.τ).loc Cert.FfnDgradRefIdeal.main_arg3) = m ((c.tc : Thread Cert.FfnDgradRefIdeal.nD Cert.FfnDgradRefIdeal.τ).loc Cert.FfnDgradRefIdeal.main_arg3)
      ∧ r.2.mem ((c.tc : Thread Cert.FfnDgradRefIdeal.nD Cert.FfnDgradRefIdeal.τ).loc Cert.FfnDgradRefIdeal.main_arg4) = m ((c.tc : Thread Cert.FfnDgradRefIdeal.nD Cert.FfnDgradRefIdeal.τ).loc Cert.FfnDgradRefIdeal.main_arg4))
      ∧ r.2.sem = fun _ => 0)

def quiescent_FfnDgradRefIdeal_pre_finite_ffn [hFfnDgradRefIdeal : Cert.FfnDgradRefIdeal.Facts] [hPre_finite_ffn : Cert.Pre_finite_ffn.Facts] : Prop :=
  ∀ (m : (ℓ : Loc Cert.FfnDgradRefIdeal.nD Cert.FfnDgradRefIdeal.τ Cert.FfnDgradRefIdeal.sig) → Buf (Elt Ideal) ℓ) (g : Dev Cert.FfnDgradRefIdeal.nD → PrngReg), Pre_FfnDgradRefIdeal_finite_ffn m →
    θ_run (Cert.FfnDgradRefIdeal.defs (F := Ideal)) (onTc (τ := Cert.FfnDgradRefIdeal.τ) (Cert.FfnDgradRefIdeal.main (F := Ideal))) ⟨m, fun _ => 0, g⟩ (fun r => (∀ c : Dev Cert.FfnDgradRefIdeal.nD,
      r.2.mem ((c.tc : Thread Cert.FfnDgradRefIdeal.nD Cert.FfnDgradRefIdeal.τ).loc Cert.FfnDgradRefIdeal.main_arg0) = m ((c.tc : Thread Cert.FfnDgradRefIdeal.nD Cert.FfnDgradRefIdeal.τ).loc Cert.FfnDgradRefIdeal.main_arg0)
      ∧ r.2.mem ((c.tc : Thread Cert.FfnDgradRefIdeal.nD Cert.FfnDgradRefIdeal.τ).loc Cert.FfnDgradRefIdeal.main_arg1) = m ((c.tc : Thread Cert.FfnDgradRefIdeal.nD Cert.FfnDgradRefIdeal.τ).loc Cert.FfnDgradRefIdeal.main_arg1)
      ∧ r.2.mem ((c.tc : Thread Cert.FfnDgradRefIdeal.nD Cert.FfnDgradRefIdeal.τ).loc Cert.FfnDgradRefIdeal.main_arg2) = m ((c.tc : Thread Cert.FfnDgradRefIdeal.nD Cert.FfnDgradRefIdeal.τ).loc Cert.FfnDgradRefIdeal.main_arg2)
      ∧ r.2.mem ((c.tc : Thread Cert.FfnDgradRefIdeal.nD Cert.FfnDgradRefIdeal.τ).loc Cert.FfnDgradRefIdeal.main_arg3) = m ((c.tc : Thread Cert.FfnDgradRefIdeal.nD Cert.FfnDgradRefIdeal.τ).loc Cert.FfnDgradRefIdeal.main_arg3)
      ∧ r.2.mem ((c.tc : Thread Cert.FfnDgradRefIdeal.nD Cert.FfnDgradRefIdeal.τ).loc Cert.FfnDgradRefIdeal.main_arg4) = m ((c.tc : Thread Cert.FfnDgradRefIdeal.nD Cert.FfnDgradRefIdeal.τ).loc Cert.FfnDgradRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_qk [hAttnFwdIdeal : Cert.AttnFwdIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_qk m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_qk [hAttnFwdRefIdeal : Cert.AttnFwdRefIdeal.Facts] [hPre_finite_qk : Cert.Pre_finite_qk.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_qk m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)) (v3 : (c : Dev Cert.FfnFwdIdeal.nD) → Buf (Elt Ideal) ((c.tc : Thread Cert.FfnFwdIdeal.nD Cert.FfnFwdIdeal.τ).loc Cert.FfnFwdIdeal.main_v0_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_v0_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v33) = v0 c
          ∧ r.2.mem ((c.tc : Thread Cert.FfnFwdRefIdeal.nD Cert.FfnFwdRefIdeal.τ).loc Cert.FfnFwdRefIdeal.main_v34) = v1 c
          ∧ r.2.mem ((c.tc : Thread Cert.FfnFwdRefIdeal.nD Cert.FfnFwdRefIdeal.τ).loc Cert.FfnFwdRefIdeal.main_v37) = v2 c
          ∧ r.2.mem ((c.tc : Thread Cert.FfnFwdRefIdeal.nD Cert.FfnFwdRefIdeal.τ).loc Cert.FfnFwdRefIdeal.main_v40) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_FfnWgrad_FfnWgradIdeal : Prop :=
  True

def algebraic_FfnWgradIdeal_FfnWgradRefIdeal [hFfnWgradIdeal : Cert.FfnWgradIdeal.Facts] [hFfnWgradRefIdeal : Cert.FfnWgradRefIdeal.Facts] : Prop :=
  ∀ (m : (ℓ : Loc Cert.FfnWgradIdeal.nD Cert.FfnWgradIdeal.τ Cert.FfnWgradIdeal.sig) → Buf (Elt Ideal) ℓ) (g : Dev Cert.FfnWgradIdeal.nD → PrngReg)
    (m' : (ℓ : Loc Cert.FfnWgradRefIdeal.nD Cert.FfnWgradRefIdeal.τ Cert.FfnWgradRefIdeal.sig) → Buf (Elt Ideal) ℓ) (g' : Dev Cert.FfnWgradRefIdeal.nD → PrngReg), Pre_FfnWgradIdeal m →
    (∀ c : Dev Cert.FfnWgradIdeal.nD,
      m' ((c.tc : Thread Cert.FfnWgradRefIdeal.nD Cert.FfnWgradRefIdeal.τ).loc Cert.FfnWgradRefIdeal.main_arg0) = m ((c.tc : Thread Cert.FfnWgradIdeal.nD Cert.FfnWgradIdeal.τ).loc Cert.FfnWgradIdeal.main_arg0)
      ∧ m' ((c.tc : Thread Cert.FfnWgradRefIdeal.nD Cert.FfnWgradRefIdeal.τ).loc Cert.FfnWgradRefIdeal.main_arg1) = m ((c.tc : Thread Cert.FfnWgradIdeal.nD Cert.FfnWgradIdeal.τ).loc Cert.FfnWgradIdeal.main_arg1)
      ∧ m' ((c.tc : Thread Cert.FfnWgradRefIdeal.nD Cert.FfnWgradRefIdeal.τ).loc Cert.FfnWgradRefIdeal.main_arg2) = m ((c.tc : Thread Cert.FfnWgradIdeal.nD Cert.FfnWgradIdeal.τ).loc Cert.FfnWgradIdeal.main_arg2)
      ∧ m' ((c.tc : Thread Cert.FfnWgradRefIdeal.nD Cert.FfnWgradRefIdeal.τ).loc Cert.FfnWgradRefIdeal.main_arg3) = m ((c.tc : Thread Cert.FfnWgradIdeal.nD Cert.FfnWgradIdeal.τ).loc Cert.FfnWgradIdeal.main_arg3)
      ∧ m' ((c.tc : Thread Cert.FfnWgradRefIdeal.nD Cert.FfnWgradRefIdeal.τ).loc Cert.FfnWgradRefIdeal.main_arg4) = m ((c.tc : Thread Cert.FfnWgradIdeal.nD Cert.FfnWgradIdeal.τ).loc Cert.FfnWgradIdeal.main_arg4)) →
    ∃ (v0 : (c : Dev Cert.FfnWgradIdeal.nD) → Buf (Elt Ideal) ((c.tc : Thread Cert.FfnWgradIdeal.nD Cert.FfnWgradIdeal.τ).loc Cert.FfnWgradIdeal.main_v0_0)) (v1 : (c : Dev Cert.FfnWgradIdeal.nD) → Buf (Elt Ideal) ((c.tc : Thread Cert.FfnWgradIdeal.nD Cert.FfnWgradIdeal.τ).loc Cert.FfnWgradIdeal.main_v0_1)) (v2 : (c : Dev Cert.FfnWgradIdeal.nD) → Buf (Elt Ideal) ((c.tc : Thread Cert.FfnWgradIdeal.nD Cert.FfnWgradIdeal.τ).loc Cert.FfnWgradIdeal.main_v0_2)),
      θ_run (Cert.FfnWgradIdeal.defs (F := Ideal)) (onTc (τ := Cert.FfnWgradIdeal.τ) (Cert.FfnWgradIdeal.main (F := Ideal))) ⟨m, fun _ => 0, g⟩ (fun r => ∀ c : Dev Cert.FfnWgradIdeal.nD,
          r.2.mem ((c.tc : Thread Cert.FfnWgradIdeal.nD Cert.FfnWgradIdeal.τ).loc Cert.FfnWgradIdeal.main_v0_0) = v0 c
          ∧ r.2.mem ((c.tc : Thread Cert.FfnWgradIdeal.nD Cert.FfnWgradIdeal.τ).loc Cert.FfnWgradIdeal.main_v0_1) = v1 c
          ∧ r.2.mem ((c.tc : Thread Cert.FfnWgradIdeal.nD Cert.FfnWgradIdeal.τ).loc Cert.FfnWgradIdeal.main_v0_2) = v2 c
          ∧ r.2.mem ((c.tc : Thread Cert.FfnWgradIdeal.nD Cert.FfnWgradIdeal.τ).loc Cert.FfnWgradIdeal.main_arg0) = m ((c.tc : Thread Cert.FfnWgradIdeal.nD Cert.FfnWgradIdeal.τ).loc Cert.FfnWgradIdeal.main_arg0)
          ∧ r.2.mem ((c.tc : Thread Cert.FfnWgradIdeal.nD Cert.FfnWgradIdeal.τ).loc Cert.FfnWgradIdeal.main_arg1) = m ((c.tc : Thread Cert.FfnWgradIdeal.nD Cert.FfnWgradIdeal.τ).loc Cert.FfnWgradIdeal.main_arg1)
          ∧ r.2.mem ((c.tc : Thread Cert.FfnWgradIdeal.nD Cert.FfnWgradIdeal.τ).loc Cert.FfnWgradIdeal.main_arg2) = m ((c.tc : Thread Cert.FfnWgradIdeal.nD Cert.FfnWgradIdeal.τ).loc Cert.FfnWgradIdeal.main_arg2)
          ∧ r.2.mem ((c.tc : Thread Cert.FfnWgradIdeal.nD Cert.FfnWgradIdeal.τ).loc Cert.FfnWgradIdeal.main_arg3) = m ((c.tc : Thread Cert.FfnWgradIdeal.nD Cert.FfnWgradIdeal.τ).loc Cert.FfnWgradIdeal.main_arg3)
          ∧ r.2.mem ((c.tc : Thread Cert.FfnWgradIdeal.nD Cert.FfnWgradIdeal.τ).loc Cert.FfnWgradIdeal.main_arg4) = m ((c.tc : Thread Cert.FfnWgradIdeal.nD Cert.FfnWgradIdeal.τ).loc Cert.FfnWgradIdeal.main_arg4))
      ∧ θ_run (Cert.FfnWgradRefIdeal.defs (F := Ideal)) (onTc (τ := Cert.FfnWgradRefIdeal.τ) (Cert.FfnWgradRefIdeal.main (F := Ideal))) ⟨m', fun _ => 0, g'⟩ (fun r => ∀ c : Dev Cert.FfnWgradRefIdeal.nD,
          r.2.mem ((c.tc : Thread Cert.FfnWgradRefIdeal.nD Cert.FfnWgradRefIdeal.τ).loc Cert.FfnWgradRefIdeal.main_v7) = v0 c
          ∧ r.2.mem ((c.tc : Thread Cert.FfnWgradRefIdeal.nD Cert.FfnWgradRefIdeal.τ).loc Cert.FfnWgradRefIdeal.main_v12) = v1 c
          ∧ r.2.mem ((c.tc : Thread Cert.FfnWgradRefIdeal.nD Cert.FfnWgradRefIdeal.τ).loc Cert.FfnWgradRefIdeal.main_v20) = v2 c
          ∧ r.2.mem ((c.tc : Thread Cert.FfnWgradRefIdeal.nD Cert.FfnWgradRefIdeal.τ).loc Cert.FfnWgradRefIdeal.main_arg0) = m' ((c.tc : Thread Cert.FfnWgradRefIdeal.nD Cert.FfnWgradRefIdeal.τ).loc Cert.FfnWgradRefIdeal.main_arg0)
          ∧ r.2.mem ((c.tc : Thread Cert.FfnWgradRefIdeal.nD Cert.FfnWgradRefIdeal.τ).loc Cert.FfnWgradRefIdeal.main_arg1) = m' ((c.tc : Thread Cert.FfnWgradRefIdeal.nD Cert.FfnWgradRefIdeal.τ).loc Cert.FfnWgradRefIdeal.main_arg1)
          ∧ r.2.mem ((c.tc : Thread Cert.FfnWgradRefIdeal.nD Cert.FfnWgradRefIdeal.τ).loc Cert.FfnWgradRefIdeal.main_arg2) = m' ((c.tc : Thread Cert.FfnWgradRefIdeal.nD Cert.FfnWgradRefIdeal.τ).loc Cert.FfnWgradRefIdeal.main_arg2)
          ∧ r.2.mem ((c.tc : Thread Cert.FfnWgradRefIdeal.nD Cert.FfnWgradRefIdeal.τ).loc Cert.FfnWgradRefIdeal.main_arg3) = m' ((c.tc : Thread Cert.FfnWgradRefIdeal.nD Cert.FfnWgradRefIdeal.τ).loc Cert.FfnWgradRefIdeal.main_arg3)
          ∧ r.2.mem ((c.tc : Thread Cert.FfnWgradRefIdeal.nD Cert.FfnWgradRefIdeal.τ).loc Cert.FfnWgradRefIdeal.main_arg4) = m' ((c.tc : Thread Cert.FfnWgradRefIdeal.nD Cert.FfnWgradRefIdeal.τ).loc Cert.FfnWgradRefIdeal.main_arg4))

def preserves_FfnDgrad_FfnDgradIdeal : Prop :=
  True

def algebraic_FfnDgradIdeal_FfnDgradRefIdeal_pre_finite_ffn [hFfnDgradIdeal : Cert.FfnDgradIdeal.Facts] [hFfnDgradRefIdeal : Cert.FfnDgradRefIdeal.Facts] [hPre_finite_ffn : Cert.Pre_finite_ffn.Facts] : Prop :=
  ∀ (m : (ℓ : Loc Cert.FfnDgradIdeal.nD Cert.FfnDgradIdeal.τ Cert.FfnDgradIdeal.sig) → Buf (Elt Ideal) ℓ) (g : Dev Cert.FfnDgradIdeal.nD → PrngReg)
    (m' : (ℓ : Loc Cert.FfnDgradRefIdeal.nD Cert.FfnDgradRefIdeal.τ Cert.FfnDgradRefIdeal.sig) → Buf (Elt Ideal) ℓ) (g' : Dev Cert.FfnDgradRefIdeal.nD → PrngReg), Pre_FfnDgradIdeal_finite_ffn m →
    (∀ c : Dev Cert.FfnDgradIdeal.nD,
      m' ((c.tc : Thread Cert.FfnDgradRefIdeal.nD Cert.FfnDgradRefIdeal.τ).loc Cert.FfnDgradRefIdeal.main_arg0) = m ((c.tc : Thread Cert.FfnDgradIdeal.nD Cert.FfnDgradIdeal.τ).loc Cert.FfnDgradIdeal.main_arg0)
      ∧ m' ((c.tc : Thread Cert.FfnDgradRefIdeal.nD Cert.FfnDgradRefIdeal.τ).loc Cert.FfnDgradRefIdeal.main_arg1) = m ((c.tc : Thread Cert.FfnDgradIdeal.nD Cert.FfnDgradIdeal.τ).loc Cert.FfnDgradIdeal.main_arg1)
      ∧ m' ((c.tc : Thread Cert.FfnDgradRefIdeal.nD Cert.FfnDgradRefIdeal.τ).loc Cert.FfnDgradRefIdeal.main_arg2) = m ((c.tc : Thread Cert.FfnDgradIdeal.nD Cert.FfnDgradIdeal.τ).loc Cert.FfnDgradIdeal.main_arg2)
      ∧ m' ((c.tc : Thread Cert.FfnDgradRefIdeal.nD Cert.FfnDgradRefIdeal.τ).loc Cert.FfnDgradRefIdeal.main_arg3) = m ((c.tc : Thread Cert.FfnDgradIdeal.nD Cert.FfnDgradIdeal.τ).loc Cert.FfnDgradIdeal.main_arg3)
      ∧ m' ((c.tc : Thread Cert.FfnDgradRefIdeal.nD Cert.FfnDgradRefIdeal.τ).loc Cert.FfnDgradRefIdeal.main_arg4) = m ((c.tc : Thread Cert.FfnDgradIdeal.nD Cert.FfnDgradIdeal.τ).loc Cert.FfnDgradIdeal.main_arg4)) →
    ∃ (v0 : (c : Dev Cert.FfnDgradIdeal.nD) → Buf (Elt Ideal) ((c.tc : Thread Cert.FfnDgradIdeal.nD Cert.FfnDgradIdeal.τ).loc Cert.FfnDgradIdeal.main_v34_0)) (v1 : (c : Dev Cert.FfnDgradIdeal.nD) → Buf (Elt Ideal) ((c.tc : Thread Cert.FfnDgradIdeal.nD Cert.FfnDgradIdeal.τ).loc Cert.FfnDgradIdeal.main_v34_1)) (v2 : (c : Dev Cert.FfnDgradIdeal.nD) → Buf (Elt Ideal) ((c.tc : Thread Cert.FfnDgradIdeal.nD Cert.FfnDgradIdeal.τ).loc Cert.FfnDgradIdeal.main_v34_2)) (v3 : (c : Dev Cert.FfnDgradIdeal.nD) → Buf (Elt Ideal) ((c.tc : Thread Cert.FfnDgradIdeal.nD Cert.FfnDgradIdeal.τ).loc Cert.FfnDgradIdeal.main_v34_3)) (v4 : (c : Dev Cert.FfnDgradIdeal.nD) → Buf (Elt Ideal) ((c.tc : Thread Cert.FfnDgradIdeal.nD Cert.FfnDgradIdeal.τ).loc Cert.FfnDgradIdeal.main_v34_4)) (v5 : (c : Dev Cert.FfnDgradIdeal.nD) → Buf (Elt Ideal) ((c.tc : Thread Cert.FfnDgradIdeal.nD Cert.FfnDgradIdeal.τ).loc Cert.FfnDgradIdeal.main_v34_5)),
      θ_run (Cert.FfnDgradIdeal.defs (F := Ideal)) (onTc (τ := Cert.FfnDgradIdeal.τ) (Cert.FfnDgradIdeal.main (F := Ideal))) ⟨m, fun _ => 0, g⟩ (fun r => ∀ c : Dev Cert.FfnDgradIdeal.nD,
          r.2.mem ((c.tc : Thread Cert.FfnDgradIdeal.nD Cert.FfnDgradIdeal.τ).loc Cert.FfnDgradIdeal.main_v34_0) = v0 c
          ∧ r.2.mem ((c.tc : Thread Cert.FfnDgradIdeal.nD Cert.FfnDgradIdeal.τ).loc Cert.FfnDgradIdeal.main_v34_1) = v1 c
          ∧ r.2.mem ((c.tc : Thread Cert.FfnDgradIdeal.nD Cert.FfnDgradIdeal.τ).loc Cert.FfnDgradIdeal.main_v34_2) = v2 c
          ∧ r.2.mem ((c.tc : Thread Cert.FfnDgradIdeal.nD Cert.FfnDgradIdeal.τ).loc Cert.FfnDgradIdeal.main_v34_3) = v3 c
          ∧ r.2.mem ((c.tc : Thread Cert.FfnDgradIdeal.nD Cert.FfnDgradIdeal.τ).loc Cert.FfnDgradIdeal.main_v34_4) = v4 c
          ∧ r.2.mem ((c.tc : Thread Cert.FfnDgradIdeal.nD Cert.FfnDgradIdeal.τ).loc Cert.FfnDgradIdeal.main_v34_5) = v5 c
          ∧ r.2.mem ((c.tc : Thread Cert.FfnDgradIdeal.nD Cert.FfnDgradIdeal.τ).loc Cert.FfnDgradIdeal.main_arg0) = m ((c.tc : Thread Cert.FfnDgradIdeal.nD Cert.FfnDgradIdeal.τ).loc Cert.FfnDgradIdeal.main_arg0)
          ∧ r.2.mem ((c.tc : Thread Cert.FfnDgradIdeal.nD Cert.FfnDgradIdeal.τ).loc Cert.FfnDgradIdeal.main_arg1) = m ((c.tc : Thread Cert.FfnDgradIdeal.nD Cert.FfnDgradIdeal.τ).loc Cert.FfnDgradIdeal.main_arg1)
          ∧ r.2.mem ((c.tc : Thread Cert.FfnDgradIdeal.nD Cert.FfnDgradIdeal.τ).loc Cert.FfnDgradIdeal.main_arg2) = m ((c.tc : Thread Cert.FfnDgradIdeal.nD Cert.FfnDgradIdeal.τ).loc Cert.FfnDgradIdeal.main_arg2)
          ∧ r.2.mem ((c.tc : Thread Cert.FfnDgradIdeal.nD Cert.FfnDgradIdeal.τ).loc Cert.FfnDgradIdeal.main_arg3) = m ((c.tc : Thread Cert.FfnDgradIdeal.nD Cert.FfnDgradIdeal.τ).loc Cert.FfnDgradIdeal.main_arg3)
          ∧ r.2.mem ((c.tc : Thread Cert.FfnDgradIdeal.nD Cert.FfnDgradIdeal.τ).loc Cert.FfnDgradIdeal.main_arg4) = m ((c.tc : Thread Cert.FfnDgradIdeal.nD Cert.FfnDgradIdeal.τ).loc Cert.FfnDgradIdeal.main_arg4))
      ∧ θ_run (Cert.FfnDgradRefIdeal.defs (F := Ideal)) (onTc (τ := Cert.FfnDgradRefIdeal.τ) (Cert.FfnDgradRefIdeal.main (F := Ideal))) ⟨m', fun _ => 0, g'⟩ (fun r => ∀ c : Dev Cert.FfnDgradRefIdeal.nD,
          r.2.mem ((c.tc : Thread Cert.FfnDgradRefIdeal.nD Cert.FfnDgradRefIdeal.τ).loc Cert.FfnDgradRefIdeal.main_v80) = v0 c
          ∧ r.2.mem ((c.tc : Thread Cert.FfnDgradRefIdeal.nD Cert.FfnDgradRefIdeal.τ).loc Cert.FfnDgradRefIdeal.main_v63) = v1 c
          ∧ r.2.mem ((c.tc : Thread Cert.FfnDgradRefIdeal.nD Cert.FfnDgradRefIdeal.τ).loc Cert.FfnDgradRefIdeal.main_v92) = v2 c
          ∧ r.2.mem ((c.tc : Thread Cert.FfnDgradRefIdeal.nD Cert.FfnDgradRefIdeal.τ).loc Cert.FfnDgradRefIdeal.main_v95) = v3 c
          ∧ r.2.mem ((c.tc : Thread Cert.FfnDgradRefIdeal.nD Cert.FfnDgradRefIdeal.τ).loc Cert.FfnDgradRefIdeal.main_v98) = v4 c
          ∧ r.2.mem ((c.tc : Thread Cert.FfnDgradRefIdeal.nD Cert.FfnDgradRefIdeal.τ).loc Cert.FfnDgradRefIdeal.main_v103) = v5 c
          ∧ r.2.mem ((c.tc : Thread Cert.FfnDgradRefIdeal.nD Cert.FfnDgradRefIdeal.τ).loc Cert.FfnDgradRefIdeal.main_arg0) = m' ((c.tc : Thread Cert.FfnDgradRefIdeal.nD Cert.FfnDgradRefIdeal.τ).loc Cert.FfnDgradRefIdeal.main_arg0)
          ∧ r.2.mem ((c.tc : Thread Cert.FfnDgradRefIdeal.nD Cert.FfnDgradRefIdeal.τ).loc Cert.FfnDgradRefIdeal.main_arg1) = m' ((c.tc : Thread Cert.FfnDgradRefIdeal.nD Cert.FfnDgradRefIdeal.τ).loc Cert.FfnDgradRefIdeal.main_arg1)
          ∧ r.2.mem ((c.tc : Thread Cert.FfnDgradRefIdeal.nD Cert.FfnDgradRefIdeal.τ).loc Cert.FfnDgradRefIdeal.main_arg2) = m' ((c.tc : Thread Cert.FfnDgradRefIdeal.nD Cert.FfnDgradRefIdeal.τ).loc Cert.FfnDgradRefIdeal.main_arg2)
          ∧ r.2.mem ((c.tc : Thread Cert.FfnDgradRefIdeal.nD Cert.FfnDgradRefIdeal.τ).loc Cert.FfnDgradRefIdeal.main_arg3) = m' ((c.tc : Thread Cert.FfnDgradRefIdeal.nD Cert.FfnDgradRefIdeal.τ).loc Cert.FfnDgradRefIdeal.main_arg3)
          ∧ r.2.mem ((c.tc : Thread Cert.FfnDgradRefIdeal.nD Cert.FfnDgradRefIdeal.τ).loc Cert.FfnDgradRefIdeal.main_arg4) = m' ((c.tc : Thread Cert.FfnDgradRefIdeal.nD Cert.FfnDgradRefIdeal.τ).loc Cert.FfnDgradRefIdeal.main_arg4))

def preserves_AttnFwd_AttnFwdIdeal : Prop :=
  True

def algebraic_AttnFwdIdeal_AttnFwdRefIdeal_pre_finite_qk [hAttnFwdIdeal : Cert.AttnFwdIdeal.Facts] [hAttnFwdRefIdeal : Cert.AttnFwdRefIdeal.Facts] [hPre_finite_qk : Cert.Pre_finite_qk.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_qk m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v4_0)) (v1 : (c : Dev Cert.AttnFwdIdeal.nD) → Buf (Elt Ideal) ((c.tc : Thread Cert.AttnFwdIdeal.nD Cert.AttnFwdIdeal.τ).loc Cert.AttnFwdIdeal.main_v4_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v4_0) = v0 c
          ∧ r.2.mem ((c.tc : Thread Cert.AttnFwdIdeal.nD Cert.AttnFwdIdeal.τ).loc Cert.AttnFwdIdeal.main_v4_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v24) = v0 c
          ∧ r.2.mem ((c.tc : Thread Cert.AttnFwdRefIdeal.nD Cert.AttnFwdRefIdeal.τ).loc Cert.AttnFwdRefIdeal.main_v27) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)) →
    ∃ (v0 : (c : Dev Cert.OutBwdIdeal.nD) → Buf (Elt Ideal) ((c.tc : Thread Cert.OutBwdIdeal.nD Cert.OutBwdIdeal.τ).loc Cert.OutBwdIdeal.main_v0_0)) (v1 : (c : Dev Cert.OutBwdIdeal.nD) → Buf (Elt Ideal) ((c.tc : Thread Cert.OutBwdIdeal.nD Cert.OutBwdIdeal.τ).loc Cert.OutBwdIdeal.main_v0_1)) (v2 : (c : Dev Cert.OutBwdIdeal.nD) → Buf (Elt Ideal) ((c.tc : Thread Cert.OutBwdIdeal.nD Cert.OutBwdIdeal.τ).loc Cert.OutBwdIdeal.main_v0_2)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0_0) = v0 c
          ∧ r.2.mem ((c.tc : Thread Cert.OutBwdIdeal.nD Cert.OutBwdIdeal.τ).loc Cert.OutBwdIdeal.main_v0_1) = v1 c
          ∧ r.2.mem ((c.tc : Thread Cert.OutBwdIdeal.nD Cert.OutBwdIdeal.τ).loc Cert.OutBwdIdeal.main_v0_2) = v2 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v12) = v0 c
          ∧ r.2.mem ((c.tc : Thread Cert.OutBwdRefIdeal.nD Cert.OutBwdRefIdeal.τ).loc Cert.OutBwdRefIdeal.main_v13) = v1 c
          ∧ r.2.mem ((c.tc : Thread Cert.OutBwdRefIdeal.nD Cert.OutBwdRefIdeal.τ).loc Cert.OutBwdRefIdeal.main_v4) = v2 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def Claim : Prop :=
  ∃ (hKernel : Cert.Kernel.Facts) (hKernelIdeal : Cert.KernelIdeal.Facts) (hReferenceIdeal : Cert.ReferenceIdeal.Facts) (hFfnFwd : Cert.FfnFwd.Facts) (hFfnFwdIdeal : Cert.FfnFwdIdeal.Facts) (hFfnFwdRefIdeal : Cert.FfnFwdRefIdeal.Facts) (hFfnWgrad : Cert.FfnWgrad.Facts) (hFfnWgradIdeal : Cert.FfnWgradIdeal.Facts) (hFfnWgradRefIdeal : Cert.FfnWgradRefIdeal.Facts) (hFfnDgrad : Cert.FfnDgrad.Facts) (hFfnDgradIdeal : Cert.FfnDgradIdeal.Facts) (hFfnDgradRefIdeal : Cert.FfnDgradRefIdeal.Facts) (hAttnFwd : Cert.AttnFwd.Facts) (hAttnFwdIdeal : Cert.AttnFwdIdeal.Facts) (hAttnFwdRefIdeal : Cert.AttnFwdRefIdeal.Facts) (hOutBwd : Cert.OutBwd.Facts) (hOutBwdIdeal : Cert.OutBwdIdeal.Facts) (hOutBwdRefIdeal : Cert.OutBwdRefIdeal.Facts) (hOutFwd : Cert.OutFwd.Facts) (hOutFwdIdeal : Cert.OutFwdIdeal.Facts) (hOutFwdRefIdeal : Cert.OutFwdRefIdeal.Facts) (hPre_finite : Cert.Pre_finite.Facts) (hPre_finite_ffn : Cert.Pre_finite_ffn.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_FfnWgrad (hFfnWgrad := hFfnWgrad)
    ∧ quiescent_FfnWgradIdeal (hFfnWgradIdeal := hFfnWgradIdeal)
    ∧ quiescent_FfnWgradRefIdeal (hFfnWgradRefIdeal := hFfnWgradRefIdeal)
    ∧ quiescent_FfnDgrad (hFfnDgrad := hFfnDgrad)
    ∧ quiescent_FfnDgradIdeal (hFfnDgradIdeal := hFfnDgradIdeal)
    ∧ quiescent_FfnDgradIdeal_pre_finite_ffn (hFfnDgradIdeal := hFfnDgradIdeal) (hPre_finite_ffn := hPre_finite_ffn)
    ∧ quiescent_FfnDgradRefIdeal (hFfnDgradRefIdeal := hFfnDgradRefIdeal)
    ∧ quiescent_FfnDgradRefIdeal_pre_finite_ffn (hFfnDgradRefIdeal := hFfnDgradRefIdeal) (hPre_finite_ffn := hPre_finite_ffn)
    ∧ quiescent_AttnFwd (hAttnFwd := hAttnFwd)
    ∧ quiescent_AttnFwdIdeal (hAttnFwdIdeal := hAttnFwdIdeal)
    ∧ quiescent_AttnFwdIdeal_pre_finite_qk (hAttnFwdIdeal := hAttnFwdIdeal) (hPre_finite_qk := hPre_finite_qk)
    ∧ quiescent_AttnFwdRefIdeal (hAttnFwdRefIdeal := hAttnFwdRefIdeal)
    ∧ quiescent_AttnFwdRefIdeal_pre_finite_qk (hAttnFwdRefIdeal := hAttnFwdRefIdeal) (hPre_finite_qk := hPre_finite_qk)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_FfnWgrad_FfnWgradIdeal
    ∧ algebraic_FfnWgradIdeal_FfnWgradRefIdeal (hFfnWgradIdeal := hFfnWgradIdeal) (hFfnWgradRefIdeal := hFfnWgradRefIdeal)
    ∧ preserves_FfnDgrad_FfnDgradIdeal
    ∧ algebraic_FfnDgradIdeal_FfnDgradRefIdeal_pre_finite_ffn (hFfnDgradIdeal := hFfnDgradIdeal) (hFfnDgradRefIdeal := hFfnDgradRefIdeal) (hPre_finite_ffn := hPre_finite_ffn)
    ∧ preserves_AttnFwd_AttnFwdIdeal
    ∧ algebraic_AttnFwdIdeal_AttnFwdRefIdeal_pre_finite_qk (hAttnFwdIdeal := hAttnFwdIdeal) (hAttnFwdRefIdeal := hAttnFwdRefIdeal) (hPre_finite_qk := hPre_finite_qk)
    ∧ preserves_OutBwd_OutBwdIdeal
    ∧ algebraic_OutBwdIdeal_OutBwdRefIdeal (hOutBwdIdeal := hOutBwdIdeal) (hOutBwdRefIdeal := hOutBwdRefIdeal)
    ∧ preserves_OutFwd_OutFwdIdeal
    ∧ algebraic_OutFwdIdeal_OutFwdRefIdeal (hOutFwdIdeal := hOutFwdIdeal) (hOutFwdRefIdeal := hOutFwdRefIdeal)
-- ==== Pre_finite.lean ====
abbrev S8x16384x192 : Shape := ⟨3, ![8, 16384, 192]⟩
abbrev S16384x1024 : Shape := ⟨2, ![16384, 1024]⟩
abbrev S_ : Shape := ⟨0, ![]⟩

class Facts : Prop where
  bcast_S_S8x16384x192 : S_.BroadcastsInDim S8x16384x192 (![] : Fin 0 → Fin S8x16384x192.rank)
  bcast_S_S16384x1024 : S_.BroadcastsInDim S16384x1024 (![] : Fin 0 → Fin S16384x1024.rank)

variable [Facts]

def fn_part1 {F : FTy → Type} [FloatOps F] (main_arg3 : FVec F S16384x1024 .bf16) (main_v4 : IVec S8x16384x192 1) (main_v9 : IVec S8x16384x192 1) (main_v14 : IVec S16384x1024 1) (main_v16 : IVec S16384x1024 1) : IVec S8x16384x192 1 × IVec S8x16384x192 1 × IVec S16384x1024 1 × IVec S16384x1024 1 :=
  let main_cst_6 : FVec F S_ .bf16 := constant S_ .bf16 0xFF80#16
  let main_v17 : FVec F S16384x1024 .bf16 := broadcastInDim S16384x1024 ![] bcast_S_S16384x1024 main_cst_6
  let main_v18 : IVec S16384x1024 1 := cmpf .ogt main_arg3 main_v17
  let main_v19 : IVec S16384x1024 1 := andi main_v16 main_v18
  (main_v4, main_v9, main_v14, main_v19)

def fn {F : FTy → Type} [FloatOps F] (main_arg0 : FVec F S8x16384x192 .bf16) (main_arg1 : FVec F S8x16384x192 .bf16) (main_arg2 : FVec F S16384x1024 .bf16) (main_arg3 : FVec F S16384x1024 .bf16) : IVec S8x16384x192 1 × IVec S8x16384x192 1 × IVec S16384x1024 1 × IVec S16384x1024 1 :=
  let main_cst : FVec F S_ .bf16 := constant S_ .bf16 0x7F80#16
  let main_v0 : FVec F S8x16384x192 .bf16 := broadcastInDim S8x16384x192 ![] bcast_S_S8x16384x192 main_cst
  let main_v1 : IVec S8x16384x192 1 := cmpf .olt main_arg0 main_v0
  let main_cst_0 : FVec F S_ .bf16 := constant S_ .bf16 0xFF80#16
  let main_v2 : FVec F S8x16384x192 .bf16 := broadcastInDim S8x16384x192 ![] bcast_S_S8x16384x192 main_cst_0
  let main_v3 : IVec S8x16384x192 1 := cmpf .ogt main_arg0 main_v2
  let main_v4 : IVec S8x16384x192 1 := andi main_v1 main_v3
  let main_cst_1 : FVec F S_ .bf16 := constant S_ .bf16 0x7F80#16
  let main_v5 : FVec F S8x16384x192 .bf16 := broadcastInDim S8x16384x192 ![] bcast_S_S8x16384x192 main_cst_1
  let main_v6 : IVec S8x16384x192 1 := cmpf .olt main_arg1 main_v5
  let main_cst_2 : FVec F S_ .bf16 := constant S_ .bf16 0xFF80#16
  let main_v7 : FVec F S8x16384x192 .bf16 := broadcastInDim S8x16384x192 ![] bcast_S_S8x16384x192 main_cst_2
  let main_v8 : IVec S8x16384x192 1 := cmpf .ogt main_arg1 main_v7
  let main_v9 : IVec S8x16384x192 1 := andi main_v6 main_v8
  let main_cst_3 : FVec F S_ .bf16 := constant S_ .bf16 0x7F80#16
  let main_v10 : FVec F S16384x1024 .bf16 := broadcastInDim S16384x1024 ![] bcast_S_S16384x1024 main_cst_3
  let main_v11 : IVec S16384x1024 1 := cmpf .olt main_arg2 main_v10
  let main_cst_4 : FVec F S_ .bf16 := constant S_ .bf16 0xFF80#16
  let main_v12 : FVec F S16384x1024 .bf16 := broadcastInDim S16384x1024 ![] bcast_S_S16384x1024 main_cst_4
  let main_v13 : IVec S16384x1024 1 := cmpf .ogt main_arg2 main_v12
  let main_v14 : IVec S16384x1024 1 := andi main_v11 main_v13
  let main_cst_5 : FVec F S_ .bf16 := constant S_ .bf16 0x7F80#16
  let main_v15 : FVec F S16384x1024 .bf16 := broadcastInDim S16384x1024 ![] bcast_S_S16384x1024 main_cst_5
  let main_v16 : IVec S16384x1024 1 := cmpf .olt main_arg3 main_v15
  fn_part1 (F := F) main_arg3 main_v4 main_v9 main_v14 main_v16
-- ==== Pre_finite_ffn.lean ====
abbrev S16384x1024 : Shape := ⟨2, ![16384, 1024]⟩
abbrev S1x1024 : Shape := ⟨2, ![1, 1024]⟩
abbrev S4x16x704x1024 : Shape := ⟨4, ![4, 16, 704, 1024]⟩
abbrev S4x8x704x1024 : Shape := ⟨4, ![4, 8, 704, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)
  bcast_S_S4x16x704x1024 : S_.BroadcastsInDim S4x16x704x1024 (![] : Fin 0 → Fin S4x16x704x1024.rank)
  bcast_S_S4x8x704x1024 : S_.BroadcastsInDim S4x8x704x1024 (![] : Fin 0 → Fin S4x8x704x1024.rank)

variable [Facts]

def fn_part1 {F : FTy → Type} [FloatOps F] (main_arg3 : FVec F S4x8x704x1024 .bf16) (main_arg4 : FVec F S16384x1024 .f32) (main_v4 : IVec S16384x1024 1) (main_v9 : IVec S1x1024 1) (main_v14 : IVec S4x16x704x1024 1) (main_v16 : IVec S4x8x704x1024 1) : IVec S16384x1024 1 × IVec S1x1024 1 × IVec S4x16x704x1024 1 × IVec S4x8x704x1024 1 × IVec S16384x1024 1 :=
  let main_cst_6 : FVec F S_ .bf16 := constant S_ .bf16 0xFF80#16
  let main_v17 : FVec F S4x8x704x1024 .bf16 := broadcastInDim S4x8x704x1024 ![] bcast_S_S4x8x704x1024 main_cst_6
  let main_v18 : IVec S4x8x704x1024 1 := cmpf .ogt main_arg3 main_v17
  let main_v19 : IVec S4x8x704x1024 1 := andi main_v16 main_v18
  let main_cst_7 : FVec F S_ .f32 := constant S_ .f32 0x7F800000#32
  let main_v20 : FVec F S16384x1024 .f32 := broadcastInDim S16384x1024 ![] bcast_S_S16384x1024 main_cst_7
  let main_v21 : IVec S16384x1024 1 := cmpf .olt main_arg4 main_v20
  let main_cst_8 : FVec F S_ .f32 := constant S_ .f32 0xFF800000#32
  let main_v22 : FVec F S16384x1024 .f32 := broadcastInDim S16384x1024 ![] bcast_S_S16384x1024 main_cst_8
  let main_v23 : IVec S16384x1024 1 := cmpf .ogt main_arg4 main_v22
  let main_v24 : IVec S16384x1024 1 := andi main_v21 main_v23
  (main_v4, main_v9, main_v14, main_v19, main_v24)

def fn {F : FTy → Type} [FloatOps F] (main_arg0 : FVec F S16384x1024 .f32) (main_arg1 : FVec F S1x1024 .f32) (main_arg2 : FVec F S4x16x704x1024 .bf16) (main_arg3 : FVec F S4x8x704x1024 .bf16) (main_arg4 : FVec F S16384x1024 .f32) : IVec S16384x1024 1 × IVec S1x1024 1 × IVec S4x16x704x1024 1 × IVec S4x8x704x1024 1 × IVec S16384x1024 1 :=
  let main_cst : FVec F S_ .f32 := constant S_ .f32 0x7F800000#32
  let main_v0 : FVec F S16384x1024 .f32 := broadcastInDim S16384x1024 ![] bcast_S_S16384x1024 main_cst
  let main_v1 : IVec S16384x1024 1 := cmpf .olt main_arg0 main_v0
  let main_cst_0 : FVec F S_ .f32 := constant S_ .f32 0xFF800000#32
  let main_v2 : FVec F S16384x1024 .f32 := broadcastInDim S16384x1024 ![] bcast_S_S16384x1024 main_cst_0
  let main_v3 : IVec S16384x1024 1 := cmpf .ogt main_arg0 main_v2
  let main_v4 : IVec S16384x1024 1 := andi main_v1 main_v3
  let main_cst_1 : FVec F S_ .f32 := constant S_ .f32 0x7F800000#32
  let main_v5 : FVec F S1x1024 .f32 := broadcastInDim S1x1024 ![] bcast_S_S1x1024 main_cst_1
  let main_v6 : IVec S1x1024 1 := cmpf .olt main_arg1 main_v5
  let main_cst_2 : FVec F S_ .f32 := constant S_ .f32 0xFF800000#32
  let main_v7 : FVec F S1x1024 .f32 := broadcastInDim S1x1024 ![] bcast_S_S1x1024 main_cst_2
  let main_v8 : IVec S1x1024 1 := cmpf .ogt main_arg1 main_v7
  let main_v9 : IVec S1x1024 1 := andi main_v6 main_v8
  let main_cst_3 : FVec F S_ .bf16 := constant S_ .bf16 0x7F80#16
  let main_v10 : FVec F S4x16x704x1024 .bf16 := broadcastInDim S4x16x704x1024 ![] bcast_S_S4x16x704x1024 main_cst_3
  let main_v11 : IVec S4x16x704x1024 1 := cmpf .olt main_arg2 main_v10
  let main_cst_4 : FVec F S_ .bf16 := constant S_ .bf16 0xFF80#16
  let main_v12 : FVec F S4x16x704x1024 .bf16 := broadcastInDim S4x16x704x1024 ![] bcast_S_S4x16x704x1024 main_cst_4
  let main_v13 : IVec S4x16x704x1024 1 := cmpf .ogt main_arg2 main_v12
  let main_v14 : IVec S4x16x704x1024 1 := andi main_v11 main_v13
  let main_cst_5 : FVec F S_ .bf16 := constant S_ .bf16 0x7F80#16
  let main_v15 : FVec F S4x8x704x1024 .bf16 := broadcastInDim S4x8x704x1024 ![] bcast_S_S4x8x704x1024 main_cst_5
  let main_v16 : IVec S4x8x704x1024 1 := cmpf .olt main_arg3 main_v15
  fn_part1 (F := F) main_arg3 main_arg4 main_v4 main_v9 main_v14 main_v16
-- ==== Pre_finite_qk.lean ====
abbrev S8x16384x192 : Shape := ⟨3, ![8, 16384, 192]⟩
abbrev S16384x1024 : Shape := ⟨2, ![16384, 1024]⟩
abbrev S_ : Shape := ⟨0, ![]⟩

class Facts : Prop where
  bcast_S_S8x16384x192 : S_.BroadcastsInDim S8x16384x192 (![] : Fin 0 → Fin S8x16384x192.rank)

variable [Facts]

def fn {F : FTy → Type} [FloatOps F] (main_arg0 : FVec F S8x16384x192 .bf16) (main_arg1 : FVec F S8x16384x192 .bf16) (main_arg2 : FVec F S16384x1024 .bf16) : IVec S8x16384x192 1 × IVec S8x16384x192 1 :=
  let main_cst : FVec F S_ .bf16 := constant S_ .bf16 0x7F80#16
  let main_v0 : FVec F S8x16384x192 .bf16 := broadcastInDim S8x16384x192 ![] bcast_S_S8x16384x192 main_cst
  let main_v1 : IVec S8x16384x192 1 := cmpf .olt main_arg0 main_v0
  let main_cst_0 : FVec F S_ .bf16 := constant S_ .bf16 0xFF80#16
  let main_v2 : FVec F S8x16384x192 .bf16 := broadcastInDim S8x16384x192 ![] bcast_S_S8x16384x192 main_cst_0
  let main_v3 : IVec S8x16384x192 1 := cmpf .ogt main_arg0 main_v2
  let main_v4 : IVec S8x16384x192 1 := andi main_v1 main_v3
  let main_cst_1 : FVec F S_ .bf16 := constant S_ .bf16 0x7F80#16
  let main_v5 : FVec F S8x16384x192 .bf16 := broadcastInDim S8x16384x192 ![] bcast_S_S8x16384x192 main_cst_1
  let main_v6 : IVec S8x16384x192 1 := cmpf .olt main_arg1 main_v5
  let main_cst_2 : FVec F S_ .bf16 := constant S_ .bf16 0xFF80#16
  let main_v7 : FVec F S8x16384x192 .bf16 := broadcastInDim S8x16384x192 ![] bcast_S_S8x16384x192 main_cst_2
  let main_v8 : IVec S8x16384x192 1 := cmpf .ogt main_arg1 main_v7
  let main_v9 : IVec S8x16384x192 1 := andi main_v6 main_v8
  (main_v4, main_v9)
-- ==== Kernel.lean ====
abbrev S8x16384x192 : Shape := ⟨3, ![8, 16384, 192]⟩
abbrev S16384x1024 : Shape := ⟨2, ![16384, 1024]⟩
abbrev S8x16384x16384 : Shape := ⟨3, ![8, 16384, 16384]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S_ : Shape := ⟨0, ![]⟩
abbrev S8x16384 : Shape := ⟨2, ![8, 16384]⟩
abbrev S8x16384x1 : Shape := ⟨3, ![8, 16384, 1]⟩
abbrev S16384x8x128 : Shape := ⟨3, ![16384, 8, 128]⟩
abbrev S8x16384x128 : Shape := ⟨3, ![8, 16384, 128]⟩
abbrev S8x16x1x1024 : Shape := ⟨4, ![8, 16, 1, 1024]⟩
abbrev S8x16x192x1024 : Shape := ⟨4, ![8, 16, 192, 1024]⟩
abbrev S1x1024x192 : Shape := ⟨3, ![1, 1024, 192]⟩
abbrev S1x16384x192 : Shape := ⟨3, ![1, 16384, 192]⟩
abbrev S16384x128 : Shape := ⟨2, ![16384, 128]⟩
abbrev S1x16x1x1024 : Shape := ⟨4, ![1, 16, 1, 1024]⟩
abbrev S1024x128 : Shape := ⟨2, ![1024, 128]⟩
abbrev S1x16x192x1024 : Shape := ⟨4, ![1, 16, 192, 1024]⟩
abbrev S1024x192 : Shape := ⟨2, ![1024, 192]⟩
abbrev S2x1024x1024 : Shape := ⟨3, ![2, 1024, 1024]⟩
abbrev S16x192x1024 : Shape := ⟨3, ![16, 192, 1024]⟩
abbrev S1024x1024 : Shape := ⟨2, ![1024, 1024]⟩
abbrev S1x1024x1024 : Shape := ⟨3, ![1, 1024, 1024]⟩
abbrev S1x1x1x1024 : Shape := ⟨4, ![1, 1, 1, 1024]⟩
abbrev S1x1024 : Shape := ⟨2, ![1, 1024]⟩
abbrev S1x1x192x1024 : Shape := ⟨4, ![1, 1, 192, 1024]⟩
abbrev S192x1024 : Shape := ⟨2, ![192, 1024]⟩

abbrev nBuf : Space → Nat
  | .hbm => 46
  | .vmem => 19
  | .smem => 0
  | _ => 0

abbrev bufTy : (tb : Table) → Fin (tcTables nBuf tb) → BufTy
  | .hbm, ⟨0, _⟩ => ⟨S8x16384x192, .bf16⟩
  | .hbm, ⟨1, _⟩ => ⟨S8x16384x192, .bf16⟩
  | .hbm, ⟨2, _⟩ => ⟨S16384x1024, .bf16⟩
  | .hbm, ⟨3, _⟩ => ⟨S16384x1024, .bf16⟩
  | .hbm, ⟨4, _⟩ => ⟨S8x16384x192, .f32⟩
  | .hbm, ⟨5, _⟩ => ⟨S8x16384x192, .f32⟩
  | .hbm, ⟨6, _⟩ => ⟨S16384x1024, .f32⟩
  | .hbm, ⟨7, _⟩ => ⟨S16384x1024, .f32⟩
  | .hbm, ⟨8, _⟩ => ⟨S8x16384x16384, .f32⟩
  | .hbm, ⟨9, _⟩ => ⟨S16384, .i32⟩
  | .hbm, ⟨10, _⟩ => ⟨S1x1x16384, .i32⟩
  | .hbm, ⟨11, _⟩ => ⟨S1x16384x1, .i32⟩
  | .hbm, ⟨12, _⟩ => ⟨S1x16384x16384, .i32⟩
  | .hbm, ⟨13, _⟩ => ⟨S1x16384x16384, .i32⟩
  | .hbm, ⟨14, _⟩ => ⟨S1x16384x16384, .i1⟩
  | .hbm, ⟨15, _⟩ => ⟨S_, .f32⟩
  | .hbm, ⟨16, _⟩ => ⟨S_, .f32⟩
  | .hbm, ⟨17, _⟩ => ⟨S8x16384x16384, .i1⟩
  | .hbm, ⟨18, _⟩ => ⟨S8x16384x16384, .f32⟩
  | .hbm, ⟨19, _⟩ => ⟨S8x16384x16384, .f32⟩
  | .hbm, ⟨20, _⟩ => ⟨S_, .f32⟩
  | .hbm, ⟨21, _⟩ => ⟨S8x16384, .f32⟩
  | .hbm, ⟨22, _⟩ => ⟨S8x16384x1, .f32⟩
  | .hbm, ⟨23, _⟩ => ⟨S8x16384x16384, .f32⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384, .f32⟩
  | .hbm, ⟨28, _⟩ => ⟨S8x16384x1, .f32⟩
  | .hbm, ⟨29, _⟩ => ⟨S8x16384x16384, .f32⟩
  | .hbm, ⟨30, _⟩ => ⟨S8x16384x16384, .f32⟩
  | .hbm, ⟨31, _⟩ => ⟨S16384x8x128, .f32⟩
  | .hbm, ⟨32, _⟩ => ⟨S8x16384x128, .f32⟩
  | .hbm, ⟨33, _⟩ => ⟨S8x16384x128, .f32⟩
  | .hbm, ⟨34, _⟩ => ⟨S8x16384x1, .f32⟩
  | .hbm, ⟨35, _⟩ => ⟨S8x16384x1, .f32⟩
  | .hbm, ⟨36, _⟩ => ⟨S8x16x1x1024, .f32⟩
  | .hbm, ⟨37, _⟩ => ⟨S16384x8x128, .f32⟩
  | .hbm, ⟨38, _⟩ => ⟨S8x16384x128, .f32⟩
  | .hbm, ⟨39, _⟩ => ⟨S8x16384x128, .f32⟩
  | .hbm, ⟨40, _⟩ => ⟨S_, .f32⟩
  | .hbm, ⟨41, _⟩ => ⟨S8x16384, .f32⟩
  | .hbm, ⟨42, _⟩ => ⟨S8x16x1x1024, .f32⟩
  | .hbm, ⟨43, _⟩ => ⟨S8x16x192x1024, .f32⟩
  | .hbm, ⟨44, _⟩ => ⟨S8x16384x192, .f32⟩
  | .hbm, ⟨45, _⟩ => ⟨S16384x1024, .f32⟩
  | .local _ .vmem, ⟨0, _⟩ => ⟨S1x1024x192, .bf16⟩
  | .local _ .vmem, ⟨1, _⟩ => ⟨S1x1024x192, .bf16⟩
  | .local _ .vmem, ⟨2, _⟩ => ⟨S1x16384x192, .bf16⟩
  | .local _ .vmem, ⟨3, _⟩ => ⟨S16384x128, .bf16⟩
  | .local _ .vmem, ⟨4, _⟩ => ⟨S1x16x1x1024, .f32⟩
  | .local _ .vmem, ⟨5, _⟩ => ⟨S1x16x1x1024, .f32⟩
  | .local _ .vmem, ⟨6, _⟩ => ⟨S1x16x1x1024, .f32⟩
  | .local _ .vmem, ⟨7, _⟩ => ⟨S1x16x1x1024, .f32⟩
  | .local _ .vmem, ⟨8, _⟩ => ⟨S1024x128, .bf16⟩
  | .local _ .vmem, ⟨9, _⟩ => ⟨S1024x128, .bf16⟩
  | .local _ .vmem, ⟨10, _⟩ => ⟨S1x16x192x1024, .f32⟩
  | .local _ .vmem, ⟨11, _⟩ => ⟨S1x1024x192, .f32⟩
  | .local _ .vmem, ⟨12, _⟩ => ⟨S1x1024x192, .f32⟩
  | .local _ .vmem, ⟨13, _⟩ => ⟨S1024x128, .f32⟩
  | .local _ .vmem, ⟨14, _⟩ => ⟨S1024x128, .f32⟩
  | .local _ .vmem, ⟨15, _⟩ => ⟨S1024x192, .f32⟩
  | .local _ .vmem, ⟨16, _⟩ => ⟨S1024x128, .f32⟩
  | .local _ .vmem, ⟨17, _⟩ => ⟨S2x1024x1024, .f32⟩
  | .local _ .vmem, ⟨18, _⟩ => ⟨S2x1024x1024, .f32⟩
  | _, _ => ⟨S8x16384x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32_0 : Ref sig .tc := ⟨.hbm, 43, rfl⟩
abbrev main_v32_1 : Ref sig .tc := ⟨.hbm, 44, rfl⟩
abbrev main_v32_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c15_i32_10 : BitVec 32 := 15#32
  let v15 : BitVec 32 := Scalar.minsi arg1 c15_i32_10
  let c1024_i32 : BitVec 32 := 1024#32
  let v16 : BitVec 32 := Scalar.muli v15 c1024_i32
  v16
def k0_off1 (i : grid0.Coords) : Fin 3 → Nat :=
  let c0_11 : Index := 0#32
  let arg1 : BitVec 32 := BitVec.ofNat 32 (i 1).val
  let c15_i32_10 : BitVec 32 := 15#32
  let v15 : BitVec 32 := Scalar.minsi arg1 c15_i32_10
  let c1024_i32 : BitVec 32 := 1024#32
  let v16 : BitVec 32 := Scalar.muli v15 c1024_i32
  let v17 : BitVec 32 := v16
  let v18 : Index := Scalar.indexCast v17
  let c0_12 : Index := 0#32
  ![0, v18.toNat, 0]
def k0_mult2 (i : grid0.Coords) : BitVec 32 :=
  let arg1 : BitVec 32 := BitVec.ofNat 32 (i 1).val
  let c15_i32_10 : BitVec 32 := 15#32
  let v15 : BitVec 32 := Scalar.minsi arg1 c15_i32_10
  let c1024_i32_17 : BitVec 32 := 1024#32
  let v25 : BitVec 32 := Scalar.muli v15 c1024_i32_17
  v25
def k0_off2 (i : grid0.Coords) : Fin 2 → Nat :=
  let arg1 : BitVec 32 := BitVec.ofNat 32 (i 1).val
  let c15_i32_10 : BitVec 32 := 15#32
  let v15 : BitVec 32 := Scalar.minsi arg1 c15_i32_10
  let c1024_i32_17 : BitVec 32 := 1024#32
  let v25 : BitVec 32 := Scalar.muli v15 c1024_i32_17
  let v26 : BitVec 32 := v25
  let v27 : Index := Scalar.indexCast v26
  let c0_18 : Index := 0#32
  ![v27.toNat, 0]
def k0_mult3 (i : grid0.Coords) : BitVec 32 :=
  let arg1 : BitVec 32 := BitVec.ofNat 32 (i 1).val
  let c1_i32 : BitVec 32 := 1#32
  let v33 : BitVec 32 := Scalar.addi arg1 c1_i32
  let c15_i32_23 : BitVec 32 := 15#32
  let v34 : BitVec 32 := Scalar.minsi v33 c15_i32_23
  let c1024_i32_24 : BitVec 32 := 1024#32
  let v35 : BitVec 32 := Scalar.muli v34 c1024_i32_24
  v35
def k0_off3 (i : grid0.Coords) : Fin 3 → Nat :=
  let c0_25 : Index := 0#32
  let arg1 : BitVec 32 := BitVec.ofNat 32 (i 1).val
  let c1_i32 : BitVec 32 := 1#32
  let v33 : BitVec 32 := Scalar.addi arg1 c1_i32
  let c15_i32_23 : BitVec 32 := 15#32
  let v34 : BitVec 32 := Scalar.minsi v33 c15_i32_23
  let c1024_i32_24 : BitVec 32 := 1024#32
  let v35 : BitVec 32 := Scalar.muli v34 c1024_i32_24
  let v36 : BitVec 32 := v35
  let v37 : Index := Scalar.indexCast v36
  let c0_26 : Index := 0#32
  ![0, v37.toNat, 0]
def k0_mult4 (i : grid0.Coords) : BitVec 32 :=
  let arg1 : BitVec 32 := BitVec.ofNat 32 (i 1).val
  let c1_i32 : BitVec 32 := 1#32
  let v33 : BitVec 32 := Scalar.addi arg1 c1_i32
  let c15_i32_23 : BitVec 32 := 15#32
  let v34 : BitVec 32 := Scalar.minsi v33 c15_i32_23
  let c1024_i32_30 : BitVec 32 := 1024#32
  let v44 : BitVec 32 := Scalar.muli v34 c1024_i32_30
  v44
def k0_off4 (i : grid0.Coords) : Fin 2 → Nat :=
  let arg1 : BitVec 32 := BitVec.ofNat 32 (i 1).val
  let c1_i32 : BitVec 32 := 1#32
  let v33 : BitVec 32 := Scalar.addi arg1 c1_i32
  let c15_i32_23 : BitVec 32 := 15#32
  let v34 : BitVec 32 := Scalar.minsi v33 c15_i32_23
  let c1024_i32_30 : BitVec 32 := 1024#32
  let v44 : BitVec 32 := Scalar.muli v34 c1024_i32_30
  let v45 : BitVec 32 := v44
  let v46 : Index := Scalar.indexCast v45
  let c0_31 : Index := 0#32
  ![v46.toNat, 0]
def k0_off5 (i : grid0.Coords) : Fin 4 → Nat :=
  let c0_40 : Index := 0#32
  let arg1 : BitVec 32 := BitVec.ofNat 32 (i 1).val
  let v59 : Index := Scalar.indexCast arg1
  let c0_41 : Index := 0#32
  let c0_42 : Index := 0#32
  ![0, v59.toNat, 0, 0]
def k0_mult5 (i : grid0.Coords) : BitVec 32 :=
  let arg1 : BitVec 32 := BitVec.ofNat 32 (i 1).val
  let c1024_i32_51 : BitVec 32 := 1024#32
  let v76 : BitVec 32 := Scalar.muli arg1 c1024_i32_51
  v76
def k0_off6 (i : grid0.Coords) : Fin 2 → Nat :=
  let arg1 : BitVec 32 := BitVec.ofNat 32 (i 1).val
  let c1024_i32_51 : BitVec 32 := 1024#32
  let v76 : BitVec 32 := Scalar.muli arg1 c1024_i32_51
  let v77 : BitVec 32 := v76
  let v78 : Index := Scalar.indexCast v77
  let c0_52 : Index := 0#32
  ![v78.toNat, 0]
def k0_mult6 (i : grid0.Coords) : BitVec 32 :=
  let arg1 : BitVec 32 := BitVec.ofNat 32 (i 1).val
  let c1024_i32_58 : BitVec 32 := 1024#32
  let v86 : BitVec 32 := Scalar.muli arg1 c1024_i32_58
  v86
def k0_off7 (i : grid0.Coords) : Fin 3 → Nat :=
  let c0_59 : Index := 0#32
  let arg1 : BitVec 32 := BitVec.ofNat 32 (i 1).val
  let c1024_i32_58 : BitVec 32 := 1024#32
  let v86 : BitVec 32 := Scalar.muli arg1 c1024_i32_58
  let v87 : BitVec 32 := v86
  let v88 : Index := Scalar.indexCast v87
  let c0_60 : Index := 0#32
  ![0, v88.toNat, 0]
def k0_off8 (i : grid0.Coords) : Fin 4 → Nat :=
  let c0_64 : Index := 0#32
  let arg1 : BitVec 32 := BitVec.ofNat 32 (i 1).val
  let v96 : Index := Scalar.indexCast arg1
  let c0_65 : Index := 0#32
  let c0_66 : Index := 0#32
  ![0, v96.toNat, 0, 0]
@[reducible] def k0_t1_loop (i : grid0.Coords) : Scf.Loop 32 :=
  let c0_i32_73 : BitVec 32 := 0#32
  let c15_i32 : BitVec 32 := 15#32
  let arg1 : BitVec 32 := BitVec.ofNat 32 (i 1).val
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_75 : BitVec 32 := 1#32
  ⟨c0_i32_73, v110, c1_i32_75⟩
def k0_mult7 (i : grid0.Coords) (k0_t1 : Fin (k0_t1_loop i).trips) : BitVec 32 :=
  let arg1 : BitVec 32 := BitVec.ofNat 32 (i 1).val
  let c1_i32_89 : BitVec 32 := 1#32
  let v121 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v122 : BitVec 32 := Scalar.muli c2_i32 arg15
  let v123 : BitVec 32 := Scalar.addi v121 v122
  let c1_i32_90 : BitVec 32 := 1#32
  let v124 : BitVec 32 := Scalar.addi v123 c1_i32_90
  let c15_i32_91 : BitVec 32 := 15#32
  let v125 : BitVec 32 := Scalar.minsi v124 c15_i32_91
  let c1024_i32_92 : BitVec 32 := 1024#32
  let v126 : BitVec 32 := Scalar.muli v125 c1024_i32_92
  v126
def k0_off9 (i : grid0.Coords) (k0_t1 : Fin (k0_t1_loop i).trips) (c1_i32_89 : BitVec 32) : Fin 3 → Nat :=
  let c0_93 : Index := 0#32
  let arg1 : BitVec 32 := BitVec.ofNat 32 (i 1).val
  let v121 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v122 : BitVec 32 := Scalar.muli c2_i32 arg15
  let v123 : BitVec 32 := Scalar.addi v121 v122
  let c1_i32_90 : BitVec 32 := 1#32
  let v124 : BitVec 32 := Scalar.addi v123 c1_i32_90
  let c15_i32_91 : BitVec 32 := 15#32
  let v125 : BitVec 32 := Scalar.minsi v124 c15_i32_91
  let c1024_i32_92 : BitVec 32 := 1024#32
  let v126 : BitVec 32 := Scalar.muli v125 c1024_i32_92
  let v127 : BitVec 32 := v126
  let v128 : Index := Scalar.indexCast v127
  let c0_94 : Index := 0#32
  ![0, v128.toNat, 0]
def k0_mult8 (i : grid0.Coords) (k0_t1 : Fin (k0_t1_loop i).trips) : BitVec 32 :=
  let arg1 : BitVec 32 := BitVec.ofNat 32 (i 1).val
  let c1_i32_89 : BitVec 32 := 1#32
  let v121 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v122 : BitVec 32 := Scalar.muli c2_i32 arg15
  let v123 : BitVec 32 := Scalar.addi v121 v122
  let c1_i32_90 : BitVec 32 := 1#32
  let v124 : BitVec 32 := Scalar.addi v123 c1_i32_90
  let c15_i32_91 : BitVec 32 := 15#32
  let v125 : BitVec 32 := Scalar.minsi v124 c15_i32_91
  let c1024_i32_99 : BitVec 32 := 1024#32
  let v135 : BitVec 32 := Scalar.muli v125 c1024_i32_99
  v135
def k0_off10 (i : grid0.Coords) (k0_t1 : Fin (k0_t1_loop i).trips) (c1_i32_89 : BitVec 32) : Fin 2 → Nat :=
  let arg1 : BitVec 32 := BitVec.ofNat 32 (i 1).val
  let v121 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v122 : BitVec 32 := Scalar.muli c2_i32 arg15
  let v123 : BitVec 32 := Scalar.addi v121 v122
  let c1_i32_90 : BitVec 32 := 1#32
  let v124 : BitVec 32 := Scalar.addi v123 c1_i32_90
  let c15_i32_91 : BitVec 32 := 15#32
  let v125 : BitVec 32 := Scalar.minsi v124 c15_i32_91
  let c1024_i32_99 : BitVec 32 := 1024#32
  let v135 : BitVec 32 := Scalar.muli v125 c1024_i32_99
  let v136 : BitVec 32 := v135
  let v137 : Index := Scalar.indexCast v136
  let c0_100 : Index := 0#32
  ![v137.toNat, 0]
def k0_off11 (i : grid0.Coords) (k0_t1 : Fin (k0_t1_loop i).trips) (c1_i32_89 : BitVec 32) : Fin 4 → Nat :=
  let c0_108 : Index := 0#32
  let arg1 : BitVec 32 := BitVec.ofNat 32 (i 1).val
  let v121 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v122 : BitVec 32 := Scalar.muli c2_i32 arg15
  let v123 : BitVec 32 := Scalar.addi v121 v122
  let v145 : Index := Scalar.indexCast v123
  let c0_109 : Index := 0#32
  let c0_110 : Index := 0#32
  ![0, v145.toNat, 0, 0]
def k0_mult9 (i : grid0.Coords) (k0_t1 : Fin (k0_t1_loop i).trips) : BitVec 32 :=
  let arg1 : BitVec 32 := BitVec.ofNat 32 (i 1).val
  let c1_i32_89 : BitVec 32 := 1#32
  let v121 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v122 : BitVec 32 := Scalar.muli c2_i32 arg15
  let v123 : BitVec 32 := Scalar.addi v121 v122
  let c1024_i32_119 : BitVec 32 := 1024#32
  let v162 : BitVec 32 := Scalar.muli v123 c1024_i32_119
  v162
def k0_off12 (i : grid0.Coords) (k0_t1 : Fin (k0_t1_loop i).trips) (c1_i32_89 : BitVec 32) : Fin 2 → Nat :=
  let arg1 : BitVec 32 := BitVec.ofNat 32 (i 1).val
  let v121 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v122 : BitVec 32 := Scalar.muli c2_i32 arg15
  let v123 : BitVec 32 := Scalar.addi v121 v122
  let c1024_i32_119 : BitVec 32 := 1024#32
  let v162 : BitVec 32 := Scalar.muli v123 c1024_i32_119
  let v163 : BitVec 32 := v162
  let v164 : Index := Scalar.indexCast v163
  let c0_120 : Index := 0#32
  ![v164.toNat, 0]
def k0_mult10 (i : grid0.Coords) (k0_t1 : Fin (k0_t1_loop i).trips) : BitVec 32 :=
  let arg1 : BitVec 32 := BitVec.ofNat 32 (i 1).val
  let c1_i32_89 : BitVec 32 := 1#32
  let v121 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v122 : BitVec 32 := Scalar.muli c2_i32 arg15
  let v123 : BitVec 32 := Scalar.addi v121 v122
  let c1024_i32_126 : BitVec 32 := 1024#32
  let v172 : BitVec 32 := Scalar.muli v123 c1024_i32_126
  v172
def k0_off13 (i : grid0.Coords) (k0_t1 : Fin (k0_t1_loop i).trips) (c1_i32_89 : BitVec 32) : Fin 3 → Nat :=
  let c0_127 : Index := 0#32
  let arg1 : BitVec 32 := BitVec.ofNat 32 (i 1).val
  let v121 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v122 : BitVec 32 := Scalar.muli c2_i32 arg15
  let v123 : BitVec 32 := Scalar.addi v121 v122
  let c1024_i32_126 : BitVec 32 := 1024#32
  let v172 : BitVec 32 := Scalar.muli v123 c1024_i32_126
  let v173 : BitVec 32 := v172
  let v174 : Index := Scalar.indexCast v173
  let c0_128 : Index := 0#32
  ![0, v174.toNat, 0]
def k0_off14 (i : grid0.Coords) (k0_t1 : Fin (k0_t1_loop i).trips) (c1_i32_89 : BitVec 32) : Fin 4 → Nat :=
  let c0_132 : Index := 0#32
  let arg1 : BitVec 32 := BitVec.ofNat 32 (i 1).val
  let v121 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v122 : BitVec 32 := Scalar.muli c2_i32 arg15
  let v123 : BitVec 32 := Scalar.addi v121 v122
  let v182 : Index := Scalar.indexCast v123
  let c0_133 : Index := 0#32
  let c0_134 : Index := 0#32
  ![0, v182.toNat, 0, 0]
def k0_mult11 (i : grid0.Coords) (k0_t1 : Fin (k0_t1_loop i).trips) : BitVec 32 :=
  let arg1 : BitVec 32 := BitVec.ofNat 32 (i 1).val
  let c2_i32_139 : BitVec 32 := 2#32
  let v191 : BitVec 32 := Scalar.addi arg1 c2_i32_139
  let c2_i32_140 : BitVec 32 := 2#32
  let c0_i32_73 : BitVec 32 := 0#32
  let c1_i32_75 : BitVec 32 := 1#32
  let arg15 : BitVec 32 := Scf.iv c0_i32_73 c1_i32_75 k0_t1
  let v192 : BitVec 32 := Scalar.muli c2_i32_140 arg15
  let v193 : BitVec 32 := Scalar.addi v191 v192
  let c1_i32_141 : BitVec 32 := 1#32
  let v194 : BitVec 32 := Scalar.addi v193 c1_i32_141
  let c15_i32_142 : BitVec 32 := 15#32
  let v195 : BitVec 32 := Scalar.minsi v194 c15_i32_142
  let c1024_i32_143 : BitVec 32 := 1024#32
  let v196 : BitVec 32 := Scalar.muli v195 c1024_i32_143
  v196
def k0_mult12 (i : grid0.Coords) (k0_t1 : Fin (k0_t1_loop i).trips) : BitVec 32 :=
  let arg1 : BitVec 32 := BitVec.ofNat 32 (i 1).val
  let c2_i32_139 : BitVec 32 := 2#32
  let v191 : BitVec 32 := Scalar.addi arg1 c2_i32_139
  let c2_i32_140 : BitVec 32 := 2#32
  let c0_i32_73 : BitVec 32 := 0#32
  let c1_i32_75 : BitVec 32 := 1#32
  let arg15 : BitVec 32 := Scf.iv c0_i32_73 c1_i32_75 k0_t1
  let v192 : BitVec 32 := Scalar.muli c2_i32_140 arg15
  let v193 : BitVec 32 := Scalar.addi v191 v192
  let c1_i32_141 : BitVec 32 := 1#32
  let v194 : BitVec 32 := Scalar.addi v193 c1_i32_141
  let c15_i32_142 : BitVec 32 := 15#32
  let v195 : BitVec 32 := Scalar.minsi v194 c15_i32_142
  let c1024_i32_150 : BitVec 32 := 1024#32
  let v205 : BitVec 32 := Scalar.muli v195 c1024_i32_150
  v205
def k0_mult13 (i : grid0.Coords) (k0_t1 : Fin (k0_t1_loop i).trips) : BitVec 32 :=
  let arg1 : BitVec 32 := BitVec.ofNat 32 (i 1).val
  let c2_i32_139 : BitVec 32 := 2#32
  let v191 : BitVec 32 := Scalar.addi arg1 c2_i32_139
  let c2_i32_140 : BitVec 32 := 2#32
  let c0_i32_73 : BitVec 32 := 0#32
  let c1_i32_75 : BitVec 32 := 1#32
  let arg15 : BitVec 32 := Scf.iv c0_i32_73 c1_i32_75 k0_t1
  let v192 : BitVec 32 := Scalar.muli c2_i32_140 arg15
  let v193 : BitVec 32 := Scalar.addi v191 v192
  let c1024_i32_170 : BitVec 32 := 1024#32
  let v232 : BitVec 32 := Scalar.muli v193 c1024_i32_170
  v232
def k0_mult14 (i : grid0.Coords) (k0_t1 : Fin (k0_t1_loop i).trips) : BitVec 32 :=
  let arg1 : BitVec 32 := BitVec.ofNat 32 (i 1).val
  let c2_i32_139 : BitVec 32 := 2#32
  let v191 : BitVec 32 := Scalar.addi arg1 c2_i32_139
  let c2_i32_140 : BitVec 32 := 2#32
  let c0_i32_73 : BitVec 32 := 0#32
  let c1_i32_75 : BitVec 32 := 1#32
  let arg15 : BitVec 32 := Scf.iv c0_i32_73 c1_i32_75 k0_t1
  let v192 : BitVec 32 := Scalar.muli c2_i32_140 arg15
  let v193 : BitVec 32 := Scalar.addi v191 v192
  let c1024_i32_177 : BitVec 32 := 1024#32
  let v242 : BitVec 32 := Scalar.muli v193 c1024_i32_177
  v242
@[reducible] def k0_t2_loop (i : grid0.Coords) : Scf.Loop 32 :=
  let c0_i32_73 : BitVec 32 := 0#32
  let c15_i32 : BitVec 32 := 15#32
  let arg1 : BitVec 32 := BitVec.ofNat 32 (i 1).val
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let v107 : BitVec 32 := Scalar.addi c0_i32_73 v106
  let c1_i32_76 : BitVec 32 := 1#32
  ⟨v110, v107, c1_i32_76⟩
def k0_mult15 (i : grid0.Coords) (k0_t2 : Fin (k0_t2_loop i).trips) : BitVec 32 :=
  let arg1 : BitVec 32 := BitVec.ofNat 32 (i 1).val
  let c1_i32_89 : BitVec 32 := 1#32
  let v121 : BitVec 32 := Scalar.addi arg1 c1_i32_89
  let c2_i32 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v122 : BitVec 32 := Scalar.muli c2_i32 arg15
  let v123 : BitVec 32 := Scalar.addi v121 v122
  let c1_i32_90 : BitVec 32 := 1#32
  let v124 : BitVec 32 := Scalar.addi v123 c1_i32_90
  let c15_i32_91 : BitVec 32 := 15#32
  let v125 : BitVec 32 := Scalar.minsi v124 c15_i32_91
  let c1024_i32_92 : BitVec 32 := 1024#32
  let v126 : BitVec 32 := Scalar.muli v125 c1024_i32_92
  v126
def k0_off15 (i : grid0.Coords) (k0_t2 : Fin (k0_t2_loop i).trips) (c1_i32_89 : BitVec 32) : Fin 3 → Nat :=
  let c0_93 : Index := 0#32
  let arg1 : BitVec 32 := BitVec.ofNat 32 (i 1).val
  let v121 : BitVec 32 := Scalar.addi arg1 c1_i32_89
  let c2_i32 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v122 : BitVec 32 := Scalar.muli c2_i32 arg15
  let v123 : BitVec 32 := Scalar.addi v121 v122
  let c1_i32_90 : BitVec 32 := 1#32
  let v124 : BitVec 32 := Scalar.addi v123 c1_i32_90
  let c15_i32_91 : BitVec 32 := 15#32
  let v125 : BitVec 32 := Scalar.minsi v124 c15_i32_91
  let c1024_i32_92 : BitVec 32 := 1024#32
  let v126 : BitVec 32 := Scalar.muli v125 c1024_i32_92
  let v127 : BitVec 32 := v126
  let v128 : Index := Scalar.indexCast v127
  let c0_94 : Index := 0#32
  ![0, v128.toNat, 0]
def k0_mult16 (i : grid0.Coords) (k0_t2 : Fin (k0_t2_loop i).trips) : BitVec 32 :=
  let arg1 : BitVec 32 := BitVec.ofNat 32 (i 1).val
  let c1_i32_89 : BitVec 32 := 1#32
  let v121 : BitVec 32 := Scalar.addi arg1 c1_i32_89
  let c2_i32 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v122 : BitVec 32 := Scalar.muli c2_i32 arg15
  let v123 : BitVec 32 := Scalar.addi v121 v122
  let c1_i32_90 : BitVec 32 := 1#32
  let v124 : BitVec 32 := Scalar.addi v123 c1_i32_90
  let c15_i32_91 : BitVec 32 := 15#32
  let v125 : BitVec 32 := Scalar.minsi v124 c15_i32_91
  let c1024_i32_99 : BitVec 32 := 1024#32
  let v135 : BitVec 32 := Scalar.muli v125 c1024_i32_99
  v135
def k0_off16 (i : grid0.Coords) (k0_t2 : Fin (k0_t2_loop i).trips) (c1_i32_89 : BitVec 32) : Fin 2 → Nat :=
  let arg1 : BitVec 32 := BitVec.ofNat 32 (i 1).val
  let v121 : BitVec 32 := Scalar.addi arg1 c1_i32_89
  let c2_i32 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v122 : BitVec 32 := Scalar.muli c2_i32 arg15
  let v123 : BitVec 32 := Scalar.addi v121 v122
  let c1_i32_90 : BitVec 32 := 1#32
  let v124 : BitVec 32 := Scalar.addi v123 c1_i32_90
  let c15_i32_91 : BitVec 32 := 15#32
  let v125 : BitVec 32 := Scalar.minsi v124 c15_i32_91
  let c1024_i32_99 : BitVec 32 := 1024#32
  let v135 : BitVec 32 := Scalar.muli v125 c1024_i32_99
  let v136 : BitVec 32 := v135
  let v137 : Index := Scalar.indexCast v136
  let c0_100 : Index := 0#32
  ![v137.toNat, 0]
def k0_off17 (i : grid0.Coords) (k0_t2 : Fin (k0_t2_loop i).trips) (c1_i32_89 : BitVec 32) : Fin 4 → Nat :=
  let c0_108 : Index := 0#32
  let arg1 : BitVec 32 := BitVec.ofNat 32 (i 1).val
  let v121 : BitVec 32 := Scalar.addi arg1 c1_i32_89
  let c2_i32 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v122 : BitVec 32 := Scalar.muli c2_i32 arg15
  let v123 : BitVec 32 := Scalar.addi v121 v122
  let v145 : Index := Scalar.indexCast v123
  let c0_109 : Index := 0#32
  let c0_110 : Index := 0#32
  ![0, v145.toNat, 0, 0]
def k0_mult17 (i : grid0.Coords) (k0_t2 : Fin (k0_t2_loop i).trips) : BitVec 32 :=
  let arg1 : BitVec 32 := BitVec.ofNat 32 (i 1).val
  let c1_i32_89 : BitVec 32 := 1#32
  let v121 : BitVec 32 := Scalar.addi arg1 c1_i32_89
  let c2_i32 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v122 : BitVec 32 := Scalar.muli c2_i32 arg15
  let v123 : BitVec 32 := Scalar.addi v121 v122
  let c1024_i32_119 : BitVec 32 := 1024#32
  let v162 : BitVec 32 := Scalar.muli v123 c1024_i32_119
  v162
def k0_off18 (i : grid0.Coords) (k0_t2 : Fin (k0_t2_loop i).trips) (c1_i32_89 : BitVec 32) : Fin 2 → Nat :=
  let arg1 : BitVec 32 := BitVec.ofNat 32 (i 1).val
  let v121 : BitVec 32 := Scalar.addi arg1 c1_i32_89
  let c2_i32 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v122 : BitVec 32 := Scalar.muli c2_i32 arg15
  let v123 : BitVec 32 := Scalar.addi v121 v122
  let c1024_i32_119 : BitVec 32 := 1024#32
  let v162 : BitVec 32 := Scalar.muli v123 c1024_i32_119
  let v163 : BitVec 32 := v162
  let v164 : Index := Scalar.indexCast v163
  let c0_120 : Index := 0#32
  ![v164.toNat, 0]
def k0_mult18 (i : grid0.Coords) (k0_t2 : Fin (k0_t2_loop i).trips) : BitVec 32 :=
  let arg1 : BitVec 32 := BitVec.ofNat 32 (i 1).val
  let c1_i32_89 : BitVec 32 := 1#32
  let v121 : BitVec 32 := Scalar.addi arg1 c1_i32_89
  let c2_i32 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v122 : BitVec 32 := Scalar.muli c2_i32 arg15
  let v123 : BitVec 32 := Scalar.addi v121 v122
  let c1024_i32_126 : BitVec 32 := 1024#32
  let v172 : BitVec 32 := Scalar.muli v123 c1024_i32_126
  v172
def k0_off19 (i : grid0.Coords) (k0_t2 : Fin (k0_t2_loop i).trips) (c1_i32_89 : BitVec 32) : Fin 3 → Nat :=
  let c0_127 : Index := 0#32
  let arg1 : BitVec 32 := BitVec.ofNat 32 (i 1).val
  let v121 : BitVec 32 := Scalar.addi arg1 c1_i32_89
  let c2_i32 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v122 : BitVec 32 := Scalar.muli c2_i32 arg15
  let v123 : BitVec 32 := Scalar.addi v121 v122
  let c1024_i32_126 : BitVec 32 := 1024#32
  let v172 : BitVec 32 := Scalar.muli v123 c1024_i32_126
  let v173 : BitVec 32 := v172
  let v174 : Index := Scalar.indexCast v173
  let c0_128 : Index := 0#32
  ![0, v174.toNat, 0]
def k0_off20 (i : grid0.Coords) (k0_t2 : Fin (k0_t2_loop i).trips) (c1_i32_89 : BitVec 32) : Fin 4 → Nat :=
  let c0_132 : Index := 0#32
  let arg1 : BitVec 32 := BitVec.ofNat 32 (i 1).val
  let v121 : BitVec 32 := Scalar.addi arg1 c1_i32_89
  let c2_i32 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v122 : BitVec 32 := Scalar.muli c2_i32 arg15
  let v123 : BitVec 32 := Scalar.addi v121 v122
  let v182 : Index := Scalar.indexCast v123
  let c0_133 : Index := 0#32
  let c0_134 : Index := 0#32
  ![0, v182.toNat, 0, 0]
def k0_mult19 (i : grid0.Coords) (k0_t2 : Fin (k0_t2_loop i).trips) : BitVec 32 :=
  let arg1 : BitVec 32 := BitVec.ofNat 32 (i 1).val
  let c2_i32_139 : BitVec 32 := 2#32
  let v191 : BitVec 32 := Scalar.addi arg1 c2_i32_139
  let c2_i32_140 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v192 : BitVec 32 := Scalar.muli c2_i32_140 arg15
  let v193 : BitVec 32 := Scalar.addi v191 v192
  let c1_i32_141 : BitVec 32 := 1#32
  let v194 : BitVec 32 := Scalar.addi v193 c1_i32_141
  let c15_i32_142 : BitVec 32 := 15#32
  let v195 : BitVec 32 := Scalar.minsi v194 c15_i32_142
  let c1024_i32_143 : BitVec 32 := 1024#32
  let v196 : BitVec 32 := Scalar.muli v195 c1024_i32_143
  v196
def k0_mult20 (i : grid0.Coords) (k0_t2 : Fin (k0_t2_loop i).trips) : BitVec 32 :=
  let arg1 : BitVec 32 := BitVec.ofNat 32 (i 1).val
  let c2_i32_139 : BitVec 32 := 2#32
  let v191 : BitVec 32 := Scalar.addi arg1 c2_i32_139
  let c2_i32_140 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v192 : BitVec 32 := Scalar.muli c2_i32_140 arg15
  let v193 : BitVec 32 := Scalar.addi v191 v192
  let c1_i32_141 : BitVec 32 := 1#32
  let v194 : BitVec 32 := Scalar.addi v193 c1_i32_141
  let c15_i32_142 : BitVec 32 := 15#32
  let v195 : BitVec 32 := Scalar.minsi v194 c15_i32_142
  let c1024_i32_150 : BitVec 32 := 1024#32
  let v205 : BitVec 32 := Scalar.muli v195 c1024_i32_150
  v205
def k0_mult21 (i : grid0.Coords) (k0_t2 : Fin (k0_t2_loop i).trips) : BitVec 32 :=
  let arg1 : BitVec 32 := BitVec.ofNat 32 (i 1).val
  let c2_i32_139 : BitVec 32 := 2#32
  let v191 : BitVec 32 := Scalar.addi arg1 c2_i32_139
  let c2_i32_140 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v192 : BitVec 32 := Scalar.muli c2_i32_140 arg15
  let v193 : BitVec 32 := Scalar.addi v191 v192
  let c1024_i32_170 : BitVec 32 := 1024#32
  let v232 : BitVec 32 := Scalar.muli v193 c1024_i32_170
  v232
def k0_mult22 (i : grid0.Coords) (k0_t2 : Fin (k0_t2_loop i).trips) : BitVec 32 :=
  let arg1 : BitVec 32 := BitVec.ofNat 32 (i 1).val
  let c2_i32_139 : BitVec 32 := 2#32
  let v191 : BitVec 32 := Scalar.addi arg1 c2_i32_139
  let c2_i32_140 : BitVec 32 := 2#32
  let c0_i32_73 : BitVec 32 := 0#32
  let c15_i32 : BitVec 32 := 15#32
  let v14 : BitVec 32 := Scalar.subi c15_i32 arg1
  let c1_i32_71 : BitVec 32 := 1#32
  let v105 : BitVec 32 := Scalar.shrsi v14 c1_i32_71
  let v106 : BitVec 32 := Scalar.subi v105 c0_i32_73
  let c1_i32_74 : BitVec 32 := 1#32
  let v108 : BitVec 32 := Scalar.divsi v106 c1_i32_74
  let v109 : BitVec 32 := Scalar.muli v108 c1_i32_74
  let v110 : BitVec 32 := Scalar.addi c0_i32_73 v109
  let c1_i32_76 : BitVec 32 := 1#32
  let arg15 : BitVec 32 := Scf.iv v110 c1_i32_76 k0_t2
  let v192 : BitVec 32 := Scalar.muli c2_i32_140 arg15
  let v193 : BitVec 32 := Scalar.addi v191 v192
  let c1024_i32_177 : BitVec 32 := 1024#32
  let v242 : BitVec 32 := Scalar.muli v193 c1024_i32_177
  v242
def k0_cond2 (i : grid0.Coords) : BitVec 1 :=
  let c15_i32 : BitVec 32 := 15#32
  let arg1 : BitVec 32 := BitVec.ofNat 32 (i 1).val
  let v14 : BitVec 32 := Scalar.subi c15_i32 arg1
  let c1_i32_77 : BitVec 32 := 1#32
  let v111 : BitVec 32 := Scalar.andi v14 c1_i32_77
  let c1_i32_78 : BitVec 32 := 1#32
  let v112 : BitVec 1 := Scalar.cmpi .eq v111 c1_i32_78
  let v113 : BitVec 32 := Scalar.extui v112
  let c0_i32_79 : BitVec 32 := 0#32
  let v114 : BitVec 1 := Scalar.cmpi .ne v113 c0_i32_79
  v114

def k0_mult23 : BitVec 32 :=
  let c15360_i32 : BitVec 32 := 15360#32
  c15360_i32
def k0_mult24 : BitVec 32 :=
  let c15360_i32_110 : BitVec 32 := 15360#32
  c15360_i32_110
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16384x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x16x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x16x192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x1024x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x16384x192 : Shape := ⟨3, ![8, 16384, 192]⟩
abbrev S16384x1024 : Shape := ⟨2, ![16384, 1024]⟩
abbrev S16384x8x128 : Shape := ⟨3, ![16384, 8, 128]⟩
abbrev S8x16384x128 : Shape := ⟨3, ![8, 16384, 128]⟩
abbrev S8x16384x16384 : Shape := ⟨3, ![8, 16384, 16384]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S_ : Shape := ⟨0, ![]⟩
abbrev S8x16384 : Shape := ⟨2, ![8, 16384]⟩
abbrev S8x16384x1 : Shape := ⟨3, ![8, 16384, 1]⟩
abbrev S8x128x16384 : Shape := ⟨3, ![8, 128, 16384]⟩
abbrev S8x16x1024x192 : Shape := ⟨4, ![8, 16, 1024, 192]⟩
abbrev S8x16x192x1024 : Shape := ⟨4, ![8, 16, 192, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8x16384x192, .bf16⟩
  | .hbm, ⟨1, _⟩ => ⟨S8x16384x192, .bf16⟩
  | .hbm, ⟨2, _⟩ => ⟨S16384x1024, .bf16⟩
  | .hbm, ⟨3, _⟩ => ⟨S16384x1024, .bf16⟩
  | .hbm, ⟨4, _⟩ => ⟨S8x16384x192, .f32⟩
  | .hbm, ⟨5, _⟩ => ⟨S8x16384x192, .f32⟩
  | .hbm, ⟨6, _⟩ => ⟨S16384x1024, .f32⟩
  | .hbm, ⟨7, _⟩ => ⟨S16384x1024, .f32⟩
  | .hbm, ⟨8, _⟩ => ⟨S16384x8x128, .f32⟩
  | .hbm, ⟨9, _⟩ => ⟨S8x16384x128, .f32⟩
  | .hbm, ⟨10, _⟩ => ⟨S8x16384x16384, .f32⟩
  | .hbm, ⟨11, _⟩ => ⟨S16384, .i32⟩
  | .hbm, ⟨12, _⟩ => ⟨S1x1x16384, .i32⟩
  | .hbm, ⟨13, _⟩ => ⟨S1x16384x1, .i32⟩
  | .hbm, ⟨14, _⟩ => ⟨S1x16384x16384, .i32⟩
  | .hbm, ⟨15, _⟩ => ⟨S1x16384x16384, .i32⟩
  | .hbm, ⟨16, _⟩ => ⟨S1x16384x16384, .i1⟩
  | .hbm, ⟨17, _⟩ => ⟨S_, .f32⟩
  | .hbm, ⟨18, _⟩ => ⟨S_, .f32⟩
  | .hbm, ⟨19, _⟩ => ⟨S8x16384x16384, .i1⟩
  | .hbm, ⟨20, _⟩ => ⟨S8x16384x16384, .f32⟩
  | .hbm, ⟨21, _⟩ => ⟨S8x16384x16384, .f32⟩
  | .hbm, ⟨22, _⟩ => ⟨S_, .f32⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S8x16384x1, .f32⟩
  | .hbm, ⟨27, _⟩ => ⟨S8x16384x16384, .f32⟩
  | .hbm, ⟨28, _⟩ => ⟨S8x16384x16384, .i1⟩
  | .hbm, ⟨29, _⟩ => ⟨S8x16384x16384, .f32⟩
  | .hbm, ⟨30, _⟩ => ⟨S_, .f32⟩
  | .hbm, ⟨31, _⟩ => ⟨S8x16384, .f32⟩
  | .hbm, ⟨32, _⟩ => ⟨S_, .f32⟩
  | .hbm, ⟨33, _⟩ => ⟨S8x16384, .f32⟩
  | .hbm, ⟨34, _⟩ => ⟨S8x16384, .f32⟩
  | .hbm, ⟨35, _⟩ => ⟨S_, .f32⟩
  | .hbm, ⟨36, _⟩ => ⟨S8x16384, .f32⟩
  | .hbm, ⟨37, _⟩ => ⟨S8x16384, .i1⟩
  | .hbm, ⟨38, _⟩ => ⟨S_, .f32⟩
  | .hbm, ⟨39, _⟩ => ⟨S8x16384, .f32⟩
  | .hbm, ⟨40, _⟩ => ⟨S8x16384, .i1⟩
  | .hbm, ⟨41, _⟩ => ⟨S_, .f32⟩
  | .hbm, ⟨42, _⟩ => ⟨S8x16384, .f32⟩
  | .hbm, ⟨43, _⟩ => ⟨S_, .f32⟩
  | .hbm, ⟨44, _⟩ => ⟨S8x16384, .f32⟩
  | .hbm, ⟨45, _⟩ => ⟨S_, .f32⟩
  | .hbm, ⟨46, _⟩ => ⟨S8x16384, .f32⟩
  | .hbm, ⟨47, _⟩ => ⟨S8x16384, .f32⟩
  | .hbm, ⟨48, _⟩ => ⟨S8x16384, .f32⟩
  | .hbm, ⟨49, _⟩ => ⟨S8x16384x1, .f32⟩
  | .hbm, ⟨50, _⟩ => ⟨S8x16384x16384, .f32⟩
  | .hbm, ⟨51, _⟩ => ⟨S8x16384x16384, .f32⟩
  | .hbm, ⟨52, _⟩ => ⟨S8x16384x16384, .f32⟩
  | .hbm, ⟨53, _⟩ => ⟨S_, .f32⟩
  | .hbm, ⟨54, _⟩ => ⟨S8x16384, .f32⟩
  | .hbm, ⟨55, _⟩ => ⟨S8x16384x1, .f32⟩
  | .hbm, ⟨56, _⟩ => ⟨S8x16384x16384, .f32⟩
  | .hbm, ⟨57, _⟩ => ⟨S8x16384x16384, .f32⟩
  | .hbm, ⟨58, _⟩ => ⟨S8x16384x1, .f32⟩
  | .hbm, ⟨59, _⟩ => ⟨S_, .f32⟩
  | .hbm, ⟨60, _⟩ => ⟨S8x16384x1, .f32⟩
  | .hbm, ⟨61, _⟩ => ⟨S8x16384x1, .f32⟩
  | .hbm, ⟨62, _⟩ => ⟨S8x16384x128, .f32⟩
  | .hbm, ⟨63, _⟩ => ⟨S16384x8x128, .f32⟩
  | .hbm, ⟨64, _⟩ => ⟨S8x16384x128, .f32⟩
  | .hbm, ⟨65, _⟩ => ⟨S8x128x16384, .f32⟩
  | .hbm, ⟨66, _⟩ => ⟨S8x16384x128, .f32⟩
  | .hbm, ⟨67, _⟩ => ⟨S8x16384x16384, .f32⟩
  | .hbm, ⟨68, _⟩ => ⟨S8x16384x16384, .f32⟩
  | .hbm, ⟨69, _⟩ => ⟨S8x16384x16384, .f32⟩
  | .hbm, ⟨70, _⟩ => ⟨S8x16384x16384, .f32⟩
  | .hbm, ⟨71, _⟩ => ⟨S_, .f32⟩
  | .hbm, ⟨72, _⟩ => ⟨S8x16384, .f32⟩
  | .hbm, ⟨73, _⟩ => ⟨S8x16384x1, .f32⟩
  | .hbm, ⟨74, _⟩ => ⟨S8x16384x1, .f32⟩
  | .hbm, ⟨75, _⟩ => ⟨S8x16384x16384, .f32⟩
  | .hbm, ⟨76, _⟩ => ⟨S8x16384x16384, .f32⟩
  | .hbm, ⟨77, _⟩ => ⟨S_, .f32⟩
  | .hbm, ⟨78, _⟩ => ⟨S8x16384, .f32⟩
  | .hbm, ⟨79, _⟩ => ⟨S8x16384x16384, .f32⟩
  | .hbm, ⟨80, _⟩ => ⟨S8x16384x16384, .f32⟩
  | .hbm, ⟨81, _⟩ => ⟨S8x16384x16384, .f32⟩
  | .hbm, ⟨82, _⟩ => ⟨S_, .f32⟩
  | .hbm, ⟨83, _⟩ => ⟨S8x16384x16384, .f32⟩
  | .hbm, ⟨84, _⟩ => ⟨S8x16384x16384, .f32⟩
  | .hbm, ⟨85, _⟩ => ⟨S8x16384x192, .f32⟩
  | .hbm, ⟨86, _⟩ => ⟨S8x16384x192, .f32⟩
  | .hbm, ⟨87, _⟩ => ⟨S8x16x1024x192, .f32⟩
  | .hbm, ⟨88, _⟩ => ⟨S8x16x192x1024, .f32⟩
  | .hbm, ⟨89, _⟩ => ⟨S16384x8x128, .f32⟩
  | .hbm, ⟨90, _⟩ => ⟨S16384x1024, .f32⟩
  | _, _ => ⟨S8x16384x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_v13_1 : Ref sig .tc := ⟨.hbm, 19, rfl⟩
abbrev main_call0_v2 : Ref sig .tc := ⟨.hbm, 20, rfl⟩
abbrev main_v13_0 : Ref sig .tc := ⟨.hbm, 21, rfl⟩
abbrev main_call0_cst : Ref sig .tc := ⟨.hbm, 22, rfl⟩
abbrev main_v13_2 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call1_cst : Ref sig .tc := ⟨.hbm, 82, rfl⟩
abbrev main_call1_v0 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== FfnFwd.lean ====
abbrev S16384x1024 : Shape := ⟨2, ![16384, 1024]⟩
abbrev S1x1024 : Shape := ⟨2, ![1, 1024]⟩
abbrev S4x16x704x1024 : Shape := ⟨4, ![4, 16, 704, 1024]⟩
abbrev S4x8x704x1024 : Shape := ⟨4, ![4, 8, 704, 1024]⟩
abbrev S4x16384x704 : Shape := ⟨3, ![4, 16384, 704]⟩
abbrev S512x1024 : Shape := ⟨2, ![512, 1024]⟩
abbrev S4x1x704x1024 : Shape := ⟨4, ![4, 1, 704, 1024]⟩
abbrev S4x512x704 : Shape := ⟨3, ![4, 512, 704]⟩
abbrev S512 : Shape := ⟨1, ![512]⟩
abbrev S512x1 : Shape := ⟨2, ![512, 1]⟩
abbrev S1x1x704x1024 : Shape := ⟨4, ![1, 1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 8
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x16x704x1024, .bf16⟩
  | .hbm, ⟨3, _⟩ => ⟨S4x8x704x1024, .bf16⟩
  | .hbm, ⟨4, _⟩ => ⟨S16384x1024, .f32⟩
  | .hbm, ⟨5, _⟩ => ⟨S16384x1024, .bf16⟩
  | .hbm, ⟨6, _⟩ => ⟨S4x16384x704, .bf16⟩
  | .hbm, ⟨7, _⟩ => ⟨S4x16384x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x704x1024, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c8_i32 : BitVec 32 := 8#32
  let c0_i32_0 : BitVec 32 := 0#32
  let c0_i32_1 : BitVec 32 := 0#32
  let c0_i32_2 : BitVec 32 := 0#32
  ![c0_i32.toNat, c8_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c12_i32 : BitVec 32 := 12#32
  let c0_i32_0 : BitVec 32 := 0#32
  let c0_i32_1 : BitVec 32 := 0#32
  let c0_i32_2 : BitVec 32 := 0#32
  ![c0_i32.toNat, c12_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, c4_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdRefIdeal.lean ====
abbrev S16384x1024 : Shape := ⟨2, ![16384, 1024]⟩
abbrev S1x1024 : Shape := ⟨2, ![1, 1024]⟩
abbrev S4x16x704x1024 : Shape := ⟨4, ![4, 16, 704, 1024]⟩
abbrev S4x8x704x1024 : Shape := ⟨4, ![4, 8, 704, 1024]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S16384x4x704 : Shape := ⟨3, ![16384, 4, 704]⟩
abbrev S4x16384x704 : Shape := ⟨3, ![4, 16384, 704]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x16x704x1024, .bf16⟩
  | .hbm, ⟨3, _⟩ => ⟨S4x8x704x1024, .bf16⟩
  | .hbm, ⟨4, _⟩ => ⟨S4x1x704x1024, .bf16⟩
  | .hbm, ⟨5, _⟩ => ⟨S4x704x1024, .bf16⟩
  | .hbm, ⟨6, _⟩ => ⟨S4x704x1024, .f32⟩
  | .hbm, ⟨7, _⟩ => ⟨S2816x1024, .f32⟩
  | .hbm, ⟨8, _⟩ => ⟨S1024x2816, .f32⟩
  | .hbm, ⟨9, _⟩ => ⟨S4x1x704x1024, .bf16⟩
  | .hbm, ⟨10, _⟩ => ⟨S4x704x1024, .bf16⟩
  | .hbm, ⟨11, _⟩ => ⟨S4x704x1024, .f32⟩
  | .hbm, ⟨12, _⟩ => ⟨S2816x1024, .f32⟩
  | .hbm, ⟨13, _⟩ => ⟨S1024x2816, .f32⟩
  | .hbm, ⟨14, _⟩ => ⟨S4x1x704x1024, .bf16⟩
  | .hbm, ⟨15, _⟩ => ⟨S4x704x1024, .bf16⟩
  | .hbm, ⟨16, _⟩ => ⟨S4x704x1024, .f32⟩
  | .hbm, ⟨17, _⟩ => ⟨S2816x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .bf16⟩
  | .hbm, ⟨51, _⟩ => ⟨S16384x4x704, .f32⟩
  | .hbm, ⟨52, _⟩ => ⟨S4x16384x704, .f32⟩
  | .hbm, ⟨53, _⟩ => ⟨S4x16384x704, .bf16⟩
  | .hbm, ⟨54, _⟩ => ⟨S16384x4x704, .f32⟩
  | .hbm, ⟨55, _⟩ => ⟨S4x16384x704, .f32⟩
  | .hbm, ⟨56, _⟩ => ⟨S4x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== FfnWgrad.lean ====
abbrev S16384x1024 : Shape := ⟨2, ![16384, 1024]⟩
abbrev S4x16384x704 : Shape := ⟨3, ![4, 16384, 704]⟩
abbrev S4x704x1024 : Shape := ⟨3, ![4, 704, 1024]⟩
abbrev S2048x1024 : Shape := ⟨2, ![2048, 1024]⟩
abbrev S1x2048x704 : Shape := ⟨3, ![1, 2048, 704]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 8
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x16384x704, .bf16⟩
  | .hbm, ⟨3, _⟩ => ⟨S4x16384x704, .bf16⟩
  | .hbm, ⟨4, _⟩ => ⟨S4x16384x704, .bf16⟩
  | .hbm, ⟨5, _⟩ => ⟨S4x704x1024, .f32⟩
  | .hbm, ⟨6, _⟩ => ⟨S4x704x1024, .f32⟩
  | .hbm, ⟨7, _⟩ => ⟨S4x704x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x704x1024, .f32⟩
  | .local _ .vmem, ⟨11, _⟩ => ⟨S1x704x1024, .f32⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x704x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnWgradRefIdeal.lean ====
abbrev S16384x1024 : Shape := ⟨2, ![16384, 1024]⟩
abbrev S4x16384x704 : Shape := ⟨3, ![4, 16384, 704]⟩
abbrev S_ : Shape := ⟨0, ![]⟩
abbrev S4x704x1024 : Shape := ⟨3, ![4, 704, 1024]⟩
abbrev S4x704x16384 : Shape := ⟨3, ![4, 704, 16384]⟩
abbrev S1024x4x704 : Shape := ⟨3, ![1024, 4, 704]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x16384x704, .bf16⟩
  | .hbm, ⟨3, _⟩ => ⟨S4x16384x704, .bf16⟩
  | .hbm, ⟨4, _⟩ => ⟨S4x16384x704, .bf16⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S4x704x1024, .f32⟩
  | .hbm, ⟨9, _⟩ => ⟨S4x704x16384, .f32⟩
  | .hbm, ⟨10, _⟩ => ⟨S4x16384x704, .f32⟩
  | .hbm, ⟨11, _⟩ => ⟨S4x16384x704, .f32⟩
  | .hbm, ⟨12, _⟩ => ⟨S4x704x16384, .f32⟩
  | .hbm, ⟨13, _⟩ => ⟨S4x704x1024, .f32⟩
  | .hbm, ⟨14, _⟩ => ⟨S4x704x16384, .f32⟩
  | .hbm, ⟨15, _⟩ => ⟨S4x16384x704, .f32⟩
  | .hbm, ⟨16, _⟩ => ⟨S4x16384x704, .f32⟩
  | .hbm, ⟨17, _⟩ => ⟨S4x704x16384, .f32⟩
  | .hbm, ⟨18, _⟩ => ⟨S4x704x1024, .f32⟩
  | .hbm, ⟨19, _⟩ => ⟨S4x16384x704, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S1024x4x704, .f32⟩
  | .hbm, ⟨28, _⟩ => ⟨S4x704x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== FfnDgrad.lean ====
abbrev S16384x1024 : Shape := ⟨2, ![16384, 1024]⟩
abbrev S1x1024 : Shape := ⟨2, ![1, 1024]⟩
abbrev S4x16x704x1024 : Shape := ⟨4, ![4, 16, 704, 1024]⟩
abbrev S4x8x704x1024 : Shape := ⟨4, ![4, 8, 704, 1024]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S16384x4x704 : Shape := ⟨3, ![16384, 4, 704]⟩
abbrev S4x16384x704 : Shape := ⟨3, ![4, 16384, 704]⟩
abbrev S256x1024 : Shape := ⟨2, ![256, 1024]⟩
abbrev S4x256x704 : Shape := ⟨3, ![4, 256, 704]⟩
abbrev S1x1x704x1024 : Shape := ⟨4, ![1, 1, 704, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩
abbrev S1024 : Shape := ⟨1, ![1024]⟩

abbrev nBuf : Space → Nat
  | .hbm => 48
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x16x704x1024, .bf16⟩
  | .hbm, ⟨3, _⟩ => ⟨S4x8x704x1024, .bf16⟩
  | .hbm, ⟨4, _⟩ => ⟨S16384x1024, .f32⟩
  | .hbm, ⟨5, _⟩ => ⟨S4x1x704x1024, .bf16⟩
  | .hbm, ⟨6, _⟩ => ⟨S4x704x1024, .bf16⟩
  | .hbm, ⟨7, _⟩ => ⟨S4x704x1024, .f32⟩
  | .hbm, ⟨8, _⟩ => ⟨S2816x1024, .f32⟩
  | .hbm, ⟨9, _⟩ => ⟨S1024x2816, .f32⟩
  | .hbm, ⟨10, _⟩ => ⟨S4x1x704x1024, .bf16⟩
  | .hbm, ⟨11, _⟩ => ⟨S4x704x1024, .bf16⟩
  | .hbm, ⟨12, _⟩ => ⟨S4x704x1024, .f32⟩
  | .hbm, ⟨13, _⟩ => ⟨S2816x1024, .f32⟩
  | .hbm, ⟨14, _⟩ => ⟨S1024x2816, .f32⟩
  | .hbm, ⟨15, _⟩ => ⟨S4x1x704x1024, .bf16⟩
  | .hbm, ⟨16, _⟩ => ⟨S4x704x1024, .bf16⟩
  | .hbm, ⟨17, _⟩ => ⟨S4x704x1024, .f32⟩
  | .hbm, ⟨18, _⟩ => ⟨S2816x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x2816, .f32⟩
  | .hbm, ⟨35, _⟩ => ⟨S16384x4x704, .f32⟩
  | .hbm, ⟨36, _⟩ => ⟨S4x16384x704, .f32⟩
  | .hbm, ⟨37, _⟩ => ⟨S4x16384x704, .bf16⟩
  | .hbm, ⟨38, _⟩ => ⟨S16384x2816, .f32⟩
  | .hbm, ⟨39, _⟩ => ⟨S16384x4x704, .f32⟩
  | .hbm, ⟨40, _⟩ => ⟨S4x16384x704, .f32⟩
  | .hbm, ⟨41, _⟩ => ⟨S4x16384x704, .bf16⟩
  | .hbm, ⟨42, _⟩ => ⟨S16384x1024, .f32⟩
  | .hbm, ⟨43, _⟩ => ⟨S1x1024, .f32⟩
  | .hbm, ⟨44, _⟩ => ⟨S16384x1024, .bf16⟩
  | .hbm, ⟨45, _⟩ => ⟨S4x16384x704, .bf16⟩
  | .hbm, ⟨46, _⟩ => ⟨S4x16384x704, .bf16⟩
  | .hbm, ⟨47, _⟩ => ⟨S4x16384x704, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x1x704x1024, .bf16⟩
  | .local _ .vmem, ⟨10, _⟩ => ⟨S4x1x704x1024, .bf16⟩
  | .local _ .vmem, ⟨11, _⟩ => ⟨S4x1x704x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S4x256x704, .bf16⟩
  | .local _ .vmem, ⟨21, _⟩ => ⟨S4x256x704, .bf16⟩
  | .local _ .vmem, ⟨22, _⟩ => ⟨S4x256x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34_0 : Ref sig .tc := ⟨.hbm, 42, rfl⟩
abbrev main_v34_1 : Ref sig .tc := ⟨.hbm, 43, rfl⟩
abbrev main_v34_2 : Ref sig .tc := ⟨.hbm, 44, rfl⟩
abbrev main_v34_3 : Ref sig .tc := ⟨.hbm, 45, rfl⟩
abbrev main_v34_4 : Ref sig .tc := ⟨.hbm, 46, rfl⟩
abbrev main_v34_5 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v205 : BitVec 1 := Scalar.cmpi .eq arg0 c0_i32
  let v206 : BitVec 32 := Scalar.extui v205
  let c0_i32_147 : BitVec 32 := 0#32
  let v207 : BitVec 1 := Scalar.cmpi .ne v206 c0_i32_147
  v207

def k0_cond2 (i : grid0.Coords) : BitVec 1 :=
  let arg0 : BitVec 32 := BitVec.ofNat 32 (i 0).val
  let c0_i32_148 : BitVec 32 := 0#32
  let v208 : BitVec 1 := Scalar.cmpi .sgt arg0 c0_i32_148
  let v209 : BitVec 32 := Scalar.extui v208
  let c0_i32_149 : BitVec 32 := 0#32
  let v210 : BitVec 1 := Scalar.cmpi .ne v209 c0_i32_149
  v210

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c8_i32 : BitVec 32 := 8#32
  let c0_i32_0 : BitVec 32 := 0#32
  let c0_i32_1 : BitVec 32 := 0#32
  let c0_i32_2 : BitVec 32 := 0#32
  ![c0_i32.toNat, c8_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c12_i32 : BitVec 32 := 12#32
  let c0_i32_0 : BitVec 32 := 0#32
  let c0_i32_1 : BitVec 32 := 0#32
  let c0_i32_2 : BitVec 32 := 0#32
  ![c0_i32.toNat, c12_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, c4_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnDgradRefIdeal.lean ====
abbrev S16384x1024 : Shape := ⟨2, ![16384, 1024]⟩
abbrev S1x1024 : Shape := ⟨2, ![1, 1024]⟩
abbrev S4x16x704x1024 : Shape := ⟨4, ![4, 16, 704, 1024]⟩
abbrev S4x8x704x1024 : Shape := ⟨4, ![4, 8, 704, 1024]⟩
abbrev S4x1x704x1024 : Shape := ⟨4, ![4, 1, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩
abbrev S1024 : Shape := ⟨1, ![1024]⟩
abbrev S16384x4x704 : Shape := ⟨3, ![16384, 4, 704]⟩
abbrev S4x16384x704 : Shape := ⟨3, ![4, 16384, 704]⟩

abbrev nBuf : Space → Nat
  | .hbm => 162
  | .vmem => 0
  | .smem => 0
  | _ => 0

abbrev hbmTy0_0 (i : Nat) : BufTy := match i % 128 with
  | 0 => ⟨S16384x1024, .f32⟩
  | 1 => ⟨S1x1024, .f32⟩
  | 2 => ⟨S4x16x704x1024, .bf16⟩
  | 3 => ⟨S4x8x704x1024, .bf16⟩
  | 4 => ⟨S16384x1024, .f32⟩
  | 5 => ⟨S4x1x704x1024, .bf16⟩
  | 6 => ⟨S4x704x1024, .bf16⟩
  | 7 => ⟨S4x704x1024, .f32⟩
  | 8 => ⟨S2816x1024, .f32⟩
  | 9 => ⟨S1024x2816, .f32⟩
  | 10 => ⟨S4x1x704x1024, .bf16⟩
  | 11 => ⟨S4x704x1024, .bf16⟩
  | 12 => ⟨S4x704x1024, .f32⟩
  | 13 => ⟨S2816x1024, .f32⟩
  | 14 => ⟨S1024x2816, .f32⟩
  | 15 => ⟨S4x1x704x1024, .bf16⟩
  | 16 => ⟨S4x704x1024, .bf16⟩
  | 17 => ⟨S4x704x1024, .f32⟩
  | 18 => ⟨S2816x1024, .f32⟩
  | 19 => ⟨S16384x1024, .f32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S_, .f32⟩
  | 27 => ⟨S16384x1, .f32⟩
  | 28 => ⟨S16384x1, .f32⟩
  | 29 => ⟨S16384x1, .f32⟩
  | 30 => ⟨S16384x1024, .f32⟩
  | 31 => ⟨S16384x1024, .f32⟩
  | 32 => ⟨S16384x1024, .f32⟩
  | 33 => ⟨S16384x1024, .f32⟩
  | 34 => ⟨S16384x2816, .f32⟩
  | 35 => ⟨S16384x2816, .f32⟩
  | 36 => ⟨S16384x1024, .f32⟩
  | 37 => ⟨S_, .f32⟩
  | 38 => ⟨S16384, .f32⟩
  | 39 => ⟨S16384x1, .f32⟩
  | 40 => ⟨S_, .f32⟩
  | 41 => ⟨S16384x1, .f32⟩
  | 42 => ⟨S16384x1, .f32⟩
  | 43 => ⟨S_, .f32⟩
  | 44 => ⟨S16384x1, .f32⟩
  | 45 => ⟨S16384x1, .f32⟩
  | 46 => ⟨S16384x1, .f32⟩
  | 47 => ⟨S16384x1, .f32⟩
  | 48 => ⟨S_, .f32⟩
  | 49 => ⟨S16384x1, .f32⟩
  | 50 => ⟨S16384x1, .f32⟩
  | 51 => ⟨S16384x1024, .f32⟩
  | 52 => ⟨S16384x1024, .f32⟩
  | 53 => ⟨S16384x1024, .f32⟩
  | 54 => ⟨S16384x1024, .f32⟩
  | 55 => ⟨S16384x2816, .f32⟩
  | 56 => ⟨S16384x2816, .f32⟩
  | 57 => ⟨S16384x2816, .f32⟩
  | 58 => ⟨S16384x2816, .f32⟩
  | 59 => ⟨S_, .f32⟩
  | 60 => ⟨S16384x2816, .f32⟩
  | 61 => ⟨S16384x2816, .f32⟩
  | 62 => ⟨S_, .f32⟩
  | 63 => ⟨S16384x2816, .f32⟩
  | 64 => ⟨S16384x2816, .f32⟩
  | 65 => ⟨S_, .f32⟩
  | 66 => ⟨S16384x2816, .f32⟩
  | 67 => ⟨S16384x2816, .f32⟩
  | 68 => ⟨S16384x2816, .f32⟩
  | 69 => ⟨S16384x2816, .f32⟩
  | 70 => ⟨S16384x2816, .f32⟩
  | 71 => ⟨S16384x1024, .f32⟩
  | 72 => ⟨S_, .f32⟩
  | 73 => ⟨S16384x1024, .f32⟩
  | 74 => ⟨S16384x1024, .f32⟩
  | 75 => ⟨S16384x1024, .f32⟩
  | 76 => ⟨S16384x1024, .f32⟩
  | 77 => ⟨S_, .f32⟩
  | 78 => ⟨S16384x1024, .f32⟩
  | 79 => ⟨S16384x1024, .f32⟩
  | 80 => ⟨S16384x2816, .f32⟩
  | 81 => ⟨S16384x2816, .f32⟩
  | 82 => ⟨S16384x2816, .f32⟩
  | 83 => ⟨S16384x2816, .f32⟩
  | 84 => ⟨S16384x2816, .f32⟩
  | 85 => ⟨S16384x2816, .f32⟩
  | 86 => ⟨S16384x2816, .f32⟩
  | 87 => ⟨S16384x1024, .f32⟩
  | 88 => ⟨S16384x1024, .f32⟩
  | 89 => ⟨S16384x1024, .f32⟩
  | 90 => ⟨S16384x1024, .f32⟩
  | 91 => ⟨S_, .f32⟩
  | 92 => ⟨S1024, .f32⟩
  | 93 => ⟨S1x1024, .f32⟩
  | 94 => ⟨S16384x1024, .f32⟩
  | 95 => ⟨S16384x1024, .f32⟩
  | 96 => ⟨S16384x1024, .f32⟩
  | 97 => ⟨S_, .f32⟩
  | 98 => ⟨S16384, .f32⟩
  | 99 => ⟨S16384x1, .f32⟩
  | 100 => ⟨S16384x1024, .f32⟩
  | 101 => ⟨S16384x1024, .f32⟩
  | 102 => ⟨S16384x1024, .f32⟩
  | 103 => ⟨S16384x1, .f32⟩
  | 104 => ⟨S_, .f32⟩
  | 105 => ⟨S16384x1, .f32⟩
  | 106 => ⟨S16384x1, .f32⟩
  | 107 => ⟨S_, .f32⟩
  | 108 => ⟨S16384, .f32⟩
  | 109 => ⟨S16384x1024, .f32⟩
  | 110 => ⟨S16384x1024, .f32⟩
  | 111 => ⟨S16384x1024, .f32⟩
  | 112 => ⟨S16384x1024, .f32⟩
  | 113 => ⟨S16384x1024, .f32⟩
  | 114 => ⟨S16384x2816, .f32⟩
  | 115 => ⟨S16384x2816, .f32⟩
  | 116 => ⟨S_, .f32⟩
  | 117 => ⟨S16384x2816, .f32⟩
  | 118 => ⟨S16384x2816, .f32⟩
  | 119 => ⟨S_, .f32⟩
  | 120 => ⟨S16384x2816, .f32⟩
  | 121 => ⟨S16384x2816, .f32⟩
  | 122 => ⟨S_, .f32⟩
  | 123 => ⟨S16384x2816, .f32⟩
  | 124 => ⟨S16384x2816, .f32⟩
  | 125 => ⟨S16384x2816, .f32⟩
  | 126 => ⟨S16384x2816, .f32⟩
  | 127 => ⟨S16384x2816, .f32⟩
  | _ => ⟨S16384x1024, .f32⟩

abbrev hbmTy0_1 (i : Nat) : BufTy := match i % 128 with
  | 0 => ⟨S16384x1024, .f32⟩
  | 1 => ⟨S_, .f32⟩
  | 2 => ⟨S16384x1024, .f32⟩
  | 3 => ⟨S16384x1024, .f32⟩
  | 4 => ⟨S_, .f32⟩
  | 5 => ⟨S16384x1024, .f32⟩
  | 6 => ⟨S16384x1024, .f32⟩
  | 7 => ⟨S16384x2816, .f32⟩
  | 8 => ⟨S16384x2816, .f32⟩
  | 9 => ⟨S16384x2816, .f32⟩
  | 10 => ⟨S16384x2816, .f32⟩
  | 11 => ⟨S16384x2816, .f32⟩
  | 12 => ⟨S16384x2816, .f32⟩
  | 13 => ⟨S16384x2816, .f32⟩
  | 14 => ⟨S16384x1024, .bf16⟩
  | 15 => ⟨S16384x4x704, .f32⟩
  | 16 => ⟨S4x16384x704, .f32⟩
  | 17 => ⟨S4x16384x704, .bf16⟩
  | 18 => ⟨S16384x4x704, .f32⟩
  | 19 => ⟨S4x16384x704, .f32⟩
  | 20 => ⟨S4x16384x704, .bf16⟩
  | 21 => ⟨S16384x2816, .f32⟩
  | 22 => ⟨S16384x2816, .f32⟩
  | 23 => ⟨S_, .f32⟩
  | 24 => ⟨S16384x2816, .f32⟩
  | 25 => ⟨S16384x2816, .f32⟩
  | 26 => ⟨S_, .f32⟩
  | 27 => ⟨S16384x2816, .f32⟩
  | 28 => ⟨S16384x2816, .f32⟩
  | 29 => ⟨S16384x2816, .f32⟩
  | 30 => ⟨S16384x2816, .f32⟩
  | 31 => ⟨S16384x4x704, .f32⟩
  | 32 => ⟨S4x16384x704, .f32⟩
  | 33 => ⟨S4x16384x704, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v45_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v45_1 : Ref sig .tc := ⟨.hbm, 68, rfl⟩
abbrev main_v45_0 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_8 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_9 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_10 : Ref sig .tc := ⟨.hbm, 104, rfl⟩
abbrev main_v73 : Ref sig .tc := ⟨.hbm, 105, rfl⟩
abbrev main_v74 : Ref sig .tc := ⟨.hbm, 106, rfl⟩
abbrev main_cst_11 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call2_v0 : Ref sig .tc := ⟨.hbm, 114, rfl⟩
abbrev main_call2_v1 : Ref sig .tc := ⟨.hbm, 115, rfl⟩
abbrev main_call2_cst : Ref sig .tc := ⟨.hbm, 116, rfl⟩
abbrev main_call2_v2 : Ref sig .tc := ⟨.hbm, 117, rfl⟩
abbrev main_call2_v3 : Ref sig .tc := ⟨.hbm, 118, rfl⟩
abbrev main_call2_cst_0 : Ref sig .tc := ⟨.hbm, 119, rfl⟩
abbrev main_call2_v4 : Ref sig .tc := ⟨.hbm, 120, rfl⟩
abbrev main_v81_2 : Ref sig .tc := ⟨.hbm, 121, rfl⟩
abbrev main_call2_cst_1 : Ref sig .tc := ⟨.hbm, 122, rfl⟩
abbrev main_call2_v6 : Ref sig .tc := ⟨.hbm, 123, rfl⟩
abbrev main_call2_v7 : Ref sig .tc := ⟨.hbm, 124, rfl⟩
abbrev main_v81_1 : Ref sig .tc := ⟨.hbm, 125, rfl⟩
abbrev main_v81_0 : Ref sig .tc := ⟨.hbm, 126, rfl⟩
abbrev main_v82 : Ref sig .tc := ⟨.hbm, 127, rfl⟩
abbrev main_v83 : Ref sig .tc := ⟨.hbm, 128, rfl⟩
abbrev main_cst_12 : Ref sig .tc := ⟨.hbm, 129, rfl⟩
abbrev main_v84 : Ref sig .tc := ⟨.hbm, 130, rfl⟩
abbrev main_v85 : Ref sig .tc := ⟨.hbm, 131, rfl⟩
abbrev main_cst_13 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_call4_v0 : Ref sig .tc := ⟨.hbm, 149, rfl⟩
abbrev main_call4_v1 : Ref sig .tc := ⟨.hbm, 150, rfl⟩
abbrev main_call4_cst : Ref sig .tc := ⟨.hbm, 151, rfl⟩
abbrev main_call4_v2 : Ref sig .tc := ⟨.hbm, 152, rfl⟩
abbrev main_call4_v3 : Ref sig .tc := ⟨.hbm, 153, rfl⟩
abbrev main_call4_cst_0 : Ref sig .tc := ⟨.hbm, 154, rfl⟩
abbrev main_call4_v4 : Ref sig .tc := ⟨.hbm, 155, rfl⟩
abbrev main_call4_v5 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩

abbrev nD : Nat := 1
abbrev τ : Topo := Topo.v7x

variable {F : FTy → Type} [FloatOps F]
-- ==== AttnFwd.lean ====
abbrev S8x16384x192 : Shape := ⟨3, ![8, 16384, 192]⟩
abbrev S16384x1024 : Shape := ⟨2, ![16384, 1024]⟩
abbrev S16x1024x8x128 : Shape := ⟨4, ![16, 1024, 8, 128]⟩
abbrev S8x16x128x1024 : Shape := ⟨4, ![8, 16, 128, 1024]⟩
abbrev S_ : Shape := ⟨0, ![]⟩
abbrev S8x16x8x1024 : Shape := ⟨4, ![8, 16, 8, 1024]⟩
abbrev S8x16x136x1024 : Shape := ⟨4, ![8, 16, 136, 1024]⟩
abbrev S1024x16384 : Shape := ⟨2, ![1024, 16384]⟩
abbrev S8x1x16384 : Shape := ⟨3, ![8, 1, 16384]⟩
abbrev S1x1024x192 : Shape := ⟨3, ![1, 1024, 192]⟩
abbrev S1x16384x192 : Shape := ⟨3, ![1, 16384, 192]⟩
abbrev S1x16x136x1024 : Shape := ⟨4, ![1, 16, 136, 1024]⟩
abbrev S128x1024 : Shape := ⟨2, ![128, 1024]⟩
abbrev S1x1x1024 : Shape := ⟨3, ![1, 1, 1024]⟩
abbrev S1x1024 : Shape := ⟨2, ![1, 1024]⟩
abbrev S136x1024 : Shape := ⟨2, ![136, 1024]⟩
abbrev S2x1024x1024 : Shape := ⟨3, ![2, 1024, 1024]⟩
abbrev S1024x192 : Shape := ⟨2, ![1024, 192]⟩
abbrev S1024x1024 : Shape := ⟨2, ![1024, 1024]⟩
abbrev S1x1024x1024 : Shape := ⟨3, ![1, 1024, 1024]⟩
abbrev S1024 : Shape := ⟨1, ![1024]⟩
abbrev S1x1x136x1024 : Shape := ⟨4, ![1, 1, 136, 1024]⟩

abbrev nBuf : Space → Nat
  | .hbm => 10
  | .vmem => 11
  | .smem => 0
  | _ => 0

abbrev bufTy : (tb : Table) → Fin (tcTables nBuf tb) → BufTy
  | .hbm, ⟨0, _⟩ => ⟨S8x16384x192, .bf16⟩
  | .hbm, ⟨1, _⟩ => ⟨S8x16384x192, .bf16⟩
  | .hbm, ⟨2, _⟩ => ⟨S16384x1024, .bf16⟩
  | .hbm, ⟨3, _⟩ => ⟨S16x1024x8x128, .bf16⟩
  | .hbm, ⟨4, _⟩ => ⟨S8x16x128x1024, .bf16⟩
  | .hbm, ⟨5, _⟩ => ⟨S_, .bf16⟩
  | .hbm, ⟨6, _⟩ => ⟨S8x16x8x1024, .bf16⟩
  | .hbm, ⟨7, _⟩ => ⟨S8x16x136x1024, .bf16⟩
  | .hbm, ⟨8, _⟩ => ⟨S1024x16384, .f32⟩
  | .hbm, ⟨9, _⟩ => ⟨S8x1x16384, .f32⟩
  | .local _ .vmem, ⟨0, _⟩ => ⟨S1x1024x192, .bf16⟩
  | .local _ .vmem, ⟨1, _⟩ => ⟨S1x1024x192, .bf16⟩
  | .local _ .vmem, ⟨2, _⟩ => ⟨S1x16384x192, .bf16⟩
  | .local _ .vmem, ⟨3, _⟩ => ⟨S1x16x136x1024, .bf16⟩
  | .local _ .vmem, ⟨4, _⟩ => ⟨S128x1024, .f32⟩
  | .local _ .vmem, ⟨5, _⟩ => ⟨S128x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S136x1024, .f32⟩
  | .local _ .vmem, ⟨10, _⟩ => ⟨S2x1024x1024, .f32⟩
  | _, _ => ⟨S8x16384x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  c0_i32
@[reducible] def k0_t1_loop (i : grid0.Coords) : Scf.Loop 32 :=
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_16 : BitVec 32 := 1#32
  ⟨c0_i32_14, v23, c1_i32_16⟩
def k0_mult2 (i : grid0.Coords) (k0_t1 : Fin (k0_t1_loop i).trips) : BitVec 32 :=
  let c2_i32 : BitVec 32 := 2#32
  let c0_i32_14 : BitVec 32 := 0#32
  let c1_i32_16 : BitVec 32 := 1#32
  let arg10 : BitVec 32 := Scf.iv c0_i32_14 c1_i32_16 k0_t1
  let v43 : BitVec 32 := Scalar.muli c2_i32 arg10
  let c1_i32_34 : BitVec 32 := 1#32
  let v44 : BitVec 32 := Scalar.addi v43 c1_i32_34
  let c1024_i32 : BitVec 32 := 1024#32
  let v45 : BitVec 32 := Scalar.muli v44 c1024_i32
  v45
def k0_off1 (i : grid0.Coords) (k0_t1 : Fin (k0_t1_loop i).trips) : Fin 3 → Nat :=
  let c0_35 : Index := 0#32
  let c2_i32 : BitVec 32 := 2#32
  let c0_i32_14 : BitVec 32 := 0#32
  let c1_i32_16 : BitVec 32 := 1#32
  let arg10 : BitVec 32 := Scf.iv c0_i32_14 c1_i32_16 k0_t1
  let v43 : BitVec 32 := Scalar.muli c2_i32 arg10
  let c1_i32_34 : BitVec 32 := 1#32
  let v44 : BitVec 32 := Scalar.addi v43 c1_i32_34
  let c1024_i32 : BitVec 32 := 1024#32
  let v45 : BitVec 32 := Scalar.muli v44 c1024_i32
  let v46 : BitVec 32 := v45
  let v47 : Index := Scalar.indexCast v46
  let c0_36 : Index := 0#32
  ![0, v47.toNat, 0]
def k0_off2 (i : grid0.Coords) (k0_t1 : Fin (k0_t1_loop i).trips) : Fin 4 → Nat :=
  let c0_48 : Index := 0#32
  let c2_i32 : BitVec 32 := 2#32
  let c0_i32_14 : BitVec 32 := 0#32
  let c1_i32_16 : BitVec 32 := 1#32
  let arg10 : BitVec 32 := Scf.iv c0_i32_14 c1_i32_16 k0_t1
  let v43 : BitVec 32 := Scalar.muli c2_i32 arg10
  let v65 : Index := Scalar.indexCast v43
  let c0_49 : Index := 0#32
  let c0_50 : Index := 0#32
  ![0, v65.toNat, 0, 0]
def k0_mult3 (i : grid0.Coords) (k0_t1 : Fin (k0_t1_loop i).trips) : BitVec 32 :=
  let c2_i32_56 : BitVec 32 := 2#32
  let c0_i32_14 : BitVec 32 := 0#32
  let c1_i32_16 : BitVec 32 := 1#32
  let arg10 : BitVec 32 := Scf.iv c0_i32_14 c1_i32_16 k0_t1
  let v80 : BitVec 32 := Scalar.muli c2_i32_56 arg10
  let c1_i32_57 : BitVec 32 := 1#32
  let v81 : BitVec 32 := Scalar.addi v80 c1_i32_57
  let c1_i32_58 : BitVec 32 := 1#32
  let v82 : BitVec 32 := Scalar.addi v81 c1_i32_58
  let c1024_i32_59 : BitVec 32 := 1024#32
  let v83 : BitVec 32 := Scalar.muli v82 c1024_i32_59
  v83
def k0_off3 (i : grid0.Coords) (k0_t1 : Fin (k0_t1_loop i).trips) : Fin 3 → Nat :=
  let c0_60 : Index := 0#32
  let c2_i32_56 : BitVec 32 := 2#32
  let c0_i32_14 : BitVec 32 := 0#32
  let c1_i32_16 : BitVec 32 := 1#32
  let arg10 : BitVec 32 := Scf.iv c0_i32_14 c1_i32_16 k0_t1
  let v80 : BitVec 32 := Scalar.muli c2_i32_56 arg10
  let c1_i32_57 : BitVec 32 := 1#32
  let v81 : BitVec 32 := Scalar.addi v80 c1_i32_57
  let c1_i32_58 : BitVec 32 := 1#32
  let v82 : BitVec 32 := Scalar.addi v81 c1_i32_58
  let c1024_i32_59 : BitVec 32 := 1024#32
  let v83 : BitVec 32 := Scalar.muli v82 c1024_i32_59
  let v84 : BitVec 32 := v83
  let v85 : Index := Scalar.indexCast v84
  let c0_61 : Index := 0#32
  ![0, v85.toNat, 0]
def k0_off4 (i : grid0.Coords) (k0_t1 : Fin (k0_t1_loop i).trips) : Fin 4 → Nat :=
  let c0_74 : Index := 0#32
  let c2_i32_56 : BitVec 32 := 2#32
  let c0_i32_14 : BitVec 32 := 0#32
  let c1_i32_16 : BitVec 32 := 1#32
  let arg10 : BitVec 32 := Scf.iv c0_i32_14 c1_i32_16 k0_t1
  let v80 : BitVec 32 := Scalar.muli c2_i32_56 arg10
  let c1_i32_57 : BitVec 32 := 1#32
  let v81 : BitVec 32 := Scalar.addi v80 c1_i32_57
  let v103 : Index := Scalar.indexCast v81
  let c0_75 : Index := 0#32
  let c0_76 : Index := 0#32
  ![0, v103.toNat, 0, 0]
@[reducible] def k0_t2_loop (i : grid0.Coords) : Scf.Loop 32 :=
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let v20 : BitVec 32 := Scalar.addi c0_i32_14 v19
  let c1_i32_17 : BitVec 32 := 1#32
  ⟨v23, v20, c1_i32_17⟩
def k0_mult4 (i : grid0.Coords) (k0_t2 : Fin (k0_t2_loop i).trips) : BitVec 32 :=
  let c2_i32 : BitVec 32 := 2#32
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg10 : BitVec 32 := Scf.iv v23 c1_i32_17 k0_t2
  let v43 : BitVec 32 := Scalar.muli c2_i32 arg10
  let c1_i32_34 : BitVec 32 := 1#32
  let v44 : BitVec 32 := Scalar.addi v43 c1_i32_34
  let c1024_i32 : BitVec 32 := 1024#32
  let v45 : BitVec 32 := Scalar.muli v44 c1024_i32
  v45
def k0_off5 (i : grid0.Coords) (k0_t2 : Fin (k0_t2_loop i).trips) : Fin 3 → Nat :=
  let c0_35 : Index := 0#32
  let c2_i32 : BitVec 32 := 2#32
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg10 : BitVec 32 := Scf.iv v23 c1_i32_17 k0_t2
  let v43 : BitVec 32 := Scalar.muli c2_i32 arg10
  let c1_i32_34 : BitVec 32 := 1#32
  let v44 : BitVec 32 := Scalar.addi v43 c1_i32_34
  let c1024_i32 : BitVec 32 := 1024#32
  let v45 : BitVec 32 := Scalar.muli v44 c1024_i32
  let v46 : BitVec 32 := v45
  let v47 : Index := Scalar.indexCast v46
  let c0_36 : Index := 0#32
  ![0, v47.toNat, 0]
def k0_off6 (i : grid0.Coords) (k0_t2 : Fin (k0_t2_loop i).trips) : Fin 4 → Nat :=
  let c0_48 : Index := 0#32
  let c2_i32 : BitVec 32 := 2#32
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg10 : BitVec 32 := Scf.iv v23 c1_i32_17 k0_t2
  let v43 : BitVec 32 := Scalar.muli c2_i32 arg10
  let v65 : Index := Scalar.indexCast v43
  let c0_49 : Index := 0#32
  let c0_50 : Index := 0#32
  ![0, v65.toNat, 0, 0]
def k0_mult5 (i : grid0.Coords) (k0_t2 : Fin (k0_t2_loop i).trips) : BitVec 32 :=
  let c2_i32_56 : BitVec 32 := 2#32
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg10 : BitVec 32 := Scf.iv v23 c1_i32_17 k0_t2
  let v80 : BitVec 32 := Scalar.muli c2_i32_56 arg10
  let c1_i32_57 : BitVec 32 := 1#32
  let v81 : BitVec 32 := Scalar.addi v80 c1_i32_57
  let c1_i32_58 : BitVec 32 := 1#32
  let v82 : BitVec 32 := Scalar.addi v81 c1_i32_58
  let c1024_i32_59 : BitVec 32 := 1024#32
  let v83 : BitVec 32 := Scalar.muli v82 c1024_i32_59
  v83
def k0_off7 (i : grid0.Coords) (k0_t2 : Fin (k0_t2_loop i).trips) : Fin 3 → Nat :=
  let c0_60 : Index := 0#32
  let c2_i32_56 : BitVec 32 := 2#32
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg10 : BitVec 32 := Scf.iv v23 c1_i32_17 k0_t2
  let v80 : BitVec 32 := Scalar.muli c2_i32_56 arg10
  let c1_i32_57 : BitVec 32 := 1#32
  let v81 : BitVec 32 := Scalar.addi v80 c1_i32_57
  let c1_i32_58 : BitVec 32 := 1#32
  let v82 : BitVec 32 := Scalar.addi v81 c1_i32_58
  let c1024_i32_59 : BitVec 32 := 1024#32
  let v83 : BitVec 32 := Scalar.muli v82 c1024_i32_59
  let v84 : BitVec 32 := v83
  let v85 : Index := Scalar.indexCast v84
  let c0_61 : Index := 0#32
  ![0, v85.toNat, 0]
def k0_off8 (i : grid0.Coords) (k0_t2 : Fin (k0_t2_loop i).trips) : Fin 4 → Nat :=
  let c0_74 : Index := 0#32
  let c2_i32_56 : BitVec 32 := 2#32
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg10 : BitVec 32 := Scf.iv v23 c1_i32_17 k0_t2
  let v80 : BitVec 32 := Scalar.muli c2_i32_56 arg10
  let c1_i32_57 : BitVec 32 := 1#32
  let v81 : BitVec 32 := Scalar.addi v80 c1_i32_57
  let v103 : Index := Scalar.indexCast v81
  let c0_75 : Index := 0#32
  let c0_76 : Index := 0#32
  ![0, v103.toNat, 0, 0]
def k0_cond1 (i : grid0.Coords) : BitVec 1 :=
  let arg1 : BitVec 32 := BitVec.ofNat 32 (i 1).val
  let c1_i32_18 : BitVec 32 := 1#32
  let v24 : BitVec 32 := Scalar.andi arg1 c1_i32_18
  let c1_i32_19 : BitVec 32 := 1#32
  let v25 : BitVec 1 := Scalar.cmpi .eq v24 c1_i32_19
  let v26 : BitVec 32 := Scalar.extui v25
  let c0_i32_20 : BitVec 32 := 0#32
  let v27 : BitVec 1 := Scalar.cmpi .ne v26 c0_i32_20
  v27

def k0_mult6 (i : grid0.Coords) : BitVec 32 :=
  let arg1 : BitVec 32 := BitVec.ofNat 32 (i 1).val
  let c1_i32_34 : BitVec 32 := 1#32
  let v43 : BitVec 32 := Scalar.subi arg1 c1_i32_34
  let c1_i32_35 : BitVec 32 := 1#32
  let v44 : BitVec 32 := Scalar.addi v43 c1_i32_35
  let c1024_i32 : BitVec 32 := 1024#32
  let v45 : BitVec 32 := Scalar.muli v44 c1024_i32
  v45
def k0_off9 (i : grid0.Coords) : Fin 3 → Nat :=
  let c0_36 : Index := 0#32
  let arg1 : BitVec 32 := BitVec.ofNat 32 (i 1).val
  let c1_i32_34 : BitVec 32 := 1#32
  let v43 : BitVec 32 := Scalar.subi arg1 c1_i32_34
  let c1_i32_35 : BitVec 32 := 1#32
  let v44 : BitVec 32 := Scalar.addi v43 c1_i32_35
  let c1024_i32 : BitVec 32 := 1024#32
  let v45 : BitVec 32 := Scalar.muli v44 c1024_i32
  let v46 : BitVec 32 := v45
  let v47 : Index := Scalar.indexCast v46
  let c0_37 : Index := 0#32
  ![0, v47.toNat, 0]
def k0_off10 (i : grid0.Coords) : Fin 4 → Nat :=
  let c0_49 : Index := 0#32
  let arg1 : BitVec 32 := BitVec.ofNat 32 (i 1).val
  let c1_i32_34 : BitVec 32 := 1#32
  let v43 : BitVec 32 := Scalar.subi arg1 c1_i32_34
  let v65 : Index := Scalar.indexCast v43
  let c0_50 : Index := 0#32
  let c0_51 : Index := 0#32
  ![0, v65.toNat, 0, 0]
def k0_off11 (i : grid0.Coords) : Fin 4 → Nat :=
  let c0_66 : Index := 0#32
  let arg1 : BitVec 32 := BitVec.ofNat 32 (i 1).val
  let v96 : Index := Scalar.indexCast arg1
  let c0_67 : Index := 0#32
  let c0_68 : Index := 0#32
  ![0, v96.toNat, 0, 0]
def k0_cond2 (i : grid0.Coords) : BitVec 1 :=
  let arg1 : BitVec 32 := BitVec.ofNat 32 (i 1).val
  let c1_i32_21 : BitVec 32 := 1#32
  let v28 : BitVec 32 := Scalar.andi arg1 c1_i32_21
  let c0_i32_22 : BitVec 32 := 0#32
  let v29 : BitVec 1 := Scalar.cmpi .eq v28 c0_i32_22
  let v30 : BitVec 32 := Scalar.extui v29
  let c0_i32_23 : BitVec 32 := 0#32
  let v31 : BitVec 1 := Scalar.cmpi .ne v30 c0_i32_23
  v31

def k0_off12 (i : grid0.Coords) : Fin 4 → Nat :=
  let c0_43 : Index := 0#32
  let arg1 : BitVec 32 := BitVec.ofNat 32 (i 1).val
  let v59 : Index := Scalar.indexCast arg1
  let c0_44 : Index := 0#32
  let c0_45 : Index := 0#32
  ![0, v59.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16384x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x136x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdRefIdeal.lean ====
abbrev S8x16384x192 : Shape := ⟨3, ![8, 16384, 192]⟩
abbrev S16384x1024 : Shape := ⟨2, ![16384, 1024]⟩
abbrev S8x16384x16384 : Shape := ⟨3, ![8, 16384, 16384]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S_ : Shape := ⟨0, ![]⟩
abbrev S8x16384 : Shape := ⟨2, ![8, 16384]⟩
abbrev S8x16384x1 : Shape := ⟨3, ![8, 16384, 1]⟩
abbrev S16384x8x128 : Shape := ⟨3, ![16384, 8, 128]⟩
abbrev S8x16384x128 : Shape := ⟨3, ![8, 16384, 128]⟩
abbrev S8x128x16384 : Shape := ⟨3, ![8, 128, 16384]⟩
abbrev S1024x16384 : Shape := ⟨2, ![1024, 16384]⟩
abbrev S8x1x16384 : Shape := ⟨3, ![8, 1, 16384]⟩

abbrev nBuf : Space → Nat
  | .hbm => 37
  | .vmem => 0
  | .smem => 0
  | _ => 0

abbrev bufTy : (tb : Table) → Fin (tcTables nBuf tb) → BufTy
  | .hbm, ⟨0, _⟩ => ⟨S8x16384x192, .bf16⟩
  | .hbm, ⟨1, _⟩ => ⟨S8x16384x192, .bf16⟩
  | .hbm, ⟨2, _⟩ => ⟨S16384x1024, .bf16⟩
  | .hbm, ⟨3, _⟩ => ⟨S8x16384x192, .f32⟩
  | .hbm, ⟨4, _⟩ => ⟨S8x16384x192, .f32⟩
  | .hbm, ⟨5, _⟩ => ⟨S16384x1024, .f32⟩
  | .hbm, ⟨6, _⟩ => ⟨S8x16384x16384, .f32⟩
  | .hbm, ⟨7, _⟩ => ⟨S16384, .i32⟩
  | .hbm, ⟨8, _⟩ => ⟨S1x1x16384, .i32⟩
  | .hbm, ⟨9, _⟩ => ⟨S1x16384x1, .i32⟩
  | .hbm, ⟨10, _⟩ => ⟨S1x16384x16384, .i32⟩
  | .hbm, ⟨11, _⟩ => ⟨S1x16384x16384, .i32⟩
  | .hbm, ⟨12, _⟩ => ⟨S1x16384x16384, .i1⟩
  | .hbm, ⟨13, _⟩ => ⟨S_, .f32⟩
  | .hbm, ⟨14, _⟩ => ⟨S_, .f32⟩
  | .hbm, ⟨15, _⟩ => ⟨S8x16384x16384, .i1⟩
  | .hbm, ⟨16, _⟩ => ⟨S8x16384x16384, .f32⟩
  | .hbm, ⟨17, _⟩ => ⟨S8x16384x16384, .f32⟩
  | .hbm, ⟨18, _⟩ => ⟨S_, .f32⟩
  | .hbm, ⟨19, _⟩ => ⟨S8x16384, .f32⟩
  | .hbm, ⟨20, _⟩ => ⟨S8x16384x1, .f32⟩
  | .hbm, ⟨21, _⟩ => ⟨S8x16384x16384, .f32⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S8x16384x1, .f32⟩
  | .hbm, ⟨27, _⟩ => ⟨S8x16384x16384, .f32⟩
  | .hbm, ⟨28, _⟩ => ⟨S8x16384x16384, .f32⟩
  | .hbm, ⟨29, _⟩ => ⟨S16384x8x128, .f32⟩
  | .hbm, ⟨30, _⟩ => ⟨S8x16384x128, .f32⟩
  | .hbm, ⟨31, _⟩ => ⟨S8x16384x128, .f32⟩
  | .hbm, ⟨32, _⟩ => ⟨S8x128x16384, .f32⟩
  | .hbm, ⟨33, _⟩ => ⟨S1024x16384, .f32⟩
  | .hbm, ⟨34, _⟩ => ⟨S8x16384x1, .f32⟩
  | .hbm, ⟨35, _⟩ => ⟨S8x16384x1, .f32⟩
  | .hbm, ⟨36, _⟩ => ⟨S8x1x16384, .f32⟩
  | _, _ => ⟨S8x16384x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== OutBwd.lean ====
abbrev S16384x1024 : Shape := ⟨2, ![16384, 1024]⟩
abbrev S1024x16384 : Shape := ⟨2, ![1024, 16384]⟩
abbrev S1024x1024 : Shape := ⟨2, ![1024, 1024]⟩
abbrev S8x1x16384 : Shape := ⟨3, ![8, 1, 16384]⟩
abbrev S512x1024 : Shape := ⟨2, ![512, 1024]⟩
abbrev S1024x512 : Shape := ⟨2, ![1024, 512]⟩
abbrev S8x1x512 : Shape := ⟨3, ![8, 1, 512]⟩
abbrev S128x512 : Shape := ⟨2, ![128, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S1024x1024, .bf16⟩
  | .hbm, ⟨3, _⟩ => ⟨S16384x1024, .bf16⟩
  | .hbm, ⟨4, _⟩ => ⟨S8x1x16384, .f32⟩
  | .hbm, ⟨5, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S8x1x512, .f32⟩
  | .local _ .vmem, ⟨8, _⟩ => ⟨S8x1x512, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== OutBwdRefIdeal.lean ====
abbrev S16384x1024 : Shape := ⟨2, ![16384, 1024]⟩
abbrev S1024x16384 : Shape := ⟨2, ![1024, 16384]⟩
abbrev S1024x1024 : Shape := ⟨2, ![1024, 1024]⟩
abbrev S16384x8x128 : Shape := ⟨3, ![16384, 8, 128]⟩
abbrev S8x16384x128 : Shape := ⟨3, ![8, 16384, 128]⟩
abbrev S_ : Shape := ⟨0, ![]⟩
abbrev S8x16384 : Shape := ⟨2, ![8, 16384]⟩
abbrev S8x1x16384 : Shape := ⟨3, ![8, 1, 16384]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S1024x1024, .bf16⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S16384x1024, .f32⟩
  | .hbm, ⟨9, _⟩ => ⟨S16384x8x128, .f32⟩
  | .hbm, ⟨10, _⟩ => ⟨S8x16384x128, .f32⟩
  | .hbm, ⟨11, _⟩ => ⟨S16384x8x128, .f32⟩
  | .hbm, ⟨12, _⟩ => ⟨S8x16384x128, .f32⟩
  | .hbm, ⟨13, _⟩ => ⟨S8x16384x128, .f32⟩
  | .hbm, ⟨14, _⟩ => ⟨S_, .f32⟩
  | .hbm, ⟨15, _⟩ => ⟨S8x16384, .f32⟩
  | .hbm, ⟨16, _⟩ => ⟨S16384x1024, .bf16⟩
  | .hbm, ⟨17, _⟩ => ⟨S8x1x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== OutFwd.lean ====
abbrev S16384x1024 : Shape := ⟨2, ![16384, 1024]⟩
abbrev S1024x16384 : Shape := ⟨2, ![1024, 16384]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S1024x1024, .bf16⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutFwdRefIdeal.lean ====
abbrev S16384x1024 : Shape := ⟨2, ![16384, 1024]⟩
abbrev S1024x16384 : Shape := ⟨2, ![1024, 16384]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S1024x1024, .bf16⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Offs.lean ====
/-
  The rectangles that the paired loop of `flash_bwd` reads and writes, in closed form: trip `k` of key tile `j` works on
  the query tiles `j + 1 + 2 k` and `j + 2 + 2 k`, and fetches the next one, the last tile standing in for one past it.
-/
module

public import proofs.«01_k».proof.Proof.Gen.KernelIdeal
public import proofs.«01_k».proof.Proof.Gen.KernelIdeal.Loops

@[expose] public section

namespace Cert.FlashBwd

open Cert.KernelIdeal
open Idealize.ShloMosaic Idealize.ShloMosaic.Tactic

/-- The paired loop runs half the number of query tiles below the diagonal. -/
theorem trips_t1 : ∀ i : grid0.Coords, (k0_t1_loop i).trips = (15 - (i 1).val) / 2 := by decide +kernel
/-- The loop after it runs no trip. -/
theorem trips_t2 : ∀ i : grid0.Coords, (k0_t2_loop i).trips = 0 := by decide +kernel
/-- The last query tile is left over when their number is odd. -/
theorem cond2_iff : ∀ i : grid0.Coords, k0_cond2 i = 1#1 ↔ (15 - (i 1).val) % 2 = 1 := by decide +kernel

theorem off9_1 : ∀ (i : grid0.Coords) (k : Fin (k0_t1_loop i).trips), k0_off9 i k 1#32 = ![0, 1024 * min ((i 1).val + 2 * k.val + 2) 15, 0] := by decide +kernel
theorem off9_2 : ∀ (i : grid0.Coords) (k : Fin (k0_t1_loop i).trips), k0_off9 i k 2#32 = ![0, 1024 * min ((i 1).val + 2 * k.val + 3) 15, 0] := by decide +kernel
theorem off10_1 : ∀ (i : grid0.Coords) (k : Fin (k0_t1_loop i).trips), k0_off10 i k 1#32 = ![1024 * min ((i 1).val + 2 * k.val + 2) 15, 0] := by decide +kernel
theorem off10_2 : ∀ (i : grid0.Coords) (k : Fin (k0_t1_loop i).trips), k0_off10 i k 2#32 = ![1024 * min ((i 1).val + 2 * k.val + 3) 15, 0] := by decide +kernel
theorem off11_1 : ∀ (i : grid0.Coords) (k : Fin (k0_t1_loop i).trips), k0_off11 i k 1#32 = ![0, (i 1).val + 2 * k.val + 1, 0, 0] := by decide +kernel
theorem off11_2 : ∀ (i : grid0.Coords) (k : Fin (k0_t1_loop i).trips), k0_off11 i k 2#32 = ![0, (i 1).val + 2 * k.val + 2, 0, 0] := by decide +kernel
theorem off12_1 : ∀ (i : grid0.Coords) (k : Fin (k0_t1_loop i).trips), k0_off12 i k 1#32 = ![1024 * ((i 1).val + 2 * k.val + 1), 0] := by decide +kernel
theorem off12_2 : ∀ (i : grid0.Coords) (k : Fin (k0_t1_loop i).trips), k0_off12 i k 2#32 = ![1024 * ((i 1).val + 2 * k.val + 2), 0] := by decide +kernel
theorem off13_1 : ∀ (i : grid0.Coords) (k : Fin (k0_t1_loop i).trips), k0_off13 i k 1#32 = ![0, 1024 * ((i 1).val + 2 * k.val + 1), 0] := by decide +kernel
theorem off13_2 : ∀ (i : grid0.Coords) (k : Fin (k0_t1_loop i).trips), k0_off13 i k 2#32 = ![0, 1024 * ((i 1).val + 2 * k.val + 2), 0] := by decide +kernel
theorem off14_1 : ∀ (i : grid0.Coords) (k : Fin (k0_t1_loop i).trips), k0_off14 i k 1#32 = ![0, (i 1).val + 2 * k.val + 1, 0, 0] := by decide +kernel
theorem off14_2 : ∀ (i : grid0.Coords) (k : Fin (k0_t1_loop i).trips), k0_off14 i k 2#32 = ![0, (i 1).val + 2 * k.val + 2, 0, 0] := by decide +kernel

instance (i : grid0.Coords) (k : Fin (k0_t1_loop i).trips) : ClosedOff (k0_off9 i k 1#32) := ⟨_, off9_1 i k⟩
instance (i : grid0.Coords) (k : Fin (k0_t1_loop i).trips) : ClosedOff (k0_off9 i k 2#32) := ⟨_, off9_2 i k⟩
instance (i : grid0.Coords) (k : Fin (k0_t1_loop i).trips) : ClosedOff (k0_off10 i k 1#32) := ⟨_, off10_1 i k⟩
instance (i : grid0.Coords) (k : Fin (k0_t1_loop i).trips) : ClosedOff (k0_off10 i k 2#32) := ⟨_, off10_2 i k⟩
instance (i : grid0.Coords) (k : Fin (k0_t1_loop i).trips) : ClosedOff (k0_off11 i k 1#32) := ⟨_, off11_1 i k⟩
instance (i : grid0.Coords) (k : Fin (k0_t1_loop i).trips) : ClosedOff (k0_off11 i k 2#32) := ⟨_, off11_2 i k⟩
instance (i : grid0.Coords) (k : Fin (k0_t1_loop i).trips) : ClosedOff (k0_off12 i k 1#32) := ⟨_, off12_1 i k⟩
instance (i : grid0.Coords) (k : Fin (k0_t1_loop i).trips) : ClosedOff (k0_off12 i k 2#32) := ⟨_, off12_2 i k⟩
instance (i : grid0.Coords) (k : Fin (k0_t1_loop i).trips) : ClosedOff (k0_off13 i k 1#32) := ⟨_, off13_1 i k⟩
instance (i : grid0.Coords) (k : Fin (k0_t1_loop i).trips) : ClosedOff (k0_off13 i k 2#32) := ⟨_, off13_2 i k⟩
instance (i : grid0.Coords) (k : Fin (k0_t1_loop i).trips) : ClosedOff (k0_off14 i k 1#32) := ⟨_, off14_1 i k⟩
instance (i : grid0.Coords) (k : Fin (k0_t1_loop i).trips) : ClosedOff (k0_off14 i k 2#32) := ⟨_, off14_2 i k⟩

end Cert.FlashBwd
-- ==== Proof.Spec.lean ====
/-
  What one grid point of `flash_bwd` computes, as functions of arrays. A key tile meets the query tiles from its own to the
  last; each meeting adds to the three accumulators: the gradient of the queries, of the keys and of the values.
-/
module

public import proofs.«01_k».proof.Proof.Offs
public import Idealize.ShloMosaic.Lib.VecWindow

@[expose] public section

set_option maxRecDepth 16384

noncomputable section

namespace Cert.FlashBwd

open Cert.KernelIdeal Cert.KernelIdeal.Gen
open Idealize.ShloMosaic Idealize.ShloMosaic.TcCoe

variable {F : FTy → Type} [FloatOps F]

/-- What a grid point reads: its tiles of `k` and `v`, and the whole head of `q`, `do` and of the two row statistics. -/
structure Env (F : FTy → Type) [FloatOps F] where
  kT : Vec F S1x1024x192 .bf16
  vT : Vec F S1024x128 .bf16
  Q : Vec F S1x16384x192 .bf16
  D : Vec F S16384x128 .bf16
  L : Vec F S1x16x1x1024 .f32
  Dl : Vec F S1x16x1x1024 .f32

/-- What a grid point accumulates. -/
structure Acc (F : FTy → Type) [FloatOps F] where
  dq : Vec F S1x16x192x1024 .f32
  dk : Vec F S1024x192 .f32
  dv : Vec F S1024x128 .f32

namespace Env

variable (E : Env F) (n : ℕ)

/-- The key tile as a matrix. -/
def kM : FVec F S1024x192 .bf16 := k0_pay46 E.kT

theorem inbQ : ∀ a, (![0, 1024 * min n 15, 0] : Fin 3 → ℕ) a + S1x1024x192.size a ≤ S1x16384x192.size a := by
  intro a; fin_cases a <;> simp [S1x1024x192, S1x16384x192] <;> omega
theorem inbD : ∀ a, (![1024 * min n 15, 0] : Fin 2 → ℕ) a + S1024x128.size a ≤ S16384x128.size a := by
  intro a; fin_cases a <;> simp [S1024x128, S16384x128] <;> omega
theorem inbL : ∀ a, (![0, min n 15, 0, 0] : Fin 4 → ℕ) a + S1x1x1x1024.size a ≤ S1x16x1x1024.size a := by
  intro a; fin_cases a <;> simp [S1x1x1x1024, S1x16x1x1024] <;> omega
theorem inbR : ∀ a, (![0, min n 15, 0, 0] : Fin 4 → ℕ) a + S1x1x192x1024.size a ≤ S1x16x192x1024.size a := by
  intro a; fin_cases a <;> simp [S1x1x192x1024, S1x16x192x1024] <;> omega

/-- Query tile `n` (the last stands in for one past it). -/
def qT : Vec F S1x1024x192 .bf16 := VecWindow.window E.Q ![0, 1024 * min n 15, 0] S1x1024x192.size (inbQ n)
/-- Tile `n` of the output's gradient. -/
def dT : Vec F S1024x128 .bf16 := VecWindow.window E.D ![1024 * min n 15, 0] S1024x128.size (inbD n)
/-- The log-sum-exp of query tile `n`. -/
def lT : Vec F S1x1x1x1024 .f32 := VecWindow.window E.L ![0, min n 15, 0, 0] S1x1x1x1024.size (inbL n)
/-- The row sums `Σ do · out` of query tile `n`. -/
def eT : Vec F S1x1x1x1024 .f32 := VecWindow.window E.Dl ![0, min n 15, 0, 0] S1x1x1x1024.size (inbL n)

/-- The scores of query tile `n` against the key tile. -/
def zz : FVec F S1x1024x1024 .f32 := k0_pay7 E.kM (E.qT n)
/-- The products of the values with the output's gradient. -/
def dp : FVec F S1x1024x1024 .f32 := k0_pay8 E.vT (E.dT n)
/-- The probabilities of a tile below the diagonal. -/
def pr : FVec F S1024x1024 .f32 := k0_pay9 (E.zz n) (E.lT n)
/-- The probabilities of the tile on the diagonal. -/
def prD : FVec F S1024x1024 .f32 := k0_pay52 (k0_pay51 (E.zz n)) (E.lT n)

/-- Row `n` of the gradient of the queries. -/
def row (A : Vec F S1x16x192x1024 .f32) : Vec F S1x1x192x1024 .f32 :=
  VecWindow.window A ![0, min n 15, 0, 0] S1x1x192x1024.size (inbR n)

/-- What query tile `n`, with probabilities `p`, adds to the accumulators. -/
def add (p : FVec F S1024x1024 .f32) (A : Acc F) : Acc F where
  dq := VecWindow.put A.dq ![0, min n 15, 0, 0] S1x1x192x1024.size
    (k0_pay14 (k0_pay13 E.kM p (E.dp n) (E.eT n) (row n A.dq)))
  dk := k0_pay12 p (E.dp n) (E.eT n) A.dk (E.qT n)
  dv := k0_pay11 p A.dv (E.dT n)

theorem add_dq (p : FVec F S1024x1024 .f32) (A : Acc F) : (E.add n p A).dq = VecWindow.put A.dq ![0, min n 15, 0, 0] S1x1x192x1024.size
    (k0_pay14 (k0_pay13 E.kM p (E.dp n) (E.eT n) (row n A.dq))) := rfl

/-- A query tile below the diagonal. -/
def stage (A : Acc F) : Acc F := E.add n (E.pr n) A
/-- The query tile on the diagonal. -/
def diag (A : Acc F) : Acc F := E.add n (E.prD n) A

/-- The first `m` query tiles after tile `j`. -/
def upto (j : ℕ) : ℕ → Acc F → Acc F
  | 0, A => A
  | m + 1, A => E.stage (j + m + 1) (upto j m A)

/-- The whole grid point on key tile `j`, from the gradient of the queries so far. -/
def point (j : ℕ) (dq : Vec F S1x16x192x1024 .f32) : Acc F :=
  E.upto j (15 - j) (E.diag j ⟨if j = 0 then k0_pay43 else dq, k0_pay44, k0_pay45⟩)

end Env

/-- The two slots hold the tiles fetched: slot `b` of a pair of tiles. -/
def slot (b : ℕ) (hb : b < 2) (Z : Vec F S2x1024x1024 .f32) : Vec F S1x1024x1024 .f32 :=
  VecWindow.window Z ![b, 0, 0] S1x1024x1024.size (by intro a; fin_cases a <;> simp [S1x1024x1024, S2x1024x1024] <;> omega)

theorem readAt_window {sig : RefSig} {κ : Kind} {sp : Space} {s : Shape} {e : EltTy} {Val : EltTy → Type} (v : View sig κ sp s e)
    {off off' size : Fin s.rank → ℕ} (h : off = off') (p : ∀ a, off a + size a ≤ s.size a) (p' : ∀ a, off' a + size a ≤ s.size a)
    (f : v.ty.Contents Val) :
    v.readAt Val (Rect.unit off size p).toLoadRect f = VecWindow.window (v.read Val f) off' size p' := by
  subst h; rfl

theorem tile_le (i : grid0.Coords) (k : Fin (k0_t1_loop i).trips) : (i 1).val + 2 * k.val + 2 ≤ 15 := by
  have h := k.isLt
  have ht := trips_t1 i
  have h1 : (i 1).val < 16 := (i 1).isLt
  omega

section Loads

variable {sig : RefSig} {κ : Kind} {sp : Space}

/-- A load of a query tile, at offsets in closed form. -/
theorem ldQ {Val : EltTy → Type} {e : EltTy} (v : View sig κ sp S1x16384x192 e) {off : Fin 3 → ℕ} (n : ℕ) (h : off = ![0, 1024 * min n 15, 0]) (p) (f : v.ty.Contents Val) :
    v.readAt Val (Rect.unit (s := S1x16384x192) off S1x1024x192.size p).toLoadRect f = VecWindow.window (v.read Val f) ![0, 1024 * min n 15, 0] S1x1024x192.size (Env.inbQ n) :=
  readAt_window v h p _ f
theorem ldD {Val : EltTy → Type} {e : EltTy} (v : View sig κ sp S16384x128 e) {off : Fin 2 → ℕ} (n : ℕ) (h : off = ![1024 * min n 15, 0]) (p) (f : v.ty.Contents Val) :
    v.readAt Val (Rect.unit (s := S16384x128) off S1024x128.size p).toLoadRect f = VecWindow.window (v.read Val f) ![1024 * min n 15, 0] S1024x128.size (Env.inbD n) :=
  readAt_window v h p _ f
theorem ldL {Val : EltTy → Type} {e : EltTy} (v : View sig κ sp S1x16x1x1024 e) {off : Fin 4 → ℕ} (n : ℕ) (h : off = ![0, min n 15, 0, 0]) (p) (f : v.ty.Contents Val) :
    v.readAt Val (Rect.unit (s := S1x16x1x1024) off S1x1x1x1024.size p).toLoadRect f = VecWindow.window (v.read Val f) ![0, min n 15, 0, 0] S1x1x1x1024.size (Env.inbL n) :=
  readAt_window v h p _ f
theorem ldR {Val : EltTy → Type} {e : EltTy} (v : View sig κ sp S1x16x192x1024 e) {off : Fin 4 → ℕ} (n : ℕ) (h : off = ![0, min n 15, 0, 0]) (p) (f : v.ty.Contents Val) :
    v.readAt Val (Rect.unit (s := S1x16x192x1024) off S1x1x192x1024.size p).toLoadRect f = VecWindow.window (v.read Val f) ![0, min n 15, 0, 0] S1x1x192x1024.size (Env.inbR n) :=
  readAt_window v h p _ f

theorem ldK {Val : EltTy → Type} {e : EltTy} (v : View sig κ sp S1024x192 e) (p) (f : v.ty.Contents Val) :
    v.readAt Val (Rect.unit (s := S1024x192) ![0, 0] S1024x192.size p).toLoadRect f = v.read Val f := View.readAt_full v f p
theorem ldV {Val : EltTy → Type} {e : EltTy} (v : View sig κ sp S1024x128 e) (p) (f : v.ty.Contents Val) :
    v.readAt Val (Rect.unit (s := S1024x128) ![0, 0] S1024x128.size p).toLoadRect f = v.read Val f := View.readAt_full v f p
theorem stK {Val : EltTy → Type} {e : EltTy} (v : View sig κ sp S1024x192 e) (p) (f : v.ty.Contents Val) (w) (l) :
    v.read Val (v.writes Val f (⟨Rect.unit (s := S1024x192) ![0, 0] S1024x192.size p, w⟩ :: l)) = w := View.read_writes_full v f p w l
theorem stV {Val : EltTy → Type} {e : EltTy} (v : View sig κ sp S1024x128 e) (p) (f : v.ty.Contents Val) (w) (l) :
    v.read Val (v.writes Val f (⟨Rect.unit (s := S1024x128) ![0, 0] S1024x128.size p, w⟩ :: l)) = w := View.read_writes_full v f p w l
theorem cvK (v : View sig κ sp S1024x192 .f32) (p p') (w : S1024x192.Idx → Elt F .f32) (l) :
    v.readCov (Val := Elt F) (⟨Rect.unit (s := S1024x192) ![0, 0] S1024x192.size p, w⟩ :: l) (Rect.unit (s := S1024x192) ![0, 0] S1024x192.size p').toLoadRect = w := View.readCov_full v p' p w l
theorem cvV (v : View sig κ sp S1024x128 .f32) (p p') (w : S1024x128.Idx → Elt F .f32) (l) :
    v.readCov (Val := Elt F) (⟨Rect.unit (s := S1024x128) ![0, 0] S1024x128.size p, w⟩ :: l) (Rect.unit (s := S1024x128) ![0, 0] S1024x128.size p').toLoadRect = w := View.readCov_full v p' p w l
/-- A store of one row of the gradient of the queries, at offsets in closed form. -/
theorem stR {Val : EltTy → Type} {e : EltTy} (v : View sig κ sp S1x16x192x1024 e) {off : Fin 4 → ℕ} (n : ℕ) (h : off = ![0, min n 15, 0, 0]) (p) (f : v.ty.Contents Val) (w) (l) :
    v.read Val (v.writes Val f (⟨Rect.unit (s := S1x16x192x1024) off S1x1x192x1024.size p, w⟩ :: l))
      = VecWindow.put (v.read Val (v.writes Val f l)) ![0, min n 15, 0, 0] S1x1x192x1024.size w := View.read_writes_cons_put v f p w l h
theorem slot_st (v : View sig κ sp S2x1024x1024 .f32) (b : ℕ) (hb : b < 2) (p) (f : v.ty.Contents (Elt F)) (w) (l) :
    slot b hb (v.read (Elt F) (v.writes (Elt F) f (⟨Rect.unit (s := S2x1024x1024) ![b, 0, 0] S1x1024x1024.size p, w⟩ :: l))) = w := by
  rw [View.read_writes_cons_put v f p w l rfl]
  exact VecWindow.window_put_same _ _ _ _ _
theorem row_put (n m : ℕ) (h : min m 15 ≠ min n 15) (A : Vec F S1x16x192x1024 .f32) (w) :
    Env.row m (VecWindow.put A ![0, min n 15, 0, 0] S1x1x192x1024.size w) = Env.row m A :=
  VecWindow.window_put_of_disjoint _ _ _ _ _ _ _ (1 : Fin 4) (by
    show min m 15 + 1 ≤ min n 15 ∨ min n 15 + 1 ≤ min m 15
    omega)

theorem ldSlot0 (v : View sig κ sp S2x1024x1024 .f32) (p p' p'') (w w' : S1x1024x1024.Idx → Elt F .f32) (l) :
    v.readCov (Val := Elt F) (⟨Rect.unit (s := S2x1024x1024) ![1, 0, 0] S1x1024x1024.size p, w⟩ :: ⟨Rect.unit (s := S2x1024x1024) ![0, 0, 0] S1x1024x1024.size p', w'⟩ :: l)
      (Rect.unit (s := S2x1024x1024) ![0, 0, 0] S1x1024x1024.size p'').toLoadRect = w' := by
  refine (readAt_window v (off' := ![0, 0, 0]) rfl p'' p'' _).trans ?_
  rw [View.read_writes_cons_put (Val := Elt F) v _ p w _ rfl, View.read_writes_cons_put (Val := Elt F) v _ p' w' _ rfl,
    VecWindow.window_put_of_disjoint _ _ _ _ _ _ _ (0 : Fin 3) (Or.inl (by show 0 + 1 ≤ 1; omega))]
  exact VecWindow.window_put_same _ _ _ _ _

end Loads

section Closed

variable (i : grid0.Coords) (k : Fin (k0_t1_loop i).trips)

theorem off11_1m : k0_off11 i k 1#32 = ![0, min ((i 1).val + 2 * k.val + 1) 15, 0, 0] := by
  have := tile_le i k; rw [off11_1, Nat.min_eq_left (by omega)]
theorem off11_2m : k0_off11 i k 2#32 = ![0, min ((i 1).val + 2 * k.val + 2) 15, 0, 0] := by
  have := tile_le i k; rw [off11_2, Nat.min_eq_left (by omega)]
theorem off12_1m : k0_off12 i k 1#32 = ![1024 * min ((i 1).val + 2 * k.val + 1) 15, 0] := by
  have := tile_le i k; rw [off12_1, Nat.min_eq_left (by omega)]
theorem off12_2m : k0_off12 i k 2#32 = ![1024 * min ((i 1).val + 2 * k.val + 2) 15, 0] := by
  have := tile_le i k; rw [off12_2, Nat.min_eq_left (by omega)]
theorem off13_1m : k0_off13 i k 1#32 = ![0, 1024 * min ((i 1).val + 2 * k.val + 1) 15, 0] := by
  have := tile_le i k; rw [off13_1, Nat.min_eq_left (by omega)]
theorem off13_2m : k0_off13 i k 2#32 = ![0, 1024 * min ((i 1).val + 2 * k.val + 2) 15, 0] := by
  have := tile_le i k; rw [off13_2, Nat.min_eq_left (by omega)]
theorem off14_1m : k0_off14 i k 1#32 = ![0, min ((i 1).val + 2 * k.val + 1) 15, 0, 0] := by
  have := tile_le i k; rw [off14_1, Nat.min_eq_left (by omega)]
theorem off14_2m : k0_off14 i k 2#32 = ![0, min ((i 1).val + 2 * k.val + 2) 15, 0, 0] := by
  have := tile_le i k; rw [off14_2, Nat.min_eq_left (by omega)]

end Closed

end Cert.FlashBwd
-- ==== Proof.Trip.lean ====
module

public import proofs.«01_k».proof.Proof.Spec
public import proofs.«01_k».proof.Proof.Gen.KernelIdeal.Frame

@[expose] public section

set_option maxRecDepth 16384

noncomputable section

namespace Cert.FlashBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ
abbrev 𝒱₀ : Variants := Variants.none

section Trip

variable (c : Dev nD) (i : grid0.Coords)
  (arg2 : Memref sig .tc .vmem S1x1024x192 .bf16) (harg2 : arg2.IsWhole)
  (arg3 : Memref sig .tc .vmem S1x16384x192 .bf16) (harg3 : arg3.IsWhole)
  (arg4 : Memref sig .tc .vmem S16384x128 .bf16) (harg4 : arg4.IsWhole)
  (arg5 : Memref sig .tc .vmem S1x16x1x1024 .f32) (harg5 : arg5.IsWhole)
  (arg6 : Memref sig .tc .vmem S1x16x1x1024 .f32) (harg6 : arg6.IsWhole)
  (arg7 : Memref sig .tc .vmem S1024x128 .bf16) (harg7 : arg7.IsWhole)
  (arg8 : Memref sig .tc .vmem S1x16x192x1024 .f32) (harg8 : arg8.IsWhole)
  (arg9 : Memref sig .tc .vmem S1x1024x192 .f32) (harg9 : arg9.IsWhole)
  (arg10 : Memref sig .tc .vmem S1024x128 .f32) (harg10 : arg10.IsWhole)
  (arg11 : Memref sig .tc .vmem S1024x192 .f32) (harg11 : arg11.IsWhole)
  (arg12 : Memref sig .tc .vmem S1024x128 .f32) (harg12 : arg12.IsWhole)
  (arg13 : Memref sig .tc .vmem S2x1024x1024 .f32) (harg13 : arg13.IsWhole)
  (arg14 : Memref sig .tc .vmem S2x1024x1024 .f32) (harg14 : arg14.IsWhole)
  (w1 : BitVec 32) (v12 : FVec F S1024x192 .bf16) (v13 : Vec F S1024x128 .bf16)

abbrev own {s : Shape} {e : EltTy} (M : Memref sig .tc .vmem s e) (f : Buf (Elt F) (M.view.loc (c : Thread nD τ))) : sProp 𝕄 :=
  M.view.loc (c : Thread nD τ) ↦[M.view.set]{fullShare} f

theorem trip (k : Fin (k0_t1_loop i).trips) (E : Env F) (A : Acc F) (h12 : v12 = E.kM) (h13 : v13 = E.vT)
    (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f8 : Buf (Elt F) (arg8.view.loc (c : Thread nD τ))) (f11 : Buf (Elt F) (arg11.view.loc (c : Thread nD τ))) (f12 : Buf (Elt F) (arg12.view.loc (c : Thread nD τ)))
    (f13 : Buf (Elt F) (arg13.view.loc (c : Thread nD τ))) (f14 : Buf (Elt F) (arg14.view.loc (c : Thread nD τ)))
    (e3 : arg3.view.read (Elt F) f3 = E.Q) (e4 : arg4.view.read (Elt F) f4 = E.D) (e5 : arg5.view.read (Elt F) f5 = E.L) (e6 : arg6.view.read (Elt F) f6 = E.Dl)
    (e8 : arg8.view.read (Elt F) f8 = A.dq) (e11 : arg11.view.read (Elt F) f11 = A.dk) (e12 : arg12.view.read (Elt F) f12 = A.dv)
    (e13 : slot 1 (by omega) (arg13.view.read (Elt F) f13) = E.zz ((i 1).val + 2 * k.val + 1)) (e14 : slot 1 (by omega) (arg14.view.read (Elt F) f14) = E.dp ((i 1).val + 2 * k.val + 1)) :
    iprop(own c arg3 f3 ∗ own c arg4 f4 ∗ own c arg5 f5 ∗ own c arg6 f6 ∗ own c arg8 f8 ∗ own c arg11 f11 ∗ own c arg12 f12 ∗ own c arg13 f13 ∗ own c arg14 f14)
      ⊢ wp frame (wpE (defs₀ (F := F)) 𝒱₀ (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 w1 v12 v13 k ())
        (fun _ => iprop(∃ f8' f11' f12' f13' f14', own c arg3 f3 ∗ own c arg4 f4 ∗ own c arg5 f5 ∗ own c arg6 f6 ∗ own c arg8 f8' ∗ own c arg11 f11' ∗ own c arg12 f12' ∗ own c arg13 f13' ∗ own c arg14 f14' ∗
          ⌜arg8.view.read (Elt F) f8' = (E.stage ((i 1).val + 2 * k.val + 2) (E.stage ((i 1).val + 2 * k.val + 1) A)).dq ∧
           arg11.view.read (Elt F) f11' = (E.stage ((i 1).val + 2 * k.val + 2) (E.stage ((i 1).val + 2 * k.val + 1) A)).dk ∧
           arg12.view.read (Elt F) f12' = (E.stage ((i 1).val + 2 * k.val + 2) (E.stage ((i 1).val + 2 * k.val + 1) A)).dv ∧
           slot 1 (by omega) (arg13.view.read (Elt F) f13') = E.zz ((i 1).val + 2 * k.val + 3) ∧
           slot 1 (by omega) (arg14.view.read (Elt F) f14') = E.dp ((i 1).val + 2 * k.val + 3)⌝)) := by
  iintro ⟨H3, H4, H5, H6, H8, H11, H12, H13, H14⟩
  sl_unfold [k0_t1_body]
  sl_exec
  sl_step
  iexists _, _, _, _, _
  iframe H3 H4 H5 H6 H8 H11 H12 H13 H14
  ipureintro
  refine ⟨?_, ?_, ?_, ?_, ?_⟩
  all_goals sl_unfold_run_names
  all_goals simp only [ldQ arg3.view ((i 1).val + 2 * k.val + 2) (off9_1 i k), ldQ arg3.view ((i 1).val + 2 * k.val + 3) (off9_2 i k),
    ldD arg4.view ((i 1).val + 2 * k.val + 2) (off10_1 i k), ldD arg4.view ((i 1).val + 2 * k.val + 3) (off10_2 i k),
    ldQ arg3.view _ (off13_1m i k), ldQ arg3.view _ (off13_2m i k), ldD arg4.view _ (off12_1m i k), ldD arg4.view _ (off12_2m i k),
    ldL arg5.view _ (off11_1m i k), ldL arg5.view _ (off11_2m i k), ldL arg6.view _ (off11_1m i k), ldL arg6.view _ (off11_2m i k),
    ldR arg8.view _ (off14_1m i k), ldR arg8.view _ (off14_2m i k), stR arg8.view _ (off14_1m i k), stR arg8.view _ (off14_2m i k),
    View.writes_nil, e3, e4, e5, e6, e8, e11, e12, h12, h13]
  · rw [ldSlot0, ldSlot0, Env.stage, Env.add_dq, Env.stage, Env.add_dq, row_put _ _ (by have := tile_le i k; omega)]
    rfl
  · rw [stK, ldSlot0, ldSlot0, cvK, ldK, e11]
    rfl
  · rw [stV, ldSlot0, cvV, ldV, e12]
    rfl
  · exact (slot_st _ 1 _ _ _ _ _).trans rfl
  · exact (slot_st _ 1 _ _ _ _ _).trans rfl

end Trip
end Cert.FlashBwd
-- ==== Proof.Body.lean ====
module

public import proofs.«01_k».proof.Proof.Trip

@[expose] public section

set_option maxRecDepth 16384

noncomputable section

namespace Cert.FlashBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Body

variable (c : Dev nD) (i : grid0.Coords)
  (arg2 : Memref sig .tc .vmem S1x1024x192 .bf16) (harg2 : arg2.IsWhole)
  (arg3 : Memref sig .tc .vmem S1x16384x192 .bf16) (harg3 : arg3.IsWhole)
  (arg4 : Memref sig .tc .vmem S16384x128 .bf16) (harg4 : arg4.IsWhole)
  (arg5 : Memref sig .tc .vmem S1x16x1x1024 .f32) (harg5 : arg5.IsWhole)
  (arg6 : Memref sig .tc .vmem S1x16x1x1024 .f32) (harg6 : arg6.IsWhole)
  (arg7 : Memref sig .tc .vmem S1024x128 .bf16) (harg7 : arg7.IsWhole)
  (arg8 : Memref sig .tc .vmem S1x16x192x1024 .f32) (harg8 : arg8.IsWhole)
  (arg9 : Memref sig .tc .vmem S1x1024x192 .f32) (harg9 : arg9.IsWhole)
  (arg10 : Memref sig .tc .vmem S1024x128 .f32) (harg10 : arg10.IsWhole)
  (arg11 : Memref sig .tc .vmem S1024x192 .f32) (harg11 : arg11.IsWhole)
  (arg12 : Memref sig .tc .vmem S1024x128 .f32) (harg12 : arg12.IsWhole)
  (arg13 : Memref sig .tc .vmem S2x1024x1024 .f32) (harg13 : arg13.IsWhole)
  (arg14 : Memref sig .tc .vmem S2x1024x1024 .f32) (harg14 : arg14.IsWhole)
  (w1 : BitVec 32) (v12 : FVec F S1024x192 .bf16) (v13 : Vec F S1024x128 .bf16)

/-- Before trip `p` of the paired loop: the accumulators hold the first `2 p` query tiles after the diagonal, and the second
slot holds the next one. -/
def inv (E : Env F) (A : Acc F) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (p : ℕ) : sProp 𝕄 :=
  iprop(∃ f8 f11 f12 f13 f14, own c arg3 f3 ∗ own c arg4 f4 ∗ own c arg5 f5 ∗ own c arg6 f6 ∗ own c arg8 f8 ∗ own c arg11 f11 ∗ own c arg12 f12 ∗ own c arg13 f13 ∗ own c arg14 f14 ∗
    ⌜arg8.view.read (Elt F) f8 = (E.upto (i 1).val (2 * p) A).dq ∧
     arg11.view.read (Elt F) f11 = (E.upto (i 1).val (2 * p) A).dk ∧
     arg12.view.read (Elt F) f12 = (E.upto (i 1).val (2 * p) A).dv ∧
     slot 1 (by omega) (arg13.view.read (Elt F) f13) = E.zz ((i 1).val + 2 * p + 1) ∧
     slot 1 (by omega) (arg14.view.read (Elt F) f14) = E.dp ((i 1).val + 2 * p + 1)⌝)

/-- One trip takes the invariant to the next. -/
theorem inv_step (k : Fin (k0_t1_loop i).trips) (E : Env F) (A : Acc F) (h12 : v12 = E.kM) (h13 : v13 = E.vT)
    (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ)))
    (e3 : arg3.view.read (Elt F) f3 = E.Q) (e4 : arg4.view.read (Elt F) f4 = E.D) (e5 : arg5.view.read (Elt F) f5 = E.L) (e6 : arg6.view.read (Elt F) f6 = E.Dl) :
    inv c i arg3 arg4 arg5 arg6 arg8 arg11 arg12 arg13 arg14 E A f3 f4 f5 f6 k.val
      ⊢ wp frame (wpE (defs₀ (F := F)) 𝒱₀ (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 w1 v12 v13 k ())
        (fun _ => inv c i arg3 arg4 arg5 arg6 arg8 arg11 arg12 arg13 arg14 E A f3 f4 f5 f6 (k.val + 1)) := by
  unfold inv
  iintro ⟨%f8, %f11, %f12, %f13, %f14, H3, H4, H5, H6, H8, H11, H12, H13, H14, %h⟩
  obtain ⟨e8, e11, e12, e13, e14⟩ := h
  have ht := trip c i arg2 harg2 arg3 harg3 arg4 harg4 arg5 harg5 arg6 harg6 arg7 harg7 arg8 harg8 arg9 harg9 arg10 harg10 arg11 harg11 arg12 harg12 arg13 harg13 arg14 harg14 w1 v12 v13 k E (E.upto (i 1).val (2 * k.val) A) h12 h13 f3 f4 f5 f6 f8 f11 f12 f13 f14 e3 e4 e5 e6 e8 e11 e12 e13 e14
  iapply ht
  iframe H3 H4 H5 H6 H8 H11 H12 H13 H14

theorem ldKT {sp : Space} {Val : EltTy → Type} {e : EltTy} (v : View sig .tc sp S1x1024x192 e) (p) (f : v.ty.Contents Val) :
    v.readAt Val (Rect.unit (s := S1x1024x192) ![0, 0, 0] S1x1024x192.size p).toLoadRect f = v.read Val f := View.readAt_full v f p
theorem stKT {sp : Space} {Val : EltTy → Type} {e : EltTy} (v : View sig .tc sp S1x1024x192 e) (p) (f : v.ty.Contents Val) (w) (l) :
    v.read Val (v.writes Val f (⟨Rect.unit (s := S1x1024x192) ![0, 0, 0] S1x1024x192.size p, w⟩ :: l)) = w := View.read_writes_full v f p w l
theorem stR0 {sp : Space} {Val : EltTy → Type} {e : EltTy} (v : View sig .tc sp S1x16x192x1024 e) (p) (f : v.ty.Contents Val) (w) (l) :
    v.read Val (v.writes Val f (⟨Rect.unit (s := S1x16x192x1024) ![0, 0, 0, 0] S1x16x192x1024.size p, w⟩ :: l)) = w := View.read_writes_full v f p w l

section Coords
variable (i : grid0.Coords)
theorem lt16 : (i 1).val < 16 := (i 1).isLt
theorem k0_off1_eqm : k0_off1 i = ![0, 1024 * min (i 1).val 15, 0] := by
  have := lt16 i; rw [k0_off1_eq, Nat.min_eq_left (by omega)]
theorem k0_off7_eqm : k0_off7 i = ![0, 1024 * min (i 1).val 15, 0] := by
  have := lt16 i; rw [k0_off7_eq, Nat.min_eq_left (by omega)]
theorem k0_off2_eqm : k0_off2 i = ![1024 * min (i 1).val 15, 0] := by
  have := lt16 i; rw [k0_off2_eq, Nat.min_eq_left (by omega)]
theorem k0_off6_eqm : k0_off6 i = ![1024 * min (i 1).val 15, 0] := by
  have := lt16 i; rw [k0_off6_eq, Nat.min_eq_left (by omega)]
theorem k0_off5_eqm : k0_off5 i = ![0, min (i 1).val 15, 0, 0] := by
  have := lt16 i; rw [k0_off5_eq, Nat.min_eq_left (by omega)]
theorem k0_off8_eqm : k0_off8 i = ![0, min (i 1).val 15, 0, 0] := by
  have := lt16 i; rw [k0_off8_eq, Nat.min_eq_left (by omega)]
end Coords

theorem even_trips (i : grid0.Coords) (h : ¬ k0_cond2 i = 1#1) : 2 * (k0_t1_loop i).trips = 15 - (i 1).val := by
  have := trips_t1 i; have := lt16 i; rw [cond2_iff] at h; omega
theorem odd_next (i : grid0.Coords) (h : k0_cond2 i = 1#1) : (i 1).val + 2 * (k0_t1_loop i).trips + 1 = 15 := by
  have := trips_t1 i; have := lt16 i; rw [cond2_iff] at h; omega
theorem odd_upto (i : grid0.Coords) (h : k0_cond2 i = 1#1) (E : Env F) (A : Acc F) :
    E.upto (i 1).val (15 - (i 1).val) A = E.stage 15 (E.upto (i 1).val (2 * (k0_t1_loop i).trips) A) := by
  have h' := odd_next i h
  rw [show 15 - (i 1).val = 2 * (k0_t1_loop i).trips + 1 by omega, Env.upto, h']

/-- The test on entry is that for the first key tile. -/
theorem cond1_iff : ∀ i : grid0.Coords, Scalar.cmpi .ne (Scalar.extui (Scalar.cmpi .eq (BitVec.ofNat 32 (i 1).val) 0#32) : BitVec 32) 0#32 = 1#1 ↔ (i 1).val = 0 := by decide +kernel

/-- What the body of a grid point leaves. -/
def Post (E : Env F) (dq : Vec F S1x16x192x1024 .f32) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) : sProp 𝕄 :=
  iprop(∃ f8' f9' f10' f11' f12' f13' f14', own c arg2 f2 ∗ own c arg3 f3 ∗ own c arg4 f4 ∗ own c arg5 f5 ∗ own c arg6 f6 ∗ own c arg7 f7 ∗ own c arg8 f8' ∗ own c arg9 f9' ∗ own c arg10 f10' ∗ own c arg11 f11' ∗ own c arg12 f12' ∗ own c arg13 f13' ∗ own c arg14 f14' ∗
    ⌜arg8.view.read (Elt F) f8' = (E.point (i 1).val dq).dq ∧
     arg9.view.read (Elt F) f9' = k0_pay6 (E.point (i 1).val dq).dk ∧
     arg10.view.read (Elt F) f10' = (E.point (i 1).val dq).dv⌝)

set_option maxHeartbeats 1600000 in
/-- The body of a grid point, from its tiles and the gradient of the queries so far. -/
theorem body (E : Env F) (dq : Vec F S1x16x192x1024 .f32)
    (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ)))
    (e2 : arg2.view.read (Elt F) f2 = E.kT) (e3 : arg3.view.read (Elt F) f3 = E.Q) (e4 : arg4.view.read (Elt F) f4 = E.D) (e5 : arg5.view.read (Elt F) f5 = E.L) (e6 : arg6.view.read (Elt F) f6 = E.Dl)
    (e7 : arg7.view.read (Elt F) f7 = E.vT) (e8 : arg8.view.read (Elt F) f8 = dq) :
    iprop(own c arg2 f2 ∗ own c arg3 f3 ∗ own c arg4 f4 ∗ own c arg5 f5 ∗ own c arg6 f6 ∗ own c arg7 f7 ∗ own c arg8 f8 ∗ own c arg9 f9 ∗ own c arg10 f10 ∗ own c arg11 f11 ∗ own c arg12 f12 ∗ own c arg13 f13 ∗ own c arg14 f14)
      ⊢ wp frame (wpE (defs₀ (F := F)) 𝒱₀ (c : Thread nD τ) none) Set.univ
        (cc0_flash_bwd (F := F) i arg2 harg2 arg3 harg3 arg4 harg4 arg5 harg5 arg6 harg6 arg7 harg7 arg8 harg8 arg9 harg9 arg10 harg10 arg11 harg11 arg12 harg12 arg13 harg13 arg14 harg14)
        (fun _ => Post c i arg2 arg3 arg4 arg5 arg6 arg7 arg8 arg9 arg10 arg11 arg12 arg13 arg14 E dq f2 f3 f4 f5 f6 f7) := by
  rw [cc0_flash_bwd_eq_skeleton]
  have htr := trips_t2 i
  by_cases h1 : Scalar.cmpi .ne (Scalar.extui (Scalar.cmpi .eq (BitVec.ofNat 32 (i 1).val) 0#32) : BitVec 32) 0#32 = 1#1
  · have hj : (i 1).val = 0 := (cond1_iff i).1 h1
    iintro ⟨H2, H3, H4, H5, H6, H7, H8, H9, H10, H11, H12, H13, H14⟩
    unfold cc0_flash_bwd_skel
    sl_exec
    sl_for (fun p _ => inv c i arg3 arg4 arg5 arg6 arg8 arg11 arg12 arg13 arg14 E (E.diag (i 1).val ⟨if (i 1).val = 0 then k0_pay43 else dq, k0_pay44, k0_pay45⟩) f3 f4 f5 f6 p) $$ [H3 H4 H5 H6 H8 H11 H12 H13 H14]
    case region =>
      intro k a
      refine inv_step c i arg2 harg2 arg3 harg3 arg4 harg4 arg5 harg5 arg6 harg6 arg7 harg7 arg8 harg8 arg9 harg9 arg10 harg10 arg11 harg11 arg12 harg12 arg13 harg13 arg14 harg14 _ _ _ k E _ ?_ ?_ f3 f4 f5 f6 e3 e4 e5 e6
      · sl_unfold_run_names
        rw [ldKT, e2]; rfl
      · sl_unfold_run_names
        rw [ldV, e7]
    · unfold inv
      iexists _, _, _, _, _
      iframe H3 H4 H5 H6 H8 H11 H12 H13 H14
      ipureintro
      refine ⟨?_, ?_, ?_, ?_, ?_⟩
      all_goals sl_unfold_run_names
      all_goals simp only [ldQ arg3.view _ (k0_off1_eqm i), ldQ arg3.view _ (k0_off3_eq i), ldQ arg3.view _ (k0_off7_eqm i),
        ldD arg4.view _ (k0_off2_eqm i), ldD arg4.view _ (k0_off4_eq i), ldD arg4.view _ (k0_off6_eqm i),
        ldL arg5.view _ (k0_off5_eqm i), ldL arg6.view _ (k0_off5_eqm i), ldR arg8.view _ (k0_off8_eqm i), stR arg8.view _ (k0_off8_eqm i),
        View.writes_nil, e2, e3, e4, e5, e6, e7, e8]
      · rw [ldSlot0, ldSlot0, ldKT, ldV, e2, e7]
        rw [stR0, if_pos hj]
        rfl
      · rw [stK, ldSlot0, ldSlot0, cvK, ldKT, ldV, e2, e7]
        rfl
      · rw [stV, ldSlot0, cvV, ldKT, e2]
        rfl
      · refine (slot_st _ 1 _ _ _ _ _).trans ?_
        rw [ldKT, e2]
        rfl
      · refine (slot_st _ 1 _ _ _ _ _).trans ?_
        rw [ldV, e7]
        rfl
    iintro %acc HI
    unfold inv
    icases HI with ⟨%g8, %g11, %g12, %g13, %g14, H3, H4, H5, H6, H8, H11, H12, H13, H14, %h⟩
    obtain ⟨a8, a11, a12, a13, a14⟩ := h
    change _ = (E.upto (i 1).val (2 * (k0_t1_loop i).trips) _).dq at a8
    change _ = (E.upto (i 1).val (2 * (k0_t1_loop i).trips) _).dk at a11
    change _ = (E.upto (i 1).val (2 * (k0_t1_loop i).trips) _).dv at a12
    change _ = E.zz ((i 1).val + 2 * (k0_t1_loop i).trips + 1) at a13
    change _ = E.dp ((i 1).val + 2 * (k0_t1_loop i).trips + 1) at a14
    by_cases h2 : k0_cond2 i = 1#1
    · rw [odd_next i h2] at a13 a14
      sl_exec
      sl_step
      unfold Post
      iexists _, _, _, _, _, _, _
      iframe H2 H3 H4 H5 H6 H7 H8 H9 H10 H11 H12 H13 H14
      ipureintro
      rw [Env.point, odd_upto i h2]
      refine ⟨?_, ?_, ?_⟩
      all_goals sl_unfold_run_names
      all_goals simp only [ldQ (off := ![0, 15360, 0]) arg3.view 15 rfl, ldD (off := ![15360, 0]) arg4.view 15 rfl, ldL (off := ![0, 15, 0, 0]) arg5.view 15 rfl, ldL (off := ![0, 15, 0, 0]) arg6.view 15 rfl, ldR (off := ![0, 15, 0, 0]) arg8.view 15 rfl, stR (off := ![0, 15, 0, 0]) arg8.view 15 rfl,
        View.writes_nil, e2, e3, e4, e5, e6, e7, a8]
      · rw [ldKT, e2]
        rfl
      · rw [stKT, cvK, ldK, a11]
        rfl
      · rw [stV, cvV, ldV, a12]
        rfl
    · sl_exec
      sl_step
      unfold Post
      iexists _, _, _, _, _, _, _
      iframe H2 H3 H4 H5 H6 H7 H8 H9 H10 H11 H12 H13 H14
      ipureintro
      rw [Env.point, ← even_trips i h2]
      refine ⟨a8, ?_, ?_⟩
      all_goals sl_unfold_run_names
      · rw [stKT, ldK, a11]
      · rw [stV, ldV, a12]
  · have hj : ¬ (i 1).val = 0 := fun h => h1 ((cond1_iff i).2 h)
    iintro ⟨H2, H3, H4, H5, H6, H7, H8, H9, H10, H11, H12, H13, H14⟩
    unfold cc0_flash_bwd_skel
    sl_exec
    sl_for (fun p _ => inv c i arg3 arg4 arg5 arg6 arg8 arg11 arg12 arg13 arg14 E (E.diag (i 1).val ⟨if (i 1).val = 0 then k0_pay43 else dq, k0_pay44, k0_pay45⟩) f3 f4 f5 f6 p) $$ [H3 H4 H5 H6 H8 H11 H12 H13 H14]
    case region =>
      intro k a
      refine inv_step c i arg2 harg2 arg3 harg3 arg4 harg4 arg5 harg5 arg6 harg6 arg7 harg7 arg8 harg8 arg9 harg9 arg10 harg10 arg11 harg11 arg12 harg12 arg13 harg13 arg14 harg14 _ _ _ k E _ ?_ ?_ f3 f4 f5 f6 e3 e4 e5 e6
      · sl_unfold_run_names
        rw [ldKT, e2]; rfl
      · sl_unfold_run_names
        rw [ldV, e7]
    · unfold inv
      iexists _, _, _, _, _
      iframe H3 H4 H5 H6 H8 H11 H12 H13 H14
      ipureintro
      refine ⟨?_, ?_, ?_, ?_, ?_⟩
      all_goals sl_unfold_run_names
      all_goals simp only [ldQ arg3.view _ (k0_off1_eqm i), ldQ arg3.view _ (k0_off3_eq i), ldQ arg3.view _ (k0_off7_eqm i),
        ldD arg4.view _ (k0_off2_eqm i), ldD arg4.view _ (k0_off4_eq i), ldD arg4.view _ (k0_off6_eqm i),
        ldL arg5.view _ (k0_off5_eqm i), ldL arg6.view _ (k0_off5_eqm i), ldR arg8.view _ (k0_off8_eqm i), stR arg8.view _ (k0_off8_eqm i),
        View.writes_nil, e2, e3, e4, e5, e6, e7, e8]
      · rw [ldSlot0, ldSlot0, ldKT, ldV, e2, e7]
        rw [if_neg hj]
        rfl
      · rw [stK, ldSlot0, ldSlot0, cvK, ldKT, ldV, e2, e7]
        rfl
      · rw [stV, ldSlot0, cvV, ldKT, e2]
        rfl
      · refine (slot_st _ 1 _ _ _ _ _).trans ?_
        rw [ldKT, e2]
        rfl
      · refine (slot_st _ 1 _ _ _ _ _).trans ?_
        rw [ldV, e7]
        rfl
    iintro %acc HI
    unfold inv
    icases HI with ⟨%g8, %g11, %g12, %g13, %g14, H3, H4, H5, H6, H8, H11, H12, H13, H14, %h⟩
    obtain ⟨a8, a11, a12, a13, a14⟩ := h
    change _ = (E.upto (i 1).val (2 * (k0_t1_loop i).trips) _).dq at a8
    change _ = (E.upto (i 1).val (2 * (k0_t1_loop i).trips) _).dk at a11
    change _ = (E.upto (i 1).val (2 * (k0_t1_loop i).trips) _).dv at a12
    change _ = E.zz ((i 1).val + 2 * (k0_t1_loop i).trips + 1) at a13
    change _ = E.dp ((i 1).val + 2 * (k0_t1_loop i).trips + 1) at a14
    by_cases h2 : k0_cond2 i = 1#1
    · rw [odd_next i h2] at a13 a14
      sl_exec
      sl_step
      unfold Post
      iexists _, _, _, _, _, _, _
      iframe H2 H3 H4 H5 H6 H7 H8 H9 H10 H11 H12 H13 H14
      ipureintro
      rw [Env.point, odd_upto i h2]
      refine ⟨?_, ?_, ?_⟩
      all_goals sl_unfold_run_names
      all_goals simp only [ldQ (off := ![0, 15360, 0]) arg3.view 15 rfl, ldD (off := ![15360, 0]) arg4.view 15 rfl, ldL (off := ![0, 15, 0, 0]) arg5.view 15 rfl, ldL (off := ![0, 15, 0, 0]) arg6.view 15 rfl, ldR (off := ![0, 15, 0, 0]) arg8.view 15 rfl, stR (off := ![0, 15, 0, 0]) arg8.view 15 rfl,
        View.writes_nil, e2, e3, e4, e5, e6, e7, a8]
      · rw [ldKT, e2]
        rfl
      · rw [stKT, cvK, ldK, a11]
        rfl
      · rw [stV, cvV, ldV, a12]
        rfl
    · sl_exec
      sl_step
      unfold Post
      iexists _, _, _, _, _, _, _
      iframe H2 H3 H4 H5 H6 H7 H8 H9 H10 H11 H12 H13 H14
      ipureintro
      rw [Env.point, ← even_trips i h2]
      refine ⟨a8, ?_, ?_⟩
      all_goals sl_unfold_run_names
      · rw [stKT, ldK, a11]
      · rw [stV, ldV, a12]

end Body
end Cert.FlashBwd
-- ==== Proof.Run.lean ====
module

public import proofs.«01_k».proof.Proof.Body
public import proofs.«01_k».proof.Proof.Gen.KernelIdeal.Points
public import Idealize.ShloMosaic.Lib.Claim

@[expose] public section

set_option maxRecDepth 16384

noncomputable section

namespace Cert.FlashBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each grid point reads, and what it leaves -/

/-- What point `t` reads. -/
def env (c : Dev nD) (t : Fin cfg0.N) : Env F :=
  ⟨iblk m c 0 t, iblk m c 5 t, iblk m c 1 t, iblk m c 2 t, iblk m c 3 t, iblk m c 4 t⟩

/-- The key tile of point `t`. -/
def tileOf (t : Fin cfg0.N) : ℕ := (grid0.coords t 1).val

theorem tileOf_eq : ∀ t : Fin grid0.N, (grid0.coords t 1).val = t.val % 16 := by decide +kernel

/-- The gradient of the queries after point `n`. -/
def dqAt (c : Dev nD) : (n : ℕ) → n < cfg0.N → Vec F S1x16x192x1024 .f32
  | 0, h => ((env m c ⟨0, h⟩).point (tileOf ⟨0, h⟩) k0_pay43).dq
  | n + 1, h => ((env m c ⟨n + 1, h⟩).point (tileOf ⟨n + 1, h⟩) (dqAt c n (Nat.lt_of_succ_lt h))).dq

/-- The gradient of the queries before point `t`. -/
def dqPrev (c : Dev nD) (t : Fin cfg0.N) : Vec F S1x16x192x1024 .f32 :=
  if h : t.val = 0 then k0_pay43 else dqAt m c (t.val - 1) (by have := t.isLt; omega)

/-- What point `t` leaves. -/
def accAt (c : Dev nD) (t : Fin cfg0.N) : Acc F := (env m c t).point (tileOf t) (dqPrev m c t)

theorem dqAt_eq (c : Dev nD) (n : ℕ) (h : n < cfg0.N) : dqAt m c n h = (accAt m c ⟨n, h⟩).dq := by
  cases n with
  | zero => rfl
  | succ n => simp only [accAt, dqPrev, dqAt]; rfl

/-- The first tile of a head starts the gradient of the queries from zero. -/
theorem point_zero (E : Env F) (d d' : Vec F S1x16x192x1024 .f32) : E.point 0 d = E.point 0 d' := by
  unfold Env.point; rw [if_pos rfl, if_pos rfl]

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (accAt m c t).dq
    | ⟨7, _⟩ => k0_pay6 (accAt m c t).dk
    | ⟨8, _⟩ => (accAt m c t).dv
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (accAt m c t).dq := by dsimp only [dats]
theorem after0_7 (c : Dev nD) (t : Fin cfg0.N) : (dats m 0 c).after 7 t = k0_pay6 (accAt m c t).dk := by dsimp only [dats]
theorem after0_8 (c : Dev nD) (t : Fin cfg0.N) : (dats m 0 c).after 8 t = (accAt m c t).dv := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- Whatever the buffer of the gradient of the queries holds before point `t`, the point leaves the same. -/
theorem point_before (c : Dev nD) (t : Fin cfg0.N) (d) : (env m c t).point (tileOf t) ((dats m 0 c).before 6 t d) = accAt m c t := by
  by_cases h : t.val % 16 = 0
  · have hj : tileOf t = 0 := (tileOf_eq t).trans h
    unfold accAt
    rw [hj]
    exact point_zero _ _ _
  · have h0 : t.val ≠ 0 := fun e => h (by rw [e])
    have hb : (dats m 0 c).before 6 t d = (dats m 0 c).after 6 ⟨t.val - 1, Nat.lt_of_le_of_lt (Nat.sub_le _ _) t.isLt⟩ :=
      (dats m 0 c).before_out_kept 6 rfl t h0 (by
        rw [Bool.eq_false_iff]
        intro hf
        have := (flush0_6 _).1 hf
        simp only at this
        omega) (fun _ => rfl) (fun _ _ => rfl) d
    rw [hb, after0_6, ← dqAt_eq m c _ (Nat.lt_of_le_of_lt (Nat.sub_le _ _) t.isLt)]
    unfold accAt dqPrev
    rw [dif_neg h0]

/-! ## The body at every point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem own_scratch0 (c : Dev nD) (f : Buf (Elt F) ((c : Thread nD τ).loc cc0_scratch0)) :
    (((c : Thread nD τ).loc cc0_scratch0) ↦{fullShare} f : sProp 𝕄) = own c (Memref.whole cc0_scratch0) f := by
  show _ = (_ ↦[(View.whole cc0_scratch0).set]{fullShare} f : sProp 𝕄)
  rw [View.set_whole]
theorem own_scratch1 (c : Dev nD) (f : Buf (Elt F) ((c : Thread nD τ).loc cc0_scratch1)) :
    (((c : Thread nD τ).loc cc0_scratch1) ↦{fullShare} f : sProp 𝕄) = own c (Memref.whole cc0_scratch1) f := by
  show _ = (_ ↦[(View.whole cc0_scratch1).set]{fullShare} f : sProp 𝕄)
  rw [View.set_whole]
theorem own_scratch2 (c : Dev nD) (f : Buf (Elt F) ((c : Thread nD τ).loc cc0_scratch2)) :
    (((c : Thread nD τ).loc cc0_scratch2) ↦{fullShare} f : sProp 𝕄) = own c (Memref.whole cc0_scratch2) f := by
  show _ = (_ ↦[(View.whole cc0_scratch2).set]{fullShare} f : sProp 𝕄)
  rw [View.set_whole]
theorem own_scratch3 (c : Dev nD) (f : Buf (Elt F) ((c : Thread nD τ).loc cc0_scratch3)) :
    (((c : Thread nD τ).loc cc0_scratch3) ↦{fullShare} f : sProp 𝕄) = own c (Memref.whole cc0_scratch3) f := by
  show _ = (_ ↦[(View.whole cc0_scratch3).set]{fullShare} f : sProp 𝕄)
  rw [View.set_whole]

set_option maxHeartbeats 1600000 in
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6, after0_7, after0_8]
  unfold Pipeline.ΦA owns
  rw [scopedRest0_eq]
  simp only [own_scratch0, own_scratch1, own_scratch2, own_scratch3]
  iintro ⟨⟨⟨⟨%s0, S0⟩, ⟨%s1, S1⟩, ⟨%s2, S2⟩, ⟨%s3, S3⟩⟩, Hρ⟩, Ho, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩, ⟨%d6, %g6, %e6, H6⟩, ⟨%d7, %g7, %e7, H7⟩, ⟨%d8, %g8, %e8, H8⟩⟩
  have hb := body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))
    (Memref.whole cc0_scratch0) (Memref.isWhole_whole _) (Memref.whole cc0_scratch1) (Memref.isWhole_whole _) (Memref.whole cc0_scratch2) (Memref.isWhole_whole _) (Memref.whole cc0_scratch3) (Memref.isWhole_whole _)
    (env m c t) ((dats m 0 c).before 6 t d6) g0 g1 g2 g3 g4 g5 g6 g7 g8 s0 s1 s2 s3 e0 e1 e2 e3 e4 e5 e6
  have hp := point_before m c t d6
  unfold tileOf at hp
  unfold Post at hb
  rw [hp] at hb
  iapply (wp_wand_r frame (wpE (defs₀ (F := F)) 𝒱₀ (c : Thread nD τ) none) Set.univ)
  isplitl [H0 H1 H2 H3 H4 H5 H6 H7 H8 S0 S1 S2 S3]
  · iapply hb
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    iexact S3
  · iintro %a ⟨%g6', %g7', %g8', %s0', %s1', %s2', %s3', H0, H1, H2, H3, H4, H5, H6, H7, H8, S0, S1, S2, S3, %h⟩
    obtain ⟨h6, h7, h8⟩ := h
    isplitl [S0 S1 S2 S3 Hρ]
    · isplitr [Hρ]
      · isplitl [S0]; · iexists _; iexact S0
        isplitl [S1]; · iexists _; iexact S1
        isplitl [S2]; · iexists _; iexact S2
        iexists _; iexact S3
      · iexact Hρ
    isplitl [Ho]; · iexact Ho
    isplitl [H0]
    · iexists g0
      isplitr [H0]
      · ipureintro; exact e0
      · iexact H0
    isplitl [H1]
    · iexists g1
      isplitr [H1]
      · ipureintro; exact e1
      · iexact H1
    isplitl [H2]
    · iexists g2
      isplitr [H2]
      · ipureintro; exact e2
      · iexact H2
    isplitl [H3]
    · iexists g3
      isplitr [H3]
      · ipureintro; exact e3
      · iexact H3
    isplitl [H4]
    · iexists g4
      isplitr [H4]
      · ipureintro; exact e4
      · iexact H4
    isplitl [H5]
    · iexists g5
      isplitr [H5]
      · ipureintro; exact e5
      · iexact H5
    isplitl [H6]
    · iexists g6'
      isplitr [H6]
      · ipureintro; exact h6
      · iexact H6
    isplitl [H7]
    · iexists g7'
      isplitr [H7]
      · ipureintro; exact h7
      · iexact H7
    iexists g8'
    isplitr [H8]
    · ipureintro; exact h8
    · iexact H8

theorem defs₀_row (t : Fin cfg0.N) : defs₀ (F := F) .tc cfg0.body (cfg0.bodyArgs t (cfg0.slots t)) = bodyAt0 t := by
  unfold defs₀; rw [Defs.onTc_tc]

set_option maxRecDepth 65536 in
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
/-- The run: every array ends at what the proof data say, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end unchanged and the counters at zero, for any float type. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.FlashBwd
-- ==== Proof.Twin.lean ====
/-
  The kernel's program in machine arithmetic and its idealized twin are the same text; here they are shown to be the same
  program, so that what is proved of one holds of the other.
-/
module

public import proofs.«01_k».proof.Defs
public import proofs.«01_k».proof.Proof.Gen.Kernel
public import proofs.«01_k».proof.Proof.Gen.KernelIdeal
public import proofs.«01_k».proof.Proof.Gen.Kernel.Launch
public import proofs.«01_k».proof.Proof.Gen.KernelIdeal.Launch

@[expose] public section

set_option maxRecDepth 16384

namespace Cert.Twin

open Idealize.ShloMosaic Idealize.SL.Sem

/-- The two kernel bodies. -/
theorem body_eq : @Cert.Kernel.cc0_flash_bwd Bits _ _ = @Cert.KernelIdeal.cc0_flash_bwd Bits _ _ := rfl

/-- The two tables of kernel bodies. -/
theorem bodies_eq : @Cert.Kernel.defs₀ Bits _ _ = @Cert.KernelIdeal.defs₀ Bits _ _ := by
  refine congrArg Defs.onTc ?_
  funext l x
  match l, x with
  | 0, (t, s) => rfl
  | ⟨n + 1, h⟩, _ => omega

/-- The two tables with the pipelines' own bodies. -/
theorem defs_eq : @Cert.Kernel.defs Bits _ _ = @Cert.KernelIdeal.defs Bits _ _ :=
  congrArg (Pipeline.defs Cert.KernelIdeal.pcfgs) bodies_eq

set_option maxHeartbeats 1000000 in
/-- The two programs around the call. -/
theorem main_eq (c) : @Cert.Kernel.main Bits _ _ c = @Cert.KernelIdeal.main Bits _ _ c := by
  rw [Cert.Kernel.Gen.main_chain, Cert.KernelIdeal.Gen.main_chain]
  rfl

/-- A run of the idealized program's text, in machine arithmetic, is a run of the kernel's. -/
theorem run_eq (m : (ℓ : Loc Cert.Kernel.nD Cert.Kernel.τ Cert.Kernel.sig) → Buf (Elt Bits) ℓ) (g : Dev Cert.Kernel.nD → PrngReg)
    {Q : PUnit × MemSt Cert.Kernel.nD Cert.Kernel.τ Cert.Kernel.sig (Elt Bits) → Prop}
    (h : θ_run (Cert.KernelIdeal.defs (F := Bits)) (onTc (τ := Cert.KernelIdeal.τ) (Cert.KernelIdeal.main (F := Bits))) ⟨m, fun _ => 0, g⟩ Q) :
    θ_run (Cert.Kernel.defs (F := Bits)) (onTc (τ := Cert.Kernel.τ) (Cert.Kernel.main (F := Bits))) ⟨m, fun _ => 0, g⟩ Q := by
  rw [defs_eq, show @Cert.Kernel.main Bits _ _ = @Cert.KernelIdeal.main Bits _ _ from funext main_eq]
  exact h

end Cert.Twin
-- ==== Proof.Frames.lean ====
/-
  Every program ends with its arguments unchanged and its counters at zero.
-/
module

public import proofs.«01_k».proof.Defs
public import proofs.«01_k».proof.Proof.Run
public import proofs.«01_k».proof.Proof.Twin
public import proofs.«01_k».proof.Proof.Gen.Kernel
public import proofs.«01_k».proof.Proof.Gen.ReferenceIdeal
public import proofs.«01_k».proof.Proof.Gen.ReferenceIdeal.Run
public import proofs.«01_k».proof.Proof.Gen.Pre_finite
public import Idealize.ShloMosaic.Lib.Claim
public import Idealize.ShloMosaic.Lib.Quiescent

@[expose] public section

set_option maxRecDepth 16384

noncomputable section

namespace Cert.Proof

open Idealize.ShloMosaic Idealize.SL.Sem

/-- The kernel, in machine arithmetic. -/
theorem quiet_kernel : Cert.quiescent_Kernel := fun m ρ _ =>
  Cert.Twin.run_eq m ρ (Cert.FlashBwd.frame_any (F := Bits) m ρ)

/-- The kernel, in exact arithmetic. -/
theorem quiet_ideal : Cert.quiescent_KernelIdeal := fun m ρ _ =>
  (θ_run Cert.KernelIdeal.defs _ _).mono (fun _ h => h) (Cert.FlashBwd.frame_any (F := Ideal) m ρ)

/-- The kernel, in exact arithmetic on finite arguments. -/
theorem quiet_ideal_finite : Cert.quiescent_KernelIdeal_pre_finite := fun m ρ _ =>
  (θ_run Cert.KernelIdeal.defs _ _).mono (fun _ h => h) (Cert.FlashBwd.frame_any (F := Ideal) m ρ)

/-- The reference: it declares no counter, so every one is zero. -/
theorem quiet_reference : Cert.quiescent_ReferenceIdeal := fun m ρ _ =>
  (θ_run Cert.ReferenceIdeal.defs _ _).mono
    (fun r h => ⟨fun c => ⟨(h c).2.2.2.1, (h c).2.2.2.2.1, (h c).2.2.2.2.2.1, (h c).2.2.2.2.2.2⟩, sem_eq_zero_of_no_sems (by decide) r.2⟩)
    (Cert.ReferenceIdeal.Value.run (F := Ideal) m ρ)

/-- The reference, on finite arguments. -/
theorem quiet_reference_finite : Cert.quiescent_ReferenceIdeal_pre_finite := fun m g _ => quiet_reference m g trivial

end Cert.Proof
-- ==== Proof.Math.lean ====
/-
  Causal softmax attention of one head over the reals, its gradient, and what does not depend on the number subtracted in
  the exponent.
-/
module

public import Mathlib.Analysis.SpecialFunctions.Log.Basic
public import Mathlib.Analysis.SpecialFunctions.Exp
public import Mathlib.Data.EReal.Operations
public import Mathlib.Algebra.BigOperators.Fin
public import Mathlib.Algebra.BigOperators.Intervals
public import Mathlib.Algebra.BigOperators.Field
public import Mathlib.Tactic.FieldSimp
public import Mathlib.Tactic.Ring
public import Mathlib.Data.Finset.Fold

@[expose] public section

noncomputable section

namespace Cert.Attn

open Finset

/-- A head: the rows of its queries, keys and values, and of the gradient of its output. -/
structure Head where
  q : ℕ → ℕ → ℝ
  k : ℕ → ℕ → ℝ
  v : ℕ → ℕ → ℝ
  g : ℕ → ℕ → ℝ

namespace Head

variable (H : Head) (N : ℕ)

/-- The score of query `i` against key `j`. -/
def S (i j : ℕ) : ℝ := ∑ d ∈ range 192, H.q i d * H.k j d
/-- Its exponential, where the key is not after the query. -/
def X (i j : ℕ) : ℝ := if j ≤ i then Real.exp (H.S i j) else 0
/-- The row sum. -/
def Z (i : ℕ) : ℝ := ∑ j ∈ range N, H.X i j
/-- The probability. -/
def p (i j : ℕ) : ℝ := H.X i j / H.Z N i
/-- The gradient of the probability. -/
def G (i j : ℕ) : ℝ := ∑ e ∈ range 128, H.g i e * H.v j e
/-- The row sum that the softmax's gradient subtracts. -/
def dl (i : ℕ) : ℝ := ∑ j ∈ range N, H.p N i j * H.G i j
/-- The gradient of the score. -/
def ds (i j : ℕ) : ℝ := H.p N i j * (H.G i j - H.dl N i)
/-- The gradient of the queries. -/
def dq (i d : ℕ) : ℝ := ∑ j ∈ range N, H.ds N i j * H.k j d
/-- The gradient of the keys. -/
def dk (j d : ℕ) : ℝ := ∑ i ∈ range N, H.ds N i j * H.q i d
/-- The gradient of the values. -/
def dv (j e : ℕ) : ℝ := ∑ i ∈ range N, H.p N i j * H.g i e

theorem X_of_lt {i j : ℕ} (h : i < j) : H.X i j = 0 := if_neg (by omega)
theorem p_of_lt {i j : ℕ} (h : i < j) : H.p N i j = 0 := by rw [p, H.X_of_lt h, zero_div]
theorem ds_of_lt {i j : ℕ} (h : i < j) : H.ds N i j = 0 := by rw [ds, H.p_of_lt N h, zero_mul]

theorem X_nonneg (i j : ℕ) : 0 ≤ H.X i j := by
  rw [X]; split
  · exact (Real.exp_pos _).le
  · exact le_rfl

/-- A row has a key, so its sum is positive. -/
theorem Z_pos {i : ℕ} (h : i < N) : 0 < H.Z N i := by
  refine sum_pos' (fun j _ => H.X_nonneg i j) ⟨i, mem_range.mpr h, ?_⟩
  rw [X, if_pos le_rfl]; exact Real.exp_pos _

/-- Exponentials of shifted scores. -/
theorem X_shift (M : ℝ) (i j : ℕ) : (if j ≤ i then Real.exp (H.S i j - M) else 0) = H.X i j * Real.exp (-M) := by
  rw [X]; split
  · rw [← Real.exp_add, sub_eq_add_neg]
  · rw [zero_mul]

theorem Z_shift (M : ℝ) (i : ℕ) : ∑ j ∈ range N, H.X i j * Real.exp (-M) = H.Z N i * Real.exp (-M) := by
  rw [Z, sum_mul]

theorem Zs_pos (M : ℝ) {i : ℕ} (h : i < N) : 0 < H.Z N i * Real.exp (-M) := mul_pos (H.Z_pos N h) (Real.exp_pos _)

/-- The shift cancels in the quotient. -/
theorem p_shift (M : ℝ) (i j : ℕ) : H.X i j * Real.exp (-M) / (H.Z N i * Real.exp (-M)) = H.p N i j :=
  mul_div_mul_right _ _ (Real.exp_pos _).ne'

/-- The probability from the log-sum-exp. -/
theorem p_lse (M : ℝ) {i j : ℕ} (h : i < N) (hj : j ≤ i) :
    Real.exp (H.S i j - (M + Real.log (H.Z N i * Real.exp (-M)))) = H.p N i j := by
  rw [Real.exp_sub, Real.exp_add, Real.exp_log (H.Zs_pos N M h), p, X, if_pos hj]
  have h1 := Real.exp_pos (-M)
  have h2 := H.Z_pos N h
  have : Real.exp M * (H.Z N i * Real.exp (-M)) = H.Z N i := by
    rw [mul_comm (H.Z N i), ← mul_assoc, ← Real.exp_add]; simp
  rw [this]

/-- The row sum of the products of the output's gradient with the output. -/
theorem dl_out (i : ℕ) : ∑ e ∈ range 128, H.g i e * ∑ j ∈ range N, H.p N i j * H.v j e = H.dl N i := by
  simp only [dl, G, mul_sum]
  rw [sum_comm]
  exact sum_congr rfl fun j _ => sum_congr rfl fun e _ => by ring

/-- The gradient of the score as a quotient's gradient. -/
theorem ds_shift (M : ℝ) {i : ℕ} (h : i < N) (j : ℕ) :
    (H.G i j / (H.Z N i * Real.exp (-M)) + -∑ j ∈ range N, H.G i j * (1 / ((H.Z N i * Real.exp (-M)) * (H.Z N i * Real.exp (-M)))) * (H.X i j * Real.exp (-M)))
      * (H.X i j * Real.exp (-M)) = H.ds N i j := by
  have hz := (H.Z_pos N h).ne'
  have he := (Real.exp_pos (-M)).ne'
  have : ∑ j ∈ range N, H.G i j * (1 / ((H.Z N i * Real.exp (-M)) * (H.Z N i * Real.exp (-M)))) * (H.X i j * Real.exp (-M))
      = H.dl N i / (H.Z N i * Real.exp (-M)) := by
    rw [dl, Finset.sum_div]
    refine sum_congr rfl fun j _ => ?_
    rw [p]; field_simp
  rw [this, ds, p]
  field_simp
  ring

end Head

/-- A sum over `a * m` terms, in `a` runs of `m`. -/
theorem sum_runs (f : ℕ → ℝ) (m a : ℕ) : ∑ i ∈ range (m * a), f i = ∑ n ∈ range a, ∑ b ∈ range m, f (m * n + b) := by
  induction a with
  | zero => simp
  | succ a ih => rw [Nat.mul_succ, sum_range_add, ih, sum_range_succ]

/-- A sum from `J` on, where the terms before it vanish. -/
theorem sum_from (f : ℕ → ℝ) (a J : ℕ) (h : ∀ n < J, f n = 0) (hJ : J ≤ a) :
    ∑ m ∈ range (a - J), f (J + m) = ∑ n ∈ range a, f n := by
  obtain ⟨b, rfl⟩ := Nat.exists_eq_add_of_le hJ
  rw [sum_range_add, sum_eq_zero (fun n hn => h n (mem_range.mp hn)), zero_add, Nat.add_sub_cancel_left]

/-- A finite sum of real values. -/
theorem coe_sum {n : ℕ} (X : Fin n → EReal) (f : ℕ → ℝ) (h : ∀ k, X k = ((f k.val : ℝ) : EReal)) :
    ∑ k, X k = ((∑ k ∈ range n, f k : ℝ) : EReal) := by
  rw [sum_congr rfl (fun k _ => h k), sum_range]
  clear h X
  induction n with
  | zero => simp
  | succ n ih =>
    rw [Fin.sum_univ_castSucc, Fin.sum_univ_castSucc, EReal.coe_add]
    exact congrArg (fun x => x + ((f n : ℝ) : EReal)) ih

/-- A finite sum of products of real values. -/
theorem coe_dot {n : ℕ} (X Y : Fin n → EReal) (f g : ℕ → ℝ) (hX : ∀ k, X k = ((f k.val : ℝ) : EReal)) (hY : ∀ k, Y k = ((g k.val : ℝ) : EReal)) :
    ∑ k, X k * Y k = ((∑ k ∈ range n, f k * g k : ℝ) : EReal) :=
  coe_sum _ _ fun k => by rw [hX, hY, EReal.coe_mul]

/-- The largest of finitely many values, none `⊤` and one not `⊥`, is real. -/
theorem fold_max_real {α : Type} (l : Finset α) (f : α → EReal) (b : EReal) (hb : b < ⊤) (ht : ∀ a ∈ l, f a < ⊤)
    (h : ∃ a ∈ l, ⊥ < f a) : ∃ r : ℝ, l.fold max b f = (r : EReal) :=
  ⟨(l.fold max b f).toReal, (EReal.coe_toReal ((Finset.fold_max_lt _).mpr ⟨hb, ht⟩).ne ((Finset.lt_fold_max _).mpr (Or.inr h)).ne').symm⟩

end Cert.Attn
-- ==== Proof.Scalars.lean ====
/-
  The operations of extended-real arithmetic that the attention uses, at real values.
-/
module

public import proofs.«01_k».proof.Proof.Math
public import Idealize.ShloMosaic.PureOps.Ideal.Laws
public import Idealize.ShloMosaic.Lib.WordCmp
public import Idealize.ShloMosaic.Lib.IdealHost
public import Idealize.ShloMosaic.Lib.Pipeline.Value

@[expose] public section

set_option maxRecDepth 16384

noncomputable section

namespace Cert.Attn

open Idealize.ShloMosaic

/-- A quotient by a positive number. -/
theorem div_real (a b : ℝ) (h : 0 < b) : Ideal.div (a : EReal) (b : EReal) = ((a / b : ℝ) : EReal) := by
  rw [Ideal.div, if_neg (by exact_mod_cast h.ne'), div_eq_mul_inv, EReal.coe_mul, EReal.coe_inv]

/-- The logarithm of a positive number. -/
theorem log_real (a : ℝ) (h : 0 < a) : Ideal.log (a : EReal) = ((Real.log a : ℝ) : EReal) := by
  rw [Ideal.log_coe, if_neg (not_le.mpr h)]

/-- The exponential of a shifted masked score. -/
theorem exp_masked (c : Prop) [Decidable c] (s M : ℝ) :
    Ideal.exp ((if c then (s : EReal) else ⊥) - (M : EReal)) = ((if c then Real.exp (s - M) else 0 : ℝ) : EReal) := by
  split
  · rw [← EReal.coe_sub]; rfl
  · rw [sub_eq_add_neg, EReal.bot_add]; rfl

/-- A choice by comparing two small words. -/
theorem select_le {α : Type} (a b : ℕ) (ha : a < 16384) (hb : b < 16384) (x y : α) :
    Scalar.select (IntOp.cmpi .sle (BitVec.ofNat 32 a) (BitVec.ofNat 32 b)) x y = if a ≤ b then x else y := by
  unfold Scalar.select
  exact if_congr (WordCmp.cmpi_sle_ofNat_eq_one_iff (by omega) (by omega)) rfl rfl

theorem ofBits_one : Ideal.ofBits .f32 0x3F800000#32 = ((1 : ℝ) : EReal) := by
  rw [Ideal.ofBits_one_f32]; rfl
theorem ofBits_bot : Ideal.ofBits .f32 0xFF800000#32 = ⊥ := by simp [Ideal.ofBits, Ideal.ieee]

/-- A function of a pair of coordinates, by natural numbers. -/
theorem byNat2 {a b : ℕ} (f : (⟨2, ![a, b]⟩ : Shape).Idx → ℝ) : ∃ M : ℕ → ℕ → ℝ, ∀ i, f i = M (i 0).val (i 1).val := by
  classical
  refine ⟨fun x y => if h : ∃ i : (⟨2, ![a, b]⟩ : Shape).Idx, (i 0).val = x ∧ (i 1).val = y then f h.choose else 0, fun i => ?_⟩
  have h : ∃ j : (⟨2, ![a, b]⟩ : Shape).Idx, (j 0).val = (i 0).val ∧ (j 1).val = (i 1).val := ⟨i, rfl, rfl⟩
  refine Eq.trans ?_ (dif_pos h).symm
  refine congrArg f (funext fun x => Fin.ext ?_)
  match x with
  | ⟨0, _⟩ => exact h.choose_spec.1.symm
  | ⟨1, _⟩ => exact h.choose_spec.2.symm

/-- A function of a triple of coordinates, by natural numbers. -/
theorem byNat3 {a b c : ℕ} (f : (⟨3, ![a, b, c]⟩ : Shape).Idx → ℝ) :
    ∃ M : ℕ → ℕ → ℕ → ℝ, ∀ i, f i = M (i 0).val (i 1).val (i 2).val := by
  classical
  refine ⟨fun x y z => if h : ∃ i : (⟨3, ![a, b, c]⟩ : Shape).Idx, (i 0).val = x ∧ (i 1).val = y ∧ (i 2).val = z then f h.choose else 0, fun i => ?_⟩
  have h : ∃ j : (⟨3, ![a, b, c]⟩ : Shape).Idx, (j 0).val = (i 0).val ∧ (j 1).val = (i 1).val ∧ (j 2).val = (i 2).val := ⟨i, rfl, rfl, rfl⟩
  refine Eq.trans ?_ (dif_pos h).symm
  refine congrArg f (funext fun x => Fin.ext ?_)
  match x with
  | ⟨0, _⟩ => exact h.choose_spec.1.symm
  | ⟨1, _⟩ => exact h.choose_spec.2.1.symm
  | ⟨2, _⟩ => exact h.choose_spec.2.2.symm

/-- The largest masked score of each row is a real number. -/
theorem rowMax_real {u : Shape} (x : FVec Ideal (⟨3, ![8, 16384, 16384]⟩ : Shape) .f32) (s : ℕ → ℕ → ℕ → ℝ)
    (hx : ∀ i, x i = if (i 2).val ≤ (i 1).val then ((s (i 0).val (i 1).val (i 2).val : ℝ) : EReal) else ⊥)
    (init : FVec Ideal u .f32) (hi : ∀ i, init i = ⊥)
    (h' : (⟨3, ![8, 16384, 16384]⟩ : Shape).ReducesTo [2] (⟨2, ![8, 16384]⟩ : Shape)) (hu : 0 < u.numel) :
    ∃ M : ℕ → ℕ → ℝ, ∀ i, Host.reduce FloatOps.maximumf x init h' hu i = ((M (i 0).val (i 1).val : ℝ) : EReal) := by
  have h : (⟨3, ![8, 16384, 16384]⟩ : Shape).Reduces [2] (⟨2, ![8, 16384]⟩ : Shape) := by decide
  have key : ∀ i, ∃ r : ℝ, Host.reduce FloatOps.maximumf x init h' hu i = (r : EReal) := fun i => by
    rw [Host.reduce_eq_fold_single FloatOps.maximumf x init h' h hu]
    refine fold_max_real _ _ _ ?_ (fun k _ => ?_) ⟨⟨0, by decide⟩, Finset.mem_univ _, ?_⟩
    · rw [hi]; exact bot_lt_top
    · show x (h.lift i k) < ⊤
      rw [hx]; split
      · exact EReal.coe_lt_top _
      · exact bot_lt_top
    · show ⊥ < x (h.lift i ⟨0, by decide⟩)
      rw [hx]
      exact (EReal.bot_lt_coe _).trans_eq (if_pos (Nat.zero_le _)).symm
  choose r hr using key
  obtain ⟨M, hM⟩ := byNat2 r
  exact ⟨M, fun i => (hr i).trans (by rw [hM i])⟩

end Cert.Attn
-- ==== Proof.Tile.lean ====
/-
  The kernel's operations on one pair of tiles, at real values: row `a` of the key tile, row `b` of the query tile.
-/
module

public import proofs.«01_k».proof.Proof.Scalars
public import proofs.«01_k».proof.Proof.Gen.KernelIdeal.Skeleton
public import Idealize.ShloMosaic.Lib.ValueIdx

@[expose] public section

set_option maxRecDepth 16384

noncomputable section

namespace Cert.Tile

open Cert.KernelIdeal Cert.KernelIdeal.Gen Cert.Attn
open Idealize.ShloMosaic Idealize.ShloMosaic.TcCoe

/-- A matrix of real values. -/
abbrev Is2 {a b : ℕ} (x : (⟨2, ![a, b]⟩ : Shape).Idx → EReal) (f : ℕ → ℕ → ℝ) : Prop := ∀ i, x i = ((f (i 0).val (i 1).val : ℝ) : EReal)
/-- A stack of one matrix of real values. -/
abbrev Is3 {a b : ℕ} (x : (⟨3, ![1, a, b]⟩ : Shape).Idx → EReal) (f : ℕ → ℕ → ℝ) : Prop := ∀ i, x i = ((f (i 1).val (i 2).val : ℝ) : EReal)
/-- A stack of stacks of one matrix of real values. -/
abbrev Is4 {a b : ℕ} (x : (⟨4, ![1, 1, a, b]⟩ : Shape).Idx → EReal) (f : ℕ → ℕ → ℝ) : Prop := ∀ i, x i = ((f (i 2).val (i 3).val : ℝ) : EReal)

/-! ## Reshapes -/

theorem cast32 {a b : ℕ} (x : (⟨3, ![1, a, b]⟩ : Shape).Idx → EReal) (f : ℕ → ℕ → ℝ) (hx : Is3 x f) (h : (⟨3, ![1, a, b]⟩ : Shape).ShapeCasts ⟨2, ![a, b]⟩) :
    Is2 (shapeCast ⟨2, ![a, b]⟩ x h) f := fun i =>
  (shapeCast_apply x h i (fun d => match d with | ⟨0, _⟩ => ⟨0, Nat.one_pos⟩ | ⟨1, _⟩ => ⟨(i 0).val, (i 0).isLt⟩ | ⟨2, _⟩ => ⟨(i 1).val, (i 1).isLt⟩) (by
    rewrite [Shape.rowMajor_val_three, Shape.rowMajor_val_two]
    show (0 * a + (i 0).val) * b + (i 1).val = (i 0).val * b + (i 1).val
    rw [Nat.zero_mul, Nat.zero_add])).trans (hx _)

theorem cast23 {a b : ℕ} (x : (⟨2, ![a, b]⟩ : Shape).Idx → EReal) (f : ℕ → ℕ → ℝ) (hx : Is2 x f) (h : (⟨2, ![a, b]⟩ : Shape).ShapeCasts ⟨3, ![1, a, b]⟩) :
    Is3 (shapeCast ⟨3, ![1, a, b]⟩ x h) f := fun i =>
  (shapeCast_apply x h i (fun d => match d with | ⟨0, _⟩ => ⟨(i 1).val, (i 1).isLt⟩ | ⟨1, _⟩ => ⟨(i 2).val, (i 2).isLt⟩) (by
    rewrite [Shape.rowMajor_val_three, Shape.rowMajor_val_two]
    have h0 : (i 0).val < 1 := (i 0).isLt
    show (i 1).val * b + (i 2).val = ((i 0).val * a + (i 1).val) * b + (i 2).val
    rw [show (i 0).val = 0 by omega, Nat.zero_mul, Nat.zero_add])).trans (hx _)

theorem cast42 {a b : ℕ} (x : (⟨4, ![1, 1, a, b]⟩ : Shape).Idx → EReal) (f : ℕ → ℕ → ℝ) (hx : Is4 x f) (h : (⟨4, ![1, 1, a, b]⟩ : Shape).ShapeCasts ⟨2, ![a, b]⟩) :
    Is2 (shapeCast ⟨2, ![a, b]⟩ x h) f := fun i =>
  (shapeCast_apply x h i (fun d => match d with | ⟨0, _⟩ => ⟨0, Nat.one_pos⟩ | ⟨1, _⟩ => ⟨0, Nat.one_pos⟩ | ⟨2, _⟩ => ⟨(i 0).val, (i 0).isLt⟩ | ⟨3, _⟩ => ⟨(i 1).val, (i 1).isLt⟩) (by
    rewrite [Shape.rowMajor_val_four, Shape.rowMajor_val_two]
    show (0 * a + (i 0).val) * b + (i 1).val = (i 0).val * b + (i 1).val
    rw [Nat.zero_mul, Nat.zero_add])).trans (hx _)

theorem cast24 {a b : ℕ} (x : (⟨2, ![a, b]⟩ : Shape).Idx → EReal) (f : ℕ → ℕ → ℝ) (hx : Is2 x f) (h : (⟨2, ![a, b]⟩ : Shape).ShapeCasts ⟨4, ![1, 1, a, b]⟩) :
    Is4 (shapeCast ⟨4, ![1, 1, a, b]⟩ x h) f := fun i =>
  (shapeCast_apply x h i (fun d => match d with | ⟨0, _⟩ => ⟨(i 2).val, (i 2).isLt⟩ | ⟨1, _⟩ => ⟨(i 3).val, (i 3).isLt⟩) (by
    rewrite [Shape.rowMajor_val_four, Shape.rowMajor_val_two]
    have h0 : (i 0).val < 1 := (i 0).isLt
    have h1 : (i 1).val < 1 := (i 1).isLt
    show (i 2).val * b + (i 3).val = (((i 0).val * 1 + (i 1).val) * a + (i 2).val) * b + (i 3).val
    rw [show (i 0).val * 1 + (i 1).val = 0 by omega, Nat.zero_mul, Nat.zero_add])).trans (hx _)

theorem cast22 {a b : ℕ} (x : (⟨2, ![a, b]⟩ : Shape).Idx → EReal) (f : ℕ → ℕ → ℝ) (hx : Is2 x f) (h : (⟨2, ![a, b]⟩ : Shape).ShapeCasts ⟨2, ![a, b]⟩) :
    Is2 (shapeCast ⟨2, ![a, b]⟩ x h) f := fun i => (shapeCast_apply x h i i rfl).trans (hx _)

/-- A row repeated down the rows of a matrix. -/
theorem rows (x : FVec Ideal S1x1024 .f32) (l : ℕ → ℝ) (hx : Is2 x (fun _ b => l b)) :
    Is2 (broadcastTo S1024x1024 x broadcasts_S1x1024_S1024x1024) (fun _ b => l b) := fun i =>
  (broadcastTo_apply x broadcasts_S1x1024_S1024x1024 i (fun d => match d with | ⟨0, _⟩ => ⟨0, Nat.one_pos⟩ | ⟨1, _⟩ => ⟨(i 1).val, (i 1).isLt⟩) (fun d => match d with
    | ⟨0, _⟩ => by show 0 = if (1 : ℕ) = 1 then 0 else (i 0).val; rw [if_pos rfl]
    | ⟨1, _⟩ => by show (i 1).val = if (1024 : ℕ) = 1 then 0 else (i 1).val; rw [if_neg (by decide)])).trans (hx _)

/-! ## Products of matrices -/

/-- Keys against queries. -/
theorem dotKQ {φ₁ φ₂ : FTy} (x : FVec Ideal S1024x192 φ₁) (y : FVec Ideal S1024x192 φ₂) (f g : ℕ → ℕ → ℝ) (hx : Is2 x f) (hy : Is2 y g) :
    Is2 (matmul dot_S1024x192_S1024x192_S1024x1024_1_1_0_0_n_n none x y (constant (F := Ideal) S1024x1024 .f32 0x00000000#32)) (fun i k => ∑ j ∈ Finset.range 192, f i j * g k j) := fun i => by
  refine (Ideal.matmul_constant_zero_apply dot_S1024x192_S1024x192_S1024x1024_1_1_0_0_n_n none x y i).trans ?_
  rw [← Equiv.sum_comp (ValueIdx.contrEquiv1 dot_S1024x192_S1024x192_S1024x1024_1_1_0_0_n_n 192 rfl rfl).symm]
  refine coe_dot _ _ (fun j => f (i 0).val j) (fun j => g (i 1).val j) (fun k => (hx _).trans ?_) (fun k => (hy _).trans ?_)
  · have e1 := (dot_S1024x192_S1024x192_S1024x1024_1_1_0_0_n_n.lhsIdx_val_of_single rfl i
      ((ValueIdx.contrEquiv1 dot_S1024x192_S1024x192_S1024x1024_1_1_0_0_n_n 192 rfl rfl).symm k)).trans (ValueIdx.contrEquiv1_symm_val dot_S1024x192_S1024x192_S1024x1024_1_1_0_0_n_n 192 rfl rfl k)
    have e0 : ∀ q, (dot_S1024x192_S1024x192_S1024x1024_1_1_0_0_n_n.lhsIdx i q 0).val = (i 0).val := fun q => by
      unfold DotDims.lhsIdx
      rw [dif_neg (show ¬(0 : Fin S1024x192.rank) ∈ dot_S1024x192_S1024x192_S1024x1024_1_1_0_0_n_n.lhsBatch by decide),
        dif_pos (show (0 : Fin S1024x192.rank) ∈ dot_S1024x192_S1024x192_S1024x1024_1_1_0_0_n_n.lhsNonContracting by decide)]
      rfl
    rw [e0, e1]
  · have e1 := (dot_S1024x192_S1024x192_S1024x1024_1_1_0_0_n_n.rhsIdx_val_of_single rfl i
      ((ValueIdx.contrEquiv1 dot_S1024x192_S1024x192_S1024x1024_1_1_0_0_n_n 192 rfl rfl).symm k)).trans (ValueIdx.contrEquiv1_symm_val dot_S1024x192_S1024x192_S1024x1024_1_1_0_0_n_n 192 rfl rfl k)
    have e0 : ∀ q, (dot_S1024x192_S1024x192_S1024x1024_1_1_0_0_n_n.rhsIdx i q 0).val = (i 1).val := fun q => by
      unfold DotDims.rhsIdx
      rw [dif_neg (show ¬(0 : Fin S1024x192.rank) ∈ dot_S1024x192_S1024x192_S1024x1024_1_1_0_0_n_n.rhsBatch by decide),
        dif_pos (show (0 : Fin S1024x192.rank) ∈ dot_S1024x192_S1024x192_S1024x1024_1_1_0_0_n_n.rhsNonContracting by decide)]
      rfl
    rw [e0, e1]

/-- Values against the output's gradient. -/
theorem dotVG {φ₁ φ₂ : FTy} (x : FVec Ideal S1024x128 φ₁) (y : FVec Ideal S1024x128 φ₂) (f g : ℕ → ℕ → ℝ) (hx : Is2 x f) (hy : Is2 y g) :
    Is2 (matmul dot_S1024x128_S1024x128_S1024x1024_1_1_0_0_n_n none x y (constant (F := Ideal) S1024x1024 .f32 0x00000000#32)) (fun i k => ∑ j ∈ Finset.range 128, f i j * g k j) := fun i => by
  refine (Ideal.matmul_constant_zero_apply dot_S1024x128_S1024x128_S1024x1024_1_1_0_0_n_n none x y i).trans ?_
  rw [← Equiv.sum_comp (ValueIdx.contrEquiv1 dot_S1024x128_S1024x128_S1024x1024_1_1_0_0_n_n 128 rfl rfl).symm]
  refine coe_dot _ _ (fun j => f (i 0).val j) (fun j => g (i 1).val j) (fun k => (hx _).trans ?_) (fun k => (hy _).trans ?_)
  · have e1 := (dot_S1024x128_S1024x128_S1024x1024_1_1_0_0_n_n.lhsIdx_val_of_single rfl i
      ((ValueIdx.contrEquiv1 dot_S1024x128_S1024x128_S1024x1024_1_1_0_0_n_n 128 rfl rfl).symm k)).trans (ValueIdx.contrEquiv1_symm_val dot_S1024x128_S1024x128_S1024x1024_1_1_0_0_n_n 128 rfl rfl k)
    have e0 : ∀ q, (dot_S1024x128_S1024x128_S1024x1024_1_1_0_0_n_n.lhsIdx i q 0).val = (i 0).val := fun q => by
      unfold DotDims.lhsIdx
      rw [dif_neg (show ¬(0 : Fin S1024x128.rank) ∈ dot_S1024x128_S1024x128_S1024x1024_1_1_0_0_n_n.lhsBatch by decide),
        dif_pos (show (0 : Fin S1024x128.rank) ∈ dot_S1024x128_S1024x128_S1024x1024_1_1_0_0_n_n.lhsNonContracting by decide)]
      rfl
    rw [e0, e1]
  · have e1 := (dot_S1024x128_S1024x128_S1024x1024_1_1_0_0_n_n.rhsIdx_val_of_single rfl i
      ((ValueIdx.contrEquiv1 dot_S1024x128_S1024x128_S1024x1024_1_1_0_0_n_n 128 rfl rfl).symm k)).trans (ValueIdx.contrEquiv1_symm_val dot_S1024x128_S1024x128_S1024x1024_1_1_0_0_n_n 128 rfl rfl k)
    have e0 : ∀ q, (dot_S1024x128_S1024x128_S1024x1024_1_1_0_0_n_n.rhsIdx i q 0).val = (i 1).val := fun q => by
      unfold DotDims.rhsIdx
      rw [dif_neg (show ¬(0 : Fin S1024x128.rank) ∈ dot_S1024x128_S1024x128_S1024x1024_1_1_0_0_n_n.rhsBatch by decide),
        dif_pos (show (0 : Fin S1024x128.rank) ∈ dot_S1024x128_S1024x128_S1024x1024_1_1_0_0_n_n.rhsNonContracting by decide)]
      rfl
    rw [e0, e1]

/-- A matrix of keys by queries, times the output's gradient. -/
theorem dotPG {φ₁ φ₂ : FTy} (x : FVec Ideal S1024x1024 φ₁) (y : FVec Ideal S1024x128 φ₂) (f g : ℕ → ℕ → ℝ) (hx : Is2 x f) (hy : Is2 y g) :
    Is2 (matmul dot_S1024x1024_S1024x128_S1024x128_1_0_0_1_n_n none x y (constant (F := Ideal) S1024x128 .f32 0x00000000#32)) (fun i k => ∑ j ∈ Finset.range 1024, f i j * g j k) := fun i => by
  refine (Ideal.matmul_constant_zero_apply dot_S1024x1024_S1024x128_S1024x128_1_0_0_1_n_n none x y i).trans ?_
  rw [← Equiv.sum_comp (ValueIdx.contrEquiv1 dot_S1024x1024_S1024x128_S1024x128_1_0_0_1_n_n 1024 rfl rfl).symm]
  refine coe_dot _ _ (fun j => f (i 0).val j) (fun j => g j (i 1).val) (fun k => (hx _).trans ?_) (fun k => (hy _).trans ?_)
  · have e1 := (dot_S1024x1024_S1024x128_S1024x128_1_0_0_1_n_n.lhsIdx_val_of_single rfl i
      ((ValueIdx.contrEquiv1 dot_S1024x1024_S1024x128_S1024x128_1_0_0_1_n_n 1024 rfl rfl).symm k)).trans (ValueIdx.contrEquiv1_symm_val dot_S1024x1024_S1024x128_S1024x128_1_0_0_1_n_n 1024 rfl rfl k)
    have e0 : ∀ q, (dot_S1024x1024_S1024x128_S1024x128_1_0_0_1_n_n.lhsIdx i q 0).val = (i 0).val := fun q => by
      unfold DotDims.lhsIdx
      rw [dif_neg (show ¬(0 : Fin S1024x1024.rank) ∈ dot_S1024x1024_S1024x128_S1024x128_1_0_0_1_n_n.lhsBatch by decide),
        dif_pos (show (0 : Fin S1024x1024.rank) ∈ dot_S1024x1024_S1024x128_S1024x128_1_0_0_1_n_n.lhsNonContracting by decide)]
      rfl
    rw [e0, e1]
  · have e1 := (dot_S1024x1024_S1024x128_S1024x128_1_0_0_1_n_n.rhsIdx_val_of_single rfl i
      ((ValueIdx.contrEquiv1 dot_S1024x1024_S1024x128_S1024x128_1_0_0_1_n_n 1024 rfl rfl).symm k)).trans (ValueIdx.contrEquiv1_symm_val dot_S1024x1024_S1024x128_S1024x128_1_0_0_1_n_n 1024 rfl rfl k)
    have e0 : ∀ q, (dot_S1024x1024_S1024x128_S1024x128_1_0_0_1_n_n.rhsIdx i q 1).val = (i 1).val := fun q => by
      unfold DotDims.rhsIdx
      rw [dif_neg (show ¬(1 : Fin S1024x128.rank) ∈ dot_S1024x1024_S1024x128_S1024x128_1_0_0_1_n_n.rhsBatch by decide),
        dif_pos (show (1 : Fin S1024x128.rank) ∈ dot_S1024x1024_S1024x128_S1024x128_1_0_0_1_n_n.rhsNonContracting by decide)]
      rfl
    rw [e0, e1]

/-- A matrix of keys by queries, times the queries. -/
theorem dotDQ {φ₁ φ₂ : FTy} (x : FVec Ideal S1024x1024 φ₁) (y : FVec Ideal S1024x192 φ₂) (f g : ℕ → ℕ → ℝ) (hx : Is2 x f) (hy : Is2 y g) :
    Is2 (matmul dot_S1024x1024_S1024x192_S1024x192_1_0_0_1_n_n none x y (constant (F := Ideal) S1024x192 .f32 0x00000000#32)) (fun i k => ∑ j ∈ Finset.range 1024, f i j * g j k) := fun i => by
  refine (Ideal.matmul_constant_zero_apply dot_S1024x1024_S1024x192_S1024x192_1_0_0_1_n_n none x y i).trans ?_
  rw [← Equiv.sum_comp (ValueIdx.contrEquiv1 dot_S1024x1024_S1024x192_S1024x192_1_0_0_1_n_n 1024 rfl rfl).symm]
  refine coe_dot _ _ (fun j => f (i 0).val j) (fun j => g j (i 1).val) (fun k => (hx _).trans ?_) (fun k => (hy _).trans ?_)
  · have e1 := (dot_S1024x1024_S1024x192_S1024x192_1_0_0_1_n_n.lhsIdx_val_of_single rfl i
      ((ValueIdx.contrEquiv1 dot_S1024x1024_S1024x192_S1024x192_1_0_0_1_n_n 1024 rfl rfl).symm k)).trans (ValueIdx.contrEquiv1_symm_val dot_S1024x1024_S1024x192_S1024x192_1_0_0_1_n_n 1024 rfl rfl k)
    have e0 : ∀ q, (dot_S1024x1024_S1024x192_S1024x192_1_0_0_1_n_n.lhsIdx i q 0).val = (i 0).val := fun q => by
      unfold DotDims.lhsIdx
      rw [dif_neg (show ¬(0 : Fin S1024x1024.rank) ∈ dot_S1024x1024_S1024x192_S1024x192_1_0_0_1_n_n.lhsBatch by decide),
        dif_pos (show (0 : Fin S1024x1024.rank) ∈ dot_S1024x1024_S1024x192_S1024x192_1_0_0_1_n_n.lhsNonContracting by decide)]
      rfl
    rw [e0, e1]
  · have e1 := (dot_S1024x1024_S1024x192_S1024x192_1_0_0_1_n_n.rhsIdx_val_of_single rfl i
      ((ValueIdx.contrEquiv1 dot_S1024x1024_S1024x192_S1024x192_1_0_0_1_n_n 1024 rfl rfl).symm k)).trans (ValueIdx.contrEquiv1_symm_val dot_S1024x1024_S1024x192_S1024x192_1_0_0_1_n_n 1024 rfl rfl k)
    have e0 : ∀ q, (dot_S1024x1024_S1024x192_S1024x192_1_0_0_1_n_n.rhsIdx i q 1).val = (i 1).val := fun q => by
      unfold DotDims.rhsIdx
      rw [dif_neg (show ¬(1 : Fin S1024x192.rank) ∈ dot_S1024x1024_S1024x192_S1024x192_1_0_0_1_n_n.rhsBatch by decide),
        dif_pos (show (1 : Fin S1024x192.rank) ∈ dot_S1024x1024_S1024x192_S1024x192_1_0_0_1_n_n.rhsNonContracting by decide)]
      rfl
    rw [e0, e1]

/-- The keys, transposed, times a matrix of keys by queries. -/
theorem dotKD {φ₁ φ₂ : FTy} (x : FVec Ideal S1024x192 φ₁) (y : FVec Ideal S1024x1024 φ₂) (f g : ℕ → ℕ → ℝ) (hx : Is2 x f) (hy : Is2 y g) :
    Is2 (matmul dot_S1024x192_S1024x1024_S192x1024_0_0_1_1_n_n none x y (constant (F := Ideal) S192x1024 .f32 0x00000000#32)) (fun i k => ∑ j ∈ Finset.range 1024, f j i * g j k) := fun i => by
  refine (Ideal.matmul_constant_zero_apply dot_S1024x192_S1024x1024_S192x1024_0_0_1_1_n_n none x y i).trans ?_
  rw [← Equiv.sum_comp (ValueIdx.contrEquiv1 dot_S1024x192_S1024x1024_S192x1024_0_0_1_1_n_n 1024 rfl rfl).symm]
  refine coe_dot _ _ (fun j => f j (i 0).val) (fun j => g j (i 1).val) (fun k => (hx _).trans ?_) (fun k => (hy _).trans ?_)
  · have e1 := (dot_S1024x192_S1024x1024_S192x1024_0_0_1_1_n_n.lhsIdx_val_of_single rfl i
      ((ValueIdx.contrEquiv1 dot_S1024x192_S1024x1024_S192x1024_0_0_1_1_n_n 1024 rfl rfl).symm k)).trans (ValueIdx.contrEquiv1_symm_val dot_S1024x192_S1024x1024_S192x1024_0_0_1_1_n_n 1024 rfl rfl k)
    have e0 : ∀ q, (dot_S1024x192_S1024x1024_S192x1024_0_0_1_1_n_n.lhsIdx i q 1).val = (i 0).val := fun q => by
      unfold DotDims.lhsIdx
      rw [dif_neg (show ¬(1 : Fin S1024x192.rank) ∈ dot_S1024x192_S1024x1024_S192x1024_0_0_1_1_n_n.lhsBatch by decide),
        dif_pos (show (1 : Fin S1024x192.rank) ∈ dot_S1024x192_S1024x1024_S192x1024_0_0_1_1_n_n.lhsNonContracting by decide)]
      rfl
    rw [e0, e1]
  · have e1 := (dot_S1024x192_S1024x1024_S192x1024_0_0_1_1_n_n.rhsIdx_val_of_single rfl i
      ((ValueIdx.contrEquiv1 dot_S1024x192_S1024x1024_S192x1024_0_0_1_1_n_n 1024 rfl rfl).symm k)).trans (ValueIdx.contrEquiv1_symm_val dot_S1024x192_S1024x1024_S192x1024_0_0_1_1_n_n 1024 rfl rfl k)
    have e0 : ∀ q, (dot_S1024x192_S1024x1024_S192x1024_0_0_1_1_n_n.rhsIdx i q 1).val = (i 1).val := fun q => by
      unfold DotDims.rhsIdx
      rw [dif_neg (show ¬(1 : Fin S1024x1024.rank) ∈ dot_S1024x192_S1024x1024_S192x1024_0_0_1_1_n_n.rhsBatch by decide),
        dif_pos (show (1 : Fin S1024x1024.rank) ∈ dot_S1024x192_S1024x1024_S192x1024_0_0_1_1_n_n.rhsNonContracting by decide)]
      rfl
    rw [e0, e1]

/-! ## The payloads -/

/-- Scores, keys by queries. -/
theorem scores (x : FVec Ideal S1024x192 .bf16) (y : Vec Ideal S1x1024x192 .bf16) (k q : ℕ → ℕ → ℝ) (hx : Is2 x k) (hy : Is3 y q) :
    Is3 (k0_pay7 x y) (fun a b => ∑ d ∈ Finset.range 192, k a d * q b d) :=
  cast23 _ _ (dotKQ x _ k q hx (cast32 y q hy _)) _

/-- The gradient of the probabilities, keys by queries. -/
theorem gradP (x : Vec Ideal S1024x128 .bf16) (y : Vec Ideal S1024x128 .bf16) (v g : ℕ → ℕ → ℝ) (hx : Is2 x v) (hy : Is2 y g) :
    Is3 (k0_pay8 x y) (fun a b => ∑ e ∈ Finset.range 128, v a e * g b e) :=
  cast23 _ _ (dotVG x y v g hx hy) _

/-- Probabilities below the diagonal. -/
theorem probs (z : Vec Ideal S1x1024x1024 .f32) (y : Vec Ideal S1x1x1x1024 .f32) (s : ℕ → ℕ → ℝ) (l : ℕ → ℝ) (hz : Is3 z s) (hy : Is4 y (fun _ b => l b)) :
    Is2 (k0_pay9 z y) (fun a b => Real.exp (s a b - l b)) := fun i => by
  have e1 := cast32 z s hz shapeCasts_S1x1024x1024_S1024x1024 i
  have e2 := rows _ l (cast42 y _ hy shapeCasts_S1x1x1x1024_S1x1024) i
  refine Eq.trans (congrArg₂ (fun a b : EReal => Ideal.exp (a - b)) e1 e2) ?_
  rw [← EReal.coe_sub]; rfl

/-- Masked scores on the diagonal. -/
theorem masked (z : Vec Ideal S1x1024x1024 .f32) (s : ℕ → ℕ → ℝ) (hz : Is3 z s) (i : S1024x1024.Idx) :
    (k0_pay51 z i : EReal) = if (i 0).val ≤ (i 1).val then ((s (i 0).val (i 1).val : ℝ) : EReal) else ⊥ := by
  have h0 : (i 0).val < 1024 := (i 0).isLt
  have h1 : (i 1).val < 1024 := (i 1).isLt
  refine Eq.trans ?_ ((select_le (i 0).val (i 1).val (by omega) (by omega) (shapeCast S1024x1024 z shapeCasts_S1x1024x1024_S1024x1024 i : EReal) (Ideal.ofBits .f32 0xFF800000#32)).trans
    (if_congr Iff.rfl (cast32 z s hz _ i) ofBits_bot))
  show Scalar.select (IntOp.cmpi .sle (iota .tc S1024x1024 32 [0] iota_S1024x1024_d0_w32 i) (iota .tc S1024x1024 32 [1] iota_S1024x1024_d1_w32 i)) _ _ = _
  unfold iota
  simp only [List.foldl_cons, List.foldl_nil, Nat.zero_mul, Nat.zero_add]
  rfl

/-- Probabilities on the diagonal. -/
theorem probsD (z : Vec Ideal S1x1024x1024 .f32) (y : Vec Ideal S1x1x1x1024 .f32) (s : ℕ → ℕ → ℝ) (l : ℕ → ℝ) (hz : Is3 z s) (hy : Is4 y (fun _ b => l b)) :
    Is2 (k0_pay52 (k0_pay51 z) y) (fun a b => if a ≤ b then Real.exp (s a b - l b) else 0) := fun i => by
  have e2 := rows _ l (cast42 y _ hy shapeCasts_S1x1x1x1024_S1x1024) i
  refine Eq.trans (congrArg₂ (fun a b : EReal => Ideal.exp (a - b)) (masked z s hz i) e2) ?_
  exact exp_masked _ _ _

/-- The gradient of the scores, keys by queries. -/
theorem gradS (x : FVec Ideal S1024x1024 .f32) (z : Vec Ideal S1x1024x1024 .f32) (y : Vec Ideal S1x1x1x1024 .f32) (p s : ℕ → ℕ → ℝ) (l : ℕ → ℝ)
    (hx : Is2 x p) (hz : Is3 z s) (hy : Is4 y (fun _ b => l b)) :
    Is2 (k0_pay10 x z y) (fun a b => p a b * (s a b - l b)) := fun i => by
  have e1 := cast32 z s hz shapeCasts_S1x1024x1024_S1024x1024 i
  have e2 := rows _ l (cast42 y _ hy shapeCasts_S1x1x1x1024_S1x1024) i
  refine Eq.trans (congrArg₂ (fun a b : EReal => a * b) (hx i) (congrArg₂ (fun a b : EReal => a - b) e1 e2)) ?_
  show ((p (i 0).val (i 1).val : ℝ) : EReal) * (((s (i 0).val (i 1).val : ℝ) : EReal) - ((l (i 1).val : ℝ) : EReal)) = _
  rw [← EReal.coe_sub, ← EReal.coe_mul]

/-- A sum of two matrices. -/
theorem sum2 {a b : ℕ} (x y : (⟨2, ![a, b]⟩ : Shape).Idx → EReal) (f g : ℕ → ℕ → ℝ) (hx : Is2 x f) (hy : Is2 y g) :
    Is2 (fun i => x i + y i) (fun i j => f i j + g i j) := fun i => by
  show x i + y i = _
  rw [hx, hy, ← EReal.coe_add]

/-- The addition to the gradient of the values. -/
theorem addV (x : FVec Ideal S1024x1024 .f32) (w : Vec Ideal S1024x128 .f32) (y : Vec Ideal S1024x128 .bf16) (p u g : ℕ → ℕ → ℝ)
    (hx : Is2 x p) (hw : Is2 w u) (hy : Is2 y g) :
    Is2 (k0_pay11 x w y) (fun a e => u a e + ∑ b ∈ Finset.range 1024, p a b * g b e) :=
  cast22 _ _ (sum2 w _ u _ hw (dotPG (φ₁ := .bf16) (φ₂ := .bf16) x y p g hx hy)) _

/-- The addition to the gradient of the keys. -/
theorem addK (x : FVec Ideal S1024x1024 .f32) (z : Vec Ideal S1x1024x1024 .f32) (y : Vec Ideal S1x1x1x1024 .f32) (w : Vec Ideal S1024x192 .f32) (r : Vec Ideal S1x1024x192 .bf16)
    (p s u q : ℕ → ℕ → ℝ) (l : ℕ → ℝ) (hx : Is2 x p) (hz : Is3 z s) (hy : Is4 y (fun _ b => l b)) (hw : Is2 w u) (hr : Is3 r q) :
    Is2 (k0_pay12 x z y w r) (fun a d => u a d + ∑ b ∈ Finset.range 1024, p a b * (s a b - l b) * q b d) :=
  cast22 _ _ (sum2 w _ u _ hw (dotDQ (k0_pay10 x z y) _ _ q (gradS x z y p s l hx hz hy) (cast32 r q hr _))) _

/-- The addition to one row of tiles of the gradient of the queries, features by queries. -/
theorem addQ (k' : FVec Ideal S1024x192 .bf16) (x : FVec Ideal S1024x1024 .f32) (z : Vec Ideal S1x1024x1024 .f32) (y : Vec Ideal S1x1x1x1024 .f32) (w : Vec Ideal S1x1x192x1024 .f32)
    (k p s u : ℕ → ℕ → ℝ) (l : ℕ → ℝ) (hk : Is2 k' k) (hx : Is2 x p) (hz : Is3 z s) (hy : Is4 y (fun _ b => l b)) (hw : Is4 w u) :
    Is4 (k0_pay14 (k0_pay13 k' x z y w)) (fun d b => u d b + ∑ a ∈ Finset.range 1024, k a d * (p a b * (s a b - l b))) :=
  cast24 _ _ (sum2 _ _ u _ (cast42 w u hw _) (dotKD k' (k0_pay10 x z y) k _ hk (gradS x z y p s l hx hz hy))) _

/-- The zeros the accumulators start from. -/
theorem zeroK : Is2 (k0_pay44 (F := Ideal)) (fun _ _ => 0) :=
  cast22 _ _ (fun _ => Ideal.ofBits_zero_f32) shapeCasts_S1024x192_S1024x192
theorem zeroV : Is2 (k0_pay45 (F := Ideal)) (fun _ _ => 0) :=
  cast22 _ _ (fun _ => Ideal.ofBits_zero_f32) shapeCasts_S1024x128_S1024x128
theorem zeroQ (i : S1x16x192x1024.Idx) : (k0_pay43 (F := Ideal) i : EReal) = 0 := Ideal.ofBits_zero_f32

/-- The key tile as a matrix, and the gradient of the keys as a stack. -/
theorem keyM (x : Vec Ideal S1x1024x192 .bf16) (k : ℕ → ℕ → ℝ) (hx : Is3 x k) : Is2 (k0_pay46 x) k := cast32 x k hx _
theorem keyS (x : Vec Ideal S1024x192 .f32) (k : ℕ → ℕ → ℝ) (hx : Is2 x k) : Is3 (k0_pay6 x) k := cast23 x k hx _

end Cert.Tile
-- ==== Proof.Point.lean ====
/-
  What one grid point leaves, at real values: a key tile's gradients of keys and values are complete, and every row of tiles
  of the gradient of the queries has gained the key tile's share.
-/
module

public import proofs.«01_k».proof.Proof.Tile
public import proofs.«01_k».proof.Proof.Spec

@[expose] public section

set_option maxRecDepth 16384

noncomputable section

namespace Cert.Point

open Cert.KernelIdeal Cert.KernelIdeal.Gen Cert.Attn Cert.Tile Cert.FlashBwd
open Idealize.ShloMosaic Idealize.ShloMosaic.TcCoe

/-- The log-sum-exp of row `i`, from the number subtracted in the exponent. -/
def lse (H : Head) (M : ℕ → ℝ) (i : ℕ) : ℝ := M i + Real.log (H.Z 16384 i * Real.exp (-(M i)))

/-- What the point of key tile `j` of head `H` reads. -/
structure Reads (E : Env Ideal) (H : Head) (M : ℕ → ℝ) (j : ℕ) : Prop where
  k : Is3 E.kT (fun a d => H.k (1024 * j + a) d)
  v : Is2 E.vT (fun a e => H.v (1024 * j + a) e)
  q : Is3 E.Q H.q
  g : Is2 E.D H.g
  l : ∀ i, (E.L i : EReal) = ((lse H M (1024 * (i 1).val + (i 3).val) : ℝ) : EReal)
  e : ∀ i, (E.Dl i : EReal) = ((H.dl 16384 (1024 * (i 1).val + (i 3).val) : ℝ) : EReal)

/-- What it accumulates. -/
structure Held (A : Acc Ideal) (B : ℕ → ℕ → ℕ → ℝ) (u w : ℕ → ℕ → ℝ) : Prop where
  dq : ∀ i, (A.dq i : EReal) = ((B (i 1).val (i 2).val (i 3).val : ℝ) : EReal)
  dk : Is2 A.dk u
  dv : Is2 A.dv w

/-- A matrix's values on its own rows and columns. -/
theorem is2_congr {a b : ℕ} {x : (⟨2, ![a, b]⟩ : Shape).Idx → EReal} {f g : ℕ → ℕ → ℝ} (hx : Is2 x f) (h : ∀ i < a, ∀ j < b, f i j = g i j) : Is2 x g :=
  fun i => (hx i).trans (congrArg _ (h _ (i 0).isLt _ (i 1).isLt))

theorem is3_congr {a b : ℕ} {x : (⟨3, ![1, a, b]⟩ : Shape).Idx → EReal} {f g : ℕ → ℕ → ℝ} (hx : Is3 x f) (h : ∀ i < a, ∀ j < b, f i j = g i j) : Is3 x g :=
  fun i => (hx i).trans (congrArg _ (h _ (i 1).isLt _ (i 2).isLt))

theorem is4_congr {a b : ℕ} {x : (⟨4, ![1, 1, a, b]⟩ : Shape).Idx → EReal} {f g : ℕ → ℕ → ℝ} (hx : Is4 x f) (h : ∀ i < a, ∀ j < b, f i j = g i j) : Is4 x g :=
  fun i => (hx i).trans (congrArg _ (h _ (i 2).isLt _ (i 3).isLt))

section Tiles

variable {E : Env Ideal} {H : Head} {M : ℕ → ℝ} {j : ℕ} (R : Reads E H M j) {n : ℕ} (hn : n < 16)

include R hn

theorem qT_is : Is3 (E.qT n) (fun b d => H.q (1024 * n + b) d) := fun y => by
  refine (R.q _).trans ?_
  show ((H.q (1024 * min n 15 + 1 * (y 1).val) (0 + 1 * (y 2).val) : ℝ) : EReal) = _
  rw [Nat.min_eq_left (by omega), Nat.one_mul, Nat.one_mul, Nat.zero_add]

theorem dT_is : Is2 (E.dT n) (fun b e => H.g (1024 * n + b) e) := fun y => by
  refine (R.g _).trans ?_
  show ((H.g (1024 * min n 15 + 1 * (y 0).val) (0 + 1 * (y 1).val) : ℝ) : EReal) = _
  rw [Nat.min_eq_left (by omega), Nat.one_mul, Nat.one_mul, Nat.zero_add]

theorem lT_is : Is4 (E.lT n) (fun _ b => lse H M (1024 * n + b)) := fun y => by
  refine (R.l _).trans ?_
  show ((lse H M (1024 * (min n 15 + 1 * (y 1).val) + (0 + 1 * (y 3).val)) : ℝ) : EReal) = _
  have h1 : (y 1).val < 1 := (y 1).isLt
  rw [Nat.min_eq_left (by omega), show (y 1).val = 0 by omega, Nat.mul_zero, Nat.add_zero, Nat.one_mul, Nat.zero_add]

theorem eT_is : Is4 (E.eT n) (fun _ b => H.dl 16384 (1024 * n + b)) := fun y => by
  refine (R.e _).trans ?_
  show ((H.dl 16384 (1024 * (min n 15 + 1 * (y 1).val) + (0 + 1 * (y 3).val)) : ℝ) : EReal) = _
  have h1 : (y 1).val < 1 := (y 1).isLt
  rw [Nat.min_eq_left (by omega), show (y 1).val = 0 by omega, Nat.mul_zero, Nat.add_zero, Nat.one_mul, Nat.zero_add]

omit hn in
theorem kM_is : Is2 E.kM (fun a d => H.k (1024 * j + a) d) := keyM _ _ R.k

theorem zz_is : Is3 (E.zz n) (fun a b => H.S (1024 * n + b) (1024 * j + a)) :=
  is3_congr (scores E.kM (E.qT n) _ _ (kM_is R) (qT_is R hn)) fun a _ b _ =>
    Finset.sum_congr rfl fun d _ => mul_comm _ _

theorem dp_is : Is3 (E.dp n) (fun a b => H.G (1024 * n + b) (1024 * j + a)) :=
  is3_congr (gradP E.vT (E.dT n) _ _ R.v (dT_is R hn)) fun a _ b _ =>
    Finset.sum_congr rfl fun d _ => mul_comm _ _

/-- Below the diagonal. -/
theorem pr_is (hj : j < n) : Is2 (E.pr n) (fun a b => H.p 16384 (1024 * n + b) (1024 * j + a)) :=
  is2_congr (probs (E.zz n) (E.lT n) _ _ (zz_is R hn) (lT_is R hn)) fun a ha b hb =>
    H.p_lse 16384 (M (1024 * n + b)) (by omega) (by omega)

/-- On the diagonal. -/
theorem prD_is (hj : j = n) : Is2 (E.prD n) (fun a b => H.p 16384 (1024 * n + b) (1024 * j + a)) :=
  is2_congr (probsD (E.zz n) (E.lT n) _ _ (zz_is R hn) (lT_is R hn)) fun a ha b hb => by
    subst hj
    split
    · exact H.p_lse 16384 (M (1024 * j + b)) (by omega) (by omega)
    · exact (H.p_of_lt 16384 (by omega)).symm

end Tiles

/-! ## The shares -/

section Shares

variable (H : Head) (j n : ℕ)

/-- The share of the pair of tiles in the gradient of the queries. -/
def shQ (d b : ℕ) : ℝ := ∑ a ∈ Finset.range 1024, H.k (1024 * j + a) d * H.ds 16384 (1024 * n + b) (1024 * j + a)
/-- Its share in the gradient of the keys. -/
def shK (a d : ℕ) : ℝ := ∑ b ∈ Finset.range 1024, H.ds 16384 (1024 * n + b) (1024 * j + a) * H.q (1024 * n + b) d
/-- Its share in the gradient of the values. -/
def shV (a e : ℕ) : ℝ := ∑ b ∈ Finset.range 1024, H.p 16384 (1024 * n + b) (1024 * j + a) * H.g (1024 * n + b) e

theorem shQ_zero (h : n < j) (d b : ℕ) (hb : b < 1024) : shQ H j n d b = 0 :=
  Finset.sum_eq_zero fun a _ => by rw [H.ds_of_lt 16384 (by omega), mul_zero]
theorem shK_zero (h : n < j) (a d : ℕ) : shK H j n a d = 0 :=
  Finset.sum_eq_zero fun b hb => by rw [H.ds_of_lt 16384 (by have := Finset.mem_range.mp hb; omega), zero_mul]
theorem shV_zero (h : n < j) (a d : ℕ) : shV H j n a d = 0 :=
  Finset.sum_eq_zero fun b hb => by rw [H.p_of_lt 16384 (by have := Finset.mem_range.mp hb; omega), zero_mul]

theorem dk_shares (a d : ℕ) : ∑ n ∈ Finset.range 16, shK H j n a d = H.dk 16384 (1024 * j + a) d :=
  (sum_runs (fun i => H.ds 16384 i (1024 * j + a) * H.q i d) 1024 16).symm
theorem dv_shares (a e : ℕ) : ∑ n ∈ Finset.range 16, shV H j n a e = H.dv 16384 (1024 * j + a) e :=
  (sum_runs (fun i => H.p 16384 i (1024 * j + a) * H.g i e) 1024 16).symm
theorem dq_shares (d b : ℕ) : ∑ j ∈ Finset.range 16, shQ H j n d b = H.dq 16384 (1024 * n + b) d :=
  ((sum_runs (fun i => H.ds 16384 (1024 * n + b) i * H.k i d) 1024 16).trans
    (Finset.sum_congr rfl fun j _ => Finset.sum_congr rfl fun a _ => mul_comm _ _)).symm

end Shares

section Add

variable {E : Env Ideal} {H : Head} {M : ℕ → ℝ} {j : ℕ} (R : Reads E H M j)

include R

/-- One query tile's addition. -/
theorem add_held {n : ℕ} (hn : n < 16) {p : FVec Ideal S1024x1024 .f32} (hp : Is2 p (fun a b => H.p 16384 (1024 * n + b) (1024 * j + a)))
    {A : Acc Ideal} {B : ℕ → ℕ → ℕ → ℝ} {u w : ℕ → ℕ → ℝ} (h : Held A B u w) :
    Held (E.add n p A) (fun r d b => if r = n then B r d b + shQ H j n d b else B r d b) (fun a d => u a d + shK H j n a d) (fun a e => w a e + shV H j n a e) where
  dq := fun i => by
    have hrow : Is4 (Env.row n A.dq) (fun d b => B n d b) := fun y => by
      refine (h.dq _).trans ?_
      show ((B (min n 15 + 1 * (y 1).val) (0 + 1 * (y 2).val) (0 + 1 * (y 3).val) : ℝ) : EReal) = _
      have h1 : (y 1).val < 1 := (y 1).isLt
      rw [Nat.min_eq_left (by omega), show (y 1).val = 0 by omega, Nat.mul_zero, Nat.add_zero, Nat.one_mul, Nat.one_mul, Nat.zero_add, Nat.zero_add]
    have hq := addQ E.kM p (E.dp n) (E.eT n) (Env.row n A.dq) _ _ _ _ _ (kM_is R) hp (dp_is R hn) (eT_is R hn) hrow
    have h0 : (i 0).val < 1 := (i 0).isLt
    have h2 : (i 2).val < 192 := (i 2).isLt
    have h3 : (i 3).val < 1024 := (i 3).isLt
    have hm : min n 15 = n := Nat.min_eq_left (by omega)
    rw [Env.add_dq]
    unfold VecWindow.put
    by_cases hi : (i 1).val = n
    · rw [dif_pos (fun a => match a with
        | ⟨0, _⟩ => ⟨Nat.zero_le _, by show (i 0).val < 0 + 1; omega⟩
        | ⟨1, _⟩ => ⟨by show min n 15 ≤ (i 1).val; omega, by show (i 1).val < min n 15 + 1; omega⟩
        | ⟨2, _⟩ => ⟨Nat.zero_le _, by show (i 2).val < 0 + 192; omega⟩
        | ⟨3, _⟩ => ⟨Nat.zero_le _, by show (i 3).val < 0 + 1024; omega⟩), if_pos hi]
      refine (hq _).trans ?_
      show ((B n ((i 2).val - 0) ((i 3).val - 0) + shQ H j n ((i 2).val - 0) ((i 3).val - 0) : ℝ) : EReal) = _
      rw [Nat.sub_zero, Nat.sub_zero, hi]
    · rw [dif_neg (fun hall => hi (by
        have h1 := hall 1
        have h1a : min n 15 ≤ (i 1).val := h1.1
        have h1b : (i 1).val < min n 15 + 1 := h1.2
        omega)), if_neg hi]
      exact h.dq i
  dk := addK p (E.dp n) (E.eT n) A.dk (E.qT n) _ _ _ _ _ hp (dp_is R hn) (eT_is R hn) h.dk (qT_is R hn)
  dv := addV p A.dv (E.dT n) _ _ _ hp h.dv (dT_is R hn)

/-- The diagonal and the `m` query tiles after it. -/
theorem upto_held {A : Acc Ideal} {B : ℕ → ℕ → ℕ → ℝ} {u w : ℕ → ℕ → ℝ} (h : Held A B u w) (m : ℕ) (hm : j + m < 16) :
    Held (E.upto j m (E.diag j A)) (fun r d b => if j ≤ r ∧ r ≤ j + m then B r d b + shQ H j r d b else B r d b)
      (fun a d => u a d + ∑ t ∈ Finset.range (m + 1), shK H j (j + t) a d) (fun a e => w a e + ∑ t ∈ Finset.range (m + 1), shV H j (j + t) a e) := by
  induction m with
  | zero =>
    have h1 := add_held R (n := j) (by omega) (prD_is R (by omega) rfl) h
    refine ⟨fun i => (h1.dq i).trans (congrArg _ ?_), is2_congr h1.dk fun a _ d _ => ?_, is2_congr h1.dv fun a _ d _ => ?_⟩
    · by_cases hi : (i 1).val = j
      · rw [if_pos hi, if_pos (by omega), hi]
      · rw [if_neg hi, if_neg (by omega)]
    · rw [Finset.sum_range_one, Nat.add_zero]
    · rw [Finset.sum_range_one, Nat.add_zero]
  | succ m ih =>
    have h1 := add_held R (n := j + m + 1) (by omega) (pr_is R (by omega) (by omega)) (ih (by omega))
    refine ⟨fun i => (h1.dq i).trans (congrArg _ ?_), is2_congr h1.dk fun a _ d _ => ?_, is2_congr h1.dv fun a _ d _ => ?_⟩
    · by_cases hi : (i 1).val = j + m + 1
      · rw [if_pos hi, if_neg (by omega), if_pos (by omega), hi]
      · rw [if_neg hi]
        by_cases h2 : j ≤ (i 1).val ∧ (i 1).val ≤ j + m
        · rw [if_pos h2, if_pos (by omega)]
        · rw [if_neg h2, if_neg (by omega)]
    · rw [Finset.sum_range_succ _ (m + 1), ← add_assoc]; rfl
    · rw [Finset.sum_range_succ _ (m + 1), ← add_assoc]; rfl

/-- The whole grid point. -/
theorem point_held (hj : j < 16) {D : Vec Ideal S1x16x192x1024 .f32} {B : ℕ → ℕ → ℕ → ℝ}
    (hD : j ≠ 0 → ∀ i, (D i : EReal) = ((B (i 1).val (i 2).val (i 3).val : ℝ) : EReal)) (hB : j = 0 → B = fun _ _ _ => 0) :
    Held (E.point j D) (fun r d b => B r d b + shQ H j r d b) (H.dk 16384 <| 1024 * j + ·) (H.dv 16384 <| 1024 * j + ·) := by
  have h0 : Held (⟨if j = 0 then k0_pay43 (F := Ideal) else D, k0_pay44 (F := Ideal), k0_pay45 (F := Ideal)⟩ : Acc Ideal) B (fun _ _ => 0) (fun _ _ => 0) := by
    refine ⟨fun i => ?_, zeroK, zeroV⟩
    by_cases h : j = 0
    · simp only [if_pos h]
      rw [hB h]
      exact zeroQ i
    · simp only [if_neg h]
      exact hD h i
  have h1 := upto_held R h0 (15 - j) (by omega)
  refine ⟨fun i => (h1.dq i).trans (congrArg _ ?_), is2_congr h1.dk fun a _ d _ => ?_, is2_congr h1.dv fun a _ d _ => ?_⟩
  · have hi : (i 1).val < 16 := (i 1).isLt
    by_cases h : j ≤ (i 1).val
    · rw [if_pos (by omega)]
    · rw [if_neg (by omega), shQ_zero H j _ (by omega) _ _ (i 3).isLt, add_zero]
  · rw [zero_add, ← dk_shares, ← sum_from _ 16 j (fun n hn => shK_zero H j n hn a d) (by omega), show 15 - j + 1 = 16 - j by omega]
  · rw [zero_add, ← dv_shares, ← sum_from _ 16 j (fun n hn => shV_zero H j n hn a d) (by omega), show 15 - j + 1 = 16 - j by omega]

end Add

end Cert.Point
-- ==== Proof.RefRead.lean ====
/-
  The reference's three results are the gradients of `Proof/Math.lean`, head by head.
-/
module

public import proofs.«01_k».proof.Proof.Scalars
public import proofs.«01_k».proof.Proof.Gen.ReferenceIdeal.Read

@[expose] public section

set_option maxRecDepth 16384

noncomputable section

namespace Cert.RefRead

open Cert.ReferenceIdeal Cert.ReferenceIdeal.Gen Cert.ReferenceIdeal.Read Cert.Attn
open Idealize.ShloMosaic Idealize.ShloMosaic.TcCoe

/-- An array with an axis of heads, and rows. -/
abbrev Rows := (⟨S8x16384x192, .bf16⟩ : BufTy).Contents (Elt Ideal)
/-- An array whose columns hold the heads side by side. -/
abbrev Cols := (⟨S16384x1024, .bf16⟩ : BufTy).Contents (Elt Ideal)

/-- The four arguments hold the heads' real numbers. -/
structure Holds (H : ℕ → Head) (x0 x1 : Rows) (x2 x3 : Cols) : Prop where
  q : ∀ i, (x0 i : EReal) = (((H (i 0).val).q (i 1).val (i 2).val : ℝ) : EReal)
  k : ∀ i, (x1 i : EReal) = (((H (i 0).val).k (i 1).val (i 2).val : ℝ) : EReal)
  v : ∀ i, (x2 i : EReal) = (((H ((i 1).val / 128)).v (i 0).val ((i 1).val % 128) : ℝ) : EReal)
  g : ∀ i, (x3 i : EReal) = (((H ((i 1).val / 128)).g (i 0).val ((i 1).val % 128) : ℝ) : EReal)

variable {H : ℕ → Head} {x0 x1 : Rows} {x2 x3 : Cols} (h : Holds H x0 x1 x2 x3)

include h

theorem v0 (i) : (val_main_v0 (F := Ideal) x0 i : EReal) = (((H (i 0).val).q (i 1).val (i 2).val : ℝ) : EReal) := h.q i
theorem v1 (i) : (val_main_v1 (F := Ideal) x1 i : EReal) = (((H (i 0).val).k (i 1).val (i 2).val : ℝ) : EReal) := h.k i

theorem v4 (i) : (val_main_v4 (F := Ideal) x2 i : EReal) = (((H (i 1).val).v (i 0).val (i 2).val : ℝ) : EReal) := by
  have h1 : (i 1).val < 8 := (i 1).isLt
  have h2 : (i 2).val < 128 := (i 2).isLt
  refine (val_main_v4_apply x2 i).trans ((h.v _).trans ?_)
  show (((H ((((i 0).val * 8 + (i 1).val) * 128 + (i 2).val) % 1024 / 128)).v ((((i 0).val * 8 + (i 1).val) * 128 + (i 2).val) / 1024)
    ((((i 0).val * 8 + (i 1).val) * 128 + (i 2).val) % 1024 % 128) : ℝ) : EReal) = _
  rw [show (((i 0).val * 8 + (i 1).val) * 128 + (i 2).val) % 1024 / 128 = (i 1).val by omega,
    show (((i 0).val * 8 + (i 1).val) * 128 + (i 2).val) / 1024 = (i 0).val by omega,
    show (((i 0).val * 8 + (i 1).val) * 128 + (i 2).val) % 1024 % 128 = (i 2).val by omega]

theorem v5 (i) : (val_main_v5 (F := Ideal) x2 i : EReal) = (((H (i 0).val).v (i 1).val (i 2).val : ℝ) : EReal) :=
  (val_main_v5_apply x2 i).trans (v4 h _)

theorem v43 (i) : (val_main_v43 (F := Ideal) x3 i : EReal) = (((H (i 1).val).g (i 0).val (i 2).val : ℝ) : EReal) := by
  have h1 : (i 1).val < 8 := (i 1).isLt
  have h2 : (i 2).val < 128 := (i 2).isLt
  refine (val_main_v43_apply x3 i).trans ((h.g _).trans ?_)
  show (((H ((((i 0).val * 8 + (i 1).val) * 128 + (i 2).val) % 1024 / 128)).g ((((i 0).val * 8 + (i 1).val) * 128 + (i 2).val) / 1024)
    ((((i 0).val * 8 + (i 1).val) * 128 + (i 2).val) % 1024 % 128) : ℝ) : EReal) = _
  rw [show (((i 0).val * 8 + (i 1).val) * 128 + (i 2).val) % 1024 / 128 = (i 1).val by omega,
    show (((i 0).val * 8 + (i 1).val) * 128 + (i 2).val) / 1024 = (i 0).val by omega,
    show (((i 0).val * 8 + (i 1).val) * 128 + (i 2).val) % 1024 % 128 = (i 2).val by omega]

theorem v44 (i) : (val_main_v44 (F := Ideal) x3 i : EReal) = (((H (i 0).val).g (i 1).val (i 2).val : ℝ) : EReal) :=
  (val_main_v44_apply x3 i).trans (v43 h _)

/-- The scores. -/
theorem v6 (i) : (val_main_v6 (F := Ideal) x0 x1 i : EReal) = (((H (i 0).val).S (i 1).val (i 2).val : ℝ) : EReal) :=
  (val_main_v6_apply x0 x1 i).trans
    (coe_dot _ _ (fun d => (H (i 0).val).q (i 1).val d) (fun d => (H (i 0).val).k (i 2).val d) (fun d => v0 h _) (fun d => v1 h _))

omit h in
/-- The causal mask. -/
theorem mask {α : Type} (i : S8x16384x16384.Idx) (x y : α) :
    Scalar.select (val_main_v13_1 (F := Ideal) i) x y = if (i 2).val ≤ (i 1).val then x else y := by
  refine Eq.trans (congrArg (fun w => Scalar.select w x y) ((val_main_v13_1_apply i).trans ((val_main_v12_apply _).trans ?_))) (select_le (i 2).val (i 1).val (i 2).isLt (i 1).isLt x y)
  exact congrArg₂ (IntOp.cmpi .sle)
    ((val_main_v10_apply _).trans ((val_main_v8_apply _).trans (val_main_v7_apply _)))
    ((val_main_v11_apply _).trans ((val_main_v9_apply _).trans (val_main_v7_apply _)))

/-- The masked scores. -/
theorem v13 (i) : (val_main_v13_0 (F := Ideal) x0 x1 i : EReal)
    = if (i 2).val ≤ (i 1).val then (((H (i 0).val).S (i 1).val (i 2).val : ℝ) : EReal) else ⊥ := by
  refine (val_main_v13_0_apply x0 x1 i).trans ((mask i _ _).trans ?_)
  refine if_congr Iff.rfl (v6 h i) ?_
  exact (val_main_call0_v2_apply i).trans ofBits_bot

/-- The row maxima are real. -/
theorem v14 : ∃ M : ℕ → ℕ → ℝ, ∀ i, (val_main_v14 (F := Ideal) x0 x1 i : EReal) = ((M (i 0).val (i 1).val : ℝ) : EReal) :=
  rowMax_real (val_main_v13_0 (F := Ideal) x0 x1) (fun a i j => (H a).S i j) (v13 h) (val_main_cst_0 (F := Ideal)) (fun _ => ofBits_bot) reducesTo_S8x16384x16384_S8x16384_d2 h_S_

section Shift

variable {M : ℕ → ℕ → ℝ} (hM : ∀ i, (val_main_v14 (F := Ideal) x0 x1 i : EReal) = ((M (i 0).val (i 1).val : ℝ) : EReal))

include hM

theorem v21 (i) : (val_main_v21 (F := Ideal) x0 x1 i : EReal) = ((M (i 0).val (i 1).val : ℝ) : EReal) := by
  have e : (val_main_v20 (F := Ideal) i : EReal) = ⊥ := (val_main_v20_apply i).trans ofBits_bot
  refine (val_main_v21_apply x0 x1 i).trans ?_
  show max (val_main_v20 (F := Ideal) i : EReal) (val_main_v14 (F := Ideal) x0 x1 i) = _
  rw [e, hM]; exact max_eq_right bot_le

theorem v32 (i) : (val_main_v32 (F := Ideal) x0 x1 i : EReal) = ((M (i 0).val (i 1).val : ℝ) : EReal) :=
  (val_main_v32_apply x0 x1 i).trans ((val_main_v31_apply x0 x1 _).trans (v21 h hM _))

/-- The shifted exponentials. -/
theorem v34 (i) : (val_main_v34 (F := Ideal) x0 x1 i : EReal)
    = (((H (i 0).val).X (i 1).val (i 2).val * Real.exp (-(M (i 0).val (i 1).val)) : ℝ) : EReal) := by
  refine (val_main_v34_apply x0 x1 i).trans ?_
  show Ideal.exp (val_main_v13_0 (F := Ideal) x0 x1 i - val_main_v32 (F := Ideal) x0 x1 i) = _
  rw [v13 h i, v32 h hM i, exp_masked, Head.X_shift]

/-- Their row sums. -/
theorem v35 (i) : (val_main_v35 (F := Ideal) x0 x1 i : EReal)
    = (((H (i 0).val).Z 16384 (i 1).val * Real.exp (-(M (i 0).val (i 1).val)) : ℝ) : EReal) := by
  refine (val_main_v35_apply x0 x1 i).trans ?_
  rw [show (val_main_cst_8 (F := Ideal) (Shape.Idx.first h_S_) : EReal) = 0 from Ideal.ofBits_zero_f32, zero_add, ← Head.Z_shift]
  exact coe_sum _ (fun j => (H (i 0).val).X (i 1).val j * Real.exp (-(M (i 0).val (i 1).val))) (fun j => v34 h hM _)

theorem v36 (i) : (val_main_v36 (F := Ideal) x0 x1 i : EReal)
    = (((H (i 0).val).Z 16384 (i 1).val * Real.exp (-(M (i 0).val (i 1).val)) : ℝ) : EReal) :=
  (val_main_v36_apply x0 x1 i).trans (v35 h hM _)

/-- The probabilities. -/
theorem v38 (i) : (val_main_v38 (F := Ideal) x0 x1 i : EReal) = (((H (i 0).val).p 16384 (i 1).val (i 2).val : ℝ) : EReal) := by
  have e := (val_main_v37_apply (F := Ideal) x0 x1 i).trans (v36 h hM _)
  refine (val_main_v38_apply x0 x1 i).trans ?_
  show Ideal.div (val_main_v34 (F := Ideal) x0 x1 i) (val_main_v37 (F := Ideal) x0 x1 i) = _
  rw [v34 h hM i, e]
  refine (div_real _ _ (Head.Zs_pos _ _ _ (i 1).isLt)).trans ?_
  exact congrArg _ (Head.p_shift _ _ _ _ _)

/-- The gradient of the values. -/
theorem v45 (i) : (val_main_v45 (F := Ideal) x0 x1 x3 i : EReal) = (((H (i 0).val).dv 16384 (i 2).val (i 1).val : ℝ) : EReal) :=
  (val_main_v45_apply x0 x1 x3 i).trans ((coe_dot _ _ (fun r => (H (i 0).val).g r (i 1).val) (fun r => (H (i 0).val).p 16384 r (i 2).val)
    (fun r => v44 h _) (fun r => v38 h hM _)).trans (congrArg _ (Finset.sum_congr rfl fun r _ => mul_comm _ _)))

theorem v66 (i) : (val_main_v66 (F := Ideal) x0 x1 x3 i : EReal)
    = (((H ((i 1).val / 128)).dv 16384 (i 0).val ((i 1).val % 128) : ℝ) : EReal) := by
  have h1 : (i 1).val < 1024 := (i 1).isLt
  refine (val_main_v66_apply x0 x1 x3 i).trans ((val_main_v65_apply x0 x1 x3 _).trans ((val_main_v46_apply x0 x1 x3 _).trans ((v45 h hM _).trans ?_)))
  show (((H (((i 0).val * 1024 + (i 1).val) / 128 % 8)).dv 16384 (((i 0).val * 1024 + (i 1).val) / 1024) (((i 0).val * 1024 + (i 1).val) % 128) : ℝ) : EReal) = _
  rw [show ((i 0).val * 1024 + (i 1).val) / 128 % 8 = (i 1).val / 128 by omega,
    show ((i 0).val * 1024 + (i 1).val) / 1024 = (i 0).val by omega,
    show ((i 0).val * 1024 + (i 1).val) % 128 = (i 1).val % 128 by omega]

omit hM in
/-- The gradient of the probabilities. -/
theorem v47 (i) : (val_main_v47 (F := Ideal) x2 x3 i : EReal) = (((H (i 0).val).G (i 1).val (i 2).val : ℝ) : EReal) :=
  (val_main_v47_apply x2 x3 i).trans
    (coe_dot _ _ (fun e => (H (i 0).val).g (i 1).val e) (fun e => (H (i 0).val).v (i 2).val e) (fun e => v44 h _) (fun e => v5 h _))

/-- The row sum, with its shift. -/
def L (H : ℕ → Head) (M : ℕ → ℕ → ℝ) (a i : ℕ) : ℝ := (H a).Z 16384 i * Real.exp (-(M a i))
omit h hM in
theorem L_pos (H : ℕ → Head) (M : ℕ → ℕ → ℝ) (a : ℕ) {i : ℕ} (hi : i < 16384) : 0 < L H M a i := Head.Zs_pos _ _ _ hi

theorem v41 (i) : (val_main_v41 (F := Ideal) x0 x1 i : EReal) = ((1 / (L H M (i 0).val (i 1).val * L H M (i 0).val (i 1).val) : ℝ) : EReal) := by
  have e : (val_main_v40 (F := Ideal) i : EReal) = ((1 : ℝ) : EReal) := (val_main_v40_apply i).trans ofBits_one
  have e' : (val_main_v39 (F := Ideal) x0 x1 i : EReal) = ((L H M (i 0).val (i 1).val * L H M (i 0).val (i 1).val : ℝ) : EReal) := by
    refine (val_main_v39_apply x0 x1 i).trans ?_
    show (val_main_v36 (F := Ideal) x0 x1 i : EReal) * val_main_v36 (F := Ideal) x0 x1 i = _
    rw [v36 h hM i, EReal.coe_mul]; rfl
  refine (val_main_v41_apply x0 x1 i).trans ?_
  show Ideal.div (val_main_v40 (F := Ideal) i) (val_main_v39 (F := Ideal) x0 x1 i) = _
  rw [e, e']
  exact div_real _ _ (mul_pos (L_pos H M _ (i 1).isLt) (L_pos H M _ (i 1).isLt))

theorem v50 (i) : (val_main_v50 (F := Ideal) x0 x1 x2 x3 i : EReal)
    = (((H (i 0).val).G (i 1).val (i 2).val * (1 / (L H M (i 0).val (i 1).val * L H M (i 0).val (i 1).val))
        * ((H (i 0).val).X (i 1).val (i 2).val * Real.exp (-(M (i 0).val (i 1).val))) : ℝ) : EReal) := by
  have e : (val_main_v48 (F := Ideal) x0 x1 i : EReal) = ((1 / (L H M (i 0).val (i 1).val * L H M (i 0).val (i 1).val) : ℝ) : EReal) :=
    (val_main_v48_apply (F := Ideal) x0 x1 i).trans (v41 h hM _)
  refine (val_main_v50_apply x0 x1 x2 x3 i).trans ?_
  show (val_main_v47 (F := Ideal) x2 x3 i * val_main_v48 (F := Ideal) x0 x1 i : EReal) * val_main_v34 (F := Ideal) x0 x1 i = _
  rw [v47 h i, e, v34 h hM i, ← EReal.coe_mul, ← EReal.coe_mul]

/-- The row sum that the softmax's gradient subtracts, as the reference writes it. -/
def W (H : ℕ → Head) (M : ℕ → ℕ → ℝ) (a i : ℕ) : ℝ :=
  ∑ j ∈ Finset.range 16384, (H a).G i j * (1 / (L H M a i * L H M a i)) * ((H a).X i j * Real.exp (-(M a i)))

theorem v51 (i) : (val_main_v51 (F := Ideal) x0 x1 x2 x3 i : EReal) = ((W H M (i 0).val (i 1).val : ℝ) : EReal) := by
  refine (val_main_v51_apply x0 x1 x2 x3 i).trans ?_
  rw [show (val_main_cst_10 (F := Ideal) (Shape.Idx.first h_S_) : EReal) = 0 from Ideal.ofBits_zero_f32, zero_add]
  exact coe_sum _ (fun j => (H (i 0).val).G (i 1).val j * (1 / (L H M (i 0).val (i 1).val * L H M (i 0).val (i 1).val))
        * ((H (i 0).val).X (i 1).val j * Real.exp (-(M (i 0).val (i 1).val)))) (fun j => v50 h hM _)

theorem v53 (i) : (val_main_v53 (F := Ideal) x0 x1 x2 x3 i : EReal) = ((-W H M (i 0).val (i 1).val : ℝ) : EReal) := by
  have h1 : (i 1).val < 16384 := (i 1).isLt
  have h2 : (i 2).val < 1 := (i 2).isLt
  have e : (val_main_v52 (F := Ideal) x0 x1 x2 x3 i : EReal) = ((W H M (i 0).val (i 1).val : ℝ) : EReal) := by
    refine (val_main_v52_apply x0 x1 x2 x3 i).trans ((v51 h hM _).trans ?_)
    show ((W H M ((((i 0).val * 16384 + (i 1).val) * 1 + (i 2).val) / 16384) ((((i 0).val * 16384 + (i 1).val) * 1 + (i 2).val) % 16384) : ℝ) : EReal) = _
    rw [show (((i 0).val * 16384 + (i 1).val) * 1 + (i 2).val) / 16384 = (i 0).val by omega,
      show (((i 0).val * 16384 + (i 1).val) * 1 + (i 2).val) % 16384 = (i 1).val by omega]
  refine (val_main_v53_apply x0 x1 x2 x3 i).trans ?_
  show -(val_main_v52 (F := Ideal) x0 x1 x2 x3 i : EReal) = _
  rw [e, EReal.coe_neg]

theorem v56 (i) : (val_main_v56 (F := Ideal) x0 x1 x2 x3 i : EReal) = ((-W H M (i 0).val (i 1).val : ℝ) : EReal) := by
  refine (val_main_v56_apply x0 x1 x2 x3 i).trans ?_
  rw [show (val_main_cst_11 (F := Ideal) (Shape.Idx.first h_S_) : EReal) = 0 from Ideal.ofBits_zero_f32, zero_add, Fin.sum_univ_one]
  exact v53 h hM _

/-- The gradient of the scores. -/
theorem v59 (i) : (val_main_v59 (F := Ideal) x0 x1 x2 x3 i : EReal) = (((H (i 0).val).ds 16384 (i 1).val (i 2).val : ℝ) : EReal) := by
  have e1 := (val_main_v54_apply (F := Ideal) x0 x1 i).trans (v36 h hM _)
  have e2 : (val_main_v55 (F := Ideal) x0 x1 x2 x3 i : EReal) = (((H (i 0).val).G (i 1).val (i 2).val / L H M (i 0).val (i 1).val : ℝ) : EReal) := by
    refine (val_main_v55_apply x0 x1 x2 x3 i).trans ?_
    show Ideal.div (val_main_v47 (F := Ideal) x2 x3 i) (val_main_v54 (F := Ideal) x0 x1 i) = _
    rw [v47 h i, e1]
    exact div_real _ _ (L_pos H M _ (i 1).isLt)
  have e3 := (val_main_v57_apply (F := Ideal) x0 x1 x2 x3 i).trans (v56 h hM _)
  refine (val_main_v59_apply x0 x1 x2 x3 i).trans ?_
  show (val_main_v55 (F := Ideal) x0 x1 x2 x3 i + val_main_v57 (F := Ideal) x0 x1 x2 x3 i : EReal) * val_main_v34 (F := Ideal) x0 x1 i = _
  rw [e2, e3, v34 h hM i, ← EReal.coe_add, ← EReal.coe_mul]
  exact congrArg _ (Head.ds_shift (H (i 0).val) 16384 (M (i 0).val (i 1).val) (i 1).isLt (i 2).val)

theorem v60 (i) : (val_main_v60 (F := Ideal) x0 x1 x2 x3 i : EReal) = (((H (i 0).val).ds 16384 (i 1).val (i 2).val : ℝ) : EReal) := by
  refine (val_main_v60_apply x0 x1 x2 x3 i).trans ((mask i _ _).trans ?_)
  split
  · exact v59 h hM i
  · rw [Head.ds_of_lt _ _ (by omega)]
    exact (val_main_call1_v0_apply i).trans Ideal.ofBits_zero_f32

/-- The gradient of the keys. -/
theorem v61 (i) : (val_main_v61 (F := Ideal) x0 x1 x2 x3 i : EReal) = (((H (i 0).val).dk 16384 (i 1).val (i 2).val : ℝ) : EReal) :=
  (val_main_v61_apply x0 x1 x2 x3 i).trans (coe_dot _ _ (fun r => (H (i 0).val).ds 16384 r (i 1).val) (fun r => (H (i 0).val).q r (i 2).val)
    (fun r => v60 h hM _) (fun r => v0 h _))

/-- The gradient of the queries. -/
theorem v62 (i) : (val_main_v62 (F := Ideal) x0 x1 x2 x3 i : EReal) = (((H (i 0).val).dq 16384 (i 1).val (i 2).val : ℝ) : EReal) :=
  (val_main_v62_apply x0 x1 x2 x3 i).trans (coe_dot _ _ (fun j => (H (i 0).val).ds 16384 (i 1).val j) (fun j => (H (i 0).val).k j (i 2).val)
    (fun j => v60 h hM _) (fun j => v1 h _))

theorem v64 (i) : (val_main_v64 (F := Ideal) x0 x1 x2 x3 i : EReal)
    = (((H (i 0).val).dq 16384 (1024 * (i 1).val + (i 3).val) (i 2).val : ℝ) : EReal) := by
  have h0 : (i 0).val < 8 := (i 0).isLt
  have h1 : (i 1).val < 16 := (i 1).isLt
  have h2 : (i 2).val < 192 := (i 2).isLt
  have h3 : (i 3).val < 1024 := (i 3).isLt
  refine (val_main_v64_apply x0 x1 x2 x3 i).trans ((val_main_v63_apply x0 x1 x2 x3 _).trans ((v62 h hM _).trans ?_))
  show (((H (((((i 0).val * 16 + (i 1).val) * 1024 + (i 3).val) * 192 + (i 2).val) / 3145728)).dq 16384
    (((((i 0).val * 16 + (i 1).val) * 1024 + (i 3).val) * 192 + (i 2).val) / 192 % 16384)
    (((((i 0).val * 16 + (i 1).val) * 1024 + (i 3).val) * 192 + (i 2).val) % 192) : ℝ) : EReal) = _
  rw [show ((((i 0).val * 16 + (i 1).val) * 1024 + (i 3).val) * 192 + (i 2).val) / 3145728 = (i 0).val by omega,
    show ((((i 0).val * 16 + (i 1).val) * 1024 + (i 3).val) * 192 + (i 2).val) / 192 % 16384 = 1024 * (i 1).val + (i 3).val by omega,
    show ((((i 0).val * 16 + (i 1).val) * 1024 + (i 3).val) * 192 + (i 2).val) % 192 = (i 2).val by omega]

end Shift

end Cert.RefRead
-- ==== Proof.HostRead.lean ====
/-
  The two row statistics that the host computes for the kernel: the log-sum-exp of each row of scores, and the row sum of
  the products of the output's gradient with the output.
-/
module

public import proofs.«01_k».proof.Proof.RefRead
public import proofs.«01_k».proof.Proof.Gen.KernelIdeal.Frame
public import Idealize.ShloMosaic.Lib.ValueIdx
public import Idealize.ShloMosaic.Lib.Claim

@[expose] public section

set_option maxRecDepth 16384

noncomputable section

namespace Cert.HostRead

open Cert.KernelIdeal Cert.KernelIdeal.Gen Cert.Attn Cert.RefRead
open Idealize.ShloMosaic Idealize.ShloMosaic.TcCoe

/-! ## The host's operations -/

/-- The scores. -/
def sc (x0 x1 : Rows) : FVec Ideal S8x16384x16384 .f32 :=
  Host.dotGeneral dot_S8x16384x192_S8x16384x192_S8x16384x16384_2_2_1_1_0_0 none (extf (F := Ideal) (φ := .bf16) .f32 x0 bitsLt_bf16_f32) (extf (F := Ideal) (φ := .bf16) .f32 x1 bitsLt_bf16_f32)
/-- Whether a key is not after a query. -/
def ok : IVec S1x16384x16384 1 :=
  cmpi .sle (broadcastInDim S1x16384x16384 ![0, 1, 2] bcast_S1x1x16384_S1x16384x16384_0_1_2 (broadcastInDim S1x1x16384 ![2] bcast_S16384_S1x1x16384_2 (iotaInDim S16384 32 0)))
    (broadcastInDim S1x16384x16384 ![0, 1, 2] bcast_S1x16384x1_S1x16384x16384_0_1_2 (broadcastInDim S1x16384x1 ![1] bcast_S16384_S1x16384x1_1 (iotaInDim S16384 32 0)))
/-- The masked scores. -/
def ms (x0 x1 : Rows) : FVec Ideal S8x16384x16384 .f32 :=
  select (broadcastInDim S8x16384x16384 ![0, 1, 2] bcast_S1x16384x16384_S8x16384x16384_0_1_2 ok) (sc x0 x1)
    (broadcastInDim S8x16384x16384 ![] bcast_S_S8x16384x16384 (constant (F := Ideal) S_ .f32 0xFF800000#32))
/-- The row maxima. -/
def mx (x0 x1 : Rows) : FVec Ideal S8x16384 .f32 :=
  Host.reduce FloatOps.maximumf (ms x0 x1) (constant (F := Ideal) S_ .f32 0xFF800000#32) reducesTo_S8x16384x16384_S8x16384_d2 h_S_
def mx1 (x0 x1 : Rows) : FVec Ideal S8x16384x1 .f32 := broadcastInDim S8x16384x1 ![0, 1] bcast_S8x16384_S8x16384x1_0_1 (mx x0 x1)
/-- The shifted exponentials. -/
def ex (x0 x1 : Rows) : FVec Ideal S8x16384x16384 .f32 :=
  Host.exp (subf (ms x0 x1) (broadcastInDim S8x16384x16384 ![0, 1, 2] bcast_S8x16384x1_S8x16384x16384_0_1_2 (mx1 x0 x1)))
/-- Their row sums. -/
def sm (x0 x1 : Rows) : FVec Ideal S8x16384 .f32 :=
  Host.reduceAdd (ex x0 x1) (constant (F := Ideal) S_ .f32 0x00000000#32) reducesTo_S8x16384x16384_S8x16384_d2 h_S_
def sm1 (x0 x1 : Rows) : FVec Ideal S8x16384x1 .f32 := broadcastInDim S8x16384x1 ![0, 1] bcast_S8x16384_S8x16384x1_0_1 (sm x0 x1)
/-- The probabilities. -/
def pb (x0 x1 : Rows) : FVec Ideal S8x16384x16384 .f32 :=
  Host.divf (ex x0 x1) (broadcastInDim S8x16384x16384 ![0, 1, 2] bcast_S8x16384x1_S8x16384x16384_0_1_2 (sm1 x0 x1))
/-- Columns by heads. -/
def hd (x : Cols) : FVec Ideal S8x16384x128 .f32 :=
  transpose S8x16384x128 [1, 0, 2] (shapeCast S16384x8x128 (extf (F := Ideal) (φ := .bf16) .f32 x bitsLt_bf16_f32) shapeCasts_S16384x1024_S16384x8x128) transposes_S16384x8x128_S8x16384x128_1_0_2
/-- The output. -/
def ot (x0 x1 : Rows) (x2 : Cols) : FVec Ideal S8x16384x128 .f32 :=
  Host.dotGeneral dot_S8x16384x16384_S8x16384x128_S8x16384x128_2_1_1_2_0_0 none (pb x0 x1) (hd x2)
/-- The log-sum-exp of each row, in tiles of rows. -/
def lseOf (x0 x1 : Rows) : FVec Ideal S8x16x1x1024 .f32 :=
  shapeCast S8x16x1x1024 (addf (mx1 x0 x1) (Host.log (sm1 x0 x1))) shapeCasts_S8x16384x1_S8x16x1x1024
/-- The row sum of the products of the output's gradient with the output. -/
def dlS (x0 x1 : Rows) (x2 x3 : Cols) : FVec Ideal S8x16384 .f32 :=
  Host.reduceAdd (mulf (hd x3) (ot x0 x1 x2)) (constant (F := Ideal) S_ .f32 0x00000000#32) reducesTo_S8x16384x128_S8x16384_d2 h_S_
/-- The same, in tiles of rows. -/
def deltaOf (x0 x1 : Rows) (x2 x3 : Cols) : FVec Ideal S8x16x1x1024 .f32 :=
  shapeCast S8x16x1x1024 (dlS x0 x1 x2 x3) shapeCasts_S8x16384_S8x16x1x1024

section Entry

variable (m : (ℓ : Loc nD τ sig) → Buf (Elt Ideal) ℓ) (c : Dev nD)

theorem V_lse : V m c main_v26 = lseOf (m ((c : Thread nD τ).loc main_arg0)) (m ((c : Thread nD τ).loc main_arg1)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  unfold lseOf sm1 sm ex mx1 mx ms ok sc
  rfl

theorem V_delta : V m c main_v31 = deltaOf (m ((c : Thread nD τ).loc main_arg0)) (m ((c : Thread nD τ).loc main_arg1))
    (m ((c : Thread nD τ).loc main_arg2)) (m ((c : Thread nD τ).loc main_arg3)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  unfold deltaOf dlS ot hd pb sm1 sm ex mx1 mx ms ok sc
  rfl

end Entry

/-! ## Their values -/

theorem divf_at {s : Shape} (x y : FVec Ideal s .f32) (i : s.Idx) : Host.divf x y i = Ideal.div (x i) (y i) := rfl
theorem logf_at {s : Shape} (x : FVec Ideal s .f32) (i : s.Idx) : Host.log x i = Ideal.log (x i) := rfl
theorem addf_at {s : Shape} (x y : FVec Ideal s .f32) (i : s.Idx) : addf x y i = ((x i : EReal) + y i : EReal) := rfl

theorem bc1 (x : FVec Ideal S8x16384 .f32) (f : ℕ → ℕ → ℝ) (hx : ∀ i, x i = ((f (i 0).val (i 1).val : ℝ) : EReal)) (i : S8x16384x1.Idx) :
    broadcastInDim S8x16384x1 ![0, 1] bcast_S8x16384_S8x16384x1_0_1 x i = ((f (i 0).val (i 1).val : ℝ) : EReal) :=
  (broadcastInDim_apply _ _ x i (fun a => match a with | ⟨0, _⟩ => ⟨(i 0).val, (i 0).isLt⟩ | ⟨1, _⟩ => ⟨(i 1).val, (i 1).isLt⟩) (fun a => match a with
    | ⟨0, _⟩ => by show (i 0).val = if (8 : ℕ) = 1 then 0 else (i 0).val; rw [if_neg (by decide)]
    | ⟨1, _⟩ => by show (i 1).val = if (16384 : ℕ) = 1 then 0 else (i 1).val; rw [if_neg (by decide)])).trans (hx _)

theorem bc2 (x : FVec Ideal S8x16384x1 .f32) (f : ℕ → ℕ → ℝ) (hx : ∀ i, x i = ((f (i 0).val (i 1).val : ℝ) : EReal)) (i : S8x16384x16384.Idx) :
    broadcastInDim S8x16384x16384 ![0, 1, 2] bcast_S8x16384x1_S8x16384x16384_0_1_2 x i = ((f (i 0).val (i 1).val : ℝ) : EReal) :=
  (broadcastInDim_apply _ _ x i (fun a => match a with | ⟨0, _⟩ => ⟨(i 0).val, (i 0).isLt⟩ | ⟨1, _⟩ => ⟨(i 1).val, (i 1).isLt⟩ | ⟨2, _⟩ => ⟨0, Nat.one_pos⟩) (fun a => match a with
    | ⟨0, _⟩ => by show (i 0).val = if (8 : ℕ) = 1 then 0 else (i 0).val; rw [if_neg (by decide)]
    | ⟨1, _⟩ => by show (i 1).val = if (16384 : ℕ) = 1 then 0 else (i 1).val; rw [if_neg (by decide)]
    | ⟨2, _⟩ => by show 0 = if (1 : ℕ) = 1 then 0 else (i 2).val; rw [if_pos rfl])).trans (hx _)

/-- A row sum. -/
theorem rowSum (x : FVec Ideal S8x16384x16384 .f32) (f : ℕ → ℕ → ℕ → ℝ) (hx : ∀ i, x i = ((f (i 0).val (i 1).val (i 2).val : ℝ) : EReal)) (i : S8x16384.Idx) :
    Host.reduceAdd x (constant (F := Ideal) S_ .f32 0x00000000#32) reducesTo_S8x16384x16384_S8x16384_d2 h_S_ i
      = ((∑ j ∈ Finset.range 16384, f (i 0).val (i 1).val j : ℝ) : EReal) := by
  simp only [Host.reduceAdd, Ideal.hostReduceAdd_def]
  rw [Ideal.hostReduceAdd_single reducesTo_S8x16384x16384_S8x16384_d2 (by decide),
    show ((constant (F := Ideal) S_ .f32 0x00000000#32) (Shape.Idx.first h_S_) : EReal) = 0 from Ideal.ofBits_zero_f32, zero_add]
  exact coe_sum _ (fun j => f (i 0).val (i 1).val j) (fun j => hx _)

theorem rowSum' (x : FVec Ideal S8x16384x128 .f32) (f : ℕ → ℕ → ℕ → ℝ) (hx : ∀ i, x i = ((f (i 0).val (i 1).val (i 2).val : ℝ) : EReal)) (i : S8x16384.Idx) :
    Host.reduceAdd x (constant (F := Ideal) S_ .f32 0x00000000#32) reducesTo_S8x16384x128_S8x16384_d2 h_S_ i
      = ((∑ e ∈ Finset.range 128, f (i 0).val (i 1).val e : ℝ) : EReal) := by
  simp only [Host.reduceAdd, Ideal.hostReduceAdd_def]
  rw [Ideal.hostReduceAdd_single reducesTo_S8x16384x128_S8x16384_d2 (by decide),
    show ((constant (F := Ideal) S_ .f32 0x00000000#32) (Shape.Idx.first h_S_) : EReal) = 0 from Ideal.ofBits_zero_f32, zero_add]
  exact coe_sum _ (fun j => f (i 0).val (i 1).val j) (fun j => hx _)

/-- A product of probabilities with values, by heads. -/
theorem dotPV (x : FVec Ideal S8x16384x16384 .f32) (y : FVec Ideal S8x16384x128 .f32) (f g : ℕ → ℕ → ℕ → ℝ)
    (hx : ∀ i, x i = ((f (i 0).val (i 1).val (i 2).val : ℝ) : EReal)) (hy : ∀ i, y i = ((g (i 0).val (i 1).val (i 2).val : ℝ) : EReal)) (i : S8x16384x128.Idx) :
    Host.dotGeneral dot_S8x16384x16384_S8x16384x128_S8x16384x128_2_1_1_2_0_0 none x y i
      = ((∑ j ∈ Finset.range 16384, f (i 0).val (i 1).val j * g (i 0).val j (i 2).val : ℝ) : EReal) := by
  simp only [Host.dotGeneral]
  rw [Ideal.dotGeneral_apply, ← Equiv.sum_comp (ValueIdx.contrEquiv1 dot_S8x16384x16384_S8x16384x128_S8x16384x128_2_1_1_2_0_0 16384 rfl rfl).symm]
  refine coe_dot _ _ (fun j => f (i 0).val (i 1).val j) (fun j => g (i 0).val j (i 2).val) (fun k => (hx _).trans ?_) (fun k => (hy _).trans ?_)
  · have hk := ValueIdx.contrEquiv1_symm_val dot_S8x16384x16384_S8x16384x128_S8x16384x128_2_1_1_2_0_0 16384 rfl rfl k
    have e2 := (dot_S8x16384x16384_S8x16384x128_S8x16384x128_2_1_1_2_0_0.lhsIdx_val_of_single rfl i
      ((ValueIdx.contrEquiv1 dot_S8x16384x16384_S8x16384x128_S8x16384x128_2_1_1_2_0_0 16384 rfl rfl).symm k)).trans hk
    have e0 : ∀ q, (dot_S8x16384x16384_S8x16384x128_S8x16384x128_2_1_1_2_0_0.lhsIdx i q 0).val = (i 0).val := fun q => by
      unfold DotDims.lhsIdx
      rw [dif_pos (show (0 : Fin S8x16384x16384.rank) ∈ dot_S8x16384x16384_S8x16384x128_S8x16384x128_2_1_1_2_0_0.lhsBatch by decide)]
      rfl
    have e1 : ∀ q, (dot_S8x16384x16384_S8x16384x128_S8x16384x128_2_1_1_2_0_0.lhsIdx i q 1).val = (i 1).val := fun q => by
      unfold DotDims.lhsIdx
      rw [dif_neg (show ¬(1 : Fin S8x16384x16384.rank) ∈ dot_S8x16384x16384_S8x16384x128_S8x16384x128_2_1_1_2_0_0.lhsBatch by decide),
        dif_pos (show (1 : Fin S8x16384x16384.rank) ∈ dot_S8x16384x16384_S8x16384x128_S8x16384x128_2_1_1_2_0_0.lhsNonContracting by decide)]
      rfl
    rw [e0, e1, e2]
  · have hk := ValueIdx.contrEquiv1_symm_val dot_S8x16384x16384_S8x16384x128_S8x16384x128_2_1_1_2_0_0 16384 rfl rfl k
    have e1 := (dot_S8x16384x16384_S8x16384x128_S8x16384x128_2_1_1_2_0_0.rhsIdx_val_of_single rfl i
      ((ValueIdx.contrEquiv1 dot_S8x16384x16384_S8x16384x128_S8x16384x128_2_1_1_2_0_0 16384 rfl rfl).symm k)).trans hk
    have e0 : ∀ q, (dot_S8x16384x16384_S8x16384x128_S8x16384x128_2_1_1_2_0_0.rhsIdx i q 0).val = (i 0).val := fun q => by
      unfold DotDims.rhsIdx
      rw [dif_pos (show (0 : Fin S8x16384x128.rank) ∈ dot_S8x16384x16384_S8x16384x128_S8x16384x128_2_1_1_2_0_0.rhsBatch by decide)]
      rfl
    have e2 : ∀ q, (dot_S8x16384x16384_S8x16384x128_S8x16384x128_2_1_1_2_0_0.rhsIdx i q 2).val = (i 2).val := fun q => by
      unfold DotDims.rhsIdx
      rw [dif_neg (show ¬(2 : Fin S8x16384x128.rank) ∈ dot_S8x16384x16384_S8x16384x128_S8x16384x128_2_1_1_2_0_0.rhsBatch by decide),
        dif_pos (show (2 : Fin S8x16384x128.rank) ∈ dot_S8x16384x16384_S8x16384x128_S8x16384x128_2_1_1_2_0_0.rhsNonContracting by decide)]
      rfl
    rw [e0, e1, e2]

variable {H : ℕ → Head} {x0 x1 : Rows} {x2 x3 : Cols} (h : Holds H x0 x1 x2 x3)

include h

theorem sc_real (i) : (sc x0 x1 i : EReal) = (((H (i 0).val).S (i 1).val (i 2).val : ℝ) : EReal) := v6 h i

omit h in
theorem ok_mask {α : Type} (i : S8x16384x16384.Idx) (x y : α) :
    Scalar.select (broadcastInDim S8x16384x16384 ![0, 1, 2] bcast_S1x16384x16384_S8x16384x16384_0_1_2 ok i) x y = if (i 2).val ≤ (i 1).val then x else y :=
  mask i x y

theorem ms_real (i) : (ms x0 x1 i : EReal) = if (i 2).val ≤ (i 1).val then (((H (i 0).val).S (i 1).val (i 2).val : ℝ) : EReal) else ⊥ := by
  refine Eq.trans (ok_mask i (sc x0 x1 i) _) (if_congr Iff.rfl (sc_real h i) ?_)
  exact (broadcastInDim_apply _ _ _ i (fun a => a.elim0) (fun a => a.elim0)).trans ofBits_bot

theorem mx_real : ∃ M : ℕ → ℕ → ℝ, ∀ i, (mx x0 x1 i : EReal) = ((M (i 0).val (i 1).val : ℝ) : EReal) :=
  rowMax_real (ms x0 x1) (fun a i j => (H a).S i j) (ms_real h) _ (fun _ => ofBits_bot) reducesTo_S8x16384x16384_S8x16384_d2 h_S_

theorem hd_v (i) : (hd x2 i : EReal) = (((H (i 0).val).v (i 1).val (i 2).val : ℝ) : EReal) := v5 h i
theorem hd_g (i) : (hd x3 i : EReal) = (((H (i 0).val).g (i 1).val (i 2).val : ℝ) : EReal) := v44 h i

section Shift

variable {M : ℕ → ℕ → ℝ} (hM : ∀ i, (mx x0 x1 i : EReal) = ((M (i 0).val (i 1).val : ℝ) : EReal))

include hM

theorem ex_real (i) : (ex x0 x1 i : EReal) = (((H (i 0).val).X (i 1).val (i 2).val * Real.exp (-(M (i 0).val (i 1).val)) : ℝ) : EReal) := by
  have e := bc2 _ M (bc1 (mx x0 x1) M hM) i
  show Ideal.exp ((ms x0 x1 i : EReal) - broadcastInDim S8x16384x16384 ![0, 1, 2] bcast_S8x16384x1_S8x16384x16384_0_1_2 (mx1 x0 x1) i) = _
  unfold mx1
  rw [ms_real h i, e, exp_masked, Head.X_shift]

theorem sm_real (i) : (sm x0 x1 i : EReal) = (((H (i 0).val).Z 16384 (i 1).val * Real.exp (-(M (i 0).val (i 1).val)) : ℝ) : EReal) := by
  refine (rowSum (ex x0 x1) (fun a i j => (H a).X i j * Real.exp (-(M a i))) (ex_real h hM) i).trans ?_
  rw [← Head.Z_shift]

theorem pb_real (i) : (pb x0 x1 i : EReal) = (((H (i 0).val).p 16384 (i 1).val (i 2).val : ℝ) : EReal) := by
  have e := bc2 _ (fun a i => (H a).Z 16384 i * Real.exp (-(M a i))) (bc1 (sm x0 x1) (fun a i => (H a).Z 16384 i * Real.exp (-(M a i))) (sm_real h hM)) i
  unfold pb sm1
  rw [divf_at, ex_real h hM i, e]
  refine (div_real _ _ (Head.Zs_pos _ _ _ (i 1).isLt)).trans ?_
  exact congrArg _ (Head.p_shift _ _ _ _ _)

theorem ot_real (i) : (ot x0 x1 x2 i : EReal) = ((∑ j ∈ Finset.range 16384, (H (i 0).val).p 16384 (i 1).val j * (H (i 0).val).v j (i 2).val : ℝ) : EReal) :=
  dotPV (pb x0 x1) (hd x2) (fun a i j => (H a).p 16384 i j) (fun a i j => (H a).v i j) (pb_real h hM) (hd_v h) i

theorem dlS_real (i) : (dlS x0 x1 x2 x3 i : EReal) = (((H (i 0).val).dl 16384 (i 1).val : ℝ) : EReal) := by
  refine (rowSum' _ (fun a i e => (H a).g i e * ∑ j ∈ Finset.range 16384, (H a).p 16384 i j * (H a).v j e) (fun i => ?_) i).trans
    (congrArg _ (Head.dl_out _ _ _))
  show (hd x3 i : EReal) * ot x0 x1 x2 i = _
  rw [hd_g h i, ot_real h hM i, ← EReal.coe_mul]

theorem deltaOf_real (i) : (deltaOf x0 x1 x2 x3 i : EReal) = (((H (i 0).val).dl 16384 (1024 * (i 1).val + (i 3).val) : ℝ) : EReal) := by
  have h0 : (i 0).val < 8 := (i 0).isLt
  have h1 : (i 1).val < 16 := (i 1).isLt
  have h2 : (i 2).val < 1 := (i 2).isLt
  have h3 : (i 3).val < 1024 := (i 3).isLt
  have hj : 1024 * (i 1).val + (i 3).val < 16384 := by omega
  refine (shapeCast_apply (dlS x0 x1 x2 x3) shapeCasts_S8x16384_S8x16x1x1024 i
    (fun a => match a with | ⟨0, _⟩ => ⟨(i 0).val, h0⟩ | ⟨1, _⟩ => ⟨1024 * (i 1).val + (i 3).val, hj⟩) ?_).trans (dlS_real h hM _)
  rewrite [Shape.rowMajor_val_two, Shape.rowMajor_val_four]
  show (i 0).val * 16384 + (1024 * (i 1).val + (i 3).val) = (((i 0).val * 16 + (i 1).val) * 1 + (i 2).val) * 1024 + (i 3).val
  omega

theorem lseOf_real (i) : (lseOf x0 x1 i : EReal) = ((M (i 0).val (1024 * (i 1).val + (i 3).val)
    + Real.log ((H (i 0).val).Z 16384 (1024 * (i 1).val + (i 3).val) * Real.exp (-(M (i 0).val (1024 * (i 1).val + (i 3).val)))) : ℝ) : EReal) := by
  have h0 : (i 0).val < 8 := (i 0).isLt
  have h1 : (i 1).val < 16 := (i 1).isLt
  have h2 : (i 2).val < 1 := (i 2).isLt
  have h3 : (i 3).val < 1024 := (i 3).isLt
  have hj : 1024 * (i 1).val + (i 3).val < 16384 := by omega
  refine (shapeCast_apply (addf (mx1 x0 x1) (Host.log (sm1 x0 x1))) shapeCasts_S8x16384x1_S8x16x1x1024 i
    (fun a => match a with | ⟨0, _⟩ => ⟨(i 0).val, h0⟩ | ⟨1, _⟩ => ⟨1024 * (i 1).val + (i 3).val, hj⟩ | ⟨2, _⟩ => ⟨0, Nat.one_pos⟩) ?_).trans ?_
  · rewrite [Shape.rowMajor_val_three, Shape.rowMajor_val_four]
    show ((i 0).val * 16384 + (1024 * (i 1).val + (i 3).val)) * 1 + 0 = (((i 0).val * 16 + (i 1).val) * 1 + (i 2).val) * 1024 + (i 3).val
    omega
  · generalize hk : (fun a => match a with | ⟨0, _⟩ => ⟨(i 0).val, h0⟩ | ⟨1, _⟩ => ⟨1024 * (i 1).val + (i 3).val, hj⟩ | ⟨2, _⟩ => ⟨0, Nat.one_pos⟩ : S8x16384x1.Idx) = k
    have e0 : (i 0).val = (k 0).val := by subst hk; rfl
    have e1 : 1024 * (i 1).val + (i 3).val = (k 1).val := by subst hk; rfl
    rw [e0, e1]
    unfold mx1 sm1
    rw [addf_at, logf_at, bc1 (mx x0 x1) M hM k, bc1 (sm x0 x1) (fun a i => (H a).Z 16384 i * Real.exp (-(M a i))) (sm_real h hM) k]
    rw [log_real _ (Head.Zs_pos (H (k 0).val) 16384 (M (k 0).val (k 1).val) (show (k 1).val < 16384 from e1 ▸ hj)), ← EReal.coe_add]

end Shift

end Cert.HostRead
-- ==== Proof.Arrays.lean ====
module

public import proofs.«01_k».proof.Proof.Point
public import proofs.«01_k».proof.Proof.HostRead
public import proofs.«01_k».proof.Proof.RefRead
public import proofs.«01_k».proof.Proof.Run
public import Idealize.ShloMosaic.Lib.Pipeline.ValueKit

@[expose] public section

set_option maxRecDepth 16384

noncomputable section

namespace Cert.Arrays

open Cert.KernelIdeal Cert.KernelIdeal.Gen Cert.Attn Cert.Tile Cert.FlashBwd Cert.Point
open Idealize.ShloMosaic Idealize.ShloMosaic.TcCoe Idealize.SL.Sem
open Idealize.ShloMosaic.Pipeline (Dat)

theorem idx : ∀ t : Fin cfg0.N, win0_0.index t = ![t.val / 16, t.val % 16, 0] ∧ win0_1.index t = ![t.val / 16, 0, 0]
    ∧ win0_2.index t = ![0, t.val / 16] ∧ win0_3.index t = ![t.val / 16, 0, 0, 0] ∧ win0_4.index t = ![t.val / 16, 0, 0, 0]
    ∧ win0_5.index t = ![t.val % 16, t.val / 16] ∧ win0_6.index t = ![t.val / 16, 0, 0, 0] ∧ win0_7.index t = ![t.val / 16, t.val % 16, 0]
    ∧ win0_8.index t = ![t.val % 16, t.val / 16] :=
  (by decide +kernel : ∀ t : Fin grid0.N, _)

variable (m : (ℓ : Loc nD τ sig) → Buf (Elt Ideal) ℓ)

theorem read0 {c : Dev nD} (W : (b : Ref sig .tc) → Buf (Elt Ideal) ((c : Thread nD τ).loc b)) (t : Fin cfg0.N) (y) :
    ((cfg0.win 0).blk t).view.read (Elt Ideal) (W (Pipeline.arrRef spec0 0)) y = W main_arg1 (((cfg0.win 0).blk t).view.emb y) := rfl

theorem read1 {c : Dev nD} (W : (b : Ref sig .tc) → Buf (Elt Ideal) ((c : Thread nD τ).loc b)) (t : Fin cfg0.N) (y) :
    ((cfg0.win 1).blk t).view.read (Elt Ideal) (W (Pipeline.arrRef spec0 1)) y = W main_arg0 (((cfg0.win 1).blk t).view.emb y) := rfl

theorem read2 {c : Dev nD} (W : (b : Ref sig .tc) → Buf (Elt Ideal) ((c : Thread nD τ).loc b)) (t : Fin cfg0.N) (y) :
    ((cfg0.win 2).blk t).view.read (Elt Ideal) (W (Pipeline.arrRef spec0 2)) y = W main_arg3 (((cfg0.win 2).blk t).view.emb y) := rfl

theorem read3 {c : Dev nD} (W : (b : Ref sig .tc) → Buf (Elt Ideal) ((c : Thread nD τ).loc b)) (t : Fin cfg0.N) (y) :
    ((cfg0.win 3).blk t).view.read (Elt Ideal) (W (Pipeline.arrRef spec0 3)) y = W main_v26 (((cfg0.win 3).blk t).view.emb y) := rfl

theorem read4 {c : Dev nD} (W : (b : Ref sig .tc) → Buf (Elt Ideal) ((c : Thread nD τ).loc b)) (t : Fin cfg0.N) (y) :
    ((cfg0.win 4).blk t).view.read (Elt Ideal) (W (Pipeline.arrRef spec0 4)) y = W main_v31 (((cfg0.win 4).blk t).view.emb y) := rfl

theorem read5 {c : Dev nD} (W : (b : Ref sig .tc) → Buf (Elt Ideal) ((c : Thread nD τ).loc b)) (t : Fin cfg0.N) (y) :
    ((cfg0.win 5).blk t).view.read (Elt Ideal) (W (Pipeline.arrRef spec0 5)) y = W main_arg2 (((cfg0.win 5).blk t).view.emb y) := rfl

theorem rd0 (c : Dev nD) (t : Fin cfg0.N) (X) (h : V m c main_arg1 = X) (y) : iblk m c 0 t y = X (((cfg0.win 0).blk t).view.emb y) :=
  (read0 (V m c) t y).trans (congrFun h _)

theorem rd1 (c : Dev nD) (t : Fin cfg0.N) (X) (h : V m c main_arg0 = X) (y) : iblk m c 1 t y = X (((cfg0.win 1).blk t).view.emb y) :=
  (read1 (V m c) t y).trans (congrFun h _)

theorem rd2 (c : Dev nD) (t : Fin cfg0.N) (X) (h : V m c main_arg3 = X) (y) : iblk m c 2 t y = X (((cfg0.win 2).blk t).view.emb y) :=
  (read2 (V m c) t y).trans (congrFun h _)

theorem rd3 (c : Dev nD) (t : Fin cfg0.N) (X) (h : V m c main_v26 = X) (y) : iblk m c 3 t y = X (((cfg0.win 3).blk t).view.emb y) :=
  (read3 (V m c) t y).trans (congrFun h _)

theorem rd4 (c : Dev nD) (t : Fin cfg0.N) (X) (h : V m c main_v31 = X) (y) : iblk m c 4 t y = X (((cfg0.win 4).blk t).view.emb y) :=
  (read4 (V m c) t y).trans (congrFun h _)

theorem rd5 (c : Dev nD) (t : Fin cfg0.N) (X) (h : V m c main_arg2 = X) (y) : iblk m c 5 t y = X (((cfg0.win 5).blk t).view.emb y) :=
  (read5 (V m c) t y).trans (congrFun h _)

theorem at0 (t : Fin cfg0.N) (y : S1x1024x192.Idx) (a : Fin 3) :
    ((((cfg0.win 0).blk t).view.emb y) a).val = win0_0.index t a * S1x1024x192.size a + (y a).val :=
  Pipeline.Window.rect_emb_val win0_0 t y a rfl

theorem at1 (t : Fin cfg0.N) (y : S1x16384x192.Idx) (a : Fin 3) :
    ((((cfg0.win 1).blk t).view.emb y) a).val = win0_1.index t a * S1x16384x192.size a + (y a).val :=
  Pipeline.Window.rect_emb_val win0_1 t y a rfl

theorem at2 (t : Fin cfg0.N) (y : S16384x128.Idx) (a : Fin 2) :
    ((((cfg0.win 2).blk t).view.emb y) a).val = win0_2.index t a * S16384x128.size a + (y a).val :=
  Pipeline.Window.rect_emb_val win0_2 t y a rfl

theorem at3w (t : Fin cfg0.N) (y : S1x16x1x1024.Idx) (a : Fin 4) :
    ((((cfg0.win 3).blk t).view.emb y) a).val = win0_3.index t a * S1x16x1x1024.size a + (y a).val :=
  Pipeline.Window.rect_emb_val win0_3 t y a rfl

theorem at4w (t : Fin cfg0.N) (y : S1x16x1x1024.Idx) (a : Fin 4) :
    ((((cfg0.win 4).blk t).view.emb y) a).val = win0_4.index t a * S1x16x1x1024.size a + (y a).val :=
  Pipeline.Window.rect_emb_val win0_4 t y a rfl

theorem at5 (t : Fin cfg0.N) (y : S1024x128.Idx) (a : Fin 2) :
    ((((cfg0.win 5).blk t).view.emb y) a).val = win0_5.index t a * S1024x128.size a + (y a).val :=
  Pipeline.Window.rect_emb_val win0_5 t y a rfl

theorem at6 (t : Fin cfg0.N) (y : S1x16x192x1024.Idx) (a : Fin 4) :
    ((((cfg0.win 6).blk t).view.emb y) a).val = win0_6.index t a * S1x16x192x1024.size a + (y a).val :=
  Pipeline.Window.rect_emb_val win0_6 t y a rfl

theorem at7 (t : Fin cfg0.N) (y : S1x1024x192.Idx) (a : Fin 3) :
    ((((cfg0.win 7).blk t).view.emb y) a).val = win0_7.index t a * S1x1024x192.size a + (y a).val :=
  Pipeline.Window.rect_emb_val win0_7 t y a rfl

theorem at8 (t : Fin cfg0.N) (y : S1024x128.Idx) (a : Fin 2) :
    ((((cfg0.win 8).blk t).view.emb y) a).val = win0_8.index t a * S1024x128.size a + (y a).val :=
  Pipeline.Window.rect_emb_val win0_8 t y a rfl

end Cert.Arrays
-- ==== Proof.Values.lean ====
module

public import proofs.«01_k».proof.Proof.Arrays
public import proofs.«01_k».proof.Proof.HostRead
public import proofs.«01_k».proof.Proof.RefRead
public import proofs.«01_k».proof.Proof.Run
public import Idealize.ShloMosaic.Lib.Pipeline.ValueKit

@[expose] public section

set_option maxRecDepth 16384

noncomputable section

namespace Cert.Arrays

open Cert.KernelIdeal Cert.KernelIdeal.Gen Cert.Attn Cert.Tile Cert.FlashBwd Cert.Point
open Idealize.ShloMosaic Idealize.ShloMosaic.TcCoe Idealize.SL.Sem
open Idealize.ShloMosaic.Pipeline (Dat)

section Values

variable (m : (ℓ : Loc nD τ sig) → Buf (Elt Ideal) ℓ)

variable (c : Dev nD) {H : ℕ → Head} {M : ℕ → ℕ → ℝ}
  (h : RefRead.Holds H (m ((c : Thread nD τ).loc main_arg0)) (m ((c : Thread nD τ).loc main_arg1)) (m ((c : Thread nD τ).loc main_arg2)) (m ((c : Thread nD τ).loc main_arg3)))
  (hM : ∀ i, (HostRead.mx (m ((c : Thread nD τ).loc main_arg0)) (m ((c : Thread nD τ).loc main_arg1)) i : EReal) = ((M (i 0).val (i 1).val : ℝ) : EReal))

/-- A value at equal coordinates. -/
theorem at3 (f : ℕ → ℕ → ℕ → ℝ) {a a' b b' d d' : ℕ} (ha : a = a') (hb : b = b') (hd : d = d') : ((f a b d : ℝ) : EReal) = ((f a' b' d' : ℝ) : EReal) := by
  rw [ha, hb, hd]

theorem at4 (f : ℕ → ℕ → ℕ → ℕ → ℝ) {a a' b b' d d' e e' : ℕ} (ha : a = a') (hb : b = b') (hd : d = d') (he : e = e') :
    ((f a b d e : ℝ) : EReal) = ((f a' b' d' e' : ℝ) : EReal) := by
  rw [ha, hb, hd, he]

/-- Block `n` of size `s`, at offset `y`. -/
theorem blkv {i n s y z : ℕ} (hi : i = n) (hz : n * s + y = z) : i * s + y = z := by rw [hi]; exact hz

include h hM

omit hM in
/-- The key tile at point `t`. -/
theorem reads_k (t : Fin cfg0.N) : Is3 (env m c t).kT (fun a d => (H (t.val / 16)).k (1024 * (t.val % 16) + a) d) := fun y => by
  have y0 : (y 0).val < 1 := (y 0).isLt
  refine (rd0 m c t _ (V_main_arg1 m c) y).trans ((h.k _).trans (at3 (fun a => (H a).k) ?_ ?_ ?_))
  · exact (at0 t y 0).trans (blkv (congrFun (idx t).1 0) (by show t.val / 16 * 1 + (y 0).val = _; omega))
  · exact (at0 t y 1).trans (blkv (congrFun (idx t).1 1) (by show t.val % 16 * 1024 + (y 1).val = _; omega))
  · exact (at0 t y 2).trans (blkv (congrFun (idx t).1 2) (by show 0 * 192 + (y 2).val = _; omega))

omit hM in
/-- The value tile at point `t`. -/
theorem reads_v (t : Fin cfg0.N) : Is2 (env m c t).vT (fun a e => (H (t.val / 16)).v (1024 * (t.val % 16) + a) e) := fun y => by
  have y1 : (y 1).val < 128 := (y 1).isLt
  have e0 := (at5 t y 0).trans (blkv (z := 1024 * (t.val % 16) + (y 0).val) (congrFun (idx t).2.2.2.2.2.1 0) (by show t.val % 16 * 1024 + (y 0).val = _; omega))
  have e1 := (at5 t y 1).trans (blkv (z := t.val / 16 * 128 + (y 1).val) (congrFun (idx t).2.2.2.2.2.1 1) rfl)
  refine (rd5 m c t _ (V_main_arg2 m c) y).trans ((h.v _).trans (at3 (fun a => (H a).v) ?_ e0 ?_))
  · exact (congrArg (· / 128) e1).trans (by show (t.val / 16 * 128 + (y 1).val) / 128 = _; omega)
  · exact (congrArg (· % 128) e1).trans (by show (t.val / 16 * 128 + (y 1).val) % 128 = _; omega)

omit hM in
/-- The queries at point `t`. -/
theorem reads_q (t : Fin cfg0.N) : Is3 (env m c t).Q (H (t.val / 16)).q := fun y => by
  have y0 : (y 0).val < 1 := (y 0).isLt
  refine (rd1 m c t _ (V_main_arg0 m c) y).trans ((h.q _).trans (at3 (fun a => (H a).q) ?_ ?_ ?_))
  · exact (at1 t y 0).trans (blkv (congrFun (idx t).2.1 0) (by show t.val / 16 * 1 + (y 0).val = _; omega))
  · exact (at1 t y 1).trans (blkv (congrFun (idx t).2.1 1) (by show 0 * 16384 + (y 1).val = _; omega))
  · exact (at1 t y 2).trans (blkv (congrFun (idx t).2.1 2) (by show 0 * 192 + (y 2).val = _; omega))

omit hM in
/-- The incoming gradient at point `t`. -/
theorem reads_g (t : Fin cfg0.N) : Is2 (env m c t).D (H (t.val / 16)).g := fun y => by
  have y1 : (y 1).val < 128 := (y 1).isLt
  have e0 := (at2 t y 0).trans (blkv (z := (y 0).val) (congrFun (idx t).2.2.1 0) (by show 0 * 16384 + (y 0).val = _; omega))
  have e1 := (at2 t y 1).trans (blkv (z := t.val / 16 * 128 + (y 1).val) (congrFun (idx t).2.2.1 1) rfl)
  refine (rd2 m c t _ (V_main_arg3 m c) y).trans ((h.g _).trans (at3 (fun a => (H a).g) ?_ e0 ?_))
  · exact (congrArg (· / 128) e1).trans (by show (t.val / 16 * 128 + (y 1).val) / 128 = _; omega)
  · exact (congrArg (· % 128) e1).trans (by show (t.val / 16 * 128 + (y 1).val) % 128 = _; omega)

/-- The log-sum-exps at point `t`. -/
theorem reads_l (t : Fin cfg0.N) : ∀ i, ((env m c t).L i : EReal) = ((lse (H (t.val / 16)) (M (t.val / 16)) (1024 * (i 1).val + (i 3).val) : ℝ) : EReal) := fun y => by
  have y0 : (y 0).val < 1 := (y 0).isLt
  have e0 := (at3w t y 0).trans (blkv (z := t.val / 16) (congrFun (idx t).2.2.2.1 0) (by show t.val / 16 * 1 + (y 0).val = _; omega))
  have e1 := (at3w t y 1).trans (blkv (z := (y 1).val) (congrFun (idx t).2.2.2.1 1) (by show 0 * 16 + (y 1).val = _; omega))
  have e3 := (at3w t y 3).trans (blkv (z := (y 3).val) (congrFun (idx t).2.2.2.1 3) (by show 0 * 1024 + (y 3).val = _; omega))
  exact (rd3 m c t _ (HostRead.V_lse m c) y).trans ((HostRead.lseOf_real h hM _).trans
    (at3 (fun a i r => lse (H a) (M a) (1024 * i + r)) e0 e1 e3))

/-- The row sums at point `t`. -/
theorem reads_e (t : Fin cfg0.N) : ∀ i, ((env m c t).Dl i : EReal) = (((H (t.val / 16)).dl 16384 (1024 * (i 1).val + (i 3).val) : ℝ) : EReal) := fun y => by
  have y0 : (y 0).val < 1 := (y 0).isLt
  have e0 := (at4w t y 0).trans (blkv (z := t.val / 16) (congrFun (idx t).2.2.2.2.1 0) (by show t.val / 16 * 1 + (y 0).val = _; omega))
  have e1 := (at4w t y 1).trans (blkv (z := (y 1).val) (congrFun (idx t).2.2.2.2.1 1) (by show 0 * 16 + (y 1).val = _; omega))
  have e3 := (at4w t y 3).trans (blkv (z := (y 3).val) (congrFun (idx t).2.2.2.2.1 3) (by show 0 * 1024 + (y 3).val = _; omega))
  exact (rd4 m c t _ (HostRead.V_delta m c) y).trans ((HostRead.deltaOf_real h hM _).trans
    (at3 (fun a i r => (H a).dl 16384 (1024 * i + r)) e0 e1 e3))

/-- What point `t` reads. -/
theorem reads (t : Fin cfg0.N) : Reads (env m c t) (H (t.val / 16)) (M (t.val / 16)) (t.val % 16) :=
  ⟨reads_k m c h t, reads_v m c h t, reads_q m c h t, reads_g m c h t, reads_l m c h hM t, reads_e m c h hM t⟩

/-- What the accumulators hold after point `n`: the head's shares of the key tiles so far. -/
theorem held (n : ℕ) (hn : n < cfg0.N) : Held (accAt m c ⟨n, hn⟩)
    (fun r d b => ∑ J ∈ Finset.range (n % 16 + 1), shQ (H (n / 16)) J r d b)
    ((H (n / 16)).dk 16384 <| 1024 * (n % 16) + ·) ((H (n / 16)).dv 16384 <| 1024 * (n % 16) + ·) := by
  induction n with
  | zero =>
    have hj : tileOf ⟨0, hn⟩ = 0 % 16 := tileOf_eq ⟨0, hn⟩
    have hp := point_held (reads m c h hM ⟨0, hn⟩) (Nat.mod_lt _ (by decide)) (D := dqPrev m c ⟨0, hn⟩)
      (B := fun r d b => ∑ J ∈ Finset.range (0 % 16), shQ (H (0 / 16)) J r d b) (fun hne => absurd rfl hne) (fun _ => by
        funext r d b; exact Finset.sum_range_zero _)
    unfold accAt
    rw [hj]
    refine ⟨fun i => (hp.dq i).trans (congrArg _ ?_), hp.dk, hp.dv⟩
    exact (Finset.sum_range_succ _ _).symm
  | succ n ih =>
    have hj : tileOf ⟨n + 1, hn⟩ = (n + 1) % 16 := tileOf_eq ⟨n + 1, hn⟩
    have hp := point_held (reads m c h hM ⟨n + 1, hn⟩) (Nat.mod_lt _ (by decide)) (D := dqPrev m c ⟨n + 1, hn⟩)
      (B := fun r d b => ∑ J ∈ Finset.range ((n + 1) % 16), shQ (H ((n + 1) / 16)) J r d b) (fun hne i => by
        have hne' : (n + 1) % 16 ≠ 0 := hne
        have e1 : (n + 1) / 16 = n / 16 := by omega
        have e2 : (n + 1) % 16 = n % 16 + 1 := by omega
        unfold dqPrev
        rw [dif_neg (Nat.succ_ne_zero n)]
        refine (congrFun (dqAt_eq m c n (Nat.lt_of_succ_lt hn)) i).trans (((ih (Nat.lt_of_succ_lt hn)).dq i).trans ?_)
        rw [e1, e2]) (fun h0 => by
        have h0' : (n + 1) % 16 = 0 := h0
        rw [h0']
        funext r d b; exact Finset.sum_range_zero _)
    unfold accAt
    rw [hj]
    refine ⟨fun i => (hp.dq i).trans (congrArg _ ?_), hp.dk, hp.dv⟩
    exact (Finset.sum_range_succ _ _).symm

/-- The array of the gradient of the queries. -/
theorem final6 (G : (⟨S8x16x192x1024, .f32⟩ : BufTy).Contents (Elt Ideal))
    (hG : ∀ i, (G i : EReal) = (((H (i 0).val).dq 16384 (1024 * (i 1).val + (i 3).val) (i 2).val : ℝ) : EReal)) :
    (dats m 0 c).arrAt 6 (cfgs 0).N = G := by
  refine (dats m 0 c).arrAt_eq_of_covers 6 G (by decide +kernel) fun t hf y => ?_
  have hy : (dats m 0 c).after 6 t y = G (((cfg0.win 6).blk t).view.emb y) := by
    have ht : t.val % 16 = 15 := (flush0_6 t).1 hf
    have y0 : (y 0).val < 1 := (y 0).isLt
    rw [after0_6]
    refine ((held m c h hM t.val t.isLt).dq y).trans (Eq.trans ?_ (hG _).symm)
    rw [ht, dq_shares]
    refine at4 (fun a n d b => (H a).dq 16384 (1024 * n + b) d) (a := t.val / 16) (b := (y 1).val) (d := (y 2).val) (e := (y 3).val) ?_ ?_ ?_ ?_
    · exact ((at6 t y 0).trans (blkv (congrFun (idx t).2.2.2.2.2.2.1 0) (by show t.val / 16 * 1 + (y 0).val = _; omega))).symm
    · exact ((at6 t y 1).trans (blkv (congrFun (idx t).2.2.2.2.2.2.1 1) (by show 0 * 16 + (y 1).val = _; omega))).symm
    · exact ((at6 t y 2).trans (blkv (congrFun (idx t).2.2.2.2.2.2.1 2) (by show 0 * 192 + (y 2).val = _; omega))).symm
    · exact ((at6 t y 3).trans (blkv (congrFun (idx t).2.2.2.2.2.2.1 3) (by show 0 * 1024 + (y 3).val = _; omega))).symm
  exact hy

/-- The array of the gradient of the keys. -/
theorem final7 (G : (⟨S8x16384x192, .f32⟩ : BufTy).Contents (Elt Ideal))
    (hG : ∀ i, (G i : EReal) = (((H (i 0).val).dk 16384 (i 1).val (i 2).val : ℝ) : EReal)) :
    (dats m 0 c).arrAt 7 (cfgs 0).N = G := by
  refine (dats m 0 c).arrAt_eq_of_covers 7 G (by decide +kernel) fun t hf y => ?_
  have hy : (dats m 0 c).after 7 t y = G (((cfg0.win 7).blk t).view.emb y) := by
    have y0 : (y 0).val < 1 := (y 0).isLt
    rw [after0_7]
    refine (keyS _ _ (held m c h hM t.val t.isLt).dk y).trans (Eq.trans ?_ (hG _).symm)
    refine at3 (fun a i d => (H a).dk 16384 i d) (a := t.val / 16) (b := 1024 * (t.val % 16) + (y 1).val) (d := (y 2).val) ?_ ?_ ?_
    · exact ((at7 t y 0).trans (blkv (congrFun (idx t).2.2.2.2.2.2.2.1 0) (by show t.val / 16 * 1 + (y 0).val = _; omega))).symm
    · exact ((at7 t y 1).trans (blkv (congrFun (idx t).2.2.2.2.2.2.2.1 1) (by show t.val % 16 * 1024 + (y 1).val = _; omega))).symm
    · exact ((at7 t y 2).trans (blkv (congrFun (idx t).2.2.2.2.2.2.2.1 2) (by show 0 * 192 + (y 2).val = _; omega))).symm
  exact hy

/-- The array of the gradient of the values. -/
theorem final8 (G : (⟨S16384x1024, .f32⟩ : BufTy).Contents (Elt Ideal))
    (hG : ∀ i, (G i : EReal) = (((H ((i 1).val / 128)).dv 16384 (i 0).val ((i 1).val % 128) : ℝ) : EReal)) :
    (dats m 0 c).arrAt 8 (cfgs 0).N = G := by
  refine (dats m 0 c).arrAt_eq_of_covers 8 G (by decide +kernel) fun t hf y => ?_
  have hy : (dats m 0 c).after 8 t y = G (((cfg0.win 8).blk t).view.emb y) := by
    have y1 : (y 1).val < 128 := (y 1).isLt
    rw [after0_8]
    refine ((held m c h hM t.val t.isLt).dv y).trans (Eq.trans ?_ (hG _).symm)
    have e0 := (at8 t y 0).trans (blkv (z := 1024 * (t.val % 16) + (y 0).val) (congrFun (idx t).2.2.2.2.2.2.2.2 0) (by show t.val % 16 * 1024 + (y 0).val = _; omega))
    have e1 := (at8 t y 1).trans (blkv (z := t.val / 16 * 128 + (y 1).val) (congrFun (idx t).2.2.2.2.2.2.2.2 1) rfl)
    refine at3 (fun a i e => (H a).dv 16384 i e) (a := t.val / 16) (b := 1024 * (t.val % 16) + (y 0).val) (d := (y 1).val) ?_ e0.symm ?_
    · exact ((congrArg (· / 128) e1).trans (by show (t.val / 16 * 128 + (y 1).val) / 128 = _; omega)).symm
    · exact ((congrArg (· % 128) e1).trans (by show (t.val / 16 * 128 + (y 1).val) % 128 = _; omega)).symm
  exact hy

end Values

end Cert.Arrays
-- ==== Proof.Finite.lean ====
/-
  Finite arguments hold real numbers, head by head.
-/
module

public import proofs.«01_k».proof.Proof.RefRead
public import proofs.«01_k».proof.Proof.Gen.Pre_finite

@[expose] public section

set_option maxRecDepth 16384

noncomputable section

namespace Cert.Finite

open Cert.Attn Cert.RefRead
open Idealize.ShloMosaic

theorem inf16 : Ideal.ofBits .bf16 0x7F80#16 = ⊤ := by simp [Ideal.ofBits, Ideal.ieee]
theorem ninf16 : Ideal.ofBits .bf16 0xFF80#16 = ⊥ := by simp [Ideal.ofBits, Ideal.ieee]

theorem andi_one (a b : BitVec 1) (h : a &&& b = 1#1) : a = 1#1 ∧ b = 1#1 := by
  revert a b; decide

/-- A number between the infinities is real. -/
theorem real_of (x : EReal) (h : IntOp.andi (FloatOps.cmpf (F := Ideal) (φ := .bf16) .olt x (Ideal.ofBits .bf16 0x7F80#16))
    (FloatOps.cmpf (F := Ideal) (φ := .bf16) .ogt x (Ideal.ofBits .bf16 0xFF80#16)) = 1#1) : x = ((x.toReal : ℝ) : EReal) := by
  obtain ⟨h1, h2⟩ := andi_one _ _ h
  rw [inf16] at h1
  rw [ninf16] at h2
  have e1 : x < ⊤ := by
    by_contra hn
    exact absurd (h1.symm.trans (show FloatOps.cmpf (F := Ideal) (φ := .bf16) .olt x ⊤ = 0#1 from by
      show BitVec.ofBool (decide (x < ⊤)) = 0#1
      rw [decide_eq_false hn]; rfl)) (by decide)
  have e2 : ⊥ < x := by
    by_contra hn
    exact absurd (h2.symm.trans (show FloatOps.cmpf (F := Ideal) (φ := .bf16) .ogt x ⊥ = 0#1 from by
      show BitVec.ofBool (decide (⊥ < x)) = 0#1
      rw [decide_eq_false hn]; rfl)) (by decide)
  exact (EReal.coe_toReal e1.ne e2.ne').symm

/-- The arguments of a finite call hold heads of real numbers. -/
theorem holds (x0 x1 : Rows) (x2 x3 : Cols)
    (h0 : (Cert.Pre_finite.fn (F := Ideal) x0 x1 x2 x3).1 = fun _ => 1#1) (h1 : (Cert.Pre_finite.fn (F := Ideal) x0 x1 x2 x3).2.1 = fun _ => 1#1)
    (h2 : (Cert.Pre_finite.fn (F := Ideal) x0 x1 x2 x3).2.2.1 = fun _ => 1#1) (h3 : (Cert.Pre_finite.fn (F := Ideal) x0 x1 x2 x3).2.2.2 = fun _ => 1#1) :
    ∃ H : ℕ → Head, Holds H x0 x1 x2 x3 := by
  obtain ⟨q, hq⟩ := byNat3 (fun i => (x0 i : EReal).toReal)
  obtain ⟨k, hk⟩ := byNat3 (fun i => (x1 i : EReal).toReal)
  obtain ⟨v, hv⟩ := byNat2 (fun i => (x2 i : EReal).toReal)
  obtain ⟨g, hg⟩ := byNat2 (fun i => (x3 i : EReal).toReal)
  have key : ∀ n : ℕ, 128 * (n / 128) + n % 128 = n := fun n => Nat.div_add_mod n 128
  refine ⟨fun a => ⟨q a, k a, fun i e => v i (128 * a + e), fun i e => g i (128 * a + e)⟩, fun i => ?_, fun i => ?_, fun i => ?_, fun i => ?_⟩
  · exact (real_of (x0 i) (congrFun h0 i)).trans (congrArg _ (hq i))
  · exact (real_of (x1 i) (congrFun h1 i)).trans (congrArg _ (hk i))
  · exact (real_of (x2 i) (congrFun h2 i)).trans ((congrArg _ (hv i)).trans (by
      show ((v (i 0).val (i 1).val : ℝ) : EReal) = ((v (i 0).val (128 * ((i 1).val / 128) + (i 1).val % 128) : ℝ) : EReal)
      rw [key]))
  · exact (real_of (x3 i) (congrFun h3 i)).trans ((congrArg _ (hg i)).trans (by
      show ((g (i 0).val (i 1).val : ℝ) : EReal) = ((g (i 0).val (128 * ((i 1).val / 128) + (i 1).val % 128) : ℝ) : EReal)
      rw [key]))

end Cert.Finite
-- ==== Proof.Algebraic.lean ====
/-
  On finite arguments the kernel's three results are the reference's.
-/
module

public import proofs.«01_k».proof.Defs
public import proofs.«01_k».proof.Proof.Values
public import proofs.«01_k».proof.Proof.Finite
public import proofs.«01_k».proof.Proof.Gen.ReferenceIdeal.Run
public import Idealize.ShloMosaic.Lib.Claim

@[expose] public section

set_option maxRecDepth 16384

noncomputable section

namespace Cert.Proof

open Idealize.ShloMosaic Idealize.ShloMosaic.TcCoe Idealize.SL.Sem
open Cert.KernelIdeal Cert.KernelIdeal.Gen Cert.FlashBwd

/-- The kernel's result arrays, at the reference's terms. -/
theorem arrays (m : (ℓ : Loc nD τ sig) → Buf (Elt Ideal) ℓ) (hpre : Cert.Pre_KernelIdeal_finite m) (c : Dev nD) :
    (dats m 0 c).arrAt 6 (cfgs 0).N = Cert.ReferenceIdeal.Read.val_main_v64 (F := Ideal) (m ((c : Thread nD τ).loc main_arg0)) (m ((c : Thread nD τ).loc main_arg1)) (m ((c : Thread nD τ).loc main_arg2)) (m ((c : Thread nD τ).loc main_arg3))
    ∧ (dats m 0 c).arrAt 7 (cfgs 0).N = Cert.ReferenceIdeal.Read.val_main_v61 (F := Ideal) (m ((c : Thread nD τ).loc main_arg0)) (m ((c : Thread nD τ).loc main_arg1)) (m ((c : Thread nD τ).loc main_arg2)) (m ((c : Thread nD τ).loc main_arg3))
    ∧ (dats m 0 c).arrAt 8 (cfgs 0).N = Cert.ReferenceIdeal.Read.val_main_v66 (F := Ideal) (m ((c : Thread nD τ).loc main_arg0)) (m ((c : Thread nD τ).loc main_arg1)) (m ((c : Thread nD τ).loc main_arg3)) := by
  obtain ⟨h0, h1, h2, h3⟩ := hpre c
  obtain ⟨H, h⟩ := Cert.Finite.holds _ _ _ _ h0 h1 h2 h3
  obtain ⟨M, hM⟩ := Cert.HostRead.mx_real h
  obtain ⟨M', hM'⟩ := Cert.RefRead.v14 h
  exact ⟨Cert.Arrays.final6 m c h hM _ (Cert.RefRead.v64 h hM'), Cert.Arrays.final7 m c h hM _ (Cert.RefRead.v61 h hM'),
    Cert.Arrays.final8 m c h hM _ (Cert.RefRead.v66 h hM')⟩

/-- The reference's results, at the same terms of the kernel's arguments. -/
theorem terms (m : (ℓ : Loc nD τ sig) → Buf (Elt Ideal) ℓ) (hpre : Cert.Pre_KernelIdeal_finite m) (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Cert.ReferenceIdeal.Value.res_main_v64 m' c = (dats m 0 c).arrAt 6 (cfgs 0).N
    ∧ Cert.ReferenceIdeal.Value.res_main_v61 m' c = (dats m 0 c).arrAt 7 (cfgs 0).N
    ∧ Cert.ReferenceIdeal.Value.res_main_v66 m' c = (dats m 0 c).arrAt 8 (cfgs 0).N := by
  obtain ⟨a6, a7, a8⟩ := arrays m hpre c
  refine ⟨(Cert.ReferenceIdeal.Read.val_main_v64_eq m' c).trans (Eq.trans ?_ a6.symm), (Cert.ReferenceIdeal.Read.val_main_v61_eq m' c).trans (Eq.trans ?_ a7.symm),
    (Cert.ReferenceIdeal.Read.val_main_v66_eq m' c).trans (Eq.trans ?_ a8.symm)⟩
  · rw [h0, h1, h2, h3]
  · rw [h0, h1, h2, h3]
  · rw [h0, h1, h3]

/-- The kernel computes the reference's gradients of the queries, of the keys and of the values. -/
theorem algebraic : Cert.algebraic_KernelIdeal_ReferenceIdeal_pre_finite := by
  pair_intro
  · run_from Cert.FlashBwd.run_main m g
  · refine (θ_run Cert.ReferenceIdeal.defs _ _).mono (fun r h c => ?_) (Cert.ReferenceIdeal.Value.run (F := Ideal) m' g')
    have ht := terms m hpre c m' (hagree c).1 (hagree c).2.1 (hagree c).2.2.1 (hagree c).2.2.2
    have hc := h c
    exact ⟨hc.1.trans ht.1, hc.2.1.trans ht.2.1, hc.2.2.1.trans ht.2.2, hc.2.2.2⟩

end Cert.Proof
-- ==== Proof.FfnFwdFrames.lean ====
/-
  The feed-forward network's forward pass: the program in machine arithmetic and its idealized twin are the same text, so what is proved of one holds of
  the other, and both end with their arguments unchanged and their counters at zero.
-/
module

public import proofs.«01_k».proof.Defs
public import proofs.«01_k».proof.Proof.Gen.FfnFwd
public import proofs.«01_k».proof.Proof.Gen.FfnFwdIdeal.Frame
public import proofs.«01_k».proof.Proof.Gen.FfnFwdRefIdeal
public import proofs.«01_k».proof.Proof.Gen.FfnFwdRefIdeal.Run
public import Idealize.ShloMosaic.Lib.Claim
public import Idealize.ShloMosaic.Lib.Quiescent

@[expose] public section

set_option maxRecDepth 16384

noncomputable section

namespace Cert.FfnFwdFrames

open Idealize.ShloMosaic Idealize.SL.Sem

/-- The two kernel bodies. -/
theorem body_eq : @Cert.FfnFwd.cc0_ffn_fwd Bits _ _ = @Cert.FfnFwdIdeal.cc0_ffn_fwd Bits _ _ := rfl

/-- The two tables of kernel bodies. -/
theorem bodies_eq : @Cert.FfnFwd.defs₀ Bits _ _ = @Cert.FfnFwdIdeal.defs₀ Bits _ _ := by
  refine congrArg Defs.onTc ?_
  funext l x
  match l, x with
  | 0, (t, s) => rfl
  | ⟨n + 1, h⟩, _ => omega

/-- The two tables with the pipelines' own bodies. -/
theorem defs_eq : @Cert.FfnFwd.defs Bits _ _ = @Cert.FfnFwdIdeal.defs Bits _ _ :=
  congrArg (Pipeline.defs Cert.FfnFwdIdeal.pcfgs) bodies_eq

/-- The two programs around the call. -/
theorem main_eq : (Cert.FfnFwd.main (F := Bits)) = Cert.FfnFwdIdeal.main (F := Bits) := rfl

/-- The kernel, in machine arithmetic. -/
theorem quiet_kernel : Cert.quiescent_FfnFwd := fun m ρ _ => by
  rw [defs_eq, main_eq]
  exact Cert.FfnFwdIdeal.Gen.frame (F := Bits) m ρ

/-- The kernel, in exact arithmetic. -/
theorem quiet_ideal : Cert.quiescent_FfnFwdIdeal := fun m ρ _ => Cert.FfnFwdIdeal.Gen.frame (F := Ideal) m ρ

/-- The reference: it declares no counter, so every one is zero. -/
theorem quiet_reference : Cert.quiescent_FfnFwdRefIdeal := fun m ρ _ =>
  (θ_run Cert.FfnFwdRefIdeal.defs _ _).mono
    (fun r h => ⟨fun c => (h c).2.2.2.2, sem_eq_zero_of_no_sems (by decide) r.2⟩)
    (Cert.FfnFwdRefIdeal.Value.run (F := Ideal) m ρ)

end Cert.FfnFwdFrames
-- ==== Proof.FfnMath.lean ====
/-
  Matrices of extended reals by their coordinates, and the sums that the products of the feed-forward network are.
-/
module

public import Mathlib.Data.EReal.Operations
public import Mathlib.Algebra.BigOperators.Fin
public import Mathlib.Algebra.BigOperators.Intervals
public import Idealize.ShloMosaic.PureOps.Ideal.Laws
public import Idealize.ShloMosaic.Lib.IdealHost
public import Idealize.ShloMosaic.Lib.ValueIdx
public import Idealize.ShloMosaic.Lib.Pipeline.Value

@[expose] public section

set_option maxRecDepth 16384

noncomputable section

namespace Cert.Ffn

open Idealize.ShloMosaic Finset

/-- A matrix by natural numbers, zero outside. -/
def nat2 {a b : ℕ} (x : (⟨2, ![a, b]⟩ : Shape).Idx → EReal) (i j : ℕ) : EReal :=
  if h : i < a ∧ j < b then x (fun d => match d with | ⟨0, _⟩ => ⟨i, h.1⟩ | ⟨1, _⟩ => ⟨j, h.2⟩) else 0

/-- A stack of matrices by natural numbers, zero outside. -/
def nat3 {a b c : ℕ} (x : (⟨3, ![a, b, c]⟩ : Shape).Idx → EReal) (i j k : ℕ) : EReal :=
  if h : i < a ∧ j < b ∧ k < c then x (fun d => match d with | ⟨0, _⟩ => ⟨i, h.1⟩ | ⟨1, _⟩ => ⟨j, h.2.1⟩ | ⟨2, _⟩ => ⟨k, h.2.2⟩) else 0

/-- A stack of stacks of matrices by natural numbers, zero outside. -/
def nat4 {a b c d : ℕ} (x : (⟨4, ![a, b, c, d]⟩ : Shape).Idx → EReal) (i j k l : ℕ) : EReal :=
  if h : i < a ∧ j < b ∧ k < c ∧ l < d then
    x (fun e => match e with | ⟨0, _⟩ => ⟨i, h.1⟩ | ⟨1, _⟩ => ⟨j, h.2.1⟩ | ⟨2, _⟩ => ⟨k, h.2.2.1⟩ | ⟨3, _⟩ => ⟨l, h.2.2.2⟩) else 0

/-- A matrix's entry, by the values of its coordinates. -/
theorem nat2_val {a b : ℕ} (x : (⟨2, ![a, b]⟩ : Shape).Idx → EReal) (i) : x i = nat2 x (i 0).val (i 1).val := by
  rw [nat2, dif_pos ⟨(i 0).isLt, (i 1).isLt⟩]
  exact congrArg x (funext fun d => match d with | ⟨0, _⟩ => rfl | ⟨1, _⟩ => rfl)

/-- A stack's entry, by the values of its coordinates. -/
theorem nat3_val {a b c : ℕ} (x : (⟨3, ![a, b, c]⟩ : Shape).Idx → EReal) (i) : x i = nat3 x (i 0).val (i 1).val (i 2).val := by
  rw [nat3, dif_pos ⟨(i 0).isLt, (i 1).isLt, (i 2).isLt⟩]
  exact congrArg x (funext fun d => match d with | ⟨0, _⟩ => rfl | ⟨1, _⟩ => rfl | ⟨2, _⟩ => rfl)

/-- A stack of stacks' entry, by the values of its coordinates. -/
theorem nat4_val {a b c d : ℕ} (x : (⟨4, ![a, b, c, d]⟩ : Shape).Idx → EReal) (i) :
    x i = nat4 x (i 0).val (i 1).val (i 2).val (i 3).val := by
  rw [nat4, dif_pos ⟨(i 0).isLt, (i 1).isLt, (i 2).isLt, (i 3).isLt⟩]
  exact congrArg x (funext fun d => match d with | ⟨0, _⟩ => rfl | ⟨1, _⟩ => rfl | ⟨2, _⟩ => rfl | ⟨3, _⟩ => rfl)

/-- A matrix with the entries `f`. -/
abbrev At2 {a b : ℕ} (x : (⟨2, ![a, b]⟩ : Shape).Idx → EReal) (f : ℕ → ℕ → EReal) : Prop := ∀ i, x i = f (i 0).val (i 1).val
/-- A stack of one matrix with the entries `f`. -/
abbrev At3 {a b : ℕ} (x : (⟨3, ![1, a, b]⟩ : Shape).Idx → EReal) (f : ℕ → ℕ → EReal) : Prop := ∀ i, x i = f (i 1).val (i 2).val

/-- A stack of one matrix, as a matrix. -/
theorem at_cast32 {a b : ℕ} {x : (⟨3, ![1, a, b]⟩ : Shape).Idx → EReal} {f : ℕ → ℕ → EReal} (hx : At3 x f)
    (h : (⟨3, ![1, a, b]⟩ : Shape).ShapeCasts ⟨2, ![a, b]⟩) : At2 (shapeCast ⟨2, ![a, b]⟩ x h) f := fun i =>
  (shapeCast_apply x h i (fun d => match d with | ⟨0, _⟩ => ⟨0, Nat.one_pos⟩ | ⟨1, _⟩ => ⟨(i 0).val, (i 0).isLt⟩ | ⟨2, _⟩ => ⟨(i 1).val, (i 1).isLt⟩) (by
    rewrite [Shape.rowMajor_val_three, Shape.rowMajor_val_two]
    show (0 * a + (i 0).val) * b + (i 1).val = (i 0).val * b + (i 1).val
    rw [Nat.zero_mul, Nat.zero_add])).trans (hx _)

/-- A matrix, as a stack of one matrix. -/
theorem at_cast23 {a b : ℕ} {x : (⟨2, ![a, b]⟩ : Shape).Idx → EReal} {f : ℕ → ℕ → EReal} (hx : At2 x f)
    (h : (⟨2, ![a, b]⟩ : Shape).ShapeCasts ⟨3, ![1, a, b]⟩) : At3 (shapeCast ⟨3, ![1, a, b]⟩ x h) f := fun i =>
  (shapeCast_apply x h i (fun d => match d with | ⟨0, _⟩ => ⟨(i 1).val, (i 1).isLt⟩ | ⟨1, _⟩ => ⟨(i 2).val, (i 2).isLt⟩) (by
    rewrite [Shape.rowMajor_val_three, Shape.rowMajor_val_two]
    have h0 : (i 0).val < 1 := (i 0).isLt
    show (i 1).val * b + (i 2).val = ((i 0).val * a + (i 1).val) * b + (i 2).val
    rw [show (i 0).val = 0 by omega, Nat.zero_mul, Nat.zero_add])).trans (hx _)

/-- A stack of one-matrix stacks with the entries `f`. -/
abbrev At4 {n a b : ℕ} (x : (⟨4, ![n, 1, a, b]⟩ : Shape).Idx → EReal) (f : ℕ → ℕ → ℕ → EReal) : Prop := ∀ i, x i = f (i 0).val (i 2).val (i 3).val
/-- A stack of matrices with the entries `f`. -/
abbrev AtS {n a b : ℕ} (x : (⟨3, ![n, a, b]⟩ : Shape).Idx → EReal) (f : ℕ → ℕ → ℕ → EReal) : Prop := ∀ i, x i = f (i 0).val (i 1).val (i 2).val

/-- A stack of one stack of one matrix, as a matrix. -/
theorem at_cast42 {a b : ℕ} {x : (⟨4, ![1, 1, a, b]⟩ : Shape).Idx → EReal} {f : ℕ → ℕ → ℕ → EReal} (hx : At4 x f)
    (h : (⟨4, ![1, 1, a, b]⟩ : Shape).ShapeCasts ⟨2, ![a, b]⟩) : At2 (shapeCast ⟨2, ![a, b]⟩ x h) (f 0) := fun i =>
  (shapeCast_apply x h i (fun d => match d with
    | ⟨0, _⟩ => ⟨0, Nat.one_pos⟩ | ⟨1, _⟩ => ⟨0, Nat.one_pos⟩ | ⟨2, _⟩ => ⟨(i 0).val, (i 0).isLt⟩ | ⟨3, _⟩ => ⟨(i 1).val, (i 1).isLt⟩) (by
    rewrite [Shape.rowMajor_val_four, Shape.rowMajor_val_two]
    show ((0 * 1 + 0) * a + (i 0).val) * b + (i 1).val = (i 0).val * b + (i 1).val
    rw [Nat.zero_mul, Nat.zero_add])).trans (hx _)

/-- The sum of a matrix's row. -/
theorem row_sum {a b : ℕ} {φ : FTy} (x : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (f : ℕ → ℕ → EReal) (hx : At2 x f) (j) :
    multiReduction .add [1] ⟨1, ![a]⟩ x acc h hφ hacc j = ∑ k ∈ range b, f (j 0).val k :=
  (Ideal.multiReduction_add_single x acc h hφ hacc j).trans (by
    rw [Finset.sum_range]
    exact Finset.sum_congr rfl fun k _ => (hx _).trans rfl)

/-- A product of matrices at an entry, from the two operands' entries along the contracted dimension. -/
theorem dot_at {sl sr so : Shape} {φ₁ φ₂ : FTy} (d : DotDims sl sr so) (n : ℕ) (h1) (h2) (x : FVec Ideal sl φ₁) (y : FVec Ideal sr φ₂) (i : so.Idx)
    (p q : ℕ → EReal) (hp : ∀ k : Fin n, x (d.lhsIdx i ((ValueIdx.contrEquiv1 d n h1 h2).symm k)) = p k.val)
    (hq : ∀ k : Fin n, y (d.rhsIdx i ((ValueIdx.contrEquiv1 d n h1 h2).symm k)) = q k.val) :
    matmul d none x y (constant (F := Ideal) so .f32 0x00000000#32) i = ∑ j ∈ range n, p j * q j := by
  refine (Ideal.matmul_constant_zero_apply d none x y i).trans ?_
  rw [← Equiv.sum_comp (ValueIdx.contrEquiv1 d n h1 h2).symm, Finset.sum_range]
  exact Finset.sum_congr rfl fun k _ => by rw [hp, hq]

/-- A sum over `m * a` terms, in `a` runs of `m`. -/
theorem runs (f : ℕ → EReal) (m a : ℕ) : ∑ i ∈ range (m * a), f i = ∑ n ∈ range a, ∑ b ∈ range m, f (m * n + b) := by
  induction a with
  | zero => simp
  | succ a ih => rw [Nat.mul_succ, sum_range_add, ih, sum_range_succ]

/-- The constant one half. -/
theorem ofBits_half : Ideal.ofBits .f32 0x3F000000#32 = ((1 / 2 : ℝ) : EReal) := by
  simp [Ideal.ofBits, Ideal.ieee]
  rw [← EReal.coe_mul]
  norm_num

/-- A positive number times a sum. -/
theorem mul_sum_pos (r : ℝ) (hr : 0 ≤ r) (n : ℕ) (f : ℕ → EReal) : (r : EReal) * ∑ i ∈ range n, f i = ∑ i ∈ range n, (r : EReal) * f i := by
  induction n with
  | zero => simp
  | succ n ih =>
    rw [sum_range_succ, sum_range_succ, ← ih]
    exact EReal.left_distrib_of_nonneg_of_ne_top (by exact_mod_cast hr) (EReal.coe_ne_top r) _ _

end Cert.Ffn
-- ==== Proof.FfnSpec.lean ====
/-
  The feed-forward half in exact arithmetic, over matrices by their coordinates: the RMS norm, the gate and the up
  products of a chunk of the hidden units, the activation, and the output.
-/
module

public import proofs.«01_k».proof.Proof.FfnMath

@[expose] public section

noncomputable section

namespace Cert.Ffn

open Idealize.ShloMosaic Finset

/-- The reciprocal of a row's root mean square. -/
def rms (X : ℕ → ℕ → EReal) (t : ℕ) : EReal :=
  Ideal.rsqrt (Ideal.div (∑ k ∈ range 1024, X t k * X t k) (Ideal.ofBits .f32 0x44800000#32) + Ideal.ofBits .f32 0x358637BD#32)

/-- The normed input. -/
def hid (X G : ℕ → ℕ → EReal) (t d : ℕ) : EReal := X t d * rms X t * G 0 d

/-- A product of the normed input with a weight matrix whose rows are hidden units. -/
def pre (X G W : ℕ → ℕ → EReal) (t f : ℕ) : EReal := ∑ d ∈ range 1024, hid X G t d * W f d

/-- The activation. -/
def act (X G W U : ℕ → ℕ → EReal) (t f : ℕ) : EReal := pre X G W t f * Ideal.logistic (pre X G W t f) * pre X G U t f

/-- A chunk's share of the second product. -/
def down (X G : ℕ → ℕ → EReal) (W U D : ℕ → ℕ → ℕ → EReal) (e t d : ℕ) : EReal := ∑ f ∈ range 704, act X G (W e) (U e) t f * D e f d

/-- The output of the half. -/
def out (X G : ℕ → ℕ → EReal) (W U D : ℕ → ℕ → ℕ → EReal) (t d : ℕ) : EReal :=
  X t d + ((1 / 2 : ℝ) : EReal) * (down X G W U D 0 t d + down X G W U D 1 t d + down X G W U D 2 t d + down X G W U D 3 t d)

end Cert.Ffn
-- ==== Proof.FfnFwdPoint.lean ====
/-
  The feed-forward network's forward pass: what one point of the grid, a tile of 512 tokens, leaves in its four results.
-/
module

public import proofs.«01_k».proof.Proof.FfnSpec
public import proofs.«01_k».proof.Proof.Gen.FfnFwdIdeal.Value

@[expose] public section

set_option maxRecDepth 16384

noncomputable section

namespace Cert.FfnFwdValue

open Cert.FfnFwdIdeal Cert.FfnFwdIdeal.Gen Cert.Ffn
open Idealize.ShloMosaic Idealize.ShloMosaic.TcCoe Idealize.SL.Sem
open Finset

/-! ## The two products -/

/-- A tile times the transpose of a chunk of the gate's or the up's weights. -/
theorem dotT {φ₁ φ₂ : FTy} (x : FVec Ideal S512x1024 φ₁) (y : FVec Ideal S704x1024 φ₂) (f g : ℕ → ℕ → EReal) (hx : At2 x f) (hy : At2 y g) :
    At2 (matmul dot_S512x1024_S704x1024_S512x704_1_1_0_0_n_n none x y (constant (F := Ideal) S512x704 .f32 0x00000000#32))
      (fun i k => ∑ j ∈ range 1024, f i j * g k j) := fun i =>
  dot_at dot_S512x1024_S704x1024_S512x704_1_1_0_0_n_n 1024 rfl rfl x y i (fun j => f (i 0).val j) (fun j => g (i 1).val j)
    (fun k => (hx _).trans (by
      have e1 := (dot_S512x1024_S704x1024_S512x704_1_1_0_0_n_n.lhsIdx_val_of_single rfl i
        ((ValueIdx.contrEquiv1 dot_S512x1024_S704x1024_S512x704_1_1_0_0_n_n 1024 rfl rfl).symm k)).trans (ValueIdx.contrEquiv1_symm_val dot_S512x1024_S704x1024_S512x704_1_1_0_0_n_n 1024 rfl rfl k)
      have e0 : ∀ q, (dot_S512x1024_S704x1024_S512x704_1_1_0_0_n_n.lhsIdx i q 0).val = (i 0).val := fun q => by
        unfold DotDims.lhsIdx
        rw [dif_neg (show ¬(0 : Fin S512x1024.rank) ∈ dot_S512x1024_S704x1024_S512x704_1_1_0_0_n_n.lhsBatch by decide),
          dif_pos (show (0 : Fin S512x1024.rank) ∈ dot_S512x1024_S704x1024_S512x704_1_1_0_0_n_n.lhsNonContracting by decide)]
        rfl
      rw [e0, e1]))
    (fun k => (hy _).trans (by
      have e1 := (dot_S512x1024_S704x1024_S512x704_1_1_0_0_n_n.rhsIdx_val_of_single rfl i
        ((ValueIdx.contrEquiv1 dot_S512x1024_S704x1024_S512x704_1_1_0_0_n_n 1024 rfl rfl).symm k)).trans (ValueIdx.contrEquiv1_symm_val dot_S512x1024_S704x1024_S512x704_1_1_0_0_n_n 1024 rfl rfl k)
      have e0 : ∀ q, (dot_S512x1024_S704x1024_S512x704_1_1_0_0_n_n.rhsIdx i q 0).val = (i 1).val := fun q => by
        unfold DotDims.rhsIdx
        rw [dif_neg (show ¬(0 : Fin S704x1024.rank) ∈ dot_S512x1024_S704x1024_S512x704_1_1_0_0_n_n.rhsBatch by decide),
          dif_pos (show (0 : Fin S704x1024.rank) ∈ dot_S512x1024_S704x1024_S512x704_1_1_0_0_n_n.rhsNonContracting by decide)]
        rfl
      rw [e0, e1]))

/-- A tile of activations times a chunk of the down weights. -/
theorem dotN {φ₁ φ₂ : FTy} (x : FVec Ideal S512x704 φ₁) (y : FVec Ideal S704x1024 φ₂) (f g : ℕ → ℕ → EReal) (hx : At2 x f) (hy : At2 y g) :
    At2 (matmul dot_S512x704_S704x1024_S512x1024_1_0_0_1_n_n none x y (constant (F := Ideal) S512x1024 .f32 0x00000000#32))
      (fun i k => ∑ j ∈ range 704, f i j * g j k) := fun i =>
  dot_at dot_S512x704_S704x1024_S512x1024_1_0_0_1_n_n 704 rfl rfl x y i (fun j => f (i 0).val j) (fun j => g j (i 1).val)
    (fun k => (hx _).trans (by
      have e1 := (dot_S512x704_S704x1024_S512x1024_1_0_0_1_n_n.lhsIdx_val_of_single rfl i
        ((ValueIdx.contrEquiv1 dot_S512x704_S704x1024_S512x1024_1_0_0_1_n_n 704 rfl rfl).symm k)).trans (ValueIdx.contrEquiv1_symm_val dot_S512x704_S704x1024_S512x1024_1_0_0_1_n_n 704 rfl rfl k)
      have e0 : ∀ q, (dot_S512x704_S704x1024_S512x1024_1_0_0_1_n_n.lhsIdx i q 0).val = (i 0).val := fun q => by
        unfold DotDims.lhsIdx
        rw [dif_neg (show ¬(0 : Fin S512x704.rank) ∈ dot_S512x704_S704x1024_S512x1024_1_0_0_1_n_n.lhsBatch by decide),
          dif_pos (show (0 : Fin S512x704.rank) ∈ dot_S512x704_S704x1024_S512x1024_1_0_0_1_n_n.lhsNonContracting by decide)]
        rfl
      rw [e0, e1]))
    (fun k => (hy _).trans (by
      have e0 := (dot_S512x704_S704x1024_S512x1024_1_0_0_1_n_n.rhsIdx_val_of_single rfl i
        ((ValueIdx.contrEquiv1 dot_S512x704_S704x1024_S512x1024_1_0_0_1_n_n 704 rfl rfl).symm k)).trans (ValueIdx.contrEquiv1_symm_val dot_S512x704_S704x1024_S512x1024_1_0_0_1_n_n 704 rfl rfl k)
      have e1 : ∀ q, (dot_S512x704_S704x1024_S512x1024_1_0_0_1_n_n.rhsIdx i q 1).val = (i 1).val := fun q => by
        unfold DotDims.rhsIdx
        rw [dif_neg (show ¬(1 : Fin S704x1024.rank) ∈ dot_S512x704_S704x1024_S512x1024_1_0_0_1_n_n.rhsBatch by decide),
          dif_pos (show (1 : Fin S704x1024.rank) ∈ dot_S512x704_S704x1024_S512x1024_1_0_0_1_n_n.rhsNonContracting by decide)]
        rfl
      rw [e0, e1]))

/-! ## The loads -/

theorem ld0 {x : Vec Ideal S512x1024 .f32} {f : ℕ → ℕ → EReal} (hx : At2 x f) : At2 (View.ld x r0_0) f := fun i =>
  (hx _).trans (congrArg₂ f (show 0 + 1 * (i 0).val = (i 0).val by omega) (show 0 + 1 * (i 1).val = (i 1).val by omega))
theorem ld1 {x : Vec Ideal S1x1024 .f32} {f : ℕ → ℕ → EReal} (hx : At2 x f) : At2 (View.ld x r0_1) f := fun i =>
  (hx _).trans (congrArg₂ f (show 0 + 1 * (i 0).val = (i 0).val by omega) (show 0 + 1 * (i 1).val = (i 1).val by omega))

/-- A chunk's entry, at equal coordinates. -/
theorem cong3 (f : ℕ → ℕ → ℕ → EReal) {i j k i' j' k' : ℕ} (hi : i = i') (hj : j = j') (hk : k = k') : f i j k = f i' j' k' := by rw [hi, hj, hk]

/-- The chunks of the weights. -/
theorem ldw0 {x : Vec Ideal S4x1x704x1024 .bf16} {f : ℕ → ℕ → ℕ → EReal} (hx : At4 x f) : At4 (View.ld x r0_2) (fun e => f (0 + e)) := fun i =>
  (hx _).trans (cong3 f (show 0 + 1 * (i 0).val = 0 + (i 0).val by omega) (show 0 + 1 * (i 2).val = (i 2).val by omega) (show 0 + 1 * (i 3).val = (i 3).val by omega))
theorem ldw1 {x : Vec Ideal S4x1x704x1024 .bf16} {f : ℕ → ℕ → ℕ → EReal} (hx : At4 x f) : At4 (View.ld x r0_3) (fun e => f (1 + e)) := fun i =>
  (hx _).trans (cong3 f (show 1 + 1 * (i 0).val = 1 + (i 0).val by omega) (show 0 + 1 * (i 2).val = (i 2).val by omega) (show 0 + 1 * (i 3).val = (i 3).val by omega))
theorem ldw2 {x : Vec Ideal S4x1x704x1024 .bf16} {f : ℕ → ℕ → ℕ → EReal} (hx : At4 x f) : At4 (View.ld x r0_4) (fun e => f (2 + e)) := fun i =>
  (hx _).trans (cong3 f (show 2 + 1 * (i 0).val = 2 + (i 0).val by omega) (show 0 + 1 * (i 2).val = (i 2).val by omega) (show 0 + 1 * (i 3).val = (i 3).val by omega))
theorem ldw3 {x : Vec Ideal S4x1x704x1024 .bf16} {f : ℕ → ℕ → ℕ → EReal} (hx : At4 x f) : At4 (View.ld x r0_5) (fun e => f (3 + e)) := fun i =>
  (hx _).trans (cong3 f (show 3 + 1 * (i 0).val = 3 + (i 0).val by omega) (show 0 + 1 * (i 2).val = (i 2).val by omega) (show 0 + 1 * (i 3).val = (i 3).val by omega))

/-! ## The payloads -/

/-- The normed tile. -/
theorem pay4 (x : FVec Ideal S512x1024 .f32) (g : FVec Ideal S1x1024 .f32) (X G : ℕ → ℕ → EReal) (hx : At2 x X) (hg : At2 g G) :
    At2 (k0_pay4 (F := Ideal) x g) (hid X G) := fun i => by
  refine (Value.piece6_0 (F := Ideal) x g i).trans ?_
  have e0 : ((r0_0.idx i) 0).val = (i 0).val := by show 0 + 1 * (i 0).val = _; omega
  have e1 : ((r0_0.idx i) 1).val = (i 1).val := by show 0 + 1 * (i 1).val = _; omega
  show x (Value.ix6_0 (r0_0.idx i)) * Ideal.rsqrt (Ideal.div (multiReduction .add [1] S512 (mulf x x) 0x00000000#32 reduces_S512x1024_S512 (.inl rfl) rfl (Value.ix6_1 (r0_0.idx i)))
    (Ideal.ofBits .f32 0x44800000#32) + Ideal.ofBits .f32 0x358637BD#32) * g (Value.ix6_2 (r0_0.idx i)) = _
  have hs := row_sum (mulf x x) 0x00000000#32 reduces_S512x1024_S512 (.inl rfl) rfl (fun t k => X t k * X t k)
    (fun j => congrArg₂ (fun u v : EReal => u * v) (hx j) (hx j)) (Value.ix6_1 (r0_0.idx i))
  rw [hs, hx, hg]
  show X ((r0_0.idx i) 0).val ((r0_0.idx i) 1).val * Ideal.rsqrt (Ideal.div (∑ k ∈ range 1024, X ((r0_0.idx i) 0).val k * X ((r0_0.idx i) 0).val k) _ + _) * G 0 ((r0_0.idx i) 1).val = _
  rw [e0, e1]
  rfl

/-- The activation of a chunk times its down weights. -/
theorem pay15 (g u : FVec Ideal S512x704 .f32) (w : FVec Ideal S1x1x704x1024 .bf16) (X G W U : ℕ → ℕ → EReal) (D : ℕ → ℕ → ℕ → EReal)
    (hg : At2 g (pre X G W)) (hu : At2 u (pre X G U)) (hw : At4 w D) :
    At2 (k0_pay15 (F := Ideal) g u w) (fun t d => ∑ f ∈ range 704, act X G W U t f * D 0 f d) :=
  dotN (φ₁ := .bf16) (φ₂ := .bf16) (fun i => g i * Ideal.logistic (g i) * u i) _ (act X G W U) (D 0)
    (fun i => by show g i * Ideal.logistic (g i) * u i = _; rw [hg, hu]; rfl) (at_cast42 hw _)

/-- The shares of the first three chunks. -/
theorem pay21 (g u g' u' : FVec Ideal S512x704 .f32) (a : FVec Ideal S512x1024 .f32) (w w' : FVec Ideal S1x1x704x1024 .bf16)
    (X G W U W' U' A : ℕ → ℕ → EReal) (D D' : ℕ → ℕ → ℕ → EReal)
    (hg : At2 g (pre X G W)) (hu : At2 u (pre X G U)) (hg' : At2 g' (pre X G W')) (hu' : At2 u' (pre X G U')) (ha : At2 a A) (hw : At4 w D) (hw' : At4 w' D') :
    At2 (k0_pay21 (F := Ideal) g u g' u' a w w')
      (fun t d => A t d + (∑ f ∈ range 704, act X G W U t f * D 0 f d) + ∑ f ∈ range 704, act X G W' U' t f * D' 0 f d) := fun i =>
  congrArg₂ (fun p q : EReal => p + q) (congrArg₂ (fun p q : EReal => p + q) (ha i) (pay15 g u w X G W U D hg hu hw i)) (pay15 g' u' w' X G W' U' D' hg' hu' hw' i)

/-- The output. -/
theorem pay3 (g u : FVec Ideal S512x704 .f32) (a : FVec Ideal S512x1024 .f32) (w : FVec Ideal S1x1x704x1024 .bf16) (x : FVec Ideal S512x1024 .f32)
    (X G W U A : ℕ → ℕ → EReal) (D : ℕ → ℕ → ℕ → EReal)
    (hg : At2 g (pre X G W)) (hu : At2 u (pre X G U)) (ha : At2 a A) (hw : At4 w D) (hx : At2 x X) :
    At2 (k0_pay3 (F := Ideal) g u a w x)
      (fun t d => X t d + ((1 / 2 : ℝ) : EReal) * (A t d + ∑ f ∈ range 704, act X G W U t f * D 0 f d)) := fun i =>
  congrArg₂ (fun p q : EReal => p + q) (hx i) (congrArg₂ (fun p q : EReal => p * q) ofBits_half
    (congrArg₂ (fun p q : EReal => p + q) (ha i) (pay15 g u w X G W U D hg hu hw i)))

/-! ## The results of a point -/

variable {x0 : Vec Ideal S512x1024 .f32} {x1 : Vec Ideal S1x1024 .f32} {x2 x3 x4 : Vec Ideal S4x1x704x1024 .bf16}
  {X G : ℕ → ℕ → EReal} {W U D : ℕ → ℕ → ℕ → EReal}
  (h0 : At2 x0 X) (h1 : At2 x1 G) (h2 : At4 x2 W) (h3 : At4 x3 U) (h4 : At4 x4 D)

section
include h0 h1

/-- The normed tile. -/
theorem normed : At2 (k0_pay4 (F := Ideal) (View.ld x0 r0_0) (View.ld x1 r0_1)) (hid X G) := pay4 _ _ X G (ld0 h0) (ld1 h1)

include h2
theorem gate0 : At2 (k0_pay24 (F := Ideal) x0 x1 x2 x3 x4) (pre X G (W 0)) :=
  dotT (φ₁ := .bf16) (φ₂ := .bf16) _ _ (hid X G) (W 0) (normed h0 h1) (at_cast42 (ldw0 h2) _)
theorem gate1 : At2 (k0_pay26 (F := Ideal) x0 x1 x2 x3 x4) (pre X G (W 1)) :=
  dotT (φ₁ := .bf16) (φ₂ := .bf16) _ _ (hid X G) (W 1) (normed h0 h1) (at_cast42 (ldw1 h2) _)
theorem gate2 : At2 (k0_pay28 (F := Ideal) x0 x1 x2 x3 x4) (pre X G (W 2)) :=
  dotT (φ₁ := .bf16) (φ₂ := .bf16) _ _ (hid X G) (W 2) (normed h0 h1) (at_cast42 (ldw2 h2) _)
theorem gate3 : At2 (k0_pay30 (F := Ideal) x0 x1 x2 x3 x4) (pre X G (W 3)) :=
  dotT (φ₁ := .bf16) (φ₂ := .bf16) _ _ (hid X G) (W 3) (normed h0 h1) (at_cast42 (ldw3 h2) _)

omit h2
include h3
theorem up0 : At2 (k0_pay25 (F := Ideal) x0 x1 x2 x3 x4) (pre X G (U 0)) :=
  dotT (φ₁ := .bf16) (φ₂ := .bf16) _ _ (hid X G) (U 0) (normed h0 h1) (at_cast42 (ldw0 h3) _)
theorem up1 : At2 (k0_pay27 (F := Ideal) x0 x1 x2 x3 x4) (pre X G (U 1)) :=
  dotT (φ₁ := .bf16) (φ₂ := .bf16) _ _ (hid X G) (U 1) (normed h0 h1) (at_cast42 (ldw1 h3) _)
theorem up2 : At2 (k0_pay29 (F := Ideal) x0 x1 x2 x3 x4) (pre X G (U 2)) :=
  dotT (φ₁ := .bf16) (φ₂ := .bf16) _ _ (hid X G) (U 2) (normed h0 h1) (at_cast42 (ldw2 h3) _)
theorem up3 : At2 (k0_pay31 (F := Ideal) x0 x1 x2 x3 x4) (pre X G (U 3)) :=
  dotT (φ₁ := .bf16) (φ₂ := .bf16) _ _ (hid X G) (U 3) (normed h0 h1) (at_cast42 (ldw3 h3) _)

end

/-- A tile with the entries `f`. -/
def tile32 (f : ℕ → ℕ → EReal) : Vec Ideal S512x1024 .f32 := fun y => f (y 0).val (y 1).val
/-- A tile with the entries `f`, in the other format. -/
def tile16 (f : ℕ → ℕ → EReal) : Vec Ideal S512x1024 .bf16 := fun y => f (y 0).val (y 1).val
/-- Four chunks with the entries `f`. -/
def tiles (f : ℕ → ℕ → ℕ → EReal) : Vec Ideal S4x512x704 .bf16 := fun y => f (y 0).val (y 1).val (y 2).val

/-- One whole store leaves what it stores. -/
theorem whole32 (p : Vec Ideal S512x1024 .f32) (f : ℕ → ℕ → EReal) (hp : At2 p f) (y : S512x1024.Idx) :
    View.canon [⟨r0_0, p⟩] y = tile32 f y := by
  refine View.canon_apply_of_pieces (tile32 f) _ ?_ y (cover0_5 p y)
  intro pc hpc
  rcases List.mem_cons.mp hpc with rfl | hpc
  · exact fun x => (hp x).trans (congrArg₂ f (show (x 0).val = 0 + 1 * (x 0).val by omega) (show (x 1).val = 0 + 1 * (x 1).val by omega))
  nomatch hpc

/-- One whole store leaves what it stores. -/
theorem whole16 (p : Vec Ideal S512x1024 .bf16) (f : ℕ → ℕ → EReal) (hp : At2 p f) (y : S512x1024.Idx) :
    View.canon [⟨r0_0, p⟩] y = tile16 f y := by
  refine View.canon_apply_of_pieces (tile16 f) _ ?_ y (cover0_6 p y)
  intro pc hpc
  rcases List.mem_cons.mp hpc with rfl | hpc
  · exact fun x => (hp x).trans (congrArg₂ f (show (x 0).val = 0 + 1 * (x 0).val by omega) (show (x 1).val = 0 + 1 * (x 1).val by omega))
  nomatch hpc

/-- A chunk's store is the chunk's tile. -/
theorem chunk {p : Vec Ideal S1x512x704 .bf16} {f : ℕ → ℕ → ℕ → EReal} {e : ℕ} (h : At3 p (f e)) (x : S1x512x704.Idx) (z : S4x512x704.Idx)
    (h0 : (z 0).val = e + 1 * (x 0).val) (h1 : (z 1).val = 0 + 1 * (x 1).val) (h2 : (z 2).val = 0 + 1 * (x 2).val) : p x = tiles f z :=
  (h x).trans (cong3 f (by have : (x 0).val < 1 := (x 0).isLt; omega) (by omega) (by omega))

/-- Four stores, one for each chunk, leave the four chunks. -/
theorem chunks (p0 p1 p2 p3 : Vec Ideal S1x512x704 .bf16) (f : ℕ → ℕ → ℕ → EReal) (h0 : At3 p0 (f 0)) (h1 : At3 p1 (f 1)) (h2 : At3 p2 (f 2)) (h3 : At3 p3 (f 3))
    (y : S4x512x704.Idx) : View.canon [⟨r0_9, p3⟩, ⟨r0_8, p2⟩, ⟨r0_7, p1⟩, ⟨r0_6, p0⟩] y = tiles f y := by
  refine View.canon_apply_of_pieces (tiles f) _ ?_ y (cover0_7 p3 p2 p1 p0 y)
  intro pc hpc
  rcases List.mem_cons.mp hpc with rfl | hpc
  · exact fun x => chunk h3 x _ rfl rfl rfl
  rcases List.mem_cons.mp hpc with rfl | hpc
  · exact fun x => chunk h2 x _ rfl rfl rfl
  rcases List.mem_cons.mp hpc with rfl | hpc
  · exact fun x => chunk h1 x _ rfl rfl rfl
  rcases List.mem_cons.mp hpc with rfl | hpc
  · exact fun x => chunk h0 x _ rfl rfl rfl
  nomatch hpc

include h0 h1

/-- The normed tile, as it is left. -/
theorem left6 (y) : out0_6 (F := Ideal) x0 x1 x2 x3 x4 y = tile16 (hid X G) y := by
  unfold out0_6
  exact whole16 _ (hid X G) (normed h0 h1) y

include h2 in
/-- The gate products, as they are left. -/
theorem left7 (y) : out0_7 (F := Ideal) x0 x1 x2 x3 x4 y = tiles (fun e => pre X G (W e)) y := by
  unfold out0_7
  exact chunks _ _ _ _ (fun e => pre X G (W e))
    (at_cast23 (gate0 (x3 := x3) (x4 := x4) h0 h1 h2) shapeCasts_S512x704_S1x512x704) (at_cast23 (gate1 (x3 := x3) (x4 := x4) h0 h1 h2) shapeCasts_S512x704_S1x512x704)
    (at_cast23 (gate2 (x3 := x3) (x4 := x4) h0 h1 h2) shapeCasts_S512x704_S1x512x704) (at_cast23 (gate3 (x3 := x3) (x4 := x4) h0 h1 h2) shapeCasts_S512x704_S1x512x704) y

include h3 in
/-- The up products, as they are left. -/
theorem left8 (y) : out0_8 (F := Ideal) x0 x1 x2 x3 x4 y = tiles (fun e => pre X G (U e)) y := by
  unfold out0_8
  exact chunks _ _ _ _ (fun e => pre X G (U e))
    (at_cast23 (up0 (x2 := x2) (x4 := x4) h0 h1 h3) shapeCasts_S512x704_S1x512x704) (at_cast23 (up1 (x2 := x2) (x4 := x4) h0 h1 h3) shapeCasts_S512x704_S1x512x704)
    (at_cast23 (up2 (x2 := x2) (x4 := x4) h0 h1 h3) shapeCasts_S512x704_S1x512x704) (at_cast23 (up3 (x2 := x2) (x4 := x4) h0 h1 h3) shapeCasts_S512x704_S1x512x704) y

include h2 h3 h4 in
/-- The output tile, as it is left. -/
theorem left5 (y) : out0_5 (F := Ideal) x0 x1 x2 x3 x4 y = tile32 (out X G W U D) y := by
  have a := pay15 _ _ _ X G (W 0) (U 0) (fun e => D (0 + e)) (gate0 (x3 := x3) (x4 := x4) h0 h1 h2) (up0 (x2 := x2) (x4 := x4) h0 h1 h3) (ldw0 h4)
  have b := pay21 _ _ _ _ _ _ _ X G (W 1) (U 1) (W 2) (U 2) _ (fun e => D (1 + e)) (fun e => D (2 + e)) (gate1 (x3 := x3) (x4 := x4) h0 h1 h2)
    (up1 (x2 := x2) (x4 := x4) h0 h1 h3) (gate2 (x3 := x3) (x4 := x4) h0 h1 h2) (up2 (x2 := x2) (x4 := x4) h0 h1 h3) a (ldw1 h4) (ldw2 h4)
  unfold out0_5
  exact whole32 _ (out X G W U D) (pay3 _ _ _ _ _ X G (W 3) (U 3) _ (fun e => D (3 + e)) (gate3 (x3 := x3) (x4 := x4) h0 h1 h2)
    (up3 (x2 := x2) (x4 := x4) h0 h1 h3) b (ldw3 h4) (ld0 h0)) y

end Cert.FfnFwdValue
-- ==== Proof.FfnFwdValue.lean ====
/-
  The feed-forward network's forward pass: the four arrays the kernel leaves are the reference's.
-/
module

public import proofs.«01_k».proof.Proof.FfnFwdPoint
public import proofs.«01_k».proof.Proof.Gen.FfnFwdRefIdeal.Read
public import Idealize.ShloMosaic.Lib.Pipeline.ValueKit

@[expose] public section

set_option maxRecDepth 16384

noncomputable section

namespace Cert.FfnFwdValue

open Cert.FfnFwdIdeal Cert.FfnFwdIdeal.Gen Cert.Ffn
open Idealize.ShloMosaic Idealize.ShloMosaic.TcCoe Idealize.SL.Sem
open Idealize.ShloMosaic.Pipeline (Dat)
open Finset

variable (m : (ℓ : Loc nD τ sig) → Buf (Elt Ideal) ℓ)

/-! ## The blocks -/

/-- The index maps: the tile of tokens, and the layer's slices of the weights. -/
theorem idx : ∀ t : Fin cfg0.N, win0_0.index t = ![t.val, 0] ∧ win0_1.index t = ![0, 0] ∧ win0_2.index t = ![0, 8, 0, 0] ∧ win0_3.index t = ![0, 12, 0, 0]
    ∧ win0_4.index t = ![0, 4, 0, 0] ∧ win0_5.index t = ![t.val, 0] ∧ win0_6.index t = ![t.val, 0] ∧ win0_7.index t = ![0, t.val, 0] ∧ win0_8.index t = ![0, t.val, 0] :=
  (by decide +kernel : ∀ t : Fin grid0.N, _)

theorem read0 {c : Dev nD} (W : (b : Ref sig .tc) → Buf (Elt Ideal) ((c : Thread nD τ).loc b)) (t : Fin cfg0.N) (y) :
    ((cfg0.win 0).blk t).view.read (Elt Ideal) (W (Pipeline.arrRef spec0 0)) y = W main_arg0 (((cfg0.win 0).blk t).view.emb y) := rfl
theorem read1 {c : Dev nD} (W : (b : Ref sig .tc) → Buf (Elt Ideal) ((c : Thread nD τ).loc b)) (t : Fin cfg0.N) (y) :
    ((cfg0.win 1).blk t).view.read (Elt Ideal) (W (Pipeline.arrRef spec0 1)) y = W main_arg1 (((cfg0.win 1).blk t).view.emb y) := rfl
theorem read2 {c : Dev nD} (W : (b : Ref sig .tc) → Buf (Elt Ideal) ((c : Thread nD τ).loc b)) (t : Fin cfg0.N) (y) :
    ((cfg0.win 2).blk t).view.read (Elt Ideal) (W (Pipeline.arrRef spec0 2)) y = W main_arg2 (((cfg0.win 2).blk t).view.emb y) := rfl
theorem read3 {c : Dev nD} (W : (b : Ref sig .tc) → Buf (Elt Ideal) ((c : Thread nD τ).loc b)) (t : Fin cfg0.N) (y) :
    ((cfg0.win 3).blk t).view.read (Elt Ideal) (W (Pipeline.arrRef spec0 3)) y = W main_arg2 (((cfg0.win 3).blk t).view.emb y) := rfl
theorem read4 {c : Dev nD} (W : (b : Ref sig .tc) → Buf (Elt Ideal) ((c : Thread nD τ).loc b)) (t : Fin cfg0.N) (y) :
    ((cfg0.win 4).blk t).view.read (Elt Ideal) (W (Pipeline.arrRef spec0 4)) y = W main_arg3 (((cfg0.win 4).blk t).view.emb y) := rfl

/-- The tile of the input. -/
theorem blk0 (c : Dev nD) (X) (hX : m ((c : Thread nD τ).loc main_arg0) = X) (t : Fin cfg0.N) :
    At2 (iblk m c 0 t) (fun r d => nat2 X (512 * t.val + r) d) := fun y => by
  refine ((read0 (V m c) t y).trans (congrFun ((V_main_arg0 m c).trans hX) _)).trans ((nat2_val X _).trans ?_)
  have e := (idx t).1
  have a0 : ((((cfg0.win 0).blk t).view.emb y) 0).val = win0_0.index t 0 * 512 + (y 0).val := Pipeline.Window.rect_emb_val win0_0 t y 0 rfl
  have a1 : ((((cfg0.win 0).blk t).view.emb y) 1).val = win0_0.index t 1 * 1024 + (y 1).val := Pipeline.Window.rect_emb_val win0_0 t y 1 rfl
  rw [e] at a0 a1
  have a0' : _ = t.val * 512 + (y 0).val := a0
  have a1' : _ = 0 * 1024 + (y 1).val := a1
  exact congrArg₂ (nat2 X) (a0'.trans (by rw [Nat.mul_comm])) (a1'.trans (by omega))

/-- The gain. -/
theorem blk1 (c : Dev nD) (X) (hX : m ((c : Thread nD τ).loc main_arg1) = X) (t : Fin cfg0.N) :
    At2 (iblk m c 1 t) (nat2 X) := fun y => by
  refine ((read1 (V m c) t y).trans (congrFun ((V_main_arg1 m c).trans hX) _)).trans ((nat2_val X _).trans ?_)
  have e := (idx t).2.1
  have a0 : ((((cfg0.win 1).blk t).view.emb y) 0).val = win0_1.index t 0 * 1 + (y 0).val := Pipeline.Window.rect_emb_val win0_1 t y 0 rfl
  have a1 : ((((cfg0.win 1).blk t).view.emb y) 1).val = win0_1.index t 1 * 1024 + (y 1).val := Pipeline.Window.rect_emb_val win0_1 t y 1 rfl
  rw [e] at a0 a1
  have a0' : _ = 0 * 1 + (y 0).val := a0
  have a1' : _ = 0 * 1024 + (y 1).val := a1
  exact congrArg₂ (nat2 X) (a0'.trans (by omega)) (a1'.trans (by omega))

/-- An entry of the weights, at equal coordinates. -/
theorem cong4 {a b : ℕ} (X : (⟨4, ![4, a, 704, b]⟩ : Shape).Idx → EReal) {i j k l i' j' k' l' : ℕ} (hi : i = i') (hj : j = j') (hk : k = k') (hl : l = l') :
    nat4 X i j k l = nat4 X i' j' k' l' := by rw [hi, hj, hk, hl]

/-- The gate's weights. -/
theorem blk2 (c : Dev nD) (X) (hX : m ((c : Thread nD τ).loc main_arg2) = X) (t : Fin cfg0.N) :
    At4 (iblk m c 2 t) (fun e f d => nat4 X e 8 f d) := fun y => by
  refine ((read2 (V m c) t y).trans (congrFun ((V_main_arg2 m c).trans hX) _)).trans ((nat4_val X _).trans ?_)
  have e := (idx t).2.2.1
  have a0 : ((((cfg0.win 2).blk t).view.emb y) 0).val = win0_2.index t 0 * 4 + (y 0).val := Pipeline.Window.rect_emb_val win0_2 t y 0 rfl
  have a1 : ((((cfg0.win 2).blk t).view.emb y) 1).val = win0_2.index t 1 * 1 + (y 1).val := Pipeline.Window.rect_emb_val win0_2 t y 1 rfl
  have a2 : ((((cfg0.win 2).blk t).view.emb y) 2).val = win0_2.index t 2 * 704 + (y 2).val := Pipeline.Window.rect_emb_val win0_2 t y 2 rfl
  have a3 : ((((cfg0.win 2).blk t).view.emb y) 3).val = win0_2.index t 3 * 1024 + (y 3).val := Pipeline.Window.rect_emb_val win0_2 t y 3 rfl
  rw [e] at a0 a1 a2 a3
  have a0' : _ = 0 * 4 + (y 0).val := a0
  have a1' : _ = 8 * 1 + (y 1).val := a1
  have a2' : _ = 0 * 704 + (y 2).val := a2
  have a3' : _ = 0 * 1024 + (y 3).val := a3
  have y1 : (y 1).val < 1 := (y 1).isLt
  exact cong4 X (a0'.trans (by omega)) (a1'.trans (by omega)) (a2'.trans (by omega)) (a3'.trans (by omega))

/-- The up's weights. -/
theorem blk3 (c : Dev nD) (X) (hX : m ((c : Thread nD τ).loc main_arg2) = X) (t : Fin cfg0.N) :
    At4 (iblk m c 3 t) (fun e f d => nat4 X e 12 f d) := fun y => by
  refine ((read3 (V m c) t y).trans (congrFun ((V_main_arg2 m c).trans hX) _)).trans ((nat4_val X _).trans ?_)
  have e := (idx t).2.2.2.1
  have a0 : ((((cfg0.win 3).blk t).view.emb y) 0).val = win0_3.index t 0 * 4 + (y 0).val := Pipeline.Window.rect_emb_val win0_3 t y 0 rfl
  have a1 : ((((cfg0.win 3).blk t).view.emb y) 1).val = win0_3.index t 1 * 1 + (y 1).val := Pipeline.Window.rect_emb_val win0_3 t y 1 rfl
  have a2 : ((((cfg0.win 3).blk t).view.emb y) 2).val = win0_3.index t 2 * 704 + (y 2).val := Pipeline.Window.rect_emb_val win0_3 t y 2 rfl
  have a3 : ((((cfg0.win 3).blk t).view.emb y) 3).val = win0_3.index t 3 * 1024 + (y 3).val := Pipeline.Window.rect_emb_val win0_3 t y 3 rfl
  rw [e] at a0 a1 a2 a3
  have a0' : _ = 0 * 4 + (y 0).val := a0
  have a1' : _ = 12 * 1 + (y 1).val := a1
  have a2' : _ = 0 * 704 + (y 2).val := a2
  have a3' : _ = 0 * 1024 + (y 3).val := a3
  have y1 : (y 1).val < 1 := (y 1).isLt
  exact cong4 X (a0'.trans (by omega)) (a1'.trans (by omega)) (a2'.trans (by omega)) (a3'.trans (by omega))

/-- The down weights. -/
theorem blk4 (c : Dev nD) (X) (hX : m ((c : Thread nD τ).loc main_arg3) = X) (t : Fin cfg0.N) :
    At4 (iblk m c 4 t) (fun e f d => nat4 X e 4 f d) := fun y => by
  refine ((read4 (V m c) t y).trans (congrFun ((V_main_arg3 m c).trans hX) _)).trans ((nat4_val X _).trans ?_)
  have e := (idx t).2.2.2.2.1
  have a0 : ((((cfg0.win 4).blk t).view.emb y) 0).val = win0_4.index t 0 * 4 + (y 0).val := Pipeline.Window.rect_emb_val win0_4 t y 0 rfl
  have a1 : ((((cfg0.win 4).blk t).view.emb y) 1).val = win0_4.index t 1 * 1 + (y 1).val := Pipeline.Window.rect_emb_val win0_4 t y 1 rfl
  have a2 : ((((cfg0.win 4).blk t).view.emb y) 2).val = win0_4.index t 2 * 704 + (y 2).val := Pipeline.Window.rect_emb_val win0_4 t y 2 rfl
  have a3 : ((((cfg0.win 4).blk t).view.emb y) 3).val = win0_4.index t 3 * 1024 + (y 3).val := Pipeline.Window.rect_emb_val win0_4 t y 3 rfl
  rw [e] at a0 a1 a2 a3
  have a0' : _ = 0 * 4 + (y 0).val := a0
  have a1' : _ = 4 * 1 + (y 1).val := a1
  have a2' : _ = 0 * 704 + (y 2).val := a2
  have a3' : _ = 0 * 1024 + (y 3).val := a3
  have y1 : (y 1).val < 1 := (y 1).isLt
  exact cong4 X (a0'.trans (by omega)) (a1'.trans (by omega)) (a2'.trans (by omega)) (a3'.trans (by omega))

/-! ## The arrays -/

variable (c : Dev nD) (x g w v) (hx : m ((c : Thread nD τ).loc main_arg0) = x) (hg : m ((c : Thread nD τ).loc main_arg1) = g)
  (hw : m ((c : Thread nD τ).loc main_arg2) = w) (hv : m ((c : Thread nD τ).loc main_arg3) = v)
include hx hg

include hw hv in
/-- The output. -/
theorem final5 (A : (⟨S16384x1024, .f32⟩ : BufTy).Contents (Elt Ideal))
    (hA : At2 A (out (nat2 x) (nat2 g) (fun e f d => nat4 w e 8 f d) (fun e f d => nat4 w e 12 f d) (fun e f d => nat4 v e 4 f d))) :
    (dats m 0 c).arrAt 5 (cfgs 0).N = A := by
  refine (dats m 0 c).arrAt_eq_of_covers 5 A (by decide +kernel) fun t hf y => ?_
  have hy : (dats m 0 c).after 5 t y = A (((cfg0.win 5).blk t).view.emb y) := by
    rw [after0_5]
    refine (left5 (blk0 m c x hx t) (blk1 m c g hg t) (blk2 m c w hw t) (blk3 m c w hw t) (blk4 m c v hv t) y).trans (Eq.trans ?_ (hA _).symm)
    have e := (idx t).2.2.2.2.2.1
    have a0 : ((((cfg0.win 5).blk t).view.emb y) 0).val = win0_5.index t 0 * 512 + (y 0).val := Pipeline.Window.rect_emb_val win0_5 t y 0 rfl
    have a1 : ((((cfg0.win 5).blk t).view.emb y) 1).val = win0_5.index t 1 * 1024 + (y 1).val := Pipeline.Window.rect_emb_val win0_5 t y 1 rfl
    rw [e] at a0 a1
    have a0' : _ = t.val * 512 + (y 0).val := a0
    have a1' : _ = 0 * 1024 + (y 1).val := a1
    rw [a0', a1', Nat.mul_comm, Nat.zero_mul, Nat.zero_add]
    rfl
  exact hy

/-- The normed input. -/
theorem final6 (A : (⟨S16384x1024, .bf16⟩ : BufTy).Contents (Elt Ideal)) (hA : At2 A (hid (nat2 x) (nat2 g))) :
    (dats m 0 c).arrAt 6 (cfgs 0).N = A := by
  refine (dats m 0 c).arrAt_eq_of_covers 6 A (by decide +kernel) fun t hf y => ?_
  have hy : (dats m 0 c).after 6 t y = A (((cfg0.win 6).blk t).view.emb y) := by
    rw [after0_6]
    refine (left6 (blk0 m c x hx t) (blk1 m c g hg t) y).trans (Eq.trans ?_ (hA _).symm)
    have e := (idx t).2.2.2.2.2.2.1
    have a0 : ((((cfg0.win 6).blk t).view.emb y) 0).val = win0_6.index t 0 * 512 + (y 0).val := Pipeline.Window.rect_emb_val win0_6 t y 0 rfl
    have a1 : ((((cfg0.win 6).blk t).view.emb y) 1).val = win0_6.index t 1 * 1024 + (y 1).val := Pipeline.Window.rect_emb_val win0_6 t y 1 rfl
    rw [e] at a0 a1
    have a0' : _ = t.val * 512 + (y 0).val := a0
    have a1' : _ = 0 * 1024 + (y 1).val := a1
    rw [a0', a1', Nat.mul_comm, Nat.zero_mul, Nat.zero_add]
    rfl
  exact hy

include hw

/-- The gate products. -/
theorem final7 (A : (⟨S4x16384x704, .bf16⟩ : BufTy).Contents (Elt Ideal)) (hA : AtS A (fun e => pre (nat2 x) (nat2 g) (fun f d => nat4 w e 8 f d))) :
    (dats m 0 c).arrAt 7 (cfgs 0).N = A := by
  refine (dats m 0 c).arrAt_eq_of_covers 7 A (by decide +kernel) fun t hf y => ?_
  have hy : (dats m 0 c).after 7 t y = A (((cfg0.win 7).blk t).view.emb y) := by
    rw [after0_7]
    refine (left7 (blk0 m c x hx t) (blk1 m c g hg t) (blk2 m c w hw t) y).trans (Eq.trans ?_ (hA _).symm)
    have e := (idx t).2.2.2.2.2.2.2.1
    have a0 : ((((cfg0.win 7).blk t).view.emb y) 0).val = win0_7.index t 0 * 4 + (y 0).val := Pipeline.Window.rect_emb_val win0_7 t y 0 rfl
    have a1 : ((((cfg0.win 7).blk t).view.emb y) 1).val = win0_7.index t 1 * 512 + (y 1).val := Pipeline.Window.rect_emb_val win0_7 t y 1 rfl
    have a2 : ((((cfg0.win 7).blk t).view.emb y) 2).val = win0_7.index t 2 * 704 + (y 2).val := Pipeline.Window.rect_emb_val win0_7 t y 2 rfl
    rw [e] at a0 a1 a2
    have a0' : _ = 0 * 4 + (y 0).val := a0
    have a1' : _ = t.val * 512 + (y 1).val := a1
    have a2' : _ = 0 * 704 + (y 2).val := a2
    rw [a0', a1', a2', Nat.mul_comm t.val, Nat.zero_mul, Nat.zero_add, Nat.zero_add]
    rfl
  exact hy

/-- The up products. -/
theorem final8 (A : (⟨S4x16384x704, .bf16⟩ : BufTy).Contents (Elt Ideal)) (hA : AtS A (fun e => pre (nat2 x) (nat2 g) (fun f d => nat4 w e 12 f d))) :
    (dats m 0 c).arrAt 8 (cfgs 0).N = A := by
  refine (dats m 0 c).arrAt_eq_of_covers 8 A (by decide +kernel) fun t hf y => ?_
  have hy : (dats m 0 c).after 8 t y = A (((cfg0.win 8).blk t).view.emb y) := by
    rw [after0_8]
    refine (left8 (blk0 m c x hx t) (blk1 m c g hg t) (blk3 m c w hw t) y).trans (Eq.trans ?_ (hA _).symm)
    have e := (idx t).2.2.2.2.2.2.2.2
    have a0 : ((((cfg0.win 8).blk t).view.emb y) 0).val = win0_8.index t 0 * 4 + (y 0).val := Pipeline.Window.rect_emb_val win0_8 t y 0 rfl
    have a1 : ((((cfg0.win 8).blk t).view.emb y) 1).val = win0_8.index t 1 * 512 + (y 1).val := Pipeline.Window.rect_emb_val win0_8 t y 1 rfl
    have a2 : ((((cfg0.win 8).blk t).view.emb y) 2).val = win0_8.index t 2 * 704 + (y 2).val := Pipeline.Window.rect_emb_val win0_8 t y 2 rfl
    rw [e] at a0 a1 a2
    have a0' : _ = 0 * 4 + (y 0).val := a0
    have a1' : _ = t.val * 512 + (y 1).val := a1
    have a2' : _ = 0 * 704 + (y 2).val := a2
    rw [a0', a1', a2', Nat.mul_comm t.val, Nat.zero_mul, Nat.zero_add, Nat.zero_add]
    rfl
  exact hy

end Cert.FfnFwdValue
-- ==== Proof.FfnFwdRef.lean ====
/-
  The feed-forward network's forward pass: the reference's four results by their entries.
-/
module

public import proofs.«01_k».proof.Proof.FfnSpec
public import proofs.«01_k».proof.Proof.Gen.FfnFwdRefIdeal.Read

@[expose] public section

set_option maxRecDepth 16384

noncomputable section

namespace Cert.FfnFwdRef

open Cert.FfnFwdRefIdeal Cert.FfnFwdRefIdeal.Read Cert.Ffn
open Idealize.ShloMosaic Finset

variable (x : (⟨S16384x1024, .f32⟩ : BufTy).Contents (Elt Ideal)) (g : (⟨S1x1024, .f32⟩ : BufTy).Contents (Elt Ideal))
  (w : (⟨S4x16x704x1024, .bf16⟩ : BufTy).Contents (Elt Ideal)) (v : (⟨S4x8x704x1024, .bf16⟩ : BufTy).Contents (Elt Ideal))

/-- An entry of the weights, at equal coordinates. -/
theorem cong4 {a : ℕ} (X : (⟨4, ![4, a, 704, 1024]⟩ : Shape).Idx → EReal) {i j k l i' j' k' l' : ℕ} (hi : i = i') (hj : j = j') (hk : k = k') (hl : l = l') :
    nat4 X i j k l = nat4 X i' j' k' l' := by rw [hi, hj, hk, hl]

/-- The gate's weights. -/
theorem gateW (i : S1024x2816.Idx) : val_main_v4 (F := Ideal) w i = nat4 w ((i 1).val / 704) 8 ((i 1).val % 704) (i 0).val := by
  rw [val_main_v4_apply, val_main_v3_apply, val_main_v2_apply, val_main_v1_apply, val_main_v0_apply]
  have h0 : (i 0).val < 1024 := (i 0).isLt
  have h1 : (i 1).val < 2816 := (i 1).isLt
  refine (nat4_val w (idx_main_v0 (idx_main_v1 (idx_main_v3 (idx_main_v4 i))))).trans (cong4 w ?_ ?_ ?_ ?_)
  · show (((((i 1).val * 1024 + (i 0).val) / 720896) * 704 + ((i 1).val * 1024 + (i 0).val) / 1024 % 704) * 1024 + ((i 1).val * 1024 + (i 0).val) % 1024) / 720896 = _
    omega
  · rfl
  · show (((((i 1).val * 1024 + (i 0).val) / 720896) * 704 + ((i 1).val * 1024 + (i 0).val) / 1024 % 704) * 1024 + ((i 1).val * 1024 + (i 0).val) % 1024) / 1024 % 704 = _
    omega
  · show (((((i 1).val * 1024 + (i 0).val) / 720896) * 704 + ((i 1).val * 1024 + (i 0).val) / 1024 % 704) * 1024 + ((i 1).val * 1024 + (i 0).val) % 1024) % 1024 = _
    omega

/-- The up's weights. -/
theorem upW (i : S1024x2816.Idx) : val_main_v9 (F := Ideal) w i = nat4 w ((i 1).val / 704) 12 ((i 1).val % 704) (i 0).val := by
  rw [val_main_v9_apply, val_main_v8_apply, val_main_v7_apply, val_main_v6_apply, val_main_v5_apply]
  have h0 : (i 0).val < 1024 := (i 0).isLt
  have h1 : (i 1).val < 2816 := (i 1).isLt
  refine (nat4_val w (idx_main_v5 (idx_main_v6 (idx_main_v8 (idx_main_v9 i))))).trans (cong4 w ?_ ?_ ?_ ?_)
  · show (((((i 1).val * 1024 + (i 0).val) / 720896) * 704 + ((i 1).val * 1024 + (i 0).val) / 1024 % 704) * 1024 + ((i 1).val * 1024 + (i 0).val) % 1024) / 720896 = _
    omega
  · rfl
  · show (((((i 1).val * 1024 + (i 0).val) / 720896) * 704 + ((i 1).val * 1024 + (i 0).val) / 1024 % 704) * 1024 + ((i 1).val * 1024 + (i 0).val) % 1024) / 1024 % 704 = _
    omega
  · show (((((i 1).val * 1024 + (i 0).val) / 720896) * 704 + ((i 1).val * 1024 + (i 0).val) / 1024 % 704) * 1024 + ((i 1).val * 1024 + (i 0).val) % 1024) % 1024 = _
    omega

/-- The down weights. -/
theorem downW (i : S2816x1024.Idx) : val_main_v13 (F := Ideal) v i = nat4 v ((i 0).val / 704) 4 ((i 0).val % 704) (i 1).val := by
  rw [val_main_v13_apply, val_main_v12_apply, val_main_v11_apply, val_main_v10_apply]
  have h0 : (i 0).val < 2816 := (i 0).isLt
  have h1 : (i 1).val < 1024 := (i 1).isLt
  refine (nat4_val v (idx_main_v10 (idx_main_v11 (idx_main_v13 i)))).trans (cong4 v ?_ ?_ ?_ ?_)
  · show (((((i 0).val * 1024 + (i 1).val) / 720896) * 704 + ((i 0).val * 1024 + (i 1).val) / 1024 % 704) * 1024 + ((i 0).val * 1024 + (i 1).val) % 1024) / 720896 = _
    omega
  · rfl
  · show (((((i 0).val * 1024 + (i 1).val) / 720896) * 704 + ((i 0).val * 1024 + (i 1).val) / 1024 % 704) * 1024 + ((i 0).val * 1024 + (i 1).val) % 1024) / 1024 % 704 = _
    omega
  · show (((((i 0).val * 1024 + (i 1).val) / 720896) * 704 + ((i 0).val * 1024 + (i 1).val) / 1024 % 704) * 1024 + ((i 0).val * 1024 + (i 1).val) % 1024) % 1024 = _
    omega

/-- A row's sum of squares. -/
theorem squares (i : S16384.Idx) : val_main_v15 (F := Ideal) x i = ∑ k ∈ range 1024, nat2 x (i 0).val k * nat2 x (i 0).val k := by
  rw [val_main_v15_apply, Finset.sum_range]
  refine (congrArg (fun u : EReal => u + ∑ k : Fin 1024, val_main_v14 (F := Ideal) x (idx_main_v15 i k)) Ideal.ofBits_zero_f32).trans ((zero_add _).trans (Finset.sum_congr rfl fun k _ => ?_))
  have e := nat2_val x (idx_main_v15 i k)
  exact congrArg₂ (fun u v : EReal => u * v) e e

/-- The normed input. -/
theorem normed : At2 (val_main_v25 (F := Ideal) x g) (hid (nat2 x) (nat2 g)) := fun i => by
  rw [val_main_v25_apply, val_main_v23_apply, val_main_v24_apply, val_main_v22_apply, val_main_v21_apply, val_main_v20_apply, val_main_v19_apply,
    val_main_v18_apply, val_main_v17_apply, val_main_v16_apply, squares]
  exact congrArg₂ (fun u v : EReal => u * v) (congrArg (fun u : EReal => u * _) (nat2_val x i)) (nat2_val g (idx_main_v24 i))

/-- The gate products. -/
theorem gate (i : S16384x2816.Idx) : val_main_v26 (F := Ideal) x g w i = pre (nat2 x) (nat2 g) (fun f d => nat4 w ((i 1).val / 704) 8 f d) (i 0).val ((i 1).val % 704) := by
  rw [val_main_v26_apply, pre, Finset.sum_range]
  exact Finset.sum_congr rfl fun k _ => congrArg₂ (fun u v : EReal => u * v) (normed x g (lidx_main_v26 i k)) (gateW w (ridx_main_v26 i k))

/-- The up products. -/
theorem up (i : S16384x2816.Idx) : val_main_v27 (F := Ideal) x g w i = pre (nat2 x) (nat2 g) (fun f d => nat4 w ((i 1).val / 704) 12 f d) (i 0).val ((i 1).val % 704) := by
  rw [val_main_v27_apply, pre, Finset.sum_range]
  exact Finset.sum_congr rfl fun k _ => congrArg₂ (fun u v : EReal => u * v) (normed x g (lidx_main_v27 i k)) (upW w (ridx_main_v27 i k))

/-- The constant one. -/
theorem ofBits_one : Ideal.ofBits .f32 0x3F800000#32 = 1 := by
  simp [Ideal.ofBits, Ideal.ieee]
  rw [← EReal.coe_mul]
  norm_num

/-- The activation. -/
theorem acts (i : S16384x2816.Idx) : val_main_v29 (F := Ideal) x g w i
    = act (nat2 x) (nat2 g) (fun f d => nat4 w ((i 1).val / 704) 8 f d) (fun f d => nat4 w ((i 1).val / 704) 12 f d) (i 0).val ((i 1).val % 704) := by
  rw [val_main_v29_apply, val_main_v28_apply, val_main_call0_v5_apply, val_main_call0_v4_apply, val_main_call0_v3_apply, val_main_call0_v2_apply,
    val_main_call0_v1_apply, val_main_call0_v0_apply, gate, up]
  show _ * Ideal.div (Ideal.ofBits .f32 0x3F800000#32) (Ideal.ofBits .f32 0x3F800000#32 + Ideal.exp (-_)) * _ = _
  rw [ofBits_one]
  rfl

/-- A sum of four. -/
theorem sum_four (f : ℕ → EReal) : ∑ n ∈ range 4, f n = f 0 + f 1 + f 2 + f 3 := by
  rw [sum_range_succ, sum_range_succ, sum_range_succ, sum_range_one]

/-- The output. -/
theorem output : At2 (val_main_v33 (F := Ideal) x g w v)
    (out (nat2 x) (nat2 g) (fun e f d => nat4 w e 8 f d) (fun e f d => nat4 w e 12 f d) (fun e f d => nat4 v e 4 f d)) := fun i => by
  rw [val_main_v33_apply, val_main_v32_apply, val_main_v31_apply]
  refine congrArg₂ (fun u v : EReal => u + v) (nat2_val x i) (congrArg₂ (fun u v : EReal => u * v) ofBits_half ?_)
  rw [val_main_v30_apply]
  refine Eq.trans (Finset.sum_congr rfl fun k _ => congrArg₂ (fun u v : EReal => u * v) (acts x g w (lidx_main_v30 i k)) (downW v (ridx_main_v30 i k))) ?_
  refine (Finset.sum_range (fun k => act (nat2 x) (nat2 g) (fun f d => nat4 w (k / 704) 8 f d) (fun f d => nat4 w (k / 704) 12 f d) (i 0).val (k % 704)
    * nat4 v (k / 704) 4 (k % 704) (i 1).val)).symm.trans ((runs _ 704 4).trans ((sum_four _).symm.symm.trans ?_))
  have h : ∀ e < 4, ∑ b ∈ range 704, (fun k => act (nat2 x) (nat2 g) (fun f d => nat4 w (k / 704) 8 f d) (fun f d => nat4 w (k / 704) 12 f d) (i 0).val (k % 704)
      * nat4 v (k / 704) 4 (k % 704) (i 1).val) (704 * e + b)
      = down (nat2 x) (nat2 g) (fun e f d => nat4 w e 8 f d) (fun e f d => nat4 w e 12 f d) (fun e f d => nat4 v e 4 f d) e (i 0).val (i 1).val := fun e _ => by
    refine Finset.sum_congr rfl fun b hb => ?_
    have hb' := Finset.mem_range.mp hb
    show act _ _ (fun f d => nat4 w ((704 * e + b) / 704) 8 f d) (fun f d => nat4 w ((704 * e + b) / 704) 12 f d) _ ((704 * e + b) % 704) * nat4 v ((704 * e + b) / 704) 4 ((704 * e + b) % 704) _ = _
    rw [show (704 * e + b) / 704 = e by omega, show (704 * e + b) % 704 = b by omega]
  rw [h 0 (by decide), h 1 (by decide), h 2 (by decide), h 3 (by decide)]

/-- The gate products in chunks. -/
theorem gates : AtS (val_main_v37 (F := Ideal) x g w) (fun e => pre (nat2 x) (nat2 g) (fun f d => nat4 w e 8 f d)) := fun i => by
  rw [val_main_v37_apply, val_main_v36_apply, val_main_v35_apply]
  have h0 : (i 0).val < 4 := (i 0).isLt
  have h1 : (i 1).val < 16384 := (i 1).isLt
  have h2 : (i 2).val < 704 := (i 2).isLt
  refine (gate x g w (idx_main_v35 (idx_main_v36 i))).trans ?_
  show pre _ _ (fun f d => nat4 w ((((i 1).val * 4 + (i 0).val) * 704 + (i 2).val) % 2816 / 704) 8 f d) ((((i 1).val * 4 + (i 0).val) * 704 + (i 2).val) / 2816)
    ((((i 1).val * 4 + (i 0).val) * 704 + (i 2).val) % 2816 % 704) = _
  rw [show (((i 1).val * 4 + (i 0).val) * 704 + (i 2).val) % 2816 / 704 = (i 0).val by omega, show (((i 1).val * 4 + (i 0).val) * 704 + (i 2).val) / 2816 = (i 1).val by omega,
    show (((i 1).val * 4 + (i 0).val) * 704 + (i 2).val) % 2816 % 704 = (i 2).val by omega]

/-- The up products in chunks. -/
theorem ups : AtS (val_main_v40 (F := Ideal) x g w) (fun e => pre (nat2 x) (nat2 g) (fun f d => nat4 w e 12 f d)) := fun i => by
  rw [val_main_v40_apply, val_main_v39_apply, val_main_v38_apply]
  have h0 : (i 0).val < 4 := (i 0).isLt
  have h1 : (i 1).val < 16384 := (i 1).isLt
  have h2 : (i 2).val < 704 := (i 2).isLt
  refine (up x g w (idx_main_v38 (idx_main_v39 i))).trans ?_
  show pre _ _ (fun f d => nat4 w ((((i 1).val * 4 + (i 0).val) * 704 + (i 2).val) % 2816 / 704) 12 f d) ((((i 1).val * 4 + (i 0).val) * 704 + (i 2).val) / 2816)
    ((((i 1).val * 4 + (i 0).val) * 704 + (i 2).val) % 2816 % 704) = _
  rw [show (((i 1).val * 4 + (i 0).val) * 704 + (i 2).val) % 2816 / 704 = (i 0).val by omega, show (((i 1).val * 4 + (i 0).val) * 704 + (i 2).val) / 2816 = (i 1).val by omega,
    show (((i 1).val * 4 + (i 0).val) * 704 + (i 2).val) % 2816 % 704 = (i 2).val by omega]

end Cert.FfnFwdRef
-- ==== Proof.FfnFwdAlgebraic.lean ====
/-
  The feed-forward network's forward pass: the kernel's four results are the reference's.
-/
module

public import proofs.«01_k».proof.Defs
public import proofs.«01_k».proof.Proof.FfnFwdValue
public import proofs.«01_k».proof.Proof.FfnFwdRef
public import proofs.«01_k».proof.Proof.Gen.FfnFwdIdeal.Value
public import proofs.«01_k».proof.Proof.Gen.FfnFwdRefIdeal
public import proofs.«01_k».proof.Proof.Gen.FfnFwdRefIdeal.Run
public import Idealize.ShloMosaic.Lib.Claim

@[expose] public section

set_option maxRecDepth 16384

noncomputable section

namespace Cert.FfnFwdValue

open Idealize.ShloMosaic Idealize.ShloMosaic.TcCoe Idealize.SL.Sem
open Cert.FfnFwdIdeal Cert.FfnFwdIdeal.Gen Cert.FfnFwdIdeal.Value

/-- A function of three at equal arguments. -/
theorem cong_three {A B C R : Type} (f : A → B → C → R) {a a' : A} {b b' : B} {c c' : C} (ha : a = a') (hb : b = b') (hc : c = c') :
    f a b c = f a' b' c' := by rw [ha, hb, hc]

/-- A function of four at equal arguments. -/
theorem cong_four {A B C D R : Type} (f : A → B → C → D → R) {a a' : A} {b b' : B} {c c' : C} {d d' : D} (ha : a = a') (hb : b = b') (hc : c = c')
    (hd : d = d') : f a b c d = f a' b' c' d' := by rw [ha, hb, hc, hd]

/-- The kernel computes the reference's output, normed input, gate and up products. -/
theorem algebraic : Cert.algebraic_FfnFwdIdeal_FfnFwdRefIdeal := by
  pair_intro
  · run_from Cert.FfnFwdIdeal.Value.run_blocks m g
  · refine (θ_run Cert.FfnFwdRefIdeal.defs _ _).mono (fun r h c => ?_) (Cert.FfnFwdRefIdeal.Value.run (F := Ideal) m' g')
    have ha := hagree c
    have hc := h c
    refine ⟨(hc.1.trans (Cert.FfnFwdRefIdeal.Read.val_main_v33_eq _ _ _ _)).trans (Eq.trans ?_
        (final5 m c _ _ _ _ rfl rfl rfl rfl _ (Cert.FfnFwdRef.output _ _ _ _)).symm),
      (hc.2.1.trans (Cert.FfnFwdRefIdeal.Read.val_main_v34_eq _ _)).trans (Eq.trans ?_
        (final6 m c _ _ rfl rfl _ (Cert.FfnFwdRef.normed _ _)).symm),
      (hc.2.2.1.trans (Cert.FfnFwdRefIdeal.Read.val_main_v37_eq _ _ _)).trans (Eq.trans ?_
        (final7 m c _ _ _ rfl rfl rfl _ (Cert.FfnFwdRef.gates _ _ _)).symm),
      (hc.2.2.2.1.trans (Cert.FfnFwdRefIdeal.Read.val_main_v40_eq _ _ _)).trans (Eq.trans ?_
        (final8 m c _ _ _ rfl rfl rfl _ (Cert.FfnFwdRef.ups _ _ _)).symm), hc.2.2.2.2⟩
    · exact cong_four (Cert.FfnFwdRefIdeal.Read.val_main_v33 (F := Ideal)) ha.1 ha.2.1 ha.2.2.1 ha.2.2.2
    · exact congrArg₂ (Cert.FfnFwdRefIdeal.Read.val_main_v25 (F := Ideal)) ha.1 ha.2.1
    · exact cong_three (Cert.FfnFwdRefIdeal.Read.val_main_v37 (F := Ideal)) ha.1 ha.2.1 ha.2.2.1
    · exact cong_three (Cert.FfnFwdRefIdeal.Read.val_main_v40 (F := Ideal)) ha.1 ha.2.1 ha.2.2.1

end Cert.FfnFwdValue
-- ==== Proof.FfnWgradFrames.lean ====
/-
  The feed-forward network's weight gradients: the program in machine arithmetic and its idealized twin are the same text, so what is proved of one holds of
  the other, and both end with their arguments unchanged and their counters at zero.
-/
module

public import proofs.«01_k».proof.Defs
public import proofs.«01_k».proof.Proof.Gen.FfnWgrad
public import proofs.«01_k».proof.Proof.Gen.FfnWgradIdeal.Frame
public import proofs.«01_k».proof.Proof.Gen.FfnWgradRefIdeal
public import proofs.«01_k».proof.Proof.Gen.FfnWgradRefIdeal.Run
public import Idealize.ShloMosaic.Lib.Claim
public import Idealize.ShloMosaic.Lib.Quiescent

@[expose] public section

set_option maxRecDepth 16384

noncomputable section

namespace Cert.FfnWgradFrames

open Idealize.ShloMosaic Idealize.SL.Sem

/-- The two kernel bodies. -/
theorem body_eq : @Cert.FfnWgrad.cc0_ffn_wgrad Bits _ _ = @Cert.FfnWgradIdeal.cc0_ffn_wgrad Bits _ _ := rfl

/-- The two tables of kernel bodies. -/
theorem bodies_eq : @Cert.FfnWgrad.defs₀ Bits _ _ = @Cert.FfnWgradIdeal.defs₀ Bits _ _ := by
  refine congrArg Defs.onTc ?_
  funext l x
  match l, x with
  | 0, (t, s) => rfl
  | ⟨n + 1, h⟩, _ => omega

/-- The two tables with the pipelines' own bodies. -/
theorem defs_eq : @Cert.FfnWgrad.defs Bits _ _ = @Cert.FfnWgradIdeal.defs Bits _ _ :=
  congrArg (Pipeline.defs Cert.FfnWgradIdeal.pcfgs) bodies_eq

/-- The two programs around the call. -/
theorem main_eq : (Cert.FfnWgrad.main (F := Bits)) = Cert.FfnWgradIdeal.main (F := Bits) := rfl

/-- The kernel, in machine arithmetic. -/
theorem quiet_kernel : Cert.quiescent_FfnWgrad := fun m ρ _ => by
  rw [defs_eq, main_eq]
  exact Cert.FfnWgradIdeal.Gen.frame (F := Bits) m ρ

/-- The kernel, in exact arithmetic. -/
theorem quiet_ideal : Cert.quiescent_FfnWgradIdeal := fun m ρ _ => Cert.FfnWgradIdeal.Gen.frame (F := Ideal) m ρ

/-- The reference: it declares no counter, so every one is zero. -/
theorem quiet_reference : Cert.quiescent_FfnWgradRefIdeal := fun m ρ _ =>
  (θ_run Cert.FfnWgradRefIdeal.defs _ _).mono
    (fun r h => ⟨fun c => (h c).2.2.2, sem_eq_zero_of_no_sems (by decide) r.2⟩)
    (Cert.FfnWgradRefIdeal.Value.run (F := Ideal) m ρ)

end Cert.FfnWgradFrames
-- ==== Proof.FfnWgradValue.lean ====
/-
  The feed-forward network's weight gradients: each array the kernel leaves is a sum over all tokens, which it takes in
  eight runs of 2048.
-/
module

public import proofs.«01_k».proof.Proof.FfnMath
public import proofs.«01_k».proof.Proof.Gen.FfnWgradIdeal.Value
public import proofs.«01_k».proof.Proof.Gen.FfnWgradRefIdeal.Read

@[expose] public section

set_option maxRecDepth 16384

noncomputable section

namespace Cert.FfnWgradValue

open Cert.FfnWgradIdeal Cert.FfnWgradIdeal.Gen Cert.FfnWgradIdeal.Value Cert.Ffn
open Idealize.ShloMosaic Idealize.ShloMosaic.TcCoe Idealize.SL.Sem
open Finset

/-! ## One point -/

/-- The product the kernel takes: over the tokens of both operands. -/
theorem dot {φ₁ φ₂ : FTy} (x : FVec Ideal S2048x704 φ₁) (y : FVec Ideal S2048x1024 φ₂) (f g : ℕ → ℕ → EReal) (hx : At2 x f) (hy : At2 y g) :
    At2 (matmul dot_S2048x704_S2048x1024_S704x1024_0_0_1_1_n_n none x y (constant (F := Ideal) S704x1024 .f32 0x00000000#32))
      (fun i k => ∑ j ∈ range 2048, f j i * g j k) := fun i =>
  dot_at dot_S2048x704_S2048x1024_S704x1024_0_0_1_1_n_n 2048 rfl rfl x y i (fun j => f j (i 0).val) (fun j => g j (i 1).val)
    (fun k => (hx _).trans (by
      have e0 := (dot_S2048x704_S2048x1024_S704x1024_0_0_1_1_n_n.lhsIdx_val_of_single rfl i
        ((ValueIdx.contrEquiv1 dot_S2048x704_S2048x1024_S704x1024_0_0_1_1_n_n 2048 rfl rfl).symm k)).trans (ValueIdx.contrEquiv1_symm_val dot_S2048x704_S2048x1024_S704x1024_0_0_1_1_n_n 2048 rfl rfl k)
      have e1 : ∀ q, (dot_S2048x704_S2048x1024_S704x1024_0_0_1_1_n_n.lhsIdx i q 1).val = (i 0).val := fun q => by
        unfold DotDims.lhsIdx
        rw [dif_neg (show ¬(1 : Fin S2048x704.rank) ∈ dot_S2048x704_S2048x1024_S704x1024_0_0_1_1_n_n.lhsBatch by decide),
          dif_pos (show (1 : Fin S2048x704.rank) ∈ dot_S2048x704_S2048x1024_S704x1024_0_0_1_1_n_n.lhsNonContracting by decide)]
        rfl
      rw [e0, e1]))
    (fun k => (hy _).trans (by
      have e0 := (dot_S2048x704_S2048x1024_S704x1024_0_0_1_1_n_n.rhsIdx_val_of_single rfl i
        ((ValueIdx.contrEquiv1 dot_S2048x704_S2048x1024_S704x1024_0_0_1_1_n_n 2048 rfl rfl).symm k)).trans (ValueIdx.contrEquiv1_symm_val dot_S2048x704_S2048x1024_S704x1024_0_0_1_1_n_n 2048 rfl rfl k)
      have e1 : ∀ q, (dot_S2048x704_S2048x1024_S704x1024_0_0_1_1_n_n.rhsIdx i q 1).val = (i 1).val := fun q => by
        unfold DotDims.rhsIdx
        rw [dif_neg (show ¬(1 : Fin S2048x1024.rank) ∈ dot_S2048x704_S2048x1024_S704x1024_0_0_1_1_n_n.rhsBatch by decide),
          dif_pos (show (1 : Fin S2048x1024.rank) ∈ dot_S2048x704_S2048x1024_S704x1024_0_0_1_1_n_n.rhsNonContracting by decide)]
        rfl
      rw [e0, e1]))

/-- One point's contribution to the gate's gradient, added to what was there. -/
theorem pay5 (h : FVec Ideal S2048x1024 .bf16) (acc : FVec Ideal S1x704x1024 .f32) (d : FVec Ideal S1x2048x704 .bf16) (f g a : ℕ → ℕ → EReal)
    (hh : At2 h g) (hd : At3 d f) (ha : At3 acc a) :
    At3 (k0_pay5 (F := Ideal) h acc d) (fun i k => a i k + ∑ j ∈ range 2048, f j i * g j k) :=
  at_cast23 (f := fun i k => a i k + ∑ j ∈ range 2048, f j i * g j k)
    (fun i => congrArg₂ (fun u v : EReal => u + v) (at_cast32 ha _ i) (dot _ _ f g (at_cast32 hd _) hh i)) _

/-- One point's contribution to the other gradient of the first product, added to what was there. -/
theorem pay6 (h : FVec Ideal S2048x1024 .bf16) (acc : FVec Ideal S1x704x1024 .f32) (d : FVec Ideal S1x2048x704 .bf16) (f g a : ℕ → ℕ → EReal)
    (hh : At2 h g) (hd : At3 d f) (ha : At3 acc a) :
    At3 (k0_pay6 (F := Ideal) h acc d) (fun i k => a i k + ∑ j ∈ range 2048, f j i * g j k) :=
  at_cast23 (f := fun i k => a i k + ∑ j ∈ range 2048, f j i * g j k)
    (fun i => congrArg₂ (fun u v : EReal => u + v) (at_cast32 ha _ i) (dot _ _ f g (at_cast32 hd _) hh i)) _

/-- One point's contribution to the second product's gradient, half the product, added to what was there. -/
theorem pay1 (h : FVec Ideal S2048x1024 .bf16) (acc : FVec Ideal S1x704x1024 .f32) (d : FVec Ideal S1x2048x704 .bf16) (f g a : ℕ → ℕ → EReal)
    (hh : At2 h g) (hd : At3 d f) (ha : At3 acc a) :
    At3 (k0_pay1 (F := Ideal) (k0_pay7 acc) d h) (fun i k => a i k + ((1 / 2 : ℝ) : EReal) * ∑ j ∈ range 2048, f j i * g j k) :=
  at_cast23 (f := fun i k => a i k + ((1 / 2 : ℝ) : EReal) * ∑ j ∈ range 2048, f j i * g j k)
    (fun i => congrArg₂ (fun u v : EReal => u + v) (at_cast32 ha _ i)
      (congrArg₂ (fun u v : EReal => u * v) ofBits_half (dot _ _ f g (at_cast32 hd _) hh i))) _

/-- The starting value. -/
theorem zero2 : At3 (k0_pay2 (F := Ideal)) (fun _ _ => 0) := at_cast23 (f := fun _ _ => 0) (fun _ => Ideal.ofBits_zero_f32) shapeCasts_S704x1024_S1x704x1024
/-- The starting value. -/
theorem zero3 : At3 (k0_pay3 (F := Ideal)) (fun _ _ => 0) := at_cast23 (f := fun _ _ => 0) (fun _ => Ideal.ofBits_zero_f32) shapeCasts_S704x1024_S1x704x1024
/-- The starting value. -/
theorem zero4 : At3 (k0_pay4 (F := Ideal)) (fun _ _ => 0) := at_cast23 (f := fun _ _ => 0) (fun _ => Ideal.ofBits_zero_f32) shapeCasts_S704x1024_S1x704x1024

/-! ## The blocks -/

variable (m : (ℓ : Loc nD τ sig) → Buf (Elt Ideal) ℓ)

/-- The index maps: the run of tokens, and the chunk of the hidden units. -/
theorem idx : ∀ t : Fin cfg0.N, win0_0.index t = ![t.val % 8, 0] ∧ win0_1.index t = ![t.val % 8, 0]
    ∧ win0_2.index t = ![t.val / 8, t.val % 8, 0] ∧ win0_3.index t = ![t.val / 8, t.val % 8, 0] ∧ win0_4.index t = ![t.val / 8, t.val % 8, 0] :=
  (by decide +kernel : ∀ t : Fin grid0.N, _)

theorem read0 {c : Dev nD} (W : (b : Ref sig .tc) → Buf (Elt Ideal) ((c : Thread nD τ).loc b)) (t : Fin cfg0.N) (y) :
    ((cfg0.win 0).blk t).view.read (Elt Ideal) (W (Pipeline.arrRef spec0 0)) y = W main_arg0 (((cfg0.win 0).blk t).view.emb y) := rfl
theorem read1 {c : Dev nD} (W : (b : Ref sig .tc) → Buf (Elt Ideal) ((c : Thread nD τ).loc b)) (t : Fin cfg0.N) (y) :
    ((cfg0.win 1).blk t).view.read (Elt Ideal) (W (Pipeline.arrRef spec0 1)) y = W main_arg1 (((cfg0.win 1).blk t).view.emb y) := rfl
theorem read2 {c : Dev nD} (W : (b : Ref sig .tc) → Buf (Elt Ideal) ((c : Thread nD τ).loc b)) (t : Fin cfg0.N) (y) :
    ((cfg0.win 2).blk t).view.read (Elt Ideal) (W (Pipeline.arrRef spec0 2)) y = W main_arg2 (((cfg0.win 2).blk t).view.emb y) := rfl
theorem read3 {c : Dev nD} (W : (b : Ref sig .tc) → Buf (Elt Ideal) ((c : Thread nD τ).loc b)) (t : Fin cfg0.N) (y) :
    ((cfg0.win 3).blk t).view.read (Elt Ideal) (W (Pipeline.arrRef spec0 3)) y = W main_arg3 (((cfg0.win 3).blk t).view.emb y) := rfl
theorem read4 {c : Dev nD} (W : (b : Ref sig .tc) → Buf (Elt Ideal) ((c : Thread nD τ).loc b)) (t : Fin cfg0.N) (y) :
    ((cfg0.win 4).blk t).view.read (Elt Ideal) (W (Pipeline.arrRef spec0 4)) y = W main_arg4 (((cfg0.win 4).blk t).view.emb y) := rfl

/-- The block of the normalised input. -/
theorem blk0 (c : Dev nD) (X) (hX : m ((c : Thread nD τ).loc main_arg0) = X) (t : Fin cfg0.N) :
    At2 (iblk m c 0 t) (fun r d => nat2 X (2048 * (t.val % 8) + r) d) := fun y => by
  refine ((read0 (V m c) t y).trans (congrFun ((V_main_arg0 m c).trans hX) _)).trans ((nat2_val X _).trans ?_)
  have e := (idx t).1
  have a0 : ((((cfg0.win 0).blk t).view.emb y) 0).val = win0_0.index t 0 * 2048 + (y 0).val := Pipeline.Window.rect_emb_val win0_0 t y 0 rfl
  have a1 : ((((cfg0.win 0).blk t).view.emb y) 1).val = win0_0.index t 1 * 1024 + (y 1).val := Pipeline.Window.rect_emb_val win0_0 t y 1 rfl
  rw [e] at a0 a1
  have a0' : _ = t.val % 8 * 2048 + (y 0).val := a0
  have a1' : _ = 0 * 1024 + (y 1).val := a1
  exact congrArg₂ (nat2 X) (a0'.trans (by rw [Nat.mul_comm])) (a1'.trans (by omega))

/-- The block of the output's gradient. -/
theorem blk1 (c : Dev nD) (X) (hX : m ((c : Thread nD τ).loc main_arg1) = X) (t : Fin cfg0.N) :
    At2 (iblk m c 1 t) (fun r d => nat2 X (2048 * (t.val % 8) + r) d) := fun y => by
  refine ((read1 (V m c) t y).trans (congrFun ((V_main_arg1 m c).trans hX) _)).trans ((nat2_val X _).trans ?_)
  have e := (idx t).2.1
  have a0 : ((((cfg0.win 1).blk t).view.emb y) 0).val = win0_1.index t 0 * 2048 + (y 0).val := Pipeline.Window.rect_emb_val win0_1 t y 0 rfl
  have a1 : ((((cfg0.win 1).blk t).view.emb y) 1).val = win0_1.index t 1 * 1024 + (y 1).val := Pipeline.Window.rect_emb_val win0_1 t y 1 rfl
  rw [e] at a0 a1
  have a0' : _ = t.val % 8 * 2048 + (y 0).val := a0
  have a1' : _ = 0 * 1024 + (y 1).val := a1
  exact congrArg₂ (nat2 X) (a0'.trans (by rw [Nat.mul_comm])) (a1'.trans (by omega))

/-- A chunk's entry, at equal coordinates. -/
theorem at3 (X : (⟨3, ![4, 16384, 704]⟩ : Shape).Idx → EReal) {i j k i' j' k' : ℕ} (hi : i = i') (hj : j = j') (hk : k = k') :
    nat3 X i j k = nat3 X i' j' k' := by rw [hi, hj, hk]

/-- The block of the gate's gradient. -/
theorem blk2 (c : Dev nD) (X) (hX : m ((c : Thread nD τ).loc main_arg2) = X) (t : Fin cfg0.N) :
    At3 (iblk m c 2 t) (fun r d => nat3 X (t.val / 8) (2048 * (t.val % 8) + r) d) := fun y => by
  refine ((read2 (V m c) t y).trans (congrFun ((V_main_arg2 m c).trans hX) _)).trans ((nat3_val X _).trans ?_)
  have e := (idx t).2.2.1
  have a0 : ((((cfg0.win 2).blk t).view.emb y) 0).val = win0_2.index t 0 * 1 + (y 0).val := Pipeline.Window.rect_emb_val win0_2 t y 0 rfl
  have a1 : ((((cfg0.win 2).blk t).view.emb y) 1).val = win0_2.index t 1 * 2048 + (y 1).val := Pipeline.Window.rect_emb_val win0_2 t y 1 rfl
  have a2 : ((((cfg0.win 2).blk t).view.emb y) 2).val = win0_2.index t 2 * 704 + (y 2).val := Pipeline.Window.rect_emb_val win0_2 t y 2 rfl
  rw [e] at a0 a1 a2
  have a0' : _ = t.val / 8 * 1 + (y 0).val := a0
  have a1' : _ = t.val % 8 * 2048 + (y 1).val := a1
  have a2' : _ = 0 * 704 + (y 2).val := a2
  have y0 : (y 0).val < 1 := (y 0).isLt
  exact at3 X (a0'.trans (by omega)) (a1'.trans (by rw [Nat.mul_comm])) (a2'.trans (by omega))

/-- The block of the other gradient of the first product. -/
theorem blk3 (c : Dev nD) (X) (hX : m ((c : Thread nD τ).loc main_arg3) = X) (t : Fin cfg0.N) :
    At3 (iblk m c 3 t) (fun r d => nat3 X (t.val / 8) (2048 * (t.val % 8) + r) d) := fun y => by
  refine ((read3 (V m c) t y).trans (congrFun ((V_main_arg3 m c).trans hX) _)).trans ((nat3_val X _).trans ?_)
  have e := (idx t).2.2.2.1
  have a0 : ((((cfg0.win 3).blk t).view.emb y) 0).val = win0_3.index t 0 * 1 + (y 0).val := Pipeline.Window.rect_emb_val win0_3 t y 0 rfl
  have a1 : ((((cfg0.win 3).blk t).view.emb y) 1).val = win0_3.index t 1 * 2048 + (y 1).val := Pipeline.Window.rect_emb_val win0_3 t y 1 rfl
  have a2 : ((((cfg0.win 3).blk t).view.emb y) 2).val = win0_3.index t 2 * 704 + (y 2).val := Pipeline.Window.rect_emb_val win0_3 t y 2 rfl
  rw [e] at a0 a1 a2
  have a0' : _ = t.val / 8 * 1 + (y 0).val := a0
  have a1' : _ = t.val % 8 * 2048 + (y 1).val := a1
  have a2' : _ = 0 * 704 + (y 2).val := a2
  have y0 : (y 0).val < 1 := (y 0).isLt
  exact at3 X (a0'.trans (by omega)) (a1'.trans (by rw [Nat.mul_comm])) (a2'.trans (by omega))

/-- The block of the hidden units. -/
theorem blk4 (c : Dev nD) (X) (hX : m ((c : Thread nD τ).loc main_arg4) = X) (t : Fin cfg0.N) :
    At3 (iblk m c 4 t) (fun r d => nat3 X (t.val / 8) (2048 * (t.val % 8) + r) d) := fun y => by
  refine ((read4 (V m c) t y).trans (congrFun ((V_main_arg4 m c).trans hX) _)).trans ((nat3_val X _).trans ?_)
  have e := (idx t).2.2.2.2
  have a0 : ((((cfg0.win 4).blk t).view.emb y) 0).val = win0_4.index t 0 * 1 + (y 0).val := Pipeline.Window.rect_emb_val win0_4 t y 0 rfl
  have a1 : ((((cfg0.win 4).blk t).view.emb y) 1).val = win0_4.index t 1 * 2048 + (y 1).val := Pipeline.Window.rect_emb_val win0_4 t y 1 rfl
  have a2 : ((((cfg0.win 4).blk t).view.emb y) 2).val = win0_4.index t 2 * 704 + (y 2).val := Pipeline.Window.rect_emb_val win0_4 t y 2 rfl
  rw [e] at a0 a1 a2
  have a0' : _ = t.val / 8 * 1 + (y 0).val := a0
  have a1' : _ = t.val % 8 * 2048 + (y 1).val := a1
  have a2' : _ = 0 * 704 + (y 2).val := a2
  have y0 : (y 0).val < 1 := (y 0).isLt
  exact at3 X (a0'.trans (by omega)) (a1'.trans (by rw [Nat.mul_comm])) (a2'.trans (by omega))

/-! ## A run of points -/

/-- One run of tokens' sum. -/
def part (X : (⟨3, ![4, 16384, 704]⟩ : Shape).Idx → EReal) (Y : (⟨2, ![16384, 1024]⟩ : Shape).Idx → EReal) (e s i k : ℕ) : EReal :=
  ∑ j ∈ range 2048, nat3 X e (2048 * s + j) i * nat2 Y (2048 * s + j) k

/-- A fold that starts at a term and adds one at each step is the sum of the terms. -/
theorem fold (a : (n : ℕ) → n < cfg0.N → FVec Ideal S1x704x1024 .f32) (g : (n : ℕ) → n < cfg0.N → FVec Ideal S1x704x1024 .f32 → FVec Ideal S1x704x1024 .f32)
    (T : ℕ → ℕ → ℕ → ℕ → EReal) (ha : ∀ n h, At3 (a n h) (T (n / 8) (n % 8)))
    (hg : ∀ n h acc f, At3 acc f → At3 (g n h acc) (fun i k => f i k + T (n / 8) (n % 8) i k)) (q j : ℕ) (hj : j < 8) (h : 8 * q + j < cfg0.N) :
    At3 (Pipeline.accAt a g (8 * q) j h) (fun i k => ∑ s ∈ range (j + 1), T q s i k) := by
  induction j with
  | zero =>
    have := ha (8 * q) h
    rw [show 8 * q / 8 = q by omega, show 8 * q % 8 = 0 by omega] at this
    intro y
    rw [Pipeline.accAt_zero]
    exact (this y).trans (sum_range_one (fun s => T q s (y 1).val (y 2).val)).symm
  | succ j ih =>
    have := hg (8 * q + (j + 1)) h _ _ (ih (by omega) (Nat.lt_of_succ_lt h))
    rw [show (8 * q + (j + 1)) / 8 = q by omega, show (8 * q + (j + 1)) % 8 = j + 1 by omega] at this
    intro y
    rw [Pipeline.accAt_succ]
    exact (this y).trans (sum_range_succ (fun s => T q s (y 1).val (y 2).val) (j + 1)).symm

/-- The whole run of the gate's gradient. -/
theorem run5 (c : Dev nD) (X Y) (hX : m ((c : Thread nD τ).loc main_arg2) = X) (hY : m ((c : Thread nD τ).loc main_arg0) = Y) (q : ℕ) (h : 8 * q + 7 < cfg0.N) :
    At3 (Pipeline.accAt (reset5 m c) (step5 m c) (8 * q) 7 h) (fun i k => ∑ s ∈ range 8, part X Y q s i k) :=
  fold (reset5 m c) (step5 m c) (fun e s i k => part X Y e s i k)
    (fun n h y => (pay5 _ _ _ _ _ _ (blk0 m c Y hY ⟨n, h⟩) (blk2 m c X hX ⟨n, h⟩) zero2 y).trans (zero_add _))
    (fun n h acc f hf => pay5 _ _ _ _ _ _ (blk0 m c Y hY ⟨n, h⟩) (blk2 m c X hX ⟨n, h⟩) hf) q 7 (by decide) h

/-- The whole run of the other gradient of the first product. -/
theorem run6 (c : Dev nD) (X Y) (hX : m ((c : Thread nD τ).loc main_arg3) = X) (hY : m ((c : Thread nD τ).loc main_arg0) = Y) (q : ℕ) (h : 8 * q + 7 < cfg0.N) :
    At3 (Pipeline.accAt (reset6 m c) (step6 m c) (8 * q) 7 h) (fun i k => ∑ s ∈ range 8, part X Y q s i k) :=
  fold (reset6 m c) (step6 m c) (fun e s i k => part X Y e s i k)
    (fun n h y => (pay6 _ _ _ _ _ _ (blk0 m c Y hY ⟨n, h⟩) (blk3 m c X hX ⟨n, h⟩) zero3 y).trans (zero_add _))
    (fun n h acc f hf => pay6 _ _ _ _ _ _ (blk0 m c Y hY ⟨n, h⟩) (blk3 m c X hX ⟨n, h⟩) hf) q 7 (by decide) h

/-- The whole run of the second product's gradient. -/
theorem run7 (c : Dev nD) (X Y) (hX : m ((c : Thread nD τ).loc main_arg4) = X) (hY : m ((c : Thread nD τ).loc main_arg1) = Y) (q : ℕ) (h : 8 * q + 7 < cfg0.N) :
    At3 (Pipeline.accAt (reset7 m c) (step7 m c) (8 * q) 7 h) (fun i k => ∑ s ∈ range 8, ((1 / 2 : ℝ) : EReal) * part X Y q s i k) :=
  fold (reset7 m c) (step7 m c) (fun e s i k => ((1 / 2 : ℝ) : EReal) * part X Y e s i k)
    (fun n h y => (pay1 _ _ _ _ _ _ (blk1 m c Y hY ⟨n, h⟩) (blk4 m c X hX ⟨n, h⟩) zero4 y).trans (zero_add _))
    (fun n h acc f hf => pay1 _ _ _ _ _ _ (blk1 m c Y hY ⟨n, h⟩) (blk4 m c X hX ⟨n, h⟩) hf) q 7 (by decide) h

/-- The runs' sums are the sum over all tokens. -/
theorem all (X Y) (e i k : ℕ) : ∑ s ∈ range 8, part X Y e s i k = ∑ t ∈ range 16384, nat3 X e t i * nat2 Y t k :=
  (runs (fun t => nat3 X e t i * nat2 Y t k) 2048 8).symm

/-! ## The arrays -/

/-- The place in a block of an array's entry. -/
theorem loc_at {f : ℕ → ℕ → ℕ → EReal} (i : S4x704x1024.Idx) : f (1 * ((i 0).val / 1 - 0) + 1 * ((i 1).val / 704 - 0) + 1 * ((i 2).val / 1024 - 0)) ((i 1).val % 704) ((i 2).val % 1024)
    = f (i 0).val (i 1).val (i 2).val := by
  have h1 : (i 1).val < 704 := (i 1).isLt
  have h2 : (i 2).val < 1024 := (i 2).isLt
  rw [show 1 * ((i 0).val / 1 - 0) + 1 * ((i 1).val / 704 - 0) + 1 * ((i 2).val / 1024 - 0) = (i 0).val by omega, Nat.mod_eq_of_lt h1, Nat.mod_eq_of_lt h2]

/-- The gradient of the gate's weights is the reference's. -/
theorem grad5 (c : Dev nD) : G5 m c = Cert.FfnWgradRefIdeal.Read.val_main_v7 (F := Ideal) (m ((c : Thread nD τ).loc main_arg0)) (m ((c : Thread nD τ).loc main_arg2)) := by
  generalize hY : m ((c : Thread nD τ).loc main_arg0) = Y
  generalize hX : m ((c : Thread nD τ).loc main_arg2) = X
  funext i
  have h0 : (i 0).val < 4 := (i 0).isLt
  have h1 : (i 1).val < 704 := (i 1).isLt
  have h2 : (i 2).val < 1024 := (i 2).isLt
  have hN : 8 * run5Of i + 7 < cfg0.N := lt_of_lt_of_eq (show 8 * (1 * ((i 0).val / 1 - 0) + 1 * ((i 1).val / 704 - 0) + 1 * ((i 2).val / 1024 - 0)) + 7 < 32 by omega) N_0.symm
  refine (dif_pos hN).trans ((run5 m c X Y hX hY _ hN _).trans ((loc_at (f := fun e i k => ∑ s ∈ range 8, part X Y e s i k) i).trans ?_))
  rw [Cert.FfnWgradRefIdeal.Read.val_main_v7_apply]
  refine (all X Y _ _ _).trans ((Finset.sum_range _).trans (Finset.sum_congr rfl fun k _ => ?_))
  rw [Cert.FfnWgradRefIdeal.Read.val_main_v6_apply]
  exact congrArg₂ (fun u v : EReal => u * v) (nat3_val X (Cert.FfnWgradRefIdeal.Read.idx_main_v6 (Cert.FfnWgradRefIdeal.Read.lidx_main_v7 i k))).symm (nat2_val Y (Cert.FfnWgradRefIdeal.Read.ridx_main_v7 i k)).symm

/-- The gradient of the other weights of the first product is the reference's. -/
theorem grad6 (c : Dev nD) : G6 m c = Cert.FfnWgradRefIdeal.Read.val_main_v12 (F := Ideal) (m ((c : Thread nD τ).loc main_arg0)) (m ((c : Thread nD τ).loc main_arg3)) := by
  generalize hY : m ((c : Thread nD τ).loc main_arg0) = Y
  generalize hX : m ((c : Thread nD τ).loc main_arg3) = X
  funext i
  have h0 : (i 0).val < 4 := (i 0).isLt
  have h1 : (i 1).val < 704 := (i 1).isLt
  have h2 : (i 2).val < 1024 := (i 2).isLt
  have hN : 8 * run6Of i + 7 < cfg0.N := lt_of_lt_of_eq (show 8 * (1 * ((i 0).val / 1 - 0) + 1 * ((i 1).val / 704 - 0) + 1 * ((i 2).val / 1024 - 0)) + 7 < 32 by omega) N_0.symm
  refine (dif_pos hN).trans ((run6 m c X Y hX hY _ hN _).trans ((loc_at (f := fun e i k => ∑ s ∈ range 8, part X Y e s i k) i).trans ?_))
  rw [Cert.FfnWgradRefIdeal.Read.val_main_v12_apply]
  refine (all X Y _ _ _).trans ((Finset.sum_range _).trans (Finset.sum_congr rfl fun k _ => ?_))
  rw [Cert.FfnWgradRefIdeal.Read.val_main_v11_apply]
  exact congrArg₂ (fun u v : EReal => u * v) (nat3_val X (Cert.FfnWgradRefIdeal.Read.idx_main_v11 (Cert.FfnWgradRefIdeal.Read.lidx_main_v12 i k))).symm (nat2_val Y (Cert.FfnWgradRefIdeal.Read.ridx_main_v12 i k)).symm

/-- The gradient of the second product's weights is the reference's. -/
theorem grad7 (c : Dev nD) : G7 m c = Cert.FfnWgradRefIdeal.Read.val_main_v20 (F := Ideal) (m ((c : Thread nD τ).loc main_arg1)) (m ((c : Thread nD τ).loc main_arg4)) := by
  generalize hY : m ((c : Thread nD τ).loc main_arg1) = Y
  generalize hX : m ((c : Thread nD τ).loc main_arg4) = X
  funext i
  have h0 : (i 0).val < 4 := (i 0).isLt
  have h1 : (i 1).val < 704 := (i 1).isLt
  have h2 : (i 2).val < 1024 := (i 2).isLt
  have hN : 8 * run7Of i + 7 < cfg0.N := lt_of_lt_of_eq (show 8 * (1 * ((i 0).val / 1 - 0) + 1 * ((i 1).val / 704 - 0) + 1 * ((i 2).val / 1024 - 0)) + 7 < 32 by omega) N_0.symm
  refine (dif_pos hN).trans ((run7 m c X Y hX hY _ hN _).trans ((loc_at (f := fun e i k => ∑ s ∈ range 8, ((1 / 2 : ℝ) : EReal) * part X Y e s i k) i).trans ?_))
  rw [Cert.FfnWgradRefIdeal.Read.val_main_v20_apply, Cert.FfnWgradRefIdeal.Read.val_main_v19_apply]
  show ∑ s ∈ range 8, ((1 / 2 : ℝ) : EReal) * part X Y (i 0).val s (i 1).val (i 2).val = _
  rw [← mul_sum_pos (1 / 2) (by norm_num), all, mul_sum_pos (1 / 2) (by norm_num), Finset.sum_range]
  refine Finset.sum_congr rfl fun k _ => ?_
  rw [Cert.FfnWgradRefIdeal.Read.val_main_v18_apply, Cert.FfnWgradRefIdeal.Read.val_main_v17_apply]
  refine Eq.trans ?_ (congrArg₂ (fun u v : EReal => u * v) (congrArg₂ (fun u v : EReal => u * v) ofBits_half.symm (nat2_val Y _).symm) (nat3_val X _).symm)
  show ((1 / 2 : ℝ) : EReal) * (nat3 X (i 0).val k.val (i 1).val * nat2 Y k.val (i 2).val) = ((1 / 2 : ℝ) : EReal) * nat2 Y k.val (i 2).val * nat3 X (i 0).val k.val (i 1).val
  rw [mul_comm (nat3 X (i 0).val k.val (i 1).val), mul_assoc]

end Cert.FfnWgradValue
-- ==== Proof.FfnWgradAlgebraic.lean ====
/-
  The feed-forward network's weight gradients: the kernel's three results are the reference's.
-/
module

public import proofs.«01_k».proof.Defs
public import proofs.«01_k».proof.Proof.FfnWgradValue
public import proofs.«01_k».proof.Proof.Gen.FfnWgradRefIdeal
public import proofs.«01_k».proof.Proof.Gen.FfnWgradRefIdeal.Run
public import Idealize.ShloMosaic.Lib.Claim

@[expose] public section

set_option maxRecDepth 16384

noncomputable section

namespace Cert.FfnWgradValue

open Idealize.ShloMosaic Idealize.ShloMosaic.TcCoe Idealize.SL.Sem
open Cert.FfnWgradIdeal Cert.FfnWgradIdeal.Gen Cert.FfnWgradIdeal.Value

/-- The kernel computes the reference's gradients of the three weights. -/
theorem algebraic : Cert.algebraic_FfnWgradIdeal_FfnWgradRefIdeal := by
  pair_intro
  · run_from Cert.FfnWgradIdeal.Value.run m g
  · refine (θ_run Cert.FfnWgradRefIdeal.defs _ _).mono (fun r h c => ?_) (Cert.FfnWgradRefIdeal.Value.run (F := Ideal) m' g')
    have ha := hagree c
    have hc := h c
    refine ⟨(hc.1.trans (Cert.FfnWgradRefIdeal.Read.val_main_v7_eq _ _)).trans (Eq.trans ?_ (grad5 m c).symm),
      (hc.2.1.trans (Cert.FfnWgradRefIdeal.Read.val_main_v12_eq _ _)).trans (Eq.trans ?_ (grad6 m c).symm),
      (hc.2.2.1.trans (Cert.FfnWgradRefIdeal.Read.val_main_v20_eq _ _)).trans (Eq.trans ?_ (grad7 m c).symm), hc.2.2.2⟩
    · exact congrArg₂ (Cert.FfnWgradRefIdeal.Read.val_main_v7 (F := Ideal)) ha.1 ha.2.2.1
    · exact congrArg₂ (Cert.FfnWgradRefIdeal.Read.val_main_v12 (F := Ideal)) ha.1 ha.2.2.2.1
    · exact congrArg₂ (Cert.FfnWgradRefIdeal.Read.val_main_v20 (F := Ideal)) ha.2.1 ha.2.2.2.2

end Cert.FfnWgradValue
-- ==== Proof.FfnDgradFrames.lean ====
/-
  The feed-forward network's backward pass by the input: the program in machine arithmetic and its idealized twin are the same text, so what is proved of one holds of
  the other, and both end with their arguments unchanged and their counters at zero.
-/
module

public import proofs.«01_k».proof.Defs
public import proofs.«01_k».proof.Proof.Gen.FfnDgrad
public import proofs.«01_k».proof.Proof.Gen.FfnDgrad.Launch
public import proofs.«01_k».proof.Proof.Gen.FfnDgradIdeal.Launch
public import proofs.«01_k».proof.Proof.Gen.FfnDgradIdeal.Frame
public import proofs.«01_k».proof.Proof.Gen.FfnDgradRefIdeal
public import proofs.«01_k».proof.Proof.Gen.FfnDgradRefIdeal.Run
public import proofs.«01_k».proof.Proof.Gen.Pre_finite_ffn
public import Idealize.ShloMosaic.Lib.Claim
public import Idealize.ShloMosaic.Lib.Quiescent

@[expose] public section

set_option maxRecDepth 16384

noncomputable section

namespace Cert.FfnDgradFrames

open Idealize.ShloMosaic Idealize.SL.Sem

/-- The two kernel bodies. -/
theorem body_eq : @Cert.FfnDgrad.cc0_ffn_bwd_dgrad Bits _ _ = @Cert.FfnDgradIdeal.cc0_ffn_bwd_dgrad Bits _ _ := rfl

set_option maxHeartbeats 2000000 in
/-- The two tables of kernel bodies. -/
theorem bodies_eq : @Cert.FfnDgrad.defs₀ Bits _ _ = @Cert.FfnDgradIdeal.defs₀ Bits _ _ := by
  refine congrArg Defs.onTc ?_
  funext l x
  match l, x with
  | 0, (t, s) => rfl
  | ⟨n + 1, h⟩, _ => omega

/-- The two tables with the pipelines' own bodies. -/
theorem defs_eq : @Cert.FfnDgrad.defs Bits _ _ = @Cert.FfnDgradIdeal.defs Bits _ _ :=
  congrArg (Pipeline.defs Cert.FfnDgradIdeal.pcfgs) bodies_eq

set_option maxHeartbeats 1000000 in
/-- The two programs around the call. -/
theorem main_eq (c) : @Cert.FfnDgrad.main Bits _ _ c = @Cert.FfnDgradIdeal.main Bits _ _ c := by
  rw [Cert.FfnDgrad.Gen.main_chain, Cert.FfnDgradIdeal.Gen.main_chain]
  rfl

/-- The kernel, in machine arithmetic. -/
theorem quiet_kernel : Cert.quiescent_FfnDgrad := fun m ρ _ => by
  rw [defs_eq, show @Cert.FfnDgrad.main Bits _ _ = @Cert.FfnDgradIdeal.main Bits _ _ from funext main_eq]
  exact Cert.FfnDgradIdeal.Gen.frame (F := Bits) m ρ

/-- The kernel, in exact arithmetic. -/
theorem quiet_ideal : Cert.quiescent_FfnDgradIdeal := fun m ρ _ => Cert.FfnDgradIdeal.Gen.frame (F := Ideal) m ρ

/-- The kernel, in exact arithmetic on finite arguments. -/
theorem quiet_ideal_finite : Cert.quiescent_FfnDgradIdeal_pre_finite_ffn := fun m ρ _ => Cert.FfnDgradIdeal.Gen.frame (F := Ideal) m ρ

/-- The reference: it declares no counter, so every one is zero. -/
theorem quiet_reference : Cert.quiescent_FfnDgradRefIdeal := fun m ρ _ =>
  (θ_run Cert.FfnDgradRefIdeal.defs _ _).mono
    (fun r h => ⟨fun c => (h c).2.2.2.2.2.2, sem_eq_zero_of_no_sems (by decide) r.2⟩)
    (Cert.FfnDgradRefIdeal.Value.run (F := Ideal) m ρ)

/-- The reference, on finite arguments. -/
theorem quiet_reference_finite : Cert.quiescent_FfnDgradRefIdeal_pre_finite_ffn := fun m g _ => quiet_reference m g trivial

end Cert.FfnDgradFrames
-- ==== Proof.FfnDgradSpec.lean ====
/-
  The feed-forward half's gradients by the tokens and the input in exact arithmetic, as the kernel takes them: over
  matrices by their coordinates, chunk by chunk of the hidden units.
-/
module

public import proofs.«01_k».proof.Proof.FfnSpec

@[expose] public section

noncomputable section

namespace Cert.FfnDgrad

open Cert.Ffn
open Idealize.ShloMosaic Finset

/-- Half the gradient by an activation. -/
def dact (Y : ℕ → ℕ → EReal) (D : ℕ → ℕ → ℕ → EReal) (e t f : ℕ) : EReal := ((1 / 2 : ℝ) : EReal) * ∑ d ∈ range 1024, Y t d * D e f d

/-- The gate's activation. -/
def silu (g : EReal) : EReal := g * Ideal.logistic g

/-- The derivative of the gate's activation. -/
def slope (g : EReal) : EReal := Ideal.logistic g * (1 + g * (1 - Ideal.logistic g))

/-- The gradient by a gate product. -/
def dgate (Y : ℕ → ℕ → EReal) (A B D : ℕ → ℕ → ℕ → EReal) (e t f : ℕ) : EReal := dact Y D e t f * B e t f * slope (A e t f)

/-- The gradient by an up product. -/
def dup (Y : ℕ → ℕ → EReal) (A D : ℕ → ℕ → ℕ → EReal) (e t f : ℕ) : EReal := dact Y D e t f * silu (A e t f)

/-- A chunk's activation, from its gate and up products. -/
def acted (A B : ℕ → ℕ → ℕ → EReal) (e t f : ℕ) : EReal := silu (A e t f) * B e t f

/-- A chunk's share of the gradient by the normed input. -/
def share (Y : ℕ → ℕ → EReal) (A B W U D : ℕ → ℕ → ℕ → EReal) (e t d : ℕ) : EReal :=
  ∑ f ∈ range 704, dgate Y A B D e t f * W e f d + ∑ f ∈ range 704, dup Y A D e t f * U e f d

/-- The gradient by the normed input. -/
def dhid (Y : ℕ → ℕ → EReal) (A B W U D : ℕ → ℕ → ℕ → EReal) (t d : ℕ) : EReal :=
  share Y A B W U D 0 t d + share Y A B W U D 1 t d + share Y A B W U D 2 t d + share Y A B W U D 3 t d

/-- The input over its root mean square. -/
def unit (X : ℕ → ℕ → EReal) (t d : ℕ) : EReal := X t d * rms X t

/-- The gradient by the input, from the gradient by the normed input. -/
def dinput (X G Y H : ℕ → ℕ → EReal) (t d : ℕ) : EReal :=
  Y t d + rms X t * (H t d * G 0 d - unit X t d * Ideal.div (∑ k ∈ range 1024, H t k * G 0 k * unit X t k) (Ideal.ofBits .f32 0x44800000#32))

end Cert.FfnDgrad
-- ==== Proof.FfnDgradPoint.lean ====
/-
  The feed-forward network's gradients: what one point of the grid, a tile of 256 tokens, leaves in its six results.
-/
module

public import proofs.«01_k».proof.Proof.FfnDgradSpec
public import proofs.«01_k».proof.Proof.Gen.FfnDgradIdeal.Value
public import Idealize.ShloMosaic.Lib.Pipeline.ValueKit

@[expose] public section

set_option maxRecDepth 16384

noncomputable section

namespace Cert.FfnDgradValue

open Cert.FfnDgradIdeal Cert.FfnDgradIdeal.Gen Cert.Ffn Cert.FfnDgrad
open Idealize.ShloMosaic Idealize.ShloMosaic.TcCoe Idealize.SL.Sem
open Finset

/-! ## The products and the sums -/

/-- A tile times the transpose of a chunk of the gate's or the up's weights. -/
theorem dotT {φ₁ φ₂ : FTy} (x : FVec Ideal S256x1024 φ₁) (y : FVec Ideal S704x1024 φ₂) (f g : ℕ → ℕ → EReal) (hx : At2 x f) (hy : At2 y g) :
    At2 (matmul dot_S256x1024_S704x1024_S256x704_1_1_0_0_n_n none x y (constant (F := Ideal) S256x704 .f32 0x00000000#32))
      (fun i k => ∑ j ∈ range 1024, f i j * g k j) := fun i =>
  dot_at dot_S256x1024_S704x1024_S256x704_1_1_0_0_n_n 1024 rfl rfl x y i (fun j => f (i 0).val j) (fun j => g (i 1).val j)
    (fun k => (hx _).trans (by
      have e1 := (dot_S256x1024_S704x1024_S256x704_1_1_0_0_n_n.lhsIdx_val_of_single rfl i
        ((ValueIdx.contrEquiv1 dot_S256x1024_S704x1024_S256x704_1_1_0_0_n_n 1024 rfl rfl).symm k)).trans (ValueIdx.contrEquiv1_symm_val dot_S256x1024_S704x1024_S256x704_1_1_0_0_n_n 1024 rfl rfl k)
      have e0 : ∀ q, (dot_S256x1024_S704x1024_S256x704_1_1_0_0_n_n.lhsIdx i q 0).val = (i 0).val := fun q => by
        unfold DotDims.lhsIdx
        rw [dif_neg (show ¬(0 : Fin S256x1024.rank) ∈ dot_S256x1024_S704x1024_S256x704_1_1_0_0_n_n.lhsBatch by decide),
          dif_pos (show (0 : Fin S256x1024.rank) ∈ dot_S256x1024_S704x1024_S256x704_1_1_0_0_n_n.lhsNonContracting by decide)]
        rfl
      rw [e0, e1]))
    (fun k => (hy _).trans (by
      have e1 := (dot_S256x1024_S704x1024_S256x704_1_1_0_0_n_n.rhsIdx_val_of_single rfl i
        ((ValueIdx.contrEquiv1 dot_S256x1024_S704x1024_S256x704_1_1_0_0_n_n 1024 rfl rfl).symm k)).trans (ValueIdx.contrEquiv1_symm_val dot_S256x1024_S704x1024_S256x704_1_1_0_0_n_n 1024 rfl rfl k)
      have e0 : ∀ q, (dot_S256x1024_S704x1024_S256x704_1_1_0_0_n_n.rhsIdx i q 0).val = (i 1).val := fun q => by
        unfold DotDims.rhsIdx
        rw [dif_neg (show ¬(0 : Fin S704x1024.rank) ∈ dot_S256x1024_S704x1024_S256x704_1_1_0_0_n_n.rhsBatch by decide),
          dif_pos (show (0 : Fin S704x1024.rank) ∈ dot_S256x1024_S704x1024_S256x704_1_1_0_0_n_n.rhsNonContracting by decide)]
        rfl
      rw [e0, e1]))

/-- A tile of activations times a chunk of the down weights. -/
theorem dotN {φ₁ φ₂ : FTy} (x : FVec Ideal S256x704 φ₁) (y : FVec Ideal S704x1024 φ₂) (f g : ℕ → ℕ → EReal) (hx : At2 x f) (hy : At2 y g) :
    At2 (matmul dot_S256x704_S704x1024_S256x1024_1_0_0_1_n_n none x y (constant (F := Ideal) S256x1024 .f32 0x00000000#32))
      (fun i k => ∑ j ∈ range 704, f i j * g j k) := fun i =>
  dot_at dot_S256x704_S704x1024_S256x1024_1_0_0_1_n_n 704 rfl rfl x y i (fun j => f (i 0).val j) (fun j => g j (i 1).val)
    (fun k => (hx _).trans (by
      have e1 := (dot_S256x704_S704x1024_S256x1024_1_0_0_1_n_n.lhsIdx_val_of_single rfl i
        ((ValueIdx.contrEquiv1 dot_S256x704_S704x1024_S256x1024_1_0_0_1_n_n 704 rfl rfl).symm k)).trans (ValueIdx.contrEquiv1_symm_val dot_S256x704_S704x1024_S256x1024_1_0_0_1_n_n 704 rfl rfl k)
      have e0 : ∀ q, (dot_S256x704_S704x1024_S256x1024_1_0_0_1_n_n.lhsIdx i q 0).val = (i 0).val := fun q => by
        unfold DotDims.lhsIdx
        rw [dif_neg (show ¬(0 : Fin S256x704.rank) ∈ dot_S256x704_S704x1024_S256x1024_1_0_0_1_n_n.lhsBatch by decide),
          dif_pos (show (0 : Fin S256x704.rank) ∈ dot_S256x704_S704x1024_S256x1024_1_0_0_1_n_n.lhsNonContracting by decide)]
        rfl
      rw [e0, e1]))
    (fun k => (hy _).trans (by
      have e0 := (dot_S256x704_S704x1024_S256x1024_1_0_0_1_n_n.rhsIdx_val_of_single rfl i
        ((ValueIdx.contrEquiv1 dot_S256x704_S704x1024_S256x1024_1_0_0_1_n_n 704 rfl rfl).symm k)).trans (ValueIdx.contrEquiv1_symm_val dot_S256x704_S704x1024_S256x1024_1_0_0_1_n_n 704 rfl rfl k)
      have e1 : ∀ q, (dot_S256x704_S704x1024_S256x1024_1_0_0_1_n_n.rhsIdx i q 1).val = (i 1).val := fun q => by
        unfold DotDims.rhsIdx
        rw [dif_neg (show ¬(1 : Fin S704x1024.rank) ∈ dot_S256x704_S704x1024_S256x1024_1_0_0_1_n_n.rhsBatch by decide),
          dif_pos (show (1 : Fin S704x1024.rank) ∈ dot_S256x704_S704x1024_S256x1024_1_0_0_1_n_n.rhsNonContracting by decide)]
        rfl
      rw [e0, e1]))

/-- The sum of a matrix's column. -/
theorem col_sum (x : FVec Ideal S256x1024 .f32) (f : ℕ → ℕ → EReal) (hx : At2 x f) (j) :
    multiReduction .add [0] S1024 x 0x00000000#32 reduces_S256x1024_S1024 (.inl rfl) rfl j = ∑ k ∈ range 256, f k (j 0).val :=
  (Ideal.multiReduction_add_single x _ reduces_S256x1024_S1024 (.inl rfl) rfl j).trans (by
    rw [Finset.sum_range]
    exact Finset.sum_congr rfl fun k _ => (hx _).trans rfl)

/-- The constant one. -/
theorem ofBits_one : Ideal.ofBits .f32 0x3F800000#32 = 1 := by
  simp [Ideal.ofBits, Ideal.ieee]
  rw [← EReal.coe_mul]
  norm_num

/-! ## The loads -/

/-- An entry of a stack, at equal coordinates. -/
theorem cong3 (f : ℕ → ℕ → ℕ → EReal) {i j k i' j' k' : ℕ} (hi : i = i') (hj : j = j') (hk : k = k') : f i j k = f i' j' k' := by rw [hi, hj, hk]

/-- A chunk of the weights. -/
theorem ldw (e : ℕ) (h) {x : Vec Ideal S4x1x704x1024 .bf16} {f : ℕ → ℕ → ℕ → EReal} (hx : At4 x f) :
    At2 (shapeCast S704x1024 (View.ld x (Rect.unit (s := S4x1x704x1024) ![e, 0, 0, 0] ![1, 1, 704, 1024] h)) shapeCasts_S1x1x704x1024_S704x1024) (f e) := by
  have hw : At4 (View.ld x (Rect.unit (s := S4x1x704x1024) ![e, 0, 0, 0] ![1, 1, 704, 1024] h)) (fun k => f (e + k)) := fun i =>
    (hx _).trans (cong3 f (show e + 1 * (i 0).val = e + (i 0).val by omega) (show 0 + 1 * (i 2).val = (i 2).val by omega) (show 0 + 1 * (i 3).val = (i 3).val by omega))
  exact at_cast42 hw shapeCasts_S1x1x704x1024_S704x1024

/-- A chunk of the gate or the up products. -/
theorem lds (e : ℕ) (h) {x : Vec Ideal S4x256x704 .bf16} {f : ℕ → ℕ → ℕ → EReal} (hx : AtS x f) :
    At2 (shapeCast S256x704 (View.ld x (Rect.unit (s := S4x256x704) ![e, 0, 0] ![1, 256, 704] h)) shapeCasts_S1x256x704_S256x704) (f e) := by
  have hw : At3 (View.ld x (Rect.unit (s := S4x256x704) ![e, 0, 0] ![1, 256, 704] h)) (f e) := fun i =>
    (hx _).trans (cong3 f (show e + 1 * (i 0).val = e by have : (i 0).val < 1 := (i 0).isLt; omega) (show 0 + 1 * (i 1).val = (i 1).val by omega) (show 0 + 1 * (i 2).val = (i 2).val by omega))
  exact at_cast32 hw shapeCasts_S1x256x704_S256x704

/-! ## The operations of a chunk -/

/-- Half the gradient by the activations. -/
theorem dact_at (y : FVec Ideal S256x1024 .f32) (w : FVec Ideal S704x1024 .bf16) (Y : ℕ → ℕ → EReal) (D : ℕ → ℕ → ℕ → EReal) (e : ℕ) (hy : At2 y Y) (hw : At2 w (D e)) :
    At2 (mulf (broadcast S256x704 (Scalar.ofBits (F := Ideal) .f32 0x3F000000#32))
      (matmul dot_S256x1024_S704x1024_S256x704_1_1_0_0_n_n none (k0_pay4 (F := Ideal) y) w (constant (F := Ideal) S256x704 .f32 0x00000000#32))) (dact Y D e) := fun i =>
  congrArg₂ (fun p q : EReal => p * q) ofBits_half (dotT (φ₁ := .bf16) (φ₂ := .bf16) _ _ Y (D e) hy hw i)

/-- The gradient by the gate products. -/
theorem dgate_at (a g u : FVec Ideal S256x704 .f32) (Y : ℕ → ℕ → EReal) (A B D : ℕ → ℕ → ℕ → EReal) (e : ℕ)
    (ha : At2 a (dact Y D e)) (hg : At2 g (A e)) (hu : At2 u (B e)) :
    At2 (fun i => a i * u i * (Ideal.logistic (g i) * (Ideal.ofBits .f32 0x3F800000#32 + g i * (Ideal.ofBits .f32 0x3F800000#32 - Ideal.logistic (g i))))) (dgate Y A B D e) := fun i => by
  show a i * u i * (Ideal.logistic (g i) * (Ideal.ofBits .f32 0x3F800000#32 + g i * (Ideal.ofBits .f32 0x3F800000#32 - Ideal.logistic (g i)))) = _
  rw [ha, hg, hu, ofBits_one]
  rfl

/-- The gradient by the up products. -/
theorem dup_at (a g : FVec Ideal S256x704 .f32) (Y : ℕ → ℕ → EReal) (A D : ℕ → ℕ → ℕ → EReal) (e : ℕ)
    (ha : At2 a (dact Y D e)) (hg : At2 g (A e)) :
    At2 (fun i => a i * (g i * Ideal.logistic (g i))) (dup Y A D e) := fun i => by
  show a i * (g i * Ideal.logistic (g i)) = _
  rw [ha, hg]
  rfl

/-- The activations. -/
theorem acted_at (g u : FVec Ideal S256x704 .f32) (A B : ℕ → ℕ → ℕ → EReal) (e : ℕ) (hg : At2 g (A e)) (hu : At2 u (B e)) :
    At2 (fun i => g i * Ideal.logistic (g i) * u i) (acted A B e) := fun i => by
  show g i * Ideal.logistic (g i) * u i = _
  rw [hg, hu]
  rfl

/-- A chunk's share of the gradient by the normed input. -/
theorem share_at (p q : FVec Ideal S256x704 .bf16) (w u : FVec Ideal S704x1024 .bf16) (Y : ℕ → ℕ → EReal) (A B W U D : ℕ → ℕ → ℕ → EReal) (e : ℕ)
    (hp : At2 p (dgate Y A B D e)) (hq : At2 q (dup Y A D e)) (hw : At2 w (W e)) (hu : At2 u (U e)) :
    At2 (addf (matmul dot_S256x704_S704x1024_S256x1024_1_0_0_1_n_n none p w (constant (F := Ideal) S256x1024 .f32 0x00000000#32))
      (matmul dot_S256x704_S704x1024_S256x1024_1_0_0_1_n_n none q u (constant (F := Ideal) S256x1024 .f32 0x00000000#32))) (share Y A B W U D e) := fun i =>
  congrArg₂ (fun s t : EReal => s + t) (dotN _ _ _ _ hp hw i) (dotN _ _ _ _ hq hu i)

/-! ## The operations of the norm -/

/-- The reciprocal of the rows' root mean squares. -/
theorem rms_at (x : FVec Ideal S256x1024 .f32) (X : ℕ → ℕ → EReal) (hx : At2 x X) (i) : k0_pay56 (F := Ideal) x i = rms X (i 0).val := by
  have hs := row_sum (mulf x x) 0x00000000#32 reduces_S256x1024_S256 (.inl rfl) rfl (fun t k => X t k * X t k)
    (fun j => congrArg₂ (fun u v : EReal => u * v) (hx j) (hx j))
  have hc : shapeCast S256x1 (multiReduction .add [1] S256 (mulf x x) 0x00000000#32 reduces_S256x1024_S256 (.inl rfl) rfl) shapeCasts_S256_S256x1 i
      = ∑ k ∈ range 1024, X (i 0).val k * X (i 0).val k :=
    (shapeCast_apply _ shapeCasts_S256_S256x1 i (fun d => match d with | ⟨0, _⟩ => ⟨(i 0).val, (i 0).isLt⟩) (by
      rewrite [Shape.rowMajor_val_one, Shape.rowMajor_val_two]
      have h1 : (i 1).val < 1 := (i 1).isLt
      show (i 0).val = (i 0).val * 1 + (i 1).val
      omega)).trans (hs _)
  show Ideal.rsqrt (Ideal.div (shapeCast S256x1 (multiReduction .add [1] S256 (mulf x x) 0x00000000#32 reduces_S256x1024_S256 (.inl rfl) rfl) shapeCasts_S256_S256x1 i) (Ideal.ofBits .f32 0x44800000#32)
    + Ideal.ofBits .f32 0x358637BD#32) = _
  rw [hc]
  rfl

/-- A column over all lanes. -/
theorem wide (x : FVec Ideal S256x1 .f32) (f : ℕ → EReal) (hx : ∀ i, x i = f (i 0).val) (i) : broadcastTo S256x1024 x broadcasts_S256x1_S256x1024 i = f (i 0).val :=
  (broadcastTo_apply x broadcasts_S256x1_S256x1024 i (fun d => match d with | ⟨0, _⟩ => ⟨(i 0).val, (i 0).isLt⟩ | ⟨1, _⟩ => ⟨0, Nat.one_pos⟩) (fun d => match d with
    | ⟨0, _⟩ => by show (i 0).val = if (256 : ℕ) = 1 then 0 else (i 0).val; rw [if_neg (by decide)]
    | ⟨1, _⟩ => by show 0 = if (1 : ℕ) = 1 then 0 else (i 1).val; rw [if_pos rfl])).trans (hx _)

/-- A row over all tokens. -/
theorem tall (x : FVec Ideal S1x1024 .f32) (f : ℕ → ℕ → EReal) (hx : At2 x f) (i) : broadcastTo S256x1024 x broadcasts_S1x1024_S256x1024 i = f 0 (i 1).val :=
  (broadcastTo_apply x broadcasts_S1x1024_S256x1024 i (fun d => match d with | ⟨0, _⟩ => ⟨0, Nat.one_pos⟩ | ⟨1, _⟩ => ⟨(i 1).val, (i 1).isLt⟩) (fun d => match d with
    | ⟨0, _⟩ => by show 0 = if (1 : ℕ) = 1 then 0 else (i 0).val; rw [if_pos rfl]
    | ⟨1, _⟩ => by show (i 1).val = if (1024 : ℕ) = 1 then 0 else (i 1).val; rw [if_neg (by decide)])).trans (hx _)

/-- The input over its root mean square. -/
theorem unit_at (x : FVec Ideal S256x1024 .f32) (X : ℕ → ℕ → EReal) (hx : At2 x X) : At2 (k0_pay57 (F := Ideal) x x) (unit X) := fun i =>
  congrArg₂ (fun u v : EReal => u * v) (hx i) (wide _ (rms X) (rms_at x X hx) i)

/-- The gradient by the input. -/
theorem dinput_at (x y h : FVec Ideal S256x1024 .f32) (g : FVec Ideal S1x1024 .f32) (X G Y H : ℕ → ℕ → EReal) (hx : At2 x X) (hy : At2 y Y) (hh : At2 h H) (hg : At2 g G)
    (z : FVec Ideal S256x1024 .f32)
    (hz : z = (have v188 := mulf h (broadcastTo S256x1024 g broadcasts_S1x1024_S256x1024)
      have v193 := divf (shapeCast S256x1 (multiReduction .add [1] S256 (mulf v188 (k0_pay57 (F := Ideal) x x)) 0x00000000#32 reduces_S256x1024_S256 (.inl rfl) rfl) shapeCasts_S256_S256x1)
        (broadcast S256x1 (Scalar.ofBits (F := Ideal) .f32 0x44800000#32))
      mulf (broadcastTo S256x1024 (k0_pay56 (F := Ideal) x) broadcasts_S256x1_S256x1024)
        (subf v188 (mulf (k0_pay57 (F := Ideal) x x) (broadcastTo S256x1024 v193 broadcasts_S256x1_S256x1024))))) :
    At2 (k0_pay2 (F := Ideal) z y) (dinput X G Y H) := by
  subst hz
  have h1 : At2 (mulf h (broadcastTo S256x1024 g broadcasts_S1x1024_S256x1024)) (fun t d => H t d * G 0 d) := fun i =>
    congrArg₂ (fun u v : EReal => u * v) (hh i) (tall g G hg i)
  have h2 := unit_at x X hx
  have hs := row_sum (mulf (mulf h (broadcastTo S256x1024 g broadcasts_S1x1024_S256x1024)) (k0_pay57 (F := Ideal) x x)) 0x00000000#32 reduces_S256x1024_S256 (.inl rfl) rfl
    (fun t k => H t k * G 0 k * unit X t k) (fun j => congrArg₂ (fun u v : EReal => u * v) (h1 j) (h2 j))
  have h3 : ∀ i, divf (shapeCast S256x1 (multiReduction .add [1] S256 (mulf (mulf h (broadcastTo S256x1024 g broadcasts_S1x1024_S256x1024)) (k0_pay57 (F := Ideal) x x)) 0x00000000#32 reduces_S256x1024_S256 (.inl rfl) rfl) shapeCasts_S256_S256x1)
        (broadcast S256x1 (Scalar.ofBits (F := Ideal) .f32 0x44800000#32)) i
      = (fun t => Ideal.div (∑ k ∈ range 1024, H t k * G 0 k * unit X t k) (Ideal.ofBits .f32 0x44800000#32)) (i 0).val := fun i =>
    congrArg (fun u : EReal => Ideal.div u (Ideal.ofBits .f32 0x44800000#32))
      ((shapeCast_apply _ shapeCasts_S256_S256x1 i (fun d => match d with | ⟨0, _⟩ => ⟨(i 0).val, (i 0).isLt⟩) (by
        rewrite [Shape.rowMajor_val_one, Shape.rowMajor_val_two]
        have h1 : (i 1).val < 1 := (i 1).isLt
        show (i 0).val = (i 0).val * 1 + (i 1).val
        omega)).trans (hs _))
  exact fun i => congrArg₂ (fun u v : EReal => u + v) (hy i) (congrArg₂ (fun u v : EReal => u * v) (wide _ (rms X) (rms_at x X hx) i)
    (congrArg₂ (fun u v : EReal => u - v) (h1 i) (congrArg₂ (fun u v : EReal => u * v) (h2 i) (wide _ (fun t => Ideal.div (∑ k ∈ range 1024, H t k * G 0 k * unit X t k) (Ideal.ofBits .f32 0x44800000#32)) h3 i))))

/-- A tile's share of the gain's gradient. -/
theorem dgain_at (h v : FVec Ideal S256x1024 .f32) (H V : ℕ → ℕ → EReal) (hh : At2 h H) (hv : At2 v V) (i) :
    k0_pay1 (F := Ideal) h v i = ∑ t ∈ range 256, H t (i 1).val * V t (i 1).val := by
  have hs := col_sum (mulf h v) (fun t d => H t d * V t d) (fun j => congrArg₂ (fun u v : EReal => u * v) (hh j) (hv j))
  exact (shapeCast_apply _ shapeCasts_S1024_S1x1024 i (fun d => match d with | ⟨0, _⟩ => ⟨(i 1).val, (i 1).isLt⟩) (by
    rewrite [Shape.rowMajor_val_one, Shape.rowMajor_val_two]
    have h0 : (i 0).val < 1 := (i 0).isLt
    show (i 1).val = (i 0).val * 1024 + (i 1).val
    omega)).trans (hs _)

/-- The same, added to what was there. -/
theorem dgain_add (h v : FVec Ideal S256x1024 .f32) (a : FVec Ideal S1x1024 .f32) (H V : ℕ → ℕ → EReal) (hh : At2 h H) (hv : At2 v V) (i) :
    k0_pay3 (F := Ideal) h v a i = a i + ∑ t ∈ range 256, H t (i 1).val * V t (i 1).val :=
  congrArg₂ (fun p q : EReal => p + q) (congrFun (shapeCast_self a shapeCasts_S1x1024_S1x1024) i) (dgain_at h v H V hh hv i)

/-! ## The results of a tile -/

section Tile

variable {x0 : Vec Ideal S256x1024 .f32} {x1 : Vec Ideal S1x1024 .f32} {x2 : Vec Ideal S256x1024 .f32} {x3 x4 : Vec Ideal S4x256x704 .bf16} {x5 x6 x7 : Vec Ideal S4x1x704x1024 .bf16}
  {X G Y : ℕ → ℕ → EReal} {A B W U D : ℕ → ℕ → ℕ → EReal}
  (h0 : At2 x0 X) (h1 : At2 x1 G) (h2 : At2 x2 Y) (h3 : AtS x3 A) (h4 : AtS x4 B) (h5 : At4 x5 W) (h6 : At4 x6 U) (h7 : At4 x7 D)

include h2 h7 in
/-- Half the gradient by the activations of the first chunk. -/
theorem half0 : At2 (k0_pay12 (F := Ideal) x2 (View.ld x7 (Rect.unit (s := S4x1x704x1024) ![0, 0, 0, 0] ![1, 1, 704, 1024] inb_S4x1x704x1024_S1x1x704x1024_0_0_0_0))) (dact Y D 0) := dact_at x2 _ Y D 0 h2 (ldw 0 _ h7)

include h2 h7 in
/-- Half the gradient by the activations of the second chunk. -/
theorem half1 : At2 (k0_pay24 (F := Ideal) (k0_pay5 (F := Ideal) x2 (View.ld x7 (Rect.unit (s := S4x1x704x1024) ![1, 0, 0, 0] ![1, 1, 704, 1024] inb_S4x1x704x1024_S1x1x704x1024_1_0_0_0)))) (dact Y D 1) := dact_at x2 _ Y D 1 h2 (ldw 1 _ h7)

include h2 h7 in
/-- Half the gradient by the activations of the third chunk. -/
theorem half2 : At2 (k0_pay37 (F := Ideal) (k0_pay6 (F := Ideal) x2 (View.ld x7 (Rect.unit (s := S4x1x704x1024) ![2, 0, 0, 0] ![1, 1, 704, 1024] inb_S4x1x704x1024_S1x1x704x1024_2_0_0_0)))) (dact Y D 2) := dact_at x2 _ Y D 2 h2 (ldw 2 _ h7)

include h2 h7 in
/-- Half the gradient by the activations of the fourth chunk. -/
theorem half3 : At2 (k0_pay48 (F := Ideal) (k0_pay7 (F := Ideal) x2 (View.ld x7 (Rect.unit (s := S4x1x704x1024) ![3, 0, 0, 0] ![1, 1, 704, 1024] inb_S4x1x704x1024_S1x1x704x1024_3_0_0_0)))) (dact Y D 3) := dact_at x2 _ Y D 3 h2 (ldw 3 _ h7)

include h2 h3 h4 h7 in
/-- The gradient by the gate products of the first chunk. -/
theorem gate0 : At2 (k0_pay14 (F := Ideal) (k0_pay8 (F := Ideal) (View.ld x3 (Rect.unit (s := S4x256x704) ![0, 0, 0] ![1, 256, 704] inb_S4x256x704_S1x256x704_0_0_0))) (k0_pay10 (F := Ideal) (View.ld x3 (Rect.unit (s := S4x256x704) ![0, 0, 0] ![1, 256, 704] inb_S4x256x704_S1x256x704_0_0_0))) (k0_pay13 (F := Ideal) x2 (View.ld x7 (Rect.unit (s := S4x1x704x1024) ![0, 0, 0, 0] ![1, 1, 704, 1024] inb_S4x1x704x1024_S1x1x704x1024_0_0_0_0)) (View.ld x4 (Rect.unit (s := S4x256x704) ![0, 0, 0] ![1, 256, 704] inb_S4x256x704_S1x256x704_0_0_0))) (FloatOps.ofBits (F := Ideal) .f32 1065353216#32)) (dgate Y A B D 0) :=
  dgate_at (k0_pay12 (F := Ideal) x2 (View.ld x7 (Rect.unit (s := S4x1x704x1024) ![0, 0, 0, 0] ![1, 1, 704, 1024] inb_S4x1x704x1024_S1x1x704x1024_0_0_0_0))) (k0_pay8 (F := Ideal) (View.ld x3 (Rect.unit (s := S4x256x704) ![0, 0, 0] ![1, 256, 704] inb_S4x256x704_S1x256x704_0_0_0))) (k0_pay9 (F := Ideal) (View.ld x4 (Rect.unit (s := S4x256x704) ![0, 0, 0] ![1, 256, 704] inb_S4x256x704_S1x256x704_0_0_0))) Y A B D 0 (half0 h2 h7) (lds 0 _ h3) (lds 0 _ h4)

include h2 h3 h4 h7 in
/-- The gradient by the gate products of the second chunk. -/
theorem gate1 : At2 (k0_pay25 (F := Ideal) (k0_pay5 (F := Ideal) x2 (View.ld x7 (Rect.unit (s := S4x1x704x1024) ![1, 0, 0, 0] ![1, 1, 704, 1024] inb_S4x1x704x1024_S1x1x704x1024_1_0_0_0))) (k0_pay20 (F := Ideal) (View.ld x3 (Rect.unit (s := S4x256x704) ![1, 0, 0] ![1, 256, 704] inb_S4x256x704_S1x256x704_1_0_0))) (View.ld x4 (Rect.unit (s := S4x256x704) ![1, 0, 0] ![1, 256, 704] inb_S4x256x704_S1x256x704_1_0_0))) (dgate Y A B D 1) :=
  dgate_at (k0_pay24 (F := Ideal) (k0_pay5 (F := Ideal) x2 (View.ld x7 (Rect.unit (s := S4x1x704x1024) ![1, 0, 0, 0] ![1, 1, 704, 1024] inb_S4x1x704x1024_S1x1x704x1024_1_0_0_0)))) (k0_pay20 (F := Ideal) (View.ld x3 (Rect.unit (s := S4x256x704) ![1, 0, 0] ![1, 256, 704] inb_S4x256x704_S1x256x704_1_0_0))) (k0_pay21 (F := Ideal) (View.ld x4 (Rect.unit (s := S4x256x704) ![1, 0, 0] ![1, 256, 704] inb_S4x256x704_S1x256x704_1_0_0))) Y A B D 1 (half1 h2 h7) (lds 1 _ h3) (lds 1 _ h4)

include h2 h3 h4 h7 in
/-- The gradient by the gate products of the third chunk. -/
theorem gate2 : At2 (k0_pay38 (F := Ideal) (k0_pay6 (F := Ideal) x2 (View.ld x7 (Rect.unit (s := S4x1x704x1024) ![2, 0, 0, 0] ![1, 1, 704, 1024] inb_S4x1x704x1024_S1x1x704x1024_2_0_0_0))) (View.ld x3 (Rect.unit (s := S4x256x704) ![2, 0, 0] ![1, 256, 704] inb_S4x256x704_S1x256x704_2_0_0)) (View.ld x4 (Rect.unit (s := S4x256x704) ![2, 0, 0] ![1, 256, 704] inb_S4x256x704_S1x256x704_2_0_0))) (dgate Y A B D 2) :=
  dgate_at (k0_pay37 (F := Ideal) (k0_pay6 (F := Ideal) x2 (View.ld x7 (Rect.unit (s := S4x1x704x1024) ![2, 0, 0, 0] ![1, 1, 704, 1024] inb_S4x1x704x1024_S1x1x704x1024_2_0_0_0)))) (k0_pay33 (F := Ideal) (View.ld x3 (Rect.unit (s := S4x256x704) ![2, 0, 0] ![1, 256, 704] inb_S4x256x704_S1x256x704_2_0_0))) (k0_pay34 (F := Ideal) (View.ld x4 (Rect.unit (s := S4x256x704) ![2, 0, 0] ![1, 256, 704] inb_S4x256x704_S1x256x704_2_0_0))) Y A B D 2 (half2 h2 h7) (lds 2 _ h3) (lds 2 _ h4)

include h2 h3 h4 h7 in
/-- The gradient by the gate products of the fourth chunk. -/
theorem gate3 : At2 (k0_pay49 (F := Ideal) (k0_pay7 (F := Ideal) x2 (View.ld x7 (Rect.unit (s := S4x1x704x1024) ![3, 0, 0, 0] ![1, 1, 704, 1024] inb_S4x1x704x1024_S1x1x704x1024_3_0_0_0))) (View.ld x3 (Rect.unit (s := S4x256x704) ![3, 0, 0] ![1, 256, 704] inb_S4x256x704_S1x256x704_3_0_0)) (View.ld x4 (Rect.unit (s := S4x256x704) ![3, 0, 0] ![1, 256, 704] inb_S4x256x704_S1x256x704_3_0_0))) (dgate Y A B D 3) :=
  dgate_at (k0_pay48 (F := Ideal) (k0_pay7 (F := Ideal) x2 (View.ld x7 (Rect.unit (s := S4x1x704x1024) ![3, 0, 0, 0] ![1, 1, 704, 1024] inb_S4x1x704x1024_S1x1x704x1024_3_0_0_0)))) (k0_pay44 (F := Ideal) (View.ld x3 (Rect.unit (s := S4x256x704) ![3, 0, 0] ![1, 256, 704] inb_S4x256x704_S1x256x704_3_0_0))) (k0_pay45 (F := Ideal) (View.ld x4 (Rect.unit (s := S4x256x704) ![3, 0, 0] ![1, 256, 704] inb_S4x256x704_S1x256x704_3_0_0))) Y A B D 3 (half3 h2 h7) (lds 3 _ h3) (lds 3 _ h4)

include h2 h3 h7 in
/-- The gradient by the up products of the first chunk. -/
theorem up0 : At2 (k0_pay15 (F := Ideal) (k0_pay11 (F := Ideal) (View.ld x3 (Rect.unit (s := S4x256x704) ![0, 0, 0] ![1, 256, 704] inb_S4x256x704_S1x256x704_0_0_0))) (k0_pay12 (F := Ideal) x2 (View.ld x7 (Rect.unit (s := S4x1x704x1024) ![0, 0, 0, 0] ![1, 1, 704, 1024] inb_S4x1x704x1024_S1x1x704x1024_0_0_0_0)))) (dup Y A D 0) :=
  dup_at (k0_pay12 (F := Ideal) x2 (View.ld x7 (Rect.unit (s := S4x1x704x1024) ![0, 0, 0, 0] ![1, 1, 704, 1024] inb_S4x1x704x1024_S1x1x704x1024_0_0_0_0))) (k0_pay8 (F := Ideal) (View.ld x3 (Rect.unit (s := S4x256x704) ![0, 0, 0] ![1, 256, 704] inb_S4x256x704_S1x256x704_0_0_0))) Y A D 0 (half0 h2 h7) (lds 0 _ h3)

include h2 h3 h7 in
/-- The gradient by the up products of the second chunk. -/
theorem up1 : At2 (k0_pay26 (F := Ideal) (k0_pay5 (F := Ideal) x2 (View.ld x7 (Rect.unit (s := S4x1x704x1024) ![1, 0, 0, 0] ![1, 1, 704, 1024] inb_S4x1x704x1024_S1x1x704x1024_1_0_0_0))) (k0_pay20 (F := Ideal) (View.ld x3 (Rect.unit (s := S4x256x704) ![1, 0, 0] ![1, 256, 704] inb_S4x256x704_S1x256x704_1_0_0)))) (dup Y A D 1) :=
  dup_at (k0_pay24 (F := Ideal) (k0_pay5 (F := Ideal) x2 (View.ld x7 (Rect.unit (s := S4x1x704x1024) ![1, 0, 0, 0] ![1, 1, 704, 1024] inb_S4x1x704x1024_S1x1x704x1024_1_0_0_0)))) (k0_pay20 (F := Ideal) (View.ld x3 (Rect.unit (s := S4x256x704) ![1, 0, 0] ![1, 256, 704] inb_S4x256x704_S1x256x704_1_0_0))) Y A D 1 (half1 h2 h7) (lds 1 _ h3)

include h2 h3 h7 in
/-- The gradient by the up products of the third chunk. -/
theorem up2 : At2 (k0_pay39 (F := Ideal) (k0_pay6 (F := Ideal) x2 (View.ld x7 (Rect.unit (s := S4x1x704x1024) ![2, 0, 0, 0] ![1, 1, 704, 1024] inb_S4x1x704x1024_S1x1x704x1024_2_0_0_0))) (View.ld x3 (Rect.unit (s := S4x256x704) ![2, 0, 0] ![1, 256, 704] inb_S4x256x704_S1x256x704_2_0_0))) (dup Y A D 2) :=
  dup_at (k0_pay37 (F := Ideal) (k0_pay6 (F := Ideal) x2 (View.ld x7 (Rect.unit (s := S4x1x704x1024) ![2, 0, 0, 0] ![1, 1, 704, 1024] inb_S4x1x704x1024_S1x1x704x1024_2_0_0_0)))) (k0_pay33 (F := Ideal) (View.ld x3 (Rect.unit (s := S4x256x704) ![2, 0, 0] ![1, 256, 704] inb_S4x256x704_S1x256x704_2_0_0))) Y A D 2 (half2 h2 h7) (lds 2 _ h3)

include h2 h3 h7 in
/-- The gradient by the up products of the fourth chunk. -/
theorem up3 : At2 (k0_pay50 (F := Ideal) (k0_pay7 (F := Ideal) x2 (View.ld x7 (Rect.unit (s := S4x1x704x1024) ![3, 0, 0, 0] ![1, 1, 704, 1024] inb_S4x1x704x1024_S1x1x704x1024_3_0_0_0))) (View.ld x3 (Rect.unit (s := S4x256x704) ![3, 0, 0] ![1, 256, 704] inb_S4x256x704_S1x256x704_3_0_0))) (dup Y A D 3) :=
  dup_at (k0_pay48 (F := Ideal) (k0_pay7 (F := Ideal) x2 (View.ld x7 (Rect.unit (s := S4x1x704x1024) ![3, 0, 0, 0] ![1, 1, 704, 1024] inb_S4x1x704x1024_S1x1x704x1024_3_0_0_0)))) (k0_pay44 (F := Ideal) (View.ld x3 (Rect.unit (s := S4x256x704) ![3, 0, 0] ![1, 256, 704] inb_S4x256x704_S1x256x704_3_0_0))) Y A D 3 (half3 h2 h7) (lds 3 _ h3)

include h3 h4 in
/-- The activations of the first chunk, as they are stored. -/
theorem act0 : At3 (k0_pay18 (F := Ideal) (k0_pay9 (F := Ideal) (View.ld x4 (Rect.unit (s := S4x256x704) ![0, 0, 0] ![1, 256, 704] inb_S4x256x704_S1x256x704_0_0_0))) (k0_pay11 (F := Ideal) (View.ld x3 (Rect.unit (s := S4x256x704) ![0, 0, 0] ![1, 256, 704] inb_S4x256x704_S1x256x704_0_0_0)))) (acted A B 0) :=
  at_cast23 (acted_at (k0_pay8 (F := Ideal) (View.ld x3 (Rect.unit (s := S4x256x704) ![0, 0, 0] ![1, 256, 704] inb_S4x256x704_S1x256x704_0_0_0))) (k0_pay9 (F := Ideal) (View.ld x4 (Rect.unit (s := S4x256x704) ![0, 0, 0] ![1, 256, 704] inb_S4x256x704_S1x256x704_0_0_0))) A B 0 (lds 0 _ h3) (lds 0 _ h4)) shapeCasts_S256x704_S1x256x704

include h3 h4 in
/-- The activations of the second chunk, as they are stored. -/
theorem act1 : At3 (k0_pay29 (F := Ideal) (k0_pay20 (F := Ideal) (View.ld x3 (Rect.unit (s := S4x256x704) ![1, 0, 0] ![1, 256, 704] inb_S4x256x704_S1x256x704_1_0_0))) (View.ld x4 (Rect.unit (s := S4x256x704) ![1, 0, 0] ![1, 256, 704] inb_S4x256x704_S1x256x704_1_0_0))) (acted A B 1) :=
  at_cast23 (acted_at (k0_pay20 (F := Ideal) (View.ld x3 (Rect.unit (s := S4x256x704) ![1, 0, 0] ![1, 256, 704] inb_S4x256x704_S1x256x704_1_0_0))) (k0_pay21 (F := Ideal) (View.ld x4 (Rect.unit (s := S4x256x704) ![1, 0, 0] ![1, 256, 704] inb_S4x256x704_S1x256x704_1_0_0))) A B 1 (lds 1 _ h3) (lds 1 _ h4)) shapeCasts_S256x704_S1x256x704

include h3 h4 in
/-- The activations of the third chunk, as they are stored. -/
theorem act2 : At3 (k0_pay42 (F := Ideal) (View.ld x3 (Rect.unit (s := S4x256x704) ![2, 0, 0] ![1, 256, 704] inb_S4x256x704_S1x256x704_2_0_0)) (View.ld x4 (Rect.unit (s := S4x256x704) ![2, 0, 0] ![1, 256, 704] inb_S4x256x704_S1x256x704_2_0_0))) (acted A B 2) :=
  at_cast23 (acted_at (k0_pay33 (F := Ideal) (View.ld x3 (Rect.unit (s := S4x256x704) ![2, 0, 0] ![1, 256, 704] inb_S4x256x704_S1x256x704_2_0_0))) (k0_pay34 (F := Ideal) (View.ld x4 (Rect.unit (s := S4x256x704) ![2, 0, 0] ![1, 256, 704] inb_S4x256x704_S1x256x704_2_0_0))) A B 2 (lds 2 _ h3) (lds 2 _ h4)) shapeCasts_S256x704_S1x256x704

include h3 h4 in
/-- The activations of the fourth chunk, as they are stored. -/
theorem act3 : At3 (k0_pay54 (F := Ideal) (k0_pay53 (F := Ideal) (View.ld x3 (Rect.unit (s := S4x256x704) ![3, 0, 0] ![1, 256, 704] inb_S4x256x704_S1x256x704_3_0_0)) (View.ld x4 (Rect.unit (s := S4x256x704) ![3, 0, 0] ![1, 256, 704] inb_S4x256x704_S1x256x704_3_0_0)))) (acted A B 3) :=
  at_cast23 (acted_at (k0_pay44 (F := Ideal) (View.ld x3 (Rect.unit (s := S4x256x704) ![3, 0, 0] ![1, 256, 704] inb_S4x256x704_S1x256x704_3_0_0))) (k0_pay45 (F := Ideal) (View.ld x4 (Rect.unit (s := S4x256x704) ![3, 0, 0] ![1, 256, 704] inb_S4x256x704_S1x256x704_3_0_0))) A B 3 (lds 3 _ h3) (lds 3 _ h4)) shapeCasts_S256x704_S1x256x704

include h2 h3 h4 h5 h6 h7 in
/-- The first chunk's share of the gradient by the normed input. -/
theorem sum0 : At2 (k0_pay19 (F := Ideal) (k0_pay8 (F := Ideal) (View.ld x3 (Rect.unit (s := S4x256x704) ![0, 0, 0] ![1, 256, 704] inb_S4x256x704_S1x256x704_0_0_0))) (k0_pay10 (F := Ideal) (View.ld x3 (Rect.unit (s := S4x256x704) ![0, 0, 0] ![1, 256, 704] inb_S4x256x704_S1x256x704_0_0_0))) (k0_pay11 (F := Ideal) (View.ld x3 (Rect.unit (s := S4x256x704) ![0, 0, 0] ![1, 256, 704] inb_S4x256x704_S1x256x704_0_0_0))) (k0_pay12 (F := Ideal) x2 (View.ld x7 (Rect.unit (s := S4x1x704x1024) ![0, 0, 0, 0] ![1, 1, 704, 1024] inb_S4x1x704x1024_S1x1x704x1024_0_0_0_0))) (k0_pay13 (F := Ideal) x2 (View.ld x7 (Rect.unit (s := S4x1x704x1024) ![0, 0, 0, 0] ![1, 1, 704, 1024] inb_S4x1x704x1024_S1x1x704x1024_0_0_0_0)) (View.ld x4 (Rect.unit (s := S4x256x704) ![0, 0, 0] ![1, 256, 704] inb_S4x256x704_S1x256x704_0_0_0))) (FloatOps.ofBits (F := Ideal) .f32 1065353216#32) (View.ld x5 (Rect.unit (s := S4x1x704x1024) ![0, 0, 0, 0] ![1, 1, 704, 1024] inb_S4x1x704x1024_S1x1x704x1024_0_0_0_0)) (View.ld x6 (Rect.unit (s := S4x1x704x1024) ![0, 0, 0, 0] ![1, 1, 704, 1024] inb_S4x1x704x1024_S1x1x704x1024_0_0_0_0))) (share Y A B W U D 0) := fun i => (share_at _ _ _ _ Y A B W U D 0 (gate0 h2 h3 h4 h7) (up0 h2 h3 h7) (ldw 0 inb_S4x1x704x1024_S1x1x704x1024_0_0_0_0 h5) (ldw 0 inb_S4x1x704x1024_S1x1x704x1024_0_0_0_0 h6) i)

include h2 h3 h4 h5 h6 h7 in
/-- The first two chunks' shares. -/
theorem sum1 : At2 (k0_pay32 (F := Ideal) (k0_pay19 (F := Ideal) (k0_pay8 (F := Ideal) (View.ld x3 (Rect.unit (s := S4x256x704) ![0, 0, 0] ![1, 256, 704] inb_S4x256x704_S1x256x704_0_0_0))) (k0_pay10 (F := Ideal) (View.ld x3 (Rect.unit (s := S4x256x704) ![0, 0, 0] ![1, 256, 704] inb_S4x256x704_S1x256x704_0_0_0))) (k0_pay11 (F := Ideal) (View.ld x3 (Rect.unit (s := S4x256x704) ![0, 0, 0] ![1, 256, 704] inb_S4x256x704_S1x256x704_0_0_0))) (k0_pay12 (F := Ideal) x2 (View.ld x7 (Rect.unit (s := S4x1x704x1024) ![0, 0, 0, 0] ![1, 1, 704, 1024] inb_S4x1x704x1024_S1x1x704x1024_0_0_0_0))) (k0_pay13 (F := Ideal) x2 (View.ld x7 (Rect.unit (s := S4x1x704x1024) ![0, 0, 0, 0] ![1, 1, 704, 1024] inb_S4x1x704x1024_S1x1x704x1024_0_0_0_0)) (View.ld x4 (Rect.unit (s := S4x256x704) ![0, 0, 0] ![1, 256, 704] inb_S4x256x704_S1x256x704_0_0_0))) (FloatOps.ofBits (F := Ideal) .f32 1065353216#32) (View.ld x5 (Rect.unit (s := S4x1x704x1024) ![0, 0, 0, 0] ![1, 1, 704, 1024] inb_S4x1x704x1024_S1x1x704x1024_0_0_0_0)) (View.ld x6 (Rect.unit (s := S4x1x704x1024) ![0, 0, 0, 0] ![1, 1, 704, 1024] inb_S4x1x704x1024_S1x1x704x1024_0_0_0_0))) (k0_pay30 (F := Ideal) (k0_pay5 (F := Ideal) x2 (View.ld x7 (Rect.unit (s := S4x1x704x1024) ![1, 0, 0, 0] ![1, 1, 704, 1024] inb_S4x1x704x1024_S1x1x704x1024_1_0_0_0))) (k0_pay20 (F := Ideal) (View.ld x3 (Rect.unit (s := S4x256x704) ![1, 0, 0] ![1, 256, 704] inb_S4x256x704_S1x256x704_1_0_0))) (View.ld x4 (Rect.unit (s := S4x256x704) ![1, 0, 0] ![1, 256, 704] inb_S4x256x704_S1x256x704_1_0_0)) (View.ld x5 (Rect.unit (s := S4x1x704x1024) ![1, 0, 0, 0] ![1, 1, 704, 1024] inb_S4x1x704x1024_S1x1x704x1024_1_0_0_0))) (k0_pay31 (F := Ideal) (k0_pay5 (F := Ideal) x2 (View.ld x7 (Rect.unit (s := S4x1x704x1024) ![1, 0, 0, 0] ![1, 1, 704, 1024] inb_S4x1x704x1024_S1x1x704x1024_1_0_0_0))) (k0_pay20 (F := Ideal) (View.ld x3 (Rect.unit (s := S4x256x704) ![1, 0, 0] ![1, 256, 704] inb_S4x256x704_S1x256x704_1_0_0))) (View.ld x6 (Rect.unit (s := S4x1x704x1024) ![1, 0, 0, 0] ![1, 1, 704, 1024] inb_S4x1x704x1024_S1x1x704x1024_1_0_0_0)))) (fun t d => share Y A B W U D 0 t d + share Y A B W U D 1 t d) := fun i =>
  congrArg₂ (fun p q : EReal => p + q) (sum0 h2 h3 h4 h5 h6 h7 i) (share_at _ _ _ _ Y A B W U D 1 (gate1 h2 h3 h4 h7) (up1 h2 h3 h7) (ldw 1 inb_S4x1x704x1024_S1x1x704x1024_1_0_0_0 h5) (ldw 1 inb_S4x1x704x1024_S1x1x704x1024_1_0_0_0 h6) i)

include h2 h3 h4 h5 h6 h7 in
/-- The first three chunks' shares. -/
theorem sum2 : At2 (k0_pay43 (F := Ideal) (k0_pay32 (F := Ideal) (k0_pay19 (F := Ideal) (k0_pay8 (F := Ideal) (View.ld x3 (Rect.unit (s := S4x256x704) ![0, 0, 0] ![1, 256, 704] inb_S4x256x704_S1x256x704_0_0_0))) (k0_pay10 (F := Ideal) (View.ld x3 (Rect.unit (s := S4x256x704) ![0, 0, 0] ![1, 256, 704] inb_S4x256x704_S1x256x704_0_0_0))) (k0_pay11 (F := Ideal) (View.ld x3 (Rect.unit (s := S4x256x704) ![0, 0, 0] ![1, 256, 704] inb_S4x256x704_S1x256x704_0_0_0))) (k0_pay12 (F := Ideal) x2 (View.ld x7 (Rect.unit (s := S4x1x704x1024) ![0, 0, 0, 0] ![1, 1, 704, 1024] inb_S4x1x704x1024_S1x1x704x1024_0_0_0_0))) (k0_pay13 (F := Ideal) x2 (View.ld x7 (Rect.unit (s := S4x1x704x1024) ![0, 0, 0, 0] ![1, 1, 704, 1024] inb_S4x1x704x1024_S1x1x704x1024_0_0_0_0)) (View.ld x4 (Rect.unit (s := S4x256x704) ![0, 0, 0] ![1, 256, 704] inb_S4x256x704_S1x256x704_0_0_0))) (FloatOps.ofBits (F := Ideal) .f32 1065353216#32) (View.ld x5 (Rect.unit (s := S4x1x704x1024) ![0, 0, 0, 0] ![1, 1, 704, 1024] inb_S4x1x704x1024_S1x1x704x1024_0_0_0_0)) (View.ld x6 (Rect.unit (s := S4x1x704x1024) ![0, 0, 0, 0] ![1, 1, 704, 1024] inb_S4x1x704x1024_S1x1x704x1024_0_0_0_0))) (k0_pay30 (F := Ideal) (k0_pay5 (F := Ideal) x2 (View.ld x7 (Rect.unit (s := S4x1x704x1024) ![1, 0, 0, 0] ![1, 1, 704, 1024] inb_S4x1x704x1024_S1x1x704x1024_1_0_0_0))) (k0_pay20 (F := Ideal) (View.ld x3 (Rect.unit (s := S4x256x704) ![1, 0, 0] ![1, 256, 704] inb_S4x256x704_S1x256x704_1_0_0))) (View.ld x4 (Rect.unit (s := S4x256x704) ![1, 0, 0] ![1, 256, 704] inb_S4x256x704_S1x256x704_1_0_0)) (View.ld x5 (Rect.unit (s := S4x1x704x1024) ![1, 0, 0, 0] ![1, 1, 704, 1024] inb_S4x1x704x1024_S1x1x704x1024_1_0_0_0))) (k0_pay31 (F := Ideal) (k0_pay5 (F := Ideal) x2 (View.ld x7 (Rect.unit (s := S4x1x704x1024) ![1, 0, 0, 0] ![1, 1, 704, 1024] inb_S4x1x704x1024_S1x1x704x1024_1_0_0_0))) (k0_pay20 (F := Ideal) (View.ld x3 (Rect.unit (s := S4x256x704) ![1, 0, 0] ![1, 256, 704] inb_S4x256x704_S1x256x704_1_0_0))) (View.ld x6 (Rect.unit (s := S4x1x704x1024) ![1, 0, 0, 0] ![1, 1, 704, 1024] inb_S4x1x704x1024_S1x1x704x1024_1_0_0_0)))) (k0_pay38 (F := Ideal) (k0_pay6 (F := Ideal) x2 (View.ld x7 (Rect.unit (s := S4x1x704x1024) ![2, 0, 0, 0] ![1, 1, 704, 1024] inb_S4x1x704x1024_S1x1x704x1024_2_0_0_0))) (View.ld x3 (Rect.unit (s := S4x256x704) ![2, 0, 0] ![1, 256, 704] inb_S4x256x704_S1x256x704_2_0_0)) (View.ld x4 (Rect.unit (s := S4x256x704) ![2, 0, 0] ![1, 256, 704] inb_S4x256x704_S1x256x704_2_0_0))) (k0_pay39 (F := Ideal) (k0_pay6 (F := Ideal) x2 (View.ld x7 (Rect.unit (s := S4x1x704x1024) ![2, 0, 0, 0] ![1, 1, 704, 1024] inb_S4x1x704x1024_S1x1x704x1024_2_0_0_0))) (View.ld x3 (Rect.unit (s := S4x256x704) ![2, 0, 0] ![1, 256, 704] inb_S4x256x704_S1x256x704_2_0_0))) (View.ld x5 (Rect.unit (s := S4x1x704x1024) ![2, 0, 0, 0] ![1, 1, 704, 1024] inb_S4x1x704x1024_S1x1x704x1024_2_0_0_0)) (View.ld x6 (Rect.unit (s := S4x1x704x1024) ![2, 0, 0, 0] ![1, 1, 704, 1024] inb_S4x1x704x1024_S1x1x704x1024_2_0_0_0))) (fun t d => share Y A B W U D 0 t d + share Y A B W U D 1 t d + share Y A B W U D 2 t d) := fun i =>
  congrArg₂ (fun p q : EReal => p + q) (sum1 h2 h3 h4 h5 h6 h7 i) (share_at _ _ _ _ Y A B W U D 2 (gate2 h2 h3 h4 h7) (up2 h2 h3 h7) (ldw 2 inb_S4x1x704x1024_S1x1x704x1024_2_0_0_0 h5) (ldw 2 inb_S4x1x704x1024_S1x1x704x1024_2_0_0_0 h6) i)

include h2 h3 h4 h5 h6 h7 in
/-- The gradient by the normed input. -/
theorem sum3 : At2 (k0_pay55 (F := Ideal) (k0_pay43 (F := Ideal) (k0_pay32 (F := Ideal) (k0_pay19 (F := Ideal) (k0_pay8 (F := Ideal) (View.ld x3 (Rect.unit (s := S4x256x704) ![0, 0, 0] ![1, 256, 704] inb_S4x256x704_S1x256x704_0_0_0))) (k0_pay10 (F := Ideal) (View.ld x3 (Rect.unit (s := S4x256x704) ![0, 0, 0] ![1, 256, 704] inb_S4x256x704_S1x256x704_0_0_0))) (k0_pay11 (F := Ideal) (View.ld x3 (Rect.unit (s := S4x256x704) ![0, 0, 0] ![1, 256, 704] inb_S4x256x704_S1x256x704_0_0_0))) (k0_pay12 (F := Ideal) x2 (View.ld x7 (Rect.unit (s := S4x1x704x1024) ![0, 0, 0, 0] ![1, 1, 704, 1024] inb_S4x1x704x1024_S1x1x704x1024_0_0_0_0))) (k0_pay13 (F := Ideal) x2 (View.ld x7 (Rect.unit (s := S4x1x704x1024) ![0, 0, 0, 0] ![1, 1, 704, 1024] inb_S4x1x704x1024_S1x1x704x1024_0_0_0_0)) (View.ld x4 (Rect.unit (s := S4x256x704) ![0, 0, 0] ![1, 256, 704] inb_S4x256x704_S1x256x704_0_0_0))) (FloatOps.ofBits (F := Ideal) .f32 1065353216#32) (View.ld x5 (Rect.unit (s := S4x1x704x1024) ![0, 0, 0, 0] ![1, 1, 704, 1024] inb_S4x1x704x1024_S1x1x704x1024_0_0_0_0)) (View.ld x6 (Rect.unit (s := S4x1x704x1024) ![0, 0, 0, 0] ![1, 1, 704, 1024] inb_S4x1x704x1024_S1x1x704x1024_0_0_0_0))) (k0_pay30 (F := Ideal) (k0_pay5 (F := Ideal) x2 (View.ld x7 (Rect.unit (s := S4x1x704x1024) ![1, 0, 0, 0] ![1, 1, 704, 1024] inb_S4x1x704x1024_S1x1x704x1024_1_0_0_0))) (k0_pay20 (F := Ideal) (View.ld x3 (Rect.unit (s := S4x256x704) ![1, 0, 0] ![1, 256, 704] inb_S4x256x704_S1x256x704_1_0_0))) (View.ld x4 (Rect.unit (s := S4x256x704) ![1, 0, 0] ![1, 256, 704] inb_S4x256x704_S1x256x704_1_0_0)) (View.ld x5 (Rect.unit (s := S4x1x704x1024) ![1, 0, 0, 0] ![1, 1, 704, 1024] inb_S4x1x704x1024_S1x1x704x1024_1_0_0_0))) (k0_pay31 (F := Ideal) (k0_pay5 (F := Ideal) x2 (View.ld x7 (Rect.unit (s := S4x1x704x1024) ![1, 0, 0, 0] ![1, 1, 704, 1024] inb_S4x1x704x1024_S1x1x704x1024_1_0_0_0))) (k0_pay20 (F := Ideal) (View.ld x3 (Rect.unit (s := S4x256x704) ![1, 0, 0] ![1, 256, 704] inb_S4x256x704_S1x256x704_1_0_0))) (View.ld x6 (Rect.unit (s := S4x1x704x1024) ![1, 0, 0, 0] ![1, 1, 704, 1024] inb_S4x1x704x1024_S1x1x704x1024_1_0_0_0)))) (k0_pay38 (F := Ideal) (k0_pay6 (F := Ideal) x2 (View.ld x7 (Rect.unit (s := S4x1x704x1024) ![2, 0, 0, 0] ![1, 1, 704, 1024] inb_S4x1x704x1024_S1x1x704x1024_2_0_0_0))) (View.ld x3 (Rect.unit (s := S4x256x704) ![2, 0, 0] ![1, 256, 704] inb_S4x256x704_S1x256x704_2_0_0)) (View.ld x4 (Rect.unit (s := S4x256x704) ![2, 0, 0] ![1, 256, 704] inb_S4x256x704_S1x256x704_2_0_0))) (k0_pay39 (F := Ideal) (k0_pay6 (F := Ideal) x2 (View.ld x7 (Rect.unit (s := S4x1x704x1024) ![2, 0, 0, 0] ![1, 1, 704, 1024] inb_S4x1x704x1024_S1x1x704x1024_2_0_0_0))) (View.ld x3 (Rect.unit (s := S4x256x704) ![2, 0, 0] ![1, 256, 704] inb_S4x256x704_S1x256x704_2_0_0))) (View.ld x5 (Rect.unit (s := S4x1x704x1024) ![2, 0, 0, 0] ![1, 1, 704, 1024] inb_S4x1x704x1024_S1x1x704x1024_2_0_0_0)) (View.ld x6 (Rect.unit (s := S4x1x704x1024) ![2, 0, 0, 0] ![1, 1, 704, 1024] inb_S4x1x704x1024_S1x1x704x1024_2_0_0_0))) (k0_pay49 (F := Ideal) (k0_pay7 (F := Ideal) x2 (View.ld x7 (Rect.unit (s := S4x1x704x1024) ![3, 0, 0, 0] ![1, 1, 704, 1024] inb_S4x1x704x1024_S1x1x704x1024_3_0_0_0))) (View.ld x3 (Rect.unit (s := S4x256x704) ![3, 0, 0] ![1, 256, 704] inb_S4x256x704_S1x256x704_3_0_0)) (View.ld x4 (Rect.unit (s := S4x256x704) ![3, 0, 0] ![1, 256, 704] inb_S4x256x704_S1x256x704_3_0_0))) (k0_pay50 (F := Ideal) (k0_pay7 (F := Ideal) x2 (View.ld x7 (Rect.unit (s := S4x1x704x1024) ![3, 0, 0, 0] ![1, 1, 704, 1024] inb_S4x1x704x1024_S1x1x704x1024_3_0_0_0))) (View.ld x3 (Rect.unit (s := S4x256x704) ![3, 0, 0] ![1, 256, 704] inb_S4x256x704_S1x256x704_3_0_0))) (View.ld x5 (Rect.unit (s := S4x1x704x1024) ![3, 0, 0, 0] ![1, 1, 704, 1024] inb_S4x1x704x1024_S1x1x704x1024_3_0_0_0)) (View.ld x6 (Rect.unit (s := S4x1x704x1024) ![3, 0, 0, 0] ![1, 1, 704, 1024] inb_S4x1x704x1024_S1x1x704x1024_3_0_0_0))) (dhid Y A B W U D) := fun i =>
  congrArg₂ (fun p q : EReal => p + q) (sum2 h2 h3 h4 h5 h6 h7 i) (share_at _ _ _ _ Y A B W U D 3 (gate3 h2 h3 h4 h7) (up3 h2 h3 h7) (ldw 3 inb_S4x1x704x1024_S1x1x704x1024_3_0_0_0 h5) (ldw 3 inb_S4x1x704x1024_S1x1x704x1024_3_0_0_0 h6) i)

include h0 h1 h2 h3 h4 h5 h6 h7 in
/-- The gradient by the input. -/
theorem input : At2 (k0_pay2 (F := Ideal) (k0_pay58 (F := Ideal) (k0_pay43 (F := Ideal) (k0_pay32 (F := Ideal) (k0_pay19 (F := Ideal) (k0_pay8 (F := Ideal) (View.ld x3 (Rect.unit (s := S4x256x704) ![0, 0, 0] ![1, 256, 704] inb_S4x256x704_S1x256x704_0_0_0))) (k0_pay10 (F := Ideal) (View.ld x3 (Rect.unit (s := S4x256x704) ![0, 0, 0] ![1, 256, 704] inb_S4x256x704_S1x256x704_0_0_0))) (k0_pay11 (F := Ideal) (View.ld x3 (Rect.unit (s := S4x256x704) ![0, 0, 0] ![1, 256, 704] inb_S4x256x704_S1x256x704_0_0_0))) (k0_pay12 (F := Ideal) x2 (View.ld x7 (Rect.unit (s := S4x1x704x1024) ![0, 0, 0, 0] ![1, 1, 704, 1024] inb_S4x1x704x1024_S1x1x704x1024_0_0_0_0))) (k0_pay13 (F := Ideal) x2 (View.ld x7 (Rect.unit (s := S4x1x704x1024) ![0, 0, 0, 0] ![1, 1, 704, 1024] inb_S4x1x704x1024_S1x1x704x1024_0_0_0_0)) (View.ld x4 (Rect.unit (s := S4x256x704) ![0, 0, 0] ![1, 256, 704] inb_S4x256x704_S1x256x704_0_0_0))) (FloatOps.ofBits (F := Ideal) .f32 1065353216#32) (View.ld x5 (Rect.unit (s := S4x1x704x1024) ![0, 0, 0, 0] ![1, 1, 704, 1024] inb_S4x1x704x1024_S1x1x704x1024_0_0_0_0)) (View.ld x6 (Rect.unit (s := S4x1x704x1024) ![0, 0, 0, 0] ![1, 1, 704, 1024] inb_S4x1x704x1024_S1x1x704x1024_0_0_0_0))) (k0_pay30 (F := Ideal) (k0_pay5 (F := Ideal) x2 (View.ld x7 (Rect.unit (s := S4x1x704x1024) ![1, 0, 0, 0] ![1, 1, 704, 1024] inb_S4x1x704x1024_S1x1x704x1024_1_0_0_0))) (k0_pay20 (F := Ideal) (View.ld x3 (Rect.unit (s := S4x256x704) ![1, 0, 0] ![1, 256, 704] inb_S4x256x704_S1x256x704_1_0_0))) (View.ld x4 (Rect.unit (s := S4x256x704) ![1, 0, 0] ![1, 256, 704] inb_S4x256x704_S1x256x704_1_0_0)) (View.ld x5 (Rect.unit (s := S4x1x704x1024) ![1, 0, 0, 0] ![1, 1, 704, 1024] inb_S4x1x704x1024_S1x1x704x1024_1_0_0_0))) (k0_pay31 (F := Ideal) (k0_pay5 (F := Ideal) x2 (View.ld x7 (Rect.unit (s := S4x1x704x1024) ![1, 0, 0, 0] ![1, 1, 704, 1024] inb_S4x1x704x1024_S1x1x704x1024_1_0_0_0))) (k0_pay20 (F := Ideal) (View.ld x3 (Rect.unit (s := S4x256x704) ![1, 0, 0] ![1, 256, 704] inb_S4x256x704_S1x256x704_1_0_0))) (View.ld x6 (Rect.unit (s := S4x1x704x1024) ![1, 0, 0, 0] ![1, 1, 704, 1024] inb_S4x1x704x1024_S1x1x704x1024_1_0_0_0)))) (k0_pay38 (F := Ideal) (k0_pay6 (F := Ideal) x2 (View.ld x7 (Rect.unit (s := S4x1x704x1024) ![2, 0, 0, 0] ![1, 1, 704, 1024] inb_S4x1x704x1024_S1x1x704x1024_2_0_0_0))) (View.ld x3 (Rect.unit (s := S4x256x704) ![2, 0, 0] ![1, 256, 704] inb_S4x256x704_S1x256x704_2_0_0)) (View.ld x4 (Rect.unit (s := S4x256x704) ![2, 0, 0] ![1, 256, 704] inb_S4x256x704_S1x256x704_2_0_0))) (k0_pay39 (F := Ideal) (k0_pay6 (F := Ideal) x2 (View.ld x7 (Rect.unit (s := S4x1x704x1024) ![2, 0, 0, 0] ![1, 1, 704, 1024] inb_S4x1x704x1024_S1x1x704x1024_2_0_0_0))) (View.ld x3 (Rect.unit (s := S4x256x704) ![2, 0, 0] ![1, 256, 704] inb_S4x256x704_S1x256x704_2_0_0))) (View.ld x5 (Rect.unit (s := S4x1x704x1024) ![2, 0, 0, 0] ![1, 1, 704, 1024] inb_S4x1x704x1024_S1x1x704x1024_2_0_0_0)) (View.ld x6 (Rect.unit (s := S4x1x704x1024) ![2, 0, 0, 0] ![1, 1, 704, 1024] inb_S4x1x704x1024_S1x1x704x1024_2_0_0_0))) (k0_pay49 (F := Ideal) (k0_pay7 (F := Ideal) x2 (View.ld x7 (Rect.unit (s := S4x1x704x1024) ![3, 0, 0, 0] ![1, 1, 704, 1024] inb_S4x1x704x1024_S1x1x704x1024_3_0_0_0))) (View.ld x3 (Rect.unit (s := S4x256x704) ![3, 0, 0] ![1, 256, 704] inb_S4x256x704_S1x256x704_3_0_0)) (View.ld x4 (Rect.unit (s := S4x256x704) ![3, 0, 0] ![1, 256, 704] inb_S4x256x704_S1x256x704_3_0_0))) (k0_pay50 (F := Ideal) (k0_pay7 (F := Ideal) x2 (View.ld x7 (Rect.unit (s := S4x1x704x1024) ![3, 0, 0, 0] ![1, 1, 704, 1024] inb_S4x1x704x1024_S1x1x704x1024_3_0_0_0))) (View.ld x3 (Rect.unit (s := S4x256x704) ![3, 0, 0] ![1, 256, 704] inb_S4x256x704_S1x256x704_3_0_0))) (View.ld x5 (Rect.unit (s := S4x1x704x1024) ![3, 0, 0, 0] ![1, 1, 704, 1024] inb_S4x1x704x1024_S1x1x704x1024_3_0_0_0)) (View.ld x6 (Rect.unit (s := S4x1x704x1024) ![3, 0, 0, 0] ![1, 1, 704, 1024] inb_S4x1x704x1024_S1x1x704x1024_3_0_0_0)) x0 x0 x1) x2) (dinput X G Y (dhid Y A B W U D)) :=
  dinput_at x0 x2 (k0_pay55 (F := Ideal) (k0_pay43 (F := Ideal) (k0_pay32 (F := Ideal) (k0_pay19 (F := Ideal) (k0_pay8 (F := Ideal) (View.ld x3 (Rect.unit (s := S4x256x704) ![0, 0, 0] ![1, 256, 704] inb_S4x256x704_S1x256x704_0_0_0))) (k0_pay10 (F := Ideal) (View.ld x3 (Rect.unit (s := S4x256x704) ![0, 0, 0] ![1, 256, 704] inb_S4x256x704_S1x256x704_0_0_0))) (k0_pay11 (F := Ideal) (View.ld x3 (Rect.unit (s := S4x256x704) ![0, 0, 0] ![1, 256, 704] inb_S4x256x704_S1x256x704_0_0_0))) (k0_pay12 (F := Ideal) x2 (View.ld x7 (Rect.unit (s := S4x1x704x1024) ![0, 0, 0, 0] ![1, 1, 704, 1024] inb_S4x1x704x1024_S1x1x704x1024_0_0_0_0))) (k0_pay13 (F := Ideal) x2 (View.ld x7 (Rect.unit (s := S4x1x704x1024) ![0, 0, 0, 0] ![1, 1, 704, 1024] inb_S4x1x704x1024_S1x1x704x1024_0_0_0_0)) (View.ld x4 (Rect.unit (s := S4x256x704) ![0, 0, 0] ![1, 256, 704] inb_S4x256x704_S1x256x704_0_0_0))) (FloatOps.ofBits (F := Ideal) .f32 1065353216#32) (View.ld x5 (Rect.unit (s := S4x1x704x1024) ![0, 0, 0, 0] ![1, 1, 704, 1024] inb_S4x1x704x1024_S1x1x704x1024_0_0_0_0)) (View.ld x6 (Rect.unit (s := S4x1x704x1024) ![0, 0, 0, 0] ![1, 1, 704, 1024] inb_S4x1x704x1024_S1x1x704x1024_0_0_0_0))) (k0_pay30 (F := Ideal) (k0_pay5 (F := Ideal) x2 (View.ld x7 (Rect.unit (s := S4x1x704x1024) ![1, 0, 0, 0] ![1, 1, 704, 1024] inb_S4x1x704x1024_S1x1x704x1024_1_0_0_0))) (k0_pay20 (F := Ideal) (View.ld x3 (Rect.unit (s := S4x256x704) ![1, 0, 0] ![1, 256, 704] inb_S4x256x704_S1x256x704_1_0_0))) (View.ld x4 (Rect.unit (s := S4x256x704) ![1, 0, 0] ![1, 256, 704] inb_S4x256x704_S1x256x704_1_0_0)) (View.ld x5 (Rect.unit (s := S4x1x704x1024) ![1, 0, 0, 0] ![1, 1, 704, 1024] inb_S4x1x704x1024_S1x1x704x1024_1_0_0_0))) (k0_pay31 (F := Ideal) (k0_pay5 (F := Ideal) x2 (View.ld x7 (Rect.unit (s := S4x1x704x1024) ![1, 0, 0, 0] ![1, 1, 704, 1024] inb_S4x1x704x1024_S1x1x704x1024_1_0_0_0))) (k0_pay20 (F := Ideal) (View.ld x3 (Rect.unit (s := S4x256x704) ![1, 0, 0] ![1, 256, 704] inb_S4x256x704_S1x256x704_1_0_0))) (View.ld x6 (Rect.unit (s := S4x1x704x1024) ![1, 0, 0, 0] ![1, 1, 704, 1024] inb_S4x1x704x1024_S1x1x704x1024_1_0_0_0)))) (k0_pay38 (F := Ideal) (k0_pay6 (F := Ideal) x2 (View.ld x7 (Rect.unit (s := S4x1x704x1024) ![2, 0, 0, 0] ![1, 1, 704, 1024] inb_S4x1x704x1024_S1x1x704x1024_2_0_0_0))) (View.ld x3 (Rect.unit (s := S4x256x704) ![2, 0, 0] ![1, 256, 704] inb_S4x256x704_S1x256x704_2_0_0)) (View.ld x4 (Rect.unit (s := S4x256x704) ![2, 0, 0] ![1, 256, 704] inb_S4x256x704_S1x256x704_2_0_0))) (k0_pay39 (F := Ideal) (k0_pay6 (F := Ideal) x2 (View.ld x7 (Rect.unit (s := S4x1x704x1024) ![2, 0, 0, 0] ![1, 1, 704, 1024] inb_S4x1x704x1024_S1x1x704x1024_2_0_0_0))) (View.ld x3 (Rect.unit (s := S4x256x704) ![2, 0, 0] ![1, 256, 704] inb_S4x256x704_S1x256x704_2_0_0))) (View.ld x5 (Rect.unit (s := S4x1x704x1024) ![2, 0, 0, 0] ![1, 1, 704, 1024] inb_S4x1x704x1024_S1x1x704x1024_2_0_0_0)) (View.ld x6 (Rect.unit (s := S4x1x704x1024) ![2, 0, 0, 0] ![1, 1, 704, 1024] inb_S4x1x704x1024_S1x1x704x1024_2_0_0_0))) (k0_pay49 (F := Ideal) (k0_pay7 (F := Ideal) x2 (View.ld x7 (Rect.unit (s := S4x1x704x1024) ![3, 0, 0, 0] ![1, 1, 704, 1024] inb_S4x1x704x1024_S1x1x704x1024_3_0_0_0))) (View.ld x3 (Rect.unit (s := S4x256x704) ![3, 0, 0] ![1, 256, 704] inb_S4x256x704_S1x256x704_3_0_0)) (View.ld x4 (Rect.unit (s := S4x256x704) ![3, 0, 0] ![1, 256, 704] inb_S4x256x704_S1x256x704_3_0_0))) (k0_pay50 (F := Ideal) (k0_pay7 (F := Ideal) x2 (View.ld x7 (Rect.unit (s := S4x1x704x1024) ![3, 0, 0, 0] ![1, 1, 704, 1024] inb_S4x1x704x1024_S1x1x704x1024_3_0_0_0))) (View.ld x3 (Rect.unit (s := S4x256x704) ![3, 0, 0] ![1, 256, 704] inb_S4x256x704_S1x256x704_3_0_0))) (View.ld x5 (Rect.unit (s := S4x1x704x1024) ![3, 0, 0, 0] ![1, 1, 704, 1024] inb_S4x1x704x1024_S1x1x704x1024_3_0_0_0)) (View.ld x6 (Rect.unit (s := S4x1x704x1024) ![3, 0, 0, 0] ![1, 1, 704, 1024] inb_S4x1x704x1024_S1x1x704x1024_3_0_0_0))) x1 X G Y _ h0 h2 (sum3 h2 h3 h4 h5 h6 h7) h1 _ rfl

end Tile

/-! ## The stores -/

/-- A tile with the entries `f`. -/
def tile (f : ℕ → ℕ → EReal) : Vec Ideal S256x1024 .f32 := fun y => f (y 0).val (y 1).val
/-- Four chunks with the entries `f`. -/
def tiles (f : ℕ → ℕ → ℕ → EReal) : Vec Ideal S4x256x704 .bf16 := fun y => f (y 0).val (y 1).val (y 2).val

/-- A chunk's store is the chunk's tile. -/
theorem chunk {p : Vec Ideal S1x256x704 .bf16} {f : ℕ → ℕ → ℕ → EReal} {e : ℕ} (h : At3 p (f e)) (x : S1x256x704.Idx) (z : S4x256x704.Idx)
    (h0 : (z 0).val = e + 1 * (x 0).val) (h1 : (z 1).val = 0 + 1 * (x 1).val) (h2 : (z 2).val = 0 + 1 * (x 2).val) : p x = tiles f z :=
  (h x).trans (cong3 f (by have : (x 0).val < 1 := (x 0).isLt; omega) (by omega) (by omega))

/-- Four stores, one for each chunk, leave the four chunks. -/
theorem chunks (p0 p1 p2 p3 : Vec Ideal S1x256x704 .bf16) (f : ℕ → ℕ → ℕ → EReal) (h0 : At3 p0 (f 0)) (h1 : At3 p1 (f 1)) (h2 : At3 p2 (f 2)) (h3 : At3 p3 (f 3))
    (y : S4x256x704.Idx) : View.canon [⟨Rect.unit (s := S4x256x704) ![3, 0, 0] ![1, 256, 704] inb_S4x256x704_S1x256x704_3_0_0, p3⟩, ⟨Rect.unit (s := S4x256x704) ![2, 0, 0] ![1, 256, 704] inb_S4x256x704_S1x256x704_2_0_0, p2⟩, ⟨Rect.unit (s := S4x256x704) ![1, 0, 0] ![1, 256, 704] inb_S4x256x704_S1x256x704_1_0_0, p1⟩, ⟨Rect.unit (s := S4x256x704) ![0, 0, 0] ![1, 256, 704] inb_S4x256x704_S1x256x704_0_0_0, p0⟩] y = tiles f y := by
  refine View.canon_apply_of_pieces (tiles f) _ ?_ y (View.cover_of_tiledL _ ![1, 256, 704] (by sl_kernel_rfl) y)
  intro pc hpc
  rcases List.mem_cons.mp hpc with rfl | hpc
  · exact fun x => chunk h3 x _ rfl rfl rfl
  rcases List.mem_cons.mp hpc with rfl | hpc
  · exact fun x => chunk h2 x _ rfl rfl rfl
  rcases List.mem_cons.mp hpc with rfl | hpc
  · exact fun x => chunk h1 x _ rfl rfl rfl
  rcases List.mem_cons.mp hpc with rfl | hpc
  · exact fun x => chunk h0 x _ rfl rfl rfl
  nomatch hpc

/-! ## The results of a point -/

section Point

variable (m : (ℓ : Loc nD τ sig) → Buf (Elt Ideal) ℓ) (c : Dev nD) (t : Fin cfg0.N)
  {X G Y : ℕ → ℕ → EReal} {A B W U D : ℕ → ℕ → ℕ → EReal}

/-- A point is the first one, or has one before. -/
theorem first_or : (t.val % 64 = 0 ∧ ¬1 ≤ t.val) ∨ (¬t.val % 64 = 0 ∧ 1 ≤ t.val) := by
  have : t.val < 64 := lt_of_lt_of_eq t.isLt N_0
  omega

/-- The gradient by the input, as it is left. -/
theorem left8 (h0 : At2 (iblk m c 0 t) X) (h1 : At2 (iblk m c 1 t) G) (h2 : At2 (iblk m c 2 t) Y) (h3 : AtS (iblk m c 3 t) A) (h4 : AtS (iblk m c 4 t) B) (h5 : At4 (iblk m c 5 t) W) (h6 : At4 (iblk m c 6 t) U) (h7 : At4 (iblk m c 7 t) D) (y) : (outsAt0 m c t.val t.isLt).1 y = tile (dinput X G Y (dhid Y A B W U D)) y := by
  have h := input h0 h1 h2 h3 h4 h5 h6 h7 y
  rcases first_or t with ⟨e, e'⟩ | ⟨e, e'⟩
  · rw [outsAt0_A m c t e e']; frame_out; exact h
  · rw [outsAt0_B m c t e e']; frame_out; exact h

/-- The output's gradient, as it is left. -/
theorem left10 (h2 : At2 (iblk m c 2 t) Y) (y) : (outsAt0 m c t.val t.isLt).2.2.1 y = Y (y 0).val (y 1).val := by
  rcases first_or t with ⟨e, e'⟩ | ⟨e, e'⟩
  · rw [outsAt0_A m c t e e']; frame_out; exact h2 y
  · rw [outsAt0_B m c t e e']; frame_out; exact h2 y

/-- The gradient by the gate products, as it is left. -/
theorem left11 (h2 : At2 (iblk m c 2 t) Y) (h3 : AtS (iblk m c 3 t) A) (h4 : AtS (iblk m c 4 t) B) (h7 : At4 (iblk m c 7 t) D) (y) : (outsAt0 m c t.val t.isLt).2.2.2.1 y = tiles (dgate Y A B D) y := by
  have h := chunks _ _ _ _ (dgate Y A B D) (at_cast23 (gate0 h2 h3 h4 h7) shapeCasts_S256x704_S1x256x704) (at_cast23 (gate1 h2 h3 h4 h7) shapeCasts_S256x704_S1x256x704)
    (at_cast23 (gate2 h2 h3 h4 h7) shapeCasts_S256x704_S1x256x704) (at_cast23 (gate3 h2 h3 h4 h7) shapeCasts_S256x704_S1x256x704) y
  rcases first_or t with ⟨e, e'⟩ | ⟨e, e'⟩
  · rw [outsAt0_A m c t e e']; frame_out; exact h
  · rw [outsAt0_B m c t e e']; frame_out; exact h

/-- The gradient by the up products, as it is left. -/
theorem left12 (h2 : At2 (iblk m c 2 t) Y) (h3 : AtS (iblk m c 3 t) A) (h7 : At4 (iblk m c 7 t) D) (y) : (outsAt0 m c t.val t.isLt).2.2.2.2.1 y = tiles (dup Y A D) y := by
  have h := chunks _ _ _ _ (dup Y A D) (at_cast23 (up0 h2 h3 h7) shapeCasts_S256x704_S1x256x704) (at_cast23 (up1 h2 h3 h7) shapeCasts_S256x704_S1x256x704)
    (at_cast23 (up2 h2 h3 h7) shapeCasts_S256x704_S1x256x704) (at_cast23 (up3 h2 h3 h7) shapeCasts_S256x704_S1x256x704) y
  rcases first_or t with ⟨e, e'⟩ | ⟨e, e'⟩
  · rw [outsAt0_A m c t e e']; frame_out; exact h
  · rw [outsAt0_B m c t e e']; frame_out; exact h

/-- The activations, as they are left. -/
theorem left13 (h3 : AtS (iblk m c 3 t) A) (h4 : AtS (iblk m c 4 t) B) (y) : (outsAt0 m c t.val t.isLt).2.2.2.2.2 y = tiles (acted A B) y := by
  have h := chunks _ _ _ _ (acted A B) (act0 h3 h4) (act1 h3 h4) (act2 h3 h4) (act3 h3 h4) y
  rcases first_or t with ⟨e, e'⟩ | ⟨e, e'⟩
  · rw [outsAt0_A m c t e e']; frame_out; exact h
  · rw [outsAt0_B m c t e e']; frame_out; exact h

/-- The gain's gradient at the first point. -/
theorem left9_A (h0 : At2 (iblk m c 0 t) X) (h2 : At2 (iblk m c 2 t) Y) (h3 : AtS (iblk m c 3 t) A) (h4 : AtS (iblk m c 4 t) B) (h5 : At4 (iblk m c 5 t) W) (h6 : At4 (iblk m c 6 t) U) (h7 : At4 (iblk m c 7 t) D) (e : t.val % 64 = 0) (e' : ¬1 ≤ t.val) (y) :
    (outsAt0 m c t.val t.isLt).2.1 y = ∑ r ∈ range 256, dhid Y A B W U D r (y 1).val * unit X r (y 1).val := by
  have h := dgain_at _ _ _ _ (sum3 h2 h3 h4 h5 h6 h7) (unit_at _ X h0) y
  rw [outsAt0_A m c t e e']; frame_out; exact h

/-- The gain's gradient at a later point. -/
theorem left9_B (h0 : At2 (iblk m c 0 t) X) (h2 : At2 (iblk m c 2 t) Y) (h3 : AtS (iblk m c 3 t) A) (h4 : AtS (iblk m c 4 t) B) (h5 : At4 (iblk m c 5 t) W) (h6 : At4 (iblk m c 6 t) U) (h7 : At4 (iblk m c 7 t) D) (e : ¬t.val % 64 = 0) (e' : 1 ≤ t.val) (y) :
    (outsAt0 m c t.val t.isLt).2.1 y = (outsAt0 m c (t.val - 1) (Nat.lt_of_le_of_lt (Nat.sub_le _ _) t.isLt)).2.1 y
      + ∑ r ∈ range 256, dhid Y A B W U D r (y 1).val * unit X r (y 1).val := by
  have h := dgain_add _ _ (outsAt0 m c (t.val - 1) (Nat.lt_of_le_of_lt (Nat.sub_le _ _) t.isLt)).2.1 _ _ (sum3 h2 h3 h4 h5 h6 h7) (unit_at _ X h0) y
  rw [outsAt0_B m c t e e']; frame_out; exact h

end Point

end Cert.FfnDgradValue
-- ==== Proof.FfnDgradValue.lean ====
/-
  The feed-forward network's backward pass by the input: the six arrays the kernel leaves, by their entries.
-/
module

public import proofs.«01_k».proof.Proof.FfnDgradPoint
public import proofs.«01_k».proof.Proof.FfnFwdRef
public import Idealize.ShloMosaic.Lib.Pipeline.ValueKit
public import Idealize.ShloMosaic.Lib.StableHlo.Run

@[expose] public section

set_option maxRecDepth 16384

noncomputable section

namespace Cert.FfnDgradValue

open Cert.FfnDgradIdeal Cert.FfnDgradIdeal.Gen Cert.Ffn Cert.FfnDgrad
open Idealize.ShloMosaic Idealize.ShloMosaic.TcCoe Idealize.SL.Sem
open Idealize.ShloMosaic.Pipeline (Dat)
open Finset

variable (m : (ℓ : Loc nD τ sig) → Buf (Elt Ideal) ℓ)

/-! ## The products on the host -/

/-- The gate products the host gives the kernel. -/
theorem V_gate (c : Dev nD) : V m c main_v29 = Cert.FfnFwdRefIdeal.Read.val_main_v37 (F := Ideal) (m ((c : Thread nD τ).loc main_arg0)) (m ((c : Thread nD τ).loc main_arg1))
    (m ((c : Thread nD τ).loc main_arg2)) := by
  unfold V
  simp only [hostOps0, StableHlo.TRef.nullary, StableHlo.TRef.unary, StableHlo.TRef.toBuf, StableHlo.TRef.ofBuf, cast_eq]
  after_results_simp
  rfl

/-- The up products the host gives the kernel. -/
theorem V_up (c : Dev nD) : V m c main_v33 = Cert.FfnFwdRefIdeal.Read.val_main_v40 (F := Ideal) (m ((c : Thread nD τ).loc main_arg0)) (m ((c : Thread nD τ).loc main_arg1))
    (m ((c : Thread nD τ).loc main_arg2)) := by
  unfold V
  simp only [hostOps0, StableHlo.TRef.nullary, StableHlo.TRef.unary, StableHlo.TRef.toBuf, StableHlo.TRef.ofBuf, cast_eq]
  after_results_simp
  rfl

/-! ## The blocks -/

/-- The index maps: the tile of tokens, and the layer's slices of the weights. -/
theorem idx : ∀ t : Fin cfg0.N, win0_0.index t = ![t.val, 0] ∧ win0_1.index t = ![0, 0] ∧ win0_2.index t = ![t.val, 0] ∧ win0_3.index t = ![0, t.val, 0] ∧ win0_4.index t = ![0, t.val, 0]
    ∧ win0_5.index t = ![0, 8, 0, 0] ∧ win0_6.index t = ![0, 12, 0, 0] ∧ win0_7.index t = ![0, 4, 0, 0] ∧ win0_8.index t = ![t.val, 0] ∧ win0_9.index t = ![0, 0] ∧ win0_10.index t = ![t.val, 0]
    ∧ win0_11.index t = ![0, t.val, 0] ∧ win0_12.index t = ![0, t.val, 0] ∧ win0_13.index t = ![0, t.val, 0] :=
  (by decide +kernel : ∀ t : Fin grid0.N, _)

/-- A block of window 0 is read from its array. -/
theorem read0 {c : Dev nD} (W : (b : Ref sig .tc) → Buf (Elt Ideal) ((c : Thread nD τ).loc b)) (t : Fin cfg0.N) (y) :
    ((cfg0.win 0).blk t).view.read (Elt Ideal) (W (Pipeline.arrRef spec0 0)) y = W main_arg0 (((cfg0.win 0).blk t).view.emb y) := rfl

/-- A block of window 1 is read from its array. -/
theorem read1 {c : Dev nD} (W : (b : Ref sig .tc) → Buf (Elt Ideal) ((c : Thread nD τ).loc b)) (t : Fin cfg0.N) (y) :
    ((cfg0.win 1).blk t).view.read (Elt Ideal) (W (Pipeline.arrRef spec0 1)) y = W main_arg1 (((cfg0.win 1).blk t).view.emb y) := rfl

/-- A block of window 2 is read from its array. -/
theorem read2 {c : Dev nD} (W : (b : Ref sig .tc) → Buf (Elt Ideal) ((c : Thread nD τ).loc b)) (t : Fin cfg0.N) (y) :
    ((cfg0.win 2).blk t).view.read (Elt Ideal) (W (Pipeline.arrRef spec0 2)) y = W main_arg4 (((cfg0.win 2).blk t).view.emb y) := rfl

/-- A block of window 3 is read from its array. -/
theorem read3 {c : Dev nD} (W : (b : Ref sig .tc) → Buf (Elt Ideal) ((c : Thread nD τ).loc b)) (t : Fin cfg0.N) (y) :
    ((cfg0.win 3).blk t).view.read (Elt Ideal) (W (Pipeline.arrRef spec0 3)) y = W main_v29 (((cfg0.win 3).blk t).view.emb y) := rfl

/-- A block of window 4 is read from its array. -/
theorem read4 {c : Dev nD} (W : (b : Ref sig .tc) → Buf (Elt Ideal) ((c : Thread nD τ).loc b)) (t : Fin cfg0.N) (y) :
    ((cfg0.win 4).blk t).view.read (Elt Ideal) (W (Pipeline.arrRef spec0 4)) y = W main_v33 (((cfg0.win 4).blk t).view.emb y) := rfl

/-- A block of window 5 is read from its array. -/
theorem read5 {c : Dev nD} (W : (b : Ref sig .tc) → Buf (Elt Ideal) ((c : Thread nD τ).loc b)) (t : Fin cfg0.N) (y) :
    ((cfg0.win 5).blk t).view.read (Elt Ideal) (W (Pipeline.arrRef spec0 5)) y = W main_arg2 (((cfg0.win 5).blk t).view.emb y) := rfl

/-- A block of window 6 is read from its array. -/
theorem read6 {c : Dev nD} (W : (b : Ref sig .tc) → Buf (Elt Ideal) ((c : Thread nD τ).loc b)) (t : Fin cfg0.N) (y) :
    ((cfg0.win 6).blk t).view.read (Elt Ideal) (W (Pipeline.arrRef spec0 6)) y = W main_arg2 (((cfg0.win 6).blk t).view.emb y) := rfl

/-- A block of window 7 is read from its array. -/
theorem read7 {c : Dev nD} (W : (b : Ref sig .tc) → Buf (Elt Ideal) ((c : Thread nD τ).loc b)) (t : Fin cfg0.N) (y) :
    ((cfg0.win 7).blk t).view.read (Elt Ideal) (W (Pipeline.arrRef spec0 7)) y = W main_arg3 (((cfg0.win 7).blk t).view.emb y) := rfl

/-- The tile of the input. -/
theorem blk0 (c : Dev nD) (X) (hX : m ((c : Thread nD τ).loc main_arg0) = X) (t : Fin cfg0.N) :
    At2 (iblk m c 0 t) (fun r d => nat2 X (256 * t.val + r) d) := fun y => by
  refine ((read0 (V m c) t y).trans (congrFun ((V_main_arg0 m c).trans hX) _)).trans ((nat2_val X _).trans ?_)
  have e := (idx t).1
  have a0 : ((((cfg0.win 0).blk t).view.emb y) 0).val = win0_0.index t 0 * 256 + (y 0).val := Pipeline.Window.rect_emb_val win0_0 t y 0 rfl
  have a1 : ((((cfg0.win 0).blk t).view.emb y) 1).val = win0_0.index t 1 * 1024 + (y 1).val := Pipeline.Window.rect_emb_val win0_0 t y 1 rfl
  rw [e] at a0 a1
  have a0' : _ = t.val * 256 + (y 0).val := a0
  have a1' : _ = 0 * 1024 + (y 1).val := a1
  exact congrArg₂ (nat2 X) (a0'.trans (by rw [Nat.mul_comm])) (a1'.trans (by omega))

/-- The gain. -/
theorem blk1 (c : Dev nD) (X) (hX : m ((c : Thread nD τ).loc main_arg1) = X) (t : Fin cfg0.N) :
    At2 (iblk m c 1 t) (nat2 X) := fun y => by
  refine ((read1 (V m c) t y).trans (congrFun ((V_main_arg1 m c).trans hX) _)).trans ((nat2_val X _).trans ?_)
  have e := (idx t).2.1
  have a0 : ((((cfg0.win 1).blk t).view.emb y) 0).val = win0_1.index t 0 * 1 + (y 0).val := Pipeline.Window.rect_emb_val win0_1 t y 0 rfl
  have a1 : ((((cfg0.win 1).blk t).view.emb y) 1).val = win0_1.index t 1 * 1024 + (y 1).val := Pipeline.Window.rect_emb_val win0_1 t y 1 rfl
  rw [e] at a0 a1
  have a0' : _ = 0 * 1 + (y 0).val := a0
  have a1' : _ = 0 * 1024 + (y 1).val := a1
  exact congrArg₂ (nat2 X) (a0'.trans (by omega)) (a1'.trans (by omega))

/-- The tile of the output's gradient. -/
theorem blk2 (c : Dev nD) (X) (hX : m ((c : Thread nD τ).loc main_arg4) = X) (t : Fin cfg0.N) :
    At2 (iblk m c 2 t) (fun r d => nat2 X (256 * t.val + r) d) := fun y => by
  refine ((read2 (V m c) t y).trans (congrFun ((V_main_arg4 m c).trans hX) _)).trans ((nat2_val X _).trans ?_)
  have e := (idx t).2.2.1
  have a0 : ((((cfg0.win 2).blk t).view.emb y) 0).val = win0_2.index t 0 * 256 + (y 0).val := Pipeline.Window.rect_emb_val win0_2 t y 0 rfl
  have a1 : ((((cfg0.win 2).blk t).view.emb y) 1).val = win0_2.index t 1 * 1024 + (y 1).val := Pipeline.Window.rect_emb_val win0_2 t y 1 rfl
  rw [e] at a0 a1
  have a0' : _ = t.val * 256 + (y 0).val := a0
  have a1' : _ = 0 * 1024 + (y 1).val := a1
  exact congrArg₂ (nat2 X) (a0'.trans (by rw [Nat.mul_comm])) (a1'.trans (by omega))

/-- The tile of the gate products. -/
theorem blk3 (c : Dev nD) (X : (⟨S4x16384x704, .bf16⟩ : BufTy).Contents (Elt Ideal)) (hX : V m c main_v29 = X) (K) (hK : AtS X K) (t : Fin cfg0.N) :
    AtS (iblk m c 3 t) (fun e r f => K e (256 * t.val + r) f) := fun y => by
  refine ((read3 (V m c) t y).trans (congrFun hX _)).trans ((hK _).trans ?_)
  have e := (idx t).2.2.2.1
  have a0 : ((((cfg0.win 3).blk t).view.emb y) 0).val = win0_3.index t 0 * 4 + (y 0).val := Pipeline.Window.rect_emb_val win0_3 t y 0 rfl
  have a1 : ((((cfg0.win 3).blk t).view.emb y) 1).val = win0_3.index t 1 * 256 + (y 1).val := Pipeline.Window.rect_emb_val win0_3 t y 1 rfl
  have a2 : ((((cfg0.win 3).blk t).view.emb y) 2).val = win0_3.index t 2 * 704 + (y 2).val := Pipeline.Window.rect_emb_val win0_3 t y 2 rfl
  rw [e] at a0 a1 a2
  have a0' : _ = 0 * 4 + (y 0).val := a0
  have a1' : _ = t.val * 256 + (y 1).val := a1
  have a2' : _ = 0 * 704 + (y 2).val := a2
  exact cong3 K (a0'.trans (by omega)) (a1'.trans (by rw [Nat.mul_comm])) (a2'.trans (by omega))

/-- The tile of the up products. -/
theorem blk4 (c : Dev nD) (X : (⟨S4x16384x704, .bf16⟩ : BufTy).Contents (Elt Ideal)) (hX : V m c main_v33 = X) (K) (hK : AtS X K) (t : Fin cfg0.N) :
    AtS (iblk m c 4 t) (fun e r f => K e (256 * t.val + r) f) := fun y => by
  refine ((read4 (V m c) t y).trans (congrFun hX _)).trans ((hK _).trans ?_)
  have e := (idx t).2.2.2.2.1
  have a0 : ((((cfg0.win 4).blk t).view.emb y) 0).val = win0_4.index t 0 * 4 + (y 0).val := Pipeline.Window.rect_emb_val win0_4 t y 0 rfl
  have a1 : ((((cfg0.win 4).blk t).view.emb y) 1).val = win0_4.index t 1 * 256 + (y 1).val := Pipeline.Window.rect_emb_val win0_4 t y 1 rfl
  have a2 : ((((cfg0.win 4).blk t).view.emb y) 2).val = win0_4.index t 2 * 704 + (y 2).val := Pipeline.Window.rect_emb_val win0_4 t y 2 rfl
  rw [e] at a0 a1 a2
  have a0' : _ = 0 * 4 + (y 0).val := a0
  have a1' : _ = t.val * 256 + (y 1).val := a1
  have a2' : _ = 0 * 704 + (y 2).val := a2
  exact cong3 K (a0'.trans (by omega)) (a1'.trans (by rw [Nat.mul_comm])) (a2'.trans (by omega))

/-- The gate's weights. -/
theorem blk5 (c : Dev nD) (X) (hX : m ((c : Thread nD τ).loc main_arg2) = X) (t : Fin cfg0.N) :
    At4 (iblk m c 5 t) (fun e f d => nat4 X e 8 f d) := fun y => by
  refine ((read5 (V m c) t y).trans (congrFun ((V_main_arg2 m c).trans hX) _)).trans ((nat4_val X _).trans ?_)
  have e := (idx t).2.2.2.2.2.1
  have a0 : ((((cfg0.win 5).blk t).view.emb y) 0).val = win0_5.index t 0 * 4 + (y 0).val := Pipeline.Window.rect_emb_val win0_5 t y 0 rfl
  have a1 : ((((cfg0.win 5).blk t).view.emb y) 1).val = win0_5.index t 1 * 1 + (y 1).val := Pipeline.Window.rect_emb_val win0_5 t y 1 rfl
  have a2 : ((((cfg0.win 5).blk t).view.emb y) 2).val = win0_5.index t 2 * 704 + (y 2).val := Pipeline.Window.rect_emb_val win0_5 t y 2 rfl
  have a3 : ((((cfg0.win 5).blk t).view.emb y) 3).val = win0_5.index t 3 * 1024 + (y 3).val := Pipeline.Window.rect_emb_val win0_5 t y 3 rfl
  rw [e] at a0 a1 a2 a3
  have a0' : _ = 0 * 4 + (y 0).val := a0
  have a1' : _ = 8 * 1 + (y 1).val := a1
  have a2' : _ = 0 * 704 + (y 2).val := a2
  have a3' : _ = 0 * 1024 + (y 3).val := a3
  have y1 : (y 1).val < 1 := (y 1).isLt
  exact Cert.FfnFwdRef.cong4 X (a0'.trans (by omega)) (a1'.trans (by omega)) (a2'.trans (by omega)) (a3'.trans (by omega))

/-- The up's weights. -/
theorem blk6 (c : Dev nD) (X) (hX : m ((c : Thread nD τ).loc main_arg2) = X) (t : Fin cfg0.N) :
    At4 (iblk m c 6 t) (fun e f d => nat4 X e 12 f d) := fun y => by
  refine ((read6 (V m c) t y).trans (congrFun ((V_main_arg2 m c).trans hX) _)).trans ((nat4_val X _).trans ?_)
  have e := (idx t).2.2.2.2.2.2.1
  have a0 : ((((cfg0.win 6).blk t).view.emb y) 0).val = win0_6.index t 0 * 4 + (y 0).val := Pipeline.Window.rect_emb_val win0_6 t y 0 rfl
  have a1 : ((((cfg0.win 6).blk t).view.emb y) 1).val = win0_6.index t 1 * 1 + (y 1).val := Pipeline.Window.rect_emb_val win0_6 t y 1 rfl
  have a2 : ((((cfg0.win 6).blk t).view.emb y) 2).val = win0_6.index t 2 * 704 + (y 2).val := Pipeline.Window.rect_emb_val win0_6 t y 2 rfl
  have a3 : ((((cfg0.win 6).blk t).view.emb y) 3).val = win0_6.index t 3 * 1024 + (y 3).val := Pipeline.Window.rect_emb_val win0_6 t y 3 rfl
  rw [e] at a0 a1 a2 a3
  have a0' : _ = 0 * 4 + (y 0).val := a0
  have a1' : _ = 12 * 1 + (y 1).val := a1
  have a2' : _ = 0 * 704 + (y 2).val := a2
  have a3' : _ = 0 * 1024 + (y 3).val := a3
  have y1 : (y 1).val < 1 := (y 1).isLt
  exact Cert.FfnFwdRef.cong4 X (a0'.trans (by omega)) (a1'.trans (by omega)) (a2'.trans (by omega)) (a3'.trans (by omega))

/-- The down weights. -/
theorem blk7 (c : Dev nD) (X) (hX : m ((c : Thread nD τ).loc main_arg3) = X) (t : Fin cfg0.N) :
    At4 (iblk m c 7 t) (fun e f d => nat4 X e 4 f d) := fun y => by
  refine ((read7 (V m c) t y).trans (congrFun ((V_main_arg3 m c).trans hX) _)).trans ((nat4_val X _).trans ?_)
  have e := (idx t).2.2.2.2.2.2.2.1
  have a0 : ((((cfg0.win 7).blk t).view.emb y) 0).val = win0_7.index t 0 * 4 + (y 0).val := Pipeline.Window.rect_emb_val win0_7 t y 0 rfl
  have a1 : ((((cfg0.win 7).blk t).view.emb y) 1).val = win0_7.index t 1 * 1 + (y 1).val := Pipeline.Window.rect_emb_val win0_7 t y 1 rfl
  have a2 : ((((cfg0.win 7).blk t).view.emb y) 2).val = win0_7.index t 2 * 704 + (y 2).val := Pipeline.Window.rect_emb_val win0_7 t y 2 rfl
  have a3 : ((((cfg0.win 7).blk t).view.emb y) 3).val = win0_7.index t 3 * 1024 + (y 3).val := Pipeline.Window.rect_emb_val win0_7 t y 3 rfl
  rw [e] at a0 a1 a2 a3
  have a0' : _ = 0 * 4 + (y 0).val := a0
  have a1' : _ = 4 * 1 + (y 1).val := a1
  have a2' : _ = 0 * 704 + (y 2).val := a2
  have a3' : _ = 0 * 1024 + (y 3).val := a3
  have y1 : (y 1).val < 1 := (y 1).isLt
  exact Cert.FfnFwdRef.cong4 X (a0'.trans (by omega)) (a1'.trans (by omega)) (a2'.trans (by omega)) (a3'.trans (by omega))

/-! ## The arrays -/

variable (c : Dev nD) (x g y0 w v) (a b : (⟨S4x16384x704, .bf16⟩ : BufTy).Contents (Elt Ideal)) (A B : ℕ → ℕ → ℕ → EReal)
  (hx : m ((c : Thread nD τ).loc main_arg0) = x) (hg : m ((c : Thread nD τ).loc main_arg1) = g) (hy : m ((c : Thread nD τ).loc main_arg4) = y0)
  (hw : m ((c : Thread nD τ).loc main_arg2) = w) (hv : m ((c : Thread nD τ).loc main_arg3) = v) (ha : V m c main_v29 = a) (hb : V m c main_v33 = b) (hA : AtS a A) (hB : AtS b B)

include hx hg hy hw hv ha hb hA hB in
/-- The gradient by the input. -/
theorem final8 (R : (⟨S16384x1024, .f32⟩ : BufTy).Contents (Elt Ideal))
    (hR : At2 R (dinput (nat2 x) (nat2 g) (nat2 y0) (dhid (nat2 y0) A B (fun e f d => nat4 w e 8 f d) (fun e f d => nat4 w e 12 f d) (fun e f d => nat4 v e 4 f d)))) :
    (dats m 0 c).arrAt 8 (cfgs 0).N = R := by
  refine (dats m 0 c).arrAt_eq_of_covers 8 R (by decide +kernel) fun t hf y => ?_
  have hz : (dats m 0 c).after 8 t y = R (((cfg0.win 8).blk t).view.emb y) := by
    rw [after0_8]
    refine (left8 m c t (blk0 m c x hx t) (blk1 m c g hg t) (blk2 m c y0 hy t) (blk3 m c a ha A hA t) (blk4 m c b hb B hB t) (blk5 m c w hw t) (blk6 m c w hw t) (blk7 m c v hv t) y).trans (Eq.trans ?_ (hR _).symm)
    have e := (idx t).2.2.2.2.2.2.2.2.1
    have a0 : ((((cfg0.win 8).blk t).view.emb y) 0).val = win0_8.index t 0 * 256 + (y 0).val := Pipeline.Window.rect_emb_val win0_8 t y 0 rfl
    have a1 : ((((cfg0.win 8).blk t).view.emb y) 1).val = win0_8.index t 1 * 1024 + (y 1).val := Pipeline.Window.rect_emb_val win0_8 t y 1 rfl
    rw [e] at a0 a1
    have a0' : _ = t.val * 256 + (y 0).val := a0
    have a1' : _ = 0 * 1024 + (y 1).val := a1
    rw [a0', a1', Nat.mul_comm, Nat.zero_mul, Nat.zero_add]
    rfl
  exact hz

include hy in
/-- The output's gradient in the weights' format. -/
theorem final10 (R : (⟨S16384x1024, .bf16⟩ : BufTy).Contents (Elt Ideal))
    (hR : At2 R (nat2 y0)) :
    (dats m 0 c).arrAt 10 (cfgs 0).N = R := by
  refine (dats m 0 c).arrAt_eq_of_covers 10 R (by decide +kernel) fun t hf y => ?_
  have hz : (dats m 0 c).after 10 t y = R (((cfg0.win 10).blk t).view.emb y) := by
    rw [after0_10]
    refine (left10 m c t (blk2 m c y0 hy t) y).trans (Eq.trans ?_ (hR _).symm)
    have e := (idx t).2.2.2.2.2.2.2.2.2.2.1
    have a0 : ((((cfg0.win 10).blk t).view.emb y) 0).val = win0_10.index t 0 * 256 + (y 0).val := Pipeline.Window.rect_emb_val win0_10 t y 0 rfl
    have a1 : ((((cfg0.win 10).blk t).view.emb y) 1).val = win0_10.index t 1 * 1024 + (y 1).val := Pipeline.Window.rect_emb_val win0_10 t y 1 rfl
    rw [e] at a0 a1
    have a0' : _ = t.val * 256 + (y 0).val := a0
    have a1' : _ = 0 * 1024 + (y 1).val := a1
    rw [a0', a1', Nat.mul_comm, Nat.zero_mul, Nat.zero_add]
  exact hz

include hy hv ha hb hA hB in
/-- The gradient by the gate products. -/
theorem final11 (R : (⟨S4x16384x704, .bf16⟩ : BufTy).Contents (Elt Ideal))
    (hR : AtS R (dgate (nat2 y0) A B (fun e f d => nat4 v e 4 f d))) :
    (dats m 0 c).arrAt 11 (cfgs 0).N = R := by
  refine (dats m 0 c).arrAt_eq_of_covers 11 R (by decide +kernel) fun t hf y => ?_
  have hz : (dats m 0 c).after 11 t y = R (((cfg0.win 11).blk t).view.emb y) := by
    rw [after0_11]
    refine (left11 m c t (blk2 m c y0 hy t) (blk3 m c a ha A hA t) (blk4 m c b hb B hB t) (blk7 m c v hv t) y).trans (Eq.trans ?_ (hR _).symm)
    have e := (idx t).2.2.2.2.2.2.2.2.2.2.2.1
    have a0 : ((((cfg0.win 11).blk t).view.emb y) 0).val = win0_11.index t 0 * 4 + (y 0).val := Pipeline.Window.rect_emb_val win0_11 t y 0 rfl
    have a1 : ((((cfg0.win 11).blk t).view.emb y) 1).val = win0_11.index t 1 * 256 + (y 1).val := Pipeline.Window.rect_emb_val win0_11 t y 1 rfl
    have a2 : ((((cfg0.win 11).blk t).view.emb y) 2).val = win0_11.index t 2 * 704 + (y 2).val := Pipeline.Window.rect_emb_val win0_11 t y 2 rfl
    rw [e] at a0 a1 a2
    have a0' : _ = 0 * 4 + (y 0).val := a0
    have a1' : _ = t.val * 256 + (y 1).val := a1
    have a2' : _ = 0 * 704 + (y 2).val := a2
    rw [a0', a1', a2', Nat.mul_comm t.val, Nat.zero_mul, Nat.zero_add, Nat.zero_add]
    rfl
  exact hz

include hy hv ha hA in
/-- The gradient by the up products. -/
theorem final12 (R : (⟨S4x16384x704, .bf16⟩ : BufTy).Contents (Elt Ideal))
    (hR : AtS R (dup (nat2 y0) A (fun e f d => nat4 v e 4 f d))) :
    (dats m 0 c).arrAt 12 (cfgs 0).N = R := by
  refine (dats m 0 c).arrAt_eq_of_covers 12 R (by decide +kernel) fun t hf y => ?_
  have hz : (dats m 0 c).after 12 t y = R (((cfg0.win 12).blk t).view.emb y) := by
    rw [after0_12]
    refine (left12 m c t (blk2 m c y0 hy t) (blk3 m c a ha A hA t) (blk7 m c v hv t) y).trans (Eq.trans ?_ (hR _).symm)
    have e := (idx t).2.2.2.2.2.2.2.2.2.2.2.2.1
    have a0 : ((((cfg0.win 12).blk t).view.emb y) 0).val = win0_12.index t 0 * 4 + (y 0).val := Pipeline.Window.rect_emb_val win0_12 t y 0 rfl
    have a1 : ((((cfg0.win 12).blk t).view.emb y) 1).val = win0_12.index t 1 * 256 + (y 1).val := Pipeline.Window.rect_emb_val win0_12 t y 1 rfl
    have a2 : ((((cfg0.win 12).blk t).view.emb y) 2).val = win0_12.index t 2 * 704 + (y 2).val := Pipeline.Window.rect_emb_val win0_12 t y 2 rfl
    rw [e] at a0 a1 a2
    have a0' : _ = 0 * 4 + (y 0).val := a0
    have a1' : _ = t.val * 256 + (y 1).val := a1
    have a2' : _ = 0 * 704 + (y 2).val := a2
    rw [a0', a1', a2', Nat.mul_comm t.val, Nat.zero_mul, Nat.zero_add, Nat.zero_add]
    rfl
  exact hz

include ha hb hA hB in
/-- The activations. -/
theorem final13 (R : (⟨S4x16384x704, .bf16⟩ : BufTy).Contents (Elt Ideal))
    (hR : AtS R (acted A B)) :
    (dats m 0 c).arrAt 13 (cfgs 0).N = R := by
  refine (dats m 0 c).arrAt_eq_of_covers 13 R (by decide +kernel) fun t hf y => ?_
  have hz : (dats m 0 c).after 13 t y = R (((cfg0.win 13).blk t).view.emb y) := by
    rw [after0_13]
    refine (left13 m c t (blk3 m c a ha A hA t) (blk4 m c b hb B hB t) y).trans (Eq.trans ?_ (hR _).symm)
    have e := (idx t).2.2.2.2.2.2.2.2.2.2.2.2.2
    have a0 : ((((cfg0.win 13).blk t).view.emb y) 0).val = win0_13.index t 0 * 4 + (y 0).val := Pipeline.Window.rect_emb_val win0_13 t y 0 rfl
    have a1 : ((((cfg0.win 13).blk t).view.emb y) 1).val = win0_13.index t 1 * 256 + (y 1).val := Pipeline.Window.rect_emb_val win0_13 t y 1 rfl
    have a2 : ((((cfg0.win 13).blk t).view.emb y) 2).val = win0_13.index t 2 * 704 + (y 2).val := Pipeline.Window.rect_emb_val win0_13 t y 2 rfl
    rw [e] at a0 a1 a2
    have a0' : _ = 0 * 4 + (y 0).val := a0
    have a1' : _ = t.val * 256 + (y 1).val := a1
    have a2' : _ = 0 * 704 + (y 2).val := a2
    rw [a0', a1', a2', Nat.mul_comm t.val, Nat.zero_mul, Nat.zero_add, Nat.zero_add]
    rfl
  exact hz

include hx hy hw hv ha hb hA hB in
/-- After `n + 1` points the gain's gradient has the rows of the first `n + 1` tiles. -/
theorem gain_upto (n : ℕ) (hn : n < cfg0.N) (i : S1x1024.Idx) : (outsAt0 m c n hn).2.1 i
    = ∑ q ∈ range (n + 1), ∑ r ∈ range 256, (dhid (nat2 y0) A B (fun e f d => nat4 w e 8 f d) (fun e f d => nat4 w e 12 f d) (fun e f d => nat4 v e 4 f d)) (256 * q + r) (i 1).val * unit (nat2 x) (256 * q + r) (i 1).val := by
  induction n with
  | zero =>
    let t : Fin cfg0.N := ⟨0, hn⟩
    rw [Nat.zero_add, sum_range_one]
    exact left9_A m c t (blk0 m c x hx t) (blk2 m c y0 hy t) (blk3 m c a ha A hA t) (blk4 m c b hb B hB t) (blk5 m c w hw t) (blk6 m c w hw t) (blk7 m c v hv t) rfl (Nat.not_succ_le_zero 0) i
  | succ n ih =>
    let t : Fin cfg0.N := ⟨n + 1, hn⟩
    have h64 : n + 1 < 64 := lt_of_lt_of_eq hn N_0
    rw [sum_range_succ, ← ih (Nat.lt_of_succ_lt hn)]
    exact left9_B m c t (blk0 m c x hx t) (blk2 m c y0 hy t) (blk3 m c a ha A hA t) (blk4 m c b hb B hB t) (blk5 m c w hw t) (blk6 m c w hw t) (blk7 m c v hv t) (show ¬(n + 1) % 64 = 0 by omega) (Nat.le_add_left 1 n) i

/-- Only the last point writes the gain's gradient out. -/
theorem flush9 : ∀ t : Fin cfg0.N, (cfg0.win 9).flush t = true → t.val = 63 := (by decide +kernel : ∀ t : Fin grid0.N, _)

include hx hy hw hv ha hb hA hB in
/-- The gradient by the gain. -/
theorem final9 (R : (⟨S1x1024, .f32⟩ : BufTy).Contents (Elt Ideal))
    (hR : At2 R (fun _ d => ∑ k ∈ range 16384, (dhid (nat2 y0) A B (fun e f d => nat4 w e 8 f d) (fun e f d => nat4 w e 12 f d) (fun e f d => nat4 v e 4 f d)) k d * unit (nat2 x) k d)) :
    (dats m 0 c).arrAt 9 (cfgs 0).N = R := by
  refine (dats m 0 c).arrAt_eq_of_covers 9 R (by decide +kernel) fun t hf y => ?_
  have hz : (dats m 0 c).after 9 t y = R (((cfg0.win 9).blk t).view.emb y) := by
    rw [after0_9]
    refine (gain_upto m c x y0 w v a b A B hx hy hw hv ha hb hA hB t.val t.isLt y).trans (Eq.trans ?_ (hR _).symm)
    have e := (idx t).2.2.2.2.2.2.2.2.2.1
    have a1 : ((((cfg0.win 9).blk t).view.emb y) 1).val = win0_9.index t 1 * 1024 + (y 1).val := Pipeline.Window.rect_emb_val win0_9 t y 1 rfl
    rw [e] at a1
    have a1' : _ = 0 * 1024 + (y 1).val := a1
    rw [a1', Nat.zero_mul, Nat.zero_add, flush9 t hf]
    exact (runs (fun k => (dhid (nat2 y0) A B (fun e f d => nat4 w e 8 f d) (fun e f d => nat4 w e 12 f d) (fun e f d => nat4 v e 4 f d)) k (y 1).val * unit (nat2 x) k (y 1).val) 256 64).symm
  exact hz

end Cert.FfnDgradValue
-- ==== Proof.FfnDgradMath.lean ====
/-
  The feed-forward network's backward pass by the input: the two programs' ways to write one gradient agree over the real numbers.
-/
module

public import proofs.«01_k».proof.Proof.FfnDgradSpec
public import proofs.«01_k».proof.Proof.FfnMath
public import Mathlib.Tactic.Ring
public import Mathlib.Tactic.FieldSimp
public import Mathlib.Tactic.NormNum

@[expose] public section

set_option maxRecDepth 16384

noncomputable section

namespace Cert.FfnDgrad

open Cert.Ffn
open Idealize.ShloMosaic Finset

/-! ## Real numbers among the extended ones -/

/-- An extended real that is a real number. -/
def IsReal (x : EReal) : Prop := ∃ r : ℝ, x = (r : EReal)

/-- A product of real numbers is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of two real numbers is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The sum of real numbers, taken among the extended ones. -/
theorem sum_coe (n : ℕ) (f : ℕ → ℝ) : ∑ k ∈ range n, ((f k : ℝ) : EReal) = ((∑ k ∈ range n, f k : ℝ) : EReal) := by
  induction n with
  | zero => simp
  | succ n ih => rw [sum_range_succ, sum_range_succ, ih, EReal.coe_add]

/-- A sum of real numbers is real. -/
theorem IsReal.sum (n : ℕ) {f : ℕ → EReal} (h : ∀ k, IsReal (f k)) : IsReal (∑ k ∈ range n, f k) := by
  choose g hg using h
  exact ⟨∑ k ∈ range n, g k, by rw [← sum_coe]; exact Finset.sum_congr rfl fun k _ => hg k⟩

/-- The logistic function of a real number is real. -/
theorem IsReal.logistic {x : EReal} (hx : IsReal x) : IsReal (Ideal.logistic x) := by
  obtain ⟨a, rfl⟩ := hx
  exact ⟨_, Ideal.logistic_coe a⟩

/-! ## Constants -/

/-- The width. -/
theorem ofBits_width : Ideal.ofBits .f32 0x44800000#32 = ((1024 : ℝ) : EReal) := by
  simp [Ideal.ofBits, Ideal.ieee]
  rw [← EReal.coe_mul]
  norm_num

/-- Minus a half. -/
theorem ofBits_mhalf : Ideal.ofBits .f32 0xBF000000#32 = ((-1 / 2 : ℝ) : EReal) := by
  simp [Ideal.ofBits, Ideal.ieee]
  rw [← EReal.coe_mul, ← EReal.coe_neg]
  norm_num

/-- The number added to the mean of squares is positive. -/
theorem ofBits_eps : ∃ e : ℝ, 0 < e ∧ Ideal.ofBits .f32 0x358637BD#32 = (e : EReal) := by
  simp [Ideal.ofBits, Ideal.ieee]
  rw [← EReal.coe_mul]
  exact ⟨_, by positivity, rfl⟩

/-! ## The root mean square -/

/-- The mean of a row's squares, with the small number added. -/
def mean (X : ℕ → ℕ → EReal) (t : ℕ) : EReal :=
  Ideal.div (∑ k ∈ range 1024, X t k * X t k) (Ideal.ofBits .f32 0x44800000#32) + Ideal.ofBits .f32 0x358637BD#32

/-- For a row of real numbers, the mean of squares is a positive number and the root's inverse squares to its inverse. -/
theorem rms_spec {X : ℕ → ℕ → EReal} (hX : ∀ t d, IsReal (X t d)) (t : ℕ) :
    ∃ p r : ℝ, 0 < p ∧ r * r * p = 1 ∧ mean X t = (p : EReal) ∧ rms X t = (r : EReal) := by
  choose x hx using hX
  obtain ⟨e, he, hE⟩ := ofBits_eps
  have hp : mean X t = (((∑ k ∈ range 1024, x t k * x t k) * (1 / 1024) + e : ℝ) : EReal) := by
    unfold mean
    rw [hE, ofBits_width, Ideal.div_coe (by norm_num : (1024 : ℝ) ≠ 0), EReal.coe_add, EReal.coe_mul, ← sum_coe]
    refine congrArg (fun u : EReal => u * _ + _) (Finset.sum_congr rfl fun k _ => ?_)
    rw [hx, EReal.coe_mul]
  have h0 : 0 < (∑ k ∈ range 1024, x t k * x t k) * (1 / 1024) + e :=
    add_pos_of_nonneg_of_pos (mul_nonneg (Finset.sum_nonneg fun k _ => mul_self_nonneg _) (by norm_num)) he
  generalize (∑ k ∈ range 1024, x t k * x t k) * (1 / 1024) + e = p at hp h0
  have hs : Real.sqrt p ≠ 0 := (Real.sqrt_pos.mpr h0).ne'
  refine ⟨p, (Real.sqrt p)⁻¹, h0, ?_, hp, ?_⟩
  · have h2 := Real.mul_self_sqrt h0.le
    generalize Real.sqrt p = s at hs h2
    rw [← h2]
    field_simp
  · show Ideal.rsqrt (mean X t) = _
    rw [hp, Ideal.rsqrt_coe, if_neg (not_lt.mpr h0.le), if_neg h0.ne']

/-- The root's inverse is real. -/
theorem rms_real {X : ℕ → ℕ → EReal} (hX : ∀ t d, IsReal (X t d)) (t : ℕ) : IsReal (rms X t) := by
  obtain ⟨_, r, _, _, _, h⟩ := rms_spec hX t
  exact ⟨r, h⟩

/-! ## Finite gradients -/

/-- The products of the normed input are real. -/
theorem pre_real {X G W : ℕ → ℕ → EReal} (hX : ∀ t d, IsReal (X t d)) (hG : ∀ t d, IsReal (G t d)) (hW : ∀ f d, IsReal (W f d)) (t f : ℕ) : IsReal (pre X G W t f) :=
  IsReal.sum _ fun d => (((hX t d).mul (rms_real hX t)).mul (hG 0 d)).mul (hW f d)

/-- The constant a half is real. -/
theorem half_real : IsReal ((1 / 2 : ℝ) : EReal) := ⟨_, rfl⟩

/-- The constant one is real. -/
theorem one_real : IsReal 1 := ⟨1, EReal.coe_one.symm⟩

/-- Half the gradient by an activation is real. -/
theorem dact_real {Y : ℕ → ℕ → EReal} {D : ℕ → ℕ → ℕ → EReal} (hY : ∀ t d, IsReal (Y t d)) (hD : ∀ e f d, IsReal (D e f d)) (e t f : ℕ) : IsReal (dact Y D e t f) :=
  half_real.mul (IsReal.sum _ fun d => (hY t d).mul (hD e f d))

/-- The derivative of the gate's activation is real. -/
theorem slope_real {g : EReal} (hg : IsReal g) : IsReal (slope g) := by
  obtain ⟨s, hs⟩ := hg.logistic
  obtain ⟨a, rfl⟩ := hg
  refine ⟨s * (1 + a * (1 - s)), ?_⟩
  unfold slope
  rw [hs]
  norm_cast

section Real

variable {X G Y : ℕ → ℕ → EReal} {A B W U D : ℕ → ℕ → ℕ → EReal} (hX : ∀ t d, IsReal (X t d)) (hG : ∀ t d, IsReal (G t d)) (hY : ∀ t d, IsReal (Y t d))
  (hA : ∀ e t f, IsReal (A e t f)) (hB : ∀ e t f, IsReal (B e t f)) (hW : ∀ e f d, IsReal (W e f d)) (hU : ∀ e f d, IsReal (U e f d)) (hD : ∀ e f d, IsReal (D e f d))

include hY hA hB hD hW hU in
/-- A chunk's share of the gradient by the normed input is real. -/
theorem share_real (e t d : ℕ) : IsReal (share Y A B W U D e t d) :=
  (IsReal.sum _ fun f => (((dact_real hY hD e t f).mul (hB e t f)).mul (slope_real (hA e t f))).mul (hW e f d)).add
    (IsReal.sum _ fun f => ((dact_real hY hD e t f).mul ((hA e t f).mul (hA e t f).logistic)).mul (hU e f d))

include hY hA hB hD hW hU in
/-- The gradient by the normed input is real. -/
theorem dhid_real (t d : ℕ) : IsReal (dhid Y A B W U D t d) :=
  (((share_real hY hA hB hW hU hD 0 t d).add (share_real hY hA hB hW hU hD 1 t d)).add (share_real hY hA hB hW hU hD 2 t d)).add (share_real hY hA hB hW hU hD 3 t d)

end Real

/-! ## The two ways agree -/

/-- The gradient by a gate product, as the two terms that the product rule gives. -/
theorem slope_terms {a u g : EReal} (ha : IsReal a) (hu : IsReal u) (hg : IsReal g) :
    a * u * Ideal.logistic g + g * (a * u) * (Ideal.logistic g * (1 - Ideal.logistic g)) = a * u * slope g := by
  obtain ⟨s, hs⟩ := hg.logistic
  unfold slope
  rw [hs]
  obtain ⟨a, rfl⟩ := ha
  obtain ⟨u, rfl⟩ := hu
  obtain ⟨g, rfl⟩ := hg
  norm_cast
  ring

/-- The four chunks' shares are the two products over all hidden units. -/
theorem dhid_terms (Y : ℕ → ℕ → EReal) (A B W U D : ℕ → ℕ → ℕ → EReal) (t d : ℕ) :
    ∑ k ∈ range 2816, dup Y A D (k / 704) t (k % 704) * U (k / 704) (k % 704) d + ∑ k ∈ range 2816, dgate Y A B D (k / 704) t (k % 704) * W (k / 704) (k % 704) d
      = dhid Y A B W U D t d := by
  have key : ∀ F : ℕ → ℕ → EReal, ∑ k ∈ range 2816, F (k / 704) (k % 704)
      = ∑ f ∈ range 704, F 0 f + ∑ f ∈ range 704, F 1 f + ∑ f ∈ range 704, F 2 f + ∑ f ∈ range 704, F 3 f := fun F => by
    refine (runs (fun k => F (k / 704) (k % 704)) 704 4).trans ?_
    have h : ∀ e, ∑ b ∈ range 704, (fun k => F (k / 704) (k % 704)) (704 * e + b) = ∑ f ∈ range 704, F e f := fun e =>
      Finset.sum_congr rfl fun b hb => by
        have hb' := Finset.mem_range.mp hb
        show F ((704 * e + b) / 704) ((704 * e + b) % 704) = _
        rw [show (704 * e + b) / 704 = e by omega, show (704 * e + b) % 704 = b by omega]
    rw [sum_range_succ, sum_range_succ, sum_range_succ, sum_range_one, h 0, h 1, h 2, h 3]
  rw [key (fun e f => dup Y A D e t f * U e f d), key (fun e f => dgate Y A B D e t f * W e f d)]
  unfold dhid share
  generalize ∑ f ∈ range 704, dup Y A D 0 t f * U 0 f d = u0
  generalize ∑ f ∈ range 704, dup Y A D 1 t f * U 1 f d = u1
  generalize ∑ f ∈ range 704, dup Y A D 2 t f * U 2 f d = u2
  generalize ∑ f ∈ range 704, dup Y A D 3 t f * U 3 f d = u3
  abel

/-- The gradient by the input, as the terms that the derivative of the root mean square gives. -/
theorem dinput_terms {X G Y H : ℕ → ℕ → EReal} (hX : ∀ t d, IsReal (X t d)) (hG : ∀ t d, IsReal (G t d)) (hY : ∀ t d, IsReal (Y t d)) (hH : ∀ t d, IsReal (H t d)) (t d : ℕ) :
    Y t d + H t d * G 0 d * rms X t
        + X t d * Ideal.div ((∑ k ∈ range 1024, X t k * (H t k * G 0 k)) * (Ideal.ofBits .f32 0xBF000000#32 * Ideal.div (rms X t) (mean X t))) (Ideal.ofBits .f32 0x44800000#32)
        + Ideal.div ((∑ k ∈ range 1024, X t k * (H t k * G 0 k)) * (Ideal.ofBits .f32 0xBF000000#32 * Ideal.div (rms X t) (mean X t))) (Ideal.ofBits .f32 0x44800000#32) * X t d
      = dinput X G Y H t d := by
  obtain ⟨p, r, hp, hrp, hP, hR⟩ := rms_spec hX t
  choose x hx using hX
  choose g hg using hG
  choose y hy using hY
  choose h hh using hH
  have e1 : ∑ k ∈ range 1024, X t k * (H t k * G 0 k) = ((∑ k ∈ range 1024, x t k * (h t k * g 0 k) : ℝ) : EReal) := by
    rw [← sum_coe]
    exact Finset.sum_congr rfl fun k _ => by rw [hx, hh, hg]; norm_cast
  have e2 : ∑ k ∈ range 1024, H t k * G 0 k * unit X t k = (((∑ k ∈ range 1024, x t k * (h t k * g 0 k)) * r : ℝ) : EReal) := by
    rw [Finset.sum_mul, ← sum_coe]
    refine Finset.sum_congr rfl fun k _ => ?_
    unfold unit
    rw [hx, hh, hg, hR]
    norm_cast
    ring
  unfold dinput
  rw [e1, e2]
  unfold unit
  obtain ⟨c, hc⟩ : ∃ c : ℝ, c = -1 / 2 := ⟨_, rfl⟩
  rw [hR, hP, hx, hy, hh, hg, ofBits_width, ofBits_mhalf, ← hc, Ideal.div_coe hp.ne', Ideal.div_coe (by norm_num : (1024 : ℝ) ≠ 0), Ideal.div_coe (by norm_num : (1024 : ℝ) ≠ 0)]
  generalize ∑ k ∈ range 1024, x t k * (h t k * g 0 k) = s
  norm_cast
  have hq : 1 / p = r * r := by
    rw [div_eq_iff hp.ne']
    exact hrp.symm
  rw [hq, hc]
  ring

end Cert.FfnDgrad
-- ==== Proof.FfnDgradRef.lean ====
/-
  The feed-forward network's backward pass by the input: the reference's six results by their entries.
-/
module

public import proofs.«01_k».proof.Proof.FfnDgradMath
public import proofs.«01_k».proof.Proof.FfnFwdRef
public import proofs.«01_k».proof.Proof.Gen.FfnDgradRefIdeal.Read

@[expose] public section

set_option maxRecDepth 16384

noncomputable section

namespace Cert.FfnDgradRef

open Cert.FfnDgradRefIdeal Cert.FfnDgradRefIdeal.Read Cert.Ffn Cert.FfnDgrad
open Idealize.ShloMosaic Finset

variable (x : (⟨S16384x1024, .f32⟩ : BufTy).Contents (Elt Ideal)) (g : (⟨S1x1024, .f32⟩ : BufTy).Contents (Elt Ideal))
  (w : (⟨S4x16x704x1024, .bf16⟩ : BufTy).Contents (Elt Ideal)) (v : (⟨S4x8x704x1024, .bf16⟩ : BufTy).Contents (Elt Ideal))
  (y : (⟨S16384x1024, .f32⟩ : BufTy).Contents (Elt Ideal))

/-- The gate's weights by chunk. -/
def gateWs (e f d : ℕ) : EReal := nat4 w e 8 f d
/-- The up's weights by chunk. -/
def upWs (e f d : ℕ) : EReal := nat4 w e 12 f d
/-- The down weights by chunk. -/
def downWs (e f d : ℕ) : EReal := nat4 v e 4 f d
/-- The gate products by chunk. -/
def gates (e : ℕ) : ℕ → ℕ → EReal := pre (nat2 x) (nat2 g) (gateWs w e)
/-- The up products by chunk. -/
def ups (e : ℕ) : ℕ → ℕ → EReal := pre (nat2 x) (nat2 g) (upWs w e)

/-! ## The products -/

/-- The gate products. -/
theorem gate (i : S16384x2816.Idx) : val_main_v43 (F := Ideal) x g w i = gates x g w ((i 1).val / 704) (i 0).val ((i 1).val % 704) := Cert.FfnFwdRef.gate x g w i

/-- The up products. -/
theorem up (i : S16384x2816.Idx) : val_main_v44 (F := Ideal) x g w i = ups x g w ((i 1).val / 704) (i 0).val ((i 1).val % 704) := Cert.FfnFwdRef.up x g w i

/-- The gate products, once more. -/
theorem gate' (i : S16384x2816.Idx) : val_main_v26 (F := Ideal) x g w i = gates x g w ((i 1).val / 704) (i 0).val ((i 1).val % 704) := Cert.FfnFwdRef.gate x g w i

/-- The up products, once more. -/
theorem up' (i : S16384x2816.Idx) : val_main_v27 (F := Ideal) x g w i = ups x g w ((i 1).val / 704) (i 0).val ((i 1).val % 704) := Cert.FfnFwdRef.up x g w i

/-- The logistic function of the gate products. -/
theorem sig (i : S16384x2816.Idx) : val_main_v45_2 (F := Ideal) x g w i = Ideal.logistic (gates x g w ((i 1).val / 704) (i 0).val ((i 1).val % 704)) := by
  rw [val_main_v45_2_apply, val_main_call0_v4_apply, val_main_call0_v3_apply, val_main_call0_v2_apply, val_main_call0_v1_apply, val_main_call0_v0_apply, gate]
  show Ideal.div (Ideal.ofBits .f32 0x3F800000#32) (Ideal.ofBits .f32 0x3F800000#32 + Ideal.exp (-_)) = _
  rw [Cert.FfnFwdRef.ofBits_one]
  rfl

/-- The same, once more. -/
theorem sig' (i : S16384x2816.Idx) : val_main_v81_2 (F := Ideal) x g w i = Ideal.logistic (gates x g w ((i 1).val / 704) (i 0).val ((i 1).val % 704)) := by
  rw [val_main_v81_2_apply, val_main_call2_v4_apply, val_main_call2_v3_apply, val_main_call2_v2_apply, val_main_call2_v1_apply, val_main_call2_v0_apply, gate']
  show Ideal.div (Ideal.ofBits .f32 0x3F800000#32) (Ideal.ofBits .f32 0x3F800000#32 + Ideal.exp (-_)) = _
  rw [Cert.FfnFwdRef.ofBits_one]
  rfl

/-- The output's gradient, recast. -/
theorem same (i : S16384x1024.Idx) : val_main_v51 (F := Ideal) y i = nat2 y (i 0).val (i 1).val := by
  rw [val_main_v51_apply]
  have h1 : (i 1).val < 1024 := (i 1).isLt
  refine (nat2_val y (idx_main_v51 i)).trans (congrArg₂ (nat2 y) ?_ ?_)
  · show ((i 0).val * 1024 + (i 1).val) / 1024 = _
    omega
  · show ((i 0).val * 1024 + (i 1).val) % 1024 = _
    omega

/-- Half the gradient by an activation. -/
theorem half (i : S16384x2816.Idx) : val_main_v54 (F := Ideal) v y i = dact (nat2 y) (downWs v) ((i 1).val / 704) (i 0).val ((i 1).val % 704) := by
  rw [val_main_v54_apply, dact, mul_sum_pos _ (by norm_num), Finset.sum_range]
  refine Finset.sum_congr rfl fun k _ => ?_
  rw [val_main_v53_apply, same]
  exact (congrArg₂ (fun p q : EReal => p * q) (congrArg₂ (fun p q : EReal => p * q) ofBits_half rfl) (Cert.FfnFwdRef.downW v (ridx_main_v54 i k))).trans (mul_assoc _ _ _)

/-- Half the gradient by an activation, once more. -/
theorem half' (i : S16384x2816.Idx) : val_main_v88 (F := Ideal) v y i = dact (nat2 y) (downWs v) ((i 1).val / 704) (i 0).val ((i 1).val % 704) := by
  rw [val_main_v88_apply, dact, mul_sum_pos _ (by norm_num), Finset.sum_range]
  refine Finset.sum_congr rfl fun k _ => ?_
  rw [val_main_v87_apply]
  exact (congrArg₂ (fun p q : EReal => p * q) (congrArg₂ (fun p q : EReal => p * q) ofBits_half (nat2_val y (lidx_main_v88 i k))) (Cert.FfnFwdRef.downW v (ridx_main_v88 i k))).trans (mul_assoc _ _ _)

/-- The gradient by an up product. -/
theorem dups (i : S16384x2816.Idx) : val_main_v55 (F := Ideal) x g w v y i = dup (nat2 y) (gates x g w) (downWs v) ((i 1).val / 704) (i 0).val ((i 1).val % 704) := by
  rw [val_main_v55_apply, val_main_v45_0_apply, gate, sig, half]
  exact mul_comm _ _

/-- The gradient by an up product, once more. -/
theorem dups' (i : S16384x2816.Idx) : val_main_v89 (F := Ideal) x g w v y i = dup (nat2 y) (gates x g w) (downWs v) ((i 1).val / 704) (i 0).val ((i 1).val % 704) := by
  rw [val_main_v89_apply, val_main_v81_0_apply, gate', sig', half']
  exact mul_comm _ _

/-! ## Over finite arguments -/

variable (hx : ∀ t d, IsReal (nat2 x t d)) (hg : ∀ t d, IsReal (nat2 g t d)) (hw : ∀ e l f d, IsReal (nat4 w e l f d)) (hv : ∀ e l f d, IsReal (nat4 v e l f d))
  (hy : ∀ t d, IsReal (nat2 y t d))

include hx hg hw in
/-- The gate products are real. -/
theorem gates_real (e t f : ℕ) : IsReal (gates x g w e t f) := pre_real hx hg (fun f d => hw e 8 f d) t f

include hx hg hw in
/-- The up products are real. -/
theorem ups_real (e t f : ℕ) : IsReal (ups x g w e t f) := pre_real hx hg (fun f d => hw e 12 f d) t f

include hx hg hw hv hy

/-- The gradient by a gate product. -/
theorem dgates (i : S16384x2816.Idx) : val_main_v57 (F := Ideal) x g w v y i = dgate (nat2 y) (gates x g w) (ups x g w) (downWs v) ((i 1).val / 704) (i 0).val ((i 1).val % 704) := by
  rw [val_main_v57_apply, val_main_call1_v1_apply, val_main_call1_v2_apply, val_main_call1_v0_apply, val_main_v56_apply, val_main_v45_1_apply, val_main_call0_v7_apply,
    val_main_call0_v6_apply, gate, up, sig, half]
  refine Eq.trans ?_ (slope_terms (dact_real hy (fun e f d => hv e 4 f d) _ _ _) (ups_real x g w hx hg hw _ _ _) (gates_real x g w hx hg hw _ _ _))
  show _ + _ * (_ * (Ideal.ofBits .f32 0x3F800000#32 - _)) = _
  rw [Cert.FfnFwdRef.ofBits_one]
  rfl

/-- The gradient by a gate product, once more. -/
theorem dgates' (i : S16384x2816.Idx) : val_main_v91 (F := Ideal) x g w v y i = dgate (nat2 y) (gates x g w) (ups x g w) (downWs v) ((i 1).val / 704) (i 0).val ((i 1).val % 704) := by
  rw [val_main_v91_apply, val_main_call3_v1_apply, val_main_call3_v2_apply, val_main_call3_v0_apply, val_main_v90_apply, val_main_v81_1_apply, val_main_call2_v7_apply,
    val_main_call2_v6_apply, gate', up', sig', half']
  refine Eq.trans ?_ (slope_terms (dact_real hy (fun e f d => hv e 4 f d) _ _ _) (ups_real x g w hx hg hw _ _ _) (gates_real x g w hx hg hw _ _ _))
  show _ + _ * (_ * (Ideal.ofBits .f32 0x3F800000#32 - _)) = _
  rw [Cert.FfnFwdRef.ofBits_one]
  rfl

/-- The gradient by the normed input. -/
theorem dhids (i : S16384x1024.Idx) : val_main_v60 (F := Ideal) x g w v y i
    = dhid (nat2 y) (gates x g w) (ups x g w) (gateWs w) (upWs w) (downWs v) (i 0).val (i 1).val := by
  rw [val_main_v60_apply, val_main_v58_apply, val_main_v59_apply]
  refine Eq.trans ?_ (dhid_terms (nat2 y) (gates x g w) (ups x g w) (gateWs w) (upWs w) (downWs v) (i 0).val (i 1).val)
  rw [Finset.sum_range, Finset.sum_range]
  refine congrArg₂ (fun p q : EReal => p + q) (Finset.sum_congr rfl fun k _ => ?_) (Finset.sum_congr rfl fun k _ => ?_)
  · exact congrArg₂ (fun p q : EReal => p * q) (dups x g w v y (lidx_main_v58 i k)) (Cert.FfnFwdRef.upW w (ridx_main_v58 i k))
  · exact congrArg₂ (fun p q : EReal => p * q) (dgates x g w v y hx hg hw hv hy (lidx_main_v59 i k)) (Cert.FfnFwdRef.gateW w (ridx_main_v59 i k))

/-- The gradient by the normed input is real. -/
theorem dhids_real (t d : ℕ) : IsReal (dhid (nat2 y) (gates x g w) (ups x g w) (gateWs w) (upWs w) (downWs v) t d) :=
  dhid_real hy (gates_real x g w hx hg hw) (ups_real x g w hx hg hw) (fun e f d => hw e 8 f d) (fun e f d => hw e 12 f d) (fun e f d => hv e 4 f d) t d

omit hx hg hw hv hy in
/-- A row's mean of squares. -/
theorem means (i : S16384x1.Idx) : val_main_v34 (F := Ideal) x i = mean (nat2 x) (i 0).val := by
  rw [val_main_v34_apply, val_main_v33_apply, val_main_v32_apply, val_main_v31_apply, val_main_v30_apply]
  exact congrArg (fun u : EReal => Ideal.div u (Ideal.ofBits .f32 0x44800000#32) + Ideal.ofBits .f32 0x358637BD#32) (Cert.FfnFwdRef.squares x (idx_main_v30 i))

omit hx hg hw hv hy in
/-- A row's root's inverse. -/
theorem roots (i : S16384x1.Idx) : val_main_v35 (F := Ideal) x i = rms (nat2 x) (i 0).val := by
  rw [val_main_v35_apply, means]
  rfl

omit hx hg hw hv hy in
/-- The input over its root mean square. -/
theorem units (i : S16384x1024.Idx) : val_main_v40 (F := Ideal) x i = unit (nat2 x) (i 0).val (i 1).val := by
  rw [val_main_v40_apply, val_main_v39_apply, roots]
  exact congrArg (fun p : EReal => p * _) (nat2_val x i)

/-! ## The results -/

/-- The gradient by the gain. -/
theorem res_gain : At2 (val_main_v63 (F := Ideal) x g w v y) (fun _ d => ∑ k ∈ range 16384,
    dhid (nat2 y) (gates x g w) (ups x g w) (gateWs w) (upWs w) (downWs v) k d * unit (nat2 x) k d) := fun i => by
  show _ = ∑ k ∈ range 16384, dhid (nat2 y) (gates x g w) (ups x g w) (gateWs w) (upWs w) (downWs v) k (i 1).val * unit (nat2 x) k (i 1).val
  rw [val_main_v63_apply, val_main_v62_apply, Finset.sum_range]
  refine (congrArg (fun u : EReal => u + _) Ideal.ofBits_zero_f32).trans ((zero_add _).trans (Finset.sum_congr rfl fun k _ => ?_))
  have h0 : (i 0).val = 0 := Nat.lt_one_iff.mp (i 0).isLt
  rw [val_main_v61_apply, units, dhids x g w v y hx hg hw hv hy]
  show unit (nat2 x) k.val ((i 0).val * 1024 + (i 1).val) * dhid _ _ _ _ _ _ k.val ((i 0).val * 1024 + (i 1).val) = _
  rw [h0, Nat.zero_mul, Nat.zero_add]
  exact mul_comm _ _

/-- A row's sum for the derivative of the root mean square. -/
theorem rows (i : S16384x1.Idx) : val_main_v68 (F := Ideal) x g w v y i
    = ∑ k ∈ range 1024, nat2 x (i 0).val k * (dhid (nat2 y) (gates x g w) (ups x g w) (gateWs w) (upWs w) (downWs v) (i 0).val k * nat2 g 0 k) := by
  rw [val_main_v68_apply, val_main_v67_apply, Finset.sum_range]
  refine (congrArg (fun u : EReal => u + _) Ideal.ofBits_zero_f32).trans ((zero_add _).trans (Finset.sum_congr rfl fun k _ => ?_))
  have h1 : (i 1).val = 0 := Nat.lt_one_iff.mp (i 1).isLt
  have e0 : ((idx_main_v67 (idx_main_v68 i) k) 0).val = (i 0).val := by
    show (i 0).val * 1 + (i 1).val = (i 0).val
    omega
  rw [val_main_v66_apply, val_main_v65_apply, val_main_v64_apply, dhids x g w v y hx hg hw hv hy, e0]
  refine congrArg₂ (fun p q : EReal => p * q) ((nat2_val x _).trans ?_) (congrArg₂ (fun p q : EReal => p * q) rfl (nat2_val g _))
  rw [e0]

/-- The gradient by the input. -/
theorem res_input : At2 (val_main_v80 (F := Ideal) x g w v y)
    (dinput (nat2 x) (nat2 g) (nat2 y) (dhid (nat2 y) (gates x g w) (ups x g w) (gateWs w) (upWs w) (downWs v))) := fun i => by
  refine Eq.trans ?_ (dinput_terms hx hg hy (dhids_real x g w v y hx hg hw hv hy) (i 0).val (i 1).val)
  have e : val_main_v76 (F := Ideal) x g w v y i = Ideal.div ((∑ k ∈ range 1024, nat2 x (i 0).val k * (dhid (nat2 y) (gates x g w) (ups x g w) (gateWs w) (upWs w) (downWs v) (i 0).val k * nat2 g 0 k))
      * (Ideal.ofBits .f32 0xBF000000#32 * Ideal.div (rms (nat2 x) (i 0).val) (mean (nat2 x) (i 0).val))) (Ideal.ofBits .f32 0x44800000#32) := by
    rw [val_main_v76_apply, val_main_v75_apply, Fin.sum_univ_one, val_main_v74_apply, val_main_v72_apply, val_main_v73_apply, val_main_v38_apply, val_main_v37_apply, val_main_v36_apply,
      roots, means, rows x g w v y hx hg hw hv hy]
    exact (congrArg (fun u : EReal => u + _) Ideal.ofBits_zero_f32).trans (zero_add _)
  rw [val_main_v80_apply, val_main_v78_apply, val_main_v79_apply, val_main_v77_apply, val_main_v71_apply, val_main_v70_apply, val_main_v69_apply, val_main_v65_apply, val_main_v64_apply,
    e, roots, dhids x g w v y hx hg hw hv hy]
  exact congrArg₂ (fun p q : EReal => p + q) (congrArg₂ (fun p q : EReal => p + q) (congrArg₂ (fun p q : EReal => p + q) (nat2_val y i)
      (congrArg (fun p : EReal => _ * p * _) (nat2_val g (idx_main_v64 i)))) (congrArg (fun p : EReal => p * _) (nat2_val x i))) (congrArg (fun p : EReal => _ * p) (nat2_val x i))

/-- The gradient by the gate products, in chunks. -/
theorem res_gate : AtS (val_main_v95 (F := Ideal) x g w v y) (dgate (nat2 y) (gates x g w) (ups x g w) (downWs v)) := fun i => by
  rw [val_main_v95_apply, val_main_v94_apply, val_main_v93_apply]
  have h0 : (i 0).val < 4 := (i 0).isLt
  have h2 : (i 2).val < 704 := (i 2).isLt
  refine (dgates' x g w v y hx hg hw hv hy (idx_main_v93 (idx_main_v94 i))).trans ?_
  show dgate _ _ _ _ ((((i 1).val * 4 + (i 0).val) * 704 + (i 2).val) % 2816 / 704) ((((i 1).val * 4 + (i 0).val) * 704 + (i 2).val) / 2816)
    ((((i 1).val * 4 + (i 0).val) * 704 + (i 2).val) % 2816 % 704) = _
  rw [show (((i 1).val * 4 + (i 0).val) * 704 + (i 2).val) % 2816 / 704 = (i 0).val by omega, show (((i 1).val * 4 + (i 0).val) * 704 + (i 2).val) / 2816 = (i 1).val by omega,
    show (((i 1).val * 4 + (i 0).val) * 704 + (i 2).val) % 2816 % 704 = (i 2).val by omega]

omit hx hg hw hv hy

/-- The gradient by the up products, in chunks. -/
theorem res_up : AtS (val_main_v98 (F := Ideal) x g w v y) (dup (nat2 y) (gates x g w) (downWs v)) := fun i => by
  rw [val_main_v98_apply, val_main_v97_apply, val_main_v96_apply]
  have h0 : (i 0).val < 4 := (i 0).isLt
  have h2 : (i 2).val < 704 := (i 2).isLt
  refine (dups' x g w v y (idx_main_v96 (idx_main_v97 i))).trans ?_
  show dup _ _ _ ((((i 1).val * 4 + (i 0).val) * 704 + (i 2).val) % 2816 / 704) ((((i 1).val * 4 + (i 0).val) * 704 + (i 2).val) / 2816)
    ((((i 1).val * 4 + (i 0).val) * 704 + (i 2).val) % 2816 % 704) = _
  rw [show (((i 1).val * 4 + (i 0).val) * 704 + (i 2).val) % 2816 / 704 = (i 0).val by omega, show (((i 1).val * 4 + (i 0).val) * 704 + (i 2).val) / 2816 = (i 1).val by omega,
    show (((i 1).val * 4 + (i 0).val) * 704 + (i 2).val) % 2816 % 704 = (i 2).val by omega]

/-- The activations. -/
theorem acts (i : S16384x2816.Idx) : val_main_v100 (F := Ideal) x g w i = acted (gates x g w) (ups x g w) ((i 1).val / 704) (i 0).val ((i 1).val % 704) :=
  Cert.FfnFwdRef.acts x g w i

/-- The activations, in chunks. -/
theorem res_act : AtS (val_main_v103 (F := Ideal) x g w) (acted (gates x g w) (ups x g w)) := fun i => by
  rw [val_main_v103_apply, val_main_v102_apply, val_main_v101_apply]
  have h0 : (i 0).val < 4 := (i 0).isLt
  have h2 : (i 2).val < 704 := (i 2).isLt
  refine (acts x g w (idx_main_v101 (idx_main_v102 i))).trans ?_
  show acted _ _ ((((i 1).val * 4 + (i 0).val) * 704 + (i 2).val) % 2816 / 704) ((((i 1).val * 4 + (i 0).val) * 704 + (i 2).val) / 2816)
    ((((i 1).val * 4 + (i 0).val) * 704 + (i 2).val) % 2816 % 704) = _
  rw [show (((i 1).val * 4 + (i 0).val) * 704 + (i 2).val) % 2816 / 704 = (i 0).val by omega, show (((i 1).val * 4 + (i 0).val) * 704 + (i 2).val) / 2816 = (i 1).val by omega,
    show (((i 1).val * 4 + (i 0).val) * 704 + (i 2).val) % 2816 % 704 = (i 2).val by omega]

end Cert.FfnDgradRef
-- ==== Proof.FfnFinite.lean ====
/-
  The precondition of the feed-forward network's backward pass: its arguments are real numbers.
-/
module

public import proofs.«01_k».proof.Proof.Finite
public import proofs.«01_k».proof.Proof.FfnDgradMath
public import proofs.«01_k».proof.Pre_finite_ffn
public import proofs.«01_k».proof.Proof.Gen.Pre_finite_ffn

@[expose] public section

set_option maxRecDepth 16384

noncomputable section

namespace Cert.FfnFinite

open Cert.Ffn Cert.FfnDgrad Cert.Pre_finite_ffn
open Idealize.ShloMosaic

/-- The greater bound. -/
theorem inf32 : Ideal.ofBits .f32 0x7F800000#32 = ⊤ := by simp [Ideal.ofBits, Ideal.ieee]
/-- The lesser bound. -/
theorem ninf32 : Ideal.ofBits .f32 0xFF800000#32 = ⊥ := by simp [Ideal.ofBits, Ideal.ieee]

/-- A number between the infinities is real, in the wider format. -/
theorem real32 (x : EReal) (h : IntOp.andi (FloatOps.cmpf (F := Ideal) (φ := .f32) .olt x (Ideal.ofBits .f32 0x7F800000#32))
    (FloatOps.cmpf (F := Ideal) (φ := .f32) .ogt x (Ideal.ofBits .f32 0xFF800000#32)) = 1#1) : IsReal x := by
  refine ⟨x.toReal, Cert.Finite.real_of x ?_⟩
  rw [Cert.Finite.inf16, Cert.Finite.ninf16]
  rw [inf32, ninf32] at h
  exact h

/-- A number between the infinities is real, in the narrower format. -/
theorem real16 (x : EReal) (h : IntOp.andi (FloatOps.cmpf (F := Ideal) (φ := .bf16) .olt x (Ideal.ofBits .bf16 0x7F80#16))
    (FloatOps.cmpf (F := Ideal) (φ := .bf16) .ogt x (Ideal.ofBits .bf16 0xFF80#16)) = 1#1) : IsReal x := ⟨_, Cert.Finite.real_of x h⟩

/-- The constant zero is real. -/
theorem zero_real : IsReal 0 := ⟨0, EReal.coe_zero.symm⟩

/-- A matrix of real numbers has real entries. -/
theorem real_nat2 {a b : ℕ} (x : (⟨2, ![a, b]⟩ : Shape).Idx → EReal) (h : ∀ i, IsReal (x i)) (i j : ℕ) : IsReal (nat2 x i j) := by
  unfold nat2
  split
  · exact h _
  · exact zero_real

/-- A stack of matrices of real numbers has real entries. -/
theorem real_nat4 {a b c d : ℕ} (x : (⟨4, ![a, b, c, d]⟩ : Shape).Idx → EReal) (h : ∀ i, IsReal (x i)) (i j k l : ℕ) : IsReal (nat4 x i j k l) := by
  unfold nat4
  split
  · exact h _
  · exact zero_real

variable (x0 : FVec Ideal S16384x1024 .f32) (x1 : FVec Ideal S1x1024 .f32) (x2 : FVec Ideal S4x16x704x1024 .bf16) (x3 : FVec Ideal S4x8x704x1024 .bf16)
  (x4 : FVec Ideal S16384x1024 .f32)

/-- The input is real. -/
theorem real0 (h : (fn (F := Ideal) x0 x1 x2 x3 x4).1 = fun _ => 1#1) (t d : ℕ) : IsReal (nat2 x0 t d) :=
  real_nat2 x0 (fun i => real32 (x0 i) (congrFun h i)) t d

/-- The gain is real. -/
theorem real1 (h : (fn (F := Ideal) x0 x1 x2 x3 x4).2.1 = fun _ => 1#1) (t d : ℕ) : IsReal (nat2 x1 t d) :=
  real_nat2 x1 (fun i => real32 (x1 i) (congrFun h i)) t d

/-- The first product's weights are real. -/
theorem real2 (h : (fn (F := Ideal) x0 x1 x2 x3 x4).2.2.1 = fun _ => 1#1) (e l f d : ℕ) : IsReal (nat4 x2 e l f d) :=
  real_nat4 x2 (fun i => real16 (x2 i) (congrFun h i)) e l f d

/-- The second product's weights are real. -/
theorem real3 (h : (fn (F := Ideal) x0 x1 x2 x3 x4).2.2.2.1 = fun _ => 1#1) (e l f d : ℕ) : IsReal (nat4 x3 e l f d) :=
  real_nat4 x3 (fun i => real16 (x3 i) (congrFun h i)) e l f d

/-- The output's gradient is real. -/
theorem real4 (h : (fn (F := Ideal) x0 x1 x2 x3 x4).2.2.2.2 = fun _ => 1#1) (t d : ℕ) : IsReal (nat2 x4 t d) :=
  real_nat2 x4 (fun i => real32 (x4 i) (congrFun h i)) t d

end Cert.FfnFinite
-- ==== Proof.FfnDgradAlgebraic.lean ====
/-
  The feed-forward network's backward pass by the input: on finite arguments the kernel's six results are the reference's.
-/
module

public import proofs.«01_k».proof.Defs
public import proofs.«01_k».proof.Proof.FfnDgradValue
public import proofs.«01_k».proof.Proof.FfnDgradRef
public import proofs.«01_k».proof.Proof.FfnFinite
public import proofs.«01_k».proof.Proof.Gen.FfnDgradIdeal.Value
public import proofs.«01_k».proof.Proof.Gen.FfnDgradRefIdeal
public import proofs.«01_k».proof.Proof.Gen.FfnDgradRefIdeal.Run
public import Idealize.ShloMosaic.Lib.Claim

@[expose] public section

set_option maxRecDepth 16384

noncomputable section

namespace Cert.FfnDgradValue

open Idealize.ShloMosaic Idealize.ShloMosaic.TcCoe Idealize.SL.Sem
open Cert.FfnDgradIdeal Cert.FfnDgradIdeal.Gen

variable (m : (ℓ : Loc nD τ sig) → Buf (Elt Ideal) ℓ)

section Arrays

variable (hpre : Cert.Pre_FfnDgradIdeal_finite_ffn m) (c : Dev nD)
include hpre

/-- The gradient by the input, at the reference's term. -/
theorem array8 : (dats m 0 c).arrAt 8 (cfgs 0).N = Cert.FfnDgradRefIdeal.Read.val_main_v80 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  obtain ⟨h0, h1, h2, h3, h4⟩ := hpre c
  exact final8 m c _ _ _ _ _ _ _ _ _ rfl rfl rfl rfl rfl (V_gate m c) (V_up m c) (Cert.FfnFwdRef.gates _ _ _) (Cert.FfnFwdRef.ups _ _ _) _
    (Cert.FfnDgradRef.res_input _ _ _ _ _ (Cert.FfnFinite.real0 _ _ _ _ _ h0) (Cert.FfnFinite.real1 _ _ _ _ _ h1) (Cert.FfnFinite.real2 _ _ _ _ _ h2)
      (Cert.FfnFinite.real3 _ _ _ _ _ h3) (Cert.FfnFinite.real4 _ _ _ _ _ h4))

/-- The gradient by the gain, at the reference's term. -/
theorem array9 : (dats m 0 c).arrAt 9 (cfgs 0).N = Cert.FfnDgradRefIdeal.Read.val_main_v63 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  obtain ⟨h0, h1, h2, h3, h4⟩ := hpre c
  exact final9 m c _ _ _ _ _ _ _ _ rfl rfl rfl rfl (V_gate m c) (V_up m c) (Cert.FfnFwdRef.gates _ _ _) (Cert.FfnFwdRef.ups _ _ _) _
    (Cert.FfnDgradRef.res_gain _ _ _ _ _ (Cert.FfnFinite.real0 _ _ _ _ _ h0) (Cert.FfnFinite.real1 _ _ _ _ _ h1) (Cert.FfnFinite.real2 _ _ _ _ _ h2)
      (Cert.FfnFinite.real3 _ _ _ _ _ h3) (Cert.FfnFinite.real4 _ _ _ _ _ h4))

/-- The gradient by the gate products, at the reference's term. -/
theorem array11 : (dats m 0 c).arrAt 11 (cfgs 0).N = Cert.FfnDgradRefIdeal.Read.val_main_v95 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) := by
  obtain ⟨h0, h1, h2, h3, h4⟩ := hpre c
  exact final11 m c _ _ _ _ _ _ rfl rfl (V_gate m c) (V_up m c) (Cert.FfnFwdRef.gates _ _ _) (Cert.FfnFwdRef.ups _ _ _) _
    (Cert.FfnDgradRef.res_gate _ _ _ _ _ (Cert.FfnFinite.real0 _ _ _ _ _ h0) (Cert.FfnFinite.real1 _ _ _ _ _ h1) (Cert.FfnFinite.real2 _ _ _ _ _ h2)
      (Cert.FfnFinite.real3 _ _ _ _ _ h3) (Cert.FfnFinite.real4 _ _ _ _ _ h4))

end Arrays

variable (c : Dev nD)

/-- The output's gradient, at the reference's term. -/
theorem array10 : (dats m 0 c).arrAt 10 (cfgs 0).N = Cert.FfnDgradRefIdeal.Read.val_main_v92 (F := Ideal) (m ((c : Thread nD τ).loc main_arg4)) :=
  final10 m c _ rfl _ (Cert.Ffn.nat2_val _)

/-- The gradient by the up products, at the reference's term. -/
theorem array12 : (dats m 0 c).arrAt 12 (cfgs 0).N = Cert.FfnDgradRefIdeal.Read.val_main_v98 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) :=
  final12 m c _ _ _ _ rfl rfl (V_gate m c) (Cert.FfnFwdRef.gates _ _ _) _ (Cert.FfnDgradRef.res_up _ _ _ _ _)

/-- The activations, at the reference's term. -/
theorem array13 : (dats m 0 c).arrAt 13 (cfgs 0).N = Cert.FfnDgradRefIdeal.Read.val_main_v103 (F := Ideal) (m ((c : Thread nD τ).loc main_arg0)) (m ((c : Thread nD τ).loc main_arg1))
    (m ((c : Thread nD τ).loc main_arg2)) :=
  final13 m c _ _ _ _ (V_gate m c) (V_up m c) (Cert.FfnFwdRef.gates _ _ _) (Cert.FfnFwdRef.ups _ _ _) _ (Cert.FfnDgradRef.res_act _ _ _)

/-- A function of three at equal arguments. -/
theorem cong_three {A B C R : Type} (f : A → B → C → R) {a a' : A} {b b' : B} {c c' : C} (ha : a = a') (hb : b = b') (hc : c = c') :
    f a b c = f a' b' c' := by rw [ha, hb, hc]

/-- A function of five at equal arguments. -/
theorem cong_five {A B C D E R : Type} (f : A → B → C → D → E → R) {a a' : A} {b b' : B} {c c' : C} {d d' : D} {e e' : E} (ha : a = a') (hb : b = b') (hc : c = c')
    (hd : d = d') (he : e = e') : f a b c d e = f a' b' c' d' e' := by rw [ha, hb, hc, hd, he]

/-- The kernel computes the reference's gradients by the input, the gain, the gate and up products, and its activations. -/
theorem algebraic : Cert.algebraic_FfnDgradIdeal_FfnDgradRefIdeal_pre_finite_ffn := by
  pair_intro
  · run_from Cert.FfnDgradIdeal.Value.run_blocks m g
  · refine (θ_run Cert.FfnDgradRefIdeal.defs _ _).mono (fun r h c => ?_) (Cert.FfnDgradRefIdeal.Value.run (F := Ideal) m' g')
    have ha := hagree c
    have hc := h c
    refine ⟨(hc.1.trans (Cert.FfnDgradRefIdeal.Read.val_main_v80_eq m' c)).trans (Eq.trans ?_ (array8 m hpre c).symm),
      (hc.2.1.trans (Cert.FfnDgradRefIdeal.Read.val_main_v63_eq m' c)).trans (Eq.trans ?_ (array9 m hpre c).symm),
      (hc.2.2.1.trans (Cert.FfnDgradRefIdeal.Read.val_main_v92_eq _)).trans (Eq.trans ?_ (array10 m c).symm),
      (hc.2.2.2.1.trans (Cert.FfnDgradRefIdeal.Read.val_main_v95_eq m' c)).trans (Eq.trans ?_ (array11 m hpre c).symm),
      (hc.2.2.2.2.1.trans (Cert.FfnDgradRefIdeal.Read.val_main_v98_eq _ _ _ _ _)).trans (Eq.trans ?_ (array12 m c).symm),
      (hc.2.2.2.2.2.1.trans (Cert.FfnDgradRefIdeal.Read.val_main_v103_eq _ _ _)).trans (Eq.trans ?_ (array13 m c).symm), hc.2.2.2.2.2.2⟩
    · exact cong_five (Cert.FfnDgradRefIdeal.Read.val_main_v80 (F := Ideal)) ha.1 ha.2.1 ha.2.2.1 ha.2.2.2.1 ha.2.2.2.2
    · exact cong_five (Cert.FfnDgradRefIdeal.Read.val_main_v63 (F := Ideal)) ha.1 ha.2.1 ha.2.2.1 ha.2.2.2.1 ha.2.2.2.2
    · exact congrArg (Cert.FfnDgradRefIdeal.Read.val_main_v92 (F := Ideal)) ha.2.2.2.2
    · exact cong_five (Cert.FfnDgradRefIdeal.Read.val_main_v95 (F := Ideal)) ha.1 ha.2.1 ha.2.2.1 ha.2.2.2.1 ha.2.2.2.2
    · exact cong_five (Cert.FfnDgradRefIdeal.Read.val_main_v98 (F := Ideal)) ha.1 ha.2.1 ha.2.2.1 ha.2.2.2.1 ha.2.2.2.2
    · exact cong_three (Cert.FfnDgradRefIdeal.Read.val_main_v103 (F := Ideal)) ha.1 ha.2.1 ha.2.2.1

end Cert.FfnDgradValue
-- ==== Proof.FlashOffs.lean ====
/-
  The rectangles that `flash_fwd` reads, in closed form: trip `k` of the paired loop works on the key tiles `2 k` and
  `2 k + 1`, and fetches the next one.
-/
module

public import proofs.«01_k».proof.Proof.Gen.AttnFwdIdeal
public import proofs.«01_k».proof.Proof.Gen.AttnFwdIdeal.Skeleton

@[expose] public section

namespace Cert.FlashFwd

open Cert.AttnFwdIdeal
open Idealize.ShloMosaic Idealize.ShloMosaic.Tactic

/-- The paired loop runs half the number of key tiles before the diagonal. -/
theorem trips_t1 : ∀ i : grid0.Coords, (k0_t1_loop i).trips = (i 1).val / 2 := by decide +kernel
/-- The loop after it runs no trip. -/
theorem trips_t2 : ∀ i : grid0.Coords, (k0_t2_loop i).trips = 0 := by decide +kernel
/-- One key tile before the diagonal is left over when their number is odd. -/
theorem cond1_iff : ∀ i : grid0.Coords, k0_cond1 i = 1#1 ↔ (i 1).val % 2 = 1 := by decide +kernel
/-- None is left over when it is even. -/
theorem cond2_iff : ∀ i : grid0.Coords, k0_cond2 i = 1#1 ↔ (i 1).val % 2 = 0 := by decide +kernel

/-- The key tile that the trip fetches for its second half. -/
theorem off1 : ∀ (i : grid0.Coords) (k : Fin (k0_t1_loop i).trips), k0_off1 i k = ![0, 1024 * min (2 * k.val + 1) 15, 0] := by decide +kernel
/-- The values of its first key tile. -/
theorem off2 : ∀ (i : grid0.Coords) (k : Fin (k0_t1_loop i).trips), k0_off2 i k = ![0, min (2 * k.val) 15, 0, 0] := by decide +kernel
/-- The key tile that it fetches for the next trip. -/
theorem off3 : ∀ (i : grid0.Coords) (k : Fin (k0_t1_loop i).trips), k0_off3 i k = ![0, 1024 * min (2 * k.val + 2) 15, 0] := by decide +kernel
/-- The values of its second key tile. -/
theorem off4 : ∀ (i : grid0.Coords) (k : Fin (k0_t1_loop i).trips), k0_off4 i k = ![0, min (2 * k.val + 1) 15, 0, 0] := by decide +kernel
/-- The key tile on the diagonal. -/
theorem off9 : ∀ i : grid0.Coords, k0_off9 i = ![0, 1024 * min (i 1).val 15, 0] := by decide +kernel
/-- The values of the tile before it. -/
theorem off10 : ∀ i : grid0.Coords, k0_cond1 i = 1#1 → k0_off10 i = ![0, min ((i 1).val - 1) 15, 0, 0] := by decide +kernel
/-- The values of the tile on the diagonal, where one tile was left over. -/
theorem off11 : ∀ i : grid0.Coords, k0_off11 i = ![0, min (i 1).val 15, 0, 0] := by decide +kernel
/-- The values of the tile on the diagonal, where none was. -/
theorem off12 : ∀ i : grid0.Coords, k0_off12 i = ![0, min (i 1).val 15, 0, 0] := by decide +kernel

end Cert.FlashFwd
-- ==== Proof.FlashSpec.lean ====
/-
  What one grid point of `flash_fwd` computes, as functions of arrays. A query tile meets the key tiles from the first to its
  own; each meeting raises the running maximum of every query's scores, and rescales and adds to the running sums.
-/
module

public import proofs.«01_k».proof.Proof.FlashOffs
public import Idealize.ShloMosaic.Lib.VecWindow

@[expose] public section

set_option maxRecDepth 16384

noncomputable section

namespace Cert.FlashFwd

open Cert.AttnFwdIdeal Cert.AttnFwdIdeal.Gen
open Idealize.ShloMosaic Idealize.ShloMosaic.TcCoe

variable {F : FTy → Type} [FloatOps F]

/-- What a grid point reads: its tile of `q`, and the whole head of `k` and of the transposed values with their rows of ones. -/
structure Env (F : FTy → Type) [FloatOps F] where
  qT : Vec F S1x1024x192 .bf16
  K : Vec F S1x16384x192 .bf16
  V : Vec F S1x16x136x1024 .bf16

/-- What a grid point keeps: the running maximum and the running sums. -/
structure Acc (F : FTy → Type) [FloatOps F] where
  m : Vec F S1x1024 .f32
  s : Vec F S136x1024 .f32

namespace Env

variable (E : Env F) (n : ℕ)

/-- A key tile lies in the head. -/
theorem inbK : ∀ a, (![0, 1024 * min n 15, 0] : Fin 3 → ℕ) a + S1x1024x192.size a ≤ S1x16384x192.size a := by
  intro a; fin_cases a <;> simp [S1x1024x192, S1x16384x192] <;> omega
/-- A tile of values lies in the head. -/
theorem inbV : ∀ a, (![0, min n 15, 0, 0] : Fin 4 → ℕ) a + S1x1x136x1024.size a ≤ S1x16x136x1024.size a := by
  intro a; fin_cases a <;> simp [S1x1x136x1024, S1x16x136x1024] <;> omega

/-- Key tile `n`. -/
def kT : Vec F S1x1024x192 .bf16 := VecWindow.window E.K ![0, 1024 * min n 15, 0] S1x1024x192.size (inbK n)
/-- Tile `n` of the values. -/
def vT : Vec F S1x1x136x1024 .bf16 := VecWindow.window E.V ![0, min n 15, 0, 0] S1x1x136x1024.size (inbV n)
/-- The scores of key tile `n` against the query tile. -/
def zz : FVec F S1x1024x1024 .f32 := k0_pay12 (k0_pay38 E.qT) (E.kT n)

/-- A key tile before the diagonal. -/
def stage (A : Acc F) : Acc F := ⟨k0_pay16 (k0_pay14 (E.zz n) A.m), k0_pay15 (E.zz n) A.m A.s (E.vT n)⟩
/-- The key tile on the diagonal. -/
def diag (A : Acc F) : Acc F := ⟨k0_pay5 (E.zz n) A.m, k0_pay4 (E.zz n) A.m A.s (E.vT n)⟩

/-- The first `m` key tiles. -/
def upto : ℕ → Acc F
  | 0 => ⟨k0_pay36, k0_pay37⟩
  | m + 1 => E.stage m (upto m)

/-- The whole grid point on query tile `j`. -/
def point (j : ℕ) : Acc F := E.diag j (E.upto j)

end Env

/-- The row of ones' sums: the denominators. -/
def denom (s : Vec F S136x1024 .f32) : Vec F S1x1024 .f32 :=
  VecWindow.window s ![128, 0] S1x1024.size (by intro a; fin_cases a <;> simp [S1x1024, S136x1024])
/-- The sums of the values. -/
def numer (s : Vec F S136x1024 .f32) : Vec F S128x1024 .f32 :=
  VecWindow.window s ![0, 0] S128x1024.size (by intro a; fin_cases a <;> simp [S128x1024, S136x1024])

/-- The output tile. -/
def Acc.out (A : Acc F) : FVec F S128x1024 .f32 := k0_pay10 (denom A.s) (numer A.s)
/-- The log-sum-exp of the tile's queries. -/
def Acc.lse (A : Acc F) : FVec F S1x1x1024 .f32 := k0_pay11 (denom A.s) A.m

/-- Slot `b` of the pair of fetched tiles. -/
def slot (b : ℕ) (hb : b < 2) (Z : Vec F S2x1024x1024 .f32) : Vec F S1x1024x1024 .f32 :=
  VecWindow.window Z ![b, 0, 0] S1x1024x1024.size (by intro a; fin_cases a <;> simp [S1x1024x1024, S2x1024x1024] <;> omega)

/-- A load of a rectangle is that part of what the buffer holds. -/
theorem load_part {sig : RefSig} {κ : Kind} {sp : Space} {s : Shape} {e : EltTy} {Val : EltTy → Type} (v : View sig κ sp s e)
    {off off' size : Fin s.rank → ℕ} (h : off = off') (p : ∀ a, off a + size a ≤ s.size a) (p' : ∀ a, off' a + size a ≤ s.size a)
    (f : v.ty.Contents Val) :
    v.readAt Val (Rect.unit off size p).toLoadRect f = VecWindow.window (v.read Val f) off' size p' := by
  subst h; rfl

section Loads

variable {sig : RefSig} {κ : Kind} {sp : Space}

/-- A load of a key tile, at offsets in closed form. -/
theorem ldK {Val : EltTy → Type} {e : EltTy} (v : View sig κ sp S1x16384x192 e) {off : Fin 3 → ℕ} (n : ℕ) (h : off = ![0, 1024 * min n 15, 0]) (p) (f : v.ty.Contents Val) :
    v.readAt Val (Rect.unit (s := S1x16384x192) off S1x1024x192.size p).toLoadRect f = VecWindow.window (v.read Val f) ![0, 1024 * min n 15, 0] S1x1024x192.size (Env.inbK n) :=
  load_part v h p _ f
/-- A load of a tile of values, at offsets in closed form. -/
theorem ldV {Val : EltTy → Type} {e : EltTy} (v : View sig κ sp S1x16x136x1024 e) {off : Fin 4 → ℕ} (n : ℕ) (h : off = ![0, min n 15, 0, 0]) (p) (f : v.ty.Contents Val) :
    v.readAt Val (Rect.unit (s := S1x16x136x1024) off S1x1x136x1024.size p).toLoadRect f = VecWindow.window (v.read Val f) ![0, min n 15, 0, 0] S1x1x136x1024.size (Env.inbV n) :=
  load_part v h p _ f
/-- A load of the whole running maximum. -/
theorem ldM {Val : EltTy → Type} {e : EltTy} (v : View sig κ sp S1x1024 e) (p) (f : v.ty.Contents Val) :
    v.readAt Val (Rect.unit (s := S1x1024) ![0, 0] S1x1024.size p).toLoadRect f = v.read Val f := View.readAt_full v f p
/-- A load of the whole running sums. -/
theorem ldS {Val : EltTy → Type} {e : EltTy} (v : View sig κ sp S136x1024 e) (p) (f : v.ty.Contents Val) :
    v.readAt Val (Rect.unit (s := S136x1024) ![0, 0] S136x1024.size p).toLoadRect f = v.read Val f := View.readAt_full v f p
/-- A load of the whole query tile. -/
theorem ldT {Val : EltTy → Type} {e : EltTy} (v : View sig κ sp S1x1024x192 e) (p) (f : v.ty.Contents Val) :
    v.readAt Val (Rect.unit (s := S1x1024x192) ![0, 0, 0] S1x1024x192.size p).toLoadRect f = v.read Val f := View.readAt_full v f p
/-- The running maximum after a store of it. -/
theorem stM {Val : EltTy → Type} {e : EltTy} (v : View sig κ sp S1x1024 e) (p) (f : v.ty.Contents Val) (w) (l) :
    v.read Val (v.writes Val f (⟨Rect.unit (s := S1x1024) ![0, 0] S1x1024.size p, w⟩ :: l)) = w := View.read_writes_full v f p w l
/-- The running sums after a store of them. -/
theorem stS {Val : EltTy → Type} {e : EltTy} (v : View sig κ sp S136x1024 e) (p) (f : v.ty.Contents Val) (w) (l) :
    v.read Val (v.writes Val f (⟨Rect.unit (s := S136x1024) ![0, 0] S136x1024.size p, w⟩ :: l)) = w := View.read_writes_full v f p w l
/-- The output tile after its store. -/
theorem stO {Val : EltTy → Type} {e : EltTy} (v : View sig κ sp S128x1024 e) (p) (f : v.ty.Contents Val) (w) (l) :
    v.read Val (v.writes Val f (⟨Rect.unit (s := S128x1024) ![0, 0] S128x1024.size p, w⟩ :: l)) = w := View.read_writes_full v f p w l
/-- The log-sum-exp after its store. -/
theorem stL {Val : EltTy → Type} {e : EltTy} (v : View sig κ sp S1x1x1024 e) (p) (f : v.ty.Contents Val) (w) (l) :
    v.read Val (v.writes Val f (⟨Rect.unit (s := S1x1x1024) ![0, 0, 0] S1x1x1024.size p, w⟩ :: l)) = w := View.read_writes_full v f p w l
/-- The running maximum read back after a store of it. -/
theorem cvM (v : View sig κ sp S1x1024 .f32) (p p') (w : S1x1024.Idx → Elt F .f32) (l) :
    v.readCov (Val := Elt F) (⟨Rect.unit (s := S1x1024) ![0, 0] S1x1024.size p, w⟩ :: l) (Rect.unit (s := S1x1024) ![0, 0] S1x1024.size p').toLoadRect = w := View.readCov_full v p' p w l
/-- The running sums read back after a store of them. -/
theorem cvS (v : View sig κ sp S136x1024 .f32) (p p') (w : S136x1024.Idx → Elt F .f32) (l) :
    v.readCov (Val := Elt F) (⟨Rect.unit (s := S136x1024) ![0, 0] S136x1024.size p, w⟩ :: l) (Rect.unit (s := S136x1024) ![0, 0] S136x1024.size p').toLoadRect = w := View.readCov_full v p' p w l
/-- A slot after a store into it. -/
theorem slot_st (v : View sig κ sp S2x1024x1024 .f32) (b : ℕ) (hb : b < 2) (p) (f : v.ty.Contents (Elt F)) (w) (l) :
    slot b hb (v.read (Elt F) (v.writes (Elt F) f (⟨Rect.unit (s := S2x1024x1024) ![b, 0, 0] S1x1024x1024.size p, w⟩ :: l))) = w := by
  rw [View.read_writes_cons_put v f p w l rfl]
  exact VecWindow.window_put_same _ _ _ _ _

/-- The second slot read back after stores into both. -/
theorem ldSlot1 (v : View sig κ sp S2x1024x1024 .f32) (p p' p'') (w w' : S1x1024x1024.Idx → Elt F .f32) (l) :
    v.readCov (Val := Elt F) (⟨Rect.unit (s := S2x1024x1024) ![0, 0, 0] S1x1024x1024.size p, w⟩ :: ⟨Rect.unit (s := S2x1024x1024) ![1, 0, 0] S1x1024x1024.size p', w'⟩ :: l)
      (Rect.unit (s := S2x1024x1024) ![1, 0, 0] S1x1024x1024.size p'').toLoadRect = w' := by
  refine (load_part v (off' := ![1, 0, 0]) rfl p'' p'' _).trans ?_
  rw [View.read_writes_cons_put (Val := Elt F) v _ p w _ rfl, View.read_writes_cons_put (Val := Elt F) v _ p' w' _ rfl,
    VecWindow.window_put_of_disjoint _ _ _ _ _ _ _ (0 : Fin 3) (Or.inr (by show 0 + 1 ≤ 1; omega))]
  exact VecWindow.window_put_same _ _ _ _ _
/-- The second slot read back after a store into it. -/
theorem ldSlotA (v : View sig κ sp S2x1024x1024 .f32) (p' p'') (w' : S1x1024x1024.Idx → Elt F .f32) (l) :
    v.readCov (Val := Elt F) (⟨Rect.unit (s := S2x1024x1024) ![1, 0, 0] S1x1024x1024.size p', w'⟩ :: l)
      (Rect.unit (s := S2x1024x1024) ![1, 0, 0] S1x1024x1024.size p'').toLoadRect = w' := by
  refine (load_part v (off' := ![1, 0, 0]) rfl p'' p'' _).trans ?_
  rw [View.read_writes_cons_put (Val := Elt F) v _ p' w' _ rfl]
  exact VecWindow.window_put_same _ _ _ _ _

/-- The denominators read back after a store of the sums. -/
theorem cvD (v : View sig κ sp S136x1024 .f32) (p p') (w : S136x1024.Idx → Elt F .f32) (l) :
    v.readCov (Val := Elt F) (⟨Rect.unit (s := S136x1024) ![0, 0] S136x1024.size p, w⟩ :: l) (Rect.unit (s := S136x1024) ![128, 0] S1x1024.size p').toLoadRect = denom w := by
  refine (load_part v (off' := ![128, 0]) rfl p' p' _).trans ?_
  rw [View.read_writes_full (Val := Elt F) v _ p w l]
  rfl
/-- The sums of the values read back after a store of the sums. -/
theorem cvN (v : View sig κ sp S136x1024 .f32) (p p') (w : S136x1024.Idx → Elt F .f32) (l) :
    v.readCov (Val := Elt F) (⟨Rect.unit (s := S136x1024) ![0, 0] S136x1024.size p, w⟩ :: l) (Rect.unit (s := S136x1024) ![0, 0] S128x1024.size p').toLoadRect = numer w := by
  refine (load_part v (off' := ![0, 0]) rfl p' p' _).trans ?_
  rw [View.read_writes_full (Val := Elt F) v _ p w l]
  rfl

end Loads

end Cert.FlashFwd
-- ==== Proof.FlashTrip.lean ====
/-
  One trip of the paired loop of `flash_fwd`, over any float type.
-/
module

public import proofs.«01_k».proof.Proof.FlashSpec
public import proofs.«01_k».proof.Proof.Gen.AttnFwdIdeal.Frame

@[expose] public section

set_option maxRecDepth 16384

noncomputable section

namespace Cert.FlashFwd

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- No variant is declared. -/
abbrev 𝒱₀ : Variants := Variants.none

instance (i : grid0.Coords) (k : Fin (k0_t1_loop i).trips) : ClosedOff (k0_off1 i k) := ⟨_, off1 i k⟩
instance (i : grid0.Coords) (k : Fin (k0_t1_loop i).trips) : ClosedOff (k0_off2 i k) := ⟨_, off2 i k⟩
instance (i : grid0.Coords) (k : Fin (k0_t1_loop i).trips) : ClosedOff (k0_off3 i k) := ⟨_, off3 i k⟩
instance (i : grid0.Coords) (k : Fin (k0_t1_loop i).trips) : ClosedOff (k0_off4 i k) := ⟨_, off4 i k⟩

section Trip

variable (c : Dev nD) (i : grid0.Coords)
  (arg2 : Memref sig .tc .vmem S1x1024x192 .bf16) (harg2 : arg2.IsWhole)
  (arg3 : Memref sig .tc .vmem S1x16384x192 .bf16) (harg3 : arg3.IsWhole)
  (arg4 : Memref sig .tc .vmem S1x16x136x1024 .bf16) (harg4 : arg4.IsWhole)
  (arg5 : Memref sig .tc .vmem S128x1024 .f32) (harg5 : arg5.IsWhole)
  (arg6 : Memref sig .tc .vmem S1x1x1024 .f32) (harg6 : arg6.IsWhole)
  (arg7 : Memref sig .tc .vmem S1x1024 .f32) (harg7 : arg7.IsWhole)
  (arg8 : Memref sig .tc .vmem S136x1024 .f32) (harg8 : arg8.IsWhole)
  (arg9 : Memref sig .tc .vmem S2x1024x1024 .f32) (harg9 : arg9.IsWhole)
  (v8 : Vec F S1x1024x192 .bf16)

/-- The whole of a buffer, with its contents. -/
abbrev own {s : Shape} {e : EltTy} (M : Memref sig .tc .vmem s e) (f : Buf (Elt F) (M.view.loc (c : Thread nD τ))) : sProp 𝕄 :=
  M.view.loc (c : Thread nD τ) ↦[M.view.set]{fullShare} f

/-- A trip takes the two key tiles `2 k` and `2 k + 1`, and leaves the next one fetched. -/
theorem trip (k : Fin (k0_t1_loop i).trips) (E : Env F) (A : Acc F) (h8 : v8 = E.qT)
    (f3 : Buf (Elt F) (arg3.view.loc (c : Thread nD τ))) (f4 : Buf (Elt F) (arg4.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (e3 : arg3.view.read (Elt F) f3 = E.K) (e4 : arg4.view.read (Elt F) f4 = E.V)
    (e7 : arg7.view.read (Elt F) f7 = A.m) (e8 : arg8.view.read (Elt F) f8 = A.s)
    (e9 : slot 0 (by omega) (arg9.view.read (Elt F) f9) = E.zz (2 * k.val)) :
    iprop(own c arg3 f3 ∗ own c arg4 f4 ∗ own c arg7 f7 ∗ own c arg8 f8 ∗ own c arg9 f9)
      ⊢ wp frame (wpE (defs₀ (F := F)) 𝒱₀ (c : Thread nD τ) none) Set.univ
        (k0_t1_body (F := F) i arg2 harg2 arg3 harg3 arg4 harg4 arg5 harg5 arg6 harg6 arg7 harg7 arg8 harg8 arg9 harg9 v8 k ())
        (fun _ => iprop(∃ f7' f8' f9', own c arg3 f3 ∗ own c arg4 f4 ∗ own c arg7 f7' ∗ own c arg8 f8' ∗ own c arg9 f9' ∗
          ⌜arg7.view.read (Elt F) f7' = (E.stage (2 * k.val + 1) (E.stage (2 * k.val) A)).m ∧
           arg8.view.read (Elt F) f8' = (E.stage (2 * k.val + 1) (E.stage (2 * k.val) A)).s ∧
           slot 0 (by omega) (arg9.view.read (Elt F) f9') = E.zz (2 * k.val + 2)⌝)) := by
  iintro ⟨H3, H4, H7, H8, H9⟩
  sl_unfold [k0_t1_body]
  sl_exec
  sl_step
  iexists _, _, _
  iframe H3 H4 H7 H8 H9
  ipureintro
  refine ⟨?_, ?_, ?_⟩
  all_goals sl_unfold_run_names
  all_goals simp only [ldK arg3.view _ (off1 i k), ldK arg3.view _ (off3 i k), ldV arg4.view _ (off2 i k), ldV arg4.view _ (off4 i k),
    View.writes_nil, e3, e4, e7, e8, h8]
  · rw [stM, ldSlot1, cvM, ldM, e7]
    rfl
  · rw [stS, ldSlot1, cvM, cvS, ldM, ldS, e7, e8]
    rfl
  · exact (slot_st _ 0 _ _ _ _ _).trans rfl

end Trip
end Cert.FlashFwd
-- ==== Proof.FlashBody.lean ====
/-
  The body of a grid point of `flash_fwd`: the paired loop and the tiles after it, over any float type.
-/
module

public import proofs.«01_k».proof.Proof.FlashTrip

@[expose] public section

set_option maxRecDepth 16384

noncomputable section

namespace Cert.FlashFwd

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Body

variable (c : Dev nD) (i : grid0.Coords)
  (arg2 : Memref sig .tc .vmem S1x1024x192 .bf16) (harg2 : arg2.IsWhole)
  (arg3 : Memref sig .tc .vmem S1x16384x192 .bf16) (harg3 : arg3.IsWhole)
  (arg4 : Memref sig .tc .vmem S1x16x136x1024 .bf16) (harg4 : arg4.IsWhole)
  (arg5 : Memref sig .tc .vmem S128x1024 .f32) (harg5 : arg5.IsWhole)
  (arg6 : Memref sig .tc .vmem S1x1x1024 .f32) (harg6 : arg6.IsWhole)
  (arg7 : Memref sig .tc .vmem S1x1024 .f32) (harg7 : arg7.IsWhole)
  (arg8 : Memref sig .tc .vmem S136x1024 .f32) (harg8 : arg8.IsWhole)
  (arg9 : Memref sig .tc .vmem S2x1024x1024 .f32) (harg9 : arg9.IsWhole)

/-- Before trip `p` of the paired loop: the running maximum and sums are those of the first `2 p` key tiles, and the first
slot holds the next one. -/
def inv (E : Env F) (f3 : Buf (Elt F) (arg3.view.loc (c : Thread nD τ))) (f4 : Buf (Elt F) (arg4.view.loc (c : Thread nD τ))) (p : ℕ) : sProp 𝕄 :=
  iprop(∃ f7 f8 f9, own c arg3 f3 ∗ own c arg4 f4 ∗ own c arg7 f7 ∗ own c arg8 f8 ∗ own c arg9 f9 ∗
    ⌜arg7.view.read (Elt F) f7 = (E.upto (2 * p)).m ∧
     arg8.view.read (Elt F) f8 = (E.upto (2 * p)).s ∧
     slot 0 (by omega) (arg9.view.read (Elt F) f9) = E.zz (2 * p)⌝)

/-- One trip takes the invariant to the next. -/
theorem inv_step (v8 : Vec F S1x1024x192 .bf16) (k : Fin (k0_t1_loop i).trips) (E : Env F) (h8 : v8 = E.qT)
    (f3 : Buf (Elt F) (arg3.view.loc (c : Thread nD τ))) (f4 : Buf (Elt F) (arg4.view.loc (c : Thread nD τ)))
    (e3 : arg3.view.read (Elt F) f3 = E.K) (e4 : arg4.view.read (Elt F) f4 = E.V) :
    inv c arg3 arg4 arg7 arg8 arg9 E f3 f4 k.val
      ⊢ wp frame (wpE (defs₀ (F := F)) 𝒱₀ (c : Thread nD τ) none) Set.univ
        (k0_t1_body (F := F) i arg2 harg2 arg3 harg3 arg4 harg4 arg5 harg5 arg6 harg6 arg7 harg7 arg8 harg8 arg9 harg9 v8 k ())
        (fun _ => inv c arg3 arg4 arg7 arg8 arg9 E f3 f4 (k.val + 1)) := by
  unfold inv
  iintro ⟨%f7, %f8, %f9, H3, H4, H7, H8, H9, %h⟩
  obtain ⟨e7, e8, e9⟩ := h
  have ht := trip c i arg2 harg2 arg3 harg3 arg4 harg4 arg5 harg5 arg6 harg6 arg7 harg7 arg8 harg8 arg9 harg9 v8 k E (E.upto (2 * k.val)) h8 f3 f4 f7 f8 f9 e3 e4 e7 e8 e9
  iapply ht
  iframe H3 H4 H7 H8 H9

/-- After the loop, an odd number of tiles leaves one before the diagonal. -/
theorem odd_trips (i : grid0.Coords) (h : k0_cond1 i = 1#1) : 2 * (k0_t1_loop i).trips + 1 = (i 1).val := by
  have := trips_t1 i; rw [cond1_iff] at h; omega
/-- An even number leaves none. -/
theorem even_trips (i : grid0.Coords) (h : k0_cond2 i = 1#1) : 2 * (k0_t1_loop i).trips = (i 1).val := by
  have := trips_t1 i; rw [cond2_iff] at h; omega
/-- One of the two tails runs. -/
theorem not_both (i : grid0.Coords) : k0_cond1 i = 1#1 ↔ ¬ k0_cond2 i = 1#1 := by
  rw [cond1_iff, cond2_iff]; omega
/-- The values of the tile before the diagonal, by the loop's trips. -/
theorem off10t (i : grid0.Coords) (h : k0_cond1 i = 1#1) : k0_off10 i = ![0, min (2 * (k0_t1_loop i).trips) 15, 0, 0] := by
  have := odd_trips i h
  rw [off10 i h, show (i 1).val - 1 = 2 * (k0_t1_loop i).trips by omega]

/-- What the body of a grid point leaves. -/
def Post (E : Env F) (f2 : Buf (Elt F) (arg2.view.loc (c : Thread nD τ))) (f3 : Buf (Elt F) (arg3.view.loc (c : Thread nD τ))) (f4 : Buf (Elt F) (arg4.view.loc (c : Thread nD τ))) : sProp 𝕄 :=
  iprop(∃ f5' f6' f7' f8' f9', own c arg2 f2 ∗ own c arg3 f3 ∗ own c arg4 f4 ∗ own c arg5 f5' ∗ own c arg6 f6' ∗ own c arg7 f7' ∗ own c arg8 f8' ∗ own c arg9 f9' ∗
    ⌜arg5.view.read (Elt F) f5' = (E.point (i 1).val).out ∧
     arg6.view.read (Elt F) f6' = (E.point (i 1).val).lse⌝)

set_option maxHeartbeats 1600000 in
/-- The body of a grid point, from its tiles. -/
theorem body (E : Env F) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ)))
    (e2 : arg2.view.read (Elt F) f2 = E.qT) (e3 : arg3.view.read (Elt F) f3 = E.K) (e4 : arg4.view.read (Elt F) f4 = E.V) :
    iprop(own c arg2 f2 ∗ own c arg3 f3 ∗ own c arg4 f4 ∗ own c arg5 f5 ∗ own c arg6 f6 ∗ own c arg7 f7 ∗ own c arg8 f8 ∗ own c arg9 f9)
      ⊢ wp frame (wpE (defs₀ (F := F)) 𝒱₀ (c : Thread nD τ) none) Set.univ
        (cc0_flash_fwd (F := F) i arg2 harg2 arg3 harg3 arg4 harg4 arg5 harg5 arg6 harg6 arg7 harg7 arg8 harg8 arg9 harg9)
        (fun _ => Post c i arg2 arg3 arg4 arg5 arg6 arg7 arg8 arg9 E f2 f3 f4) := by
  rw [cc0_flash_fwd_eq_skeleton]
  have htr := trips_t2 i
  iintro ⟨H2, H3, H4, H5, H6, H7, H8, H9⟩
  unfold cc0_flash_fwd_skel
  by_cases h1 : k0_cond1 i = 1#1
  · have h2 : ¬ k0_cond2 i = 1#1 := (not_both i).1 h1
    sl_exec
    sl_for (fun p _ => inv c arg3 arg4 arg7 arg8 arg9 E f3 f4 p) $$ [H3 H4 H7 H8 H9]
    case region =>
      intro k a
      refine inv_step c i arg2 harg2 arg3 harg3 arg4 harg4 arg5 harg5 arg6 harg6 arg7 harg7 arg8 harg8 arg9 harg9 _ k E ?_ f3 f4 e3 e4
      sl_unfold_run_names
      rw [ldT, e2]
    · unfold inv
      iexists _, _, _
      iframe H3 H4 H7 H8 H9
      ipureintro
      refine ⟨?_, ?_, ?_⟩
      all_goals sl_unfold_run_names
      · exact stM _ _ _ _ _
      · exact stS _ _ _ _ _
      · refine (slot_st _ 0 _ _ _ _ _).trans ?_
        rw [ldT, ldK (off := ![0, 0, 0]) arg3.view 0 rfl, e2, e3]
        rfl
    iintro %acc HI
    unfold inv
    icases HI with ⟨%g7, %g8, %g9, H3, H4, H7, H8, H9, %h⟩
    obtain ⟨a7, a8, a9⟩ := h
    change _ = (E.upto (2 * (k0_t1_loop i).trips)).m at a7
    change _ = (E.upto (2 * (k0_t1_loop i).trips)).s at a8
    change _ = E.zz (2 * (k0_t1_loop i).trips) at a9
    sl_exec
    sl_step
    unfold Post
    iexists _, _, _, _, _
    iframe H2 H3 H4 H5 H6 H7 H8 H9
    ipureintro
    have hup : E.upto (i 1).val = E.stage (2 * (k0_t1_loop i).trips) (E.upto (2 * (k0_t1_loop i).trips)) := by rw [← odd_trips i h1, Env.upto]
    rw [Env.point, hup]
    refine ⟨?_, ?_⟩
    all_goals sl_unfold_run_names
    all_goals simp only [ldT arg2.view, ldK arg3.view _ (off9 i), ldV arg4.view _ (off10t i h1), ldV arg4.view _ (off11 i), View.writes_nil, e2, e3, e4]
    · rw [stO, cvD, cvN, ldSlotA, cvM, cvS, ldM, ldS, a7, a8]
      rfl
    · rw [stL, cvD, cvM, ldSlotA, cvM, cvS, ldM, ldS, a7, a8]
      rfl
  · have h2 : k0_cond2 i = 1#1 := by
      by_contra h; exact h1 ((not_both i).2 h)
    sl_exec
    sl_for (fun p _ => inv c arg3 arg4 arg7 arg8 arg9 E f3 f4 p) $$ [H3 H4 H7 H8 H9]
    case region =>
      intro k a
      refine inv_step c i arg2 harg2 arg3 harg3 arg4 harg4 arg5 harg5 arg6 harg6 arg7 harg7 arg8 harg8 arg9 harg9 _ k E ?_ f3 f4 e3 e4
      sl_unfold_run_names
      rw [ldT, e2]
    · unfold inv
      iexists _, _, _
      iframe H3 H4 H7 H8 H9
      ipureintro
      refine ⟨?_, ?_, ?_⟩
      all_goals sl_unfold_run_names
      · exact stM _ _ _ _ _
      · exact stS _ _ _ _ _
      · refine (slot_st _ 0 _ _ _ _ _).trans ?_
        rw [ldT, ldK (off := ![0, 0, 0]) arg3.view 0 rfl, e2, e3]
        rfl
    iintro %acc HI
    unfold inv
    icases HI with ⟨%g7, %g8, %g9, H3, H4, H7, H8, H9, %h⟩
    obtain ⟨a7, a8, a9⟩ := h
    change _ = (E.upto (2 * (k0_t1_loop i).trips)).m at a7
    change _ = (E.upto (2 * (k0_t1_loop i).trips)).s at a8
    change _ = E.zz (2 * (k0_t1_loop i).trips) at a9
    rw [even_trips i h2] at a9
    sl_exec
    sl_step
    unfold Post
    iexists _, _, _, _, _
    iframe H2 H3 H4 H5 H6 H7 H8 H9
    ipureintro
    rw [even_trips i h2] at a7 a8
    rw [Env.point]
    refine ⟨?_, ?_⟩
    all_goals sl_unfold_run_names
    all_goals simp only [ldV arg4.view _ (off12 i), View.writes_nil, e2, e3, e4]
    · rw [stO, cvD, cvN, ldM, ldS, a7, a8]
      rfl
    · rw [stL, cvD, cvM, ldM, ldS, a7, a8]
      rfl

end Body
end Cert.FlashFwd
-- ==== Proof.FlashRun.lean ====
/-
  The run of `flash_fwd`: its grid points one after another, and the frame, over any float type.
-/
module

public import proofs.«01_k».proof.Proof.FlashBody
public import proofs.«01_k».proof.Proof.Gen.AttnFwdIdeal.Points
public import Idealize.ShloMosaic.Lib.Claim

@[expose] public section

set_option maxRecDepth 16384

noncomputable section

namespace Cert.FlashFwd

open Cert.AttnFwdIdeal Cert.AttnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each grid point reads, and what it leaves -/

/-- What point `t` reads. -/
def env (c : Dev nD) (t : Fin cfg0.N) : Env F :=
  ⟨iblk m c 0 t, iblk m c 1 t, iblk m c 2 t⟩

/-- The query tile of point `t`. -/
def tileOf (t : Fin cfg0.N) : ℕ := (grid0.coords t 1).val

theorem tileOf_eq : ∀ t : Fin grid0.N, (grid0.coords t 1).val = t.val % 16 := by decide +kernel

/-- What point `t` leaves. -/
def accAt (c : Dev nD) (t : Fin cfg0.N) : Acc F := (env m c t).point (tileOf t)

/-! ## The proof data -/

/-- What each window's buffer holds after a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (accAt m c t).out
    | ⟨4, _⟩ => (accAt m c t).lse
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (accAt m c t).out := by dsimp only [dats]
theorem after0_4 (c : Dev nD) (t : Fin cfg0.N) : (dats m 0 c).after 4 t = (accAt m c t).lse := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-! ## The body at every point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- Holding this scratch buffer is holding its memref. -/
theorem own_scratch0 (c : Dev nD) (f : Buf (Elt F) ((c : Thread nD τ).loc cc0_scratch0)) :
    (((c : Thread nD τ).loc cc0_scratch0) ↦{fullShare} f : sProp 𝕄) = own c (Memref.whole cc0_scratch0) f := by
  show _ = (_ ↦[(View.whole cc0_scratch0).set]{fullShare} f : sProp 𝕄)
  rw [View.set_whole]
/-- Holding this scratch buffer is holding its memref. -/
theorem own_scratch1 (c : Dev nD) (f : Buf (Elt F) ((c : Thread nD τ).loc cc0_scratch1)) :
    (((c : Thread nD τ).loc cc0_scratch1) ↦{fullShare} f : sProp 𝕄) = own c (Memref.whole cc0_scratch1) f := by
  show _ = (_ ↦[(View.whole cc0_scratch1).set]{fullShare} f : sProp 𝕄)
  rw [View.set_whole]
/-- Holding this scratch buffer is holding its memref. -/
theorem own_scratch2 (c : Dev nD) (f : Buf (Elt F) ((c : Thread nD τ).loc cc0_scratch2)) :
    (((c : Thread nD τ).loc cc0_scratch2) ↦{fullShare} f : sProp 𝕄) = own c (Memref.whole cc0_scratch2) f := by
  show _ = (_ ↦[(View.whole cc0_scratch2).set]{fullShare} f : sProp 𝕄)
  rw [View.set_whole]

set_option maxHeartbeats 1600000 in
/-- The body at point `t`. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4]
  unfold Pipeline.ΦA owns
  rw [scopedRest0_eq]
  simp only [own_scratch0, own_scratch1, own_scratch2]
  iintro ⟨⟨⟨⟨%s0, S0⟩, ⟨%s1, S1⟩, ⟨%s2, S2⟩⟩, Hρ⟩, Ho, ⟨%d0, %g0, %e0, H0⟩, ⟨%d1, %g1, %e1, H1⟩, ⟨%d2, %g2, %e2, H2⟩, ⟨%d3, %g3, %e3, H3⟩, ⟨%d4, %g4, %e4, H4⟩⟩
  have hb := body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4))
    (Memref.whole cc0_scratch0) (Memref.isWhole_whole _) (Memref.whole cc0_scratch1) (Memref.isWhole_whole _) (Memref.whole cc0_scratch2) (Memref.isWhole_whole _)
    (env m c t) g0 g1 g2 g3 g4 s0 s1 s2 e0 e1 e2
  unfold Post at hb
  iapply (wp_wand_r frame (wpE (defs₀ (F := F)) 𝒱₀ (c : Thread nD τ) none) Set.univ)
  isplitl [H0 H1 H2 H3 H4 S0 S1 S2]
  · iapply hb
    isplitl [H0]; · iexact H0
    isplitl [H1]; · iexact H1
    isplitl [H2]; · iexact H2
    isplitl [H3]; · iexact H3
    isplitl [H4]; · iexact H4
    isplitl [S0]; · iexact S0
    isplitl [S1]; · iexact S1
    iexact S2
  · iintro %a ⟨%g3', %g4', %s0', %s1', %s2', H0, H1, H2, H3, H4, S0, S1, S2, %h⟩
    obtain ⟨h3, h4⟩ := h
    isplitl [S0 S1 S2 Hρ]
    · isplitr [Hρ]
      · isplitl [S0]; · iexists _; iexact S0
        isplitl [S1]; · iexists _; iexact S1
        iexists _; iexact S2
      · iexact Hρ
    isplitl [Ho]; · iexact Ho
    isplitl [H0]
    · iexists g0
      isplitr [H0]
      · ipureintro; exact e0
      · iexact H0
    isplitl [H1]
    · iexists g1
      isplitr [H1]
      · ipureintro; exact e1
      · iexact H1
    isplitl [H2]
    · iexists g2
      isplitr [H2]
      · ipureintro; exact e2
      · iexact H2
    isplitl [H3]
    · iexists g3'
      isplitr [H3]
      · ipureintro; exact h3
      · iexact H3
    iexists g4'
    isplitr [H4]
    · ipureintro; exact h4
    · iexact H4

/-- The body that the grid runs at a point. -/
theorem defs₀_row (t : Fin cfg0.N) : defs₀ (F := F) .tc cfg0.body (cfg0.bodyArgs t (cfg0.slots t)) = bodyAt0 t := by
  unfold defs₀; rw [Defs.onTc_tc]

set_option maxRecDepth 65536 in
/-- The body meets what the grid asks of it at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
/-- The run: every array ends at what the proof data say, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The same, without the counters. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged and the counters at zero, for any float type. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.FlashFwd
-- ==== Proof.AttnFwdFrames.lean ====
/-
  The attention's forward pass: the program in machine arithmetic and its idealized twin are the same text, so what is proved of one holds of
  the other, and both end with their arguments unchanged and their counters at zero.
-/
module

public import proofs.«01_k».proof.Defs
public import proofs.«01_k».proof.Proof.FlashRun
public import proofs.«01_k».proof.Proof.Gen.AttnFwd
public import proofs.«01_k».proof.Proof.Gen.AttnFwd.Launch
public import proofs.«01_k».proof.Proof.Gen.AttnFwdIdeal.Launch
public import proofs.«01_k».proof.Proof.Gen.AttnFwdRefIdeal
public import proofs.«01_k».proof.Proof.Gen.AttnFwdRefIdeal.Run
public import proofs.«01_k».proof.Proof.Gen.Pre_finite_qk
public import Idealize.ShloMosaic.Lib.Claim
public import Idealize.ShloMosaic.Lib.Quiescent

@[expose] public section

set_option maxRecDepth 16384

noncomputable section

namespace Cert.AttnFwdFrames

open Idealize.ShloMosaic Idealize.SL.Sem

/-- The two kernel bodies. -/
theorem body_eq : @Cert.AttnFwd.cc0_flash_fwd Bits _ _ = @Cert.AttnFwdIdeal.cc0_flash_fwd Bits _ _ := rfl

set_option maxHeartbeats 2000000 in
/-- The two tables of kernel bodies. -/
theorem bodies_eq : @Cert.AttnFwd.defs₀ Bits _ _ = @Cert.AttnFwdIdeal.defs₀ Bits _ _ := by
  refine congrArg Defs.onTc ?_
  funext l x
  match l, x with
  | 0, (t, s) => rfl
  | ⟨n + 1, h⟩, _ => omega

/-- The two tables with the pipelines' own bodies. -/
theorem defs_eq : @Cert.AttnFwd.defs Bits _ _ = @Cert.AttnFwdIdeal.defs Bits _ _ :=
  congrArg (Pipeline.defs Cert.AttnFwdIdeal.pcfgs) bodies_eq

set_option maxHeartbeats 1000000 in
/-- The two programs around the call. -/
theorem main_eq (c) : @Cert.AttnFwd.main Bits _ _ c = @Cert.AttnFwdIdeal.main Bits _ _ c := by
  rw [Cert.AttnFwd.Gen.main_chain, Cert.AttnFwdIdeal.Gen.main_chain]
  rfl

/-- The kernel, in machine arithmetic. -/
theorem quiet_kernel : Cert.quiescent_AttnFwd := fun m ρ _ => by
  rw [defs_eq, show @Cert.AttnFwd.main Bits _ _ = @Cert.AttnFwdIdeal.main Bits _ _ from funext main_eq]
  exact Cert.FlashFwd.frame_any (F := Bits) m ρ

/-- The kernel, in exact arithmetic. -/
theorem quiet_ideal : Cert.quiescent_AttnFwdIdeal := fun m ρ _ => Cert.FlashFwd.frame_any (F := Ideal) m ρ

/-- The kernel, in exact arithmetic on finite arguments. -/
theorem quiet_ideal_finite : Cert.quiescent_AttnFwdIdeal_pre_finite_qk := fun m ρ _ => Cert.FlashFwd.frame_any (F := Ideal) m ρ

/-- The reference: it declares no counter, so every one is zero. -/
theorem quiet_reference : Cert.quiescent_AttnFwdRefIdeal := fun m ρ _ =>
  (θ_run Cert.AttnFwdRefIdeal.defs _ _).mono
    (fun r h => ⟨fun c => (h c).2.2, sem_eq_zero_of_no_sems (by decide) r.2⟩)
    (Cert.AttnFwdRefIdeal.Value.run (F := Ideal) m ρ)

/-- The reference, on finite arguments. -/
theorem quiet_reference_finite : Cert.quiescent_AttnFwdRefIdeal_pre_finite_qk := fun m g _ => quiet_reference m g trivial

end Cert.AttnFwdFrames
-- ==== Proof.FlashTile.lean ====
/-
  What `flash_fwd` does with one tile of keys, at real scores and any values: row `a` is a key, column `b` a query. The
  running sums are the plain sums, times the exponential of minus the running maximum.
-/
module

public import proofs.«01_k».proof.Proof.Tile
public import proofs.«01_k».proof.Proof.FlashSpec
public import proofs.«01_k».proof.Proof.FfnMath

@[expose] public section

set_option maxRecDepth 16384

noncomputable section

namespace Cert.FlashTile

open Cert.AttnFwdIdeal Cert.AttnFwdIdeal.Gen Cert.Attn Cert.Tile Cert.FlashFwd
open Idealize.ShloMosaic Idealize.ShloMosaic.TcCoe

/-- A reshape to the same shape changes nothing. -/
theorem cast_self {α : Type} {s : Shape} (x : s.Idx → α) (h : s.ShapeCasts s) : shapeCast s x h = x :=
  funext fun i => shapeCast_apply x h i i rfl

/-! ## The two updates -/

/-- The running maximum after a tile of scores. -/
def newMax (Y : FVec Ideal S1024x1024 .f32) (m : FVec Ideal S1x1024 .f32) : FVec Ideal S1x1024 .f32 :=
  maximumf m (shapeCast S1x1024 (multiReduction .maximumf [0] S1024 Y 0xFF800000#32 reduces_S1024x1024_S1024 (.inl rfl) rfl) shapeCasts_S1024_S1x1024)

/-- The running sums after a tile of scores, `m'` the new maximum. -/
def newSum (Y : FVec Ideal S1024x1024 .f32) (m m' : FVec Ideal S1x1024 .f32) (s : FVec Ideal S136x1024 .f32) (v : Vec Ideal S1x1x136x1024 .bf16) :
    FVec Ideal S136x1024 .f32 :=
  addf (mulf (broadcastTo S136x1024 (exp (subf m m')) broadcasts_S1x1024_S136x1024) s)
    (matmul (φ₁ := .bf16) (φ₂ := .bf16) dot_S136x1024_S1024x1024_S136x1024_1_0_0_1_n_n none (shapeCast S136x1024 v shapeCasts_S1x1x136x1024_S136x1024)
      (truncf .bf16 (exp (subf Y (broadcastTo S1024x1024 m' broadcasts_S1x1024_S1024x1024))) bitsLt_bf16_f32) (constant (F := Ideal) S136x1024 .f32 0x00000000#32))

/-- A tile before the diagonal. -/
theorem stage_eq (E : Env Ideal) (n : ℕ) (A : Acc Ideal) :
    E.stage n A = ⟨newMax (k0_pay13 (E.zz n)) A.m, newSum (k0_pay13 (E.zz n)) A.m (newMax (k0_pay13 (E.zz n)) A.m) A.s (E.vT n)⟩ :=
  congrArg₂ Acc.mk (cast_self _ shapeCasts_S1x1024_S1x1024) (cast_self _ shapeCasts_S136x1024_S136x1024)

/-- The tile on the diagonal. -/
theorem diag_eq (E : Env Ideal) (n : ℕ) (A : Acc Ideal) :
    E.diag n A = ⟨newMax (k0_pay2 (E.zz n)) A.m, newSum (k0_pay2 (E.zz n)) A.m (newMax (k0_pay2 (E.zz n)) A.m) A.s (E.vT n)⟩ :=
  congrArg₂ Acc.mk (cast_self _ shapeCasts_S1x1024_S1x1024) (cast_self _ shapeCasts_S136x1024_S136x1024)

/-! ## Their values -/

/-- A query's place in a row. -/
abbrev row (b : Fin 1024) : S1x1024.Idx := fun d => match d with | ⟨0, _⟩ => ⟨0, Nat.one_pos⟩ | ⟨1, _⟩ => ⟨b.val, b.isLt⟩

/-- A row repeated down the rows of the sums. -/
theorem rows136 (x : FVec Ideal S1x1024 .f32) (i : S136x1024.Idx) : broadcastTo S136x1024 x broadcasts_S1x1024_S136x1024 i = x (row (i 1)) :=
  broadcastTo_apply x broadcasts_S1x1024_S136x1024 i (row (i 1)) (fun d => match d with
    | ⟨0, _⟩ => by show 0 = if (1 : ℕ) = 1 then 0 else (i 0).val; rw [if_pos rfl]
    | ⟨1, _⟩ => by show (i 1).val = if (1024 : ℕ) = 1 then 0 else (i 1).val; rw [if_neg (by decide)])
/-- A row repeated down the rows of the output. -/
theorem rows128 (x : FVec Ideal S1x1024 .f32) (i : S128x1024.Idx) : broadcastTo S128x1024 x broadcasts_S1x1024_S128x1024 i = x (row (i 1)) :=
  broadcastTo_apply x broadcasts_S1x1024_S128x1024 i (row (i 1)) (fun d => match d with
    | ⟨0, _⟩ => by show 0 = if (1 : ℕ) = 1 then 0 else (i 0).val; rw [if_pos rfl]
    | ⟨1, _⟩ => by show (i 1).val = if (1024 : ℕ) = 1 then 0 else (i 1).val; rw [if_neg (by decide)])
/-- A row repeated down the rows of a tile of scores. -/
theorem rows1024 (x : FVec Ideal S1x1024 .f32) (i : S1024x1024.Idx) : broadcastTo S1024x1024 x broadcasts_S1x1024_S1024x1024 i = x (row (i 1)) :=
  broadcastTo_apply x broadcasts_S1x1024_S1024x1024 i (row (i 1)) (fun d => match d with
    | ⟨0, _⟩ => by show 0 = if (1 : ℕ) = 1 then 0 else (i 0).val; rw [if_pos rfl]
    | ⟨1, _⟩ => by show (i 1).val = if (1024 : ℕ) = 1 then 0 else (i 1).val; rw [if_neg (by decide)])

/-- The values of a tile of keys, not all of them real. -/
abbrev Vals (x : Vec Ideal S1x1x136x1024 .bf16) (w : ℕ → ℕ → EReal) : Prop := ∀ i, (x i : EReal) = w (i 2).val (i 3).val

/-- A tile of values as a matrix. -/
theorem cast_vals (x : Vec Ideal S1x1x136x1024 .bf16) (w : ℕ → ℕ → EReal) (hx : Vals x w) (i : S136x1024.Idx) :
    (shapeCast S136x1024 x shapeCasts_S1x1x136x1024_S136x1024 i : EReal) = w (i 0).val (i 1).val :=
  (shapeCast_apply x shapeCasts_S1x1x136x1024_S136x1024 i (fun d => match d with
    | ⟨0, _⟩ => ⟨0, Nat.one_pos⟩ | ⟨1, _⟩ => ⟨0, Nat.one_pos⟩ | ⟨2, _⟩ => ⟨(i 0).val, (i 0).isLt⟩ | ⟨3, _⟩ => ⟨(i 1).val, (i 1).isLt⟩) (by
    rewrite [Shape.rowMajor_val_four, Shape.rowMajor_val_two]
    show (0 * 136 + (i 0).val) * 1024 + (i 1).val = (i 0).val * 1024 + (i 1).val
    rw [Nat.zero_mul, Nat.zero_add])).trans (hx _)

/-- A positive real factor, taken out of a sum of two. -/
theorem add_mul_exp (a b : EReal) (x : ℝ) : a * ((Real.exp x : ℝ) : EReal) + b * ((Real.exp x : ℝ) : EReal) = (a + b) * ((Real.exp x : ℝ) : EReal) := by
  rw [mul_comm a, mul_comm b, mul_comm (a + b)]
  exact (EReal.left_distrib_of_nonneg_of_ne_top (by exact_mod_cast (Real.exp_pos x).le) (EReal.coe_ne_top _) a b).symm

/-- A nonnegative real factor, taken out of a sum. -/
theorem sum_mul_real (n : ℕ) (f : ℕ → EReal) {x : ℝ} (hx : 0 ≤ x) : (∑ j ∈ Finset.range n, f j) * (x : EReal) = ∑ j ∈ Finset.range n, f j * (x : EReal) := by
  rw [mul_comm, Cert.Ffn.mul_sum_pos x hx]
  exact Finset.sum_congr rfl fun j _ => mul_comm _ _

/-- Values, with their row of ones, times exponentials. -/
theorem dotVP {φ₁ φ₂ : FTy} (x : FVec Ideal S136x1024 φ₁) (y : FVec Ideal S1024x1024 φ₂) (f : ℕ → ℕ → EReal) (g : ℕ → ℕ → ℝ)
    (hx : ∀ i, (x i : EReal) = f (i 0).val (i 1).val) (hy : Is2 y g) (i : S136x1024.Idx) :
    (matmul dot_S136x1024_S1024x1024_S136x1024_1_0_0_1_n_n none x y (constant (F := Ideal) S136x1024 .f32 0x00000000#32) i : EReal)
      = ∑ j ∈ Finset.range 1024, f (i 0).val j * ((g j (i 1).val : ℝ) : EReal) := by
  refine (Ideal.matmul_constant_zero_apply dot_S136x1024_S1024x1024_S136x1024_1_0_0_1_n_n none x y i).trans ?_
  rw [← Equiv.sum_comp (ValueIdx.contrEquiv1 dot_S136x1024_S1024x1024_S136x1024_1_0_0_1_n_n 1024 rfl rfl).symm, Finset.sum_range]
  refine Finset.sum_congr rfl fun k _ => congrArg₂ (fun a b : EReal => a * b) ((hx _).trans ?_) ((hy _).trans ?_)
  · have e1 := (dot_S136x1024_S1024x1024_S136x1024_1_0_0_1_n_n.lhsIdx_val_of_single rfl i
      ((ValueIdx.contrEquiv1 dot_S136x1024_S1024x1024_S136x1024_1_0_0_1_n_n 1024 rfl rfl).symm k)).trans (ValueIdx.contrEquiv1_symm_val dot_S136x1024_S1024x1024_S136x1024_1_0_0_1_n_n 1024 rfl rfl k)
    have e0 : ∀ q, (dot_S136x1024_S1024x1024_S136x1024_1_0_0_1_n_n.lhsIdx i q 0).val = (i 0).val := fun q => by
      unfold DotDims.lhsIdx
      rw [dif_neg (show ¬(0 : Fin S136x1024.rank) ∈ dot_S136x1024_S1024x1024_S136x1024_1_0_0_1_n_n.lhsBatch by decide),
        dif_pos (show (0 : Fin S136x1024.rank) ∈ dot_S136x1024_S1024x1024_S136x1024_1_0_0_1_n_n.lhsNonContracting by decide)]
      rfl
    rw [e0, e1]
  · have e1 := (dot_S136x1024_S1024x1024_S136x1024_1_0_0_1_n_n.rhsIdx_val_of_single rfl i
      ((ValueIdx.contrEquiv1 dot_S136x1024_S1024x1024_S136x1024_1_0_0_1_n_n 1024 rfl rfl).symm k)).trans (ValueIdx.contrEquiv1_symm_val dot_S136x1024_S1024x1024_S136x1024_1_0_0_1_n_n 1024 rfl rfl k)
    have e0 : ∀ q, (dot_S136x1024_S1024x1024_S136x1024_1_0_0_1_n_n.rhsIdx i q 1).val = (i 1).val := fun q => by
      unfold DotDims.rhsIdx
      rw [dif_neg (show ¬(1 : Fin S1024x1024.rank) ∈ dot_S136x1024_S1024x1024_S136x1024_1_0_0_1_n_n.rhsBatch by decide),
        dif_pos (show (1 : Fin S1024x1024.rank) ∈ dot_S136x1024_S1024x1024_S136x1024_1_0_0_1_n_n.rhsNonContracting by decide)]
      rfl
    rw [e0, e1]

/-- A tile of scores, some of them masked: `c` says which are kept. -/
abbrev Masked (Y : FVec Ideal S1024x1024 .f32) (c : ℕ → ℕ → Prop) [∀ a b, Decidable (c a b)] (z : ℕ → ℕ → ℝ) : Prop :=
  ∀ i, (Y i : EReal) = if c (i 0).val (i 1).val then ((z (i 0).val (i 1).val : ℝ) : EReal) else ⊥

section Updates

variable {Y : FVec Ideal S1024x1024 .f32} {c : ℕ → ℕ → Prop} [∀ a b, Decidable (c a b)] {z : ℕ → ℕ → ℝ} (hY : Masked Y c z)

include hY

/-- A query with a key kept has a real maximum. -/
theorem newMax_real (h0 : ∀ b, c 0 b) (m : FVec Ideal S1x1024 .f32) (hm : ∀ i, (m i : EReal) < ⊤) :
    ∃ M : ℕ → ℝ, ∀ i, (newMax Y m i : EReal) = ((M (i 1).val : ℝ) : EReal) := by
  have key : ∀ i, ∃ r : ℝ, (newMax Y m i : EReal) = (r : EReal) := fun i => by
    have e : (shapeCast S1x1024 (multiReduction .maximumf [0] S1024 Y 0xFF800000#32 reduces_S1024x1024_S1024 (.inl rfl) rfl) shapeCasts_S1024_S1x1024 i : EReal)
        = (Finset.univ : Finset (Fin 1024)).fold max (Ideal.ofBits .f32 0xFF800000#32)
            (Y ∘ reduces_S1024x1024_S1024.lift (fun d => match d with | ⟨0, _⟩ => ⟨(i 1).val, (i 1).isLt⟩ : S1024.Idx)) := by
      refine (shapeCast_apply _ shapeCasts_S1024_S1x1024 i (fun d => match d with | ⟨0, _⟩ => ⟨(i 1).val, (i 1).isLt⟩) ?_).trans
        (Ideal.multiReduction_maximumf_single Y 0xFF800000#32 reduces_S1024x1024_S1024 (.inl rfl) rfl _)
      rewrite [Shape.rowMajor_val_two, Shape.rowMajor_val_one]
      have h : (i 0).val < 1 := (i 0).isLt
      show (i 1).val = (i 0).val * 1024 + (i 1).val
      omega
    obtain ⟨r, hr⟩ := fold_max_real (Finset.univ : Finset (Fin 1024))
      (Y ∘ reduces_S1024x1024_S1024.lift (fun d => match d with | ⟨0, _⟩ => ⟨(i 1).val, (i 1).isLt⟩ : S1024.Idx))
      (Ideal.ofBits .f32 0xFF800000#32) (by rw [ofBits_bot]; exact bot_lt_top)
      (fun k _ => by
        show (Y _ : EReal) < ⊤
        rw [hY]; split
        · exact EReal.coe_lt_top _
        · exact bot_lt_top)
      ⟨⟨0, by decide⟩, Finset.mem_univ _, by
        show ⊥ < (Y _ : EReal)
        rw [hY]
        exact (EReal.bot_lt_coe _).trans_eq (if_pos (h0 _)).symm⟩
    have e' : (newMax Y m i : EReal) = max (m i : EReal) (r : EReal) := by
      exact congrArg (max (m i : EReal)) (e.trans hr)
    rw [e']
    exact ⟨(max (m i : EReal) (r : EReal)).toReal, (EReal.coe_toReal (max_lt (hm i) (EReal.coe_lt_top r)).ne
      (lt_of_lt_of_le (EReal.bot_lt_coe r) (le_max_right _ _)).ne').symm⟩
  choose r hr using key
  obtain ⟨M, hM⟩ := byNat2 r
  refine ⟨M 0, fun i => (hr i).trans ?_⟩
  have h : (i 0).val < 1 := (i 0).isLt
  rw [hM i, show (i 0).val = 0 by omega]

/-- The new sums, where the old ones are known after their rescaling. -/
theorem newSum_real {m m' : FVec Ideal S1x1024 .f32} {s : FVec Ideal S136x1024 .f32} {v : Vec Ideal S1x1x136x1024 .bf16} {w : ℕ → ℕ → EReal}
    {U : ℕ → ℕ → EReal} {M : ℕ → ℝ} (hv : Vals v w) (hm : ∀ i, (m' i : EReal) = ((M (i 1).val : ℝ) : EReal))
    (hA : ∀ i : S136x1024.Idx, Ideal.exp ((m (row (i 1)) : EReal) - m' (row (i 1))) * (s i : EReal) = U (i 0).val (i 1).val * ((Real.exp (-M (i 1).val) : ℝ) : EReal))
    (i : S136x1024.Idx) :
    (newSum Y m m' s v i : EReal)
      = (U (i 0).val (i 1).val + ∑ a ∈ Finset.range 1024, w (i 0).val a * (((if c a (i 1).val then Real.exp (z a (i 1).val) else 0) : ℝ) : EReal))
        * ((Real.exp (-M (i 1).val) : ℝ) : EReal) := by
  have e1 : (mulf (broadcastTo S136x1024 (exp (subf m m')) broadcasts_S1x1024_S136x1024) s i : EReal) = U (i 0).val (i 1).val * ((Real.exp (-M (i 1).val) : ℝ) : EReal) := by
    refine Eq.trans ?_ (hA i)
    exact congrArg (fun x : EReal => x * (s i : EReal)) (rows136 _ i)
  have e2 : Is2 (truncf (F := Ideal) .bf16 (exp (subf Y (broadcastTo S1024x1024 m' broadcasts_S1x1024_S1024x1024))) bitsLt_bf16_f32)
      (fun a b => (if c a b then Real.exp (z a b) else 0) * Real.exp (-M b)) := fun k => by
    have e := (rows1024 m' k).trans (hm _)
    refine Eq.trans (congrArg₂ (fun a b : EReal => Ideal.exp (a - b)) (hY k) e) ?_
    refine (exp_masked _ _ _).trans (congrArg _ ?_)
    show (if c (k 0).val (k 1).val then Real.exp (z (k 0).val (k 1).val - M (k 1).val) else 0)
      = (if c (k 0).val (k 1).val then Real.exp (z (k 0).val (k 1).val) else 0) * Real.exp (-M (k 1).val)
    by_cases h : c (k 0).val (k 1).val
    · rw [if_pos h, if_pos h, sub_eq_add_neg, Real.exp_add]
    · rw [if_neg h, if_neg h, zero_mul]
  have e3 := dotVP (φ₁ := .bf16) _ _ _ _ (cast_vals v w hv) e2 i
  refine Eq.trans (congrArg₂ (fun a b : EReal => a + b) e1 e3) ?_
  rw [← add_mul_exp, sum_mul_real _ _ (Real.exp_pos _).le]
  refine congrArg _ (Finset.sum_congr rfl fun a _ => ?_)
  rw [mul_assoc, ← EReal.coe_mul]

end Updates

/-! ## What a grid point keeps -/

/-- The sums `U`, kept with the running maxima `M`. -/
structure Held (A : Acc Ideal) (U : ℕ → ℕ → EReal) (M : ℕ → ℝ) : Prop where
  m : ∀ i, (A.m i : EReal) = ((M (i 1).val : ℝ) : EReal)
  s : ∀ i, (A.s i : EReal) = U (i 0).val (i 1).val * ((Real.exp (-M (i 1).val) : ℝ) : EReal)

/-- Nothing kept yet. -/
structure Fresh (A : Acc Ideal) (U : ℕ → ℕ → EReal) : Prop where
  m : ∀ i, (A.m i : EReal) = ⊥
  s : ∀ i, (A.s i : EReal) = 0
  u : ∀ r b, U r b = 0

/-- A tile adds its keys' shares, whatever the maxima. -/
theorem step {A : Acc Ideal} {U : ℕ → ℕ → EReal} (hA : (∃ M, Held A U M) ∨ Fresh A U) {Y : FVec Ideal S1024x1024 .f32} {c : ℕ → ℕ → Prop}
    [∀ a b, Decidable (c a b)] {z : ℕ → ℕ → ℝ} (hY : Masked Y c z) (h0 : ∀ b, c 0 b) {v : Vec Ideal S1x1x136x1024 .bf16} {w : ℕ → ℕ → EReal} (hv : Vals v w) :
    ∃ M, Held ⟨newMax Y A.m, newSum Y A.m (newMax Y A.m) A.s v⟩
      (fun r b => U r b + ∑ a ∈ Finset.range 1024, w r a * (((if c a b then Real.exp (z a b) else 0) : ℝ) : EReal)) M := by
  obtain ⟨M', hM'⟩ := newMax_real hY h0 A.m (fun i => by
    rcases hA with ⟨M, h⟩ | h
    · rw [h.m]; exact EReal.coe_lt_top _
    · rw [h.m]; exact bot_lt_top)
  refine ⟨M', hM', newSum_real hY hv hM' fun i => ?_⟩
  rw [hM' (row (i 1))]
  rcases hA with ⟨M, h⟩ | h
  · rw [h.m (row (i 1)), h.s i, ← EReal.coe_sub]
    refine (mul_left_comm _ _ _).trans (congrArg (U (i 0).val (i 1).val * ·) ?_)
    refine (EReal.coe_mul _ _).symm.trans (congrArg _ ?_)
    show Real.exp (M (i 1).val - M' (i 1).val) * Real.exp (-M (i 1).val) = Real.exp (-M' (i 1).val)
    rw [← Real.exp_add]
    congr 1; ring
  · rw [h.s i, h.u, mul_zero, zero_mul]

end Cert.FlashTile
-- ==== Proof.FlashPoint.lean ====
/-
  What one grid point of the attention's forward pass leaves, at real queries and keys and any values: its queries' output and the logarithm of the
  sum of their exponentials.
-/
module

public import proofs.«01_k».proof.Proof.FlashTile
public import proofs.«01_k».proof.Proof.Point

@[expose] public section

set_option maxRecDepth 16384

noncomputable section

namespace Cert.FlashTile

open Cert.AttnFwdIdeal Cert.AttnFwdIdeal.Gen Cert.Attn Cert.Tile Cert.FlashFwd
open Idealize.ShloMosaic Idealize.ShloMosaic.TcCoe

/-- A key's values, then ones. -/
def val (W : ℕ → ℕ → EReal) (r j : ℕ) : EReal := if r < 128 then W j r else 1

/-- What the point of query tile `t` of head `H`, with values `W`, reads. -/
structure Reads (E : Env Ideal) (H : Head) (W : ℕ → ℕ → EReal) (t : ℕ) : Prop where
  q : Is3 E.qT (fun b d => H.q (1024 * t + b) d)
  k : Is3 E.K H.k
  v : ∀ i, (E.V i : EReal) = val W (i 2).val (1024 * (i 1).val + (i 3).val)

/-- A reshape of the query tile to a matrix. -/
theorem cast38 (x : Vec Ideal S1x1024x192 .bf16) (f : ℕ → ℕ → ℝ) (hx : Is3 x f) : Is2 (k0_pay38 x) f :=
  cast32 x f hx shapeCasts_S1x1024x192_S1024x192

/-- Keys times queries. -/
theorem scores (q : Vec Ideal S1024x192 .bf16) (k : Vec Ideal S1x1024x192 .bf16) (f g : ℕ → ℕ → ℝ) (hq : Is2 q f) (hk : Is3 k g) :
    Is3 (k0_pay12 q k) (fun a b => ∑ d ∈ Finset.range 192, g a d * f b d) :=
  cast23 _ _ (dotKQ (φ₁ := .bf16) (φ₂ := .bf16) _ _ _ _ (cast32 k g hk shapeCasts_S1x1024x192_S1024x192) hq) shapeCasts_S1024x1024_S1x1024x1024

/-- A tile with every key kept. -/
theorem all_kept (z : Vec Ideal S1x1024x1024 .f32) (f : ℕ → ℕ → ℝ) (hz : Is3 z f) : Masked (k0_pay13 z) (fun _ _ => True) f := fun i =>
  (cast32 z f hz shapeCasts_S1x1024x1024_S1024x1024 i).trans (if_pos trivial).symm

/-- The tile on the diagonal: a key is kept where it is not after the query. -/
theorem causal (z : Vec Ideal S1x1024x1024 .f32) (f : ℕ → ℕ → ℝ) (hz : Is3 z f) : Masked (k0_pay2 z) (fun a b => a ≤ b) f := fun i =>
  Tile.masked z f hz i

section Tiles

variable {E : Env Ideal} {H : Head} {W : ℕ → ℕ → EReal} {t : ℕ} (R : Reads E H W t) {n : ℕ} (hn : n < 16)

include R hn

theorem kT_is : Is3 (E.kT n) (fun a d => H.k (1024 * n + a) d) := fun y => by
  refine (R.k _).trans ?_
  show ((H.k (1024 * min n 15 + 1 * (y 1).val) (0 + 1 * (y 2).val) : ℝ) : EReal) = _
  rw [Nat.min_eq_left (by omega), Nat.one_mul, Nat.one_mul, Nat.zero_add]

theorem vT_is : Vals (E.vT n) (fun r a => val W r (1024 * n + a)) := fun y => by
  refine (R.v _).trans ?_
  show val W (0 + 1 * (y 2).val) (1024 * (min n 15 + 1 * (y 1).val) + (0 + 1 * (y 3).val)) = _
  have h1 : (y 1).val < 1 := (y 1).isLt
  rw [Nat.min_eq_left (by omega), show (y 1).val = 0 by omega, Nat.mul_zero, Nat.add_zero, Nat.one_mul, Nat.one_mul, Nat.zero_add, Nat.zero_add]

theorem zz_is : Is3 (E.zz n) (fun a b => H.S (1024 * t + b) (1024 * n + a)) :=
  Point.is3_congr (scores _ (E.kT n) _ _ (cast38 _ _ R.q) (kT_is R hn)) fun a _ b _ =>
    Finset.sum_congr rfl fun d _ => mul_comm _ _

end Tiles

/-! ## The sums over the keys -/

/-- The sums over the first `n` key tiles, for the queries of tile `t`. -/
def sums (H : Head) (W : ℕ → ℕ → EReal) (t n r b : ℕ) : EReal := ∑ j ∈ Finset.range (1024 * n), val W r j * ((H.X (1024 * t + b) j : ℝ) : EReal)

/-- One tile more. -/
theorem sums_succ (H : Head) (W : ℕ → ℕ → EReal) (t n r b : ℕ) :
    sums H W t (n + 1) r b = sums H W t n r b + ∑ a ∈ Finset.range 1024, val W r (1024 * n + a) * ((H.X (1024 * t + b) (1024 * n + a) : ℝ) : EReal) := by
  rw [sums, Nat.mul_succ, Finset.sum_range_add]; rfl

/-- The keys after the query's tile add nothing. -/
theorem sums_all (H : Head) (W : ℕ → ℕ → EReal) {t r b : ℕ} (ht : t < 16) (hb : b < 1024) :
    sums H W t (t + 1) r b = ∑ j ∈ Finset.range 16384, val W r j * ((H.X (1024 * t + b) j : ℝ) : EReal) := by
  obtain ⟨k, hk⟩ : ∃ k, 16384 = 1024 * (t + 1) + k := ⟨16384 - 1024 * (t + 1), by omega⟩
  rw [hk, Finset.sum_range_add, Finset.sum_eq_zero (s := Finset.range k) fun j _ => by rw [H.X_of_lt (by omega), EReal.coe_zero, mul_zero], add_zero]; rfl

/-- The row of ones sums the exponentials. -/
theorem sums_ones (H : Head) (W : ℕ → ℕ → EReal) {t b : ℕ} (ht : t < 16) (hb : b < 1024) :
    sums H W t (t + 1) 128 b = ((H.Z 16384 (1024 * t + b) : ℝ) : EReal) := by
  rw [sums_all H W ht hb, Head.Z, Finset.sum_range]
  refine coe_sum _ (fun j => H.X (1024 * t + b) j) fun j => ?_
  rw [val, if_neg (by omega), one_mul]

/-- The other rows sum the values. -/
theorem sums_vals (H : Head) (W : ℕ → ℕ → EReal) {t r b : ℕ} (ht : t < 16) (hb : b < 1024) (hr : r < 128) :
    sums H W t (t + 1) r b = ∑ j ∈ Finset.range 16384, W j r * ((H.X (1024 * t + b) j : ℝ) : EReal) := by
  rw [sums_all H W ht hb]
  refine Finset.sum_congr rfl fun j _ => ?_
  rw [val, if_pos hr]

/-- The sums carry over to equal ones. -/
theorem Held.congr {A : Acc Ideal} {U W : ℕ → ℕ → EReal} {M : ℕ → ℝ} (h : Held A U M) (e : ∀ r b, b < 1024 → U r b = W r b) : Held A W M :=
  ⟨h.m, fun i => by rw [h.s i, e _ _ (i 1).isLt]⟩

section Point

variable {E : Env Ideal} {H : Head} {W : ℕ → ℕ → EReal} {t : ℕ} (R : Reads E H W t) (ht : t < 16)

include R ht

/-- After the first `n` key tiles, all before the diagonal. -/
theorem upto_is (n : ℕ) (hn : n ≤ t) : (∃ M, Held (E.upto n) (sums H W t n) M) ∨ Fresh (E.upto n) (sums H W t n) := by
  induction n with
  | zero => exact Or.inr ⟨fun _ => ofBits_bot, fun _ => Ideal.ofBits_zero_f32, fun r b => by rw [sums, Nat.mul_zero, Finset.range_zero, Finset.sum_empty]⟩
  | succ n ih =>
    obtain ⟨M, h⟩ := step (ih (by omega)) (all_kept _ _ (zz_is R (n := n) (by omega))) (fun _ => trivial) (vT_is R (n := n) (by omega))
    refine Or.inl ⟨M, ?_⟩
    rw [show E.upto (n + 1) = E.stage n (E.upto n) from rfl, stage_eq]
    refine h.congr fun r b hb => ?_
    rw [sums_succ]
    refine congrArg _ (Finset.sum_congr rfl fun a ha => congrArg _ (congrArg _ ?_))
    rw [if_pos trivial, Head.X, if_pos (by have := Finset.mem_range.mp ha; omega)]

/-- After the tile on the diagonal. -/
theorem point_is : ∃ M, Held (E.point t) (sums H W t (t + 1)) M := by
  obtain ⟨M, h⟩ := step (upto_is R ht t le_rfl) (causal _ _ (zz_is R ht)) (fun b => Nat.zero_le b) (vT_is R ht)
  refine ⟨M, ?_⟩
  rw [show E.point t = E.diag t (E.upto t) from rfl, diag_eq]
  refine h.congr fun r b hb => ?_
  rw [sums_succ]
  refine congrArg _ (Finset.sum_congr rfl fun a ha => congrArg _ (congrArg _ ?_))
  rw [Head.X]
  exact if_congr (by omega) rfl rfl

end Point

/-! ## What it stores -/

/-- The attention's output. -/
def outR (H : Head) (W : ℕ → ℕ → EReal) (i e : ℕ) : EReal := ∑ j ∈ Finset.range 16384, ((H.p 16384 i j : ℝ) : EReal) * W j e

/-- Division by a positive real number. -/
theorem div_pos_real (a : EReal) (b : ℝ) (h : 0 < b) : Ideal.div a (b : EReal) = a * ((b⁻¹ : ℝ) : EReal) := by
  rw [Ideal.div, if_neg (by exact_mod_cast h.ne'), EReal.coe_inv]

/-- The shift cancels in the logarithm. -/
theorem log_shift {z : ℝ} (hz : 0 < z) (M : ℝ) : M + Real.log (z * Real.exp (-M)) = Real.log z := by
  rw [Real.log_mul hz.ne' (Real.exp_pos _).ne', Real.log_exp]; ring

section Stores

variable {E : Env Ideal} {H : Head} {W : ℕ → ℕ → EReal} {t : ℕ} (R : Reads E H W t) (ht : t < 16)

include R ht

/-- The denominators. -/
theorem denom_is {M : ℕ → ℝ} (h : Held (E.point t) (sums H W t (t + 1)) M) (i : S1x1024.Idx) :
    (denom (E.point t).s i : EReal) = ((H.Z 16384 (1024 * t + (i 1).val) * Real.exp (-M (i 1).val) : ℝ) : EReal) := by
  refine (h.s _).trans ?_
  have h0 : (i 0).val < 1 := (i 0).isLt
  show sums H W t (t + 1) (128 + 1 * (i 0).val) (0 + 1 * (i 1).val) * ((Real.exp (-M (0 + 1 * (i 1).val)) : ℝ) : EReal) = _
  rw [Nat.one_mul, Nat.one_mul, Nat.zero_add, show (i 0).val = 0 by omega, Nat.add_zero, sums_ones H W ht (i 1).isLt, ← EReal.coe_mul]

/-- The output tile. -/
theorem out_is (i : S128x1024.Idx) : ((E.point t).out i : EReal) = outR H W (1024 * t + (i 1).val) (i 0).val := by
  obtain ⟨M, h⟩ := point_is R ht
  have hi : (i 1).val < 1024 := (i 1).isLt
  have hz := H.Zs_pos 16384 (M (i 1).val) (i := 1024 * t + (i 1).val) (by omega)
  have hp := H.Z_pos 16384 (i := 1024 * t + (i 1).val) (by omega)
  have en : (numer (E.point t).s i : EReal)
      = (∑ j ∈ Finset.range 16384, W j (i 0).val * ((H.X (1024 * t + (i 1).val) j : ℝ) : EReal)) * ((Real.exp (-M (i 1).val) : ℝ) : EReal) := by
    refine (h.s _).trans ?_
    have h0 : (i 0).val < 128 := (i 0).isLt
    show sums H W t (t + 1) (0 + 1 * (i 0).val) (0 + 1 * (i 1).val) * ((Real.exp (-M (0 + 1 * (i 1).val)) : ℝ) : EReal) = _
    rw [Nat.one_mul, Nat.zero_add, Nat.one_mul, Nat.zero_add, sums_vals H W ht hi h0]
  have ed := (rows128 (denom (E.point t).s) i).trans (denom_is R ht h (row (i 1)))
  refine Eq.trans (congrArg₂ (fun a b : EReal => Ideal.div a b) en ed) ?_
  refine (div_pos_real _ _ hz).trans ?_
  have e : Real.exp (-M (i 1).val) * (H.Z 16384 (1024 * t + (i 1).val) * Real.exp (-M (i 1).val))⁻¹ = (H.Z 16384 (1024 * t + (i 1).val))⁻¹ := by
    rw [mul_inv, mul_left_comm, mul_inv_cancel₀ (Real.exp_pos _).ne', mul_one]
  show (∑ j ∈ Finset.range 16384, W j (i 0).val * ((H.X (1024 * t + (i 1).val) j : ℝ) : EReal)) * ((Real.exp (-M (i 1).val) : ℝ) : EReal)
    * (((H.Z 16384 (1024 * t + (i 1).val) * Real.exp (-M (i 1).val))⁻¹ : ℝ) : EReal) = _
  rw [mul_assoc, ← EReal.coe_mul, e, sum_mul_real _ _ (inv_nonneg.mpr hp.le), outR]
  refine Finset.sum_congr rfl fun j _ => ?_
  rw [mul_assoc, ← EReal.coe_mul, mul_comm, Head.p, div_eq_mul_inv]

/-- The log-sum-exp. -/
theorem lse_is : Is3 (E.point t).lse (fun _ b => Real.log (H.Z 16384 (1024 * t + b))) := by
  obtain ⟨M, h⟩ := point_is R ht
  refine cast23 (addf (E.point t).m (log (denom (E.point t).s))) _ (fun i => ?_) shapeCasts_S1x1024_S1x1x1024
  have hi : (i 1).val < 1024 := (i 1).isLt
  have hz := H.Zs_pos 16384 (M (i 1).val) (i := 1024 * t + (i 1).val) (by omega)
  refine Eq.trans (congrArg₂ (fun a b : EReal => a + Ideal.log b) (h.m i) (denom_is R ht h i)) ?_
  rw [log_real _ hz, ← EReal.coe_add, log_shift (H.Z_pos 16384 (by omega))]

end Stores

end Cert.FlashTile
-- ==== Proof.AttnFwdRefRead.lean ====
/-
  The forward reference's two results, head by head: the attention's output, and the logarithm of the sum of the
  exponentials of the scores.
-/
module

public import proofs.«01_k».proof.Proof.Scalars
public import proofs.«01_k».proof.Proof.FlashPoint
public import proofs.«01_k».proof.Proof.Gen.AttnFwdRefIdeal.Read

@[expose] public section

set_option maxRecDepth 16384

noncomputable section

namespace Cert.AttnFwdRead

open Cert.AttnFwdRefIdeal Cert.AttnFwdRefIdeal.Gen Cert.AttnFwdRefIdeal.Read Cert.Attn
open Idealize.ShloMosaic Idealize.ShloMosaic.TcCoe

/-- An array with an axis of heads, and rows. -/
abbrev Rows := (⟨S8x16384x192, .bf16⟩ : BufTy).Contents (Elt Ideal)
/-- An array whose columns hold the heads side by side. -/
abbrev Cols := (⟨S16384x1024, .bf16⟩ : BufTy).Contents (Elt Ideal)

/-- The queries and the keys are the heads' real numbers, the values are `W`. -/
structure Holds (H : ℕ → Head) (W : ℕ → ℕ → ℕ → EReal) (x0 x1 : Rows) (x2 : Cols) : Prop where
  q : ∀ i, (x0 i : EReal) = (((H (i 0).val).q (i 1).val (i 2).val : ℝ) : EReal)
  k : ∀ i, (x1 i : EReal) = (((H (i 0).val).k (i 1).val (i 2).val : ℝ) : EReal)
  v : ∀ i, (x2 i : EReal) = W ((i 1).val / 128) (i 0).val ((i 1).val % 128)

variable {H : ℕ → Head} {W : ℕ → ℕ → ℕ → EReal} {x0 x1 : Rows} {x2 : Cols} (h : Holds H W x0 x1 x2)

include h

/-- The queries. -/
theorem v0 (i) : (val_main_v0 (F := Ideal) x0 i : EReal) = (((H (i 0).val).q (i 1).val (i 2).val : ℝ) : EReal) := h.q i
/-- The keys. -/
theorem v1 (i) : (val_main_v1 (F := Ideal) x1 i : EReal) = (((H (i 0).val).k (i 1).val (i 2).val : ℝ) : EReal) := h.k i

/-- The values, by rows and heads. -/
theorem v20 (i) : (val_main_v20 (F := Ideal) x2 i : EReal) = W (i 1).val (i 0).val (i 2).val := by
  have h1 : (i 1).val < 8 := (i 1).isLt
  have h2 : (i 2).val < 128 := (i 2).isLt
  refine (val_main_v20_apply x2 i).trans ((h.v _).trans ?_)
  show W ((((i 0).val * 8 + (i 1).val) * 128 + (i 2).val) % 1024 / 128) ((((i 0).val * 8 + (i 1).val) * 128 + (i 2).val) / 1024)
    ((((i 0).val * 8 + (i 1).val) * 128 + (i 2).val) % 1024 % 128) = _
  rw [show (((i 0).val * 8 + (i 1).val) * 128 + (i 2).val) % 1024 / 128 = (i 1).val by omega,
    show (((i 0).val * 8 + (i 1).val) * 128 + (i 2).val) / 1024 = (i 0).val by omega,
    show (((i 0).val * 8 + (i 1).val) * 128 + (i 2).val) % 1024 % 128 = (i 2).val by omega]

/-- The values, by heads. -/
theorem v21 (i) : (val_main_v21 (F := Ideal) x2 i : EReal) = W (i 0).val (i 1).val (i 2).val :=
  (val_main_v21_apply x2 i).trans (v20 h _)

/-- The scores. -/
theorem v3 (i) : (val_main_v3 (F := Ideal) x0 x1 i : EReal) = (((H (i 0).val).S (i 1).val (i 2).val : ℝ) : EReal) :=
  (val_main_v3_apply x0 x1 i).trans
    (coe_dot _ _ (fun d => (H (i 0).val).q (i 1).val d) (fun d => (H (i 0).val).k (i 2).val d) (fun d => v0 h _) (fun d => v1 h _))

omit h in
/-- The causal mask. -/
theorem mask {α : Type} (i : S8x16384x16384.Idx) (x y : α) :
    Scalar.select (val_main_call0_v1 (F := Ideal) i) x y = if (i 2).val ≤ (i 1).val then x else y := by
  refine Eq.trans (congrArg (fun w => Scalar.select w x y) ((val_main_call0_v1_apply i).trans ((val_main_v9_apply _).trans ?_))) (select_le (i 2).val (i 1).val (i 2).isLt (i 1).isLt x y)
  exact congrArg₂ (IntOp.cmpi .sle)
    ((val_main_v7_apply _).trans ((val_main_v5_apply _).trans (val_main_v4_apply _)))
    ((val_main_v8_apply _).trans ((val_main_v6_apply _).trans (val_main_v4_apply _)))

/-- The masked scores. -/
theorem v10 (i) : (val_main_v10 (F := Ideal) x0 x1 i : EReal)
    = if (i 2).val ≤ (i 1).val then (((H (i 0).val).S (i 1).val (i 2).val : ℝ) : EReal) else ⊥ := by
  refine (val_main_v10_apply x0 x1 i).trans ((mask i _ _).trans ?_)
  refine if_congr Iff.rfl (v3 h i) ?_
  exact (val_main_call0_v2_apply i).trans ofBits_bot

/-- The row maxima are real. -/
theorem v11 : ∃ M : ℕ → ℕ → ℝ, ∀ i, (val_main_v11 (F := Ideal) x0 x1 i : EReal) = ((M (i 0).val (i 1).val : ℝ) : EReal) :=
  rowMax_real (val_main_v10 (F := Ideal) x0 x1) (fun a i j => (H a).S i j) (v10 h) (val_main_cst_0 (F := Ideal)) (fun _ => ofBits_bot) reducesTo_S8x16384x16384_S8x16384_d2 h_S_

section Shift

variable {M : ℕ → ℕ → ℝ} (hM : ∀ i, (val_main_v11 (F := Ideal) x0 x1 i : EReal) = ((M (i 0).val (i 1).val : ℝ) : EReal))

include hM

omit h in
/-- The row maxima, as a column. -/
theorem v12 (i) : (val_main_v12 (F := Ideal) x0 x1 i : EReal) = ((M (i 0).val (i 1).val : ℝ) : EReal) :=
  (val_main_v12_apply x0 x1 i).trans (hM _)

/-- The shifted exponentials. -/
theorem v15 (i) : (val_main_v15 (F := Ideal) x0 x1 i : EReal)
    = (((H (i 0).val).X (i 1).val (i 2).val * Real.exp (-(M (i 0).val (i 1).val)) : ℝ) : EReal) := by
  have e := (val_main_v13_apply (F := Ideal) x0 x1 i).trans (v12 hM _)
  refine (val_main_v15_apply x0 x1 i).trans ?_
  show Ideal.exp (val_main_v10 (F := Ideal) x0 x1 i - val_main_v13 (F := Ideal) x0 x1 i) = _
  rw [v10 h i, e, exp_masked, Head.X_shift]

/-- Their row sums. -/
theorem v16 (i) : (val_main_v16 (F := Ideal) x0 x1 i : EReal)
    = (((H (i 0).val).Z 16384 (i 1).val * Real.exp (-(M (i 0).val (i 1).val)) : ℝ) : EReal) := by
  refine (val_main_v16_apply x0 x1 i).trans ?_
  rw [show (val_main_cst_1 (F := Ideal) (Shape.Idx.first h_S_) : EReal) = 0 from Ideal.ofBits_zero_f32, zero_add, ← Head.Z_shift]
  exact coe_sum _ (fun j => (H (i 0).val).X (i 1).val j * Real.exp (-(M (i 0).val (i 1).val))) (fun j => v15 h hM _)

/-- The row sums, as a column. -/
theorem v17 (i) : (val_main_v17 (F := Ideal) x0 x1 i : EReal)
    = (((H (i 0).val).Z 16384 (i 1).val * Real.exp (-(M (i 0).val (i 1).val)) : ℝ) : EReal) :=
  (val_main_v17_apply x0 x1 i).trans (v16 h hM _)

/-- The probabilities. -/
theorem v19 (i) : (val_main_v19 (F := Ideal) x0 x1 i : EReal) = (((H (i 0).val).p 16384 (i 1).val (i 2).val : ℝ) : EReal) := by
  have e := (val_main_v18_apply (F := Ideal) x0 x1 i).trans (v17 h hM _)
  refine (val_main_v19_apply x0 x1 i).trans ?_
  show Ideal.div (val_main_v15 (F := Ideal) x0 x1 i) (val_main_v18 (F := Ideal) x0 x1 i) = _
  rw [v15 h hM i, e]
  refine (div_real _ _ (Head.Zs_pos _ _ _ (i 1).isLt)).trans ?_
  exact congrArg _ (Head.p_shift _ _ _ _ _)

/-- The output, by heads. -/
theorem v22 (i) : (val_main_v22 (F := Ideal) x0 x1 x2 i : EReal) = FlashTile.outR (H (i 0).val) (W (i 0).val) (i 1).val (i 2).val := by
  rw [FlashTile.outR, Finset.sum_range]
  exact (val_main_v22_apply x0 x1 x2 i).trans (Finset.sum_congr rfl fun j _ => congrArg₂ (fun a b : EReal => a * b) (v19 h hM _) (v21 h _))

/-- The output: the heads one below another, a column for each query. -/
theorem v24 (i) : (val_main_v24 (F := Ideal) x0 x1 x2 i : EReal)
    = FlashTile.outR (H ((i 0).val / 128)) (W ((i 0).val / 128)) (i 1).val ((i 0).val % 128) := by
  have h0 : (i 0).val < 1024 := (i 0).isLt
  have h1 : (i 1).val < 16384 := (i 1).isLt
  refine (val_main_v24_apply x0 x1 x2 i).trans ((val_main_v23_apply x0 x1 x2 _).trans ((v22 h hM _).trans ?_))
  show FlashTile.outR (H (((i 0).val * 16384 + (i 1).val) / 2097152)) (W (((i 0).val * 16384 + (i 1).val) / 2097152)) (((i 0).val * 16384 + (i 1).val) % 16384) (((i 0).val * 16384 + (i 1).val) / 16384 % 128) = _
  rw [show ((i 0).val * 16384 + (i 1).val) / 2097152 = (i 0).val / 128 by omega,
    show ((i 0).val * 16384 + (i 1).val) % 16384 = (i 1).val by omega,
    show ((i 0).val * 16384 + (i 1).val) / 16384 % 128 = (i 0).val % 128 by omega]

omit h hM in
/-- A logarithm, entry by entry. -/
theorem log_at {s : Shape} (x : FVec Ideal s .f32) (i : s.Idx) : Host.log x i = Ideal.log (x i) := rfl

/-- The log-sum-exp, as a column. -/
theorem v26 (i) : (val_main_v26 (F := Ideal) x0 x1 i : EReal) = ((Real.log ((H (i 0).val).Z 16384 (i 1).val) : ℝ) : EReal) := by
  have e : (val_main_v25 (F := Ideal) x0 x1 i : EReal) = Ideal.log (val_main_v17 (F := Ideal) x0 x1 i) := by
    unfold val_main_v25; exact log_at _ i
  have hi : (i 1).val < 16384 := (i 1).isLt
  have hz := (H (i 0).val).Z_pos 16384 hi
  refine (val_main_v26_apply x0 x1 i).trans ?_
  show (val_main_v12 (F := Ideal) x0 x1 i + val_main_v25 (F := Ideal) x0 x1 i : EReal) = _
  rw [e, v17 h hM i, v12 hM i, log_real _ ((H (i 0).val).Zs_pos 16384 _ hi), ← EReal.coe_add, FlashTile.log_shift hz]

/-- The log-sum-exp: a row for each head. -/
theorem v27 (i) : (val_main_v27 (F := Ideal) x0 x1 i : EReal) = ((Real.log ((H (i 0).val).Z 16384 (i 2).val) : ℝ) : EReal) := by
  have h1 : (i 1).val < 1 := (i 1).isLt
  have h2 : (i 2).val < 16384 := (i 2).isLt
  refine (val_main_v27_apply x0 x1 i).trans ((v26 h hM _).trans ?_)
  show ((Real.log ((H ((((i 0).val * 1 + (i 1).val) * 16384 + (i 2).val) / 16384)).Z 16384 ((((i 0).val * 1 + (i 1).val) * 16384 + (i 2).val) / 1 % 16384)) : ℝ) : EReal) = _
  rw [show (((i 0).val * 1 + (i 1).val) * 16384 + (i 2).val) / 16384 = (i 0).val by omega,
    show (((i 0).val * 1 + (i 1).val) * 16384 + (i 2).val) / 1 % 16384 = (i 2).val by omega]

end Shift

end Cert.AttnFwdRead
-- ==== Proof.FlashHost.lean ====
/-
  The values that the host lays out for `flash_fwd`: transposed, by heads and tiles of keys, with rows of ones below.
-/
module

public import proofs.«01_k».proof.Proof.AttnFwdRefRead
public import proofs.«01_k».proof.Proof.Gen.AttnFwdIdeal.Frame
public import Idealize.ShloMosaic.Lib.Pipeline.Value
public import Idealize.ShloMosaic.Lib.ValueIdx
public import Idealize.ShloMosaic.Lib.Claim

@[expose] public section

set_option maxRecDepth 16384

noncomputable section

namespace Cert.FlashHost

open Cert.AttnFwdIdeal Cert.AttnFwdIdeal.Gen Cert.Attn Cert.AttnFwdRead
open Idealize.ShloMosaic Idealize.ShloMosaic.TcCoe

/-- The values, transposed, by heads and tiles of keys. -/
def tiles (x2 : Cols) : FVec Ideal S8x16x128x1024 .bf16 :=
  transpose S8x16x128x1024 [2, 0, 3, 1] (shapeCast S16x1024x8x128 x2 shapeCasts_S16384x1024_S16x1024x8x128) transposes_S16x1024x8x128_S8x16x128x1024_2_0_3_1
/-- Rows of ones. -/
def ones : FVec Ideal S8x16x8x1024 .bf16 := broadcastInDim S8x16x8x1024 ![] bcast_S_S8x16x8x1024 (constant (F := Ideal) S_ .bf16 0x3F80#16)
/-- What the kernel is called with. -/
def vt (x2 : Cols) : FVec Ideal S8x16x136x1024 .bf16 :=
  concatenate S8x16x136x1024 2 [⟨S8x16x128x1024, tiles x2⟩, ⟨S8x16x8x1024, ones⟩] concatenates_S8x16x128x1024_S8x16x8x1024_S8x16x136x1024_d2

/-- The call's third argument. -/
theorem V_vt (m : (ℓ : Loc nD τ sig) → Buf (Elt Ideal) ℓ) (c : Dev nD) : V m c main_v3 = vt (m ((c : Thread nD τ).loc main_arg2)) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  unfold vt tiles ones
  rfl

variable {H : ℕ → Head} {W : ℕ → ℕ → ℕ → EReal} {x0 x1 : Rows} {x2 : Cols} (h : Holds H W x0 x1 x2)

include h

/-- A value. -/
theorem tiles_is (i) : (tiles x2 i : EReal) = W (i 0).val (1024 * (i 1).val + (i 3).val) (i 2).val := by
  have h0 : (i 0).val < 8 := (i 0).isLt
  have h1 : (i 1).val < 16 := (i 1).isLt
  have h2 : (i 2).val < 128 := (i 2).isLt
  have h3 : (i 3).val < 1024 := (i 3).isLt
  unfold tiles
  refine (transpose_apply _ _ _ i (fun a => match a with
    | ⟨0, _⟩ => ⟨(i 1).val, h1⟩ | ⟨1, _⟩ => ⟨(i 3).val, h3⟩ | ⟨2, _⟩ => ⟨(i 0).val, h0⟩ | ⟨3, _⟩ => ⟨(i 2).val, h2⟩) (fun a => match a with
    | ⟨0, _⟩ => rfl | ⟨1, _⟩ => rfl | ⟨2, _⟩ => rfl | ⟨3, _⟩ => rfl)).trans ?_
  refine (shapeCast_apply x2 shapeCasts_S16384x1024_S16x1024x8x128 _ (fun a => match a with
    | ⟨0, _⟩ => ⟨1024 * (i 1).val + (i 3).val, by show _ < 16384; omega⟩ | ⟨1, _⟩ => ⟨128 * (i 0).val + (i 2).val, by show _ < 1024; omega⟩) ?_).trans ((h.v _).trans ?_)
  · rewrite [Shape.rowMajor_val_two, Shape.rowMajor_val_four]
    show (1024 * (i 1).val + (i 3).val) * 1024 + (128 * (i 0).val + (i 2).val) = (((i 1).val * 1024 + (i 3).val) * 8 + (i 0).val) * 128 + (i 2).val
    omega
  · show W ((128 * (i 0).val + (i 2).val) / 128) (1024 * (i 1).val + (i 3).val) ((128 * (i 0).val + (i 2).val) % 128) = _
    rw [show (128 * (i 0).val + (i 2).val) / 128 = (i 0).val by omega, show (128 * (i 0).val + (i 2).val) % 128 = (i 2).val by omega]

omit h in
/-- A one. -/
theorem ones_is (i) : (ones i : EReal) = 1 := by
  unfold ones
  refine (broadcastInDim_apply _ _ _ i (fun a => a.elim0) (fun a => a.elim0)).trans ?_
  exact Ideal.ofBits_one_bf16

/-- A value, or a one in the last eight rows. -/
theorem vt_is (i) : (vt x2 i : EReal) = FlashTile.val (W (i 0).val) (i 2).val (1024 * (i 1).val + (i 3).val) := by
  have h2 : (i 2).val < 136 := (i 2).isLt
  unfold vt FlashTile.val
  by_cases hr : (i 2).val < 128
  · rw [if_pos hr]
    refine (concatenate_pair_apply_left 2 (tiles x2) ones concatenates_S8x16x128x1024_S8x16x8x1024_S8x16x136x1024_d2 i rfl
      (fun a => match a with | ⟨0, _⟩ => ⟨(i 0).val, (i 0).isLt⟩ | ⟨1, _⟩ => ⟨(i 1).val, (i 1).isLt⟩ | ⟨2, _⟩ => ⟨(i 2).val, hr⟩ | ⟨3, _⟩ => ⟨(i 3).val, (i 3).isLt⟩)
      (fun a => match a with | ⟨0, _⟩ => rfl | ⟨1, _⟩ => rfl | ⟨2, _⟩ => rfl | ⟨3, _⟩ => rfl)).trans (tiles_is h _)
  · rw [if_neg hr]
    refine (concatenate_pair_apply_right 2 (tiles x2) ones concatenates_S8x16x128x1024_S8x16x8x1024_S8x16x136x1024_d2 i rfl rfl
      (fun a => match a with | ⟨0, _⟩ => ⟨(i 0).val, (i 0).isLt⟩ | ⟨1, _⟩ => ⟨(i 1).val, (i 1).isLt⟩ | ⟨2, _⟩ => ⟨(i 2).val - 128, by show _ < 8; omega⟩ | ⟨3, _⟩ => ⟨(i 3).val, (i 3).isLt⟩)
      (fun a => match a with | ⟨0, _⟩ => fun _ => rfl | ⟨1, _⟩ => fun _ => rfl | ⟨2, _⟩ => fun hn => absurd rfl hn | ⟨3, _⟩ => fun _ => rfl) ?_).trans (ones_is _)
    show (i 2).val - 128 + 128 = (i 2).val
    omega

end Cert.FlashHost
-- ==== Proof.FlashArrays.lean ====
/-
  The arrays that `flash_fwd` reads and writes: which part of each a grid point sees, and what the two results end holding.
-/
module

public import proofs.«01_k».proof.Proof.FlashPoint
public import proofs.«01_k».proof.Proof.FlashHost
public import proofs.«01_k».proof.Proof.FlashRun
public import Idealize.ShloMosaic.Lib.Pipeline.ValueKit

@[expose] public section

set_option maxRecDepth 16384

noncomputable section

namespace Cert.FlashArrays

open Cert.AttnFwdIdeal Cert.AttnFwdIdeal.Gen Cert.Attn Cert.Tile Cert.FlashFwd Cert.FlashTile
open Idealize.ShloMosaic Idealize.ShloMosaic.TcCoe Idealize.SL.Sem
open Idealize.ShloMosaic.Pipeline (Dat)

/-- Which block of each array a grid point sees. -/
theorem idx : ∀ t : Fin cfg0.N, win0_0.index t = ![t.val / 16, t.val % 16, 0] ∧ win0_1.index t = ![t.val / 16, 0, 0]
    ∧ win0_2.index t = ![t.val / 16, 0, 0, 0] ∧ win0_3.index t = ![t.val / 16, t.val % 16] ∧ win0_4.index t = ![t.val / 16, 0, t.val % 16] :=
  (by decide +kernel : ∀ t : Fin grid0.N, _)

variable (m : (ℓ : Loc nD τ sig) → Buf (Elt Ideal) ℓ)

/-- A block of the queries is a part of their array. -/
theorem read0 {c : Dev nD} (W : (b : Ref sig .tc) → Buf (Elt Ideal) ((c : Thread nD τ).loc b)) (t : Fin cfg0.N) (y) :
    ((cfg0.win 0).blk t).view.read (Elt Ideal) (W (Pipeline.arrRef spec0 0)) y = W main_arg0 (((cfg0.win 0).blk t).view.emb y) := rfl
/-- A block of the keys is a part of their array. -/
theorem read1 {c : Dev nD} (W : (b : Ref sig .tc) → Buf (Elt Ideal) ((c : Thread nD τ).loc b)) (t : Fin cfg0.N) (y) :
    ((cfg0.win 1).blk t).view.read (Elt Ideal) (W (Pipeline.arrRef spec0 1)) y = W main_arg1 (((cfg0.win 1).blk t).view.emb y) := rfl
/-- A block of the values is a part of their array. -/
theorem read2 {c : Dev nD} (W : (b : Ref sig .tc) → Buf (Elt Ideal) ((c : Thread nD τ).loc b)) (t : Fin cfg0.N) (y) :
    ((cfg0.win 2).blk t).view.read (Elt Ideal) (W (Pipeline.arrRef spec0 2)) y = W main_v3 (((cfg0.win 2).blk t).view.emb y) := rfl

/-- The queries that a point reads. -/
theorem rd0 (c : Dev nD) (t : Fin cfg0.N) (X) (h : V m c main_arg0 = X) (y) : iblk m c 0 t y = X (((cfg0.win 0).blk t).view.emb y) :=
  (read0 (V m c) t y).trans (congrFun h _)
/-- The keys that a point reads. -/
theorem rd1 (c : Dev nD) (t : Fin cfg0.N) (X) (h : V m c main_arg1 = X) (y) : iblk m c 1 t y = X (((cfg0.win 1).blk t).view.emb y) :=
  (read1 (V m c) t y).trans (congrFun h _)
/-- The values that a point reads. -/
theorem rd2 (c : Dev nD) (t : Fin cfg0.N) (X) (h : V m c main_v3 = X) (y) : iblk m c 2 t y = X (((cfg0.win 2).blk t).view.emb y) :=
  (read2 (V m c) t y).trans (congrFun h _)

/-- Where a block of the queries lies. -/
theorem at0 (t : Fin cfg0.N) (y : S1x1024x192.Idx) (a : Fin 3) :
    ((((cfg0.win 0).blk t).view.emb y) a).val = win0_0.index t a * S1x1024x192.size a + (y a).val :=
  Pipeline.Window.rect_emb_val win0_0 t y a rfl
/-- Where a block of the keys lies. -/
theorem at1 (t : Fin cfg0.N) (y : S1x16384x192.Idx) (a : Fin 3) :
    ((((cfg0.win 1).blk t).view.emb y) a).val = win0_1.index t a * S1x16384x192.size a + (y a).val :=
  Pipeline.Window.rect_emb_val win0_1 t y a rfl
/-- Where a block of the values lies. -/
theorem at2 (t : Fin cfg0.N) (y : S1x16x136x1024.Idx) (a : Fin 4) :
    ((((cfg0.win 2).blk t).view.emb y) a).val = win0_2.index t a * S1x16x136x1024.size a + (y a).val :=
  Pipeline.Window.rect_emb_val win0_2 t y a rfl
/-- Where a block of the output lies. -/
theorem at3 (t : Fin cfg0.N) (y : S128x1024.Idx) (a : Fin 2) :
    ((((cfg0.win 3).blk t).view.emb y) a).val = win0_3.index t a * S128x1024.size a + (y a).val :=
  Pipeline.Window.rect_emb_val win0_3 t y a rfl
/-- Where a block of the log-sum-exps lies. -/
theorem at4 (t : Fin cfg0.N) (y : S1x1x1024.Idx) (a : Fin 3) :
    ((((cfg0.win 4).blk t).view.emb y) a).val = win0_4.index t a * S1x1x1024.size a + (y a).val :=
  Pipeline.Window.rect_emb_val win0_4 t y a rfl

/-- A value at equal coordinates. -/
theorem eq3 (f : ℕ → ℕ → ℕ → ℝ) {a a' b b' d d' : ℕ} (ha : a = a') (hb : b = b') (hd : d = d') : ((f a b d : ℝ) : EReal) = ((f a' b' d' : ℝ) : EReal) := by
  rw [ha, hb, hd]
/-- A value at equal coordinates. -/
theorem eq3E (f : ℕ → ℕ → ℕ → EReal) {a a' b b' d d' : ℕ} (ha : a = a') (hb : b = b') (hd : d = d') : f a b d = f a' b' d' := by
  rw [ha, hb, hd]
/-- A value at equal coordinates. -/
theorem eq4E (f : ℕ → ℕ → ℕ → ℕ → EReal) {a a' b b' d d' e e' : ℕ} (ha : a = a') (hb : b = b') (hd : d = d') (he : e = e') : f a b d e = f a' b' d' e' := by
  rw [ha, hb, hd, he]
/-- Block `n` of size `s`, at offset `y`. -/
theorem blkv {i n s y z : ℕ} (hi : i = n) (hz : n * s + y = z) : i * s + y = z := by rw [hi]; exact hz

variable (c : Dev nD) {H : ℕ → Head} {W : ℕ → ℕ → ℕ → EReal}
  (h : AttnFwdRead.Holds H W (m ((c : Thread nD τ).loc main_arg0)) (m ((c : Thread nD τ).loc main_arg1)) (m ((c : Thread nD τ).loc main_arg2)))

include h

/-- The query tile at point `t`. -/
theorem reads_q (t : Fin cfg0.N) : Is3 (env m c t).qT (fun b d => (H (t.val / 16)).q (1024 * (t.val % 16) + b) d) := fun y => by
  have y0 : (y 0).val < 1 := (y 0).isLt
  refine (rd0 m c t _ (V_main_arg0 m c) y).trans ((h.q _).trans (eq3 (fun a => (H a).q) ?_ ?_ ?_))
  · exact (at0 t y 0).trans (blkv (congrFun (idx t).1 0) (by show t.val / 16 * 1 + (y 0).val = _; omega))
  · exact (at0 t y 1).trans (blkv (congrFun (idx t).1 1) (by show t.val % 16 * 1024 + (y 1).val = _; omega))
  · exact (at0 t y 2).trans (blkv (congrFun (idx t).1 2) (by show 0 * 192 + (y 2).val = _; omega))

/-- The keys at point `t`. -/
theorem reads_k (t : Fin cfg0.N) : Is3 (env m c t).K (H (t.val / 16)).k := fun y => by
  have y0 : (y 0).val < 1 := (y 0).isLt
  refine (rd1 m c t _ (V_main_arg1 m c) y).trans ((h.k _).trans (eq3 (fun a => (H a).k) ?_ ?_ ?_))
  · exact (at1 t y 0).trans (blkv (congrFun (idx t).2.1 0) (by show t.val / 16 * 1 + (y 0).val = _; omega))
  · exact (at1 t y 1).trans (blkv (congrFun (idx t).2.1 1) (by show 0 * 16384 + (y 1).val = _; omega))
  · exact (at1 t y 2).trans (blkv (congrFun (idx t).2.1 2) (by show 0 * 192 + (y 2).val = _; omega))

/-- The values at point `t`. -/
theorem reads_v (t : Fin cfg0.N) (i) : ((env m c t).V i : EReal) = val (W (t.val / 16)) (i 2).val (1024 * (i 1).val + (i 3).val) := by
  have y0 : (i 0).val < 1 := (i 0).isLt
  refine (rd2 m c t _ (FlashHost.V_vt m c) i).trans ((FlashHost.vt_is h _).trans (eq4E (fun a r n b => val (W a) r (1024 * n + b)) ?_ ?_ ?_ ?_))
  · exact (at2 t i 0).trans (blkv (congrFun (idx t).2.2.1 0) (by show t.val / 16 * 1 + (i 0).val = _; omega))
  · exact (at2 t i 2).trans (blkv (congrFun (idx t).2.2.1 2) (by show 0 * 136 + (i 2).val = _; omega))
  · exact (at2 t i 1).trans (blkv (congrFun (idx t).2.2.1 1) (by show 0 * 16 + (i 1).val = _; omega))
  · exact (at2 t i 3).trans (blkv (congrFun (idx t).2.2.1 3) (by show 0 * 1024 + (i 3).val = _; omega))

/-- What point `t` reads. -/
theorem reads (t : Fin cfg0.N) : Reads (env m c t) (H (t.val / 16)) (W (t.val / 16)) (t.val % 16) := ⟨reads_q m c h t, reads_k m c h t, reads_v m c h t⟩

/-- The array of the output. -/
theorem final3 (G : (⟨S1024x16384, .f32⟩ : BufTy).Contents (Elt Ideal))
    (hG : ∀ i, (G i : EReal) = outR (H ((i 0).val / 128)) (W ((i 0).val / 128)) (i 1).val ((i 0).val % 128)) :
    (dats m 0 c).arrAt 3 (cfgs 0).N = G := by
  refine (dats m 0 c).arrAt_eq_of_covers 3 G (by decide +kernel) fun t hf y => ?_
  have hy : (dats m 0 c).after 3 t y = G (((cfg0.win 3).blk t).view.emb y) := by
    have y0 : (y 0).val < 128 := (y 0).isLt
    have hj : tileOf t = t.val % 16 := tileOf_eq t
    rw [after0_3]
    unfold accAt
    rw [hj]
    refine (out_is (reads m c h t) (Nat.mod_lt _ (by decide)) y).trans (Eq.trans ?_ (hG _).symm)
    have e0 := (at3 t y 0).trans (blkv (z := t.val / 16 * 128 + (y 0).val) (congrFun (idx t).2.2.2.1 0) rfl)
    have e1 := (at3 t y 1).trans (blkv (z := 1024 * (t.val % 16) + (y 1).val) (congrFun (idx t).2.2.2.1 1) (by show t.val % 16 * 1024 + (y 1).val = _; omega))
    refine eq3E (fun a i e => outR (H a) (W a) i e) (a := t.val / 16) (b := 1024 * (t.val % 16) + (y 1).val) (d := (y 0).val) ?_ e1.symm ?_
    · exact ((congrArg (· / 128) e0).trans (by show (t.val / 16 * 128 + (y 0).val) / 128 = _; omega)).symm
    · exact ((congrArg (· % 128) e0).trans (by show (t.val / 16 * 128 + (y 0).val) % 128 = _; omega)).symm
  exact hy

/-- The array of the log-sum-exps. -/
theorem final4 (G : (⟨S8x1x16384, .f32⟩ : BufTy).Contents (Elt Ideal))
    (hG : ∀ i, (G i : EReal) = ((Real.log ((H (i 0).val).Z 16384 (i 2).val) : ℝ) : EReal)) :
    (dats m 0 c).arrAt 4 (cfgs 0).N = G := by
  refine (dats m 0 c).arrAt_eq_of_covers 4 G (by decide +kernel) fun t hf y => ?_
  have hy : (dats m 0 c).after 4 t y = G (((cfg0.win 4).blk t).view.emb y) := by
    have y0 : (y 0).val < 1 := (y 0).isLt
    have hj : tileOf t = t.val % 16 := tileOf_eq t
    rw [after0_4]
    unfold accAt
    rw [hj]
    refine (lse_is (reads m c h t) (Nat.mod_lt _ (by decide)) y).trans (Eq.trans ?_ (hG _).symm)
    have e0 := (at4 t y 0).trans (blkv (z := t.val / 16) (congrFun (idx t).2.2.2.2 0) (by show t.val / 16 * 1 + (y 0).val = _; omega))
    have e2 := (at4 t y 2).trans (blkv (z := 1024 * (t.val % 16) + (y 2).val) (congrFun (idx t).2.2.2.2 2) (by show t.val % 16 * 1024 + (y 2).val = _; omega))
    exact eq3 (fun a i _ => Real.log ((H a).Z 16384 i)) (d := 0) (d' := 0) e0.symm e2.symm rfl
  exact hy

end Cert.FlashArrays
-- ==== Proof.AttnFwdAlgebraic.lean ====
/-
  On finite queries and keys the forward kernel's two results are the reference's.
-/
module

public import proofs.«01_k».proof.Defs
public import proofs.«01_k».proof.Proof.FlashArrays
public import proofs.«01_k».proof.Proof.Finite
public import proofs.«01_k».proof.Proof.Gen.Pre_finite_qk
public import proofs.«01_k».proof.Proof.Gen.AttnFwdRefIdeal.Run
public import Idealize.ShloMosaic.Lib.Claim

@[expose] public section

set_option maxRecDepth 16384

noncomputable section

namespace Cert.AttnFwdProof

open Idealize.ShloMosaic Idealize.ShloMosaic.TcCoe Idealize.SL.Sem
open Cert.AttnFwdIdeal Cert.AttnFwdIdeal.Gen Cert.FlashFwd Cert.Attn Cert.AttnFwdRead

/-- Finite queries and keys are heads of real numbers; the values are whatever they are. -/
theorem holds (x0 x1 : Rows) (x2 : Cols) (h0 : (Cert.Pre_finite_qk.fn (F := Ideal) x0 x1 x2).1 = fun _ => 1#1)
    (h1 : (Cert.Pre_finite_qk.fn (F := Ideal) x0 x1 x2).2 = fun _ => 1#1) : ∃ H W, Holds H W x0 x1 x2 := by
  obtain ⟨q, hq⟩ := byNat3 (fun i => (x0 i : EReal).toReal)
  obtain ⟨k, hk⟩ := byNat3 (fun i => (x1 i : EReal).toReal)
  refine ⟨fun a => ⟨q a, k a, fun _ _ => 0, fun _ _ => 0⟩,
    fun a j e => if hj : j < 16384 ∧ 128 * a + e < 1024 then x2 (fun d => match d with | ⟨0, _⟩ => ⟨j, hj.1⟩ | ⟨1, _⟩ => ⟨128 * a + e, hj.2⟩) else 0,
    fun i => ?_, fun i => ?_, fun i => ?_⟩
  · exact (Cert.Finite.real_of (x0 i) (congrFun h0 i)).trans (congrArg _ (hq i))
  · exact (Cert.Finite.real_of (x1 i) (congrFun h1 i)).trans (congrArg _ (hk i))
  · have hi : (i 0).val < 16384 := (i 0).isLt
    have he : 128 * ((i 1).val / 128) + (i 1).val % 128 = (i 1).val := Nat.div_add_mod _ _
    have h1 : 128 * ((i 1).val / 128) + (i 1).val % 128 < 1024 := he.symm ▸ (i 1).isLt
    have hj : (i 0).val < 16384 ∧ 128 * ((i 1).val / 128) + (i 1).val % 128 < 1024 := ⟨hi, h1⟩
    refine Eq.trans ?_ (dif_pos hj).symm
    refine congrArg (fun n => (x2 n : EReal)) (funext fun d => ?_)
    match d with
    | ⟨0, _⟩ => rfl
    | ⟨1, _⟩ => exact Fin.ext he.symm

/-- The kernel's result arrays, at the reference's terms. -/
theorem arrays (m : (ℓ : Loc nD τ sig) → Buf (Elt Ideal) ℓ) (hpre : Cert.Pre_AttnFwdIdeal_finite_qk m) (c : Dev nD) :
    (dats m 0 c).arrAt 3 (cfgs 0).N = Cert.AttnFwdRefIdeal.Read.val_main_v24 (F := Ideal) (m ((c : Thread nD τ).loc main_arg0)) (m ((c : Thread nD τ).loc main_arg1)) (m ((c : Thread nD τ).loc main_arg2))
    ∧ (dats m 0 c).arrAt 4 (cfgs 0).N = Cert.AttnFwdRefIdeal.Read.val_main_v27 (F := Ideal) (m ((c : Thread nD τ).loc main_arg0)) (m ((c : Thread nD τ).loc main_arg1)) := by
  obtain ⟨h0, h1⟩ := hpre c
  obtain ⟨H, W, h⟩ := holds _ _ _ h0 h1
  obtain ⟨M, hM⟩ := v11 h
  exact ⟨Cert.FlashArrays.final3 m c h _ (v24 h hM), Cert.FlashArrays.final4 m c h _ (v27 h hM)⟩

/-- The forward kernel computes the reference's output and log-sum-exps. -/
theorem algebraic : Cert.algebraic_AttnFwdIdeal_AttnFwdRefIdeal_pre_finite_qk := by
  pair_intro
  · run_from Cert.FlashFwd.run_main m g
  · refine (θ_run Cert.AttnFwdRefIdeal.defs _ _).mono (fun r h c => ?_) (Cert.AttnFwdRefIdeal.Value.run (F := Ideal) m' g')
    obtain ⟨a3, a4⟩ := arrays m hpre c
    have ha := hagree c
    have hc := h c
    refine ⟨hc.1.trans ((Cert.AttnFwdRefIdeal.Read.val_main_v24_eq m' c).trans (Eq.trans ?_ a3.symm)),
      hc.2.1.trans ((Cert.AttnFwdRefIdeal.Read.val_main_v27_eq _ _).trans (Eq.trans ?_ a4.symm)), hc.2.2⟩
    · rw [ha.1, ha.2.1, ha.2.2]
    · rw [ha.1, ha.2.1]

end Cert.AttnFwdProof
-- ==== Proof.OutBwdFrames.lean ====
/-
  The gradient of the attention's output projection: the program in machine arithmetic and its idealized twin are the same text, so what is proved of one holds of
  the other, and both end with their arguments unchanged and their counters at zero.
-/
module

public import proofs.«01_k».proof.Defs
public import proofs.«01_k».proof.Proof.Gen.OutBwd
public import proofs.«01_k».proof.Proof.Gen.OutBwdIdeal.Frame
public import proofs.«01_k».proof.Proof.Gen.OutBwdRefIdeal
public import proofs.«01_k».proof.Proof.Gen.OutBwdRefIdeal.Run
public import Idealize.ShloMosaic.Lib.Claim
public import Idealize.ShloMosaic.Lib.Quiescent

@[expose] public section

set_option maxRecDepth 16384

noncomputable section

namespace Cert.OutBwdFrames

open Idealize.ShloMosaic Idealize.SL.Sem

/-- The two kernel bodies. -/
theorem body_eq : @Cert.OutBwd.cc0_mla_out_bwd Bits _ _ = @Cert.OutBwdIdeal.cc0_mla_out_bwd Bits _ _ := rfl

/-- The two tables of kernel bodies. -/
theorem bodies_eq : @Cert.OutBwd.defs₀ Bits _ _ = @Cert.OutBwdIdeal.defs₀ Bits _ _ := by
  refine congrArg Defs.onTc ?_
  funext l x
  match l, x with
  | 0, (t, s) => rfl
  | ⟨n + 1, h⟩, _ => omega

/-- The two tables with the pipelines' own bodies. -/
theorem defs_eq : @Cert.OutBwd.defs Bits _ _ = @Cert.OutBwdIdeal.defs Bits _ _ :=
  congrArg (Pipeline.defs Cert.OutBwdIdeal.pcfgs) bodies_eq

/-- The two programs around the call. -/
theorem main_eq : (Cert.OutBwd.main (F := Bits)) = Cert.OutBwdIdeal.main (F := Bits) := rfl

/-- The kernel, in machine arithmetic. -/
theorem quiet_kernel : Cert.quiescent_OutBwd := fun m ρ _ => by
  rw [defs_eq, main_eq]
  exact Cert.OutBwdIdeal.Gen.frame (F := Bits) m ρ

/-- The kernel, in exact arithmetic. -/
theorem quiet_ideal : Cert.quiescent_OutBwdIdeal := fun m ρ _ => Cert.OutBwdIdeal.Gen.frame (F := Ideal) m ρ

/-- The reference: it declares no counter, so every one is zero. -/
theorem quiet_reference : Cert.quiescent_OutBwdRefIdeal := fun m ρ _ =>
  (θ_run Cert.OutBwdRefIdeal.defs _ _).mono
    (fun r h => ⟨fun c => (h c).2.2.2, sem_eq_zero_of_no_sems (by decide) r.2⟩)
    (Cert.OutBwdRefIdeal.Value.run (F := Ideal) m ρ)

end Cert.OutBwdFrames
-- ==== Proof.OutBwdPoint.lean ====
/-
  The gradient of the attention's output projection: what one point of the grid, a tile of 512 tokens, leaves in its three results.
-/
module

public import proofs.«01_k».proof.Proof.FfnMath
public import proofs.«01_k».proof.Proof.Gen.OutBwdIdeal.Value
public import Idealize.ShloMosaic.Lib.Pipeline.ValueKit

@[expose] public section

set_option maxRecDepth 16384

noncomputable section

namespace Cert.OutBwdValue

open Cert.OutBwdIdeal Cert.OutBwdIdeal.Gen Cert.Ffn
open Idealize.ShloMosaic Idealize.ShloMosaic.TcCoe Idealize.SL.Sem
open Finset

/-! ## The mathematics -/

/-- The gradient of the heads' outputs, a row for each token. -/
def dheads (Y W : ℕ → ℕ → EReal) (r d : ℕ) : EReal := ∑ j ∈ range 1024, Y r j * W d j

/-- The row sums of a head's gradient times its output. -/
def delta (Y O W : ℕ → ℕ → EReal) (h r : ℕ) : EReal := ∑ e ∈ range 128, (∑ j ∈ range 1024, W (128 * h + e) j * Y r j) * O (128 * h + e) r

/-! ## The products and the sums -/

/-- The output's gradient times the transpose of the weights. -/
theorem dotD {φ₁ φ₂ : FTy} (x : FVec Ideal S512x1024 φ₁) (y : FVec Ideal S1024x1024 φ₂) (f g : ℕ → ℕ → EReal) (hx : At2 x f) (hy : At2 y g) :
    At2 (matmul dot_S512x1024_S1024x1024_S512x1024_1_1_0_0_n_n none x y (constant (F := Ideal) S512x1024 .f32 0x00000000#32))
      (fun i k => ∑ j ∈ range 1024, f i j * g k j) := fun i =>
  dot_at dot_S512x1024_S1024x1024_S512x1024_1_1_0_0_n_n 1024 rfl rfl x y i (fun j => f (i 0).val j) (fun j => g (i 1).val j)
    (fun k => (hx _).trans (by
      have ec := (dot_S512x1024_S1024x1024_S512x1024_1_1_0_0_n_n.lhsIdx_val_of_single rfl i
        ((ValueIdx.contrEquiv1 dot_S512x1024_S1024x1024_S512x1024_1_1_0_0_n_n 1024 rfl rfl).symm k)).trans (ValueIdx.contrEquiv1_symm_val dot_S512x1024_S1024x1024_S512x1024_1_1_0_0_n_n 1024 rfl rfl k)
      have en : ∀ q, (dot_S512x1024_S1024x1024_S512x1024_1_1_0_0_n_n.lhsIdx i q 0).val = (i 0).val := fun q => by
        unfold DotDims.lhsIdx
        rw [dif_neg (show ¬(0 : Fin S512x1024.rank) ∈ dot_S512x1024_S1024x1024_S512x1024_1_1_0_0_n_n.lhsBatch by decide),
          dif_pos (show (0 : Fin S512x1024.rank) ∈ dot_S512x1024_S1024x1024_S512x1024_1_1_0_0_n_n.lhsNonContracting by decide)]
        rfl
      rw [en, ec]))
    (fun k => (hy _).trans (by
      have ec := (dot_S512x1024_S1024x1024_S512x1024_1_1_0_0_n_n.rhsIdx_val_of_single rfl i
        ((ValueIdx.contrEquiv1 dot_S512x1024_S1024x1024_S512x1024_1_1_0_0_n_n 1024 rfl rfl).symm k)).trans (ValueIdx.contrEquiv1_symm_val dot_S512x1024_S1024x1024_S512x1024_1_1_0_0_n_n 1024 rfl rfl k)
      have en : ∀ q, (dot_S512x1024_S1024x1024_S512x1024_1_1_0_0_n_n.rhsIdx i q 0).val = (i 1).val := fun q => by
        unfold DotDims.rhsIdx
        rw [dif_neg (show ¬(0 : Fin S1024x1024.rank) ∈ dot_S512x1024_S1024x1024_S512x1024_1_1_0_0_n_n.rhsBatch by decide),
          dif_pos (show (0 : Fin S1024x1024.rank) ∈ dot_S512x1024_S1024x1024_S512x1024_1_1_0_0_n_n.rhsNonContracting by decide)]
        rfl
      rw [en, ec]))

/-- The weights times the transpose of the output's gradient. -/
theorem dotT {φ₁ φ₂ : FTy} (x : FVec Ideal S1024x1024 φ₁) (y : FVec Ideal S512x1024 φ₂) (f g : ℕ → ℕ → EReal) (hx : At2 x f) (hy : At2 y g) :
    At2 (matmul dot_S1024x1024_S512x1024_S1024x512_1_1_0_0_n_n none x y (constant (F := Ideal) S1024x512 .f32 0x00000000#32))
      (fun i k => ∑ j ∈ range 1024, f i j * g k j) := fun i =>
  dot_at dot_S1024x1024_S512x1024_S1024x512_1_1_0_0_n_n 1024 rfl rfl x y i (fun j => f (i 0).val j) (fun j => g (i 1).val j)
    (fun k => (hx _).trans (by
      have ec := (dot_S1024x1024_S512x1024_S1024x512_1_1_0_0_n_n.lhsIdx_val_of_single rfl i
        ((ValueIdx.contrEquiv1 dot_S1024x1024_S512x1024_S1024x512_1_1_0_0_n_n 1024 rfl rfl).symm k)).trans (ValueIdx.contrEquiv1_symm_val dot_S1024x1024_S512x1024_S1024x512_1_1_0_0_n_n 1024 rfl rfl k)
      have en : ∀ q, (dot_S1024x1024_S512x1024_S1024x512_1_1_0_0_n_n.lhsIdx i q 0).val = (i 0).val := fun q => by
        unfold DotDims.lhsIdx
        rw [dif_neg (show ¬(0 : Fin S1024x1024.rank) ∈ dot_S1024x1024_S512x1024_S1024x512_1_1_0_0_n_n.lhsBatch by decide),
          dif_pos (show (0 : Fin S1024x1024.rank) ∈ dot_S1024x1024_S512x1024_S1024x512_1_1_0_0_n_n.lhsNonContracting by decide)]
        rfl
      rw [en, ec]))
    (fun k => (hy _).trans (by
      have ec := (dot_S1024x1024_S512x1024_S1024x512_1_1_0_0_n_n.rhsIdx_val_of_single rfl i
        ((ValueIdx.contrEquiv1 dot_S1024x1024_S512x1024_S1024x512_1_1_0_0_n_n 1024 rfl rfl).symm k)).trans (ValueIdx.contrEquiv1_symm_val dot_S1024x1024_S512x1024_S1024x512_1_1_0_0_n_n 1024 rfl rfl k)
      have en : ∀ q, (dot_S1024x1024_S512x1024_S1024x512_1_1_0_0_n_n.rhsIdx i q 0).val = (i 1).val := fun q => by
        unfold DotDims.rhsIdx
        rw [dif_neg (show ¬(0 : Fin S512x1024.rank) ∈ dot_S1024x1024_S512x1024_S1024x512_1_1_0_0_n_n.rhsBatch by decide),
          dif_pos (show (0 : Fin S512x1024.rank) ∈ dot_S1024x1024_S512x1024_S1024x512_1_1_0_0_n_n.rhsNonContracting by decide)]
        rfl
      rw [en, ec]))

/-- The heads' outputs times the output's gradient, over a tile's tokens. -/
theorem dotW {φ₁ φ₂ : FTy} (x : FVec Ideal S1024x512 φ₁) (y : FVec Ideal S512x1024 φ₂) (f g : ℕ → ℕ → EReal) (hx : At2 x f) (hy : At2 y g) :
    At2 (matmul dot_S1024x512_S512x1024_S1024x1024_1_0_0_1_n_n none x y (constant (F := Ideal) S1024x1024 .f32 0x00000000#32))
      (fun i k => ∑ j ∈ range 512, f i j * g j k) := fun i =>
  dot_at dot_S1024x512_S512x1024_S1024x1024_1_0_0_1_n_n 512 rfl rfl x y i (fun j => f (i 0).val j) (fun j => g j (i 1).val)
    (fun k => (hx _).trans (by
      have ec := (dot_S1024x512_S512x1024_S1024x1024_1_0_0_1_n_n.lhsIdx_val_of_single rfl i
        ((ValueIdx.contrEquiv1 dot_S1024x512_S512x1024_S1024x1024_1_0_0_1_n_n 512 rfl rfl).symm k)).trans (ValueIdx.contrEquiv1_symm_val dot_S1024x512_S512x1024_S1024x1024_1_0_0_1_n_n 512 rfl rfl k)
      have en : ∀ q, (dot_S1024x512_S512x1024_S1024x1024_1_0_0_1_n_n.lhsIdx i q 0).val = (i 0).val := fun q => by
        unfold DotDims.lhsIdx
        rw [dif_neg (show ¬(0 : Fin S1024x512.rank) ∈ dot_S1024x512_S512x1024_S1024x1024_1_0_0_1_n_n.lhsBatch by decide),
          dif_pos (show (0 : Fin S1024x512.rank) ∈ dot_S1024x512_S512x1024_S1024x1024_1_0_0_1_n_n.lhsNonContracting by decide)]
        rfl
      rw [en, ec]))
    (fun k => (hy _).trans (by
      have ec := (dot_S1024x512_S512x1024_S1024x1024_1_0_0_1_n_n.rhsIdx_val_of_single rfl i
        ((ValueIdx.contrEquiv1 dot_S1024x512_S512x1024_S1024x1024_1_0_0_1_n_n 512 rfl rfl).symm k)).trans (ValueIdx.contrEquiv1_symm_val dot_S1024x512_S512x1024_S1024x1024_1_0_0_1_n_n 512 rfl rfl k)
      have en : ∀ q, (dot_S1024x512_S512x1024_S1024x1024_1_0_0_1_n_n.rhsIdx i q 1).val = (i 1).val := fun q => by
        unfold DotDims.rhsIdx
        rw [dif_neg (show ¬(1 : Fin S512x1024.rank) ∈ dot_S1024x512_S512x1024_S1024x1024_1_0_0_1_n_n.rhsBatch by decide),
          dif_pos (show (1 : Fin S512x1024.rank) ∈ dot_S1024x512_S512x1024_S1024x1024_1_0_0_1_n_n.rhsNonContracting by decide)]
        rfl
      rw [en, ec]))

/-- The product of the gradient of the heads' outputs and the outputs, a column for each token. -/
theorem prod {x : Vec Ideal S512x1024 .f32} {u : Vec Ideal S1024x512 .f32} {w : Vec Ideal S1024x1024 .bf16} {Y O W : ℕ → ℕ → EReal} (hx : At2 x Y) (hu : At2 u O) (hw : At2 w W) :
    At2 (k0_pay5 (F := Ideal) x u w) (fun d r => (∑ j ∈ range 1024, W d j * Y r j) * O d r) := fun i =>
  congrArg₂ (fun a b : EReal => a * b) (dotT w (k0_pay3 (F := Ideal) x) W Y hw hx i) (hu i)

/-- The sum over a run of rows. -/
theorem col {p : FVec Ideal S1024x512 .f32} {f : ℕ → ℕ → EReal} (hp : At2 p f) (n : ℕ) (hs : S1024x512.Slices ![n, 0] S128x512) (j : S512.Idx) :
    multiReduction .add [0] S512 (extractStridedSlice S128x512 ![n, 0] p hs) 0x00000000#32 reduces_S128x512_S512 (.inl rfl) rfl j = ∑ e ∈ range 128, f (n + e) (j 0).val :=
  (Ideal.multiReduction_add_single _ _ reduces_S128x512_S512 (.inl rfl) rfl j).trans (by
    rw [Finset.sum_range]
    exact Finset.sum_congr rfl fun k _ => (hp _).trans (congrArg₂ f rfl (Nat.zero_add _)))

/-- The sum over a head's rows. -/
theorem rows {p : FVec Ideal S1024x512 .f32} {f : ℕ → ℕ → EReal} (hp : At2 p f) (n : ℕ) (hs : S1024x512.Slices ![n, 0] S128x512) :
    At3 (shapeCast S1x1x512 (shapeCast S1x512 (multiReduction .add [0] S512 (extractStridedSlice S128x512 ![n, 0] p hs) 0x00000000#32 reduces_S128x512_S512 (.inl rfl) rfl)
      shapeCasts_S512_S1x512) shapeCasts_S1x512_S1x1x512) (fun _ r => ∑ e ∈ range 128, f (n + e) r) :=
  at_cast23 (f := fun _ r => ∑ e ∈ range 128, f (n + e) r) (fun i => by
    refine (shapeCast_apply _ shapeCasts_S512_S1x512 i (fun d => match d with | ⟨0, _⟩ => ⟨(i 1).val, (i 1).isLt⟩) (by
      rewrite [Shape.rowMajor_val_two, Shape.rowMajor_val_one]
      have h0 : (i 0).val < 1 := (i 0).isLt
      show (i 1).val = (i 0).val * 512 + (i 1).val
      omega)).trans ?_
    exact col hp n hs _) _

/-- Eight stores, one for each head, leave the eight rows of sums. -/
def sums (f : ℕ → ℕ → EReal) : Vec Ideal S8x1x512 .f32 := fun y => f (y 0).val (y 2).val

/-- A head's store is the head's row. -/
theorem one {p : Vec Ideal S1x1x512 .f32} {f : ℕ → ℕ → EReal} {h : ℕ} (hp : At3 p (fun _ r => f h r)) (x : S1x1x512.Idx) (z : S8x1x512.Idx)
    (h0 : (z 0).val = h + 1 * (x 0).val) (h2 : (z 2).val = 0 + 1 * (x 2).val) : p x = sums f z :=
  (hp x).trans (congrArg₂ f (by have : (x 0).val < 1 := (x 0).isLt; omega) (by omega))

/-- The eight stores together leave the row sums. -/
theorem eight (p0 p1 p2 p3 p4 p5 p6 p7 : Vec Ideal S1x1x512 .f32) (f : ℕ → ℕ → EReal) (h0 : At3 p0 (fun _ r => f 0 r)) (h1 : At3 p1 (fun _ r => f 1 r)) (h2 : At3 p2 (fun _ r => f 2 r)) (h3 : At3 p3 (fun _ r => f 3 r)) (h4 : At3 p4 (fun _ r => f 4 r)) (h5 : At3 p5 (fun _ r => f 5 r)) (h6 : At3 p6 (fun _ r => f 6 r)) (h7 : At3 p7 (fun _ r => f 7 r))
    (y : S8x1x512.Idx) : View.canon [⟨Rect.unit (s := S8x1x512) ![7, 0, 0] ![1, 1, 512] inb_S8x1x512_S1x1x512_7_0_0, p7⟩,
      ⟨Rect.unit (s := S8x1x512) ![6, 0, 0] ![1, 1, 512] inb_S8x1x512_S1x1x512_6_0_0, p6⟩,
      ⟨Rect.unit (s := S8x1x512) ![5, 0, 0] ![1, 1, 512] inb_S8x1x512_S1x1x512_5_0_0, p5⟩,
      ⟨Rect.unit (s := S8x1x512) ![4, 0, 0] ![1, 1, 512] inb_S8x1x512_S1x1x512_4_0_0, p4⟩,
      ⟨Rect.unit (s := S8x1x512) ![3, 0, 0] ![1, 1, 512] inb_S8x1x512_S1x1x512_3_0_0, p3⟩,
      ⟨Rect.unit (s := S8x1x512) ![2, 0, 0] ![1, 1, 512] inb_S8x1x512_S1x1x512_2_0_0, p2⟩,
      ⟨Rect.unit (s := S8x1x512) ![1, 0, 0] ![1, 1, 512] inb_S8x1x512_S1x1x512_1_0_0, p1⟩,
      ⟨Rect.unit (s := S8x1x512) ![0, 0, 0] ![1, 1, 512] inb_S8x1x512_S1x1x512_0_0_0, p0⟩] y = sums f y := by
  refine View.canon_apply_of_pieces (sums f) _ ?_ y (View.cover_of_tiledL _ ![1, 1, 512] (by sl_kernel_rfl) y)
  intro pc hpc
  rcases List.mem_cons.mp hpc with rfl | hpc
  · exact fun x => one h7 x _ rfl rfl
  rcases List.mem_cons.mp hpc with rfl | hpc
  · exact fun x => one h6 x _ rfl rfl
  rcases List.mem_cons.mp hpc with rfl | hpc
  · exact fun x => one h5 x _ rfl rfl
  rcases List.mem_cons.mp hpc with rfl | hpc
  · exact fun x => one h4 x _ rfl rfl
  rcases List.mem_cons.mp hpc with rfl | hpc
  · exact fun x => one h3 x _ rfl rfl
  rcases List.mem_cons.mp hpc with rfl | hpc
  · exact fun x => one h2 x _ rfl rfl
  rcases List.mem_cons.mp hpc with rfl | hpc
  · exact fun x => one h1 x _ rfl rfl
  rcases List.mem_cons.mp hpc with rfl | hpc
  · exact fun x => one h0 x _ rfl rfl
  nomatch hpc

/-- A tile's part of the gradient of the weights, added to what was there. -/
theorem grad {x : Vec Ideal S512x1024 .f32} {u : Vec Ideal S1024x512 .f32} {Y O : ℕ → ℕ → EReal} (hx : At2 x Y) (hu : At2 u O) (acc : Vec Ideal S1024x1024 .f32) (i : S1024x1024.Idx) :
    k0_pay1 (F := Ideal) (k0_pay3 (F := Ideal) x) u acc i = acc i + ∑ r ∈ range 512, O (i 0).val r * Y r (i 1).val :=
  congrArg₂ (fun a b : EReal => a + b) (shapeCast_apply acc shapeCasts_S1024x1024_S1024x1024 i i rfl)
    (dotW (truncf .bf16 u bitsLt_bf16_f32) (k0_pay3 (F := Ideal) x) O Y hu hx i)

/-! ## The results of a point -/

section Point

variable (m : (ℓ : Loc nD τ sig) → Buf (Elt Ideal) ℓ) (c : Dev nD) (t : Fin cfg0.N) {Y O W : ℕ → ℕ → EReal}

/-- The gradient of the heads' outputs, as it is left. -/
theorem left3 (h0 : At2 (iblk m c 0 t) Y) (h2 : At2 (iblk m c 2 t) W) (y) : (outsAt0 m c t.val t.isLt).1 y = dheads Y W (y 0).val (y 1).val := by
  have h := dotD (φ₂ := .bf16) (k0_pay3 (F := Ideal) (iblk m c 0 t)) (iblk m c 2 t) Y W h0 h2 y
  by_cases e : t.val % 32 = 0
  · rw [outsAt0_A m c t e]; frame_out; exact h
  · rw [outsAt0_B m c t e]; frame_out; exact h

/-- The row sums, as they are left. -/
theorem left4 (h0 : At2 (iblk m c 0 t) Y) (h1 : At2 (iblk m c 1 t) O) (h2 : At2 (iblk m c 2 t) W) (y) :
    (outsAt0 m c t.val t.isLt).2.1 y = sums (delta Y O W) y := by
  have p := prod h0 h1 h2
  have h := eight _ _ _ _ _ _ _ _ (delta Y O W) (rows p 0 slices_S1024x512_o0_0_S128x512)
    (rows p 128 slices_S1024x512_o128_0_S128x512)
    (rows p 256 slices_S1024x512_o256_0_S128x512)
    (rows p 384 slices_S1024x512_o384_0_S128x512)
    (rows p 512 slices_S1024x512_o512_0_S128x512)
    (rows p 640 slices_S1024x512_o640_0_S128x512)
    (rows p 768 slices_S1024x512_o768_0_S128x512)
    (rows p 896 slices_S1024x512_o896_0_S128x512) y
  by_cases e : t.val % 32 = 0
  · rw [outsAt0_A m c t e]; frame_out; exact h
  · rw [outsAt0_B m c t e]; frame_out; exact h

/-- The gradient of the weights at the first point. -/
theorem left5_A (h0 : At2 (iblk m c 0 t) Y) (h1 : At2 (iblk m c 1 t) O) (e : t.val % 32 = 0) (y) :
    (outsAt0 m c t.val t.isLt).2.2 y = ∑ r ∈ range 512, O (y 0).val r * Y r (y 1).val := by
  have h := (grad h0 h1 (k0_pay2 (F := Ideal)) y).trans ((congrArg (fun a : EReal => a + ∑ r ∈ range 512, O (y 0).val r * Y r (y 1).val)
    (show (k0_pay2 (F := Ideal)) y = 0 from Ideal.ofBits_zero_f32)).trans (zero_add _))
  rw [outsAt0_A m c t e]; frame_out; exact h

/-- The gradient of the weights at a later point. -/
theorem left5_B (h0 : At2 (iblk m c 0 t) Y) (h1 : At2 (iblk m c 1 t) O) (e : ¬t.val % 32 = 0) (y) :
    (outsAt0 m c t.val t.isLt).2.2 y = (outsAt0 m c (t.val - 1) (Nat.lt_of_le_of_lt (Nat.sub_le _ _) t.isLt)).2.2 y + ∑ r ∈ range 512, O (y 0).val r * Y r (y 1).val := by
  have h := grad h0 h1 (outsAt0 m c (t.val - 1) (Nat.lt_of_le_of_lt (Nat.sub_le _ _) t.isLt)).2.2 y
  rw [outsAt0_B m c t e]; frame_out; exact h

end Point

end Cert.OutBwdValue
-- ==== Proof.OutBwdValue.lean ====
/-
  The gradient of the attention's output projection: the three arrays the kernel leaves, by their entries, and the reference's.
-/
module

public import proofs.«01_k».proof.Proof.OutBwdPoint
public import proofs.«01_k».proof.Proof.Gen.OutBwdRefIdeal.Read
public import Idealize.ShloMosaic.Lib.Pipeline.ValueKit

@[expose] public section

set_option maxRecDepth 16384

noncomputable section

namespace Cert.OutBwdValue

open Cert.OutBwdIdeal Cert.OutBwdIdeal.Gen Cert.Ffn
open Idealize.ShloMosaic Idealize.ShloMosaic.TcCoe Idealize.SL.Sem
open Idealize.ShloMosaic.Pipeline (Dat)
open Finset

variable (m : (ℓ : Loc nD τ sig) → Buf (Elt Ideal) ℓ)

/-! ## The blocks -/

/-- The index maps: the tile of tokens, and the whole of the weights and of their gradient. -/
theorem idx : ∀ t : Fin cfg0.N, win0_0.index t = ![t.val, 0] ∧ win0_1.index t = ![0, t.val] ∧ win0_2.index t = ![0, 0] ∧ win0_3.index t = ![t.val, 0]
    ∧ win0_4.index t = ![0, 0, t.val] ∧ win0_5.index t = ![0, 0] :=
  (by decide +kernel : ∀ t : Fin grid0.N, _)

/-- A block of window 0 is read from its array. -/
theorem read0 {c : Dev nD} (W : (b : Ref sig .tc) → Buf (Elt Ideal) ((c : Thread nD τ).loc b)) (t : Fin cfg0.N) (y) :
    ((cfg0.win 0).blk t).view.read (Elt Ideal) (W (Pipeline.arrRef spec0 0)) y = W main_arg0 (((cfg0.win 0).blk t).view.emb y) := rfl

/-- A block of window 1 is read from its array. -/
theorem read1 {c : Dev nD} (W : (b : Ref sig .tc) → Buf (Elt Ideal) ((c : Thread nD τ).loc b)) (t : Fin cfg0.N) (y) :
    ((cfg0.win 1).blk t).view.read (Elt Ideal) (W (Pipeline.arrRef spec0 1)) y = W main_arg1 (((cfg0.win 1).blk t).view.emb y) := rfl

/-- A block of window 2 is read from its array. -/
theorem read2 {c : Dev nD} (W : (b : Ref sig .tc) → Buf (Elt Ideal) ((c : Thread nD τ).loc b)) (t : Fin cfg0.N) (y) :
    ((cfg0.win 2).blk t).view.read (Elt Ideal) (W (Pipeline.arrRef spec0 2)) y = W main_arg2 (((cfg0.win 2).blk t).view.emb y) := rfl

/-- The tile of the output's gradient. -/
theorem blk0 (c : Dev nD) (X) (hX : m ((c : Thread nD τ).loc main_arg0) = X) (t : Fin cfg0.N) :
    At2 (iblk m c 0 t) (fun r d => nat2 X (512 * t.val + r) d) := fun y => by
  refine ((read0 (V m c) t y).trans (congrFun ((V_main_arg0 m c).trans hX) _)).trans ((nat2_val X _).trans ?_)
  have e := (idx t).1
  have a0 : ((((cfg0.win 0).blk t).view.emb y) 0).val = win0_0.index t 0 * 512 + (y 0).val := Pipeline.Window.rect_emb_val win0_0 t y 0 rfl
  have a1 : ((((cfg0.win 0).blk t).view.emb y) 1).val = win0_0.index t 1 * 1024 + (y 1).val := Pipeline.Window.rect_emb_val win0_0 t y 1 rfl
  rw [e] at a0 a1
  have a0' : _ = t.val * 512 + (y 0).val := a0
  have a1' : _ = 0 * 1024 + (y 1).val := a1
  exact congrArg₂ (nat2 X) (a0'.trans (by rw [Nat.mul_comm])) (a1'.trans (by omega))

/-- The tile of the heads' outputs. -/
theorem blk1 (c : Dev nD) (X) (hX : m ((c : Thread nD τ).loc main_arg1) = X) (t : Fin cfg0.N) :
    At2 (iblk m c 1 t) (fun d r => nat2 X d (512 * t.val + r)) := fun y => by
  refine ((read1 (V m c) t y).trans (congrFun ((V_main_arg1 m c).trans hX) _)).trans ((nat2_val X _).trans ?_)
  have e := (idx t).2.1
  have a0 : ((((cfg0.win 1).blk t).view.emb y) 0).val = win0_1.index t 0 * 1024 + (y 0).val := Pipeline.Window.rect_emb_val win0_1 t y 0 rfl
  have a1 : ((((cfg0.win 1).blk t).view.emb y) 1).val = win0_1.index t 1 * 512 + (y 1).val := Pipeline.Window.rect_emb_val win0_1 t y 1 rfl
  rw [e] at a0 a1
  have a0' : _ = 0 * 1024 + (y 0).val := a0
  have a1' : _ = t.val * 512 + (y 1).val := a1
  exact congrArg₂ (nat2 X) (a0'.trans (by omega)) (a1'.trans (by rw [Nat.mul_comm]))

/-- The weights. -/
theorem blk2 (c : Dev nD) (X) (hX : m ((c : Thread nD τ).loc main_arg2) = X) (t : Fin cfg0.N) :
    At2 (iblk m c 2 t) (nat2 X) := fun y => by
  refine ((read2 (V m c) t y).trans (congrFun ((V_main_arg2 m c).trans hX) _)).trans ((nat2_val X _).trans ?_)
  have e := (idx t).2.2.1
  have a0 : ((((cfg0.win 2).blk t).view.emb y) 0).val = win0_2.index t 0 * 1024 + (y 0).val := Pipeline.Window.rect_emb_val win0_2 t y 0 rfl
  have a1 : ((((cfg0.win 2).blk t).view.emb y) 1).val = win0_2.index t 1 * 1024 + (y 1).val := Pipeline.Window.rect_emb_val win0_2 t y 1 rfl
  rw [e] at a0 a1
  have a0' : _ = 0 * 1024 + (y 0).val := a0
  have a1' : _ = 0 * 1024 + (y 1).val := a1
  exact congrArg₂ (nat2 X) (a0'.trans (by omega)) (a1'.trans (by omega))

/-! ## The arrays -/

variable (c : Dev nD) (x o w) (hx : m ((c : Thread nD τ).loc main_arg0) = x) (ho : m ((c : Thread nD τ).loc main_arg1) = o)
  (hw : m ((c : Thread nD τ).loc main_arg2) = w)

include hx hw in
/-- The gradient of the heads' outputs. -/
theorem final3 (A : (⟨S16384x1024, .bf16⟩ : BufTy).Contents (Elt Ideal)) (hA : At2 A (dheads (nat2 x) (nat2 w))) :
    (dats m 0 c).arrAt 3 (cfgs 0).N = A := by
  refine (dats m 0 c).arrAt_eq_of_covers 3 A (by decide +kernel) fun t hf y => ?_
  have hy : (dats m 0 c).after 3 t y = A (((cfg0.win 3).blk t).view.emb y) := by
    rw [after0_3]
    refine (left3 m c t (blk0 m c x hx t) (blk2 m c w hw t) y).trans (Eq.trans ?_ (hA _).symm)
    have e := (idx t).2.2.2.1
    have a0 : ((((cfg0.win 3).blk t).view.emb y) 0).val = win0_3.index t 0 * 512 + (y 0).val := Pipeline.Window.rect_emb_val win0_3 t y 0 rfl
    have a1 : ((((cfg0.win 3).blk t).view.emb y) 1).val = win0_3.index t 1 * 1024 + (y 1).val := Pipeline.Window.rect_emb_val win0_3 t y 1 rfl
    rw [e] at a0 a1
    have a0' : _ = t.val * 512 + (y 0).val := a0
    have a1' : _ = 0 * 1024 + (y 1).val := a1
    rw [a0', a1', Nat.mul_comm, Nat.zero_mul, Nat.zero_add]
    rfl
  exact hy

include hx ho hw in
/-- The row sums. -/
theorem final4 (A : (⟨S8x1x16384, .f32⟩ : BufTy).Contents (Elt Ideal)) (hA : ∀ i, A i = delta (nat2 x) (nat2 o) (nat2 w) (i 0).val (i 2).val) :
    (dats m 0 c).arrAt 4 (cfgs 0).N = A := by
  refine (dats m 0 c).arrAt_eq_of_covers 4 A (by decide +kernel) fun t hf y => ?_
  have hy : (dats m 0 c).after 4 t y = A (((cfg0.win 4).blk t).view.emb y) := by
    rw [after0_4]
    refine (left4 m c t (blk0 m c x hx t) (blk1 m c o ho t) (blk2 m c w hw t) y).trans (Eq.trans ?_ (hA _).symm)
    have e := (idx t).2.2.2.2.1
    have a0 : ((((cfg0.win 4).blk t).view.emb y) 0).val = win0_4.index t 0 * 8 + (y 0).val := Pipeline.Window.rect_emb_val win0_4 t y 0 rfl
    have a2 : ((((cfg0.win 4).blk t).view.emb y) 2).val = win0_4.index t 2 * 512 + (y 2).val := Pipeline.Window.rect_emb_val win0_4 t y 2 rfl
    rw [e] at a0 a2
    have a0' : _ = 0 * 8 + (y 0).val := a0
    have a2' : _ = t.val * 512 + (y 2).val := a2
    rw [a0', a2', Nat.mul_comm t.val, Nat.zero_mul, Nat.zero_add]
    rfl
  exact hy

include hx ho in
/-- After `n + 1` points the gradient of the weights has the tokens of the first `n + 1` tiles. -/
theorem grad_upto (n : ℕ) (hn : n < cfg0.N) (i : S1024x1024.Idx) : (outsAt0 m c n hn).2.2 i
    = ∑ q ∈ range (n + 1), ∑ r ∈ range 512, nat2 o (i 0).val (512 * q + r) * nat2 x (512 * q + r) (i 1).val := by
  induction n with
  | zero =>
    let t : Fin cfg0.N := ⟨0, hn⟩
    rw [Nat.zero_add, sum_range_one]
    exact left5_A m c t (blk0 m c x hx t) (blk1 m c o ho t) rfl i
  | succ n ih =>
    let t : Fin cfg0.N := ⟨n + 1, hn⟩
    have h32 : n + 1 < 32 := lt_of_lt_of_eq hn N_0
    rw [sum_range_succ, ← ih (Nat.lt_of_succ_lt hn)]
    exact left5_B m c t (blk0 m c x hx t) (blk1 m c o ho t) (show ¬(n + 1) % 32 = 0 by omega) i

/-- Only the last point writes the gradient of the weights out. -/
theorem flush5 : ∀ t : Fin cfg0.N, (cfg0.win 5).flush t = true → t.val = 31 := (by decide +kernel : ∀ t : Fin grid0.N, _)

include hx ho in
/-- The gradient of the weights. -/
theorem final5 (A : (⟨S1024x1024, .f32⟩ : BufTy).Contents (Elt Ideal)) (hA : At2 A (fun i k => ∑ s ∈ range 16384, nat2 o i s * nat2 x s k)) :
    (dats m 0 c).arrAt 5 (cfgs 0).N = A := by
  refine (dats m 0 c).arrAt_eq_of_covers 5 A (by decide +kernel) fun t hf y => ?_
  have hy : (dats m 0 c).after 5 t y = A (((cfg0.win 5).blk t).view.emb y) := by
    rw [after0_5]
    refine (grad_upto m c x o hx ho t.val t.isLt y).trans (Eq.trans ?_ (hA _).symm)
    have e := (idx t).2.2.2.2.2
    have a0 : ((((cfg0.win 5).blk t).view.emb y) 0).val = win0_5.index t 0 * 1024 + (y 0).val := Pipeline.Window.rect_emb_val win0_5 t y 0 rfl
    have a1 : ((((cfg0.win 5).blk t).view.emb y) 1).val = win0_5.index t 1 * 1024 + (y 1).val := Pipeline.Window.rect_emb_val win0_5 t y 1 rfl
    rw [e] at a0 a1
    have a0' : _ = 0 * 1024 + (y 0).val := a0
    have a1' : _ = 0 * 1024 + (y 1).val := a1
    rw [a0', a1', Nat.zero_mul, Nat.zero_add, Nat.zero_add, flush5 t hf]
    exact (runs (fun s => nat2 o (y 0).val s * nat2 x s (y 1).val) 512 32).symm
  exact hy

end Cert.OutBwdValue
-- ==== Proof.OutBwdRef.lean ====
/-
  The gradient of the attention's output projection: the reference's three results, by their entries.
-/
module

public import proofs.«01_k».proof.Proof.OutBwdPoint
public import proofs.«01_k».proof.Proof.Gen.OutBwdRefIdeal.Read

@[expose] public section

set_option maxRecDepth 16384

noncomputable section

namespace Cert.OutBwdRef

open Cert.OutBwdRefIdeal Cert.OutBwdRefIdeal.Read Cert.OutBwdValue Cert.Ffn
open Idealize.ShloMosaic
open Finset

variable (x : (⟨S16384x1024, .f32⟩ : BufTy).Contents (Elt Ideal)) (o : (⟨S1024x16384, .f32⟩ : BufTy).Contents (Elt Ideal))
  (w : (⟨S1024x1024, .bf16⟩ : BufTy).Contents (Elt Ideal))

/-- The gradient of the heads' outputs. -/
theorem heads : At2 (val_main_v5 (F := Ideal) x w) (dheads (nat2 x) (nat2 w)) := fun i => by
  refine (val_main_v5_apply x w i).trans (Eq.trans ?_ (Finset.sum_range _).symm)
  exact Finset.sum_congr rfl fun k _ => congrArg₂ (fun u v : EReal => u * v) (nat2_val x (lidx_main_v5 i k)) (nat2_val w (ridx_main_v5 i k))

/-- The gradient of the weights: the sum over the tokens, transposed. -/
theorem weights : At2 (val_main_v4 (F := Ideal) x o) (fun i k => ∑ s ∈ range 16384, nat2 o i s * nat2 x s k) := fun i => by
  rw [val_main_v4_apply]
  refine (val_main_v3_apply x o _).trans (Eq.trans ?_ (Finset.sum_range _).symm)
  refine Finset.sum_congr rfl fun k _ => ?_
  rw [val_main_v0_apply]
  refine (congrArg₂ (fun u v : EReal => u * v) (nat2_val x (lidx_main_v3 (idx_main_v4 i) k)) (nat2_val o (idx_main_v0 (ridx_main_v3 (idx_main_v4 i) k)))).trans ?_
  exact mul_comm _ _

/-- The row sums of the gradient times the output, head by head. -/
theorem rowsums (i : S8x1x16384.Idx) : val_main_v13 (F := Ideal) x o w i = delta (nat2 x) (nat2 o) (nat2 w) (i 0).val (i 2).val := by
  have h0 : (i 0).val < 8 := (i 0).isLt
  have h1 : (i 1).val < 1 := (i 1).isLt
  have h2 : (i 2).val < 16384 := (i 2).isLt
  have em : (((i 0).val * 1 + (i 1).val) * 16384 + (i 2).val) % 16384 = (i 2).val := by omega
  have ed : (((i 0).val * 1 + (i 1).val) * 16384 + (i 2).val) / 16384 = (i 0).val := by omega
  rw [val_main_v13_apply]
  refine (val_main_v11_apply x o w _).trans ?_
  rw [show (val_main_cst (F := Ideal)) (Shape.Idx.first Gen.h_S_) = (0 : EReal) from Ideal.ofBits_zero_f32, zero_add]
  refine Eq.trans ?_ (Finset.sum_range _).symm
  refine Finset.sum_congr rfl fun k _ => ?_
  have hk : k.val < 128 := k.isLt
  rw [val_main_v10_apply, val_main_v7_apply, val_main_v6_apply, val_main_v9_apply, val_main_v8_apply, val_main_v0_apply]
  refine congrArg₂ (fun u v : EReal => u * v) ((heads x w _).trans ?_) ((nat2_val o _).trans (congrArg₂ (nat2 o) ?_ ?_))
  · refine Finset.sum_congr rfl fun j _ => (mul_comm _ _).trans (congrArg₂ (fun u v : EReal => u * v) (congrArg (fun n => nat2 w n j) ?_) (congrArg (fun n => nat2 x n j) ?_))
    · show (((((i 0).val * 1 + (i 1).val) * 16384 + (i 2).val) % 16384 * 8 + (((i 0).val * 1 + (i 1).val) * 16384 + (i 2).val) / 16384) * 128 + k.val) % 1024 = 128 * (i 0).val + k.val
      rw [em, ed]; omega
    · show (((((i 0).val * 1 + (i 1).val) * 16384 + (i 2).val) % 16384 * 8 + (((i 0).val * 1 + (i 1).val) * 16384 + (i 2).val) / 16384) * 128 + k.val) / 1024 = (i 2).val
      rw [em, ed]; omega
  · show (((((i 0).val * 1 + (i 1).val) * 16384 + (i 2).val) % 16384 * 8 + (((i 0).val * 1 + (i 1).val) * 16384 + (i 2).val) / 16384) * 128 + k.val) % 1024 = 128 * (i 0).val + k.val
    rw [em, ed]; omega
  · show (((((i 0).val * 1 + (i 1).val) * 16384 + (i 2).val) % 16384 * 8 + (((i 0).val * 1 + (i 1).val) * 16384 + (i 2).val) / 16384) * 128 + k.val) / 1024 = (i 2).val
    rw [em, ed]; omega

end Cert.OutBwdRef
-- ==== Proof.OutBwdAlgebraic.lean ====
/-
  The gradient of the attention's output projection: the kernel's three results are the reference's.
-/
module

public import proofs.«01_k».proof.Defs
public import proofs.«01_k».proof.Proof.OutBwdValue
public import proofs.«01_k».proof.Proof.OutBwdRef
public import proofs.«01_k».proof.Proof.Gen.OutBwdRefIdeal
public import proofs.«01_k».proof.Proof.Gen.OutBwdRefIdeal.Run
public import Idealize.ShloMosaic.Lib.Claim

@[expose] public section

set_option maxRecDepth 16384

noncomputable section

namespace Cert.OutBwdValue

open Idealize.ShloMosaic Idealize.ShloMosaic.TcCoe Idealize.SL.Sem
open Cert.OutBwdIdeal Cert.OutBwdIdeal.Gen Cert.OutBwdIdeal.Value

/-- A function of three at equal arguments. -/
theorem cong_three {A B C R : Type} (f : A → B → C → R) {a a' : A} {b b' : B} {c c' : C} (ha : a = a') (hb : b = b') (hc : c = c') :
    f a b c = f a' b' c' := by rw [ha, hb, hc]

/-- The kernel computes the reference's gradient of the heads' outputs, its row sums and the gradient of the weights. -/
theorem algebraic : Cert.algebraic_OutBwdIdeal_OutBwdRefIdeal := by
  pair_intro
  · run_from Cert.OutBwdIdeal.Value.run_blocks m g
  · refine (θ_run Cert.OutBwdRefIdeal.defs _ _).mono (fun r h c => ?_) (Cert.OutBwdRefIdeal.Value.run (F := Ideal) m' g')
    have ha := hagree c
    have hc := h c
    refine ⟨(hc.1.trans (Cert.OutBwdRefIdeal.Read.val_main_v12_eq _ _)).trans (Eq.trans ?_
        (final3 m c _ _ rfl rfl _ (Cert.OutBwdRef.heads _ _)).symm),
      (hc.2.1.trans (Cert.OutBwdRefIdeal.Read.val_main_v13_eq _ _ _)).trans (Eq.trans ?_
        (final4 m c _ _ _ rfl rfl rfl _ (Cert.OutBwdRef.rowsums _ _ _)).symm),
      (hc.2.2.1.trans (Cert.OutBwdRefIdeal.Read.val_main_v4_eq _ _)).trans (Eq.trans ?_
        (final5 m c _ _ rfl rfl _ (Cert.OutBwdRef.weights _ _)).symm), hc.2.2.2⟩
    · exact congrArg₂ (Cert.OutBwdRefIdeal.Read.val_main_v5 (F := Ideal)) ha.1 ha.2.2
    · exact cong_three (Cert.OutBwdRefIdeal.Read.val_main_v13 (F := Ideal)) ha.1 ha.2.1 ha.2.2
    · exact congrArg₂ (Cert.OutBwdRefIdeal.Read.val_main_v4 (F := Ideal)) ha.1 ha.2.1

end Cert.OutBwdValue
-- ==== Proof.OutFwdFrames.lean ====
/-
  The attention's output projection, forward: the program in machine arithmetic and its idealized twin are the same text, so what is proved of one holds of
  the other, and both end with their arguments unchanged and their counters at zero.
-/
module

public import proofs.«01_k».proof.Defs
public import proofs.«01_k».proof.Proof.Gen.OutFwd
public import proofs.«01_k».proof.Proof.Gen.OutFwdIdeal.Frame
public import proofs.«01_k».proof.Proof.Gen.OutFwdRefIdeal
public import proofs.«01_k».proof.Proof.Gen.OutFwdRefIdeal.Run
public import Idealize.ShloMosaic.Lib.Claim
public import Idealize.ShloMosaic.Lib.Quiescent

@[expose] public section

set_option maxRecDepth 16384

noncomputable section

namespace Cert.OutFwdFrames

open Idealize.ShloMosaic Idealize.SL.Sem

/-- The two kernel bodies. -/
theorem body_eq : @Cert.OutFwd.cc0_mla_out_fwd Bits _ _ = @Cert.OutFwdIdeal.cc0_mla_out_fwd Bits _ _ := rfl

/-- The two tables of kernel bodies. -/
theorem bodies_eq : @Cert.OutFwd.defs₀ Bits _ _ = @Cert.OutFwdIdeal.defs₀ Bits _ _ := by
  refine congrArg Defs.onTc ?_
  funext l x
  match l, x with
  | 0, (t, s) => rfl
  | ⟨n + 1, h⟩, _ => omega

/-- The two tables with the pipelines' own bodies. -/
theorem defs_eq : @Cert.OutFwd.defs Bits _ _ = @Cert.OutFwdIdeal.defs Bits _ _ :=
  congrArg (Pipeline.defs Cert.OutFwdIdeal.pcfgs) bodies_eq

/-- The two programs around the call. -/
theorem main_eq : (Cert.OutFwd.main (F := Bits)) = Cert.OutFwdIdeal.main (F := Bits) := rfl

/-- The kernel, in machine arithmetic. -/
theorem quiet_kernel : Cert.quiescent_OutFwd := fun m ρ _ => by
  rw [defs_eq, main_eq]
  exact Cert.OutFwdIdeal.Gen.frame (F := Bits) m ρ

/-- The kernel, in exact arithmetic. -/
theorem quiet_ideal : Cert.quiescent_OutFwdIdeal := fun m ρ _ => Cert.OutFwdIdeal.Gen.frame (F := Ideal) m ρ

/-- The reference: it declares no counter, so every one is zero. -/
theorem quiet_reference : Cert.quiescent_OutFwdRefIdeal := fun m ρ _ =>
  (θ_run Cert.OutFwdRefIdeal.defs _ _).mono
    (fun r h => ⟨fun c => (h c).2, sem_eq_zero_of_no_sems (by decide) r.2⟩)
    (Cert.OutFwdRefIdeal.Value.run (F := Ideal) m ρ)

end Cert.OutFwdFrames
-- ==== Proof.OutFwdValue.lean ====
/-
  The attention's output projection: the array the kernel leaves is the input plus the product of the heads' outputs and the weights.
-/
module

public import proofs.«01_k».proof.Proof.FfnMath
public import proofs.«01_k».proof.Proof.Gen.OutFwdIdeal.Value
public import proofs.«01_k».proof.Proof.Gen.OutFwdRefIdeal.Read
public import Idealize.ShloMosaic.Lib.Pipeline.ValueKit

@[expose] public section

set_option maxRecDepth 16384

noncomputable section

namespace Cert.OutFwdValue

open Cert.OutFwdIdeal Cert.OutFwdIdeal.Gen Cert.Ffn
open Idealize.ShloMosaic Idealize.ShloMosaic.TcCoe Idealize.SL.Sem
open Idealize.ShloMosaic.Pipeline (Dat)
open Finset

/-! ## One point -/

/-- The product the kernel takes: over the rows of both operands. -/
theorem dot {φ₁ φ₂ : FTy} (x : FVec Ideal S1024x512 φ₁) (y : FVec Ideal S1024x1024 φ₂) (f g : ℕ → ℕ → EReal) (hx : At2 x f) (hy : At2 y g) :
    At2 (matmul dot_S1024x512_S1024x1024_S512x1024_0_0_1_1_n_n none x y (constant (F := Ideal) S512x1024 .f32 0x00000000#32))
      (fun i k => ∑ j ∈ range 1024, f j i * g j k) := fun i =>
  dot_at dot_S1024x512_S1024x1024_S512x1024_0_0_1_1_n_n 1024 rfl rfl x y i (fun j => f j (i 0).val) (fun j => g j (i 1).val)
    (fun k => (hx _).trans (by
      have ec := (dot_S1024x512_S1024x1024_S512x1024_0_0_1_1_n_n.lhsIdx_val_of_single rfl i
        ((ValueIdx.contrEquiv1 dot_S1024x512_S1024x1024_S512x1024_0_0_1_1_n_n 1024 rfl rfl).symm k)).trans (ValueIdx.contrEquiv1_symm_val dot_S1024x512_S1024x1024_S512x1024_0_0_1_1_n_n 1024 rfl rfl k)
      have en : ∀ q, (dot_S1024x512_S1024x1024_S512x1024_0_0_1_1_n_n.lhsIdx i q 1).val = (i 0).val := fun q => by
        unfold DotDims.lhsIdx
        rw [dif_neg (show ¬(1 : Fin S1024x512.rank) ∈ dot_S1024x512_S1024x1024_S512x1024_0_0_1_1_n_n.lhsBatch by decide),
          dif_pos (show (1 : Fin S1024x512.rank) ∈ dot_S1024x512_S1024x1024_S512x1024_0_0_1_1_n_n.lhsNonContracting by decide)]
        rfl
      rw [en, ec]))
    (fun k => (hy _).trans (by
      have ec := (dot_S1024x512_S1024x1024_S512x1024_0_0_1_1_n_n.rhsIdx_val_of_single rfl i
        ((ValueIdx.contrEquiv1 dot_S1024x512_S1024x1024_S512x1024_0_0_1_1_n_n 1024 rfl rfl).symm k)).trans (ValueIdx.contrEquiv1_symm_val dot_S1024x512_S1024x1024_S512x1024_0_0_1_1_n_n 1024 rfl rfl k)
      have en : ∀ q, (dot_S1024x512_S1024x1024_S512x1024_0_0_1_1_n_n.rhsIdx i q 1).val = (i 1).val := fun q => by
        unfold DotDims.rhsIdx
        rw [dif_neg (show ¬(1 : Fin S1024x1024.rank) ∈ dot_S1024x512_S1024x1024_S512x1024_0_0_1_1_n_n.rhsBatch by decide),
          dif_pos (show (1 : Fin S1024x1024.rank) ∈ dot_S1024x512_S1024x1024_S512x1024_0_0_1_1_n_n.rhsNonContracting by decide)]
        rfl
      rw [en, ec]))

/-- The projected output: the input plus the product. -/
def projected (X O W : ℕ → ℕ → EReal) (r d : ℕ) : EReal := X r d + ∑ j ∈ range 1024, O j r * W j d

/-- A load of a whole tile of the input. -/
theorem ld0 {x : Vec Ideal S512x1024 .f32} {f : ℕ → ℕ → EReal} (hx : At2 x f) : At2 (View.ld x r0_0) f := fun i =>
  (hx _).trans (congrArg₂ f (show 0 + 1 * (i 0).val = (i 0).val by omega) (show 0 + 1 * (i 1).val = (i 1).val by omega))

/-- A load of a whole tile of the heads' outputs. -/
theorem ld1 {x : Vec Ideal S1024x512 .f32} {f : ℕ → ℕ → EReal} (hx : At2 x f) : At2 (View.ld x r0_1) f := fun i =>
  (hx _).trans (congrArg₂ f (show 0 + 1 * (i 0).val = (i 0).val by omega) (show 0 + 1 * (i 1).val = (i 1).val by omega))

/-- A load of the weights. -/
theorem ld2 {x : Vec Ideal S1024x1024 .bf16} {f : ℕ → ℕ → EReal} (hx : At2 x f) : At2 (View.ld x r0_2) f := fun i =>
  (hx _).trans (congrArg₂ f (show 0 + 1 * (i 0).val = (i 0).val by omega) (show 0 + 1 * (i 1).val = (i 1).val by omega))

/-- A tile with the entries `f`. -/
def tile (f : ℕ → ℕ → EReal) : Vec Ideal S512x1024 .f32 := fun y => f (y 0).val (y 1).val

/-- One whole store leaves what it stores. -/
theorem whole (p : Vec Ideal S512x1024 .f32) (f : ℕ → ℕ → EReal) (hp : At2 p f) (y : S512x1024.Idx) : View.canon [⟨r0_0, p⟩] y = tile f y := by
  refine View.canon_apply_of_pieces (tile f) _ ?_ y (cover0_3 p y)
  intro pc hpc
  rcases List.mem_cons.mp hpc with rfl | hpc
  · exact fun x => (hp x).trans (congrArg₂ f (show (x 0).val = 0 + 1 * (x 0).val by omega) (show (x 1).val = 0 + 1 * (x 1).val by omega))
  nomatch hpc

/-- What a point leaves: its tile of the projected output. -/
theorem left3 {x0 : Vec Ideal S512x1024 .f32} {x1 : Vec Ideal S1024x512 .f32} {x2 : Vec Ideal S1024x1024 .bf16} {X O W : ℕ → ℕ → EReal}
    (h0 : At2 x0 X) (h1 : At2 x1 O) (h2 : At2 x2 W) (y) : out0_3 (F := Ideal) x0 x1 x2 y = tile (projected X O W) y := by
  unfold out0_3
  exact whole _ (projected X O W) (fun i => congrArg₂ (fun u v : EReal => u + v) (ld0 h0 i) (dot _ _ O W (ld1 h1) (ld2 h2) i)) y

/-! ## The blocks -/

variable (m : (ℓ : Loc nD τ sig) → Buf (Elt Ideal) ℓ)

/-- The index maps: the tile of tokens, and the whole of the weights. -/
theorem idx : ∀ t : Fin cfg0.N, win0_0.index t = ![t.val, 0] ∧ win0_1.index t = ![0, t.val] ∧ win0_2.index t = ![0, 0] ∧ win0_3.index t = ![t.val, 0] :=
  (by decide +kernel : ∀ t : Fin grid0.N, _)

/-- A block of window 0 is read from its array. -/
theorem read0 {c : Dev nD} (W : (b : Ref sig .tc) → Buf (Elt Ideal) ((c : Thread nD τ).loc b)) (t : Fin cfg0.N) (y) :
    ((cfg0.win 0).blk t).view.read (Elt Ideal) (W (Pipeline.arrRef spec0 0)) y = W main_arg0 (((cfg0.win 0).blk t).view.emb y) := rfl

/-- A block of window 1 is read from its array. -/
theorem read1 {c : Dev nD} (W : (b : Ref sig .tc) → Buf (Elt Ideal) ((c : Thread nD τ).loc b)) (t : Fin cfg0.N) (y) :
    ((cfg0.win 1).blk t).view.read (Elt Ideal) (W (Pipeline.arrRef spec0 1)) y = W main_arg1 (((cfg0.win 1).blk t).view.emb y) := rfl

/-- A block of window 2 is read from its array. -/
theorem read2 {c : Dev nD} (W : (b : Ref sig .tc) → Buf (Elt Ideal) ((c : Thread nD τ).loc b)) (t : Fin cfg0.N) (y) :
    ((cfg0.win 2).blk t).view.read (Elt Ideal) (W (Pipeline.arrRef spec0 2)) y = W main_arg2 (((cfg0.win 2).blk t).view.emb y) := rfl

/-- The tile of the input. -/
theorem blk0 (c : Dev nD) (X) (hX : m ((c : Thread nD τ).loc main_arg0) = X) (t : Fin cfg0.N) :
    At2 (iblk m c 0 t) (fun r d => nat2 X (512 * t.val + r) d) := fun y => by
  refine ((read0 (V m c) t y).trans (congrFun ((V_main_arg0 m c).trans hX) _)).trans ((nat2_val X _).trans ?_)
  have e := (idx t).1
  have a0 : ((((cfg0.win 0).blk t).view.emb y) 0).val = win0_0.index t 0 * 512 + (y 0).val := Pipeline.Window.rect_emb_val win0_0 t y 0 rfl
  have a1 : ((((cfg0.win 0).blk t).view.emb y) 1).val = win0_0.index t 1 * 1024 + (y 1).val := Pipeline.Window.rect_emb_val win0_0 t y 1 rfl
  rw [e] at a0 a1
  have a0' : _ = t.val * 512 + (y 0).val := a0
  have a1' : _ = 0 * 1024 + (y 1).val := a1
  exact congrArg₂ (nat2 X) (a0'.trans (by rw [Nat.mul_comm])) (a1'.trans (by omega))

/-- The tile of the heads' outputs. -/
theorem blk1 (c : Dev nD) (X) (hX : m ((c : Thread nD τ).loc main_arg1) = X) (t : Fin cfg0.N) :
    At2 (iblk m c 1 t) (fun d r => nat2 X d (512 * t.val + r)) := fun y => by
  refine ((read1 (V m c) t y).trans (congrFun ((V_main_arg1 m c).trans hX) _)).trans ((nat2_val X _).trans ?_)
  have e := (idx t).2.1
  have a0 : ((((cfg0.win 1).blk t).view.emb y) 0).val = win0_1.index t 0 * 1024 + (y 0).val := Pipeline.Window.rect_emb_val win0_1 t y 0 rfl
  have a1 : ((((cfg0.win 1).blk t).view.emb y) 1).val = win0_1.index t 1 * 512 + (y 1).val := Pipeline.Window.rect_emb_val win0_1 t y 1 rfl
  rw [e] at a0 a1
  have a0' : _ = 0 * 1024 + (y 0).val := a0
  have a1' : _ = t.val * 512 + (y 1).val := a1
  exact congrArg₂ (nat2 X) (a0'.trans (by omega)) (a1'.trans (by rw [Nat.mul_comm]))

/-- The weights. -/
theorem blk2 (c : Dev nD) (X) (hX : m ((c : Thread nD τ).loc main_arg2) = X) (t : Fin cfg0.N) :
    At2 (iblk m c 2 t) (nat2 X) := fun y => by
  refine ((read2 (V m c) t y).trans (congrFun ((V_main_arg2 m c).trans hX) _)).trans ((nat2_val X _).trans ?_)
  have e := (idx t).2.2.1
  have a0 : ((((cfg0.win 2).blk t).view.emb y) 0).val = win0_2.index t 0 * 1024 + (y 0).val := Pipeline.Window.rect_emb_val win0_2 t y 0 rfl
  have a1 : ((((cfg0.win 2).blk t).view.emb y) 1).val = win0_2.index t 1 * 1024 + (y 1).val := Pipeline.Window.rect_emb_val win0_2 t y 1 rfl
  rw [e] at a0 a1
  have a0' : _ = 0 * 1024 + (y 0).val := a0
  have a1' : _ = 0 * 1024 + (y 1).val := a1
  exact congrArg₂ (nat2 X) (a0'.trans (by omega)) (a1'.trans (by omega))

/-! ## The array -/

/-- The projected output. -/
theorem final3 (c : Dev nD) (x o w) (hx : m ((c : Thread nD τ).loc main_arg0) = x) (ho : m ((c : Thread nD τ).loc main_arg1) = o)
    (hw : m ((c : Thread nD τ).loc main_arg2) = w) (A : (⟨S16384x1024, .f32⟩ : BufTy).Contents (Elt Ideal)) (hA : At2 A (projected (nat2 x) (nat2 o) (nat2 w))) :
    (dats m 0 c).arrAt 3 (cfgs 0).N = A := by
  refine (dats m 0 c).arrAt_eq_of_covers 3 A (by decide +kernel) fun t hf y => ?_
  have hy : (dats m 0 c).after 3 t y = A (((cfg0.win 3).blk t).view.emb y) := by
    rw [after0_3]
    refine (left3 (blk0 m c x hx t) (blk1 m c o ho t) (blk2 m c w hw t) y).trans (Eq.trans ?_ (hA _).symm)
    have e := (idx t).2.2.2
    have a0 : ((((cfg0.win 3).blk t).view.emb y) 0).val = win0_3.index t 0 * 512 + (y 0).val := Pipeline.Window.rect_emb_val win0_3 t y 0 rfl
    have a1 : ((((cfg0.win 3).blk t).view.emb y) 1).val = win0_3.index t 1 * 1024 + (y 1).val := Pipeline.Window.rect_emb_val win0_3 t y 1 rfl
    rw [e] at a0 a1
    have a0' : _ = t.val * 512 + (y 0).val := a0
    have a1' : _ = 0 * 1024 + (y 1).val := a1
    rw [a0', a1', Nat.mul_comm, Nat.zero_mul, Nat.zero_add]
    rfl
  exact hy

/-- The reference's output has the same entries. -/
theorem reference (x : (⟨S16384x1024, .f32⟩ : BufTy).Contents (Elt Ideal)) (o : (⟨S1024x16384, .f32⟩ : BufTy).Contents (Elt Ideal))
    (w : (⟨S1024x1024, .bf16⟩ : BufTy).Contents (Elt Ideal)) :
    At2 (Cert.OutFwdRefIdeal.Read.val_main_v3 (F := Ideal) x o w) (projected (nat2 x) (nat2 o) (nat2 w)) := fun i => by
  refine congrArg₂ (fun u v : EReal => u + v) (nat2_val x i) ?_
  refine (Cert.OutFwdRefIdeal.Read.val_main_v2_apply o w i).trans (Eq.trans ?_ (Finset.sum_range _).symm)
  refine Finset.sum_congr rfl fun k _ => ?_
  rw [Cert.OutFwdRefIdeal.Read.val_main_v0_apply]
  exact congrArg₂ (fun u v : EReal => u * v) (nat2_val o (Cert.OutFwdRefIdeal.Read.idx_main_v0 (Cert.OutFwdRefIdeal.Read.lidx_main_v2 i k)))
    (nat2_val w (Cert.OutFwdRefIdeal.Read.ridx_main_v2 i k))

end Cert.OutFwdValue
-- ==== Proof.OutFwdAlgebraic.lean ====
/-
  The attention's output projection: the kernel's result is the reference's.
-/
module

public import proofs.«01_k».proof.Defs
public import proofs.«01_k».proof.Proof.OutFwdValue
public import proofs.«01_k».proof.Proof.Gen.OutFwdRefIdeal
public import proofs.«01_k».proof.Proof.Gen.OutFwdRefIdeal.Run
public import Idealize.ShloMosaic.Lib.Claim

@[expose] public section

set_option maxRecDepth 16384

noncomputable section

namespace Cert.OutFwdValue

open Idealize.ShloMosaic Idealize.ShloMosaic.TcCoe Idealize.SL.Sem
open Cert.OutFwdIdeal Cert.OutFwdIdeal.Gen Cert.OutFwdIdeal.Value

/-- A function of three at equal arguments. -/
theorem cong_three {A B C R : Type} (f : A → B → C → R) {a a' : A} {b b' : B} {c c' : C} (ha : a = a') (hb : b = b') (hc : c = c') :
    f a b c = f a' b' c' := by rw [ha, hb, hc]

/-- The kernel computes the reference's projected output. -/
theorem algebraic : Cert.algebraic_OutFwdIdeal_OutFwdRefIdeal := by
  pair_intro
  · run_from Cert.OutFwdIdeal.Value.run_blocks m g
  · refine (θ_run Cert.OutFwdRefIdeal.defs _ _).mono (fun r h c => ?_) (Cert.OutFwdRefIdeal.Value.run (F := Ideal) m' g')
    have ha := hagree c
    have hc := h c
    refine ⟨(hc.1.trans (Cert.OutFwdRefIdeal.Read.val_main_v3_eq _ _ _)).trans (Eq.trans ?_
        (final3 m c _ _ _ rfl rfl rfl _ (reference _ _ _)).symm), hc.2⟩
    exact cong_three (Cert.OutFwdRefIdeal.Read.val_main_v3 (F := Ideal)) ha.1 ha.2.1 ha.2.2

end Cert.OutFwdValue
-- ==== Proof.lean ====
/-
  The proof of the certificate.
-/
module

public import proofs.«01_k».proof.Defs
public import proofs.«01_k».proof.Proof.Frames
public import proofs.«01_k».proof.Proof.Algebraic
public import proofs.«01_k».proof.Proof.FfnFwdFrames
public import proofs.«01_k».proof.Proof.FfnFwdAlgebraic
public import proofs.«01_k».proof.Proof.FfnWgradFrames
public import proofs.«01_k».proof.Proof.FfnWgradAlgebraic
public import proofs.«01_k».proof.Proof.FfnDgradFrames
public import proofs.«01_k».proof.Proof.FfnDgradAlgebraic
public import proofs.«01_k».proof.Proof.AttnFwdFrames
public import proofs.«01_k».proof.Proof.AttnFwdAlgebraic
public import proofs.«01_k».proof.Proof.OutBwdFrames
public import proofs.«01_k».proof.Proof.OutBwdAlgebraic
public import proofs.«01_k».proof.Proof.OutFwdFrames
public import proofs.«01_k».proof.Proof.OutFwdAlgebraic
public import proofs.«01_k».proof.Proof.Gen.KernelIdeal
public import proofs.«01_k».proof.Proof.Gen.Pre_finite

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.FfnFwd.Gen.facts, Cert.FfnFwdIdeal.Gen.facts, Cert.FfnFwdRefIdeal.Gen.facts,
    Cert.FfnWgrad.Gen.facts, Cert.FfnWgradIdeal.Gen.facts, Cert.FfnWgradRefIdeal.Gen.facts,
    Cert.FfnDgrad.Gen.facts, Cert.FfnDgradIdeal.Gen.facts, Cert.FfnDgradRefIdeal.Gen.facts,
    Cert.AttnFwd.Gen.facts, Cert.AttnFwdIdeal.Gen.facts, Cert.AttnFwdRefIdeal.Gen.facts,
    Cert.OutBwd.Gen.facts, Cert.OutBwdIdeal.Gen.facts, Cert.OutBwdRefIdeal.Gen.facts,
    Cert.OutFwd.Gen.facts, Cert.OutFwdIdeal.Gen.facts, Cert.OutFwdRefIdeal.Gen.facts,
    Cert.Pre_finite.Gen.facts, Cert.Pre_finite_ffn.Gen.facts, Cert.Pre_finite_qk.Gen.facts,
    quiet_kernel, quiet_ideal, quiet_ideal_finite, quiet_reference, quiet_reference_finite,
    Cert.FfnFwdFrames.quiet_kernel, Cert.FfnFwdFrames.quiet_ideal, Cert.FfnFwdFrames.quiet_reference,
    Cert.FfnWgradFrames.quiet_kernel, Cert.FfnWgradFrames.quiet_ideal, Cert.FfnWgradFrames.quiet_reference,
    Cert.FfnDgradFrames.quiet_kernel, Cert.FfnDgradFrames.quiet_ideal, Cert.FfnDgradFrames.quiet_ideal_finite, Cert.FfnDgradFrames.quiet_reference,
    Cert.FfnDgradFrames.quiet_reference_finite,
    Cert.AttnFwdFrames.quiet_kernel, Cert.AttnFwdFrames.quiet_ideal, Cert.AttnFwdFrames.quiet_ideal_finite, Cert.AttnFwdFrames.quiet_reference,
    Cert.AttnFwdFrames.quiet_reference_finite,
    Cert.OutBwdFrames.quiet_kernel, Cert.OutBwdFrames.quiet_ideal, Cert.OutBwdFrames.quiet_reference,
    Cert.OutFwdFrames.quiet_kernel, Cert.OutFwdFrames.quiet_ideal, Cert.OutFwdFrames.quiet_reference,
    trivial, algebraic, trivial, Cert.FfnFwdValue.algebraic, trivial, Cert.FfnWgradValue.algebraic, trivial, Cert.FfnDgradValue.algebraic,
    trivial, Cert.AttnFwdProof.algebraic, trivial, Cert.OutBwdValue.algebraic, trivial, Cert.OutFwdValue.algebraic⟩

end Cert.Proof
